-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_PrepW (m : (ℓ : Loc Cert.PrepW.nD Cert.PrepW.τ Cert.PrepW.sig) → Buf (Elt Bits) ℓ) : Prop :=
  True

def Pre_PrepWIdeal (m : (ℓ : Loc Cert.PrepWIdeal.nD Cert.PrepWIdeal.τ Cert.PrepWIdeal.sig) → Buf (Elt Ideal) ℓ) : Prop :=
  True

def Pre_PrepWRefIdeal (m : (ℓ : Loc Cert.PrepWRefIdeal.nD Cert.PrepWRefIdeal.τ Cert.PrepWRefIdeal.sig) → Buf (Elt Ideal) ℓ) : Prop :=
  True

def Pre_PrepWRef (m : (ℓ : Loc Cert.PrepWRef.nD Cert.PrepWRef.τ Cert.PrepWRef.sig) → Buf (Elt Bits) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProj1 (m : (ℓ : Loc Cert.OutProj1.nD Cert.OutProj1.τ Cert.OutProj1.sig) → Buf (Elt Bits) ℓ) : Prop :=
  True

def Pre_OutProj1Ideal (m : (ℓ : Loc Cert.OutProj1Ideal.nD Cert.OutProj1Ideal.τ Cert.OutProj1Ideal.sig) → Buf (Elt Ideal) ℓ) : Prop :=
  True

def Pre_OutProj1RefIdeal (m : (ℓ : Loc Cert.OutProj1RefIdeal.nD Cert.OutProj1RefIdeal.τ Cert.OutProj1RefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnUp1 (m : (ℓ : Loc Cert.FfnUp1.nD Cert.FfnUp1.τ Cert.FfnUp1.sig) → Buf (Elt Bits) ℓ) : Prop :=
  True

def Pre_FfnUp1Ideal (m : (ℓ : Loc Cert.FfnUp1Ideal.nD Cert.FfnUp1Ideal.τ Cert.FfnUp1Ideal.sig) → Buf (Elt Ideal) ℓ) : Prop :=
  True

def Pre_FfnUp1RefIdeal (m : (ℓ : Loc Cert.FfnUp1RefIdeal.nD Cert.FfnUp1RefIdeal.τ Cert.FfnUp1RefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_RowNorm (m : (ℓ : Loc Cert.RowNorm.nD Cert.RowNorm.τ Cert.RowNorm.sig) → Buf (Elt Bits) ℓ) : Prop :=
  True

def Pre_RowNormIdeal (m : (ℓ : Loc Cert.RowNormIdeal.nD Cert.RowNormIdeal.τ Cert.RowNormIdeal.sig) → Buf (Elt Ideal) ℓ) : Prop :=
  True

def Pre_RowNormRefIdeal (m : (ℓ : Loc Cert.RowNormRefIdeal.nD Cert.RowNormRefIdeal.τ Cert.RowNormRefIdeal.sig) → Buf (Elt Ideal) ℓ) : Prop :=
  True

def Pre_NormGates (m : (ℓ : Loc Cert.NormGates.nD Cert.NormGates.τ Cert.NormGates.sig) → Buf (Elt Bits) ℓ) : Prop :=
  True

def Pre_NormGatesIdeal (m : (ℓ : Loc Cert.NormGatesIdeal.nD Cert.NormGatesIdeal.τ Cert.NormGatesIdeal.sig) → Buf (Elt Ideal) ℓ) : Prop :=
  True

def Pre_NormGatesRefIdeal (m : (ℓ : Loc Cert.NormGatesRefIdeal.nD Cert.NormGatesRefIdeal.τ Cert.NormGatesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_PrepW [hPrepW : Cert.PrepW.Facts] : Prop :=
  ∀ (m : (ℓ : Loc Cert.PrepW.nD Cert.PrepW.τ Cert.PrepW.sig) → Buf (Elt Bits) ℓ) (g : Dev Cert.PrepW.nD → PrngReg), Pre_PrepW m →
    θ_run (Cert.PrepW.defs (F := Bits)) (onTc (τ := Cert.PrepW.τ) (Cert.PrepW.main (F := Bits))) ⟨m, fun _ => 0, g⟩ (fun r => (∀ c : Dev Cert.PrepW.nD,
      r.2.mem ((c.tc : Thread Cert.PrepW.nD Cert.PrepW.τ).loc Cert.PrepW.main_arg0) = m ((c.tc : Thread Cert.PrepW.nD Cert.PrepW.τ).loc Cert.PrepW.main_arg0))
      ∧ r.2.sem = fun _ => 0)

def quiescent_PrepWIdeal [hPrepWIdeal : Cert.PrepWIdeal.Facts] : Prop :=
  ∀ (m : (ℓ : Loc Cert.PrepWIdeal.nD Cert.PrepWIdeal.τ Cert.PrepWIdeal.sig) → Buf (Elt Ideal) ℓ) (g : Dev Cert.PrepWIdeal.nD → PrngReg), Pre_PrepWIdeal m →
    θ_run (Cert.PrepWIdeal.defs (F := Ideal)) (onTc (τ := Cert.PrepWIdeal.τ) (Cert.PrepWIdeal.main (F := Ideal))) ⟨m, fun _ => 0, g⟩ (fun r => (∀ c : Dev Cert.PrepWIdeal.nD,
      r.2.mem ((c.tc : Thread Cert.PrepWIdeal.nD Cert.PrepWIdeal.τ).loc Cert.PrepWIdeal.main_arg0) = m ((c.tc : Thread Cert.PrepWIdeal.nD Cert.PrepWIdeal.τ).loc Cert.PrepWIdeal.main_arg0))
      ∧ r.2.sem = fun _ => 0)

def quiescent_PrepWRefIdeal [hPrepWRefIdeal : Cert.PrepWRefIdeal.Facts] : Prop :=
  ∀ (m : (ℓ : Loc Cert.PrepWRefIdeal.nD Cert.PrepWRefIdeal.τ Cert.PrepWRefIdeal.sig) → Buf (Elt Ideal) ℓ) (g : Dev Cert.PrepWRefIdeal.nD → PrngReg), Pre_PrepWRefIdeal m →
    θ_run (Cert.PrepWRefIdeal.defs (F := Ideal)) (onTc (τ := Cert.PrepWRefIdeal.τ) (Cert.PrepWRefIdeal.main (F := Ideal))) ⟨m, fun _ => 0, g⟩ (fun r => (∀ c : Dev Cert.PrepWRefIdeal.nD,
      r.2.mem ((c.tc : Thread Cert.PrepWRefIdeal.nD Cert.PrepWRefIdeal.τ).loc Cert.PrepWRefIdeal.main_arg0) = m ((c.tc : Thread Cert.PrepWRefIdeal.nD Cert.PrepWRefIdeal.τ).loc Cert.PrepWRefIdeal.main_arg0))
      ∧ r.2.sem = fun _ => 0)

def quiescent_PrepWRef [hPrepWRef : Cert.PrepWRef.Facts] : Prop :=
  ∀ (m : (ℓ : Loc Cert.PrepWRef.nD Cert.PrepWRef.τ Cert.PrepWRef.sig) → Buf (Elt Bits) ℓ) (g : Dev Cert.PrepWRef.nD → PrngReg), Pre_PrepWRef m →
    θ_run (Cert.PrepWRef.defs (F := Bits)) (onTc (τ := Cert.PrepWRef.τ) (Cert.PrepWRef.main (F := Bits))) ⟨m, fun _ => 0, g⟩ (fun r => (∀ c : Dev Cert.PrepWRef.nD,
      r.2.mem ((c.tc : Thread Cert.PrepWRef.nD Cert.PrepWRef.τ).loc Cert.PrepWRef.main_arg0) = m ((c.tc : Thread Cert.PrepWRef.nD Cert.PrepWRef.τ).loc Cert.PrepWRef.main_arg0))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_OutProj1 [hOutProj1 : Cert.OutProj1.Facts] : Prop :=
  ∀ (m : (ℓ : Loc Cert.OutProj1.nD Cert.OutProj1.τ Cert.OutProj1.sig) → Buf (Elt Bits) ℓ) (g : Dev Cert.OutProj1.nD → PrngReg), Pre_OutProj1 m →
    θ_run (Cert.OutProj1.defs (F := Bits)) (onTc (τ := Cert.OutProj1.τ) (Cert.OutProj1.main (F := Bits))) ⟨m, fun _ => 0, g⟩ (fun r => (∀ c : Dev Cert.OutProj1.nD,
      r.2.mem ((c.tc : Thread Cert.OutProj1.nD Cert.OutProj1.τ).loc Cert.OutProj1.main_arg0) = m ((c.tc : Thread Cert.OutProj1.nD Cert.OutProj1.τ).loc Cert.OutProj1.main_arg0)
      ∧ r.2.mem ((c.tc : Thread Cert.OutProj1.nD Cert.OutProj1.τ).loc Cert.OutProj1.main_arg1) = m ((c.tc : Thread Cert.OutProj1.nD Cert.OutProj1.τ).loc Cert.OutProj1.main_arg1)
      ∧ r.2.mem ((c.tc : Thread Cert.OutProj1.nD Cert.OutProj1.τ).loc Cert.OutProj1.main_arg2) = m ((c.tc : Thread Cert.OutProj1.nD Cert.OutProj1.τ).loc Cert.OutProj1.main_arg2)
      ∧ r.2.mem ((c.tc : Thread Cert.OutProj1.nD Cert.OutProj1.τ).loc Cert.OutProj1.main_arg3) = m ((c.tc : Thread Cert.OutProj1.nD Cert.OutProj1.τ).loc Cert.OutProj1.main_arg3)
      ∧ r.2.mem ((c.tc : Thread Cert.OutProj1.nD Cert.OutProj1.τ).loc Cert.OutProj1.main_arg4) = m ((c.tc : Thread Cert.OutProj1.nD Cert.OutProj1.τ).loc Cert.OutProj1.main_arg4))
      ∧ r.2.sem = fun _ => 0)

def quiescent_OutProj1Ideal [hOutProj1Ideal : Cert.OutProj1Ideal.Facts] : Prop :=
  ∀ (m : (ℓ : Loc Cert.OutProj1Ideal.nD Cert.OutProj1Ideal.τ Cert.OutProj1Ideal.sig) → Buf (Elt Ideal) ℓ) (g : Dev Cert.OutProj1Ideal.nD → PrngReg), Pre_OutProj1Ideal m →
    θ_run (Cert.OutProj1Ideal.defs (F := Ideal)) (onTc (τ := Cert.OutProj1Ideal.τ) (Cert.OutProj1Ideal.main (F := Ideal))) ⟨m, fun _ => 0, g⟩ (fun r => (∀ c : Dev Cert.OutProj1Ideal.nD,
      r.2.mem ((c.tc : Thread Cert.OutProj1Ideal.nD Cert.OutProj1Ideal.τ).loc Cert.OutProj1Ideal.main_arg0) = m ((c.tc : Thread Cert.OutProj1Ideal.nD Cert.OutProj1Ideal.τ).loc Cert.OutProj1Ideal.main_arg0)
      ∧ r.2.mem ((c.tc : Thread Cert.OutProj1Ideal.nD Cert.OutProj1Ideal.τ).loc Cert.OutProj1Ideal.main_arg1) = m ((c.tc : Thread Cert.OutProj1Ideal.nD Cert.OutProj1Ideal.τ).loc Cert.OutProj1Ideal.main_arg1)
      ∧ r.2.mem ((c.tc : Thread Cert.OutProj1Ideal.nD Cert.OutProj1Ideal.τ).loc Cert.OutProj1Ideal.main_arg2) = m ((c.tc : Thread Cert.OutProj1Ideal.nD Cert.OutProj1Ideal.τ).loc Cert.OutProj1Ideal.main_arg2)
      ∧ r.2.mem ((c.tc : Thread Cert.OutProj1Ideal.nD Cert.OutProj1Ideal.τ).loc Cert.OutProj1Ideal.main_arg3) = m ((c.tc : Thread Cert.OutProj1Ideal.nD Cert.OutProj1Ideal.τ).loc Cert.OutProj1Ideal.main_arg3)
      ∧ r.2.mem ((c.tc : Thread Cert.OutProj1Ideal.nD Cert.OutProj1Ideal.τ).loc Cert.OutProj1Ideal.main_arg4) = m ((c.tc : Thread Cert.OutProj1Ideal.nD Cert.OutProj1Ideal.τ).loc Cert.OutProj1Ideal.main_arg4))
      ∧ r.2.sem = fun _ => 0)

def quiescent_OutProj1RefIdeal [hOutProj1RefIdeal : Cert.OutProj1RefIdeal.Facts] : Prop :=
  ∀ (m : (ℓ : Loc Cert.OutProj1RefIdeal.nD Cert.OutProj1RefIdeal.τ Cert.OutProj1RefIdeal.sig) → Buf (Elt Ideal) ℓ) (g : Dev Cert.OutProj1RefIdeal.nD → PrngReg), Pre_OutProj1RefIdeal m →
    θ_run (Cert.OutProj1RefIdeal.defs (F := Ideal)) (onTc (τ := Cert.OutProj1RefIdeal.τ) (Cert.OutProj1RefIdeal.main (F := Ideal))) ⟨m, fun _ => 0, g⟩ (fun r => (∀ c : Dev Cert.OutProj1RefIdeal.nD,
      r.2.mem ((c.tc : Thread Cert.OutProj1RefIdeal.nD Cert.OutProj1RefIdeal.τ).loc Cert.OutProj1RefIdeal.main_arg0) = m ((c.tc : Thread Cert.OutProj1RefIdeal.nD Cert.OutProj1RefIdeal.τ).loc Cert.OutProj1RefIdeal.main_arg0)
      ∧ r.2.mem ((c.tc : Thread Cert.OutProj1RefIdeal.nD Cert.OutProj1RefIdeal.τ).loc Cert.OutProj1RefIdeal.main_arg1) = m ((c.tc : Thread Cert.OutProj1RefIdeal.nD Cert.OutProj1RefIdeal.τ).loc Cert.OutProj1RefIdeal.main_arg1)
      ∧ r.2.mem ((c.tc : Thread Cert.OutProj1RefIdeal.nD Cert.OutProj1RefIdeal.τ).loc Cert.OutProj1RefIdeal.main_arg2) = m ((c.tc : Thread Cert.OutProj1RefIdeal.nD Cert.OutProj1RefIdeal.τ).loc Cert.OutProj1RefIdeal.main_arg2)
      ∧ r.2.mem ((c.tc : Thread Cert.OutProj1RefIdeal.nD Cert.OutProj1RefIdeal.τ).loc Cert.OutProj1RefIdeal.main_arg3) = m ((c.tc : Thread Cert.OutProj1RefIdeal.nD Cert.OutProj1RefIdeal.τ).loc Cert.OutProj1RefIdeal.main_arg3)
      ∧ r.2.mem ((c.tc : Thread Cert.OutProj1RefIdeal.nD Cert.OutProj1RefIdeal.τ).loc Cert.OutProj1RefIdeal.main_arg4) = m ((c.tc : Thread Cert.OutProj1RefIdeal.nD Cert.OutProj1RefIdeal.τ).loc Cert.OutProj1RefIdeal.main_arg4))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnUp1 [hFfnUp1 : Cert.FfnUp1.Facts] : Prop :=
  ∀ (m : (ℓ : Loc Cert.FfnUp1.nD Cert.FfnUp1.τ Cert.FfnUp1.sig) → Buf (Elt Bits) ℓ) (g : Dev Cert.FfnUp1.nD → PrngReg), Pre_FfnUp1 m →
    θ_run (Cert.FfnUp1.defs (F := Bits)) (onTc (τ := Cert.FfnUp1.τ) (Cert.FfnUp1.main (F := Bits))) ⟨m, fun _ => 0, g⟩ (fun r => (∀ c : Dev Cert.FfnUp1.nD,
      r.2.mem ((c.tc : Thread Cert.FfnUp1.nD Cert.FfnUp1.τ).loc Cert.FfnUp1.main_arg0) = m ((c.tc : Thread Cert.FfnUp1.nD Cert.FfnUp1.τ).loc Cert.FfnUp1.main_arg0)
      ∧ r.2.mem ((c.tc : Thread Cert.FfnUp1.nD Cert.FfnUp1.τ).loc Cert.FfnUp1.main_arg1) = m ((c.tc : Thread Cert.FfnUp1.nD Cert.FfnUp1.τ).loc Cert.FfnUp1.main_arg1)
      ∧ r.2.mem ((c.tc : Thread Cert.FfnUp1.nD Cert.FfnUp1.τ).loc Cert.FfnUp1.main_arg2) = m ((c.tc : Thread Cert.FfnUp1.nD Cert.FfnUp1.τ).loc Cert.FfnUp1.main_arg2))
      ∧ r.2.sem = fun _ => 0)

def quiescent_FfnUp1Ideal [hFfnUp1Ideal : Cert.FfnUp1Ideal.Facts] : Prop :=
  ∀ (m : (ℓ : Loc Cert.FfnUp1Ideal.nD Cert.FfnUp1Ideal.τ Cert.FfnUp1Ideal.sig) → Buf (Elt Ideal) ℓ) (g : Dev Cert.FfnUp1Ideal.nD → PrngReg), Pre_FfnUp1Ideal m →
    θ_run (Cert.FfnUp1Ideal.defs (F := Ideal)) (onTc (τ := Cert.FfnUp1Ideal.τ) (Cert.FfnUp1Ideal.main (F := Ideal))) ⟨m, fun _ => 0, g⟩ (fun r => (∀ c : Dev Cert.FfnUp1Ideal.nD,
      r.2.mem ((c.tc : Thread Cert.FfnUp1Ideal.nD Cert.FfnUp1Ideal.τ).loc Cert.FfnUp1Ideal.main_arg0) = m ((c.tc : Thread Cert.FfnUp1Ideal.nD Cert.FfnUp1Ideal.τ).loc Cert.FfnUp1Ideal.main_arg0)
      ∧ r.2.mem ((c.tc : Thread Cert.FfnUp1Ideal.nD Cert.FfnUp1Ideal.τ).loc Cert.FfnUp1Ideal.main_arg1) = m ((c.tc : Thread Cert.FfnUp1Ideal.nD Cert.FfnUp1Ideal.τ).loc Cert.FfnUp1Ideal.main_arg1)
      ∧ r.2.mem ((c.tc : Thread Cert.FfnUp1Ideal.nD Cert.FfnUp1Ideal.τ).loc Cert.FfnUp1Ideal.main_arg2) = m ((c.tc : Thread Cert.FfnUp1Ideal.nD Cert.FfnUp1Ideal.τ).loc Cert.FfnUp1Ideal.main_arg2))
      ∧ r.2.sem = fun _ => 0)

def quiescent_FfnUp1RefIdeal [hFfnUp1RefIdeal : Cert.FfnUp1RefIdeal.Facts] : Prop :=
  ∀ (m : (ℓ : Loc Cert.FfnUp1RefIdeal.nD Cert.FfnUp1RefIdeal.τ Cert.FfnUp1RefIdeal.sig) → Buf (Elt Ideal) ℓ) (g : Dev Cert.FfnUp1RefIdeal.nD → PrngReg), Pre_FfnUp1RefIdeal m →
    θ_run (Cert.FfnUp1RefIdeal.defs (F := Ideal)) (onTc (τ := Cert.FfnUp1RefIdeal.τ) (Cert.FfnUp1RefIdeal.main (F := Ideal))) ⟨m, fun _ => 0, g⟩ (fun r => (∀ c : Dev Cert.FfnUp1RefIdeal.nD,
      r.2.mem ((c.tc : Thread Cert.FfnUp1RefIdeal.nD Cert.FfnUp1RefIdeal.τ).loc Cert.FfnUp1RefIdeal.main_arg0) = m ((c.tc : Thread Cert.FfnUp1RefIdeal.nD Cert.FfnUp1RefIdeal.τ).loc Cert.FfnUp1RefIdeal.main_arg0)
      ∧ r.2.mem ((c.tc : Thread Cert.FfnUp1RefIdeal.nD Cert.FfnUp1RefIdeal.τ).loc Cert.FfnUp1RefIdeal.main_arg1) = m ((c.tc : Thread Cert.FfnUp1RefIdeal.nD Cert.FfnUp1RefIdeal.τ).loc Cert.FfnUp1RefIdeal.main_arg1)
      ∧ r.2.mem ((c.tc : Thread Cert.FfnUp1RefIdeal.nD Cert.FfnUp1RefIdeal.τ).loc Cert.FfnUp1RefIdeal.main_arg2) = m ((c.tc : Thread Cert.FfnUp1RefIdeal.nD Cert.FfnUp1RefIdeal.τ).loc Cert.FfnUp1RefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_RowNorm [hRowNorm : Cert.RowNorm.Facts] : Prop :=
  ∀ (m : (ℓ : Loc Cert.RowNorm.nD Cert.RowNorm.τ Cert.RowNorm.sig) → Buf (Elt Bits) ℓ) (g : Dev Cert.RowNorm.nD → PrngReg), Pre_RowNorm m →
    θ_run (Cert.RowNorm.defs (F := Bits)) (onTc (τ := Cert.RowNorm.τ) (Cert.RowNorm.main (F := Bits))) ⟨m, fun _ => 0, g⟩ (fun r => (∀ c : Dev Cert.RowNorm.nD,
      r.2.mem ((c.tc : Thread Cert.RowNorm.nD Cert.RowNorm.τ).loc Cert.RowNorm.main_arg0) = m ((c.tc : Thread Cert.RowNorm.nD Cert.RowNorm.τ).loc Cert.RowNorm.main_arg0)
      ∧ r.2.mem ((c.tc : Thread Cert.RowNorm.nD Cert.RowNorm.τ).loc Cert.RowNorm.main_arg1) = m ((c.tc : Thread Cert.RowNorm.nD Cert.RowNorm.τ).loc Cert.RowNorm.main_arg1))
      ∧ r.2.sem = fun _ => 0)

def quiescent_RowNormIdeal [hRowNormIdeal : Cert.RowNormIdeal.Facts] : Prop :=
  ∀ (m : (ℓ : Loc Cert.RowNormIdeal.nD Cert.RowNormIdeal.τ Cert.RowNormIdeal.sig) → Buf (Elt Ideal) ℓ) (g : Dev Cert.RowNormIdeal.nD → PrngReg), Pre_RowNormIdeal m →
    θ_run (Cert.RowNormIdeal.defs (F := Ideal)) (onTc (τ := Cert.RowNormIdeal.τ) (Cert.RowNormIdeal.main (F := Ideal))) ⟨m, fun _ => 0, g⟩ (fun r => (∀ c : Dev Cert.RowNormIdeal.nD,
      r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
      ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ r.2.sem = fun _ => 0)

def quiescent_RowNormRefIdeal [hRowNormRefIdeal : Cert.RowNormRefIdeal.Facts] : Prop :=
  ∀ (m : (ℓ : Loc Cert.RowNormRefIdeal.nD Cert.RowNormRefIdeal.τ Cert.RowNormRefIdeal.sig) → Buf (Elt Ideal) ℓ) (g : Dev Cert.RowNormRefIdeal.nD → PrngReg), Pre_RowNormRefIdeal m →
    θ_run (Cert.RowNormRefIdeal.defs (F := Ideal)) (onTc (τ := Cert.RowNormRefIdeal.τ) (Cert.RowNormRefIdeal.main (F := Ideal))) ⟨m, fun _ => 0, g⟩ (fun r => (∀ c : Dev Cert.RowNormRefIdeal.nD,
      r.2.mem ((c.tc : Thread Cert.RowNormRefIdeal.nD Cert.RowNormRefIdeal.τ).loc Cert.RowNormRefIdeal.main_arg0) = m ((c.tc : Thread Cert.RowNormRefIdeal.nD Cert.RowNormRefIdeal.τ).loc Cert.RowNormRefIdeal.main_arg0)
      ∧ r.2.mem ((c.tc : Thread Cert.RowNormRefIdeal.nD Cert.RowNormRefIdeal.τ).loc Cert.RowNormRefIdeal.main_arg1) = m ((c.tc : Thread Cert.RowNormRefIdeal.nD Cert.RowNormRefIdeal.τ).loc Cert.RowNormRefIdeal.main_arg1))
      ∧ r.2.sem = fun _ => 0)

def quiescent_NormGates [hNormGates : Cert.NormGates.Facts] : Prop :=
  ∀ (m : (ℓ : Loc Cert.NormGates.nD Cert.NormGates.τ Cert.NormGates.sig) → Buf (Elt Bits) ℓ) (g : Dev Cert.NormGates.nD → PrngReg), Pre_NormGates m →
    θ_run (Cert.NormGates.defs (F := Bits)) (onTc (τ := Cert.NormGates.τ) (Cert.NormGates.main (F := Bits))) ⟨m, fun _ => 0, g⟩ (fun r => (∀ c : Dev Cert.NormGates.nD,
      r.2.mem ((c.tc : Thread Cert.NormGates.nD Cert.NormGates.τ).loc Cert.NormGates.main_arg0) = m ((c.tc : Thread Cert.NormGates.nD Cert.NormGates.τ).loc Cert.NormGates.main_arg0)
      ∧ r.2.mem ((c.tc : Thread Cert.NormGates.nD Cert.NormGates.τ).loc Cert.NormGates.main_arg1) = m ((c.tc : Thread Cert.NormGates.nD Cert.NormGates.τ).loc Cert.NormGates.main_arg1)
      ∧ r.2.mem ((c.tc : Thread Cert.NormGates.nD Cert.NormGates.τ).loc Cert.NormGates.main_arg2) = m ((c.tc : Thread Cert.NormGates.nD Cert.NormGates.τ).loc Cert.NormGates.main_arg2))
      ∧ r.2.sem = fun _ => 0)

def quiescent_NormGatesIdeal [hNormGatesIdeal : Cert.NormGatesIdeal.Facts] : Prop :=
  ∀ (m : (ℓ : Loc Cert.NormGatesIdeal.nD Cert.NormGatesIdeal.τ Cert.NormGatesIdeal.sig) → Buf (Elt Ideal) ℓ) (g : Dev Cert.NormGatesIdeal.nD → PrngReg), Pre_NormGatesIdeal m →
    θ_run (Cert.NormGatesIdeal.defs (F := Ideal)) (onTc (τ := Cert.NormGatesIdeal.τ) (Cert.NormGatesIdeal.main (F := Ideal))) ⟨m, fun _ => 0, g⟩ (fun r => (∀ c : Dev Cert.NormGatesIdeal.nD,
      r.2.mem ((c.tc : Thread Cert.NormGatesIdeal.nD Cert.NormGatesIdeal.τ).loc Cert.NormGatesIdeal.main_arg0) = m ((c.tc : Thread Cert.NormGatesIdeal.nD Cert.NormGatesIdeal.τ).loc Cert.NormGatesIdeal.main_arg0)
      ∧ r.2.mem ((c.tc : Thread Cert.NormGatesIdeal.nD Cert.NormGatesIdeal.τ).loc Cert.NormGatesIdeal.main_arg1) = m ((c.tc : Thread Cert.NormGatesIdeal.nD Cert.NormGatesIdeal.τ).loc Cert.NormGatesIdeal.main_arg1)
      ∧ r.2.mem ((c.tc : Thread Cert.NormGatesIdeal.nD Cert.NormGatesIdeal.τ).loc Cert.NormGatesIdeal.main_arg2) = m ((c.tc : Thread Cert.NormGatesIdeal.nD Cert.NormGatesIdeal.τ).loc Cert.NormGatesIdeal.main_arg2))
      ∧ r.2.sem = fun _ => 0)

def quiescent_NormGatesRefIdeal [hNormGatesRefIdeal : Cert.NormGatesRefIdeal.Facts] : Prop :=
  ∀ (m : (ℓ : Loc Cert.NormGatesRefIdeal.nD Cert.NormGatesRefIdeal.τ Cert.NormGatesRefIdeal.sig) → Buf (Elt Ideal) ℓ) (g : Dev Cert.NormGatesRefIdeal.nD → PrngReg), Pre_NormGatesRefIdeal m →
    θ_run (Cert.NormGatesRefIdeal.defs (F := Ideal)) (onTc (τ := Cert.NormGatesRefIdeal.τ) (Cert.NormGatesRefIdeal.main (F := Ideal))) ⟨m, fun _ => 0, g⟩ (fun r => (∀ c : Dev Cert.NormGatesRefIdeal.nD,
      r.2.mem ((c.tc : Thread Cert.NormGatesRefIdeal.nD Cert.NormGatesRefIdeal.τ).loc Cert.NormGatesRefIdeal.main_arg0) = m ((c.tc : Thread Cert.NormGatesRefIdeal.nD Cert.NormGatesRefIdeal.τ).loc Cert.NormGatesRefIdeal.main_arg0)
      ∧ r.2.mem ((c.tc : Thread Cert.NormGatesRefIdeal.nD Cert.NormGatesRefIdeal.τ).loc Cert.NormGatesRefIdeal.main_arg1) = m ((c.tc : Thread Cert.NormGatesRefIdeal.nD Cert.NormGatesRefIdeal.τ).loc Cert.NormGatesRefIdeal.main_arg1)
      ∧ r.2.mem ((c.tc : Thread Cert.NormGatesRefIdeal.nD Cert.NormGatesRefIdeal.τ).loc Cert.NormGatesRefIdeal.main_arg2) = m ((c.tc : Thread Cert.NormGatesRefIdeal.nD Cert.NormGatesRefIdeal.τ).loc Cert.NormGatesRefIdeal.main_arg2))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "mask" .f32 0xF149F2CA#32 ⊥
  ∧ IdealRules.named_const.Statement Cert.KernelIdeal.κ "big" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_PrepW_PrepWIdeal : Prop :=
  True

def algebraic_PrepWIdeal_PrepWRefIdeal [hPrepWIdeal : Cert.PrepWIdeal.Facts] [hPrepWRefIdeal : Cert.PrepWRefIdeal.Facts] : Prop :=
  ∀ (m : (ℓ : Loc Cert.PrepWIdeal.nD Cert.PrepWIdeal.τ Cert.PrepWIdeal.sig) → Buf (Elt Ideal) ℓ) (g : Dev Cert.PrepWIdeal.nD → PrngReg)
    (m' : (ℓ : Loc Cert.PrepWRefIdeal.nD Cert.PrepWRefIdeal.τ Cert.PrepWRefIdeal.sig) → Buf (Elt Ideal) ℓ) (g' : Dev Cert.PrepWRefIdeal.nD → PrngReg), Pre_PrepWIdeal m →
    (∀ c : Dev Cert.PrepWIdeal.nD,
      m' ((c.tc : Thread Cert.PrepWRefIdeal.nD Cert.PrepWRefIdeal.τ).loc Cert.PrepWRefIdeal.main_arg0) = m ((c.tc : Thread Cert.PrepWIdeal.nD Cert.PrepWIdeal.τ).loc Cert.PrepWIdeal.main_arg0)) →
    ∃ (v0 : (c : Dev Cert.PrepWIdeal.nD) → Buf (Elt Ideal) ((c.tc : Thread Cert.PrepWIdeal.nD Cert.PrepWIdeal.τ).loc Cert.PrepWIdeal.main_v1_0)) (v1 : (c : Dev Cert.PrepWIdeal.nD) → Buf (Elt Ideal) ((c.tc : Thread Cert.PrepWIdeal.nD Cert.PrepWIdeal.τ).loc Cert.PrepWIdeal.main_v1_1)),
      θ_run (Cert.PrepWIdeal.defs (F := Ideal)) (onTc (τ := Cert.PrepWIdeal.τ) (Cert.PrepWIdeal.main (F := Ideal))) ⟨m, fun _ => 0, g⟩ (fun r => ∀ c : Dev Cert.PrepWIdeal.nD,
          r.2.mem ((c.tc : Thread Cert.PrepWIdeal.nD Cert.PrepWIdeal.τ).loc Cert.PrepWIdeal.main_v1_0) = v0 c
          ∧ r.2.mem ((c.tc : Thread Cert.PrepWIdeal.nD Cert.PrepWIdeal.τ).loc Cert.PrepWIdeal.main_v1_1) = v1 c
          ∧ r.2.mem ((c.tc : Thread Cert.PrepWIdeal.nD Cert.PrepWIdeal.τ).loc Cert.PrepWIdeal.main_arg0) = m ((c.tc : Thread Cert.PrepWIdeal.nD Cert.PrepWIdeal.τ).loc Cert.PrepWIdeal.main_arg0))
      ∧ θ_run (Cert.PrepWRefIdeal.defs (F := Ideal)) (onTc (τ := Cert.PrepWRefIdeal.τ) (Cert.PrepWRefIdeal.main (F := Ideal))) ⟨m', fun _ => 0, g'⟩ (fun r => ∀ c : Dev Cert.PrepWRefIdeal.nD,
          r.2.mem ((c.tc : Thread Cert.PrepWRefIdeal.nD Cert.PrepWRefIdeal.τ).loc Cert.PrepWRefIdeal.main_v8) = v0 c
          ∧ r.2.mem ((c.tc : Thread Cert.PrepWRefIdeal.nD Cert.PrepWRefIdeal.τ).loc Cert.PrepWRefIdeal.main_v10) = v1 c
          ∧ r.2.mem ((c.tc : Thread Cert.PrepWRefIdeal.nD Cert.PrepWRefIdeal.τ).loc Cert.PrepWRefIdeal.main_arg0) = m' ((c.tc : Thread Cert.PrepWRefIdeal.nD Cert.PrepWRefIdeal.τ).loc Cert.PrepWRefIdeal.main_arg0))

def bitexact_PrepW_PrepWRef [hPrepW : Cert.PrepW.Facts] [hPrepWRef : Cert.PrepWRef.Facts] : Prop :=
  ∀ (m : (ℓ : Loc Cert.PrepW.nD Cert.PrepW.τ Cert.PrepW.sig) → Buf (Elt Bits) ℓ) (g : Dev Cert.PrepW.nD → PrngReg)
    (m' : (ℓ : Loc Cert.PrepWRef.nD Cert.PrepWRef.τ Cert.PrepWRef.sig) → Buf (Elt Bits) ℓ) (g' : Dev Cert.PrepWRef.nD → PrngReg), Pre_PrepW m →
    (∀ c : Dev Cert.PrepW.nD,
      m' ((c.tc : Thread Cert.PrepWRef.nD Cert.PrepWRef.τ).loc Cert.PrepWRef.main_arg0) = m ((c.tc : Thread Cert.PrepW.nD Cert.PrepW.τ).loc Cert.PrepW.main_arg0)) →
    ∃ (v0 : (c : Dev Cert.PrepW.nD) → Buf (Elt Bits) ((c.tc : Thread Cert.PrepW.nD Cert.PrepW.τ).loc Cert.PrepW.main_v1_0)) (v1 : (c : Dev Cert.PrepW.nD) → Buf (Elt Bits) ((c.tc : Thread Cert.PrepW.nD Cert.PrepW.τ).loc Cert.PrepW.main_v1_1)),
      θ_run (Cert.PrepW.defs (F := Bits)) (onTc (τ := Cert.PrepW.τ) (Cert.PrepW.main (F := Bits))) ⟨m, fun _ => 0, g⟩ (fun r => ∀ c : Dev Cert.PrepW.nD,
          r.2.mem ((c.tc : Thread Cert.PrepW.nD Cert.PrepW.τ).loc Cert.PrepW.main_v1_0) = v0 c
          ∧ r.2.mem ((c.tc : Thread Cert.PrepW.nD Cert.PrepW.τ).loc Cert.PrepW.main_v1_1) = v1 c
          ∧ r.2.mem ((c.tc : Thread Cert.PrepW.nD Cert.PrepW.τ).loc Cert.PrepW.main_arg0) = m ((c.tc : Thread Cert.PrepW.nD Cert.PrepW.τ).loc Cert.PrepW.main_arg0))
      ∧ θ_run (Cert.PrepWRef.defs (F := Bits)) (onTc (τ := Cert.PrepWRef.τ) (Cert.PrepWRef.main (F := Bits))) ⟨m', fun _ => 0, g'⟩ (fun r => ∀ c : Dev Cert.PrepWRef.nD,
          r.2.mem ((c.tc : Thread Cert.PrepWRef.nD Cert.PrepWRef.τ).loc Cert.PrepWRef.main_v8) = v0 c
          ∧ r.2.mem ((c.tc : Thread Cert.PrepWRef.nD Cert.PrepWRef.τ).loc Cert.PrepWRef.main_v10) = v1 c
          ∧ r.2.mem ((c.tc : Thread Cert.PrepWRef.nD Cert.PrepWRef.τ).loc Cert.PrepWRef.main_arg0) = m' ((c.tc : Thread Cert.PrepWRef.nD Cert.PrepWRef.τ).loc Cert.PrepWRef.main_arg0))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)) →
    ∃ (v0 : (c : Dev Cert.InProjIdeal.nD) → Buf (Elt Ideal) ((c.tc : Thread Cert.InProjIdeal.nD Cert.InProjIdeal.τ).loc Cert.InProjIdeal.main_v29)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v29) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v164) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v7)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v7) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v5) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_OutProj1_OutProj1Ideal : Prop :=
  True

def algebraic_OutProj1Ideal_OutProj1RefIdeal [hOutProj1Ideal : Cert.OutProj1Ideal.Facts] [hOutProj1RefIdeal : Cert.OutProj1RefIdeal.Facts] : Prop :=
  ∀ (m : (ℓ : Loc Cert.OutProj1Ideal.nD Cert.OutProj1Ideal.τ Cert.OutProj1Ideal.sig) → Buf (Elt Ideal) ℓ) (g : Dev Cert.OutProj1Ideal.nD → PrngReg)
    (m' : (ℓ : Loc Cert.OutProj1RefIdeal.nD Cert.OutProj1RefIdeal.τ Cert.OutProj1RefIdeal.sig) → Buf (Elt Ideal) ℓ) (g' : Dev Cert.OutProj1RefIdeal.nD → PrngReg), Pre_OutProj1Ideal m →
    (∀ c : Dev Cert.OutProj1Ideal.nD,
      m' ((c.tc : Thread Cert.OutProj1RefIdeal.nD Cert.OutProj1RefIdeal.τ).loc Cert.OutProj1RefIdeal.main_arg0) = m ((c.tc : Thread Cert.OutProj1Ideal.nD Cert.OutProj1Ideal.τ).loc Cert.OutProj1Ideal.main_arg0)
      ∧ m' ((c.tc : Thread Cert.OutProj1RefIdeal.nD Cert.OutProj1RefIdeal.τ).loc Cert.OutProj1RefIdeal.main_arg1) = m ((c.tc : Thread Cert.OutProj1Ideal.nD Cert.OutProj1Ideal.τ).loc Cert.OutProj1Ideal.main_arg1)
      ∧ m' ((c.tc : Thread Cert.OutProj1RefIdeal.nD Cert.OutProj1RefIdeal.τ).loc Cert.OutProj1RefIdeal.main_arg2) = m ((c.tc : Thread Cert.OutProj1Ideal.nD Cert.OutProj1Ideal.τ).loc Cert.OutProj1Ideal.main_arg2)
      ∧ m' ((c.tc : Thread Cert.OutProj1RefIdeal.nD Cert.OutProj1RefIdeal.τ).loc Cert.OutProj1RefIdeal.main_arg3) = m ((c.tc : Thread Cert.OutProj1Ideal.nD Cert.OutProj1Ideal.τ).loc Cert.OutProj1Ideal.main_arg3)
      ∧ m' ((c.tc : Thread Cert.OutProj1RefIdeal.nD Cert.OutProj1RefIdeal.τ).loc Cert.OutProj1RefIdeal.main_arg4) = m ((c.tc : Thread Cert.OutProj1Ideal.nD Cert.OutProj1Ideal.τ).loc Cert.OutProj1Ideal.main_arg4)) →
    ∃ (v0 : (c : Dev Cert.OutProj1Ideal.nD) → Buf (Elt Ideal) ((c.tc : Thread Cert.OutProj1Ideal.nD Cert.OutProj1Ideal.τ).loc Cert.OutProj1Ideal.main_v7)),
      θ_run (Cert.OutProj1Ideal.defs (F := Ideal)) (onTc (τ := Cert.OutProj1Ideal.τ) (Cert.OutProj1Ideal.main (F := Ideal))) ⟨m, fun _ => 0, g⟩ (fun r => ∀ c : Dev Cert.OutProj1Ideal.nD,
          r.2.mem ((c.tc : Thread Cert.OutProj1Ideal.nD Cert.OutProj1Ideal.τ).loc Cert.OutProj1Ideal.main_v7) = v0 c
          ∧ r.2.mem ((c.tc : Thread Cert.OutProj1Ideal.nD Cert.OutProj1Ideal.τ).loc Cert.OutProj1Ideal.main_arg0) = m ((c.tc : Thread Cert.OutProj1Ideal.nD Cert.OutProj1Ideal.τ).loc Cert.OutProj1Ideal.main_arg0)
          ∧ r.2.mem ((c.tc : Thread Cert.OutProj1Ideal.nD Cert.OutProj1Ideal.τ).loc Cert.OutProj1Ideal.main_arg1) = m ((c.tc : Thread Cert.OutProj1Ideal.nD Cert.OutProj1Ideal.τ).loc Cert.OutProj1Ideal.main_arg1)
          ∧ r.2.mem ((c.tc : Thread Cert.OutProj1Ideal.nD Cert.OutProj1Ideal.τ).loc Cert.OutProj1Ideal.main_arg2) = m ((c.tc : Thread Cert.OutProj1Ideal.nD Cert.OutProj1Ideal.τ).loc Cert.OutProj1Ideal.main_arg2)
          ∧ r.2.mem ((c.tc : Thread Cert.OutProj1Ideal.nD Cert.OutProj1Ideal.τ).loc Cert.OutProj1Ideal.main_arg3) = m ((c.tc : Thread Cert.OutProj1Ideal.nD Cert.OutProj1Ideal.τ).loc Cert.OutProj1Ideal.main_arg3)
          ∧ r.2.mem ((c.tc : Thread Cert.OutProj1Ideal.nD Cert.OutProj1Ideal.τ).loc Cert.OutProj1Ideal.main_arg4) = m ((c.tc : Thread Cert.OutProj1Ideal.nD Cert.OutProj1Ideal.τ).loc Cert.OutProj1Ideal.main_arg4))
      ∧ θ_run (Cert.OutProj1RefIdeal.defs (F := Ideal)) (onTc (τ := Cert.OutProj1RefIdeal.τ) (Cert.OutProj1RefIdeal.main (F := Ideal))) ⟨m', fun _ => 0, g'⟩ (fun r => ∀ c : Dev Cert.OutProj1RefIdeal.nD,
          r.2.mem ((c.tc : Thread Cert.OutProj1RefIdeal.nD Cert.OutProj1RefIdeal.τ).loc Cert.OutProj1RefIdeal.main_v5) = v0 c
          ∧ r.2.mem ((c.tc : Thread Cert.OutProj1RefIdeal.nD Cert.OutProj1RefIdeal.τ).loc Cert.OutProj1RefIdeal.main_arg0) = m' ((c.tc : Thread Cert.OutProj1RefIdeal.nD Cert.OutProj1RefIdeal.τ).loc Cert.OutProj1RefIdeal.main_arg0)
          ∧ r.2.mem ((c.tc : Thread Cert.OutProj1RefIdeal.nD Cert.OutProj1RefIdeal.τ).loc Cert.OutProj1RefIdeal.main_arg1) = m' ((c.tc : Thread Cert.OutProj1RefIdeal.nD Cert.OutProj1RefIdeal.τ).loc Cert.OutProj1RefIdeal.main_arg1)
          ∧ r.2.mem ((c.tc : Thread Cert.OutProj1RefIdeal.nD Cert.OutProj1RefIdeal.τ).loc Cert.OutProj1RefIdeal.main_arg2) = m' ((c.tc : Thread Cert.OutProj1RefIdeal.nD Cert.OutProj1RefIdeal.τ).loc Cert.OutProj1RefIdeal.main_arg2)
          ∧ r.2.mem ((c.tc : Thread Cert.OutProj1RefIdeal.nD Cert.OutProj1RefIdeal.τ).loc Cert.OutProj1RefIdeal.main_arg3) = m' ((c.tc : Thread Cert.OutProj1RefIdeal.nD Cert.OutProj1RefIdeal.τ).loc Cert.OutProj1RefIdeal.main_arg3)
          ∧ r.2.mem ((c.tc : Thread Cert.OutProj1RefIdeal.nD Cert.OutProj1RefIdeal.τ).loc Cert.OutProj1RefIdeal.main_arg4) = m' ((c.tc : Thread Cert.OutProj1RefIdeal.nD Cert.OutProj1RefIdeal.τ).loc Cert.OutProj1RefIdeal.main_arg4))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v2) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v11) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnUp1_FfnUp1Ideal : Prop :=
  True

def algebraic_FfnUp1Ideal_FfnUp1RefIdeal [hFfnUp1Ideal : Cert.FfnUp1Ideal.Facts] [hFfnUp1RefIdeal : Cert.FfnUp1RefIdeal.Facts] : Prop :=
  ∀ (m : (ℓ : Loc Cert.FfnUp1Ideal.nD Cert.FfnUp1Ideal.τ Cert.FfnUp1Ideal.sig) → Buf (Elt Ideal) ℓ) (g : Dev Cert.FfnUp1Ideal.nD → PrngReg)
    (m' : (ℓ : Loc Cert.FfnUp1RefIdeal.nD Cert.FfnUp1RefIdeal.τ Cert.FfnUp1RefIdeal.sig) → Buf (Elt Ideal) ℓ) (g' : Dev Cert.FfnUp1RefIdeal.nD → PrngReg), Pre_FfnUp1Ideal m →
    (∀ c : Dev Cert.FfnUp1Ideal.nD,
      m' ((c.tc : Thread Cert.FfnUp1RefIdeal.nD Cert.FfnUp1RefIdeal.τ).loc Cert.FfnUp1RefIdeal.main_arg0) = m ((c.tc : Thread Cert.FfnUp1Ideal.nD Cert.FfnUp1Ideal.τ).loc Cert.FfnUp1Ideal.main_arg0)
      ∧ m' ((c.tc : Thread Cert.FfnUp1RefIdeal.nD Cert.FfnUp1RefIdeal.τ).loc Cert.FfnUp1RefIdeal.main_arg1) = m ((c.tc : Thread Cert.FfnUp1Ideal.nD Cert.FfnUp1Ideal.τ).loc Cert.FfnUp1Ideal.main_arg1)
      ∧ m' ((c.tc : Thread Cert.FfnUp1RefIdeal.nD Cert.FfnUp1RefIdeal.τ).loc Cert.FfnUp1RefIdeal.main_arg2) = m ((c.tc : Thread Cert.FfnUp1Ideal.nD Cert.FfnUp1Ideal.τ).loc Cert.FfnUp1Ideal.main_arg2)) →
    ∃ (v0 : (c : Dev Cert.FfnUp1Ideal.nD) → Buf (Elt Ideal) ((c.tc : Thread Cert.FfnUp1Ideal.nD Cert.FfnUp1Ideal.τ).loc Cert.FfnUp1Ideal.main_v2)),
      θ_run (Cert.FfnUp1Ideal.defs (F := Ideal)) (onTc (τ := Cert.FfnUp1Ideal.τ) (Cert.FfnUp1Ideal.main (F := Ideal))) ⟨m, fun _ => 0, g⟩ (fun r => ∀ c : Dev Cert.FfnUp1Ideal.nD,
          r.2.mem ((c.tc : Thread Cert.FfnUp1Ideal.nD Cert.FfnUp1Ideal.τ).loc Cert.FfnUp1Ideal.main_v2) = v0 c
          ∧ r.2.mem ((c.tc : Thread Cert.FfnUp1Ideal.nD Cert.FfnUp1Ideal.τ).loc Cert.FfnUp1Ideal.main_arg0) = m ((c.tc : Thread Cert.FfnUp1Ideal.nD Cert.FfnUp1Ideal.τ).loc Cert.FfnUp1Ideal.main_arg0)
          ∧ r.2.mem ((c.tc : Thread Cert.FfnUp1Ideal.nD Cert.FfnUp1Ideal.τ).loc Cert.FfnUp1Ideal.main_arg1) = m ((c.tc : Thread Cert.FfnUp1Ideal.nD Cert.FfnUp1Ideal.τ).loc Cert.FfnUp1Ideal.main_arg1)
          ∧ r.2.mem ((c.tc : Thread Cert.FfnUp1Ideal.nD Cert.FfnUp1Ideal.τ).loc Cert.FfnUp1Ideal.main_arg2) = m ((c.tc : Thread Cert.FfnUp1Ideal.nD Cert.FfnUp1Ideal.τ).loc Cert.FfnUp1Ideal.main_arg2))
      ∧ θ_run (Cert.FfnUp1RefIdeal.defs (F := Ideal)) (onTc (τ := Cert.FfnUp1RefIdeal.τ) (Cert.FfnUp1RefIdeal.main (F := Ideal))) ⟨m', fun _ => 0, g'⟩ (fun r => ∀ c : Dev Cert.FfnUp1RefIdeal.nD,
          r.2.mem ((c.tc : Thread Cert.FfnUp1RefIdeal.nD Cert.FfnUp1RefIdeal.τ).loc Cert.FfnUp1RefIdeal.main_v11) = v0 c
          ∧ r.2.mem ((c.tc : Thread Cert.FfnUp1RefIdeal.nD Cert.FfnUp1RefIdeal.τ).loc Cert.FfnUp1RefIdeal.main_arg0) = m' ((c.tc : Thread Cert.FfnUp1RefIdeal.nD Cert.FfnUp1RefIdeal.τ).loc Cert.FfnUp1RefIdeal.main_arg0)
          ∧ r.2.mem ((c.tc : Thread Cert.FfnUp1RefIdeal.nD Cert.FfnUp1RefIdeal.τ).loc Cert.FfnUp1RefIdeal.main_arg1) = m' ((c.tc : Thread Cert.FfnUp1RefIdeal.nD Cert.FfnUp1RefIdeal.τ).loc Cert.FfnUp1RefIdeal.main_arg1)
          ∧ r.2.mem ((c.tc : Thread Cert.FfnUp1RefIdeal.nD Cert.FfnUp1RefIdeal.τ).loc Cert.FfnUp1RefIdeal.main_arg2) = m' ((c.tc : Thread Cert.FfnUp1RefIdeal.nD Cert.FfnUp1RefIdeal.τ).loc Cert.FfnUp1RefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v6)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v6) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v1) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_RowNorm_RowNormIdeal : Prop :=
  True

def algebraic_RowNormIdeal_RowNormRefIdeal [hRowNormIdeal : Cert.RowNormIdeal.Facts] [hRowNormRefIdeal : Cert.RowNormRefIdeal.Facts] : Prop :=
  ∀ (m : (ℓ : Loc Cert.RowNormIdeal.nD Cert.RowNormIdeal.τ Cert.RowNormIdeal.sig) → Buf (Elt Ideal) ℓ) (g : Dev Cert.RowNormIdeal.nD → PrngReg)
    (m' : (ℓ : Loc Cert.RowNormRefIdeal.nD Cert.RowNormRefIdeal.τ Cert.RowNormRefIdeal.sig) → Buf (Elt Ideal) ℓ) (g' : Dev Cert.RowNormRefIdeal.nD → PrngReg), Pre_RowNormIdeal m →
    (∀ c : Dev Cert.RowNormIdeal.nD,
      m' ((c.tc : Thread Cert.RowNormRefIdeal.nD Cert.RowNormRefIdeal.τ).loc Cert.RowNormRefIdeal.main_arg0) = m ((c.tc : Thread Cert.RowNormIdeal.nD Cert.RowNormIdeal.τ).loc Cert.RowNormIdeal.main_arg0)
      ∧ m' ((c.tc : Thread Cert.RowNormRefIdeal.nD Cert.RowNormRefIdeal.τ).loc Cert.RowNormRefIdeal.main_arg1) = m ((c.tc : Thread Cert.RowNormIdeal.nD Cert.RowNormIdeal.τ).loc Cert.RowNormIdeal.main_arg1)) →
    ∃ (v0 : (c : Dev Cert.RowNormIdeal.nD) → Buf (Elt Ideal) ((c.tc : Thread Cert.RowNormIdeal.nD Cert.RowNormIdeal.τ).loc Cert.RowNormIdeal.main_v2)),
      θ_run (Cert.RowNormIdeal.defs (F := Ideal)) (onTc (τ := Cert.RowNormIdeal.τ) (Cert.RowNormIdeal.main (F := Ideal))) ⟨m, fun _ => 0, g⟩ (fun r => ∀ c : Dev Cert.RowNormIdeal.nD,
          r.2.mem ((c.tc : Thread Cert.RowNormIdeal.nD Cert.RowNormIdeal.τ).loc Cert.RowNormIdeal.main_v2) = v0 c
          ∧ r.2.mem ((c.tc : Thread Cert.RowNormIdeal.nD Cert.RowNormIdeal.τ).loc Cert.RowNormIdeal.main_arg0) = m ((c.tc : Thread Cert.RowNormIdeal.nD Cert.RowNormIdeal.τ).loc Cert.RowNormIdeal.main_arg0)
          ∧ r.2.mem ((c.tc : Thread Cert.RowNormIdeal.nD Cert.RowNormIdeal.τ).loc Cert.RowNormIdeal.main_arg1) = m ((c.tc : Thread Cert.RowNormIdeal.nD Cert.RowNormIdeal.τ).loc Cert.RowNormIdeal.main_arg1))
      ∧ θ_run (Cert.RowNormRefIdeal.defs (F := Ideal)) (onTc (τ := Cert.RowNormRefIdeal.τ) (Cert.RowNormRefIdeal.main (F := Ideal))) ⟨m', fun _ => 0, g'⟩ (fun r => ∀ c : Dev Cert.RowNormRefIdeal.nD,
          r.2.mem ((c.tc : Thread Cert.RowNormRefIdeal.nD Cert.RowNormRefIdeal.τ).loc Cert.RowNormRefIdeal.main_v14) = v0 c
          ∧ r.2.mem ((c.tc : Thread Cert.RowNormRefIdeal.nD Cert.RowNormRefIdeal.τ).loc Cert.RowNormRefIdeal.main_arg0) = m' ((c.tc : Thread Cert.RowNormRefIdeal.nD Cert.RowNormRefIdeal.τ).loc Cert.RowNormRefIdeal.main_arg0)
          ∧ r.2.mem ((c.tc : Thread Cert.RowNormRefIdeal.nD Cert.RowNormRefIdeal.τ).loc Cert.RowNormRefIdeal.main_arg1) = m' ((c.tc : Thread Cert.RowNormRefIdeal.nD Cert.RowNormRefIdeal.τ).loc Cert.RowNormRefIdeal.main_arg1))

def preserves_NormGates_NormGatesIdeal : Prop :=
  True

def algebraic_NormGatesIdeal_NormGatesRefIdeal [hNormGatesIdeal : Cert.NormGatesIdeal.Facts] [hNormGatesRefIdeal : Cert.NormGatesRefIdeal.Facts] : Prop :=
  ∀ (m : (ℓ : Loc Cert.NormGatesIdeal.nD Cert.NormGatesIdeal.τ Cert.NormGatesIdeal.sig) → Buf (Elt Ideal) ℓ) (g : Dev Cert.NormGatesIdeal.nD → PrngReg)
    (m' : (ℓ : Loc Cert.NormGatesRefIdeal.nD Cert.NormGatesRefIdeal.τ Cert.NormGatesRefIdeal.sig) → Buf (Elt Ideal) ℓ) (g' : Dev Cert.NormGatesRefIdeal.nD → PrngReg), Pre_NormGatesIdeal m →
    (∀ c : Dev Cert.NormGatesIdeal.nD,
      m' ((c.tc : Thread Cert.NormGatesRefIdeal.nD Cert.NormGatesRefIdeal.τ).loc Cert.NormGatesRefIdeal.main_arg0) = m ((c.tc : Thread Cert.NormGatesIdeal.nD Cert.NormGatesIdeal.τ).loc Cert.NormGatesIdeal.main_arg0)
      ∧ m' ((c.tc : Thread Cert.NormGatesRefIdeal.nD Cert.NormGatesRefIdeal.τ).loc Cert.NormGatesRefIdeal.main_arg1) = m ((c.tc : Thread Cert.NormGatesIdeal.nD Cert.NormGatesIdeal.τ).loc Cert.NormGatesIdeal.main_arg1)
      ∧ m' ((c.tc : Thread Cert.NormGatesRefIdeal.nD Cert.NormGatesRefIdeal.τ).loc Cert.NormGatesRefIdeal.main_arg2) = m ((c.tc : Thread Cert.NormGatesIdeal.nD Cert.NormGatesIdeal.τ).loc Cert.NormGatesIdeal.main_arg2)) →
    ∃ (v0 : (c : Dev Cert.NormGatesIdeal.nD) → Buf (Elt Ideal) ((c.tc : Thread Cert.NormGatesIdeal.nD Cert.NormGatesIdeal.τ).loc Cert.NormGatesIdeal.main_v9_0)) (v1 : (c : Dev Cert.NormGatesIdeal.nD) → Buf (Elt Ideal) ((c.tc : Thread Cert.NormGatesIdeal.nD Cert.NormGatesIdeal.τ).loc Cert.NormGatesIdeal.main_v9_1)),
      θ_run (Cert.NormGatesIdeal.defs (F := Ideal)) (onTc (τ := Cert.NormGatesIdeal.τ) (Cert.NormGatesIdeal.main (F := Ideal))) ⟨m, fun _ => 0, g⟩ (fun r => ∀ c : Dev Cert.NormGatesIdeal.nD,
          r.2.mem ((c.tc : Thread Cert.NormGatesIdeal.nD Cert.NormGatesIdeal.τ).loc Cert.NormGatesIdeal.main_v9_0) = v0 c
          ∧ r.2.mem ((c.tc : Thread Cert.NormGatesIdeal.nD Cert.NormGatesIdeal.τ).loc Cert.NormGatesIdeal.main_v9_1) = v1 c
          ∧ r.2.mem ((c.tc : Thread Cert.NormGatesIdeal.nD Cert.NormGatesIdeal.τ).loc Cert.NormGatesIdeal.main_arg0) = m ((c.tc : Thread Cert.NormGatesIdeal.nD Cert.NormGatesIdeal.τ).loc Cert.NormGatesIdeal.main_arg0)
          ∧ r.2.mem ((c.tc : Thread Cert.NormGatesIdeal.nD Cert.NormGatesIdeal.τ).loc Cert.NormGatesIdeal.main_arg1) = m ((c.tc : Thread Cert.NormGatesIdeal.nD Cert.NormGatesIdeal.τ).loc Cert.NormGatesIdeal.main_arg1)
          ∧ r.2.mem ((c.tc : Thread Cert.NormGatesIdeal.nD Cert.NormGatesIdeal.τ).loc Cert.NormGatesIdeal.main_arg2) = m ((c.tc : Thread Cert.NormGatesIdeal.nD Cert.NormGatesIdeal.τ).loc Cert.NormGatesIdeal.main_arg2))
      ∧ θ_run (Cert.NormGatesRefIdeal.defs (F := Ideal)) (onTc (τ := Cert.NormGatesRefIdeal.τ) (Cert.NormGatesRefIdeal.main (F := Ideal))) ⟨m', fun _ => 0, g'⟩ (fun r => ∀ c : Dev Cert.NormGatesRefIdeal.nD,
          r.2.mem ((c.tc : Thread Cert.NormGatesRefIdeal.nD Cert.NormGatesRefIdeal.τ).loc Cert.NormGatesRefIdeal.main_v16) = v0 c
          ∧ r.2.mem ((c.tc : Thread Cert.NormGatesRefIdeal.nD Cert.NormGatesRefIdeal.τ).loc Cert.NormGatesRefIdeal.main_v19) = v1 c
          ∧ r.2.mem ((c.tc : Thread Cert.NormGatesRefIdeal.nD Cert.NormGatesRefIdeal.τ).loc Cert.NormGatesRefIdeal.main_arg0) = m' ((c.tc : Thread Cert.NormGatesRefIdeal.nD Cert.NormGatesRefIdeal.τ).loc Cert.NormGatesRefIdeal.main_arg0)
          ∧ r.2.mem ((c.tc : Thread Cert.NormGatesRefIdeal.nD Cert.NormGatesRefIdeal.τ).loc Cert.NormGatesRefIdeal.main_arg1) = m' ((c.tc : Thread Cert.NormGatesRefIdeal.nD Cert.NormGatesRefIdeal.τ).loc Cert.NormGatesRefIdeal.main_arg1)
          ∧ r.2.mem ((c.tc : Thread Cert.NormGatesRefIdeal.nD Cert.NormGatesRefIdeal.τ).loc Cert.NormGatesRefIdeal.main_arg2) = m' ((c.tc : Thread Cert.NormGatesRefIdeal.nD Cert.NormGatesRefIdeal.τ).loc Cert.NormGatesRefIdeal.main_arg2))

def Claim : Prop :=
  ∃ (hKernel : Cert.Kernel.Facts) (hKernelIdeal : Cert.KernelIdeal.Facts) (hReferenceIdeal : Cert.ReferenceIdeal.Facts) (hPrepW : Cert.PrepW.Facts) (hPrepWIdeal : Cert.PrepWIdeal.Facts) (hPrepWRefIdeal : Cert.PrepWRefIdeal.Facts) (hPrepWRef : Cert.PrepWRef.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hOutProj1 : Cert.OutProj1.Facts) (hOutProj1Ideal : Cert.OutProj1Ideal.Facts) (hOutProj1RefIdeal : Cert.OutProj1RefIdeal.Facts) (hFfnUp : Cert.FfnUp.Facts) (hFfnUpIdeal : Cert.FfnUpIdeal.Facts) (hFfnUpRefIdeal : Cert.FfnUpRefIdeal.Facts) (hFfnUp1 : Cert.FfnUp1.Facts) (hFfnUp1Ideal : Cert.FfnUp1Ideal.Facts) (hFfnUp1RefIdeal : Cert.FfnUp1RefIdeal.Facts) (hFfnDown : Cert.FfnDown.Facts) (hFfnDownIdeal : Cert.FfnDownIdeal.Facts) (hFfnDownRefIdeal : Cert.FfnDownRefIdeal.Facts) (hRowNorm : Cert.RowNorm.Facts) (hRowNormIdeal : Cert.RowNormIdeal.Facts) (hRowNormRefIdeal : Cert.RowNormRefIdeal.Facts) (hNormGates : Cert.NormGates.Facts) (hNormGatesIdeal : Cert.NormGatesIdeal.Facts) (hNormGatesRefIdeal : Cert.NormGatesRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_PrepW (hPrepW := hPrepW)
    ∧ quiescent_PrepWIdeal (hPrepWIdeal := hPrepWIdeal)
    ∧ quiescent_PrepWRefIdeal (hPrepWRefIdeal := hPrepWRefIdeal)
    ∧ quiescent_PrepWRef (hPrepWRef := hPrepWRef)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProj1 (hOutProj1 := hOutProj1)
    ∧ quiescent_OutProj1Ideal (hOutProj1Ideal := hOutProj1Ideal)
    ∧ quiescent_OutProj1RefIdeal (hOutProj1RefIdeal := hOutProj1RefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnUp1 (hFfnUp1 := hFfnUp1)
    ∧ quiescent_FfnUp1Ideal (hFfnUp1Ideal := hFfnUp1Ideal)
    ∧ quiescent_FfnUp1RefIdeal (hFfnUp1RefIdeal := hFfnUp1RefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_RowNorm (hRowNorm := hRowNorm)
    ∧ quiescent_RowNormIdeal (hRowNormIdeal := hRowNormIdeal)
    ∧ quiescent_RowNormRefIdeal (hRowNormRefIdeal := hRowNormRefIdeal)
    ∧ quiescent_NormGates (hNormGates := hNormGates)
    ∧ quiescent_NormGatesIdeal (hNormGatesIdeal := hNormGatesIdeal)
    ∧ quiescent_NormGatesRefIdeal (hNormGatesRefIdeal := hNormGatesRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_PrepW_PrepWIdeal
    ∧ algebraic_PrepWIdeal_PrepWRefIdeal (hPrepWIdeal := hPrepWIdeal) (hPrepWRefIdeal := hPrepWRefIdeal)
    ∧ bitexact_PrepW_PrepWRef (hPrepW := hPrepW) (hPrepWRef := hPrepWRef)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_OutProj1_OutProj1Ideal
    ∧ algebraic_OutProj1Ideal_OutProj1RefIdeal (hOutProj1Ideal := hOutProj1Ideal) (hOutProj1RefIdeal := hOutProj1RefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnUp1_FfnUp1Ideal
    ∧ algebraic_FfnUp1Ideal_FfnUp1RefIdeal (hFfnUp1Ideal := hFfnUp1Ideal) (hFfnUp1RefIdeal := hFfnUp1RefIdeal)
    ∧ preserves_FfnDown_FfnDownIdeal
    ∧ algebraic_FfnDownIdeal_FfnDownRefIdeal (hFfnDownIdeal := hFfnDownIdeal) (hFfnDownRefIdeal := hFfnDownRefIdeal)
    ∧ preserves_RowNorm_RowNormIdeal
    ∧ algebraic_RowNormIdeal_RowNormRefIdeal (hRowNormIdeal := hRowNormIdeal) (hRowNormRefIdeal := hRowNormRefIdeal)
    ∧ preserves_NormGates_NormGatesIdeal
    ∧ algebraic_NormGatesIdeal_NormGatesRefIdeal (hNormGatesIdeal := hNormGatesIdeal) (hNormGatesRefIdeal := hNormGatesRefIdeal)
-- ==== Pre_finite.lean ====
abbrev S2x4096x1536 : Shape := ⟨3, ![2, 4096, 1536]⟩
abbrev S2x4096x7680 : Shape := ⟨3, ![2, 4096, 7680]⟩
abbrev S_ : Shape := ⟨0, ![]⟩

class Facts : Prop where
  bcast_S_S2x4096x1536 : S_.BroadcastsInDim S2x4096x1536 (![] : Fin 0 → Fin S2x4096x1536.rank)

variable [Facts]

def fn {F : FTy → Type} [FloatOps F] (main_arg0 : FVec F S2x4096x1536 .f32) (main_arg1 : FVec F S2x4096x1536 .f32) (main_arg2 : FVec F S2x4096x1536 .f32) (main_arg3 : FVec F S2x4096x7680 .f32) : IVec S2x4096x1536 1 × IVec S2x4096x1536 1 :=
  let main_v0 : FVec F S2x4096x1536 .f32 := Host.absf main_arg0
  let main_cst : FVec F S_ .f32 := constant S_ .f32 0x7F800000#32
  let main_v1 : FVec F S2x4096x1536 .f32 := broadcastInDim S2x4096x1536 ![] bcast_S_S2x4096x1536 main_cst
  let main_v2 : IVec S2x4096x1536 1 := cmpf .olt main_v0 main_v1
  let main_v3 : FVec F S2x4096x1536 .f32 := Host.absf main_arg1
  let main_cst_0 : FVec F S_ .f32 := constant S_ .f32 0x7F800000#32
  let main_v4 : FVec F S2x4096x1536 .f32 := broadcastInDim S2x4096x1536 ![] bcast_S_S2x4096x1536 main_cst_0
  let main_v5 : IVec S2x4096x1536 1 := cmpf .olt main_v3 main_v4
  (main_v2, main_v5)
-- ==== Kernel.lean ====
abbrev S2x4096x1536 : Shape := ⟨3, ![2, 4096, 1536]⟩
abbrev S2x4096x7680 : Shape := ⟨3, ![2, 4096, 7680]⟩
abbrev S2x4096x12288 : Shape := ⟨3, ![2, 4096, 12288]⟩
abbrev S1x512x128 : Shape := ⟨3, ![1, 512, 128]⟩
abbrev S1x4096x128 : Shape := ⟨3, ![1, 4096, 128]⟩
abbrev S16x128 : Shape := ⟨2, ![16, 128]⟩
abbrev S1x512x512 : Shape := ⟨3, ![1, 512, 512]⟩
abbrev S16x4096 : Shape := ⟨2, ![16, 4096]⟩
abbrev S4096x128 : Shape := ⟨2, ![4096, 128]⟩
abbrev S512x128 : Shape := ⟨2, ![512, 128]⟩
abbrev S16x512 : Shape := ⟨2, ![16, 512]⟩
abbrev S1x512 : Shape := ⟨2, ![1, 512]⟩
abbrev S112x512 : Shape := ⟨2, ![112, 512]⟩
abbrev S128x512 : Shape := ⟨2, ![128, 512]⟩
abbrev S512x1 : Shape := ⟨2, ![512, 1]⟩
abbrev S512x512 : Shape := ⟨2, ![512, 512]⟩
abbrev S512 : Shape := ⟨1, ![512]⟩
abbrev S512x256 : Shape := ⟨2, ![512, 256]⟩

abbrev nBuf : Space → Nat
  | .hbm => 7
  | .vmem => 10
  | .smem => 0
  | _ => 0

abbrev bufTy : (tb : Table) → Fin (tcTables nBuf tb) → BufTy
  | .hbm, ⟨0, _⟩ => ⟨S2x4096x1536, .f32⟩
  | .hbm, ⟨1, _⟩ => ⟨S2x4096x1536, .f32⟩
  | .hbm, ⟨2, _⟩ => ⟨S2x4096x1536, .f32⟩
  | .hbm, ⟨3, _⟩ => ⟨S2x4096x7680, .f32⟩
  | .hbm, ⟨4, _⟩ => ⟨S2x4096x12288, .f32⟩
  | .hbm, ⟨5, _⟩ => ⟨S2x4096x12288, .bf16⟩
  | .hbm, ⟨6, _⟩ => ⟨S2x4096x1536, .bf16⟩
  | .local _ .vmem, ⟨0, _⟩ => ⟨S1x512x128, .bf16⟩
  | .local _ .vmem, ⟨1, _⟩ => ⟨S1x512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S16x128, .bf16⟩
  | .local _ .vmem, ⟨9, _⟩ => ⟨S1x512x512, .f32⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 12, 8], ![false, false, false]⟩

def k0_mult1 : BitVec 32 :=
  let c0_i32_84 : BitVec 32 := 0#32
  c0_i32_84
@[reducible] def k0_t1_loop (i : grid0.Coords) : Scf.Loop 32 :=
  let c0_i32_98 : BitVec 32 := 0#32
  let arg2 : BitVec 32 := BitVec.ofNat 32 (i 2).val
  let c0_i32_92 : BitVec 32 := 0#32
  let v288 : BitVec 1 := Scalar.cmpi .sgt arg2 c0_i32_92
  let v289 : BitVec 32 := Scalar.extui v288
  let c0_i32_93 : BitVec 32 := 0#32
  let v290 : BitVec 1 := Scalar.cmpi .slt arg2 c0_i32_93
  let v291 : BitVec 32 := Scalar.extui v290
  let v292 : BitVec 32 := Scalar.subi v289 v291
  let c2_i32_91 : BitVec 32 := 2#32
  let c0_i32_94 : BitVec 32 := 0#32
  let v293 : BitVec 1 := Scalar.cmpi .sgt c2_i32_91 c0_i32_94
  let v294 : BitVec 32 := Scalar.extui v293
  let c0_i32_95 : BitVec 32 := 0#32
  let v295 : BitVec 1 := Scalar.cmpi .slt c2_i32_91 c0_i32_95
  let v296 : BitVec 32 := Scalar.extui v295
  let v297 : BitVec 32 := Scalar.subi v294 v296
  let v298 : BitVec 1 := Scalar.cmpi .ne v292 v297
  let v299 : BitVec 32 := Scalar.remsi arg2 c2_i32_91
  let c0_i32_96 : BitVec 32 := 0#32
  let v300 : BitVec 1 := Scalar.cmpi .ne v299 c0_i32_96
  let v301 : BitVec 1 := Scalar.andi v298 v300
  let v287 : BitVec 32 := Scalar.divsi arg2 c2_i32_91
  let c1_i32_97 : BitVec 32 := 1#32
  let v302 : BitVec 32 := Scalar.subi v287 c1_i32_97
  let v303 : BitVec 32 := Scalar.select v301 v302 v287
  let v304 : BitVec 32 := Scalar.subi v303 c0_i32_98
  let c1_i32_99 : BitVec 32 := 1#32
  let v306 : BitVec 32 := Scalar.divsi v304 c1_i32_99
  let v307 : BitVec 32 := Scalar.muli v306 c1_i32_99
  let v308 : BitVec 32 := Scalar.addi c0_i32_98 v307
  let c1_i32_100 : BitVec 32 := 1#32
  ⟨c0_i32_98, v308, c1_i32_100⟩
def k0_mult2 (i : grid0.Coords) (k0_t1 : Fin (k0_t1_loop i).trips) : BitVec 32 :=
  let c2_i32_113 : BitVec 32 := 2#32
  let c0_i32_98 : BitVec 32 := 0#32
  let c1_i32_100 : BitVec 32 := 1#32
  let arg9 : BitVec 32 := Scf.iv c0_i32_98 c1_i32_100 k0_t1
  let v331 : BitVec 32 := Scalar.muli c2_i32_113 arg9
  let c1_i32_117 : BitVec 32 := 1#32
  let v334 : BitVec 32 := Scalar.addi v331 c1_i32_117
  let c512_i32 : BitVec 32 := 512#32
  let v335 : BitVec 32 := Scalar.muli v334 c512_i32
  v335
def k0_off1 (i : grid0.Coords) (k0_t1 : Fin (k0_t1_loop i).trips) (c1_i32_117 : BitVec 32) : Fin 3 → Nat :=
  let c0_118 : Index := 0#32
  let c2_i32_113 : BitVec 32 := 2#32
  let c0_i32_98 : BitVec 32 := 0#32
  let c1_i32_100 : BitVec 32 := 1#32
  let arg9 : BitVec 32 := Scf.iv c0_i32_98 c1_i32_100 k0_t1
  let v331 : BitVec 32 := Scalar.muli c2_i32_113 arg9
  let v334 : BitVec 32 := Scalar.addi v331 c1_i32_117
  let c512_i32 : BitVec 32 := 512#32
  let v335 : BitVec 32 := Scalar.muli v334 c512_i32
  let v336 : BitVec 32 := v335
  let v337 : Index := Scalar.indexCast v336
  let c0_119 : Index := 0#32
  ![0, v337.toNat, 0]
def k0_mult3 (i : grid0.Coords) (k0_t1 : Fin (k0_t1_loop i).trips) : BitVec 32 :=
  let c2_i32_113 : BitVec 32 := 2#32
  let c0_i32_98 : BitVec 32 := 0#32
  let c1_i32_100 : BitVec 32 := 1#32
  let arg9 : BitVec 32 := Scf.iv c0_i32_98 c1_i32_100 k0_t1
  let v331 : BitVec 32 := Scalar.muli c2_i32_113 arg9
  let c512_i32_121 : BitVec 32 := 512#32
  let v341 : BitVec 32 := Scalar.muli v331 c512_i32_121
  v341
def k0_off2 (i : grid0.Coords) (k0_t1 : Fin (k0_t1_loop i).trips) : Fin 3 → Nat :=
  let c0_133 : Index := 0#32
  let c2_i32_113 : BitVec 32 := 2#32
  let c0_i32_98 : BitVec 32 := 0#32
  let c1_i32_100 : BitVec 32 := 1#32
  let arg9 : BitVec 32 := Scf.iv c0_i32_98 c1_i32_100 k0_t1
  let v331 : BitVec 32 := Scalar.muli c2_i32_113 arg9
  let c512_i32_121 : BitVec 32 := 512#32
  let v341 : BitVec 32 := Scalar.muli v331 c512_i32_121
  let v342 : BitVec 32 := v341
  let v373 : Index := Scalar.indexCast v342
  let c0_134 : Index := 0#32
  ![0, v373.toNat, 0]
def k0_mult4 (i : grid0.Coords) (k0_t1 : Fin (k0_t1_loop i).trips) : BitVec 32 :=
  let c2_i32_113 : BitVec 32 := 2#32
  let c0_i32_98 : BitVec 32 := 0#32
  let c1_i32_100 : BitVec 32 := 1#32
  let arg9 : BitVec 32 := Scf.iv c0_i32_98 c1_i32_100 k0_t1
  let v331 : BitVec 32 := Scalar.muli c2_i32_113 arg9
  let c2_i32_138 : BitVec 32 := 2#32
  let v393 : BitVec 32 := Scalar.addi v331 c2_i32_138
  let c512_i32_139 : BitVec 32 := 512#32
  let v394 : BitVec 32 := Scalar.muli v393 c512_i32_139
  v394
def k0_mult5 (i : grid0.Coords) (k0_t1 : Fin (k0_t1_loop i).trips) : BitVec 32 :=
  let c2_i32_113 : BitVec 32 := 2#32
  let c0_i32_98 : BitVec 32 := 0#32
  let c1_i32_100 : BitVec 32 := 1#32
  let arg9 : BitVec 32 := Scf.iv c0_i32_98 c1_i32_100 k0_t1
  let v331 : BitVec 32 := Scalar.muli c2_i32_113 arg9
  let c1_i32_146 : BitVec 32 := 1#32
  let v403 : BitVec 32 := Scalar.addi v331 c1_i32_146
  let c512_i32_147 : BitVec 32 := 512#32
  let v404 : BitVec 32 := Scalar.muli v403 c512_i32_147
  v404
@[reducible] def k0_t2_loop (i : grid0.Coords) : Scf.Loop 32 :=
  let c0_i32_98 : BitVec 32 := 0#32
  let arg2 : BitVec 32 := BitVec.ofNat 32 (i 2).val
  let c0_i32_92 : BitVec 32 := 0#32
  let v288 : BitVec 1 := Scalar.cmpi .sgt arg2 c0_i32_92
  let v289 : BitVec 32 := Scalar.extui v288
  let c0_i32_93 : BitVec 32 := 0#32
  let v290 : BitVec 1 := Scalar.cmpi .slt arg2 c0_i32_93
  let v291 : BitVec 32 := Scalar.extui v290
  let v292 : BitVec 32 := Scalar.subi v289 v291
  let c2_i32_91 : BitVec 32 := 2#32
  let c0_i32_94 : BitVec 32 := 0#32
  let v293 : BitVec 1 := Scalar.cmpi .sgt c2_i32_91 c0_i32_94
  let v294 : BitVec 32 := Scalar.extui v293
  let c0_i32_95 : BitVec 32 := 0#32
  let v295 : BitVec 1 := Scalar.cmpi .slt c2_i32_91 c0_i32_95
  let v296 : BitVec 32 := Scalar.extui v295
  let v297 : BitVec 32 := Scalar.subi v294 v296
  let v298 : BitVec 1 := Scalar.cmpi .ne v292 v297
  let v299 : BitVec 32 := Scalar.remsi arg2 c2_i32_91
  let c0_i32_96 : BitVec 32 := 0#32
  let v300 : BitVec 1 := Scalar.cmpi .ne v299 c0_i32_96
  let v301 : BitVec 1 := Scalar.andi v298 v300
  let v287 : BitVec 32 := Scalar.divsi arg2 c2_i32_91
  let c1_i32_97 : BitVec 32 := 1#32
  let v302 : BitVec 32 := Scalar.subi v287 c1_i32_97
  let v303 : BitVec 32 := Scalar.select v301 v302 v287
  let v304 : BitVec 32 := Scalar.subi v303 c0_i32_98
  let c1_i32_99 : BitVec 32 := 1#32
  let v306 : BitVec 32 := Scalar.divsi v304 c1_i32_99
  let v307 : BitVec 32 := Scalar.muli v306 c1_i32_99
  let v308 : BitVec 32 := Scalar.addi c0_i32_98 v307
  let v305 : BitVec 32 := Scalar.addi c0_i32_98 v304
  let c1_i32_101 : BitVec 32 := 1#32
  ⟨v308, v305, c1_i32_101⟩
def k0_mult6 (i : grid0.Coords) (k0_t2 : Fin (k0_t2_loop i).trips) : BitVec 32 :=
  let c2_i32_113 : BitVec 32 := 2#32
  let c0_i32_98 : BitVec 32 := 0#32
  let arg2 : BitVec 32 := BitVec.ofNat 32 (i 2).val
  let c0_i32_92 : BitVec 32 := 0#32
  let v288 : BitVec 1 := Scalar.cmpi .sgt arg2 c0_i32_92
  let v289 : BitVec 32 := Scalar.extui v288
  let c0_i32_93 : BitVec 32 := 0#32
  let v290 : BitVec 1 := Scalar.cmpi .slt arg2 c0_i32_93
  let v291 : BitVec 32 := Scalar.extui v290
  let v292 : BitVec 32 := Scalar.subi v289 v291
  let c2_i32_91 : BitVec 32 := 2#32
  let c0_i32_94 : BitVec 32 := 0#32
  let v293 : BitVec 1 := Scalar.cmpi .sgt c2_i32_91 c0_i32_94
  let v294 : BitVec 32 := Scalar.extui v293
  let c0_i32_95 : BitVec 32 := 0#32
  let v295 : BitVec 1 := Scalar.cmpi .slt c2_i32_91 c0_i32_95
  let v296 : BitVec 32 := Scalar.extui v295
  let v297 : BitVec 32 := Scalar.subi v294 v296
  let v298 : BitVec 1 := Scalar.cmpi .ne v292 v297
  let v299 : BitVec 32 := Scalar.remsi arg2 c2_i32_91
  let c0_i32_96 : BitVec 32 := 0#32
  let v300 : BitVec 1 := Scalar.cmpi .ne v299 c0_i32_96
  let v301 : BitVec 1 := Scalar.andi v298 v300
  let v287 : BitVec 32 := Scalar.divsi arg2 c2_i32_91
  let c1_i32_97 : BitVec 32 := 1#32
  let v302 : BitVec 32 := Scalar.subi v287 c1_i32_97
  let v303 : BitVec 32 := Scalar.select v301 v302 v287
  let v304 : BitVec 32 := Scalar.subi v303 c0_i32_98
  let c1_i32_99 : BitVec 32 := 1#32
  let v306 : BitVec 32 := Scalar.divsi v304 c1_i32_99
  let v307 : BitVec 32 := Scalar.muli v306 c1_i32_99
  let v308 : BitVec 32 := Scalar.addi c0_i32_98 v307
  let c1_i32_101 : BitVec 32 := 1#32
  let arg9 : BitVec 32 := Scf.iv v308 c1_i32_101 k0_t2
  let v331 : BitVec 32 := Scalar.muli c2_i32_113 arg9
  let c1_i32_117 : BitVec 32 := 1#32
  let v334 : BitVec 32 := Scalar.addi v331 c1_i32_117
  let c512_i32 : BitVec 32 := 512#32
  let v335 : BitVec 32 := Scalar.muli v334 c512_i32
  v335
def k0_off3 (i : grid0.Coords) (k0_t2 : Fin (k0_t2_loop i).trips) (c1_i32_117 : BitVec 32) : Fin 3 → Nat :=
  let c0_118 : Index := 0#32
  let c2_i32_113 : BitVec 32 := 2#32
  let c0_i32_98 : BitVec 32 := 0#32
  let arg2 : BitVec 32 := BitVec.ofNat 32 (i 2).val
  let c0_i32_92 : BitVec 32 := 0#32
  let v288 : BitVec 1 := Scalar.cmpi .sgt arg2 c0_i32_92
  let v289 : BitVec 32 := Scalar.extui v288
  let c0_i32_93 : BitVec 32 := 0#32
  let v290 : BitVec 1 := Scalar.cmpi .slt arg2 c0_i32_93
  let v291 : BitVec 32 := Scalar.extui v290
  let v292 : BitVec 32 := Scalar.subi v289 v291
  let c2_i32_91 : BitVec 32 := 2#32
  let c0_i32_94 : BitVec 32 := 0#32
  let v293 : BitVec 1 := Scalar.cmpi .sgt c2_i32_91 c0_i32_94
  let v294 : BitVec 32 := Scalar.extui v293
  let c0_i32_95 : BitVec 32 := 0#32
  let v295 : BitVec 1 := Scalar.cmpi .slt c2_i32_91 c0_i32_95
  let v296 : BitVec 32 := Scalar.extui v295
  let v297 : BitVec 32 := Scalar.subi v294 v296
  let v298 : BitVec 1 := Scalar.cmpi .ne v292 v297
  let v299 : BitVec 32 := Scalar.remsi arg2 c2_i32_91
  let c0_i32_96 : BitVec 32 := 0#32
  let v300 : BitVec 1 := Scalar.cmpi .ne v299 c0_i32_96
  let v301 : BitVec 1 := Scalar.andi v298 v300
  let v287 : BitVec 32 := Scalar.divsi arg2 c2_i32_91
  let c1_i32_97 : BitVec 32 := 1#32
  let v302 : BitVec 32 := Scalar.subi v287 c1_i32_97
  let v303 : BitVec 32 := Scalar.select v301 v302 v287
  let v304 : BitVec 32 := Scalar.subi v303 c0_i32_98
  let c1_i32_99 : BitVec 32 := 1#32
  let v306 : BitVec 32 := Scalar.divsi v304 c1_i32_99
  let v307 : BitVec 32 := Scalar.muli v306 c1_i32_99
  let v308 : BitVec 32 := Scalar.addi c0_i32_98 v307
  let c1_i32_101 : BitVec 32 := 1#32
  let arg9 : BitVec 32 := Scf.iv v308 c1_i32_101 k0_t2
  let v331 : BitVec 32 := Scalar.muli c2_i32_113 arg9
  let v334 : BitVec 32 := Scalar.addi v331 c1_i32_117
  let c512_i32 : BitVec 32 := 512#32
  let v335 : BitVec 32 := Scalar.muli v334 c512_i32
  let v336 : BitVec 32 := v335
  let v337 : Index := Scalar.indexCast v336
  let c0_119 : Index := 0#32
  ![0, v337.toNat, 0]
def k0_mult7 (i : grid0.Coords) (k0_t2 : Fin (k0_t2_loop i).trips) : BitVec 32 :=
  let c2_i32_113 : BitVec 32 := 2#32
  let c0_i32_98 : BitVec 32 := 0#32
  let arg2 : BitVec 32 := BitVec.ofNat 32 (i 2).val
  let c0_i32_92 : BitVec 32 := 0#32
  let v288 : BitVec 1 := Scalar.cmpi .sgt arg2 c0_i32_92
  let v289 : BitVec 32 := Scalar.extui v288
  let c0_i32_93 : BitVec 32 := 0#32
  let v290 : BitVec 1 := Scalar.cmpi .slt arg2 c0_i32_93
  let v291 : BitVec 32 := Scalar.extui v290
  let v292 : BitVec 32 := Scalar.subi v289 v291
  let c2_i32_91 : BitVec 32 := 2#32
  let c0_i32_94 : BitVec 32 := 0#32
  let v293 : BitVec 1 := Scalar.cmpi .sgt c2_i32_91 c0_i32_94
  let v294 : BitVec 32 := Scalar.extui v293
  let c0_i32_95 : BitVec 32 := 0#32
  let v295 : BitVec 1 := Scalar.cmpi .slt c2_i32_91 c0_i32_95
  let v296 : BitVec 32 := Scalar.extui v295
  let v297 : BitVec 32 := Scalar.subi v294 v296
  let v298 : BitVec 1 := Scalar.cmpi .ne v292 v297
  let v299 : BitVec 32 := Scalar.remsi arg2 c2_i32_91
  let c0_i32_96 : BitVec 32 := 0#32
  let v300 : BitVec 1 := Scalar.cmpi .ne v299 c0_i32_96
  let v301 : BitVec 1 := Scalar.andi v298 v300
  let v287 : BitVec 32 := Scalar.divsi arg2 c2_i32_91
  let c1_i32_97 : BitVec 32 := 1#32
  let v302 : BitVec 32 := Scalar.subi v287 c1_i32_97
  let v303 : BitVec 32 := Scalar.select v301 v302 v287
  let v304 : BitVec 32 := Scalar.subi v303 c0_i32_98
  let c1_i32_99 : BitVec 32 := 1#32
  let v306 : BitVec 32 := Scalar.divsi v304 c1_i32_99
  let v307 : BitVec 32 := Scalar.muli v306 c1_i32_99
  let v308 : BitVec 32 := Scalar.addi c0_i32_98 v307
  let c1_i32_101 : BitVec 32 := 1#32
  let arg9 : BitVec 32 := Scf.iv v308 c1_i32_101 k0_t2
  let v331 : BitVec 32 := Scalar.muli c2_i32_113 arg9
  let c512_i32_121 : BitVec 32 := 512#32
  let v341 : BitVec 32 := Scalar.muli v331 c512_i32_121
  v341
def k0_off4 (i : grid0.Coords) (k0_t2 : Fin (k0_t2_loop i).trips) : Fin 3 → Nat :=
  let c0_133 : Index := 0#32
  let c2_i32_113 : BitVec 32 := 2#32
  let c0_i32_98 : BitVec 32 := 0#32
  let arg2 : BitVec 32 := BitVec.ofNat 32 (i 2).val
  let c0_i32_92 : BitVec 32 := 0#32
  let v288 : BitVec 1 := Scalar.cmpi .sgt arg2 c0_i32_92
  let v289 : BitVec 32 := Scalar.extui v288
  let c0_i32_93 : BitVec 32 := 0#32
  let v290 : BitVec 1 := Scalar.cmpi .slt arg2 c0_i32_93
  let v291 : BitVec 32 := Scalar.extui v290
  let v292 : BitVec 32 := Scalar.subi v289 v291
  let c2_i32_91 : BitVec 32 := 2#32
  let c0_i32_94 : BitVec 32 := 0#32
  let v293 : BitVec 1 := Scalar.cmpi .sgt c2_i32_91 c0_i32_94
  let v294 : BitVec 32 := Scalar.extui v293
  let c0_i32_95 : BitVec 32 := 0#32
  let v295 : BitVec 1 := Scalar.cmpi .slt c2_i32_91 c0_i32_95
  let v296 : BitVec 32 := Scalar.extui v295
  let v297 : BitVec 32 := Scalar.subi v294 v296
  let v298 : BitVec 1 := Scalar.cmpi .ne v292 v297
  let v299 : BitVec 32 := Scalar.remsi arg2 c2_i32_91
  let c0_i32_96 : BitVec 32 := 0#32
  let v300 : BitVec 1 := Scalar.cmpi .ne v299 c0_i32_96
  let v301 : BitVec 1 := Scalar.andi v298 v300
  let v287 : BitVec 32 := Scalar.divsi arg2 c2_i32_91
  let c1_i32_97 : BitVec 32 := 1#32
  let v302 : BitVec 32 := Scalar.subi v287 c1_i32_97
  let v303 : BitVec 32 := Scalar.select v301 v302 v287
  let v304 : BitVec 32 := Scalar.subi v303 c0_i32_98
  let c1_i32_99 : BitVec 32 := 1#32
  let v306 : BitVec 32 := Scalar.divsi v304 c1_i32_99
  let v307 : BitVec 32 := Scalar.muli v306 c1_i32_99
  let v308 : BitVec 32 := Scalar.addi c0_i32_98 v307
  let c1_i32_101 : BitVec 32 := 1#32
  let arg9 : BitVec 32 := Scf.iv v308 c1_i32_101 k0_t2
  let v331 : BitVec 32 := Scalar.muli c2_i32_113 arg9
  let c512_i32_121 : BitVec 32 := 512#32
  let v341 : BitVec 32 := Scalar.muli v331 c512_i32_121
  let v342 : BitVec 32 := v341
  let v373 : Index := Scalar.indexCast v342
  let c0_134 : Index := 0#32
  ![0, v373.toNat, 0]
def k0_mult8 (i : grid0.Coords) (k0_t2 : Fin (k0_t2_loop i).trips) : BitVec 32 :=
  let c2_i32_113 : BitVec 32 := 2#32
  let c0_i32_98 : BitVec 32 := 0#32
  let arg2 : BitVec 32 := BitVec.ofNat 32 (i 2).val
  let c0_i32_92 : BitVec 32 := 0#32
  let v288 : BitVec 1 := Scalar.cmpi .sgt arg2 c0_i32_92
  let v289 : BitVec 32 := Scalar.extui v288
  let c0_i32_93 : BitVec 32 := 0#32
  let v290 : BitVec 1 := Scalar.cmpi .slt arg2 c0_i32_93
  let v291 : BitVec 32 := Scalar.extui v290
  let v292 : BitVec 32 := Scalar.subi v289 v291
  let c2_i32_91 : BitVec 32 := 2#32
  let c0_i32_94 : BitVec 32 := 0#32
  let v293 : BitVec 1 := Scalar.cmpi .sgt c2_i32_91 c0_i32_94
  let v294 : BitVec 32 := Scalar.extui v293
  let c0_i32_95 : BitVec 32 := 0#32
  let v295 : BitVec 1 := Scalar.cmpi .slt c2_i32_91 c0_i32_95
  let v296 : BitVec 32 := Scalar.extui v295
  let v297 : BitVec 32 := Scalar.subi v294 v296
  let v298 : BitVec 1 := Scalar.cmpi .ne v292 v297
  let v299 : BitVec 32 := Scalar.remsi arg2 c2_i32_91
  let c0_i32_96 : BitVec 32 := 0#32
  let v300 : BitVec 1 := Scalar.cmpi .ne v299 c0_i32_96
  let v301 : BitVec 1 := Scalar.andi v298 v300
  let v287 : BitVec 32 := Scalar.divsi arg2 c2_i32_91
  let c1_i32_97 : BitVec 32 := 1#32
  let v302 : BitVec 32 := Scalar.subi v287 c1_i32_97
  let v303 : BitVec 32 := Scalar.select v301 v302 v287
  let v304 : BitVec 32 := Scalar.subi v303 c0_i32_98
  let c1_i32_99 : BitVec 32 := 1#32
  let v306 : BitVec 32 := Scalar.divsi v304 c1_i32_99
  let v307 : BitVec 32 := Scalar.muli v306 c1_i32_99
  let v308 : BitVec 32 := Scalar.addi c0_i32_98 v307
  let c1_i32_101 : BitVec 32 := 1#32
  let arg9 : BitVec 32 := Scf.iv v308 c1_i32_101 k0_t2
  let v331 : BitVec 32 := Scalar.muli c2_i32_113 arg9
  let c2_i32_138 : BitVec 32 := 2#32
  let v393 : BitVec 32 := Scalar.addi v331 c2_i32_138
  let c512_i32_139 : BitVec 32 := 512#32
  let v394 : BitVec 32 := Scalar.muli v393 c512_i32_139
  v394
def k0_mult9 (i : grid0.Coords) (k0_t2 : Fin (k0_t2_loop i).trips) : BitVec 32 :=
  let c2_i32_113 : BitVec 32 := 2#32
  let c0_i32_98 : BitVec 32 := 0#32
  let arg2 : BitVec 32 := BitVec.ofNat 32 (i 2).val
  let c0_i32_92 : BitVec 32 := 0#32
  let v288 : BitVec 1 := Scalar.cmpi .sgt arg2 c0_i32_92
  let v289 : BitVec 32 := Scalar.extui v288
  let c0_i32_93 : BitVec 32 := 0#32
  let v290 : BitVec 1 := Scalar.cmpi .slt arg2 c0_i32_93
  let v291 : BitVec 32 := Scalar.extui v290
  let v292 : BitVec 32 := Scalar.subi v289 v291
  let c2_i32_91 : BitVec 32 := 2#32
  let c0_i32_94 : BitVec 32 := 0#32
  let v293 : BitVec 1 := Scalar.cmpi .sgt c2_i32_91 c0_i32_94
  let v294 : BitVec 32 := Scalar.extui v293
  let c0_i32_95 : BitVec 32 := 0#32
  let v295 : BitVec 1 := Scalar.cmpi .slt c2_i32_91 c0_i32_95
  let v296 : BitVec 32 := Scalar.extui v295
  let v297 : BitVec 32 := Scalar.subi v294 v296
  let v298 : BitVec 1 := Scalar.cmpi .ne v292 v297
  let v299 : BitVec 32 := Scalar.remsi arg2 c2_i32_91
  let c0_i32_96 : BitVec 32 := 0#32
  let v300 : BitVec 1 := Scalar.cmpi .ne v299 c0_i32_96
  let v301 : BitVec 1 := Scalar.andi v298 v300
  let v287 : BitVec 32 := Scalar.divsi arg2 c2_i32_91
  let c1_i32_97 : BitVec 32 := 1#32
  let v302 : BitVec 32 := Scalar.subi v287 c1_i32_97
  let v303 : BitVec 32 := Scalar.select v301 v302 v287
  let v304 : BitVec 32 := Scalar.subi v303 c0_i32_98
  let c1_i32_99 : BitVec 32 := 1#32
  let v306 : BitVec 32 := Scalar.divsi v304 c1_i32_99
  let v307 : BitVec 32 := Scalar.muli v306 c1_i32_99
  let v308 : BitVec 32 := Scalar.addi c0_i32_98 v307
  let c1_i32_101 : BitVec 32 := 1#32
  let arg9 : BitVec 32 := Scf.iv v308 c1_i32_101 k0_t2
  let v331 : BitVec 32 := Scalar.muli c2_i32_113 arg9
  let c1_i32_146 : BitVec 32 := 1#32
  let v403 : BitVec 32 := Scalar.addi v331 c1_i32_146
  let c512_i32_147 : BitVec 32 := 512#32
  let v404 : BitVec 32 := Scalar.muli v403 c512_i32_147
  v404
def k0_cond2 (i : grid0.Coords) : BitVec 1 :=
  let arg2 : BitVec 32 := BitVec.ofNat 32 (i 2).val
  let c2_i32_102 : BitVec 32 := 2#32
  let c0_i32_103 : BitVec 32 := 0#32
  let v311 : BitVec 1 := Scalar.cmpi .eq c2_i32_102 c0_i32_103
  let c1_i32_104 : BitVec 32 := 1#32
  let v312 : BitVec 32 := Scalar.select v311 c1_i32_104 c2_i32_102
  let v313 : BitVec 32 := Scalar.remsi arg2 v312
  let c0_i32_106 : BitVec 32 := 0#32
  let v315 : BitVec 1 := Scalar.cmpi .slt v313 c0_i32_106
  let c0_i32_107 : BitVec 32 := 0#32
  let v316 : BitVec 1 := Scalar.cmpi .slt v312 c0_i32_107
  let v317 : BitVec 1 := Scalar.xori v315 v316
  let c0_i32_105 : BitVec 32 := 0#32
  let v314 : BitVec 1 := Scalar.cmpi .ne v313 c0_i32_105
  let v318 : BitVec 1 := Scalar.andi v317 v314
  let v319 : BitVec 32 := Scalar.addi v313 v312
  let v320 : BitVec 32 := Scalar.select v318 v319 v313
  let c1_i32_108 : BitVec 32 := 1#32
  let v321 : BitVec 1 := Scalar.cmpi .eq v320 c1_i32_108
  let v322 : BitVec 32 := Scalar.extui v321
  let c0_i32_109 : BitVec 32 := 0#32
  let v323 : BitVec 1 := Scalar.cmpi .ne v322 c0_i32_109
  v323

def k0_mult10 (i : grid0.Coords) : BitVec 32 :=
  let arg2 : BitVec 32 := BitVec.ofNat 32 (i 2).val
  let c512_i32 : BitVec 32 := 512#32
  let v331 : BitVec 32 := Scalar.muli arg2 c512_i32
  v331
def k0_off5 (i : grid0.Coords) : Fin 3 → Nat :=
  let c0_113 : Index := 0#32
  let arg2 : BitVec 32 := BitVec.ofNat 32 (i 2).val
  let c512_i32 : BitVec 32 := 512#32
  let v331 : BitVec 32 := Scalar.muli arg2 c512_i32
  let v332 : BitVec 32 := v331
  let v333 : Index := Scalar.indexCast v332
  let c0_114 : Index := 0#32
  ![0, v333.toNat, 0]
def k0_mult11 (i : grid0.Coords) : BitVec 32 :=
  let arg2 : BitVec 32 := BitVec.ofNat 32 (i 2).val
  let c1_i32_116 : BitVec 32 := 1#32
  let v337 : BitVec 32 := Scalar.subi arg2 c1_i32_116
  let c512_i32_120 : BitVec 32 := 512#32
  let v340 : BitVec 32 := Scalar.muli v337 c512_i32_120
  v340
def k0_off6 (i : grid0.Coords) : Fin 3 → Nat :=
  let c0_132 : Index := 0#32
  let arg2 : BitVec 32 := BitVec.ofNat 32 (i 2).val
  let c1_i32_116 : BitVec 32 := 1#32
  let v337 : BitVec 32 := Scalar.subi arg2 c1_i32_116
  let c512_i32_120 : BitVec 32 := 512#32
  let v340 : BitVec 32 := Scalar.muli v337 c512_i32_120
  let v341 : BitVec 32 := v340
  let v372 : Index := Scalar.indexCast v341
  let c0_133 : Index := 0#32
  ![0, v372.toNat, 0]
def k0_mult12 (i : grid0.Coords) : BitVec 32 :=
  let arg2 : BitVec 32 := BitVec.ofNat 32 (i 2).val
  let c512_i32_137 : BitVec 32 := 512#32
  let v392 : BitVec 32 := Scalar.muli arg2 c512_i32_137
  v392
def k0_mult13 (i : grid0.Coords) : BitVec 32 :=
  let arg2 : BitVec 32 := BitVec.ofNat 32 (i 2).val
  let c512_i32 : BitVec 32 := 512#32
  let v333 : BitVec 32 := Scalar.muli arg2 c512_i32
  v333
def k0_off7 (i : grid0.Coords) : Fin 3 → Nat :=
  let c0_126 : Index := 0#32
  let arg2 : BitVec 32 := BitVec.ofNat 32 (i 2).val
  let c512_i32 : BitVec 32 := 512#32
  let v333 : BitVec 32 := Scalar.muli arg2 c512_i32
  let v334 : BitVec 32 := v333
  let v362 : Index := Scalar.indexCast v334
  let c0_127 : Index := 0#32
  ![0, v362.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "big" => some ⊤
  | "mask" => some ⊥
  | "qscale" => some (((Real.sqrt 128)⁻¹ * (Real.log 2)⁻¹ : ℝ) : EReal)
  | _ => none
-- ==== ReferenceIdeal.lean ====
abbrev S2x4096x1536 : Shape := ⟨3, ![2, 4096, 1536]⟩
abbrev S2x4096x7680 : Shape := ⟨3, ![2, 4096, 7680]⟩
abbrev S2x4096x12x128 : Shape := ⟨4, ![2, 4096, 12, 128]⟩
abbrev S2x12x4096x128 : Shape := ⟨4, ![2, 12, 4096, 128]⟩
abbrev S2x12x16x256x128 : Shape := ⟨5, ![2, 12, 16, 256, 128]⟩
abbrev S_ : Shape := ⟨0, ![]⟩
abbrev S2x12x16x128 : Shape := ⟨4, ![2, 12, 16, 128]⟩
abbrev S2x12x4096x16 : Shape := ⟨4, ![2, 12, 4096, 16]⟩
abbrev S4096 : Shape := ⟨1, ![4096]⟩
abbrev S16 : Shape := ⟨1, ![16]⟩
abbrev S1x16 : Shape := ⟨2, ![1, 16]⟩
abbrev S4096x1 : Shape := ⟨2, ![4096, 1]⟩
abbrev S4096x16 : Shape := ⟨2, ![4096, 16]⟩
abbrev S2x12x4096x3 : Shape := ⟨4, ![2, 12, 4096, 3]⟩
abbrev S1x1x4096x1 : Shape := ⟨4, ![1, 1, 4096, 1]⟩
abbrev S2x12x4096x3x1 : Shape := ⟨5, ![2, 12, 4096, 3, 1]⟩
abbrev S1x1x1x1x4096 : Shape := ⟨5, ![1, 1, 1, 1, 4096]⟩
abbrev S2x12x4096x3x4096 : Shape := ⟨5, ![2, 12, 4096, 3, 4096]⟩
abbrev S2x12x4096x4096 : Shape := ⟨4, ![2, 12, 4096, 4096]⟩
abbrev S1x4096 : Shape := ⟨2, ![1, 4096]⟩
abbrev S4096x4096 : Shape := ⟨2, ![4096, 4096]⟩
abbrev S1x1x4096x4096 : Shape := ⟨4, ![1, 1, 4096, 4096]⟩
abbrev S2x12x4096 : Shape := ⟨3, ![2, 12, 4096]⟩
abbrev S2x12x4096x1 : Shape := ⟨4, ![2, 12, 4096, 1]⟩

abbrev nBuf : Space → Nat
  | .hbm => 95
  | .vmem => 0
  | .smem => 0
  | _ => 0

abbrev bufTy : (tb : Table) → Fin (tcTables nBuf tb) → BufTy
  | .hbm, ⟨0, _⟩ => ⟨S2x4096x1536, .f32⟩
  | .hbm, ⟨1, _⟩ => ⟨S2x4096x1536, .f32⟩
  | .hbm, ⟨2, _⟩ => ⟨S2x4096x1536, .f32⟩
  | .hbm, ⟨3, _⟩ => ⟨S2x4096x7680, .f32⟩
  | .hbm, ⟨4, _⟩ => ⟨S2x4096x12x128, .f32⟩
  | .hbm, ⟨5, _⟩ => ⟨S2x12x4096x128, .f32⟩
  | .hbm, ⟨6, _⟩ => ⟨S2x4096x12x128, .f32⟩
  | .hbm, ⟨7, _⟩ => ⟨S2x12x4096x128, .f32⟩
  | .hbm, ⟨8, _⟩ => ⟨S2x4096x12x128, .f32⟩
  | .hbm, ⟨9, _⟩ => ⟨S2x12x4096x128, .f32⟩
  | .hbm, ⟨10, _⟩ => ⟨S2x12x16x256x128, .f32⟩
  | .hbm, ⟨11, _⟩ => ⟨S_, .f32⟩
  | .hbm, ⟨12, _⟩ => ⟨S2x12x16x128, .f32⟩
  | .hbm, ⟨13, _⟩ => ⟨S_, .f32⟩
  | .hbm, ⟨14, _⟩ => ⟨S2x12x16x128, .f32⟩
  | .hbm, ⟨15, _⟩ => ⟨S2x12x16x128, .f32⟩
  | .hbm, ⟨16, _⟩ => ⟨S2x12x4096x16, .f32⟩
  | .hbm, ⟨17, _⟩ => ⟨S4096, .i32⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S16, .i32⟩
  | .hbm, ⟨22, _⟩ => ⟨S1x16, .i32⟩
  | .hbm, ⟨23, _⟩ => ⟨S4096x1, .i32⟩
  | .hbm, ⟨24, _⟩ => ⟨S4096x16, .i32⟩
  | .hbm, ⟨25, _⟩ => ⟨S4096x16, .i32⟩
  | .hbm, ⟨26, _⟩ => ⟨S4096x16, .i1⟩
  | .hbm, ⟨27, _⟩ => ⟨S_, .f32⟩
  | .hbm, ⟨28, _⟩ => ⟨S_, .f32⟩
  | .hbm, ⟨29, _⟩ => ⟨S2x12x4096x16, .i1⟩
  | .hbm, ⟨30, _⟩ => ⟨S2x12x4096x16, .f32⟩
  | .hbm, ⟨31, _⟩ => ⟨S2x12x4096x16, .f32⟩
  | .hbm, ⟨32, _⟩ => ⟨S2x12x4096x3, .f32⟩
  | .hbm, ⟨33, _⟩ => ⟨S2x12x4096x3, .i32⟩
  | .hbm, ⟨34, _⟩ => ⟨S1x1x4096x1, .i32⟩
  | .hbm, ⟨35, _⟩ => ⟨S2x12x4096x3, .i32⟩
  | .hbm, ⟨36, _⟩ => ⟨S2x12x4096x3, .i1⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S2x12x4096x3x1, .i32⟩
  | .hbm, ⟨42, _⟩ => ⟨S1x1x1x1x4096, .i32⟩
  | .hbm, ⟨43, _⟩ => ⟨S2x12x4096x3x4096, .i32⟩
  | .hbm, ⟨44, _⟩ => ⟨S2x12x4096x3x4096, .i32⟩
  | .hbm, ⟨45, _⟩ => ⟨S2x12x4096x3x4096, .i1⟩
  | .hbm, ⟨46, _⟩ => ⟨S2x12x4096x3x1, .i1⟩
  | .hbm, ⟨47, _⟩ => ⟨S2x12x4096x3x4096, .i1⟩
  | .hbm, ⟨48, _⟩ => ⟨S2x12x4096x3x4096, .i1⟩
  | .hbm, ⟨49, _⟩ => ⟨S_, .i1⟩
  | .hbm, ⟨50, _⟩ => ⟨S2x12x4096x4096, .i1⟩
  | .hbm, ⟨51, _⟩ => ⟨S1x4096, .i32⟩
  | .hbm, ⟨52, _⟩ => ⟨S4096x1, .i32⟩
  | .hbm, ⟨53, _⟩ => ⟨S4096x4096, .i32⟩
  | .hbm, ⟨54, _⟩ => ⟨S4096x4096, .i32⟩
  | .hbm, ⟨55, _⟩ => ⟨S4096x4096, .i1⟩
  | .hbm, ⟨56, _⟩ => ⟨S4096, .i32⟩
  | .hbm, ⟨57, _⟩ => ⟨S1x4096, .i32⟩
  | .hbm, ⟨58, _⟩ => ⟨S4096, .i32⟩
  | .hbm, ⟨59, _⟩ => ⟨S4096x1, .i32⟩
  | .hbm, ⟨60, _⟩ => ⟨S4096x4096, .i32⟩
  | .hbm, ⟨61, _⟩ => ⟨S4096x4096, .i32⟩
  | .hbm, ⟨62, _⟩ => ⟨S4096x4096, .i1⟩
  | .hbm, ⟨63, _⟩ => ⟨S4096x4096, .i1⟩
  | .hbm, ⟨64, _⟩ => ⟨S2x12x4096x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S2x12x4096x4096, .f32⟩
  | .hbm, ⟨69, _⟩ => ⟨S2x12x4096x4096, .f32⟩
  | .hbm, ⟨70, _⟩ => ⟨S1x1x4096x4096, .i1⟩
  | .hbm, ⟨71, _⟩ => ⟨S2x12x4096x4096, .i1⟩
  | .hbm, ⟨72, _⟩ => ⟨S2x12x4096x4096, .i1⟩
  | .hbm, ⟨73, _⟩ => ⟨S_, .f32⟩
  | .hbm, ⟨74, _⟩ => ⟨S_, .f32⟩
  | .hbm, ⟨75, _⟩ => ⟨S2x12x4096x4096, .f32⟩
  | .hbm, ⟨76, _⟩ => ⟨S2x12x4096x4096, .f32⟩
  | .hbm, ⟨77, _⟩ => ⟨S_, .f32⟩
  | .hbm, ⟨78, _⟩ => ⟨S2x12x4096, .f32⟩
  | .hbm, ⟨79, _⟩ => ⟨S_, .f32⟩
  | .hbm, ⟨80, _⟩ => ⟨S2x12x4096, .f32⟩
  | .hbm, ⟨81, _⟩ => ⟨S2x12x4096, .f32⟩
  | .hbm, ⟨82, _⟩ => ⟨S2x12x4096x1, .f32⟩
  | .hbm, ⟨83, _⟩ => ⟨S2x12x4096x4096, .f32⟩
  | .hbm, ⟨84, _⟩ => ⟨S2x12x4096x4096, .f32⟩
  | .hbm, ⟨85, _⟩ => ⟨S2x12x4096x4096, .f32⟩
  | .hbm, ⟨86, _⟩ => ⟨S_, .f32⟩
  | .hbm, ⟨87, _⟩ => ⟨S2x12x4096, .f32⟩
  | .hbm, ⟨88, _⟩ => ⟨S2x12x4096x1, .f32⟩
  | .hbm, ⟨89, _⟩ => ⟨S2x12x4096x4096, .f32⟩
  | .hbm, ⟨90, _⟩ => ⟨S2x12x4096x4096, .f32⟩
  | .hbm, ⟨91, _⟩ => ⟨S2x12x4096x128, .f32⟩
  | .hbm, ⟨92, _⟩ => ⟨S2x4096x12x128, .f32⟩
  | .hbm, ⟨93, _⟩ => ⟨S2x4096x1536, .f32⟩
  | .hbm, ⟨94, _⟩ => ⟨S2x4096x1536, .bf16⟩
  | _, _ => ⟨S2x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v20 : Ref sig .tc := ⟨.hbm, 31, rfl⟩
abbrev main_values : Ref sig .tc := ⟨.hbm, 32, rfl⟩
abbrev main_indices : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_3 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_5 : Ref sig .tc := ⟨.hbm, 73, rfl⟩
abbrev main_call1_v0 : Ref sig .tc := ⟨.hbm, 74, rfl⟩
abbrev main_call1_v1 : Ref sig .tc := ⟨.hbm, 75, rfl⟩
abbrev main_v57 : Ref sig .tc := ⟨.hbm, 76, rfl⟩
abbrev main_cst_6 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_8 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== PrepW.lean ====
abbrev S2x4096x12300 : Shape := ⟨3, ![2, 4096, 12300]⟩
abbrev S12300x2x4096 : Shape := ⟨3, ![12300, 2, 4096]⟩
abbrev S12544x4096 : Shape := ⟨2, ![12544, 4096]⟩
abbrev S256x2x4096 : Shape := ⟨3, ![256, 2, 4096]⟩
abbrev S256x4096 : Shape := ⟨2, ![256, 4096]⟩
abbrev S256x1 : Shape := ⟨2, ![256, 1]⟩
abbrev S256x1x4096 : Shape := ⟨3, ![256, 1, 4096]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x12300, .f32⟩
  | .hbm, ⟨1, _⟩ => ⟨S12300x2x4096, .f32⟩
  | .hbm, ⟨2, _⟩ => ⟨S12544x4096, .bf16⟩
  | .hbm, ⟨3, _⟩ => ⟨S12544x4096, .bf16⟩
  | .local _ .vmem, ⟨0, _⟩ => ⟨S256x2x4096, .f32⟩
  | .local _ .vmem, ⟨1, _⟩ => ⟨S256x2x4096, .f32⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | _, _ => ⟨S2x4096x12300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![49], ![false]⟩

def cc0_transform_0 (i : grid0.Coords) : Fin 3 → Nat :=
  let arg0 : BitVec 32 := BitVec.ofNat 32 (i 0).val
  let c36_i32 : BitVec 32 := 36#32
  let v0 : BitVec 1 := Scalar.cmpi .sge arg0 c36_i32
  let c256_i32 : BitVec 32 := 256#32
  let v1 : BitVec 32 := Scalar.muli arg0 c256_i32
  let c12_i32 : BitVec 32 := 12#32
  let v2 : BitVec 32 := Scalar.addi v1 c12_i32
  let c256_i32_0 : BitVec 32 := 256#32
  let v3 : BitVec 32 := Scalar.muli arg0 c256_i32_0
  let v4 : BitVec 32 := Scalar.select v0 v2 v3
  let c48_i32 : BitVec 32 := 48#32
  let v5 : BitVec 1 := Scalar.cmpi .sge arg0 c48_i32
  let c9216_i32 : BitVec 32 := 9216#32
  let v6 : BitVec 32 := Scalar.select v5 c9216_i32 v4
  let c0_i32 : BitVec 32 := 0#32
  let c0_i32_1 : BitVec 32 := 0#32
  let c0_i32_2 : BitVec 32 := 0#32
  ![v6.toNat, c0_i32.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PrepWRef.lean ====
abbrev S2x4096x12300 : Shape := ⟨3, ![2, 4096, 12300]⟩
abbrev S2x12300x4096 : Shape := ⟨3, ![2, 12300, 4096]⟩
abbrev S2x9216x4096 : Shape := ⟨3, ![2, 9216, 4096]⟩
abbrev S2x3072x4096 : Shape := ⟨3, ![2, 3072, 4096]⟩
abbrev S2x12x4096 : Shape := ⟨3, ![2, 12, 4096]⟩
abbrev S_ : Shape := ⟨0, ![]⟩
abbrev S2x244x4096 : Shape := ⟨3, ![2, 244, 4096]⟩
abbrev S2x12544x4096 : Shape := ⟨3, ![2, 12544, 4096]⟩
abbrev S1x12544x4096 : Shape := ⟨3, ![1, 12544, 4096]⟩
abbrev S12544x4096 : Shape := ⟨2, ![12544, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x12300, .f32⟩
  | .hbm, ⟨1, _⟩ => ⟨S2x12300x4096, .f32⟩
  | .hbm, ⟨2, _⟩ => ⟨S2x9216x4096, .f32⟩
  | .hbm, ⟨3, _⟩ => ⟨S2x3072x4096, .f32⟩
  | .hbm, ⟨4, _⟩ => ⟨S2x12x4096, .f32⟩
  | .hbm, ⟨5, _⟩ => ⟨S_, .f32⟩
  | .hbm, ⟨6, _⟩ => ⟨S2x244x4096, .f32⟩
  | .hbm, ⟨7, _⟩ => ⟨S2x12544x4096, .f32⟩
  | .hbm, ⟨8, _⟩ => ⟨S2x12544x4096, .bf16⟩
  | .hbm, ⟨9, _⟩ => ⟨S1x12544x4096, .bf16⟩
  | .hbm, ⟨10, _⟩ => ⟨S12544x4096, .bf16⟩
  | .hbm, ⟨11, _⟩ => ⟨S1x12544x4096, .bf16⟩
  | .hbm, ⟨12, _⟩ => ⟨S12544x4096, .bf16⟩
  | _, _ => ⟨S2x4096x12300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== InProj.lean ====
abbrev S2x4096x4096 : Shape := ⟨3, ![2, 4096, 4096]⟩
abbrev S4096x12300 : Shape := ⟨2, ![4096, 12300]⟩
abbrev S128 : Shape := ⟨1, ![128]⟩
abbrev S4096x64 : Shape := ⟨2, ![4096, 64]⟩
abbrev S4096x9216 : Shape := ⟨2, ![4096, 9216]⟩
abbrev S4096x3072 : Shape := ⟨2, ![4096, 3072]⟩
abbrev S4096x12 : Shape := ⟨2, ![4096, 12]⟩
abbrev S_ : Shape := ⟨0, ![]⟩
abbrev S4096x244 : Shape := ⟨2, ![4096, 244]⟩
abbrev S4096x12544 : Shape := ⟨2, ![4096, 12544]⟩
abbrev S12x128 : Shape := ⟨2, ![12, 128]⟩
abbrev S1536 : Shape := ⟨1, ![1536]⟩
abbrev S8x128 : Shape := ⟨2, ![8, 128]⟩
abbrev S1024 : Shape := ⟨1, ![1024]⟩
abbrev S12288 : Shape := ⟨1, ![12288]⟩
abbrev S8192x4096 : Shape := ⟨2, ![8192, 4096]⟩
abbrev S12544x4096 : Shape := ⟨2, ![12544, 4096]⟩
abbrev S1x12288 : Shape := ⟨2, ![1, 12288]⟩
abbrev S4096x128 : Shape := ⟨2, ![4096, 128]⟩
abbrev S8192x12288 : Shape := ⟨2, ![8192, 12288]⟩
abbrev S1024x4096 : Shape := ⟨2, ![1024, 4096]⟩
abbrev S1x1024 : Shape := ⟨2, ![1, 1024]⟩
abbrev S1024x128 : Shape := ⟨2, ![1024, 128]⟩
abbrev S1024x1024 : Shape := ⟨2, ![1024, 1024]⟩
abbrev S1024x512 : Shape := ⟨2, ![1024, 512]⟩
abbrev S512x4096 : Shape := ⟨2, ![512, 4096]⟩
abbrev S1x128 : Shape := ⟨2, ![1, 128]⟩
abbrev S1024x1 : Shape := ⟨2, ![1024, 1]⟩

abbrev nBuf : Space → Nat
  | .hbm => 44
  | .vmem => 13
  | .smem => 0
  | _ => 0

abbrev bufTy : (tb : Table) → Fin (tcTables nBuf tb) → BufTy
  | .hbm, ⟨0, _⟩ => ⟨S2x4096x4096, .f32⟩
  | .hbm, ⟨1, _⟩ => ⟨S4096x12300, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S4096x64, .f32⟩
  | .hbm, ⟨9, _⟩ => ⟨S4096x64, .f32⟩
  | .hbm, ⟨10, _⟩ => ⟨S4096x9216, .f32⟩
  | .hbm, ⟨11, _⟩ => ⟨S4096x3072, .f32⟩
  | .hbm, ⟨12, _⟩ => ⟨S4096x12, .f32⟩
  | .hbm, ⟨13, _⟩ => ⟨S_, .f32⟩
  | .hbm, ⟨14, _⟩ => ⟨S4096x244, .f32⟩
  | .hbm, ⟨15, _⟩ => ⟨S4096x12544, .f32⟩
  | .hbm, ⟨16, _⟩ => ⟨S12x128, .f32⟩
  | .hbm, ⟨17, _⟩ => ⟨S1536, .f32⟩
  | .hbm, ⟨18, _⟩ => ⟨S12x128, .f32⟩
  | .hbm, ⟨19, _⟩ => ⟨S1536, .f32⟩
  | .hbm, ⟨20, _⟩ => ⟨S_, .f32⟩
  | .hbm, ⟨21, _⟩ => ⟨S1536, .f32⟩
  | .hbm, ⟨22, _⟩ => ⟨S12x128, .f32⟩
  | .hbm, ⟨23, _⟩ => ⟨S1536, .f32⟩
  | .hbm, ⟨24, _⟩ => ⟨S12x128, .f32⟩
  | .hbm, ⟨25, _⟩ => ⟨S1536, .f32⟩
  | .hbm, ⟨26, _⟩ => ⟨S_, .f32⟩
  | .hbm, ⟨27, _⟩ => ⟨S1536, .f32⟩
  | .hbm, ⟨28, _⟩ => ⟨S8x128, .f32⟩
  | .hbm, ⟨29, _⟩ => ⟨S1024, .f32⟩
  | .hbm, ⟨30, _⟩ => ⟨S8x128, .f32⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S12288, .f32⟩
  | .hbm, ⟨35, _⟩ => ⟨S8192x4096, .f32⟩
  | .hbm, ⟨36, _⟩ => ⟨S8192x4096, .bf16⟩
  | .hbm, ⟨37, _⟩ => ⟨S12544x4096, .f32⟩
  | .hbm, ⟨38, _⟩ => ⟨S12544x4096, .bf16⟩
  | .hbm, ⟨39, _⟩ => ⟨S1x12288, .f32⟩
  | .hbm, ⟨40, _⟩ => ⟨S4096x128, .f32⟩
  | .hbm, ⟨41, _⟩ => ⟨S4096x64, .f32⟩
  | .hbm, ⟨42, _⟩ => ⟨S4096x128, .f32⟩
  | .hbm, ⟨43, _⟩ => ⟨S8192x12288, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c0_i32_0 : BitVec 32 := 0#32
  let v2 : BitVec 1 := Scalar.cmpi .sge v1 c0_i32_0
  let c6_i32 : BitVec 32 := 6#32
  let v3 : BitVec 1 := Scalar.cmpi .slt v1 c6_i32
  let v4 : BitVec 1 := Scalar.andi v2 v3
  let c18_i32 : BitVec 32 := 18#32
  let v5 : BitVec 1 := Scalar.cmpi .sge v1 c18_i32
  let c22_i32 : BitVec 32 := 22#32
  let v6 : BitVec 1 := Scalar.cmpi .slt v1 c22_i32
  let v7 : BitVec 1 := Scalar.andi v5 v6
  let v8 : BitVec 1 := Scalar.ori v4 v7
  let c9_i32 : BitVec 32 := 9#32
  let v9 : BitVec 1 := Scalar.cmpi .sge v1 c9_i32
  let c15_i32 : BitVec 32 := 15#32
  let v10 : BitVec 1 := Scalar.cmpi .slt v1 c15_i32
  let v11 : BitVec 1 := Scalar.andi v9 v10
  let v12 : BitVec 1 := Scalar.ori v8 v11
  let v_true : BitVec 1 := 1#1
  let v13 : BitVec 1 := Scalar.xori v12 v_true
  let v14 : BitVec 32 := Scalar.extui v13
  let c0_i32_1 : BitVec 32 := 0#32
  let v15 : BitVec 1 := Scalar.cmpi .ne v14 c0_i32_1
  v15

def k0_cond2 (i : grid0.Coords) : BitVec 1 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c9_i32 : BitVec 32 := 9#32
  let v9 : BitVec 1 := Scalar.cmpi .sge v1 c9_i32
  let c15_i32 : BitVec 32 := 15#32
  let v10 : BitVec 1 := Scalar.cmpi .slt v1 c15_i32
  let v11 : BitVec 1 := Scalar.andi v9 v10
  let v16 : BitVec 32 := Scalar.extui v11
  let c0_i32_2 : BitVec 32 := 0#32
  let v17 : BitVec 1 := Scalar.cmpi .ne v16 c0_i32_2
  v17

def k0_cond4 (i : grid0.Coords) : BitVec 1 :=
  let c2_i32 : BitVec 32 := 2#32
  let arg1 : BitVec 32 := BitVec.ofNat 32 (i 1).val
  let v0 : BitVec 32 := Scalar.muli c2_i32 arg1
  let c0_i32 : BitVec 32 := 0#32
  let v1 : BitVec 32 := Scalar.addi v0 c0_i32
  let c0_i32_0 : BitVec 32 := 0#32
  let v2 : BitVec 1 := Scalar.cmpi .sge v1 c0_i32_0
  let c6_i32 : BitVec 32 := 6#32
  let v3 : BitVec 1 := Scalar.cmpi .slt v1 c6_i32
  let v4 : BitVec 1 := Scalar.andi v2 v3
  let c18_i32 : BitVec 32 := 18#32
  let v5 : BitVec 1 := Scalar.cmpi .sge v1 c18_i32
  let c22_i32 : BitVec 32 := 22#32
  let v6 : BitVec 1 := Scalar.cmpi .slt v1 c22_i32
  let v7 : BitVec 1 := Scalar.andi v5 v6
  let v8 : BitVec 1 := Scalar.ori v4 v7
  let v20 : BitVec 32 := Scalar.extui v8
  let c0_i32_4 : BitVec 32 := 0#32
  let v21 : BitVec 1 := Scalar.cmpi .ne v20 c0_i32_4
  v21

def k0_cond5 (i : grid0.Coords) : BitVec 1 :=
  let c2_i32_5 : BitVec 32 := 2#32
  let arg1 : BitVec 32 := BitVec.ofNat 32 (i 1).val
  let v22 : BitVec 32 := Scalar.muli c2_i32_5 arg1
  let c1_i32 : BitVec 32 := 1#32
  let v23 : BitVec 32 := Scalar.addi v22 c1_i32
  let c0_i32_6 : BitVec 32 := 0#32
  let v24 : BitVec 1 := Scalar.cmpi .sge v23 c0_i32_6
  let c6_i32_7 : BitVec 32 := 6#32
  let v25 : BitVec 1 := Scalar.cmpi .slt v23 c6_i32_7
  let v26 : BitVec 1 := Scalar.andi v24 v25
  let c18_i32_8 : BitVec 32 := 18#32
  let v27 : BitVec 1 := Scalar.cmpi .sge v23 c18_i32_8
  let c22_i32_9 : BitVec 32 := 22#32
  let v28 : BitVec 1 := Scalar.cmpi .slt v23 c22_i32_9
  let v29 : BitVec 1 := Scalar.andi v27 v28
  let v30 : BitVec 1 := Scalar.ori v26 v29
  let c9_i32_10 : BitVec 32 := 9#32
  let v31 : BitVec 1 := Scalar.cmpi .sge v23 c9_i32_10
  let c15_i32_11 : BitVec 32 := 15#32
  let v32 : BitVec 1 := Scalar.cmpi .slt v23 c15_i32_11
  let v33 : BitVec 1 := Scalar.andi v31 v32
  let v34 : BitVec 1 := Scalar.ori v30 v33
  let true_12 : BitVec 1 := 1#1
  let v35 : BitVec 1 := Scalar.xori v34 true_12
  let v36 : BitVec 32 := Scalar.extui v35
  let c0_i32_13 : BitVec 32 := 0#32
  let v37 : BitVec 1 := Scalar.cmpi .ne v36 c0_i32_13
  v37

def k0_cond6 (i : grid0.Coords) : BitVec 1 :=
  let c2_i32_5 : BitVec 32 := 2#32
  let arg1 : BitVec 32 := BitVec.ofNat 32 (i 1).val
  let v22 : BitVec 32 := Scalar.muli c2_i32_5 arg1
  let c1_i32 : BitVec 32 := 1#32
  let v23 : BitVec 32 := Scalar.addi v22 c1_i32
  let c9_i32_10 : BitVec 32 := 9#32
  let v31 : BitVec 1 := Scalar.cmpi .sge v23 c9_i32_10
  let c15_i32_11 : BitVec 32 := 15#32
  let v32 : BitVec 1 := Scalar.cmpi .slt v23 c15_i32_11
  let v33 : BitVec 1 := Scalar.andi v31 v32
  let v38 : BitVec 32 := Scalar.extui v33
  let c0_i32_14 : BitVec 32 := 0#32
  let v39 : BitVec 1 := Scalar.cmpi .ne v38 c0_i32_14
  v39

def k0_cond8 (i : grid0.Coords) : BitVec 1 :=
  let c2_i32_5 : BitVec 32 := 2#32
  let arg1 : BitVec 32 := BitVec.ofNat 32 (i 1).val
  let v22 : BitVec 32 := Scalar.muli c2_i32_5 arg1
  let c1_i32 : BitVec 32 := 1#32
  let v23 : BitVec 32 := Scalar.addi v22 c1_i32
  let c0_i32_6 : BitVec 32 := 0#32
  let v24 : BitVec 1 := Scalar.cmpi .sge v23 c0_i32_6
  let c6_i32_7 : BitVec 32 := 6#32
  let v25 : BitVec 1 := Scalar.cmpi .slt v23 c6_i32_7
  let v26 : BitVec 1 := Scalar.andi v24 v25
  let c18_i32_8 : BitVec 32 := 18#32
  let v27 : BitVec 1 := Scalar.cmpi .sge v23 c18_i32_8
  let c22_i32_9 : BitVec 32 := 22#32
  let v28 : BitVec 1 := Scalar.cmpi .slt v23 c22_i32_9
  let v29 : BitVec 1 := Scalar.andi v27 v28
  let v30 : BitVec 1 := Scalar.ori v26 v29
  let v42 : BitVec 32 := Scalar.extui v30
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S2x4096x4096 : Shape := ⟨3, ![2, 4096, 4096]⟩
abbrev S4096x12300 : Shape := ⟨2, ![4096, 12300]⟩
abbrev S128 : Shape := ⟨1, ![128]⟩
abbrev S4096x64 : Shape := ⟨2, ![4096, 64]⟩
abbrev S2x4096x12300 : Shape := ⟨3, ![2, 4096, 12300]⟩
abbrev S2x4096x1536 : Shape := ⟨3, ![2, 4096, 1536]⟩
abbrev S2x4096x12x128 : Shape := ⟨4, ![2, 4096, 12, 128]⟩
abbrev S_ : Shape := ⟨0, ![]⟩
abbrev S2x4096x12 : Shape := ⟨3, ![2, 4096, 12]⟩
abbrev S2x4096x12x1 : Shape := ⟨4, ![2, 4096, 12, 1]⟩
abbrev S1x1x1x128 : Shape := ⟨4, ![1, 1, 1, 128]⟩
abbrev S1x4096x1x64 : Shape := ⟨4, ![1, 4096, 1, 64]⟩
abbrev S2x4096x12x64 : Shape := ⟨4, ![2, 4096, 12, 64]⟩
abbrev S2x4096x1024 : Shape := ⟨3, ![2, 4096, 1024]⟩
abbrev S2x4096x8x128 : Shape := ⟨4, ![2, 4096, 8, 128]⟩
abbrev S2x4096x8 : Shape := ⟨3, ![2, 4096, 8]⟩
abbrev S2x4096x8x1 : Shape := ⟨4, ![2, 4096, 8, 1]⟩
abbrev S2x4096x8x64 : Shape := ⟨4, ![2, 4096, 8, 64]⟩
abbrev S8192x1536 : Shape := ⟨2, ![8192, 1536]⟩
abbrev S8192x1024 : Shape := ⟨2, ![8192, 1024]⟩
abbrev S8192x12288 : Shape := ⟨2, ![8192, 12288]⟩

abbrev nBuf : Space → Nat
  | .hbm => 193
  | .vmem => 0
  | .smem => 0
  | _ => 0

abbrev hbmTy0_0 (i : Nat) : BufTy := match i % 128 with
  | 0 => ⟨S2x4096x4096, .f32⟩
  | 1 => ⟨S4096x12300, .f32⟩
  | 2 => ⟨S128, .f32⟩
  | 3 => ⟨S128, .f32⟩
  | 4 => ⟨S128, .f32⟩
  | 5 => ⟨S128, .f32⟩
  | 6 => ⟨S128, .f32⟩
  | 7 => ⟨S128, .f32⟩
  | 8 => ⟨S4096x64, .f32⟩
  | 9 => ⟨S4096x64, .f32⟩
  | 10 => ⟨S2x4096x12300, .f32⟩
  | 11 => ⟨S2x4096x1536, .f32⟩
  | 12 => ⟨S2x4096x12x128, .f32⟩
  | 13 => ⟨S2x4096x12x128, .f32⟩
  | 14 => ⟨S_, .f32⟩
  | 15 => ⟨S2x4096x12, .f32⟩
  | 16 => ⟨S2x4096x12x1, .f32⟩
  | 17 => ⟨S_, .f32⟩
  | 18 => ⟨S2x4096x12x1, .f32⟩
  | 19 => ⟨S2x4096x12x1, .f32⟩
  | 20 => ⟨S_, .f32⟩
  | 21 => ⟨S2x4096x12x1, .f32⟩
  | 22 => ⟨S2x4096x12x1, .f32⟩
  | 23 => ⟨S2x4096x12x1, .f32⟩
  | 24 => ⟨S2x4096x12x128, .f32⟩
  | 25 => ⟨S2x4096x12x128, .f32⟩
  | 26 => ⟨S1x1x1x128, .f32⟩
  | 27 => ⟨S2x4096x12x128, .f32⟩
  | 28 => ⟨S2x4096x12x128, .f32⟩
  | 29 => ⟨S1x4096x1x64, .f32⟩
  | 30 => ⟨S1x4096x1x64, .f32⟩
  | 31 => ⟨S2x4096x12x64, .f32⟩
  | 32 => ⟨S2x4096x12x64, .f32⟩
  | 33 => ⟨S2x4096x12x64, .f32⟩
  | 34 => ⟨S2x4096x12x64, .f32⟩
  | 35 => ⟨S2x4096x12x64, .f32⟩
  | 36 => ⟨S2x4096x12x64, .f32⟩
  | 37 => ⟨S2x4096x12x64, .f32⟩
  | 38 => ⟨S2x4096x12x64, .f32⟩
  | 39 => ⟨S2x4096x12x64, .f32⟩
  | 40 => ⟨S2x4096x12x64, .f32⟩
  | 41 => ⟨S2x4096x12x64, .f32⟩
  | 42 => ⟨S2x4096x12x64, .f32⟩
  | 43 => ⟨S2x4096x12x128, .f32⟩
  | 44 => ⟨S2x4096x1536, .f32⟩
  | 45 => ⟨S2x4096x12x128, .f32⟩
  | 46 => ⟨S2x4096x12x128, .f32⟩
  | 47 => ⟨S_, .f32⟩
  | 48 => ⟨S2x4096x12, .f32⟩
  | 49 => ⟨S2x4096x12x1, .f32⟩
  | 50 => ⟨S_, .f32⟩
  | 51 => ⟨S2x4096x12x1, .f32⟩
  | 52 => ⟨S2x4096x12x1, .f32⟩
  | 53 => ⟨S_, .f32⟩
  | 54 => ⟨S2x4096x12x1, .f32⟩
  | 55 => ⟨S2x4096x12x1, .f32⟩
  | 56 => ⟨S2x4096x12x1, .f32⟩
  | 57 => ⟨S2x4096x12x128, .f32⟩
  | 58 => ⟨S2x4096x12x128, .f32⟩
  | 59 => ⟨S1x1x1x128, .f32⟩
  | 60 => ⟨S2x4096x12x128, .f32⟩
  | 61 => ⟨S2x4096x12x128, .f32⟩
  | 62 => ⟨S1x4096x1x64, .f32⟩
  | 63 => ⟨S1x4096x1x64, .f32⟩
  | 64 => ⟨S2x4096x12x64, .f32⟩
  | 65 => ⟨S2x4096x12x64, .f32⟩
  | 66 => ⟨S2x4096x12x64, .f32⟩
  | 67 => ⟨S2x4096x12x64, .f32⟩
  | 68 => ⟨S2x4096x12x64, .f32⟩
  | 69 => ⟨S2x4096x12x64, .f32⟩
  | 70 => ⟨S2x4096x12x64, .f32⟩
  | 71 => ⟨S2x4096x12x64, .f32⟩
  | 72 => ⟨S2x4096x12x64, .f32⟩
  | 73 => ⟨S2x4096x12x64, .f32⟩
  | 74 => ⟨S2x4096x12x64, .f32⟩
  | 75 => ⟨S2x4096x12x64, .f32⟩
  | 76 => ⟨S2x4096x12x128, .f32⟩
  | 77 => ⟨S2x4096x1536, .f32⟩
  | 78 => ⟨S2x4096x1536, .f32⟩
  | 79 => ⟨S2x4096x12x128, .f32⟩
  | 80 => ⟨S2x4096x12x128, .f32⟩
  | 81 => ⟨S_, .f32⟩
  | 82 => ⟨S2x4096x12, .f32⟩
  | 83 => ⟨S2x4096x12x1, .f32⟩
  | 84 => ⟨S_, .f32⟩
  | 85 => ⟨S2x4096x12x1, .f32⟩
  | 86 => ⟨S2x4096x12x1, .f32⟩
  | 87 => ⟨S_, .f32⟩
  | 88 => ⟨S2x4096x12x1, .f32⟩
  | 89 => ⟨S2x4096x12x1, .f32⟩
  | 90 => ⟨S2x4096x12x1, .f32⟩
  | 91 => ⟨S2x4096x12x128, .f32⟩
  | 92 => ⟨S2x4096x12x128, .f32⟩
  | 93 => ⟨S1x1x1x128, .f32⟩
  | 94 => ⟨S2x4096x12x128, .f32⟩
  | 95 => ⟨S2x4096x12x128, .f32⟩
  | 96 => ⟨S2x4096x1536, .f32⟩
  | 97 => ⟨S2x4096x12x128, .f32⟩
  | 98 => ⟨S2x4096x12x128, .f32⟩
  | 99 => ⟨S_, .f32⟩
  | 100 => ⟨S2x4096x12, .f32⟩
  | 101 => ⟨S2x4096x12x1, .f32⟩
  | 102 => ⟨S_, .f32⟩
  | 103 => ⟨S2x4096x12x1, .f32⟩
  | 104 => ⟨S2x4096x12x1, .f32⟩
  | 105 => ⟨S_, .f32⟩
  | 106 => ⟨S2x4096x12x1, .f32⟩
  | 107 => ⟨S2x4096x12x1, .f32⟩
  | 108 => ⟨S2x4096x12x1, .f32⟩
  | 109 => ⟨S2x4096x12x128, .f32⟩
  | 110 => ⟨S2x4096x12x128, .f32⟩
  | 111 => ⟨S1x1x1x128, .f32⟩
  | 112 => ⟨S2x4096x12x128, .f32⟩
  | 113 => ⟨S2x4096x12x128, .f32⟩
  | 114 => ⟨S2x4096x1536, .f32⟩
  | 115 => ⟨S2x4096x1024, .f32⟩
  | 116 => ⟨S2x4096x8x128, .f32⟩
  | 117 => ⟨S2x4096x8x128, .f32⟩
  | 118 => ⟨S_, .f32⟩
  | 119 => ⟨S2x4096x8, .f32⟩
  | 120 => ⟨S2x4096x8x1, .f32⟩
  | 121 => ⟨S_, .f32⟩
  | 122 => ⟨S2x4096x8x1, .f32⟩
  | 123 => ⟨S2x4096x8x1, .f32⟩
  | 124 => ⟨S_, .f32⟩
  | 125 => ⟨S2x4096x8x1, .f32⟩
  | 126 => ⟨S2x4096x8x1, .f32⟩
  | 127 => ⟨S2x4096x8x1, .f32⟩
  | _ => ⟨S2x4096x4096, .f32⟩

abbrev hbmTy0_1 (i : Nat) : BufTy := match i % 128 with
  | 0 => ⟨S2x4096x8x128, .f32⟩
  | 1 => ⟨S2x4096x8x128, .f32⟩
  | 2 => ⟨S1x1x1x128, .f32⟩
  | 3 => ⟨S2x4096x8x128, .f32⟩
  | 4 => ⟨S2x4096x8x128, .f32⟩
  | 5 => ⟨S1x4096x1x64, .f32⟩
  | 6 => ⟨S1x4096x1x64, .f32⟩
  | 7 => ⟨S2x4096x8x64, .f32⟩
  | 8 => ⟨S2x4096x8x64, .f32⟩
  | 9 => ⟨S2x4096x8x64, .f32⟩
  | 10 => ⟨S2x4096x8x64, .f32⟩
  | 11 => ⟨S2x4096x8x64, .f32⟩
  | 12 => ⟨S2x4096x8x64, .f32⟩
  | 13 => ⟨S2x4096x8x64, .f32⟩
  | 14 => ⟨S2x4096x8x64, .f32⟩
  | 15 => ⟨S2x4096x8x64, .f32⟩
  | 16 => ⟨S2x4096x8x64, .f32⟩
  | 17 => ⟨S2x4096x8x64, .f32⟩
  | 18 => ⟨S2x4096x8x64, .f32⟩
  | 19 => ⟨S2x4096x8x128, .f32⟩
  | 20 => ⟨S2x4096x1024, .f32⟩
  | 21 => ⟨S2x4096x8x128, .f32⟩
  | 22 => ⟨S2x4096x8x128, .f32⟩
  | 23 => ⟨S_, .f32⟩
  | 24 => ⟨S2x4096x8, .f32⟩
  | 25 => ⟨S2x4096x8x1, .f32⟩
  | 26 => ⟨S_, .f32⟩
  | 27 => ⟨S2x4096x8x1, .f32⟩
  | 28 => ⟨S2x4096x8x1, .f32⟩
  | 29 => ⟨S_, .f32⟩
  | 30 => ⟨S2x4096x8x1, .f32⟩
  | 31 => ⟨S2x4096x8x1, .f32⟩
  | 32 => ⟨S2x4096x8x1, .f32⟩
  | 33 => ⟨S2x4096x8x128, .f32⟩
  | 34 => ⟨S2x4096x8x128, .f32⟩
  | 35 => ⟨S1x1x1x128, .f32⟩
  | 36 => ⟨S2x4096x8x128, .f32⟩
  | 37 => ⟨S2x4096x8x128, .f32⟩
  | 38 => ⟨S1x4096x1x64, .f32⟩
  | 39 => ⟨S1x4096x1x64, .f32⟩
  | 40 => ⟨S2x4096x8x64, .f32⟩
  | 41 => ⟨S2x4096x8x64, .f32⟩
  | 42 => ⟨S2x4096x8x64, .f32⟩
  | 43 => ⟨S2x4096x8x64, .f32⟩
  | 44 => ⟨S2x4096x8x64, .f32⟩
  | 45 => ⟨S2x4096x8x64, .f32⟩
  | 46 => ⟨S2x4096x8x64, .f32⟩
  | 47 => ⟨S2x4096x8x64, .f32⟩
  | 48 => ⟨S2x4096x8x64, .f32⟩
  | 49 => ⟨S2x4096x8x64, .f32⟩
  | 50 => ⟨S2x4096x8x64, .f32⟩
  | 51 => ⟨S2x4096x8x64, .f32⟩
  | 52 => ⟨S2x4096x8x128, .f32⟩
  | 53 => ⟨S2x4096x1024, .f32⟩
  | 54 => ⟨S8192x1536, .f32⟩
  | 55 => ⟨S8192x1536, .f32⟩
  | 56 => ⟨S8192x1536, .f32⟩
  | 57 => ⟨S8192x1536, .f32⟩
  | 58 => ⟨S8192x1536, .f32⟩
  | 59 => ⟨S8192x1536, .f32⟩
  | 60 => ⟨S8192x1024, .f32⟩
  | 61 => ⟨S8192x1024, .f32⟩
  | 62 => ⟨S8192x1024, .f32⟩
  | 63 => ⟨S8192x12288, .f32⟩
  | 64 => ⟨S8192x12288, .bf16⟩
  | _ => ⟨S2x4096x4096, .f32⟩

abbrev hbmTy (i : Nat) : BufTy := match i / 128 with
  | 0 => hbmTy0_0 i
  | 1 => hbmTy0_1 i
  | _ => ⟨S2x4096x4096, .f32⟩

abbrev bufTy : (tb : Table) → Fin (tcTables nBuf tb) → BufTy
  | .hbm, ⟨i, _⟩ => hbmTy i
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_5 : Ref sig .tc := ⟨.hbm, 81, rfl⟩
abbrev main_v65 : Ref sig .tc := ⟨.hbm, 82, rfl⟩
abbrev main_v66 : Ref sig .tc := ⟨.hbm, 83, rfl⟩
abbrev main_cst_6 : Ref sig .tc := ⟨.hbm, 84, rfl⟩
abbrev main_v67 : Ref sig .tc := ⟨.hbm, 85, rfl⟩
abbrev main_v68 : Ref sig .tc := ⟨.hbm, 86, rfl⟩
abbrev main_cst_7 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_cst_8 : Ref sig .tc := ⟨.hbm, 99, rfl⟩
abbrev main_v80 : Ref sig .tc := ⟨.hbm, 100, rfl⟩
abbrev main_v81 : Ref sig .tc := ⟨.hbm, 101, rfl⟩
abbrev main_cst_9 : Ref sig .tc := ⟨.hbm, 102, rfl⟩
abbrev main_v82 : Ref sig .tc := ⟨.hbm, 103, rfl⟩
abbrev main_v83 : Ref sig .tc := ⟨.hbm, 104, rfl⟩
abbrev main_cst_10 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_11 : Ref sig .tc := ⟨.hbm, 118, rfl⟩
abbrev main_v96 : Ref sig .tc := ⟨.hbm, 119, rfl⟩
abbrev main_v97 : Ref sig .tc := ⟨.hbm, 120, rfl⟩
abbrev main_cst_12 : Ref sig .tc := ⟨.hbm, 121, rfl⟩
abbrev main_v98 : Ref sig .tc := ⟨.hbm, 122, rfl⟩
abbrev main_v99 : Ref sig .tc := ⟨.hbm, 123, rfl⟩
abbrev main_cst_13 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_cst_14 : Ref sig .tc := ⟨.hbm, 151, rfl⟩
abbrev main_v126 : Ref sig .tc := ⟨.hbm, 152, rfl⟩
abbrev main_v127 : Ref sig .tc := ⟨.hbm, 153, rfl⟩
abbrev main_cst_15 : Ref sig .tc := ⟨.hbm, 154, rfl⟩
abbrev main_v128 : Ref sig .tc := ⟨.hbm, 155, rfl⟩
abbrev main_v129 : Ref sig .tc := ⟨.hbm, 156, rfl⟩
abbrev main_cst_16 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩

abbrev nD : Nat := 1
abbrev τ : Topo := Topo.v7x

variable {F : FTy → Type} [FloatOps F]
-- ==== OutProj.lean ====
abbrev S2x4096x1536 : Shape := ⟨3, ![2, 4096, 1536]⟩
abbrev S2x4096x1024 : Shape := ⟨3, ![2, 4096, 1024]⟩
abbrev S2x4096x4096 : Shape := ⟨3, ![2, 4096, 4096]⟩
abbrev S8192x1536 : Shape := ⟨2, ![8192, 1536]⟩
abbrev S8192x1024 : Shape := ⟨2, ![8192, 1024]⟩
abbrev S8192x4096 : Shape := ⟨2, ![8192, 4096]⟩
abbrev S1024x1536 : Shape := ⟨2, ![1024, 1536]⟩
abbrev S1024x1024 : Shape := ⟨2, ![1024, 1024]⟩
abbrev S1x1536x512 : Shape := ⟨3, ![1, 1536, 512]⟩
abbrev S1x1024x512 : Shape := ⟨3, ![1, 1024, 512]⟩
abbrev S1024x512 : Shape := ⟨2, ![1024, 512]⟩
abbrev S4096x512 : Shape := ⟨2, ![4096, 512]⟩
abbrev S1x512x512 : Shape := ⟨3, ![1, 512, 512]⟩
abbrev S512x512 : Shape := ⟨2, ![512, 512]⟩
abbrev S1536x512 : Shape := ⟨2, ![1536, 512]⟩

abbrev nBuf : Space → Nat
  | .hbm => 13
  | .vmem => 17
  | .smem => 0
  | _ => 0

abbrev bufTy : (tb : Table) → Fin (tcTables nBuf tb) → BufTy
  | .hbm, ⟨0, _⟩ => ⟨S2x4096x1536, .f32⟩
  | .hbm, ⟨1, _⟩ => ⟨S2x4096x1536, .f32⟩
  | .hbm, ⟨2, _⟩ => ⟨S2x4096x1024, .f32⟩
  | .hbm, ⟨3, _⟩ => ⟨S2x4096x4096, .f32⟩
  | .hbm, ⟨4, _⟩ => ⟨S2x4096x4096, .f32⟩
  | .hbm, ⟨5, _⟩ => ⟨S8192x1536, .f32⟩
  | .hbm, ⟨6, _⟩ => ⟨S8192x1536, .bf16⟩
  | .hbm, ⟨7, _⟩ => ⟨S8192x1536, .f32⟩
  | .hbm, ⟨8, _⟩ => ⟨S8192x1536, .bf16⟩
  | .hbm, ⟨9, _⟩ => ⟨S8192x1024, .f32⟩
  | .hbm, ⟨10, _⟩ => ⟨S8192x1024, .bf16⟩
  | .hbm, ⟨11, _⟩ => ⟨S8192x4096, .f32⟩
  | .hbm, ⟨12, _⟩ => ⟨S8192x4096, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1x1536x512, .f32⟩
  | .local _ .vmem, ⟨7, _⟩ => ⟨S1x1536x512, .f32⟩
  | .local _ .vmem, ⟨8, _⟩ => ⟨S1x1536x512, .f32⟩
  | .local _ .vmem, ⟨9, _⟩ => ⟨S1x1536x512, .f32⟩
  | .local _ .vmem, ⟨10, _⟩ => ⟨S1x1024x512, .f32⟩
  | .local _ .vmem, ⟨11, _⟩ => ⟨S1x1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S4096x512, .bf16⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1536x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutProjRefIdeal.lean ====
abbrev S2x4096x1536 : Shape := ⟨3, ![2, 4096, 1536]⟩
abbrev S2x4096x1024 : Shape := ⟨3, ![2, 4096, 1024]⟩
abbrev S2x4096x4096 : Shape := ⟨3, ![2, 4096, 4096]⟩
abbrev S1x4096x4096 : Shape := ⟨3, ![1, 4096, 4096]⟩
abbrev S4096x4096 : Shape := ⟨2, ![4096, 4096]⟩
abbrev S8192x4096 : Shape := ⟨2, ![8192, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x1536, .f32⟩
  | .hbm, ⟨1, _⟩ => ⟨S2x4096x1536, .f32⟩
  | .hbm, ⟨2, _⟩ => ⟨S2x4096x1024, .f32⟩
  | .hbm, ⟨3, _⟩ => ⟨S2x4096x4096, .f32⟩
  | .hbm, ⟨4, _⟩ => ⟨S2x4096x4096, .f32⟩
  | .hbm, ⟨5, _⟩ => ⟨S2x4096x4096, .f32⟩
  | .hbm, ⟨6, _⟩ => ⟨S1x4096x4096, .f32⟩
  | .hbm, ⟨7, _⟩ => ⟨S4096x4096, .f32⟩
  | .hbm, ⟨8, _⟩ => ⟨S2x4096x4096, .f32⟩
  | .hbm, ⟨9, _⟩ => ⟨S2x4096x4096, .f32⟩
  | .hbm, ⟨10, _⟩ => ⟨S8192x4096, .f32⟩
  | _, _ => ⟨S2x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== OutProj1.lean ====
abbrev S2x4096x1536 : Shape := ⟨3, ![2, 4096, 1536]⟩
abbrev S2x4096x1024 : Shape := ⟨3, ![2, 4096, 1024]⟩
abbrev S2x4096x4096 : Shape := ⟨3, ![2, 4096, 4096]⟩
abbrev S8192x1536 : Shape := ⟨2, ![8192, 1536]⟩
abbrev S8192x1024 : Shape := ⟨2, ![8192, 1024]⟩
abbrev S8192x4096 : Shape := ⟨2, ![8192, 4096]⟩
abbrev S1024x1536 : Shape := ⟨2, ![1024, 1536]⟩
abbrev S1024x1024 : Shape := ⟨2, ![1024, 1024]⟩
abbrev S1x1536x512 : Shape := ⟨3, ![1, 1536, 512]⟩
abbrev S1x1024x512 : Shape := ⟨3, ![1, 1024, 512]⟩
abbrev S1024x512 : Shape := ⟨2, ![1024, 512]⟩
abbrev S4096x512 : Shape := ⟨2, ![4096, 512]⟩
abbrev S1x512x512 : Shape := ⟨3, ![1, 512, 512]⟩
abbrev S512x512 : Shape := ⟨2, ![512, 512]⟩
abbrev S1536x512 : Shape := ⟨2, ![1536, 512]⟩

abbrev nBuf : Space → Nat
  | .hbm => 13
  | .vmem => 17
  | .smem => 0
  | _ => 0

abbrev bufTy : (tb : Table) → Fin (tcTables nBuf tb) → BufTy
  | .hbm, ⟨0, _⟩ => ⟨S2x4096x1536, .f32⟩
  | .hbm, ⟨1, _⟩ => ⟨S2x4096x1536, .f32⟩
  | .hbm, ⟨2, _⟩ => ⟨S2x4096x1024, .f32⟩
  | .hbm, ⟨3, _⟩ => ⟨S2x4096x4096, .f32⟩
  | .hbm, ⟨4, _⟩ => ⟨S2x4096x4096, .f32⟩
  | .hbm, ⟨5, _⟩ => ⟨S8192x1536, .f32⟩
  | .hbm, ⟨6, _⟩ => ⟨S8192x1536, .bf16⟩
  | .hbm, ⟨7, _⟩ => ⟨S8192x1536, .f32⟩
  | .hbm, ⟨8, _⟩ => ⟨S8192x1536, .bf16⟩
  | .hbm, ⟨9, _⟩ => ⟨S8192x1024, .f32⟩
  | .hbm, ⟨10, _⟩ => ⟨S8192x1024, .bf16⟩
  | .hbm, ⟨11, _⟩ => ⟨S8192x4096, .f32⟩
  | .hbm, ⟨12, _⟩ => ⟨S8192x4096, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1024, .bf16⟩
  | .local _ .vmem, ⟨5, _⟩ => ⟨S1024x1024, .bf16⟩
  | .local _ .vmem, ⟨6, _⟩ => ⟨S1x1536x512, .f32⟩
  | .local _ .vmem, ⟨7, _⟩ => ⟨S1x1536x512, .f32⟩
  | .local _ .vmem, ⟨8, _⟩ => ⟨S1x1536x512, .f32⟩
  | .local _ .vmem, ⟨9, _⟩ => ⟨S1x1536x512, .f32⟩
  | .local _ .vmem, ⟨10, _⟩ => ⟨S1x1024x512, .f32⟩
  | .local _ .vmem, ⟨11, _⟩ => ⟨S1x1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S4096x512, .bf16⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  ![c1_i32.toNat, c1_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  ![c1_i32.toNat, c3_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1536x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1536x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutProj1RefIdeal.lean ====
abbrev S2x4096x1536 : Shape := ⟨3, ![2, 4096, 1536]⟩
abbrev S2x4096x1024 : Shape := ⟨3, ![2, 4096, 1024]⟩
abbrev S2x4096x4096 : Shape := ⟨3, ![2, 4096, 4096]⟩
abbrev S1x4096x4096 : Shape := ⟨3, ![1, 4096, 4096]⟩
abbrev S4096x4096 : Shape := ⟨2, ![4096, 4096]⟩
abbrev S8192x4096 : Shape := ⟨2, ![8192, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2x4096x1536, .f32⟩
  | .hbm, ⟨1, _⟩ => ⟨S2x4096x1536, .f32⟩
  | .hbm, ⟨2, _⟩ => ⟨S2x4096x1024, .f32⟩
  | .hbm, ⟨3, _⟩ => ⟨S2x4096x4096, .f32⟩
  | .hbm, ⟨4, _⟩ => ⟨S2x4096x4096, .f32⟩
  | .hbm, ⟨5, _⟩ => ⟨S2x4096x4096, .f32⟩
  | .hbm, ⟨6, _⟩ => ⟨S1x4096x4096, .f32⟩
  | .hbm, ⟨7, _⟩ => ⟨S4096x4096, .f32⟩
  | .hbm, ⟨8, _⟩ => ⟨S2x4096x4096, .f32⟩
  | .hbm, ⟨9, _⟩ => ⟨S2x4096x4096, .f32⟩
  | .hbm, ⟨10, _⟩ => ⟨S8192x4096, .f32⟩
  | _, _ => ⟨S2x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== FfnUp.lean ====
abbrev S2x4096x4096 : Shape := ⟨3, ![2, 4096, 4096]⟩
abbrev S2x4096x11008 : Shape := ⟨3, ![2, 4096, 11008]⟩
abbrev S8192x4096 : Shape := ⟨2, ![8192, 4096]⟩
abbrev S8192x11264 : Shape := ⟨2, ![8192, 11264]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S2x4096x11008, .f32⟩
  | .hbm, ⟨2, _⟩ => ⟨S2x4096x11008, .f32⟩
  | .hbm, ⟨3, _⟩ => ⟨S8192x4096, .f32⟩
  | .hbm, ⟨4, _⟩ => ⟨S8192x4096, .bf16⟩
  | .hbm, ⟨5, _⟩ => ⟨S8192x11264, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![44, 8], ![false, false]⟩

def k0_cond2 (i : grid0.Coords) : BitVec 1 :=
  let arg0 : BitVec 32 := BitVec.ofNat 32 (i 0).val
  let c43_i32_1 : BitVec 32 := 43#32
  let v5 : BitVec 1 := Scalar.cmpi .slt arg0 c43_i32_1
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c43_i32_3 : BitVec 32 := 43#32
  let v8 : BitVec 1 := Scalar.cmpi .sge arg0 c43_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S2x4096x4096 : Shape := ⟨3, ![2, 4096, 4096]⟩
abbrev S2x4096x11008 : Shape := ⟨3, ![2, 4096, 11008]⟩
abbrev S8192x4096 : Shape := ⟨2, ![8192, 4096]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩
abbrev S8192x256 : Shape := ⟨2, ![8192, 256]⟩
abbrev S8192x11264 : Shape := ⟨2, ![8192, 11264]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x11008, .f32⟩
  | .hbm, ⟨2, _⟩ => ⟨S2x4096x11008, .f32⟩
  | .hbm, ⟨3, _⟩ => ⟨S8192x4096, .f32⟩
  | .hbm, ⟨4, _⟩ => ⟨S1x4096x11008, .f32⟩
  | .hbm, ⟨5, _⟩ => ⟨S4096x11008, .f32⟩
  | .hbm, ⟨6, _⟩ => ⟨S8192x11008, .f32⟩
  | .hbm, ⟨7, _⟩ => ⟨S1x4096x11008, .f32⟩
  | .hbm, ⟨8, _⟩ => ⟨S4096x11008, .f32⟩
  | .hbm, ⟨9, _⟩ => ⟨S8192x11008, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S_, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S8192x11008, .f32⟩
  | .hbm, ⟨20, _⟩ => ⟨S_, .f32⟩
  | .hbm, ⟨21, _⟩ => ⟨S8192x256, .f32⟩
  | .hbm, ⟨22, _⟩ => ⟨S8192x11264, .f32⟩
  | .hbm, ⟨23, _⟩ => ⟨S8192x11264, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== FfnUp1.lean ====
abbrev S2x4096x4096 : Shape := ⟨3, ![2, 4096, 4096]⟩
abbrev S2x4096x11008 : Shape := ⟨3, ![2, 4096, 11008]⟩
abbrev S8192x4096 : Shape := ⟨2, ![8192, 4096]⟩
abbrev S8192x11264 : Shape := ⟨2, ![8192, 11264]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩
abbrev S1x512x256 : Shape := ⟨3, ![1, 512, 256]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S2x4096x11008, .f32⟩
  | .hbm, ⟨2, _⟩ => ⟨S2x4096x11008, .f32⟩
  | .hbm, ⟨3, _⟩ => ⟨S8192x4096, .f32⟩
  | .hbm, ⟨4, _⟩ => ⟨S8192x4096, .bf16⟩
  | .hbm, ⟨5, _⟩ => ⟨S8192x11264, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1024x256, .bf16⟩
  | .local _ .vmem, ⟨7, _⟩ => ⟨S1024x256, .bf16⟩
  | .local _ .vmem, ⟨8, _⟩ => ⟨S4096x256, .bf16⟩
  | .local _ .vmem, ⟨9, _⟩ => ⟨S4096x256, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![44, 8], ![false, false]⟩

def k0_cond2 (i : grid0.Coords) : BitVec 1 :=
  let arg0 : BitVec 32 := BitVec.ofNat 32 (i 0).val
  let c43_i32_1 : BitVec 32 := 43#32
  let v5 : BitVec 1 := Scalar.cmpi .slt arg0 c43_i32_1
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c43_i32_3 : BitVec 32 := 43#32
  let v8 : BitVec 1 := Scalar.cmpi .sge arg0 c43_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c42_i32 : BitVec 32 := 42#32
  let v0 : BitVec 32 := Scalar.minsi arg0 c42_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUp1RefIdeal.lean ====
abbrev S2x4096x4096 : Shape := ⟨3, ![2, 4096, 4096]⟩
abbrev S2x4096x11008 : Shape := ⟨3, ![2, 4096, 11008]⟩
abbrev S8192x4096 : Shape := ⟨2, ![8192, 4096]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩
abbrev S8192x256 : Shape := ⟨2, ![8192, 256]⟩
abbrev S8192x11264 : Shape := ⟨2, ![8192, 11264]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x11008, .f32⟩
  | .hbm, ⟨2, _⟩ => ⟨S2x4096x11008, .f32⟩
  | .hbm, ⟨3, _⟩ => ⟨S8192x4096, .f32⟩
  | .hbm, ⟨4, _⟩ => ⟨S1x4096x11008, .f32⟩
  | .hbm, ⟨5, _⟩ => ⟨S4096x11008, .f32⟩
  | .hbm, ⟨6, _⟩ => ⟨S8192x11008, .f32⟩
  | .hbm, ⟨7, _⟩ => ⟨S1x4096x11008, .f32⟩
  | .hbm, ⟨8, _⟩ => ⟨S4096x11008, .f32⟩
  | .hbm, ⟨9, _⟩ => ⟨S8192x11008, .f32⟩
  | .hbm, ⟨10, _⟩ => ⟨S8192x11008, .f32⟩
  | .hbm, ⟨11, _⟩ => ⟨S8192x11008, .f32⟩
  | .hbm, ⟨12, _⟩ => ⟨S_, .f32⟩
  | .hbm, ⟨13, _⟩ => ⟨S8192x11008, .f32⟩
  | .hbm, ⟨14, _⟩ => ⟨S8192x11008, .f32⟩
  | .hbm, ⟨15, _⟩ => ⟨S_, .f32⟩
  | .hbm, ⟨16, _⟩ => ⟨S8192x11008, .f32⟩
  | .hbm, ⟨17, _⟩ => ⟨S8192x11008, .f32⟩
  | .hbm, ⟨18, _⟩ => ⟨S8192x11008, .f32⟩
  | .hbm, ⟨19, _⟩ => ⟨S8192x11008, .f32⟩
  | .hbm, ⟨20, _⟩ => ⟨S_, .f32⟩
  | .hbm, ⟨21, _⟩ => ⟨S8192x256, .f32⟩
  | .hbm, ⟨22, _⟩ => ⟨S8192x11264, .f32⟩
  | .hbm, ⟨23, _⟩ => ⟨S8192x11264, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== FfnDown.lean ====
abbrev S8192x11008 : Shape := ⟨2, ![8192, 11008]⟩
abbrev S11008x4096 : Shape := ⟨2, ![11008, 4096]⟩
abbrev S8192x4096 : Shape := ⟨2, ![8192, 4096]⟩
abbrev S_ : Shape := ⟨0, ![]⟩
abbrev S8192x256 : Shape := ⟨2, ![8192, 256]⟩
abbrev S8192x11264 : Shape := ⟨2, ![8192, 11264]⟩
abbrev S256x4096 : Shape := ⟨2, ![256, 4096]⟩
abbrev S11264x4096 : Shape := ⟨2, ![11264, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x4096, .f32⟩
  | .hbm, ⟨3, _⟩ => ⟨S8192x11008, .bf16⟩
  | .hbm, ⟨4, _⟩ => ⟨S_, .bf16⟩
  | .hbm, ⟨5, _⟩ => ⟨S8192x256, .bf16⟩
  | .hbm, ⟨6, _⟩ => ⟨S8192x11264, .bf16⟩
  | .hbm, ⟨7, _⟩ => ⟨S11008x4096, .bf16⟩
  | .hbm, ⟨8, _⟩ => ⟨S_, .bf16⟩
  | .hbm, ⟨9, _⟩ => ⟨S256x4096, .bf16⟩
  | .hbm, ⟨10, _⟩ => ⟨S11264x4096, .bf16⟩
  | .hbm, ⟨11, _⟩ => ⟨S8192x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownRefIdeal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S11008x4096, .f32⟩
  | .hbm, ⟨2, _⟩ => ⟨S8192x4096, .f32⟩
  | .hbm, ⟨3, _⟩ => ⟨S8192x4096, .f32⟩
  | .hbm, ⟨4, _⟩ => ⟨S8192x4096, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== RowNorm.lean ====
abbrev S2x4096x4096 : Shape := ⟨3, ![2, 4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S8192x4096, .f32⟩
  | .hbm, ⟨3, _⟩ => ⟨S1x4096, .f32⟩
  | .hbm, ⟨4, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RowNormRefIdeal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S2x4096x4096, .f32⟩
  | .hbm, ⟨3, _⟩ => ⟨S_, .f32⟩
  | .hbm, ⟨4, _⟩ => ⟨S2x4096, .f32⟩
  | .hbm, ⟨5, _⟩ => ⟨S2x4096x1, .f32⟩
  | .hbm, ⟨6, _⟩ => ⟨S_, .f32⟩
  | .hbm, ⟨7, _⟩ => ⟨S2x4096x1, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S2x4096x1, .f32⟩
  | .hbm, ⟨13, _⟩ => ⟨S2x4096x4096, .f32⟩
  | .hbm, ⟨14, _⟩ => ⟨S2x4096x4096, .f32⟩
  | .hbm, ⟨15, _⟩ => ⟨S1x1x4096, .f32⟩
  | .hbm, ⟨16, _⟩ => ⟨S2x4096x4096, .f32⟩
  | .hbm, ⟨17, _⟩ => ⟨S2x4096x4096, .f32⟩
  | .hbm, ⟨18, _⟩ => ⟨S8192x4096, .f32⟩
  | .hbm, ⟨19, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormGates.lean ====
abbrev S2x4096x4096 : Shape := ⟨3, ![2, 4096, 4096]⟩
abbrev S4096 : Shape := ⟨1, ![4096]⟩
abbrev S4096x12300 : Shape := ⟨2, ![4096, 12300]⟩
abbrev S4096x9216 : Shape := ⟨2, ![4096, 9216]⟩
abbrev S4096x3072 : Shape := ⟨2, ![4096, 3072]⟩
abbrev S4096x12 : Shape := ⟨2, ![4096, 12]⟩
abbrev S_ : Shape := ⟨0, ![]⟩
abbrev S4096x244 : Shape := ⟨2, ![4096, 244]⟩
abbrev S4096x12544 : Shape := ⟨2, ![4096, 12544]⟩
abbrev S8192x4096 : Shape := ⟨2, ![8192, 4096]⟩
abbrev S12544x4096 : Shape := ⟨2, ![12544, 4096]⟩
abbrev S1x4096 : Shape := ⟨2, ![1, 4096]⟩
abbrev S8192x128 : Shape := ⟨2, ![8192, 128]⟩
abbrev S256x4096 : Shape := ⟨2, ![256, 4096]⟩
abbrev S128x4096 : Shape := ⟨2, ![128, 4096]⟩
abbrev S256x128 : Shape := ⟨2, ![256, 128]⟩
abbrev S256 : Shape := ⟨1, ![256]⟩
abbrev S256x1 : Shape := ⟨2, ![256, 1]⟩

abbrev nBuf : Space → Nat
  | .hbm => 15
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S4096x12300, .f32⟩
  | .hbm, ⟨3, _⟩ => ⟨S4096x9216, .f32⟩
  | .hbm, ⟨4, _⟩ => ⟨S4096x3072, .f32⟩
  | .hbm, ⟨5, _⟩ => ⟨S4096x12, .f32⟩
  | .hbm, ⟨6, _⟩ => ⟨S_, .f32⟩
  | .hbm, ⟨7, _⟩ => ⟨S4096x244, .f32⟩
  | .hbm, ⟨8, _⟩ => ⟨S4096x12544, .f32⟩
  | .hbm, ⟨9, _⟩ => ⟨S8192x4096, .f32⟩
  | .hbm, ⟨10, _⟩ => ⟨S12544x4096, .f32⟩
  | .hbm, ⟨11, _⟩ => ⟨S12544x4096, .bf16⟩
  | .hbm, ⟨12, _⟩ => ⟨S1x4096, .f32⟩
  | .hbm, ⟨13, _⟩ => ⟨S8192x4096, .bf16⟩
  | .hbm, ⟨14, _⟩ => ⟨S8192x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S128x4096, .bf16⟩
  | .local _ .vmem, ⟨4, _⟩ => ⟨S256x4096, .bf16⟩
  | .local _ .vmem, ⟨5, _⟩ => ⟨S256x4096, .bf16⟩
  | .local _ .vmem, ⟨6, _⟩ => ⟨S256x128, .f32⟩
  | .local _ .vmem, ⟨7, _⟩ => ⟨S256x128, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c96_i32 : BitVec 32 := 96#32
  let c0_i32 : BitVec 32 := 0#32
  let c0_i32_0 : BitVec 32 := 0#32
  ![c96_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormGatesRefIdeal.lean ====
abbrev S2x4096x4096 : Shape := ⟨3, ![2, 4096, 4096]⟩
abbrev S4096 : Shape := ⟨1, ![4096]⟩
abbrev S4096x12300 : Shape := ⟨2, ![4096, 12300]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S4096x12 : Shape := ⟨2, ![4096, 12]⟩
abbrev S2x4096x12 : Shape := ⟨3, ![2, 4096, 12]⟩
abbrev S8192x4096 : Shape := ⟨2, ![8192, 4096]⟩
abbrev S8192x12 : Shape := ⟨2, ![8192, 12]⟩
abbrev S8192x116 : Shape := ⟨2, ![8192, 116]⟩
abbrev S8192x128 : Shape := ⟨2, ![8192, 128]⟩

abbrev nBuf : Space → Nat
  | .hbm => 27
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096, .f32⟩
  | .hbm, ⟨2, _⟩ => ⟨S4096x12300, .f32⟩
  | .hbm, ⟨3, _⟩ => ⟨S2x4096x4096, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x4096, .f32⟩
  | .hbm, ⟨15, _⟩ => ⟨S2x4096x4096, .f32⟩
  | .hbm, ⟨16, _⟩ => ⟨S1x1x4096, .f32⟩
  | .hbm, ⟨17, _⟩ => ⟨S2x4096x4096, .f32⟩
  | .hbm, ⟨18, _⟩ => ⟨S2x4096x4096, .f32⟩
  | .hbm, ⟨19, _⟩ => ⟨S4096x12, .f32⟩
  | .hbm, ⟨20, _⟩ => ⟨S2x4096x12, .f32⟩
  | .hbm, ⟨21, _⟩ => ⟨S8192x4096, .f32⟩
  | .hbm, ⟨22, _⟩ => ⟨S8192x4096, .bf16⟩
  | .hbm, ⟨23, _⟩ => ⟨S8192x12, .f32⟩
  | .hbm, ⟨24, _⟩ => ⟨S_, .f32⟩
  | .hbm, ⟨25, _⟩ => ⟨S8192x116, .f32⟩
  | .hbm, ⟨26, _⟩ => ⟨S8192x128, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Proof.MobaRun.lean ====
/-
  One run of the MoBA attention's body on whole staging buffers, found by the executor: per case of the two
  conditions on the query block (the first one, which writes the block means; an odd one, whose tail is two blocks).
-/
module

public import proofs.«01_k».proof.Proof.Gen.KernelIdeal.Loops
public import proofs.«01_k».proof.Proof.Gen.KernelIdeal.Frame
public import Idealize.ShloMosaic.Lib.Tactic
public import Idealize.ShloMosaic.Lib.VecWindow

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

abbrev 𝒱₀ : Variants := Variants.none

/-- The condition of the write of the block means: the first query block. -/
abbrev first (i : grid0.Coords) : Prop :=
  Scalar.cmpi .ne (Scalar.extui (Scalar.cmpi .eq (BitVec.ofNat 32 (i 2).val) (0#32 : BitVec 32)) : BitVec 32) 0#32 = 1#1

set_option maxHeartbeats 4000000 in
/-- A query block after the first, an even one: what the body leaves in the output block, and its triple. -/
def runEven (c : Dev nD) (i : grid0.Coords) (h1 : ¬ first i) (h2 : ¬ (k0_cond2 i = 1#1))
    (arg3 : Memref sig .tc .vmem S1x512x128 .bf16) (harg3 : arg3.IsWhole) (arg4 : Memref sig .tc .vmem S1x4096x128 .bf16) (harg4 : arg4.IsWhole)
    (arg5 : Memref sig .tc .vmem S1x4096x128 .bf16) (harg5 : arg5.IsWhole) (arg6 : Memref sig .tc .vmem S1x512x128 .bf16) (harg6 : arg6.IsWhole)
    (arg7 : Memref sig .tc .vmem S16x128 .bf16) (harg7 : arg7.IsWhole) (arg8 : Memref sig .tc .vmem S1x512x512 .f32) (harg8 : arg8.IsWhole)
    (x3 : Vec F S1x512x128 .bf16) (x4 : Vec F S1x4096x128 .bf16) (x5 : Vec F S1x4096x128 .bf16) (x7 : Vec F S16x128 .bf16) :
    { Y : Vec F S1x512x128 .bf16 //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ (∃ d, owns (c : Thread nD τ) arg6 fullShare d) ∗ owns (c : Thread nD τ) arg7 fullShare x7 ∗ (∃ d, owns (c : Thread nD τ) arg8 fullShare d)
            ∗ (iprop(owns (c : Thread nD τ) arg3 fullShare x3 ∗ owns (c : Thread nD τ) arg4 fullShare x4 ∗ owns (c : Thread nD τ) arg5 fullShare x5
            ∗ owns (c : Thread nD τ) arg6 fullShare Y ∗ owns (c : Thread nD τ) arg7 fullShare x7 ∗ (∃ d, owns (c : Thread nD τ) arg8 fullShare d)) -∗ K ⟨⟩))
          ⊢ wp frame (wpE (defs₀ (F := F)) 𝒱₀ c none) E
              (cc0_moba_attention i arg3 harg3 arg4 harg4 arg5 harg5 arg6 harg6 arg7 harg7 arg8 harg8) K } := by
  refine ⟨?_, fun E K => ?run⟩
  case run =>
    unfold owns
    iintro ⟨⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg3.eq_unread hf3; obtain rfl := harg4.eq_unread hf4; obtain rfl := harg5.eq_unread hf5; obtain rfl := harg7.eq_unread hf7
    sl_unfold [cc0_moba_attention]
    sl_exec (disch := first | sl_exact h1 | sl_exact h2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro; exact View.read_writes_full _ _ _ _ _
    isplitl [H7]
    · iexists _; isplitr; · ipureintro; exact harg7.read_unread _
      iexact H7
    iexists _; iexists _; isplitr; swap; · iexact H8
    ipureintro; rfl

set_option maxHeartbeats 4000000 in
/-- An odd query block. -/
def runOdd (c : Dev nD) (i : grid0.Coords) (h1 : ¬ first i) (h2 : k0_cond2 i = 1#1)
    (arg3 : Memref sig .tc .vmem S1x512x128 .bf16) (harg3 : arg3.IsWhole) (arg4 : Memref sig .tc .vmem S1x4096x128 .bf16) (harg4 : arg4.IsWhole)
    (arg5 : Memref sig .tc .vmem S1x4096x128 .bf16) (harg5 : arg5.IsWhole) (arg6 : Memref sig .tc .vmem S1x512x128 .bf16) (harg6 : arg6.IsWhole)
    (arg7 : Memref sig .tc .vmem S16x128 .bf16) (harg7 : arg7.IsWhole) (arg8 : Memref sig .tc .vmem S1x512x512 .f32) (harg8 : arg8.IsWhole)
    (x3 : Vec F S1x512x128 .bf16) (x4 : Vec F S1x4096x128 .bf16) (x5 : Vec F S1x4096x128 .bf16) (x7 : Vec F S16x128 .bf16) :
    { Y : Vec F S1x512x128 .bf16 //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ (∃ d, owns (c : Thread nD τ) arg6 fullShare d) ∗ owns (c : Thread nD τ) arg7 fullShare x7 ∗ (∃ d, owns (c : Thread nD τ) arg8 fullShare d)
            ∗ (iprop(owns (c : Thread nD τ) arg3 fullShare x3 ∗ owns (c : Thread nD τ) arg4 fullShare x4 ∗ owns (c : Thread nD τ) arg5 fullShare x5
            ∗ owns (c : Thread nD τ) arg6 fullShare Y ∗ owns (c : Thread nD τ) arg7 fullShare x7 ∗ (∃ d, owns (c : Thread nD τ) arg8 fullShare d)) -∗ K ⟨⟩))
          ⊢ wp frame (wpE (defs₀ (F := F)) 𝒱₀ c none) E
              (cc0_moba_attention i arg3 harg3 arg4 harg4 arg5 harg5 arg6 harg6 arg7 harg7 arg8 harg8) K } := by
  refine ⟨?_, fun E K => ?run⟩
  case run =>
    unfold owns
    iintro ⟨⟨%f3, %hf3, H3⟩, ⟨%f4, %hf4, H4⟩, ⟨%f5, %hf5, H5⟩, ⟨%d6, %f6, -, H6⟩, ⟨%f7, %hf7, H7⟩, ⟨%d8, %f8, -, H8⟩, Hk⟩
    obtain rfl := harg3.eq_unread hf3; obtain rfl := harg4.eq_unread hf4; obtain rfl := harg5.eq_unread hf5; obtain rfl := harg7.eq_unread hf7
    sl_unfold [cc0_moba_attention]
    sl_exec (disch := first | sl_exact h1 | sl_exact h2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro; exact View.read_writes_full _ _ _ _ _
    isplitl [H7]
    · iexists _; isplitr; · ipureintro; exact harg7.read_unread _
      iexact H7
    iexists _; iexists _; isplitr; swap; · iexact H8
    ipureintro; rfl

set_option maxHeartbeats 4000000 in
/-- The first query block, where the body also writes the block means. -/
def runFirst (c : Dev nD) (i : grid0.Coords) (h1 : first i) (h2 : ¬ (k0_cond2 i = 1#1))
    (arg3 : Memref sig .tc .vmem S1x512x128 .bf16) (harg3 : arg3.IsWhole) (arg4 : Memref sig .tc .vmem S1x4096x128 .bf16) (harg4 : arg4.IsWhole)
    (arg5 : Memref sig .tc .vmem S1x4096x128 .bf16) (harg5 : arg5.IsWhole) (arg6 : Memref sig .tc .vmem S1x512x128 .bf16) (harg6 : arg6.IsWhole)
    (arg7 : Memref sig .tc .vmem S16x128 .bf16) (harg7 : arg7.IsWhole) (arg8 : Memref sig .tc .vmem S1x512x512 .f32) (harg8 : arg8.IsWhole)
    (x3 : Vec F S1x512x128 .bf16) (x4 : Vec F S1x4096x128 .bf16) (x5 : Vec F S1x4096x128 .bf16) :
    { Y : Vec F S1x512x128 .bf16 //
      ∀ (E : Set ℕ) (K : PUnit → sProp 𝕄),
        iprop(owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg3 fullShare x3 ∗ owns (c : Thread nD τ) arg4 fullShare x4 ∗ owns (c : Thread nD τ) arg5 fullShare x5
            ∗ owns (c : Thread nD τ) arg6 fullShare Y ∗ owns (c : Thread nD τ) arg7 fullShare (k0_pay67 x4) ∗ (∃ d, owns (c : Thread nD τ) arg8 fullShare d)) -∗ K ⟨⟩))
          ⊢ wp frame (wpE (defs₀ (F := F)) 𝒱₀ c none) E
              (cc0_moba_attention i arg3 harg3 arg4 harg4 arg5 harg5 arg6 harg6 arg7 harg7 arg8 harg8) K } := by
  refine ⟨?_, fun E K => ?run⟩
  case run =>
    unfold owns
    iintro ⟨⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg3.eq_unread hf3; obtain rfl := harg4.eq_unread hf4; obtain rfl := harg5.eq_unread hf5
    sl_unfold [cc0_moba_attention]
    sl_exec (disch := first | sl_exact h1 | sl_exact h2)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; swap; · iexact H6
      ipureintro; exact View.read_writes_full _ _ _ _ _
    isplitl [H7]
    · iexists _; isplitr; swap; · iexact H7
      ipureintro; refine (View.read_writes_full _ _ _ _ _).trans ?_
      sl_unfold_words
      exact congrArg k0_pay67 ((View.readAt_full _ _ _).trans (harg4.read_unread _))
    iexists _; iexists _; isplitr; swap; · iexact H8
    ipureintro; rfl

end Cert.KernelIdeal.Moba

end
-- ==== Proof.MobaFrame.lean ====
/-
  The MoBA attention's pipeline on those runs: what the scratch buffer of the block means carries from one query block
  to the next, what each point leaves in the output block, the run of @main and its frame.
-/
module

public import proofs.«01_k».proof.Proof.MobaRun
public import Idealize.ShloMosaic.Lib.Pipeline.Frame
public import Idealize.ShloMosaic.PureOps.BitExact
public import Idealize.ShloMosaic.PureOps.Ideal

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two conditions over the grid -/

theorem first_iff : ∀ t : Fin grid0.N, first (grid0.coords t) ↔ t.val % 8 = 0 := by decide +kernel

theorem odd_iff : ∀ t : Fin grid0.N, k0_cond2 (grid0.coords t) = 1#1 ↔ t.val % 2 = 1 := by decide +kernel

theorem not_odd_of_first (t : Fin grid0.N) (h : first (grid0.coords t)) : ¬ (k0_cond2 (grid0.coords t) = 1#1) := by
  rw [first_iff] at h; rw [odd_iff]; omega

/-! ## What each point leaves -/

/-- The first query block's point of the head that point `n` works on. -/
def base (n : ℕ) : ℕ := 8 * (n / 8)

theorem base_lt (n : ℕ) (h : n < cfg0.N) : base n < cfg0.N := lt_of_le_of_lt (by unfold base; omega) h

/-- The block means of the head that point `n` works on. -/
def kmAt (c : Dev nD) (n : ℕ) (h : n < cfg0.N) : Vec F S16x128 .bf16 := k0_pay67 (iblk m c 1 ⟨base n, base_lt n h⟩)

abbrev ms0 (t : Fin cfg0.N) : Memref sig .tc .vmem S1x512x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4096x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4096x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512x128 .bf16 := win0_3.stage (cfg0.slots t 3)
abbrev hs3 (t : Fin cfg0.N) : (ms3 t).IsWhole := hstage0_3 ((cfg0.slots t 3).cast nbuf0_3)
abbrev mk : Memref sig .tc .vmem S16x128 .bf16 := Memref.whole cc0_scratch0
abbrev mss : Memref sig .tc .vmem S1x512x512 .f32 := Memref.whole cc0_scratch1

/-- What the body leaves in the output block at point `t`. -/
def outsAt (c : Dev nD) (t : Fin cfg0.N) : Vec F S1x512x128 .bf16 :=
  if h1 : first (grid0.coords t) then
    (runFirst (F := F) c (grid0.coords t) h1 (not_odd_of_first t h1) (ms0 t) (hs0 t) (ms1 t) (hs1 t) (ms2 t) (hs2 t) (ms3 t) (hs3 t) mk (Memref.isWhole_whole _) mss (Memref.isWhole_whole _)
      (iblk m c 0 t) (iblk m c 1 t) (iblk m c 2 t)).1
  else if h2 : k0_cond2 (grid0.coords t) = 1#1 then
    (runOdd (F := F) c (grid0.coords t) h1 h2 (ms0 t) (hs0 t) (ms1 t) (hs1 t) (ms2 t) (hs2 t) (ms3 t) (hs3 t) mk (Memref.isWhole_whole _) mss (Memref.isWhole_whole _)
      (iblk m c 0 t) (iblk m c 1 t) (iblk m c 2 t) (kmAt m c t.val t.isLt)).1
  else
    (runEven (F := F) c (grid0.coords t) h1 h2 (ms0 t) (hs0 t) (ms1 t) (hs1 t) (ms2 t) (hs2 t) (ms3 t) (hs3 t) mk (Memref.isWhole_whole _) mss (Memref.isWhole_whole _)
      (iblk m c 0 t) (iblk m c 1 t) (iblk m c 2 t) (kmAt m c t.val t.isLt)).1

/-! ## The invariant -/

/-- The scratch with the block means at `X`. -/
def held (c : Dev nD) (X : Vec F S16x128 .bf16) : sProp 𝕄 :=
  iprop((owns (c : Thread nD τ) mk fullShare X ∗ (∃ d, owns (c : Thread nD τ) mss fullShare d)) ∗ ∃ r, prngReg c r)

/-- Before a head's first query block the scratch holds anything; before a later one, the head's block means. -/
def Phi (c : Dev nD) (n : ℕ) : sProp 𝕄 :=
  if h : n % 8 ≠ 0 ∧ n < cfg0.N then held c (kmAt m c n h.2) else Pipeline.ΦA spec0 c

theorem phiA_eq (c : Dev nD) : (Pipeline.ΦA spec0 c : sProp 𝕄)
    = iprop(((∃ d, owns (c : Thread nD τ) mk fullShare d) ∗ (∃ d, owns (c : Thread nD τ) mss fullShare d)) ∗ ∃ r, prngReg c r) := by
  unfold Pipeline.ΦA; rw [scopedRest0_eq]
  simp only [owns_whole]
  rfl

theorem held_phiA (c : Dev nD) (X : Vec F S16x128 .bf16) : (held c X : sProp 𝕄) ⊢ Pipeline.ΦA spec0 c := by
  rw [phiA_eq]; unfold held
  iintro ⟨⟨H7, H8⟩, Hr⟩
  isplitl [H7 H8]
  · isplitl [H7]
    · iexists _; iexact H7
    iexact H8
  iexact Hr

theorem held_phi (c : Dev nD) (n : ℕ) (h : n < cfg0.N) : (held c (kmAt m c n h) : sProp 𝕄) ⊢ Phi m c (n + 1) := by
  unfold Phi
  split
  · rename_i h'
    have : kmAt m c (n + 1) h'.2 = kmAt m c n h := by
      have : base (n + 1) = base n := by unfold base; omega
      exact congrArg (fun t => k0_pay67 (iblk m c 1 t)) (Fin.ext this)
    rw [this]
  · exact held_phiA c _

/-! ## The proof data -/

/-- The arrays as the region finds them; each input's buffer at its block and the output's at `outsAt`; the invariant
    over the scratch; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt m c t
  Φ t := Phi m c t.val
  q w := Pipeline.shareOf spec0 w
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outsAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem outsAt_first (c : Dev nD) (t : Fin cfg0.N) (h1 : first (grid0.coords t)) : outsAt m c t
    = (runFirst (F := F) c (grid0.coords t) h1 (not_odd_of_first t h1) (ms0 t) (hs0 t) (ms1 t) (hs1 t) (ms2 t) (hs2 t) (ms3 t) (hs3 t) mk (Memref.isWhole_whole _) mss (Memref.isWhole_whole _)
      (iblk m c 0 t) (iblk m c 1 t) (iblk m c 2 t)).1 := by unfold outsAt; exact dif_pos h1
theorem outsAt_odd (c : Dev nD) (t : Fin cfg0.N) (h1 : ¬ first (grid0.coords t)) (h2 : k0_cond2 (grid0.coords t) = 1#1) : outsAt m c t
    = (runOdd (F := F) c (grid0.coords t) h1 h2 (ms0 t) (hs0 t) (ms1 t) (hs1 t) (ms2 t) (hs2 t) (ms3 t) (hs3 t) mk (Memref.isWhole_whole _) mss (Memref.isWhole_whole _)
      (iblk m c 0 t) (iblk m c 1 t) (iblk m c 2 t) (kmAt m c t.val t.isLt)).1 := by
  unfold outsAt; rw [dif_neg h1]; exact dif_pos h2
theorem outsAt_even (c : Dev nD) (t : Fin cfg0.N) (h1 : ¬ first (grid0.coords t)) (h2 : ¬ (k0_cond2 (grid0.coords t) = 1#1)) : outsAt m c t
    = (runEven (F := F) c (grid0.coords t) h1 h2 (ms0 t) (hs0 t) (ms1 t) (hs1 t) (ms2 t) (hs2 t) (ms3 t) (hs3 t) mk (Memref.isWhole_whole _) mss (Memref.isWhole_whole _)
      (iblk m c 0 t) (iblk m c 1 t) (iblk m c 2 t) (kmAt m c t.val t.isLt)).1 := by
  unfold outsAt; rw [dif_neg h1]; exact dif_neg h2

/-! ## The body obligation -/

/-- What a point holds before its body, the windows' blocks named. -/
def pre (c : Dev nD) (t : Fin cfg0.N) : sProp 𝕄 :=
  iprop(owns (c : Thread nD τ) (ms0 t) fullShare (iblk m c 0 t) ∗ owns (c : Thread nD τ) (ms1 t) fullShare (iblk m c 1 t)
    ∗ owns (c : Thread nD τ) (ms2 t) fullShare (iblk m c 2 t) ∗ (∃ d, owns (c : Thread nD τ) (ms3 t) fullShare d) ∗ Phi m c t.val)

/-- What it holds after. -/
def post (c : Dev nD) (t : Fin cfg0.N) : sProp 𝕄 :=
  iprop(owns (c : Thread nD τ) (ms0 t) fullShare (iblk m c 0 t) ∗ owns (c : Thread nD τ) (ms1 t) fullShare (iblk m c 1 t)
    ∗ owns (c : Thread nD τ) (ms2 t) fullShare (iblk m c 2 t) ∗ owns (c : Thread nD τ) (ms3 t) fullShare (outsAt m c t) ∗ Phi m c (t.val + 1))

theorem sound_body (c : Dev nD) (t : Fin cfg0.N) (K : PUnit → sProp 𝕄) :
    iprop(pre m c t ∗ (post m c t -∗ K ⟨⟩)) ⊢ wp frame (wpE (defs₀ (F := F)) 𝒱₀ c none) Set.univ (bodyAt0 t) K := by
  unfold pre post
  by_cases h1 : first (grid0.coords t)
  · have hb : base t.val = t.val := by have := (first_iff t).mp h1; unfold base; omega
    have hk : kmAt m c t.val t.isLt = k0_pay67 (iblk m c 1 t) := by
      exact congrArg (fun t => k0_pay67 (iblk m c 1 t)) (Fin.ext hb)
    have hphi : Phi m c t.val = (Pipeline.ΦA spec0 c : sProp 𝕄) := by
      unfold Phi; exact dif_neg (fun h => h.1 ((first_iff t).mp h1))
    have hs := held_phi m c t.val t.isLt
    rw [hphi, phiA_eq]; rw [hk] at hs; rw [outsAt_first m c t h1]
    iintro ⟨⟨H0, H1, H2, H3, ⟨H7, H8⟩, Hr⟩, Hk⟩
    iapply ((runFirst (F := F) c (grid0.coords t) h1 (not_odd_of_first t h1) (ms0 t) (hs0 t) (ms1 t) (hs1 t) (ms2 t) (hs2 t) (ms3 t) (hs3 t) mk (Memref.isWhole_whole _) mss (Memref.isWhole_whole _)
      (iblk m c 0 t) (iblk m c 1 t) (iblk m c 2 t)).2 Set.univ K)
    isplitl [H0]; · iexact H0
    isplitl [H1]; · iexact H1
    isplitl [H2]; · iexact H2
    isplitl [H3]; · iexact H3
    isplitl [H7]; · iexact H7
    isplitl [H8]; · iexact H8
    iintro ⟨H0, H1, H2, H3, H7, H8⟩
    iapply Hk
    isplitl [H0]; · iexact H0
    isplitl [H1]; · iexact H1
    isplitl [H2]; · iexact H2
    isplitl [H3]; · iexact H3
    iapply hs
    unfold held
    isplitl [H7 H8]
    · isplitl [H7]; · iexact H7
      iexact H8
    iexact Hr
  · have hphi : Phi m c t.val = held c (kmAt m c t.val t.isLt) := by
      unfold Phi; exact dif_pos ⟨fun h => h1 ((first_iff t).mpr h), t.isLt⟩
    have hs := held_phi m c t.val t.isLt
    rw [hphi]; unfold held
    by_cases h2 : k0_cond2 (grid0.coords t) = 1#1
    · rw [outsAt_odd m c t h1 h2]
      iintro ⟨⟨H0, H1, H2, H3, ⟨H7, H8⟩, Hr⟩, Hk⟩
      iapply ((runOdd (F := F) c (grid0.coords t) h1 h2 (ms0 t) (hs0 t) (ms1 t) (hs1 t) (ms2 t) (hs2 t) (ms3 t) (hs3 t) mk (Memref.isWhole_whole _) mss (Memref.isWhole_whole _)
        (iblk m c 0 t) (iblk m c 1 t) (iblk m c 2 t) (kmAt m c t.val t.isLt)).2 Set.univ K)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      iapply Hk
      isplitl [H0]; · iexact H0
      isplitl [H1]; · iexact H1
      isplitl [H2]; · iexact H2
      isplitl [H3]; · iexact H3
      iapply hs
      unfold held
      isplitl [H7 H8]
      · isplitl [H7]; · iexact H7
        iexact H8
      iexact Hr
    · rw [outsAt_even m c t h1 h2]
      iintro ⟨⟨H0, H1, H2, H3, ⟨H7, H8⟩, Hr⟩, Hk⟩
      iapply ((runEven (F := F) c (grid0.coords t) h1 h2 (ms0 t) (hs0 t) (ms1 t) (hs1 t) (ms2 t) (hs2 t) (ms3 t) (hs3 t) mk (Memref.isWhole_whole _) mss (Memref.isWhole_whole _)
        (iblk m c 0 t) (iblk m c 1 t) (iblk m c 2 t) (kmAt m c t.val t.isLt)).2 Set.univ K)
      isplitl [H0]; · iexact H0
      isplitl [H1]; · iexact H1
      isplitl [H2]; · iexact H2
      isplitl [H3]; · iexact H3
      isplitl [H7]; · iexact H7
      isplitl [H8]; · iexact H8
      iintro ⟨H0, H1, H2, H3, H7, H8⟩
      iapply Hk
      isplitl [H0]; · iexact H0
      isplitl [H1]; · iexact H1
      isplitl [H2]; · iexact H2
      isplitl [H3]; · iexact H3
      iapply hs
      unfold held
      isplitl [H7 H8]
      · isplitl [H7]; · iexact H7
        iexact H8
      iexact Hr

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  simp only [before0_0, before0_1, before0_2]
  rw [show (dats m 0 c).Φ t.succ = Phi m c (t.val + 1) from rfl, show (dats m 0 c).Φ t.castSucc = Phi m c t.val from rfl,
    show (dats m 0 c).owesAt () t.succ = (dats m 0 c).owesAt () t.castSucc from rfl, after0_0, after0_1, after0_2, after0_3]
  iintro ⟨HΦ, Ho, ⟨%d0, H0⟩, ⟨%d1, H1⟩, ⟨%d2, H2⟩, ⟨%d3, H3⟩⟩
  iapply (sound_body m c t _)
  unfold pre post
  isplitl [H0 H1 H2 H3 HΦ]
  · isplitl [H0]; · iexact H0
    isplitl [H1]; · iexact H1
    isplitl [H2]; · iexact H2
    isplitl [H3]; · iexists _; iexact H3
    iexact HΦ
  iintro ⟨H0, H1, H2, H3, HΦ⟩
  isplitl [HΦ]; · iexact HΦ
  isplitl [Ho]; · iexact Ho
  isplitl [H0]; · iexact H0
  isplitl [H1]; · iexact H1
  isplitl [H2]; · iexact H2
  iexact H3

/-! ## The run and the frame -/

theorem phi_zero (c : Dev nD) : (dats (F := F) m 0 c).Φ 0 = Pipeline.ΦA spec0 c := by
  show Phi m c 0 = _
  unfold Phi; exact dif_neg (fun h => h.1 rfl)

theorem phi_last (c : Dev nD) : (dats (F := F) m 0 c).Φ (Fin.last cfg0.N) = Pipeline.ΦA spec0 c := by
  show Phi m c (Fin.last cfg0.N).val = _
  unfold Phi; exact dif_neg (fun h => absurd h.2 (by simp))

set_option backward.isDefEq.respectTransparency.types false in
/-- Every execution of @main terminates with every array at what the pipeline computes and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₀ m ρ main
    (hbody := fun c => (body_obligation m c).loose) (hq := fun _ _ _ => rfl)
    (howed := fun _ _ => rfl) (V := V m) (hmain := hmain m 𝒱₀) (hA := fun _ _ => rfl)
    (hin := fun c => Entails.of_eq (phi_zero m c).symm) (hout := fun c => Entails.of_eq (phi_last m c))

/-- The arguments end as they began, and every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_with_sems (frame_of m ρ (dats m) fun _ _ => rfl) (run_main (F := Ideal) m ρ)

end Cert.KernelIdeal.Moba

end
-- ==== Proof.MobaClaims.lean ====
/- The MoBA call's claims that are no equation: the reference's frame, and the named constants. -/
module

public import proofs.«01_k».proof.Defs
public import proofs.«01_k».proof.Proof.Gen.ReferenceIdeal.Run

@[expose] public section

set_option maxRecDepth 16384

noncomputable section

namespace Cert.Moba

open Idealize.ShloMosaic Idealize.ShloMosaic.TcCoe Idealize.SL.Sem

theorem frame_refIdeal : Cert.quiescent_ReferenceIdeal (hReferenceIdeal := Cert.ReferenceIdeal.Gen.facts) := fun m ρ _ =>
  (θ_run Cert.ReferenceIdeal.defs _ _).mono (fun _ h => ⟨fun c => (h c).2,
    funext fun g => ((by decide : ∀ _ : SemLoc Cert.ReferenceIdeal.sig, False) g.2).elim⟩) (Cert.ReferenceIdeal.Value.run m ρ)

theorem preserves : Cert.preserves_Kernel_KernelIdeal :=
  ⟨IdealRules.named_const.statement Cert.KernelIdeal.κ "qscale" .f32 0x3E0293EE#32 _ rfl,
   IdealRules.named_const.statement Cert.KernelIdeal.κ "mask" .f32 0xF149F2CA#32 ⊥ rfl,
   IdealRules.named_const.statement Cert.KernelIdeal.κ "big" .f32 0x7149F2CA#32 ⊤ rfl⟩

end Cert.Moba

end
-- ==== Proof.MobaStep.lean ====
/-
  The MoBA attention's body in its own words: one step of the running softmax over a block of 512 keys, the scores of a
  block, the two ways of masking them, and the fold of the steps over the blocks up to the query block.
-/
module

public import proofs.«01_k».proof.Proof.MobaRun
public import Idealize.ShloMosaic.Lib.ValueIdxCore

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic Idealize.ShloMosaic.ValueIdx

variable {F : FTy → Type} [FloatOps F] [Named F]

/-- What the running softmax carries: the rows' maxima, their sums and their weighted sums of values. -/
abbrev Carry (F : FTy → Type) := FVec F S512x1 .f32 × FVec F S512x1 .f32 × FVec F S512x128 .f32

/-- The rows' maxima after a block of scores. -/
def stepM (m : FVec F S512x1 .f32) (S : FVec F S512x512 .f32) : FVec F S512x1 .f32 :=
  maximumf m (shapeCast S512x1 (multiReduction .maximumf [1] S512 S 0xFF800000#32 reduces_S512x512_S512 (.inl rfl) rfl) shapeCasts_S512_S512x1)

/-- The factor the sums so far are rescaled by. -/
def stepA (m : FVec F S512x1 .f32) (S : FVec F S512x512 .f32) : FVec F S512x1 .f32 := exp2 (subf m (stepM m S))

/-- The block's weights. -/
def stepP (m : FVec F S512x1 .f32) (S : FVec F S512x512 .f32) : FVec F S512x512 .f32 :=
  exp2 (subf S (broadcastTo S512x512 (stepM m S) broadcasts_S512x1_S512x512))

/-- The rows' sums after a block. -/
def stepL (m l : FVec F S512x1 .f32) (S : FVec F S512x512 .f32) : FVec F S512x1 .f32 :=
  addf (mulf (stepA m S) l) (shapeCast S512x1 (multiReduction .add [1] S512 (stepP m S) 0x00000000#32 reduces_S512x512_S512 (.inl rfl) rfl) shapeCasts_S512_S512x1)

/-- The rows' weighted sums of values after a block. -/
def stepAcc (m : FVec F S512x1 .f32) (acc : FVec F S512x128 .f32) (S : FVec F S512x512 .f32) (V : Vec F S1x512x128 .bf16) : FVec F S512x128 .f32 :=
  addf (mulf (broadcastTo S512x128 (stepA m S) broadcasts_S512x1_S512x128) acc)
    (matmul dot_S512x512_S512x128_S512x128_1_0_0_1_n_n none (truncf .bf16 (stepP m S) bitsLt_bf16_f32)
      (shapeCast S512x128 V shapeCasts_S1x512x128_S512x128) (constant S512x128 .f32 0x00000000#32))

/-- One step of the running softmax. -/
def step (s : Carry F) (S : FVec F S512x512 .f32) (V : Vec F S1x512x128 .bf16) : Carry F :=
  (stepM s.1 S, stepL s.1 s.2.1 S, stepAcc s.1 s.2.2 S V)

/-- The scores of a block of keys. -/
def score (q : FVec F S512x128 .bf16) (K : Vec F S1x512x128 .bf16) : FVec F S512x512 .f32 :=
  matmul dot_S512x128_S512x128_S512x512_1_1_0_0_n_n none q (shapeCast S512x128 K shapeCasts_S1x512x128_S512x128) (constant S512x512 .f32 0x00000000#32)

/-- The lane's number. -/
abbrev lanes : IVec S512x128 32 := iota .tc S512x128 32 [1] iota_S512x128_d1_w32

/-- The choice of block `w` for each row. -/
def picked (ch : FVec F S512x128 .f32) (w : BitVec 32) : FVec F S512x1 .f32 :=
  shapeCast S512x1 (multiReduction .add [1] S512
    (select (cmpi .eq lanes (broadcast S512x128 w)) ch (broadcast S512x128 (Scalar.ofBits .f32 0x00000000#32)))
    0x00000000#32 reduces_S512x128_S512 (.inl rfl) rfl) shapeCasts_S512_S512x1

/-- What is added to the scores of block `w`. -/
def bias (ch : FVec F S512x128 .f32) (w : BitVec 32) : FVec F S512x1 .f32 :=
  mulf (subf (picked ch w) (broadcast S512x1 (Scalar.ofBits .f32 0x3F800000#32))) (broadcast S512x1 (Named.named κ "big" 0x7149F2CA#32))

/-- The scores of a block before the query block, masked by the choices of its two halves `w` and `w'`. -/
def biased (ch : FVec F S512x128 .f32) (w w' : BitVec 32) (S : FVec F S512x512 .f32) : FVec F S512x512 .f32 :=
  concatenate S512x512 1
    [⟨S512x256, addf (extractStridedSlice S512x256 ![0, 0] S slices_S512x512_o0_0_S512x256) (broadcastTo S512x256 (bias ch w) broadcasts_S512x1_S512x256)⟩,
     ⟨S512x256, addf (extractStridedSlice S512x256 ![0, 256] S slices_S512x512_o0_256_S512x256) (broadcastTo S512x256 (bias ch w') broadcasts_S512x1_S512x256)⟩]
    concatenates_S512x256_S512x256_S512x512_d1

/-- What of the query block's own keys is kept. -/
def keep (ch : FVec F S512x128 .f32) (w : BitVec 32) : FVec F S512x512 .f32 :=
  select (cmpi .sle (iota .tc S512x512 32 [1] iota_S512x512_d1_w32) (iota .tc S512x512 32 [0] iota_S512x512_d0_w32))
    (select (cmpi .sge (iota .tc S512x512 32 [1] iota_S512x512_d1_w32) (broadcast S512x512 256#32))
      (broadcast S512x512 (Scalar.ofBits .f32 0x3F800000#32))
      (broadcastTo S512x512 (shapeCast S512x1
        (select (cmpi .slt (iota .tc S512x1 32 [0] iota_S512x1_d0_w32) (broadcast S512x1 256#32))
          (broadcast S512x1 (Scalar.ofBits .f32 0x3F800000#32)) (picked ch w)) shapeCasts_S512x1_S512x1) broadcasts_S512x1_S512x512))
    (broadcast S512x512 (Scalar.ofBits .f32 0x00000000#32))

/-- The scores of the query block's own keys, masked. -/
def diag (ch : FVec F S512x128 .f32) (w : BitVec 32) (S : FVec F S512x512 .f32) : FVec F S512x512 .f32 :=
  select (cmpf .ogt (keep ch w) (broadcast S512x512 (Scalar.ofBits .f32 0x3F000000#32))) S (broadcast S512x512 (Named.named κ "mask" 0xF149F2CA#32))

/-- Rows `512 j …` of a head's keys or values. -/
def rows (X : Vec F S1x4096x128 .bf16) (j : ℕ) : Vec F S1x512x128 .bf16 :=
  fun y => X (ix3 0 ⟨(512 * j + (y 1).val) % 4096, Nat.mod_lt _ (by decide)⟩ (y 2))

/-- Before any block. -/
def init : Carry F := (k0_pay96, k0_pay97, k0_pay98)

/-- The carry after the `n` blocks before the query block. -/
def fold (q : FVec F S512x128 .bf16) (ch : FVec F S512x128 .f32) (K V : Vec F S1x4096x128 .bf16) : ℕ → Carry F
  | 0 => init
  | n + 1 => step (fold q ch K V n) (biased ch (BitVec.ofNat 32 (2 * n)) (BitVec.ofNat 32 (2 * n + 1)) (score q (rows K n))) (rows V n)

/-- The carry at the end of query block `n`. -/
def final (q : FVec F S512x128 .bf16) (ch : FVec F S512x128 .f32) (K V : Vec F S1x4096x128 .bf16) (n : ℕ) : Carry F :=
  step (fold q ch K V n) (diag ch (BitVec.ofNat 32 (2 * n)) (score q (rows K n))) (rows V n)

/-- The choices of each row of query block `i`, from the queries and the block means. -/
def chosen (i : grid0.Coords) (x3 : Vec F S1x512x128 .bf16) (x7 : Vec F S16x128 .bf16) : FVec F S512x128 .f32 :=
  let v9 : IVec S16x512 32 := iota .tc S16x512 32 [0] iota_S16x512_d0_w32
  let v23 := k0_pay70 i x3 x7
  let v69 := k0_pay75 v9 v23 k0_pay71 (k0_pay73 i x3 x7) (k0_pay74 i x3 x7)
  let v114 := k0_pay79 v9 v23 v69 (k0_pay77 v23) (k0_pay78 v9 v23)
  let v159 := k0_pay83 v9 v23 v114 (k0_pay81 v23) (k0_pay82 v9 v23)
  let v204 := k0_pay87 v9 v23 v159 (k0_pay85 v23) (k0_pay86 v9 v23)
  let v249 := k0_pay91 v9 v23 v204 (k0_pay89 v23) (k0_pay90 v9 v23)
  k0_pay95 (k0_pay69 i) v249 (k0_pay93 v23) (k0_pay94 v9 v23)

/-- What the body leaves in the output block. -/
def outBlock (i : grid0.Coords) (x3 : Vec F S1x512x128 .bf16) (x4 x5 : Vec F S1x4096x128 .bf16) (x7 : Vec F S16x128 .bf16) : FVec F S1x512x128 .bf16 :=
  let s := final (k0_pay68 x3) (chosen i x3 x7) x4 x5 (i 2).val
  k0_pay11 s.2.1 s.2.2

end Cert.KernelIdeal.Moba
-- ==== Proof.MobaTrip.lean ====
/-
  What one run of the body leaves in the output block, as the fold of the steps: the trips of the loop over pairs of blocks,
  then the tail of one block (an even query block) or of two (an odd one).
-/
module

public import proofs.«01_k».proof.Proof.MobaStep
public import Idealize.ShloMosaic.Lib.VecWindow
public import Idealize.ShloMosaic.Lib.Pipeline.Value
import all proofs.«01_k».proof.Proof.MobaRun
import all proofs.«01_k».proof.Proof.Gen.KernelIdeal.Loops

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic Idealize.ShloMosaic.ValueIdx

variable {F : FTy → Type} [FloatOps F] [Named F]

variable (c : Dev nD) (i : grid0.Coords)
  (arg3 : Memref sig .tc .vmem S1x512x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x512x128 .bf16) (harg6 : arg6.IsWhole)
  (arg7 : Memref sig .tc .vmem S16x128 .bf16) (harg7 : arg7.IsWhole)
  (arg8 : Memref sig .tc .vmem S1x512x512 .f32) (harg8 : arg8.IsWhole)

/-- A load of 512 rows of a whole buffer. -/
theorem readAt_rows {off : Fin 3 → ℕ} (inb : ∀ a, off a + S1x512x128.size a ≤ S1x4096x128.size a)
    (mm : Memref sig .tc .vmem S1x4096x128 .bf16) (h : mm.IsWhole) (x : Vec F S1x4096x128 .bf16) (j : ℕ) (e : off = ![0, 512 * j, 0]) :
    View.readAt (Elt F) mm.view (Rect.unit (s := S1x4096x128) off S1x512x128.size inb).toLoadRect (h.unread x) = rows x j := by
  subst e
  have hj : 512 * j + 512 ≤ 4096 := inb 1
  funext y
  show mm.view.read (Elt F) (h.unread x) _ = _
  rw [h.read_unread]
  unfold rows
  refine congrArg x (funext fun a => Fin.ext ?_)
  have h1 : (y 1).val < 512 := (y 1).isLt
  have h0 : (y 0).val < 1 := (y 0).isLt
  fin_cases a
  · show 0 + 1 * (y 0).val = 0
    omega
  · show 512 * j + 1 * (y 1).val = (512 * j + (y 1).val) % 4096
    omega
  · show 0 + 1 * (y 2).val = (y 2).val
    omega

theorem off1_1 : ∀ (i : grid0.Coords) (k : Fin (k0_t1_loop i).trips), k0_off1 i k 1#32 = ![0, 512 * (2 * k.val + 1), 0] := by decide +kernel
theorem off1_2 : ∀ (i : grid0.Coords) (k : Fin (k0_t1_loop i).trips), k0_off1 i k 2#32 = ![0, 512 * (2 * k.val + 2), 0] := by decide +kernel
theorem off2_0 : ∀ (i : grid0.Coords) (k : Fin (k0_t1_loop i).trips), k0_off2 i k = ![0, 512 * (2 * k.val), 0] := by decide +kernel
theorem off6_odd : ∀ (i : grid0.Coords), k0_cond2 i = 1#1 → k0_off6 i = ![0, 512 * ((i 2).val - 1), 0] := by decide +kernel
theorem trips_eq : ∀ (i : grid0.Coords), (k0_t1_loop i).trips = (i 2).val / 2 := by decide +kernel
theorem trips2_eq : ∀ (i : grid0.Coords), (k0_t2_loop i).trips = 0 := by decide +kernel
theorem cond2_iff : ∀ (i : grid0.Coords), k0_cond2 i = 1#1 ↔ (i 2).val % 2 = 1 := by decide +kernel

variable (q : FVec F S512x128 .bf16) (ch : FVec F S512x128 .f32) (K V : Vec F S1x4096x128 .bf16)

/-- Scores stored in the scratch buffer and read back are the scores. -/
theorem pay12_pay99 (k : Vec F S1x512x128 .bf16) : k0_pay12 (k0_pay99 q k) = score q k := by
  unfold k0_pay12 k0_pay99
  exact shapeCast_shapeCast (score q k) shapeCasts_S512x512_S1x512x512 shapeCasts_S1x512x512_S512x512

/-- One trip's carry: two steps. -/
theorem tripR_eq (k : Fin (k0_t1_loop i).trips) (s : Carry F) (f : BufTy.Contents (Elt F) arg8.view.ty) :
    tripR_k0_t1 (F := F) Variants.none c none i arg3 harg3 arg4 harg4 arg5 harg5 arg6 harg6 arg7 harg7 arg8 harg8 q ch lanes (harg4.unread K) (harg5.unread V) k s f
      = step (step s (biased ch (BitVec.ofNat 32 (2 * (2 * k.val))) (BitVec.ofNat 32 (2 * (2 * k.val) + 1)) (k0_pay12 (arg8.view.read (Elt F) f))) (rows V (2 * k.val)))
          (biased ch (BitVec.ofNat 32 (2 * (2 * k.val + 1))) (BitVec.ofNat 32 (2 * (2 * k.val + 1) + 1)) (score q (rows K (2 * k.val + 1)))) (rows V (2 * k.val + 1)) := by
  have w : Scalar.muli 2#32 (Scalar.muli 2#32 (Scf.iv 0#32 1#32 k)) = BitVec.ofNat 32 (2 * (2 * k.val))
      ∧ Scalar.addi (Scalar.muli 2#32 (Scalar.muli 2#32 (Scf.iv 0#32 1#32 k))) 1#32 = BitVec.ofNat 32 (2 * (2 * k.val) + 1)
      ∧ Scalar.muli 2#32 (Scalar.addi (Scalar.muli 2#32 (Scf.iv 0#32 1#32 k)) 1#32) = BitVec.ofNat 32 (2 * (2 * k.val + 1))
      ∧ Scalar.addi (Scalar.muli 2#32 (Scalar.addi (Scalar.muli 2#32 (Scf.iv 0#32 1#32 k)) 1#32)) 1#32 = BitVec.ofNat 32 (2 * (2 * k.val + 1) + 1) := by
    revert k i; decide +kernel
  rw [← w.1, ← w.2.1, ← w.2.2.1, ← w.2.2.2,
    ← readAt_rows (k0_off1_inb i k 0) arg4 harg4 K _ (off1_1 i k),
    ← readAt_rows (k0_off1_inb i k 0) arg5 harg5 V _ (off1_1 i k),
    ← readAt_rows (k0_off2_inb i k) arg5 harg5 V _ (off2_0 i k),
    ← View.readAt_full arg8.view f inb_S1x512x512_S1x512x512_0_0_0]
  unfold tripR_k0_t1 trip_k0_t1
  dsimp only
  sl_unfold_words
  rfl

/-- One trip's scratch: the scores of the next pair's first block. -/
theorem tripL_eq (k : Fin (k0_t1_loop i).trips) (s : Carry F) (f : BufTy.Contents (Elt F) arg8.view.ty) (G : BufTy.Contents (Elt F) arg8.view.ty)
    (L : List (View.Piece (Elt F) S1x512x512 .f32)) :
    arg8.view.read (Elt F) (arg8.view.writes (Elt F) G
      (tripL_k0_t1 (F := F) Variants.none c none i arg3 harg3 arg4 harg4 arg5 harg5 arg6 harg6 arg7 harg7 arg8 harg8 q ch lanes (harg4.unread K) (harg5.unread V) k s f ++ L))
      = k0_pay99 q (rows K (2 * k.val + 2)) := by
  rw [← readAt_rows (k0_off1_inb i k 1) arg4 harg4 K _ (off1_2 i k)]
  unfold tripL_k0_t1 trip_k0_t1
  dsimp only
  sl_unfold_words
  exact View.read_writes_full _ _ _ _ _

/-- The loop's state before trip `k`. -/
theorem st_eq (G : BufTy.Contents (Elt F) arg8.view.ty) (hG : arg8.view.read (Elt F) G = k0_pay99 q (rows K 0)) (k : ℕ) (hk : k ≤ (k0_t1_loop i).trips) :
    (st_k0_t1 (F := F) Variants.none c none i arg3 harg3 arg4 harg4 arg5 harg5 arg6 harg6 arg7 harg7 arg8 harg8 q ch lanes (harg4.unread K) (harg5.unread V) G init k).1
        = fold q ch K V (2 * k)
      ∧ arg8.view.read (Elt F) (arg8.view.writes (Elt F) G
        (st_k0_t1 (F := F) Variants.none c none i arg3 harg3 arg4 harg4 arg5 harg5 arg6 harg6 arg7 harg7 arg8 harg8 q ch lanes (harg4.unread K) (harg5.unread V) G init k).2)
        = k0_pay99 q (rows K (2 * k)) := by
  induction k with
  | zero => exact ⟨rfl, hG⟩
  | succ k ih =>
    obtain ⟨h1, h2⟩ := ih (by omega)
    have e := st_k0_t1_succ (F := F) Variants.none c none i arg3 harg3 arg4 harg4 arg5 harg5 arg6 harg6 arg7 harg7 arg8 harg8 q ch lanes (harg4.unread K) (harg5.unread V) G init ⟨k, hk⟩
    dsimp only at e
    rw [e]
    constructor
    · refine (tripR_eq c i arg3 harg3 arg4 harg4 arg5 harg5 arg6 harg6 arg7 harg7 arg8 harg8 q ch K V ⟨k, hk⟩ _ _).trans ?_
      rw [h1, h2, pay12_pay99]
      rfl
    · exact tripL_eq c i arg3 harg3 arg4 harg4 arg5 harg5 arg6 harg6 arg7 harg7 arg8 harg8 q ch K V ⟨k, hk⟩ _ _ _ _

variable (x3 : Vec F S1x512x128 .bf16) (x4 x5 : Vec F S1x4096x128 .bf16) (x7 : Vec F S16x128 .bf16)

/-- The scratch buffer at the loop's entry. -/
abbrev G0 : BufTy.Contents (Elt F) arg8.view.ty :=
  arg8.view.writes (Elt F) arg8.view.junk [⟨Rect.unit ![0, 0, 0] S1x512x512.size inb_S1x512x512_S1x512x512_0_0_0, k0_pay99 q (rows K 0)⟩]

theorem read_G0 : arg8.view.read (Elt F) (G0 arg8 q K) = k0_pay99 q (rows K 0) := View.read_writes_full _ _ _ _ _

/-- The loop's state at its end. -/
abbrev ST := st_k0_t1 (F := F) Variants.none c none i arg3 harg3 arg4 harg4 arg5 harg5 arg6 harg6 arg7 harg7 arg8 harg8 q ch lanes (harg4.unread K) (harg5.unread V) (G0 arg8 q K) init (k0_t1_loop i).trips

/-- The scratch buffer after the loop. -/
theorem readCov_ST :
    arg8.view.readCov ((ST c i arg3 harg3 arg4 harg4 arg5 harg5 arg6 harg6 arg7 harg7 arg8 harg8 q ch K V).2 ++
        [⟨Rect.unit ![0, 0, 0] S1x512x512.size inb_S1x512x512_S1x512x512_0_0_0, k0_pay99 q (rows K 0)⟩])
      (Rect.unit ![0, 0, 0] S1x512x512.size inb_S1x512x512_S1x512x512_0_0_0).toLoadRect
      = k0_pay99 q (rows K (2 * ((i 2).val / 2))) := by
  unfold View.readCov
  rw [View.readAt_full, View.writes_append]
  have := (st_eq c i arg3 harg3 arg4 harg4 arg5 harg5 arg6 harg6 arg7 harg7 arg8 harg8 q ch K V (G0 arg8 q K) (read_G0 arg8 q K) (k0_t1_loop i).trips le_rfl).2
  rw [← trips_eq]
  exact this

theorem carry_ST : (ST c i arg3 harg3 arg4 harg4 arg5 harg5 arg6 harg6 arg7 harg7 arg8 harg8 q ch K V).1 = fold q ch K V (2 * ((i 2).val / 2)) := by
  have := (st_eq c i arg3 harg3 arg4 harg4 arg5 harg5 arg6 harg6 arg7 harg7 arg8 harg8 q ch K V (G0 arg8 q K) (read_G0 arg8 q K) (k0_t1_loop i).trips le_rfl).1
  rw [← trips_eq]
  exact this

/-- The tail of one block. -/
theorem tailEven (h2 : ¬ (k0_cond2 i = 1#1)) :
    (let s := step (ST c i arg3 harg3 arg4 harg4 arg5 harg5 arg6 harg6 arg7 harg7 arg8 harg8 q ch K V).1
        (diag ch (Scalar.muli 2#32 (BitVec.ofNat 32 (i 2).val)) (k0_pay12 (arg8.view.readCov ((ST c i arg3 harg3 arg4 harg4 arg5 harg5 arg6 harg6 arg7 harg7 arg8 harg8 q ch K V).2 ++
        [⟨Rect.unit ![0, 0, 0] S1x512x512.size inb_S1x512x512_S1x512x512_0_0_0, k0_pay99 q (rows K 0)⟩])
      (Rect.unit ![0, 0, 0] S1x512x512.size inb_S1x512x512_S1x512x512_0_0_0).toLoadRect)))
        (View.readAt (Elt F) arg5.view (Rect.unit (s := S1x4096x128) (k0_off7 i) S1x512x128.size (k0_off7_inb i h2)).toLoadRect (harg5.unread V))
     k0_pay11 s.2.1 s.2.2)
    = (let s := final q ch K V (i 2).val; k0_pay11 s.2.1 s.2.2) := by
  have e : 2 * ((i 2).val / 2) = (i 2).val := by rw [cond2_iff] at h2; omega
  have w : Scalar.muli 2#32 (BitVec.ofNat 32 (i 2).val) = BitVec.ofNat 32 (2 * (i 2).val) := by revert i; decide +kernel
  rw [readCov_ST, carry_ST, e, pay12_pay99, w, readAt_rows (k0_off7_inb i h2) arg5 harg5 V _ (k0_off7_eq i)]
  rfl

/-- The tail of two blocks. -/
theorem tailOdd (h2 : k0_cond2 i = 1#1) :
    (let s := step (step (ST c i arg3 harg3 arg4 harg4 arg5 harg5 arg6 harg6 arg7 harg7 arg8 harg8 q ch K V).1
        (biased ch (Scalar.muli 2#32 (Scalar.subi (BitVec.ofNat 32 (i 2).val) 1#32)) (Scalar.addi (Scalar.muli 2#32 (Scalar.subi (BitVec.ofNat 32 (i 2).val) 1#32)) 1#32)
          (k0_pay12 (arg8.view.readCov ((ST c i arg3 harg3 arg4 harg4 arg5 harg5 arg6 harg6 arg7 harg7 arg8 harg8 q ch K V).2 ++
        [⟨Rect.unit ![0, 0, 0] S1x512x512.size inb_S1x512x512_S1x512x512_0_0_0, k0_pay99 q (rows K 0)⟩])
      (Rect.unit ![0, 0, 0] S1x512x512.size inb_S1x512x512_S1x512x512_0_0_0).toLoadRect)))
        (View.readAt (Elt F) arg5.view (Rect.unit (s := S1x4096x128) (k0_off6 i) S1x512x128.size (k0_off6_inb i h2)).toLoadRect (harg5.unread V)))
        (diag ch (Scalar.muli 2#32 (BitVec.ofNat 32 (i 2).val)) (score q (View.readAt (Elt F) arg4.view (Rect.unit (s := S1x4096x128) (k0_off5 i) S1x512x128.size (k0_off5_inb i h2)).toLoadRect (harg4.unread K))))
        (View.readAt (Elt F) arg5.view (Rect.unit (s := S1x4096x128) (k0_off5 i) S1x512x128.size (k0_off5_inb i h2)).toLoadRect (harg5.unread V))
     k0_pay11 s.2.1 s.2.2)
    = (let s := final q ch K V (i 2).val; k0_pay11 s.2.1 s.2.2) := by
  have w : ∀ i : grid0.Coords, k0_cond2 i = 1#1 → Scalar.muli 2#32 (BitVec.ofNat 32 (i 2).val) = BitVec.ofNat 32 (2 * (i 2).val)
      ∧ Scalar.muli 2#32 (Scalar.subi (BitVec.ofNat 32 (i 2).val) 1#32) = BitVec.ofNat 32 (2 * ((i 2).val - 1))
      ∧ Scalar.addi (Scalar.muli 2#32 (Scalar.subi (BitVec.ofNat 32 (i 2).val) 1#32)) 1#32 = BitVec.ofNat 32 (2 * ((i 2).val - 1) + 1) := by decide +kernel
  rw [readCov_ST, carry_ST, pay12_pay99, (w i h2).1, (w i h2).2.2, (w i h2).2.1, readAt_rows (k0_off5_inb i h2) arg4 harg4 K _ (k0_off5_eq i),
    readAt_rows (k0_off5_inb i h2) arg5 harg5 V _ (k0_off5_eq i), readAt_rows (k0_off6_inb i h2) arg5 harg5 V _ (off6_odd i h2)]
  obtain ⟨n, hn⟩ : ∃ n, (i 2).val = n + 1 := ⟨(i 2).val - 1, by rw [cond2_iff] at h2; omega⟩
  have e : 2 * ((i 2).val / 2) = n := by rw [cond2_iff] at h2; omega
  rw [e, hn]
  rfl

set_option maxHeartbeats 4000000 in
/-- An even query block after the first. -/
theorem runEven_eq (h1 : ¬ first i) (h2 : ¬ (k0_cond2 i = 1#1)) :
    ((runEven c i h1 h2 arg3 harg3 arg4 harg4 arg5 harg5 arg6 harg6 arg7 harg7 arg8 harg8 x3 x4 x5 x7).1 : Vec F S1x512x128 .bf16) = outBlock i x3 x4 x5 x7 := by
  have ht2 : Scf.trips (k0_t2_loop i).lb (k0_t2_loop i).ub (k0_t2_loop i).st = 0 := trips2_eq i
  unfold runEven
  dsimp only
  sl_unfold_words
  rw [View.readAt_full arg3.view, harg3.read_unread, View.readAt_full arg7.view, harg7.read_unread, ht2, readAt_rows inb_S1x4096x128_S1x512x128_0_0_0 arg4 harg4 x4 0 rfl]
  exact tailEven c i arg3 harg3 arg4 harg4 arg5 harg5 arg6 harg6 arg7 harg7 arg8 harg8 (k0_pay68 x3) (chosen i x3 x7) x4 x5 h2

set_option maxHeartbeats 4000000 in
/-- An odd query block. -/
theorem runOdd_eq (h1 : ¬ first i) (h2 : k0_cond2 i = 1#1) :
    ((runOdd c i h1 h2 arg3 harg3 arg4 harg4 arg5 harg5 arg6 harg6 arg7 harg7 arg8 harg8 x3 x4 x5 x7).1 : Vec F S1x512x128 .bf16) = outBlock i x3 x4 x5 x7 := by
  have ht2 : Scf.trips (k0_t2_loop i).lb (k0_t2_loop i).ub (k0_t2_loop i).st = 0 := trips2_eq i
  unfold runOdd
  dsimp only
  sl_unfold_words
  rw [View.readAt_full arg3.view, harg3.read_unread, View.readAt_full arg7.view, harg7.read_unread, ht2, readAt_rows inb_S1x4096x128_S1x512x128_0_0_0 arg4 harg4 x4 0 rfl]
  exact tailOdd c i arg3 harg3 arg4 harg4 arg5 harg5 arg6 harg6 arg7 harg7 arg8 harg8 (k0_pay68 x3) (chosen i x3 x7) x4 x5 h2

set_option maxHeartbeats 4000000 in
/-- The first query block. -/
theorem runFirst_eq (h1 : first i) (h2 : ¬ (k0_cond2 i = 1#1)) :
    ((runFirst c i h1 h2 arg3 harg3 arg4 harg4 arg5 harg5 arg6 harg6 arg7 harg7 arg8 harg8 x3 x4 x5).1 : Vec F S1x512x128 .bf16) = outBlock i x3 x4 x5 (k0_pay67 x4) := by
  have ht2 : Scf.trips (k0_t2_loop i).lb (k0_t2_loop i).ub (k0_t2_loop i).st = 0 := trips2_eq i
  unfold runFirst
  dsimp only
  sl_unfold_words
  rw [View.readAt_full arg3.view, harg3.read_unread, View.readCov_full arg7.view, View.readAt_full arg4.view, harg4.read_unread, ht2, readAt_rows inb_S1x4096x128_S1x512x128_0_0_0 arg4 harg4 x4 0 rfl]
  exact tailEven c i arg3 harg3 arg4 harg4 arg5 harg5 arg6 harg6 arg7 harg7 arg8 harg8 (k0_pay68 x3) (chosen i x3 (k0_pay67 x4)) x4 x5 h2

end Cert.KernelIdeal.Moba
-- ==== Proof.MobaMath.lean ====
/-
  The running softmax over the extended reals: the sums a block at a time, rescaled by the running maximum, are the sums of
  the unscaled weights times one factor; their quotient is the softmax's weighted sum.
-/
module

public import Idealize.ShloMosaic.PureOps.Ideal

@[expose] public section

noncomputable section

namespace Cert.Moba

open Idealize.ShloMosaic

/-- A nonnegative real factor goes into a sum of extended reals. -/
theorem coe_mul_sum {ι : Type*} (a : ℝ) (ha : 0 ≤ a) (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- A sum of real numbers, as extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The factor a maximum stands for: `2` to minus it. -/
def factor (m : EReal) : ℝ := if m = ⊥ then 0 else Real.rpow 2 (-m.toReal)

theorem factor_nonneg (m : EReal) : 0 ≤ factor m := by
  unfold factor; split
  · exact le_rfl
  · exact Real.rpow_nonneg (by norm_num) _

theorem exp2_nonneg (x : EReal) : 0 ≤ Ideal.exp2 x := by
  induction x with
  | bot => simp
  | top => simp
  | coe r => rw [Ideal.exp2_coe]; exact_mod_cast Real.rpow_nonneg (by norm_num) _

theorem exp2_sub (x m : EReal) (hx : x ≠ ⊤) (hm : m ≠ ⊤) (h : x ≤ m) : Ideal.exp2 (x - m) = (factor m : EReal) * Ideal.exp2 x := by
  induction x with
  | bot => simp [sub_eq_add_neg]
  | top => exact absurd rfl hx
  | coe r =>
    induction m with
    | bot => exact absurd h (by simp)
    | top => exact absurd rfl hm
    | coe s =>
      have : factor (s : EReal) = Real.rpow 2 (-s) := by simp [factor]
      rw [this, ← EReal.coe_sub, Ideal.exp2_coe, Ideal.exp2_coe, ← EReal.coe_mul]
      congr 1
      show (2:ℝ) ^ (r - s) = (2:ℝ) ^ (-s) * (2:ℝ) ^ r
      rw [← Real.rpow_add (by norm_num)]
      congr 1; ring

/-- One block of the running softmax, of one row. -/
def rowStep (s : EReal × EReal × EReal) (S v : Fin 512 → EReal) : EReal × EReal × EReal :=
  (max s.1 (Finset.univ.sup S),
   Ideal.exp2 (s.1 - max s.1 (Finset.univ.sup S)) * s.2.1 + ∑ c, Ideal.exp2 (S c - max s.1 (Finset.univ.sup S)),
   Ideal.exp2 (s.1 - max s.1 (Finset.univ.sup S)) * s.2.2 + ∑ c, Ideal.exp2 (S c - max s.1 (Finset.univ.sup S)) * v c)

/-- What the state stands for: the unscaled sums `L` and `A`. -/
def Stands (s : EReal × EReal × EReal) (L A : EReal) : Prop :=
  s.1 ≠ ⊤ ∧ s.2.1 = (factor s.1 : EReal) * L ∧ s.2.2 = (factor s.1 : EReal) * A ∧ (s.1 = ⊥ → L = 0 ∧ A = 0)

theorem stands_init : Stands (⊥, 0, 0) 0 0 := ⟨by simp, by simp, by simp, fun _ => ⟨rfl, rfl⟩⟩

theorem factor_step (m m' : EReal) (hm : m ≠ ⊤) (hm' : m' ≠ ⊤) (h : m ≤ m') (X : EReal) (hX : m = ⊥ → X = 0) :
    Ideal.exp2 (m - m') * ((factor m : EReal) * X) = (factor m' : EReal) * X := by
  rw [exp2_sub m m' hm hm' h, ← mul_assoc]
  by_cases hb : m = ⊥
  · rw [hX hb]; simp
  · congr 1
    rw [mul_assoc]
    have : Ideal.exp2 m * (factor m : EReal) = 1 := by
      induction m with
      | bot => exact absurd rfl hb
      | top => exact absurd rfl hm
      | coe s =>
        have : factor (s : EReal) = Real.rpow 2 (-s) := by simp [factor]
        rw [this, Ideal.exp2_coe, ← EReal.coe_mul, ← EReal.coe_one]
        congr 1
        show (2:ℝ) ^ s * (2:ℝ) ^ (-s) = 1
        rw [← Real.rpow_add (by norm_num)]; simp
    rw [this, mul_one]

theorem sup_ne_top {ι : Type*} (s : Finset ι) (S : ι → EReal) (hS : ∀ c, S c ≠ ⊤) : s.sup S ≠ ⊤ :=
  ((Finset.sup_lt_iff (by simp)).2 fun c _ => lt_top_iff_ne_top.2 (hS c)).ne

theorem stands_step (s : EReal × EReal × EReal) (L A : EReal) (h : Stands s L A) (S v : Fin 512 → EReal) (hS : ∀ c, S c ≠ ⊤) :
    Stands (rowStep s S v) (L + ∑ c, Ideal.exp2 (S c)) (A + ∑ c, Ideal.exp2 (S c) * v c) := by
  obtain ⟨h1, h2, h3, h4⟩ := h
  have hm' : max s.1 (Finset.univ.sup S) ≠ ⊤ := by
    rcases max_choice s.1 (Finset.univ.sup S) with e | e <;> rw [e]
    · exact h1
    · exact sup_ne_top _ S hS
  have hle : ∀ c, S c ≤ max s.1 (Finset.univ.sup S) := fun c => le_trans (Finset.le_sup (Finset.mem_univ c)) (le_max_right _ _)
  have hf := factor_nonneg (max s.1 (Finset.univ.sup S))
  refine ⟨hm', ?_, ?_, ?_⟩
  · show _ + _ = _
    rw [h2, factor_step _ _ h1 hm' (le_max_left _ _) L fun e => (h4 e).1,
      EReal.left_distrib_of_nonneg_of_ne_top (by exact_mod_cast hf) (EReal.coe_ne_top _), coe_mul_sum (factor (rowStep s S v).1) hf]
    exact congrArg _ (Finset.sum_congr rfl fun c _ => exp2_sub _ _ (hS c) hm' (hle c))
  · show _ + _ = _
    rw [h3, factor_step _ _ h1 hm' (le_max_left _ _) A fun e => (h4 e).2,
      EReal.left_distrib_of_nonneg_of_ne_top (by exact_mod_cast hf) (EReal.coe_ne_top _), coe_mul_sum (factor (rowStep s S v).1) hf]
    exact congrArg _ (Finset.sum_congr rfl fun c _ => by rw [exp2_sub _ _ (hS c) hm' (hle c), mul_assoc]; rfl)
  · intro e
    have e1 : s.1 = ⊥ := le_bot_iff.1 (e ▸ le_max_left _ _)
    have e2 : ∀ c, S c = ⊥ := fun c => le_bot_iff.1 (e ▸ hle c)
    simp [h4 e1, e2]

/-- The quotient of the two sums is that of the unscaled ones, over a positive sum. -/
theorem stands_div (s : EReal × EReal × EReal) (W : ℝ) (hW : 0 < W) (A : EReal) (h : Stands s (W : EReal) A) :
    Ideal.div s.2.2 s.2.1 = ((1 / W : ℝ) : EReal) * A := by
  obtain ⟨h1, h2, h3, h4⟩ := h
  have hb : s.1 ≠ ⊥ := fun e => hW.ne' (by exact_mod_cast (h4 e).1)
  have hf : 0 < factor s.1 := by
    unfold factor; rw [if_neg hb]; exact Real.rpow_pos_of_pos (by norm_num) _
  rw [h2, h3, ← EReal.coe_mul, Ideal.div_coe (mul_pos hf hW).ne', mul_comm, ← mul_assoc, ← EReal.coe_mul]
  congr 2
  field_simp

/-- The softmax's weighted sum, of scores that are real or masked, one of them real. -/
theorem softmax_sum {ι : Type*} [Fintype ι] (x v : ι → EReal) (hx : ∀ i, x i ≠ ⊤) (i0 : ι) (h0 : x i0 ≠ ⊥) :
    ∑ i, Ideal.div (Ideal.exp (x i - Finset.univ.sup x)) (∑ j, Ideal.exp (x j - Finset.univ.sup x)) * v i
      = ((1 / ∑ i, (Ideal.exp (x i)).toReal : ℝ) : EReal) * ∑ i, Ideal.exp (x i) * v i
    ∧ 0 < ∑ i, (Ideal.exp (x i)).toReal := by
  obtain ⟨M, hM⟩ : ∃ M : ℝ, Finset.univ.sup x = (M : EReal) := by
    refine ⟨(Finset.univ.sup x).toReal, (EReal.coe_toReal (sup_ne_top _ x hx) fun e => h0 ?_).symm⟩
    exact le_bot_iff.1 (e ▸ Finset.le_sup (Finset.mem_univ i0))
  have hr : ∀ i, ∃ r : ℝ, 0 ≤ r ∧ Ideal.exp (x i) = (r : EReal) ∧ Ideal.exp (x i - (M : EReal)) = ((Real.exp (-M) * r : ℝ) : EReal) ∧ (x i ≠ ⊥ → 0 < r) := by
    intro i
    have := hx i
    generalize x i = y at this
    induction y with
    | bot => exact ⟨0, le_rfl, by simp, by simp [sub_eq_add_neg], fun h => absurd rfl h⟩
    | top => exact absurd rfl this
    | coe a =>
      refine ⟨Real.exp a, (Real.exp_pos a).le, rfl, ?_, fun _ => Real.exp_pos a⟩
      rw [← EReal.coe_sub, Ideal.exp_coe, ← Real.exp_add]; congr 2; ring
  choose r r0 r1 r2 r3 using hr
  have hW : 0 < ∑ i, r i := Finset.sum_pos' (fun i _ => r0 i) ⟨i0, Finset.mem_univ _, r3 i0 h0⟩
  have e1 : (∑ i, (Ideal.exp (x i)).toReal) = ∑ i, r i := Finset.sum_congr rfl fun i _ => by rw [r1, EReal.toReal_coe]
  rw [e1, hM]
  refine ⟨?_, hW⟩
  have e2 : ∑ j, Ideal.exp (x j - (M : EReal)) = ((Real.exp (-M) * ∑ i, r i : ℝ) : EReal) := by
    rw [Finset.mul_sum, coe_sum]; exact Finset.sum_congr rfl fun i _ => r2 i
  rw [e2, coe_mul_sum _ (by positivity)]
  refine Finset.sum_congr rfl fun i _ => ?_
  rw [Ideal.div_coe (mul_pos (Real.exp_pos _) hW).ne', r2, r1, ← mul_assoc, ← EReal.coe_mul, ← EReal.coe_mul]
  congr 2
  have := Real.exp_pos (-M)
  field_simp

end Cert.Moba
-- ==== Proof.MobaTop.lean ====
/-
  The three greatest: a position is among the first three of a stable descending sort exactly when fewer than three positions
  come before it, greater ones and equal ones at a lower position.
-/
module

public import Idealize.ShloMosaic.PureOps.Ideal
public import Idealize.ShloMosaic.Lib.SortFacts
public import Idealize.ShloMosaic.Lib.ValueIdxCore
public import Idealize.ShloMosaic.Lib.Pipeline.Value

@[expose] public section

noncomputable section

namespace Cert.Moba

open Idealize.ShloMosaic

/-- `k` comes before `n`: greater, or equal and at a lower position. -/
def Ahead {N : ℕ} (g : Fin N → EReal) (k n : Fin N) : Prop := g n < g k ∨ (g k = g n ∧ k < n)

/-- Position `n` is one of the three greatest. -/
def Top3 {N : ℕ} (g : Fin N → EReal) (n : Fin N) : Prop := Nat.card {k : Fin N // Ahead g k n} < 3

theorem stableSort_ahead {N : ℕ} (g : Fin N → EReal) (before after : Fin N → Fin N → Bool)
    (hb : ∀ k k', before k k' = true ↔ g k' < g k) (ha : ∀ k k', after k k' = true ↔ Ahead g k k') (l : List (Fin N)) (hl : l.Pairwise (· < ·)) :
    stableSort before l = stableSort after l := by
  induction l with
  | nil => rfl
  | cons a l ih =>
    rw [List.pairwise_cons] at hl
    show insertBefore before a (stableSort before l) = insertBefore after a (stableSort after l)
    rw [ih hl.2]
    refine insertBefore_congr _ _ a _ fun b hm => ?_
    have hlt : a < b := hl.1 b ((perm_stableSort after l).mem_iff.1 hm)
    rw [Bool.eq_iff_iff, hb, ha]
    exact ⟨Or.inl, fun h => h.resolve_right fun h => absurd h.2 (not_lt.2 hlt.le)⟩

theorem sortedFrom_top3 {N : ℕ} (g : Fin N → EReal) (before : Fin N → Fin N → Bool)
    (hb : ∀ k k', before k k' = true ↔ g k' < g k) (n : Fin N) :
    (∃ i : Fin N, i.val < 3 ∧ sortedFrom before i = n) ↔ Top3 g n := by
  classical
  let after : Fin N → Fin N → Bool := fun k k' => decide (Ahead g k k')
  have ha : ∀ k k', after k k' = true ↔ Ahead g k k' := fun k k' => decide_eq_true_iff
  have e : sortedFrom before = sortedFrom after := by
    funext k
    unfold sortedFrom
    have q : sortPositions N before = sortPositions N after := stableSort_ahead g before after hb ha (List.finRange N) (List.pairwise_lt_finRange N)
    rw [List.get_of_eq q]
    rfl
  rw [e]
  have total : ∀ a b : Fin N, a ≠ b → Ahead g a b ∨ Ahead g b a := fun a b h => by
    rcases lt_trichotomy (g a) (g b) with q | q | q
    · exact Or.inr (Or.inl q)
    · rcases lt_or_gt_of_ne h with w | w
      · exact Or.inl (Or.inr ⟨q, w⟩)
      · exact Or.inr (Or.inr ⟨q.symm, w⟩)
    · exact Or.inl (Or.inl q)
  have asym : ∀ a b : Fin N, Ahead g a b → ¬ Ahead g b a := fun a b h h' => by
    rcases h with h | h <;> rcases h' with h' | h'
    · exact lt_asymm h h'
    · exact h.ne h'.1
    · exact h'.ne h.1
    · exact lt_asymm h.2 h'.2
  have trans : ∀ a b c : Fin N, Ahead g a b → Ahead g b c → Ahead g a c := fun a b c h h' => by
    rcases h with h | h <;> rcases h' with h' | h'
    · exact Or.inl (h'.trans h)
    · exact Or.inl (h'.1 ▸ h)
    · exact Or.inl (h.1 ▸ h')
    · exact Or.inr ⟨h.1.trans h'.1, h.2.trans h'.2⟩
  have noInv := sortedFrom_noInversion after after
    (fun a b h => by rw [← Bool.not_eq_true, ha]; exact asym a b ((ha a b).1 h)) (fun _ _ h => h)
    (fun a b c h h' => by
      rw [← Bool.not_eq_true, ha] at h h' ⊢
      intro hac
      by_cases hab : a = b
      · exact h' (hab ▸ hac)
      · by_cases hbc : b = c
        · exact h (hbc ▸ hac)
        · exact asym a c hac (trans c b a ((total b c hbc).resolve_left h') ((total a b hab).resolve_left h)))
  have inj := sortedFrom_injective after
  have ord : ∀ i j : Fin N, Ahead g (sortedFrom after i) (sortedFrom after j) ↔ i < j := fun i j => by
    have key : ∀ i j : Fin N, i < j → Ahead g (sortedFrom after i) (sortedFrom after j) := fun i j h => by
      have q := noInv i j h
      rw [← Bool.not_eq_true, ha] at q
      exact (total _ _ fun e => h.ne (inj e)).resolve_right q
    refine ⟨fun h => ?_, key i j⟩
    rcases lt_trichotomy i j with w | w | w
    · exact w
    · exact absurd h (w ▸ fun h => asym _ _ h h)
    · exact absurd (key j i w) (asym _ _ h)
  have card : ∀ i : Fin N, Fintype.card {k : Fin N // Ahead g k (sortedFrom after i)} = i.val := fun i => by
    have : Fintype.card {j : Fin N // j < i} = i.val := by
      rw [Fintype.card_subtype, show Finset.filter (fun j : Fin N => j < i) Finset.univ = Finset.Iio i by ext; simp, Fin.card_Iio]
    rw [← this]
    refine (Fintype.card_congr (Equiv.ofBijective (fun j : {j : Fin N // j < i} => (⟨sortedFrom after j.1, (ord _ _).2 j.2⟩ : {k : Fin N // Ahead g k (sortedFrom after i)})) ⟨?_, ?_⟩)).symm
    · intro x y h
      exact Subtype.ext (inj (congrArg Subtype.val h))
    · rintro ⟨k, hk⟩
      obtain ⟨j, rfl⟩ := sortedFrom_surjective after k
      exact ⟨⟨j, (ord _ _).1 hk⟩, rfl⟩
  obtain ⟨i, rfl⟩ := sortedFrom_surjective after n
  unfold Top3
  rw [Nat.card_eq_fintype_card, card i]
  exact ⟨fun ⟨j, hj, h⟩ => inj h ▸ hj, fun h => ⟨i, h, rfl⟩⟩

end Cert.Moba
-- ==== Proof.MobaSpec.lean ====
/-
  The MoBA attention of one head in plain mathematics over the extended reals, and what the queries and keys being real
  numbers makes of its pieces.
-/
module

public import proofs.«01_k».proof.Proof.MobaMath
public import proofs.«01_k».proof.Proof.MobaTop

@[expose] public section

noncomputable section

namespace Cert.Moba

open Idealize.ShloMosaic

/-- The block a position lies in. -/
def blkOf (p : Fin 4096) : Fin 16 := ⟨p.val / 256, by have := p.isLt; omega⟩

/-- The mean of the keys of block `n`. -/
def kmean (k : Fin 4096 → Fin 128 → EReal) (n : Fin 16) (e : Fin 128) : EReal :=
  Ideal.div (∑ c : Fin 256, k ⟨256 * n.val + c.val, by have := n.isLt; have := c.isLt; omega⟩ e) ((256 : ℝ) : EReal)

/-- The gate of query `s` for block `n`: masked unless the block lies before the query's. -/
def gate (q k : Fin 4096 → Fin 128 → EReal) (s : Fin 4096) (n : Fin 16) : EReal :=
  if n < blkOf s then ∑ e, q s e * kmean k n e else ⊥

/-- Block `n` is chosen for query `s`. -/
def Sel (q k : Fin 4096 → Fin 128 → EReal) (s : Fin 4096) (n : Fin 16) : Prop := n < blkOf s ∧ Top3 (gate q k s) n

/-- Key `p` is seen by query `s`. -/
def Seen (q k : Fin 4096 → Fin 128 → EReal) (s p : Fin 4096) : Prop := Sel q k s (blkOf p) ∨ (blkOf p = blkOf s ∧ p ≤ s)

open Classical in
/-- The masked score of key `p` for query `s`. -/
def logit (q k : Fin 4096 → Fin 128 → EReal) (s p : Fin 4096) : EReal :=
  if Seen q k s p then Ideal.div (∑ e, q s e * k p e) ((Real.sqrt 128 : ℝ) : EReal) else ⊥

/-- The attention of one head. -/
def attn (q k v : Fin 4096 → Fin 128 → EReal) (s : Fin 4096) (d : Fin 128) : EReal :=
  ∑ p, Ideal.div (Ideal.exp (logit q k s p - Finset.univ.sup (logit q k s)))
    (∑ p', Ideal.exp (logit q k s p' - Finset.univ.sup (logit q k s))) * v p d

/-- The factor the queries are scaled by. -/
def qs : ℝ := (Real.sqrt 128)⁻¹ * (Real.log 2)⁻¹

theorem qs_pos : 0 < qs := by
  unfold qs
  have : 0 < Real.log 2 := Real.log_pos (by norm_num)
  positivity

variable (q k : Fin 4096 → Fin 128 → ℝ)

/-- The arrays as extended reals. -/
def up (x : Fin 4096 → Fin 128 → ℝ) : Fin 4096 → Fin 128 → EReal := fun p e => (x p e : EReal)

/-- The mean of the keys of block `n`, a real number. -/
def kmeanR (n : Fin 16) (e : Fin 128) : ℝ :=
  (∑ c : Fin 256, k ⟨256 * n.val + c.val, by have := n.isLt; have := c.isLt; omega⟩ e) * (1 / 256)

theorem kmean_up (n : Fin 16) (e : Fin 128) : kmean (up k) n e = (kmeanR k n e : EReal) := by
  unfold kmean kmeanR up
  rw [← coe_sum, Ideal.div_coe (by norm_num), ← EReal.coe_mul]

theorem gate_up (s : Fin 4096) (n : Fin 16) :
    gate (up q) (up k) s n = if n < blkOf s then ((∑ e, q s e * kmeanR k n e : ℝ) : EReal) else ⊥ := by
  unfold gate
  split
  · rw [coe_sum]
    exact Finset.sum_congr rfl fun e _ => by rw [kmean_up, EReal.coe_mul]; rfl
  · rfl

/-- The gates scaled by the positive factor choose the same blocks. -/
theorem top3_scaled (s : Fin 4096) (n : Fin 16) (g : Fin 16 → EReal)
    (hg : ∀ n, g n = if n < blkOf s then ((qs * ∑ e, q s e * kmeanR k n e : ℝ) : EReal) else ⊥) :
    Top3 g n ↔ Top3 (gate (up q) (up k) s) n := by
  have hlt : ∀ a b, g a < g b ↔ gate (up q) (up k) s a < gate (up q) (up k) s b := fun a b => by
    rw [hg, hg, gate_up, gate_up]
    split <;> split <;> simp [-EReal.coe_mul, mul_lt_mul_iff_right₀ qs_pos, EReal.bot_lt_coe]
  have heq : ∀ a b, g a = g b ↔ gate (up q) (up k) s a = gate (up q) (up k) s b := fun a b => by
    rw [le_antisymm_iff, le_antisymm_iff, ← not_lt, ← not_lt, ← not_lt, ← not_lt, hlt, hlt]
  have : ∀ k' n', Ahead g k' n' ↔ Ahead (gate (up q) (up k) s) k' n' := fun k' n' => by
    unfold Ahead; rw [hlt, heq]
  unfold Top3
  rw [Nat.card_congr (Equiv.subtypeEquivRight fun k' => this k' n)]

open Classical in
theorem exp_logit (s p : Fin 4096) :
    Ideal.exp (logit (up q) (up k) s p) = if Seen (up q) (up k) s p then Ideal.exp2 ((qs * ∑ e, q s e * k p e : ℝ) : EReal) else 0 := by
  unfold logit
  split
  · have : (∑ e, up q s e * up k p e) = ((∑ e, q s e * k p e : ℝ) : EReal) := by
      rw [coe_sum]; exact Finset.sum_congr rfl fun e _ => (EReal.coe_mul _ _).symm
    have h2 : 0 < Real.log 2 := Real.log_pos (by norm_num)
    rw [this, Ideal.div_coe (by positivity), ← EReal.coe_mul, Ideal.exp_coe, Ideal.exp2_coe]
    congr 1
    change Real.exp _ = (2 : ℝ) ^ (qs * ∑ e, q s e * k p e)
    rw [Real.rpow_def_of_pos (by norm_num)]
    congr 1
    unfold qs
    field_simp
  · simp

theorem logit_ne_top (s p : Fin 4096) : logit (up q) (up k) s p ≠ ⊤ := by
  unfold logit
  split
  · have : (∑ e, up q s e * up k p e) = ((∑ e, q s e * k p e : ℝ) : EReal) := by
      rw [coe_sum]; exact Finset.sum_congr rfl fun e _ => (EReal.coe_mul _ _).symm
    rw [this, Ideal.div_coe (by positivity), ← EReal.coe_mul]
    exact EReal.coe_ne_top _
  · simp

theorem logit_self (s : Fin 4096) : logit (up q) (up k) s s ≠ ⊥ := by
  unfold logit
  rw [if_pos (show Seen (up q) (up k) s s from Or.inr ⟨rfl, le_rfl⟩)]
  have : (∑ e, up q s e * up k s e) = ((∑ e, q s e * k s e : ℝ) : EReal) := by
    rw [coe_sum]; exact Finset.sum_congr rfl fun e _ => (EReal.coe_mul _ _).symm
  rw [this, Ideal.div_coe (by positivity), ← EReal.coe_mul]
  exact EReal.coe_ne_bot _

/-- A sum over the positions is a sum over eight blocks of 512. -/
theorem sum_blocks {M : Type*} [AddCommMonoid M] (f : ℕ → M) :
    ∑ p : Fin 4096, f p.val = ∑ j ∈ Finset.range 8, ∑ c : Fin 512, f (512 * j + c.val) := by
  rw [Finset.sum_fin_eq_sum_range, ← Fin.sum_univ_eq_sum_range (fun j => ∑ c : Fin 512, f (512 * j + c.val)) 8, ← Fintype.sum_prod_type',
    Finset.sum_congr rfl (fun i hi => dif_pos (Finset.mem_range.1 hi)), ← Fin.sum_univ_eq_sum_range f 4096]
  exact (Fintype.sum_equiv (finProdFinEquiv (m := 8) (n := 512)) _ _ fun x => by
    congr 1; show _ = x.2.val + 512 * x.1.val; omega).symm

end Cert.Moba
-- ==== Proof.MobaRow.lean ====
/-
  The pieces of the MoBA attention's body read at one row, over the extended reals.
-/
module

public import proofs.«01_k».proof.Proof.MobaStep
public import proofs.«01_k».proof.Proof.MobaSpec
public import Idealize.ShloMosaic.Lib.Pointwise
public import Idealize.ShloMosaic.Lib.WordCmp

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Cert.Moba

/-! ### The named constants and the others -/

theorem named_qscale : Named.named (F := Ideal) (φ := .f32) κ "qscale" 0x3E0293EE#32 = ((qs : ℝ) : EReal) :=
  IdealRules.named_const.ideal_named_scalar _ _ _ _ rfl
theorem named_mask : Named.named (F := Ideal) (φ := .f32) κ "mask" 0xF149F2CA#32 = (⊥ : EReal) :=
  IdealRules.named_const.ideal_named_scalar _ _ _ _ rfl
theorem named_big : Named.named (F := Ideal) (φ := .f32) κ "big" 0x7149F2CA#32 = (⊤ : EReal) :=
  IdealRules.named_const.ideal_named_scalar _ _ _ _ rfl
theorem ofBits_bot : Ideal.ofBits .f32 0xFF800000#32 = (⊥ : EReal) := by simp [Ideal.ofBits, Ideal.ieee]
theorem ofBits_256th : Ideal.ofBits .f32 0x3B800000#32 = ((1 / 256 : ℝ) : EReal) := by
  simp [Ideal.ofBits, Ideal.ieee, -EReal.coe_mul]; norm_num
theorem ofBits_three : Ideal.ofBits .f32 0x40400000#32 = ((3 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

theorem sel_iff {α : Type} {c : BitVec 1} {p : Prop} [Decidable p] (h : c = 1#1 ↔ p) (a b : α) : Scalar.select c a b = if p then a else b := by
  unfold Scalar.select
  by_cases hp : p
  · rw [if_pos hp]; exact if_pos (h.2 hp)
  · rw [if_neg hp]; exact if_neg fun e => hp (h.1 e)

/-! ### One step of the running softmax -/

theorem stepM_row (m : FVec Ideal S512x1 .f32) (S : FVec Ideal S512x512 .f32) (r : Fin 512) :
    stepM m S (ix2 r 0) = max (m (ix2 r 0)) (Finset.univ.sup fun c : Fin 512 => S (ix2 r c)) := by
  unfold stepM
  pointwise
  rw [ofBits_bot]
  rfl

theorem stepL_row (m l : FVec Ideal S512x1 .f32) (S : FVec Ideal S512x512 .f32) (r : Fin 512) :
    stepL m l S (ix2 r 0) = Ideal.exp2 (m (ix2 r 0) - stepM m S (ix2 r 0)) * l (ix2 r 0) + ∑ c : Fin 512, Ideal.exp2 (S (ix2 r c) - stepM m S (ix2 r 0)) := by
  unfold stepL stepA stepP
  pointwise
  rfl

theorem stepAcc_row (m : FVec Ideal S512x1 .f32) (acc : FVec Ideal S512x128 .f32) (S : FVec Ideal S512x512 .f32) (V : Vec Ideal S1x512x128 .bf16) (r : Fin 512) (d : Fin 128) :
    stepAcc m acc S V (ix2 r d) = Ideal.exp2 (m (ix2 r 0) - stepM m S (ix2 r 0)) * acc (ix2 r d) + ∑ c : Fin 512, Ideal.exp2 (S (ix2 r c) - stepM m S (ix2 r 0)) * V (ix3 0 c d) := by
  unfold stepAcc stepA stepP
  pointwise
  rfl

/-- One row and one lane of the carry. -/
def rowOf (s : Carry Ideal) (r : Fin 512) (d : Fin 128) : EReal × EReal × EReal := (s.1 (ix2 r 0), s.2.1 (ix2 r 0), s.2.2 (ix2 r d))

theorem step_row (s : Carry Ideal) (S : FVec Ideal S512x512 .f32) (V : Vec Ideal S1x512x128 .bf16) (r : Fin 512) (d : Fin 128) :
    rowOf (step s S V) r d = rowStep (rowOf s r d) (fun c => S (ix2 r c)) (fun c => V (ix3 0 c d)) := by
  show (stepM s.1 S (ix2 r 0), stepL s.1 s.2.1 S (ix2 r 0), stepAcc s.1 s.2.2 S V (ix2 r d)) = _
  rw [stepL_row, stepAcc_row, stepM_row]
  rfl

theorem init_row (r : Fin 512) (d : Fin 128) : rowOf (init (F := Ideal)) r d = (⊥, 0, 0) := by
  unfold rowOf init k0_pay96 k0_pay97 k0_pay98
  pointwise
  rw [named_mask]

/-! ### The scores and the block means -/

theorem score_row (q : FVec Ideal S512x128 .bf16) (K : Vec Ideal S1x512x128 .bf16) (r c : Fin 512) :
    score q K (ix2 r c) = ∑ e : Fin 128, q (ix2 r e) * K (ix3 0 c e) := by
  unfold score
  pointwise

theorem rows_row (X : Vec Ideal S1x4096x128 .bf16) (j : ℕ) (c : Fin 512) (d : Fin 128) (h : 512 * j + c.val < 4096) :
    rows X j (ix3 0 c d) = X (ix3 0 ⟨512 * j + c.val, h⟩ d) := by
  show X (ValueIdx.ix3 0 _ _) = _
  rw [ix3_eq_valueIdx]
  congr 2
  exact Fin.ext (Nat.mod_eq_of_lt h)

theorem pay68_row (x3 : Vec Ideal S1x512x128 .bf16) (r : Fin 512) (e : Fin 128) :
    k0_pay68 x3 (ix2 r e) = x3 (ix3 0 r e) * ((qs : ℝ) : EReal) := by
  unfold k0_pay68
  pointwise
  rw [named_qscale]

theorem shr_eq (x : Fin 4096) (n : Fin 16) :
    IntOp.cmpi CmpIPredicate.eq (IntOp.shrui ArithUnit.vector (BitVec.ofNat 32 x.val) 8#32) (BitVec.ofNat 32 n.val) = 1#1 ↔ x.val / 256 = n.val := by
  have hx := x.isLt
  have hn := n.isLt
  have e : IntOp.shrui ArithUnit.vector (BitVec.ofNat 32 x.val) 8#32 = BitVec.ofNat 32 (x.val / 256) := by
    apply BitVec.eq_of_toNat_eq
    simp [IntOp.shrui, Nat.shiftRight_eq_div_pow]
    omega
  rw [e, WordCmp.cmpi_eq_ofNat_eq_one_iff (by omega) (by omega)]

theorem pay67_row (x4 : Vec Ideal S1x4096x128 .bf16) (n : Fin 16) (e : Fin 128) :
    k0_pay67 x4 (ix2 n e) = (∑ p : Fin 4096, if p.val / 256 = n.val then x4 (ix3 0 p e) else 0) * ((1 / 256 : ℝ) : EReal) := by
  unfold k0_pay67
  pointwise
  rw [ofBits_256th]
  congr 1
  exact Finset.sum_congr rfl fun p _ => sel_iff (shr_eq p n) _ _

/-! ### The choice of blocks -/

theorem pay69_row (i : grid0.Coords) (n : Fin 16) (r : Fin 512) : k0_pay69 i (ix2 n r) = 1#1 ↔ n.val < 2 * (i 2).val + r.val / 256 := by
  unfold k0_pay69
  pointwise
  have hi : (i 2).val < 8 := (i 2).isLt
  have hr := r.isLt
  have hn := n.isLt
  rw [sel_iff (WordCmp.cmpi_sge_ofNat_eq_one_iff (w := 32) (a := r.val) (b := 256) (by omega) (by omega))]
  have e : IntOp.addi (Scalar.muli (2#32) (BitVec.ofNat 32 (i 2).val)) (if 256 ≤ r.val then 1#32 else 0#32) = BitVec.ofNat 32 (2 * (i 2).val + r.val / 256) := by
    apply BitVec.eq_of_toNat_eq
    split <;> simp [IntOp.addi, Scalar.muli, IntOp.muli] <;> omega
  rw [e, WordCmp.cmpi_slt_ofNat_eq_one_iff (by omega) (by omega)]

theorem pay70_row (i : grid0.Coords) (x3 : Vec Ideal S1x512x128 .bf16) (x7 : Vec Ideal S16x128 .bf16) (n : Fin 16) (r : Fin 512) :
    k0_pay70 i x3 x7 (ix2 n r) = if n.val < 2 * (i 2).val + r.val / 256 then ∑ e : Fin 128, x7 (ix2 n e) * (x3 (ix3 0 r e) * ((qs : ℝ) : EReal)) else ⊥ := by
  unfold k0_pay70
  pointwise
  rw [named_mask, sel_iff (pay69_row i n r)]
  simp only [pay68_row]

open Classical in
/-- One comparison of the rank: whether block `k` comes before block `n`. -/
def ahead (g : Fin 16 → EReal) (n k : Fin 16) : EReal := if Ahead g k n then 1 else 0

theorem ahead_word (g : Fin 16 → EReal) (n k : Fin 16) :
    (if g n < g k then (1 : EReal) else if g k = g n then Scalar.select (IntOp.cmpi .sgt (BitVec.ofNat 32 n.val) (BitVec.ofNat 32 k.val)) 1 0 else 0) = ahead g n k := by
  have hn := n.isLt
  have hk := k.isLt
  rw [sel_iff (WordCmp.cmpi_sgt_ofNat_eq_one_iff (w := 32) (a := n.val) (b := k.val) (by omega) (by omega))]
  unfold ahead Ahead
  have : k < n ↔ k.val < n.val := Iff.rfl
  by_cases h1 : g n < g k <;> by_cases h2 : g k = g n <;> by_cases h3 : k.val < n.val <;> simp [h1, h2, h3, this]

/-- One comparison of the rank as the body makes it. -/
def cmpRow (v23 : FVec Ideal S16x512 .f32) (k : ℕ) (h : S16x512.Slices ![k, 0] S1x512) : FVec Ideal S16x512 .f32 :=
  select (cmpf .ogt (broadcastTo S16x512 (extractStridedSlice S1x512 ![k, 0] v23 h) broadcasts_S1x512_S16x512) v23)
    (broadcast S16x512 (Scalar.ofBits .f32 0x3F800000#32))
    (select (cmpf .oeq (broadcastTo S16x512 (extractStridedSlice S1x512 ![k, 0] v23 h) broadcasts_S1x512_S16x512) v23)
      (select (cmpi .sgt (iota .tc S16x512 32 [0] iota_S16x512_d0_w32) (broadcast S16x512 (BitVec.ofNat 32 k)))
        (broadcast S16x512 (Scalar.ofBits .f32 0x3F800000#32)) (broadcast S16x512 (Scalar.ofBits .f32 0x00000000#32)))
      (broadcast S16x512 (Scalar.ofBits .f32 0x00000000#32)))

theorem cmpRow_row (v23 : FVec Ideal S16x512 .f32) (k : ℕ) (hk : k < 16) (h : S16x512.Slices ![k, 0] S1x512) (n : Fin 16) (r : Fin 512) :
    cmpRow v23 k h (ix2 n r) = ahead (fun n => v23 (ix2 n r)) n ⟨k, hk⟩ := by
  rw [← ahead_word]
  unfold cmpRow
  pointwise

/-- The rank as the body sums it. -/
theorem chosen_eq (i : grid0.Coords) (x3 : Vec Ideal S1x512x128 .bf16) (x7 : Vec Ideal S16x128 .bf16) (v23 : FVec Ideal S16x512 .f32) (hv : k0_pay70 i x3 x7 = v23) :
    chosen i x3 x7 = k0_pay95 (k0_pay69 i)
      (addf (addf (addf (addf (addf (addf (addf (addf (addf (addf (addf (addf (addf (addf (addf k0_pay71
        (cmpRow v23 0 slices_S16x512_o0_0_S1x512)) (cmpRow v23 1 slices_S16x512_o1_0_S1x512)) (cmpRow v23 2 slices_S16x512_o2_0_S1x512))
        (cmpRow v23 3 slices_S16x512_o3_0_S1x512)) (cmpRow v23 4 slices_S16x512_o4_0_S1x512)) (cmpRow v23 5 slices_S16x512_o5_0_S1x512))
        (cmpRow v23 6 slices_S16x512_o6_0_S1x512)) (cmpRow v23 7 slices_S16x512_o7_0_S1x512)) (cmpRow v23 8 slices_S16x512_o8_0_S1x512))
        (cmpRow v23 9 slices_S16x512_o9_0_S1x512)) (cmpRow v23 10 slices_S16x512_o10_0_S1x512)) (cmpRow v23 11 slices_S16x512_o11_0_S1x512))
        (cmpRow v23 12 slices_S16x512_o12_0_S1x512)) (cmpRow v23 13 slices_S16x512_o13_0_S1x512)) (cmpRow v23 14 slices_S16x512_o14_0_S1x512))
      (k0_pay93 v23) (k0_pay94 (iota .tc S16x512 32 [0] iota_S16x512_d0_w32) v23) := by
  subst hv
  rfl

theorem pay95_row (v19 : IVec S16x512 1) (a v23 : FVec Ideal S16x512 .f32) (n : Fin 128) (r : Fin 512) :
    k0_pay95 v19 a (k0_pay93 v23) (k0_pay94 (iota .tc S16x512 32 [0] iota_S16x512_d0_w32) v23) (ix2 r n)
      = if h : n.val < 16 then (Scalar.select (v19 (ix2 ⟨n.val, h⟩ r)) (if a (ix2 ⟨n.val, h⟩ r) + cmpRow v23 15 slices_S16x512_o15_0_S1x512 (ix2 ⟨n.val, h⟩ r) < ((3 : ℝ) : EReal) then 1 else 0) 0) else 0 := by
  have e : select (k0_pay93 v23) (broadcast S16x512 (Scalar.ofBits .f32 0x3F800000#32)) (k0_pay94 (iota .tc S16x512 32 [0] iota_S16x512_d0_w32) v23)
      = cmpRow v23 15 slices_S16x512_o15_0_S1x512 := rfl
  unfold k0_pay95
  rw [← ofBits_three, e]
  generalize cmpRow v23 15 slices_S16x512_o15_0_S1x512 = w
  pointwise

theorem chosen_row (i : grid0.Coords) (x3 : Vec Ideal S1x512x128 .bf16) (x7 : Vec Ideal S16x128 .bf16) (n : Fin 128) (r : Fin 512) :
    chosen i x3 x7 (ix2 r n) = if h : n.val < 16 then (if n.val < 2 * (i 2).val + r.val / 256 then
      (if (∑ k : Fin 16, ahead (fun n => k0_pay70 i x3 x7 (ix2 n r)) ⟨n.val, h⟩ k) < ((3 : ℝ) : EReal) then 1 else 0) else 0) else 0 := by
  rw [chosen_eq i x3 x7 _ rfl, pay95_row]
  split
  · rename_i h
    rw [sel_iff (pay69_row i ⟨n.val, h⟩ r)]
    have key : ((((((((((((((((k0_pay71 (ix2 ⟨n.val, h⟩ r) + cmpRow (k0_pay70 i x3 x7) 0 slices_S16x512_o0_0_S1x512 (ix2 ⟨n.val, h⟩ r)) + cmpRow (k0_pay70 i x3 x7) 1 slices_S16x512_o1_0_S1x512 (ix2 ⟨n.val, h⟩ r)) + cmpRow (k0_pay70 i x3 x7) 2 slices_S16x512_o2_0_S1x512 (ix2 ⟨n.val, h⟩ r)) + cmpRow (k0_pay70 i x3 x7) 3 slices_S16x512_o3_0_S1x512 (ix2 ⟨n.val, h⟩ r)) + cmpRow (k0_pay70 i x3 x7) 4 slices_S16x512_o4_0_S1x512 (ix2 ⟨n.val, h⟩ r)) + cmpRow (k0_pay70 i x3 x7) 5 slices_S16x512_o5_0_S1x512 (ix2 ⟨n.val, h⟩ r)) + cmpRow (k0_pay70 i x3 x7) 6 slices_S16x512_o6_0_S1x512 (ix2 ⟨n.val, h⟩ r)) + cmpRow (k0_pay70 i x3 x7) 7 slices_S16x512_o7_0_S1x512 (ix2 ⟨n.val, h⟩ r)) + cmpRow (k0_pay70 i x3 x7) 8 slices_S16x512_o8_0_S1x512 (ix2 ⟨n.val, h⟩ r)) + cmpRow (k0_pay70 i x3 x7) 9 slices_S16x512_o9_0_S1x512 (ix2 ⟨n.val, h⟩ r)) + cmpRow (k0_pay70 i x3 x7) 10 slices_S16x512_o10_0_S1x512 (ix2 ⟨n.val, h⟩ r)) + cmpRow (k0_pay70 i x3 x7) 11 slices_S16x512_o11_0_S1x512 (ix2 ⟨n.val, h⟩ r)) + cmpRow (k0_pay70 i x3 x7) 12 slices_S16x512_o12_0_S1x512 (ix2 ⟨n.val, h⟩ r)) + cmpRow (k0_pay70 i x3 x7) 13 slices_S16x512_o13_0_S1x512 (ix2 ⟨n.val, h⟩ r)) + cmpRow (k0_pay70 i x3 x7) 14 slices_S16x512_o14_0_S1x512 (ix2 ⟨n.val, h⟩ r)) + cmpRow (k0_pay70 i x3 x7) 15 slices_S16x512_o15_0_S1x512 (ix2 ⟨n.val, h⟩ r))
        = ∑ k : Fin 16, ahead (fun n => k0_pay70 i x3 x7 (ix2 n r)) ⟨n.val, h⟩ k := by
      have z : k0_pay71 (F := Ideal) (ix2 ⟨n.val, h⟩ r) = 0 := by unfold k0_pay71; pointwise
      rw [z, cmpRow_row _ 0 (by decide), cmpRow_row _ 1 (by decide), cmpRow_row _ 2 (by decide), cmpRow_row _ 3 (by decide), cmpRow_row _ 4 (by decide), cmpRow_row _ 5 (by decide), cmpRow_row _ 6 (by decide), cmpRow_row _ 7 (by decide), cmpRow_row _ 8 (by decide), cmpRow_row _ 9 (by decide), cmpRow_row _ 10 (by decide), cmpRow_row _ 11 (by decide), cmpRow_row _ 12 (by decide), cmpRow_row _ 13 (by decide), cmpRow_row _ 14 (by decide), cmpRow_row _ 15 (by decide)]
      simp only [Fin.sum_univ_succ, Fin.sum_univ_zero, zero_add, add_zero, ← add_assoc]
      rfl
    exact congrArg (fun x : EReal => if n.val < 2 * (i 2).val + r.val / 256 then (if x < ((3 : ℝ) : EReal) then (1 : EReal) else 0) else 0) key
  · rfl

theorem sum_ahead (g : Fin 16 → EReal) (n : Fin 16) : (∑ k : Fin 16, ahead g n k) < ((3 : ℝ) : EReal) ↔ Top3 g n := by
  classical
  have e : (∑ k : Fin 16, ahead g n k) = (((Nat.card {k : Fin 16 // Ahead g k n} : ℕ) : ℝ) : EReal) := by
    rw [Nat.card_eq_fintype_card, Fintype.card_subtype, Finset.card_filter]
    push_cast
    rw [coe_sum]
    refine Finset.sum_congr rfl fun k _ => ?_
    unfold ahead
    split <;> simp [*]
  rw [e, EReal.coe_lt_coe_iff]
  unfold Top3
  norm_cast

/-! ### The masks -/

open Classical in
theorem chosen_lane (i : grid0.Coords) (x3 : Vec Ideal S1x512x128 .bf16) (x7 : Vec Ideal S16x128 .bf16) (n : Fin 16) (r : Fin 512) :
    chosen i x3 x7 (ix2 r ⟨n.val, by have := n.isLt; omega⟩)
      = if n.val < 2 * (i 2).val + r.val / 256 ∧ Top3 (fun n => k0_pay70 i x3 x7 (ix2 n r)) n then 1 else 0 := by
  rw [chosen_row, dif_pos n.isLt]
  have := sum_ahead (fun n => k0_pay70 i x3 x7 (ix2 n r)) n
  by_cases h1 : n.val < 2 * (i 2).val + r.val / 256
  · rw [if_pos h1]
    by_cases h2 : Top3 (fun n => k0_pay70 i x3 x7 (ix2 n r)) n
    · rw [if_pos (this.2 h2), if_pos ⟨h1, h2⟩]
    · rw [if_neg fun h => h2 (this.1 h), if_neg fun h => h2 h.2]
  · rw [if_neg h1, if_neg fun h => h1 h.1]

theorem picked_row (ch : FVec Ideal S512x128 .f32) (w : ℕ) (hw : w < 128) (r : Fin 512) : picked ch (BitVec.ofNat 32 w) (ix2 r 0) = ch (ix2 r ⟨w, hw⟩) := by
  unfold picked
  pointwise
  have e : ∀ x : Fin 128, Scalar.select (IntOp.cmpi CmpIPredicate.eq (BitVec.ofNat 32 x.val) (BitVec.ofNat 32 w)) (ch (ix2 r x)) 0 = if x = ⟨w, hw⟩ then ch (ix2 r x) else 0 := fun x => by
    have hx := x.isLt
    rw [sel_iff (WordCmp.cmpi_eq_ofNat_eq_one_iff (w := 32) (a := x.val) (b := w) (by omega) (by omega))]
    exact if_congr (by rw [Fin.ext_iff]) rfl rfl
  refine (Finset.sum_congr rfl fun x _ => e x).trans ?_
  simp

theorem bias_row (ch : FVec Ideal S512x128 .f32) (w : ℕ) (hw : w < 128) (r : Fin 512) (p : Prop) [Decidable p] (h : ch (ix2 r ⟨w, hw⟩) = if p then 1 else 0) :
    bias ch (BitVec.ofNat 32 w) (ix2 r 0) = if p then (0 : EReal) else ⊥ := by
  unfold bias
  pointwise
  rw [named_big, picked_row ch w hw, h]
  split
  · have : (1 : EReal) - 1 = 0 := by rw [← EReal.coe_one, ← EReal.coe_sub]; simp
    rw [this, zero_mul]
  · rw [zero_sub, show (-1 : EReal) = ((-1 : ℝ) : EReal) by simp, EReal.coe_mul_top_of_neg (by norm_num)]

theorem biased_row (ch : FVec Ideal S512x128 .f32) (w : ℕ) (hw : 2 * w + 1 < 128) (S : FVec Ideal S512x512 .f32) (r c : Fin 512) (p : Prop) [Decidable p]
    (h : ch (ix2 r ⟨2 * w + c.val / 256, by have := c.isLt; omega⟩) = if p then 1 else 0) (hS : S (ix2 r c) ≠ ⊤) :
    biased ch (BitVec.ofNat 32 (2 * w)) (BitVec.ofNat 32 (2 * w + 1)) S (ix2 r c) = if p then S (ix2 r c) else ⊥ := by
  unfold biased
  pointwise
  have hc := c.isLt
  split
  · rename_i h1
    rw [bias_row ch (2 * w) (by omega) r p (by rw [← h]; congr 2; exact Fin.ext (by show 2 * w = 2 * w + c.val / 256; omega))]
    split <;> simp
  · rename_i h1
    rw [bias_row ch (2 * w + 1) (by omega) r p (by rw [← h]; congr 2; exact Fin.ext (by show 2 * w + 1 = 2 * w + c.val / 256; omega))]
    rw [show (⟨256 + (c.val - 256), by omega⟩ : Fin 512) = c from Fin.ext (by show 256 + (c.val - 256) = c.val; omega)]
    split <;> simp

theorem diag_row (ch : FVec Ideal S512x128 .f32) (w : ℕ) (hw : w < 128) (S : FVec Ideal S512x512 .f32) (r c : Fin 512) (p : Prop) [Decidable p]
    (h : ch (ix2 r ⟨w, hw⟩) = if p then 1 else 0) :
    diag ch (BitVec.ofNat 32 w) S (ix2 r c) = if c.val ≤ r.val ∧ (256 ≤ c.val ∨ r.val < 256 ∨ p) then S (ix2 r c) else ⊥ := by
  have hc := c.isLt
  have hr := r.isLt
  have hk : keep ch (BitVec.ofNat 32 w) (ix2 r c) = if c.val ≤ r.val ∧ (256 ≤ c.val ∨ r.val < 256 ∨ p) then (1 : EReal) else 0 := by
    unfold keep
    pointwise
    rw [sel_iff (WordCmp.cmpi_sle_ofNat_eq_one_iff (w := 32) (a := c.val) (b := r.val) (by omega) (by omega)),
      sel_iff (WordCmp.cmpi_sge_ofNat_eq_one_iff (w := 32) (a := c.val) (b := 256) (by omega) (by omega)),
      sel_iff (WordCmp.cmpi_slt_ofNat_eq_one_iff (w := 32) (a := r.val) (b := 256) (by omega) (by omega)), picked_row ch w hw, h]
    by_cases h1 : c.val ≤ r.val <;> by_cases h2 : 256 ≤ c.val <;> by_cases h3 : r.val < 256 <;> by_cases h4 : p <;> simp [h1, h2, h3, h4]
  unfold diag
  pointwise
  rw [named_mask, ofBits_half, hk]
  by_cases hp : c.val ≤ r.val ∧ (256 ≤ c.val ∨ r.val < 256 ∨ p)
  · rw [if_pos hp, if_pos hp, if_pos]
    rw [← EReal.coe_one, EReal.coe_lt_coe_iff]; norm_num
  · rw [if_neg hp, if_neg hp, if_neg]
    rw [← EReal.coe_zero, EReal.coe_lt_coe_iff]; norm_num

theorem pay11_row (l : FVec Ideal S512x1 .f32) (a : FVec Ideal S512x128 .f32) (r : Fin 512) (d : Fin 128) :
    k0_pay11 l a (ix3 0 r d) = Ideal.div (a (ix2 r d)) (l (ix2 r 0)) := by
  unfold k0_pay11
  pointwise

end Cert.KernelIdeal.Moba
-- ==== Proof.MobaBlock.lean ====
/-
  What the body leaves in a block of the output is the attention of the block's rows.
-/
module

public import proofs.«01_k».proof.Proof.MobaRow

@[expose] public section

set_option maxRecDepth 16384

noncomputable section

namespace Cert.KernelIdeal.Moba

open Cert.KernelIdeal Cert.KernelIdeal.Gen
open Idealize.ShloMosaic Idealize.ShloMosaic.TcCoe Idealize.ShloMosaic.Tactic
open Cert.Moba

/-- The sum over the positions of one block of 256. -/
theorem sum_member (f : Fin 4096 → EReal) (n : Fin 16) :
    (∑ p : Fin 4096, if p.val / 256 = n.val then f p else 0) = ∑ c : Fin 256, f ⟨256 * n.val + c.val, by have := n.isLt; have := c.isLt; omega⟩ := by
  have e : ∀ g : Fin 4096 → EReal, ∑ p : Fin 4096, g p = ∑ x : Fin 16 × Fin 256, g ⟨256 * x.1.val + x.2.val, by have := x.1.isLt; have := x.2.isLt; omega⟩ := fun g =>
    (Fintype.sum_equiv (finProdFinEquiv (m := 16) (n := 256)) _ _ fun x => by
      congr 1; apply Fin.ext; show 256 * x.1.val + x.2.val = x.2.val + 256 * x.1.val; omega).symm
  rw [e, Fintype.sum_prod_type, Finset.sum_eq_single n]
  · refine Finset.sum_congr rfl fun c _ => if_pos ?_
    have := c.isLt
    show (256 * n.val + c.val) / 256 = n.val
    omega
  · intro m _ hm
    refine Finset.sum_eq_zero fun c _ => if_neg fun h => hm (Fin.ext ?_)
    have := c.isLt
    have h' : (256 * m.val + c.val) / 256 = n.val := h
    omega
  · exact fun h => absurd (Finset.mem_univ n) h

section
variable (i : grid0.Coords) (x3 : Vec Ideal S1x512x128 .bf16) (x4 x5 : Vec Ideal S1x4096x128 .bf16)
  (q k : Fin 4096 → Fin 128 → ℝ) (v : Fin 4096 → Fin 128 → EReal) (r : Fin 512) (s : Fin 4096)
  (hs : s.val = 512 * (i 2).val + r.val)
  (h3 : ∀ e : Fin 128, x3 (ix3 0 r e) = (q s e : EReal))
  (h4 : ∀ (p : Fin 4096) (e : Fin 128), x4 (ix3 0 p e) = (k p e : EReal))
  (h5 : ∀ (p : Fin 4096) (e : Fin 128), x5 (ix3 0 p e) = v p e)

include h4 in
theorem mean_row (n : Fin 16) (e : Fin 128) : k0_pay67 x4 (ix2 n e) = (kmeanR k n e : EReal) := by
  rw [pay67_row, sum_member (fun p => x4 (ix3 0 p e))]
  unfold kmeanR
  rw [EReal.coe_mul, coe_sum]
  congr 1
  exact Finset.sum_congr rfl fun c _ => h4 _ _

include hs in
theorem blkOf_s : (blkOf s).val = 2 * (i 2).val + r.val / 256 := by
  show s.val / 256 = _
  rw [hs]; omega

include hs h3 h4 in
theorem gate_row (n : Fin 16) : k0_pay70 i x3 (k0_pay67 x4) (ix2 n r) = if n < blkOf s then ((qs * ∑ e, q s e * kmeanR k n e : ℝ) : EReal) else ⊥ := by
  rw [pay70_row]
  refine if_congr (by rw [Fin.lt_def, blkOf_s i r s hs]) ?_ rfl
  rw [Finset.mul_sum, coe_sum]
  refine Finset.sum_congr rfl fun e _ => ?_
  rw [mean_row x4 k h4, h3, ← EReal.coe_mul, ← EReal.coe_mul]
  congr 1; ring

open Classical in
include hs h3 h4 in
theorem sel_row (n : Fin 16) : chosen i x3 (k0_pay67 x4) (ix2 r ⟨n.val, by have := n.isLt; omega⟩) = if Sel (up q) (up k) s n then 1 else 0 := by
  rw [chosen_lane]
  refine if_congr ?_ rfl rfl
  unfold Sel
  rw [Fin.lt_def, blkOf_s i r s hs, top3_scaled q k s n _ (gate_row i x3 x4 q k r s hs h3 h4)]

include h3 h4 in
theorem score_real (j : ℕ) (c : Fin 512) (p : Fin 4096) (hp : p.val = 512 * j + c.val) :
    score (k0_pay68 x3) (rows x4 j) (ix2 r c) = ((qs * ∑ e, q s e * k p e : ℝ) : EReal) := by
  have hlt := p.isLt
  rw [score_row, Finset.mul_sum, coe_sum]
  refine Finset.sum_congr rfl fun e _ => ?_
  rw [pay68_row, rows_row x4 j c e (by omega), h3, show (⟨512 * j + c.val, by omega⟩ : Fin 4096) = p from Fin.ext hp.symm, h4, ← EReal.coe_mul, ← EReal.coe_mul]
  congr 1; ring

/-- The weight of position `m`. -/
def wt (m : ℕ) : EReal := if h : m < 4096 then Ideal.exp (logit (up q) (up k) s ⟨m, h⟩) else 0

/-- The weight of position `m` on its value. -/
def wv (d : Fin 128) (m : ℕ) : EReal := if h : m < 4096 then Ideal.exp (logit (up q) (up k) s ⟨m, h⟩) * v ⟨m, h⟩ d else 0

include hs h3 h4 in
theorem before_row (j : ℕ) (hj : j < (i 2).val) (c : Fin 512) :
    biased (chosen i x3 (k0_pay67 x4)) (BitVec.ofNat 32 (2 * j)) (BitVec.ofNat 32 (2 * j + 1)) (score (k0_pay68 x3) (rows x4 j)) (ix2 r c) ≠ ⊤
    ∧ Ideal.exp2 (biased (chosen i x3 (k0_pay67 x4)) (BitVec.ofNat 32 (2 * j)) (BitVec.ofNat 32 (2 * j + 1)) (score (k0_pay68 x3) (rows x4 j)) (ix2 r c))
      = wt q k s (512 * j + c.val) := by
  classical
  have hi : (i 2).val < 8 := (i 2).isLt
  have hc := c.isLt
  have hr := r.isLt
  have hp : 512 * j + c.val < 4096 := by omega
  have hS := score_real x3 x4 q k r s h3 h4 j c ⟨_, hp⟩ rfl
  have hn : 2 * j + c.val / 256 < 16 := by omega
  rw [biased_row _ j (by omega) _ r c (Sel (up q) (up k) s ⟨2 * j + c.val / 256, hn⟩) (sel_row i x3 x4 q k r s hs h3 h4 ⟨_, hn⟩) (by rw [hS]; exact EReal.coe_ne_top _), hS]
  have hb : blkOf ⟨512 * j + c.val, hp⟩ = ⟨2 * j + c.val / 256, hn⟩ := Fin.ext (by show (512 * j + c.val) / 256 = 2 * j + c.val / 256; omega)
  have hseen : Seen (up q) (up k) s ⟨512 * j + c.val, hp⟩ ↔ Sel (up q) (up k) s ⟨2 * j + c.val / 256, hn⟩ := by
    unfold Seen
    rw [hb]
    refine or_iff_left fun h => ?_
    have := congrArg Fin.val h.1
    rw [blkOf_s i r s hs] at this
    have : 2 * j + c.val / 256 = 2 * (i 2).val + r.val / 256 := this
    omega
  constructor
  · split
    · exact EReal.coe_ne_top _
    · simp
  · unfold wt
    rw [dif_pos hp, exp_logit, if_congr hseen rfl rfl]
    split <;> simp

include hs h3 h4 in
theorem diag_row' (c : Fin 512) :
    diag (chosen i x3 (k0_pay67 x4)) (BitVec.ofNat 32 (2 * (i 2).val)) (score (k0_pay68 x3) (rows x4 (i 2).val)) (ix2 r c) ≠ ⊤
    ∧ Ideal.exp2 (diag (chosen i x3 (k0_pay67 x4)) (BitVec.ofNat 32 (2 * (i 2).val)) (score (k0_pay68 x3) (rows x4 (i 2).val)) (ix2 r c))
      = wt q k s (512 * (i 2).val + c.val) := by
  classical
  have hi : (i 2).val < 8 := (i 2).isLt
  have hc := c.isLt
  have hr := r.isLt
  have hp : 512 * (i 2).val + c.val < 4096 := by omega
  have hS := score_real x3 x4 q k r s h3 h4 (i 2).val c ⟨_, hp⟩ rfl
  have hn : 2 * (i 2).val < 16 := by omega
  rw [diag_row _ (2 * (i 2).val) (by omega) _ r c (Sel (up q) (up k) s ⟨2 * (i 2).val, hn⟩) (sel_row i x3 x4 q k r s hs h3 h4 ⟨_, hn⟩), hS]
  have hseen : Seen (up q) (up k) s ⟨512 * (i 2).val + c.val, hp⟩ ↔ (c.val ≤ r.val ∧ (256 ≤ c.val ∨ r.val < 256 ∨ Sel (up q) (up k) s ⟨2 * (i 2).val, hn⟩)) := by
    have hbs := blkOf_s i r s hs
    have hbp : (blkOf ⟨512 * (i 2).val + c.val, hp⟩).val = 2 * (i 2).val + c.val / 256 := by show (512 * (i 2).val + c.val) / 256 = _; omega
    have hself : ∀ n : Fin 16, Sel (up q) (up k) s n → n.val < 2 * (i 2).val + r.val / 256 := fun n h => by
      have := Fin.lt_def.1 h.1; omega
    unfold Seen
    rw [Fin.ext_iff, hbs, hbp, Fin.le_def, hs]
    show _ ∨ (_ ∧ 512 * (i 2).val + c.val ≤ _) ↔ _
    by_cases h2 : 256 ≤ c.val
    · have hno : ¬ Sel (up q) (up k) s (blkOf ⟨512 * (i 2).val + c.val, hp⟩) := fun h => by
        have := hself _ h
        rw [hbp] at this; omega
      constructor
      · rintro (h | h)
        · exact absurd h hno
        · exact ⟨by omega, Or.inl h2⟩
      · rintro ⟨h, -⟩
        exact Or.inr ⟨by omega, by omega⟩
    · have hb : blkOf ⟨512 * (i 2).val + c.val, hp⟩ = ⟨2 * (i 2).val, hn⟩ := Fin.ext (by rw [hbp]; show _ = 2 * (i 2).val; omega)
      rw [hb]
      constructor
      · rintro (h | h)
        · have := hself _ h
          have : 2 * (i 2).val < 2 * (i 2).val + r.val / 256 := this
          exact ⟨by omega, Or.inr (Or.inr h)⟩
        · exact ⟨by omega, Or.inr (Or.inl (by omega))⟩
      · rintro ⟨h, h' | h' | h'⟩
        · omega
        · exact Or.inr ⟨by omega, by omega⟩
        · exact Or.inl h'
  constructor
  · split
    · exact EReal.coe_ne_top _
    · simp
  · unfold wt
    rw [dif_pos hp, exp_logit, if_congr hseen rfl rfl]
    split <;> simp

include h5 in
theorem wv_eq (d : Fin 128) (j : ℕ) (hj : j < 8) (c : Fin 512) :
    wt q k s (512 * j + c.val) * rows x5 j (ix3 0 c d) = wv q k v s d (512 * j + c.val) := by
  have hc := c.isLt
  unfold wt wv
  rw [dif_pos (by omega), dif_pos (by omega), rows_row x5 j c d (by omega), h5]

include hs h3 h4 h5 in
theorem fold_row (d : Fin 128) (n : ℕ) (hn : n ≤ (i 2).val) :
    Stands (rowOf (fold (k0_pay68 x3) (chosen i x3 (k0_pay67 x4)) x4 x5 n) r d)
      (∑ j ∈ Finset.range n, ∑ c : Fin 512, wt q k s (512 * j + c.val)) (∑ j ∈ Finset.range n, ∑ c : Fin 512, wv q k v s d (512 * j + c.val)) := by
  have hi : (i 2).val < 8 := (i 2).isLt
  induction n with
  | zero =>
    show Stands (rowOf init r d) _ _
    rw [init_row]
    exact stands_init
  | succ n ih =>
    have hb := before_row i x3 x4 q k r s hs h3 h4 n (by omega)
    have := stands_step _ _ _ (ih (by omega)) (fun c => biased (chosen i x3 (k0_pay67 x4)) (BitVec.ofNat 32 (2 * n)) (BitVec.ofNat 32 (2 * n + 1)) (score (k0_pay68 x3) (rows x4 n)) (ix2 r c))
      (fun c => rows x5 n (ix3 0 c d)) fun c => (hb c).1
    rw [← step_row] at this
    rw [Finset.sum_range_succ, Finset.sum_range_succ]
    rw [Finset.sum_congr rfl fun c _ => (hb c).2, Finset.sum_congr rfl fun c _ => (congrArg (· * _) (hb c).2).trans (wv_eq x5 q k v s h5 d n (by omega) c)] at this
    exact this

include hs h3 h4 h5 in
theorem final_row (d : Fin 128) :
    Stands (rowOf (final (k0_pay68 x3) (chosen i x3 (k0_pay67 x4)) x4 x5 (i 2).val) r d)
      (∑ p : Fin 4096, Ideal.exp (logit (up q) (up k) s p)) (∑ p : Fin 4096, Ideal.exp (logit (up q) (up k) s p) * v p d) := by
  classical
  have hi : (i 2).val < 8 := (i 2).isLt
  have hb := diag_row' i x3 x4 q k r s hs h3 h4
  have := stands_step _ _ _ (fold_row i x3 x4 x5 q k v r s hs h3 h4 h5 d (i 2).val le_rfl)
    (fun c => diag (chosen i x3 (k0_pay67 x4)) (BitVec.ofNat 32 (2 * (i 2).val)) (score (k0_pay68 x3) (rows x4 (i 2).val)) (ix2 r c))
    (fun c => rows x5 (i 2).val (ix3 0 c d)) fun c => (hb c).1
  rw [← step_row, Finset.sum_congr rfl fun c _ => (hb c).2,
    Finset.sum_congr rfl fun c _ => (congrArg (· * _) (hb c).2).trans (wv_eq x5 q k v s h5 d (i 2).val hi c),
    ← Finset.sum_range_succ (fun j => ∑ c : Fin 512, wt q k s (512 * j + c.val)), ← Finset.sum_range_succ (fun j => ∑ c : Fin 512, wv q k v s d (512 * j + c.val))] at this
  have hz : ∀ p : Fin 4096, 512 * ((i 2).val + 1) ≤ p.val → Ideal.exp (logit (up q) (up k) s p) = 0 := fun p hp => by
    rw [exp_logit, if_neg]
    have hr := r.isLt
    rintro (h | h)
    · have h1 := Fin.lt_def.1 h.1
      rw [blkOf_s i r s hs] at h1
      have h1 : p.val / 256 < 2 * (i 2).val + r.val / 256 := h1
      omega
    · have := Fin.le_def.1 h.2
      omega
  have ext : ∀ f : ℕ → EReal, (∀ m, 512 * ((i 2).val + 1) ≤ m → f m = 0) →
      ∑ j ∈ Finset.range ((i 2).val + 1), ∑ c : Fin 512, f (512 * j + c.val) = ∑ p : Fin 4096, f p.val := fun f hf => by
    rw [sum_blocks f]
    refine Finset.sum_subset (fun x hx => Finset.mem_range.2 (by have := Finset.mem_range.1 hx; omega)) fun j _ hj => Finset.sum_eq_zero fun c _ => hf _ ?_
    have : ¬ j < (i 2).val + 1 := fun h => hj (Finset.mem_range.2 h)
    omega
  rw [ext (wt q k s) fun m hm => by
      unfold wt; split
      · exact hz _ hm
      · rfl,
    ext (wv q k v s d) fun m hm => by
      unfold wv; split
      · rw [hz _ hm, zero_mul]
      · rfl] at this
  have e1 : ∀ p : Fin 4096, wt q k s p.val = Ideal.exp (logit (up q) (up k) s p) := fun p => dif_pos p.isLt
  have e2 : ∀ p : Fin 4096, wv q k v s d p.val = Ideal.exp (logit (up q) (up k) s p) * v p d := fun p => dif_pos p.isLt
  rw [Finset.sum_congr rfl fun p _ => e1 p, Finset.sum_congr rfl fun p _ => e2 p] at this
  exact this

include hs h3 h4 h5 in
/-- The body's output is the attention. -/
theorem outBlock_row (d : Fin 128) : outBlock i x3 x4 x5 (k0_pay67 x4) (ix3 0 r d) = attn (up q) (up k) v s d := by
  have h := final_row i x3 x4 x5 q k v r s hs h3 h4 h5 d
  obtain ⟨h1, h2⟩ := softmax_sum (logit (up q) (up k) s) (fun p => v p d) (logit_ne_top q k s) s (logit_self q k s)
  have e : (∑ p : Fin 4096, Ideal.exp (logit (up q) (up k) s p)) = ((∑ p : Fin 4096, (Ideal.exp (logit (up q) (up k) s p)).toReal : ℝ) : EReal) := by
    classical
    rw [coe_sum]
    refine Finset.sum_congr rfl fun p _ => (EReal.coe_toReal ?_ ?_).symm
    · rw [exp_logit]; split
      · rw [Ideal.exp2_coe]; exact EReal.coe_ne_top _
      · simp
    · rw [exp_logit]; split
      · rw [Ideal.exp2_coe]; exact EReal.coe_ne_bot _
      · simp
  rw [e] at h
  have hd := stands_div _ _ h2 _ h
  show k0_pay11 _ _ (ix3 0 r d) = _
  rw [pay11_row]
  exact hd.trans h1.symm

end

end Cert.KernelIdeal.Moba
-- ==== Proof.MobaRef.lean ====
/-
  The reference's result read at one place: it is the attention of the head's rows.
-/
module

public import proofs.«01_k».proof.Proof.Gen.ReferenceIdeal.Run
public import proofs.«01_k».proof.Proof.MobaSpec
public import Idealize.ShloMosaic.Lib.Pointwise
public import Idealize.ShloMosaic.Lib.WordCmp
public import Idealize.ShloMosaic.Lib.Routing.Words

@[expose] public section

set_option maxRecDepth 16384

noncomputable section

namespace Cert.ReferenceIdeal.Moba

open Cert.ReferenceIdeal Cert.ReferenceIdeal.Gen
open Idealize.ShloMosaic Idealize.ShloMosaic.TcCoe Idealize.ShloMosaic.Tactic
open Cert.Moba

/-- An argument or the result, of every head. -/
abbrev Arr := FVec Ideal S2x4096x1536 .f32

/-- The heads apart. -/
def hd (X : Arr) : FVec Ideal S2x12x4096x128 .f32 :=
  transpose S2x12x4096x128 [0, 2, 1, 3] (shapeCast _ X shapeCasts_S2x4096x1536_S2x4096x12x128) transposes_S2x4096x12x128_S2x12x4096x128_0_2_1_3

/-- The blocks' mean keys. -/
def km (H : FVec Ideal S2x12x4096x128 .f32) : FVec Ideal S2x12x16x128 .f32 :=
  Host.divf (Host.reduceAdd (shapeCast _ H shapeCasts_S2x12x4096x128_S2x12x16x256x128) (constant S_ .f32 0x00000000#32) reducesTo_S2x12x16x256x128_S2x12x16x128_d3 h_S_)
    (broadcastInDim S2x12x16x128 ![] bcast_S_S2x12x16x128 (constant S_ .f32 0x43800000#32))

/-- The block of each position. -/
def blk : IVec S4096 32 := Host.divsi (iotaInDim S4096 32 0) (broadcastInDim S4096 ![] bcast_S_S4096 (constantI S_ 32 256#32))

/-- The gate's scores of the blocks before a query's own. -/
def gt (H : FVec Ideal S2x12x4096x128 .f32) (M : FVec Ideal S2x12x16x128 .f32) : FVec Ideal S2x12x4096x16 .f32 :=
  select (broadcastInDim S2x12x4096x16 ![2, 3] bcast_S4096x16_S2x12x4096x16_2_3 (cmpi .slt (broadcastInDim S4096x16 ![0, 1] bcast_S1x16_S4096x16_0_1 (broadcastInDim S1x16 ![1] bcast_S16_S1x16_1 (iotaInDim S16 32 0))) (broadcastInDim S4096x16 ![0, 1] bcast_S4096x1_S4096x16_0_1 (broadcastInDim S4096x1 ![0] bcast_S4096_S4096x1_0 blk))))
    (Host.dotGeneral dot_S2x12x4096x128_S2x12x16x128_S2x12x4096x16_3_3_2_2_01_01 none H M)
    (broadcastInDim S2x12x4096x16 ![] bcast_S_S2x12x4096x16 (id (constant S_ .f32 0xFF800000#32)))

/-- The three blocks of the highest scores. -/
def idx (G : FVec Ideal S2x12x4096x16 .f32) : IVec S2x12x4096x3 32 :=
  (Host.topK S2x12x4096x3 3 (FloatOps.cmpfTotal .gt) G sliceFits_S2x12x4096x16_S2x12x4096x3).2

/-- Whether a key's block is one of the three, and before the query's own. -/
def pick (ix : IVec S2x12x4096x3 32) : IVec S2x12x4096x4096 1 :=
  Host.reduce IntOp.ori (andi (cmpi .eq (broadcastInDim S2x12x4096x3x4096 ![0, 1, 2, 3, 4] bcast_S2x12x4096x3x1_S2x12x4096x3x4096_0_1_2_3_4 (broadcastInDim S2x12x4096x3x1 ![0, 1, 2, 3] bcast_S2x12x4096x3_S2x12x4096x3x1_0_1_2_3 ix))
      (broadcastInDim S2x12x4096x3x4096 ![0, 1, 2, 3, 4] bcast_S1x1x1x1x4096_S2x12x4096x3x4096_0_1_2_3_4 (broadcastInDim S1x1x1x1x4096 ![4] bcast_S4096_S1x1x1x1x4096_4 blk)))
    (broadcastInDim S2x12x4096x3x4096 ![0, 1, 2, 3, 4] bcast_S2x12x4096x3x1_S2x12x4096x3x4096_0_1_2_3_4 (broadcastInDim S2x12x4096x3x1 ![0, 1, 2, 3] bcast_S2x12x4096x3_S2x12x4096x3x1_0_1_2_3
      (cmpi .slt ix (broadcastInDim S2x12x4096x3 ![0, 1, 2, 3] bcast_S1x1x4096x1_S2x12x4096x3_0_1_2_3 (broadcastInDim S1x1x4096x1 ![2] bcast_S4096_S1x1x4096x1_2 blk))))))
    (constantI S_ 1 0#1) reducesTo_S2x12x4096x3x4096_S2x12x4096x4096_d3 h_S_

/-- Whether a key is in the query's own block and not after it. -/
def own : IVec S4096x4096 1 :=
  andi (cmpi .eq (broadcastInDim S4096x4096 ![0, 1] bcast_S1x4096_S4096x4096_0_1 (broadcastInDim S1x4096 ![1] bcast_S4096_S1x4096_1 blk)) (broadcastInDim S4096x4096 ![0, 1] bcast_S4096x1_S4096x4096_0_1 (broadcastInDim S4096x1 ![0] bcast_S4096_S4096x1_0 blk)))
    (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))

/-- The masked scores. -/
def lg (P : IVec S2x12x4096x4096 1) (H L : FVec Ideal S2x12x4096x128 .f32) : FVec Ideal S2x12x4096x4096 .f32 :=
  select (ori P (broadcastInDim S2x12x4096x4096 ![0, 1, 2, 3] bcast_S1x1x4096x4096_S2x12x4096x4096_0_1_2_3 (broadcastInDim S1x1x4096x4096 ![2, 3] bcast_S4096x4096_S1x1x4096x4096_2_3 own)))
    (Host.divf (Host.dotGeneral dot_S2x12x4096x128_S2x12x4096x128_S2x12x4096x4096_3_3_2_2_01_01 none H L) (broadcastInDim S2x12x4096x4096 ![] bcast_S_S2x12x4096x4096 (id (Host.sqrt (constant S_ .f32 0x43000000#32)))))
    (broadcastInDim S2x12x4096x4096 ![] bcast_S_S2x12x4096x4096 (id (constant S_ .f32 0xFF800000#32)))

/-- The rows' largest scores. -/
def mx (S : FVec Ideal S2x12x4096x4096 .f32) : FVec Ideal S2x12x4096 .f32 :=
  Host.reduce FloatOps.maximumf S (constant S_ .f32 0xFF800000#32) reducesTo_S2x12x4096x4096_S2x12x4096_d3 h_S_

/-- The exponentials of the scores less their row's largest. -/
def ex (S : FVec Ideal S2x12x4096x4096 .f32) (M : FVec Ideal S2x12x4096 .f32) : FVec Ideal S2x12x4096x4096 .f32 :=
  Host.exp (subf S (broadcastInDim S2x12x4096x4096 ![0, 1, 2, 3] bcast_S2x12x4096x1_S2x12x4096x4096_0_1_2_3 (broadcastInDim S2x12x4096x1 ![0, 1, 2] bcast_S2x12x4096_S2x12x4096x1_0_1_2
    (maximumf (broadcastInDim S2x12x4096 ![] bcast_S_S2x12x4096 (constant S_ .f32 0xFF800000#32)) M))))

/-- The weights on the values. -/
def wsum (E : FVec Ideal S2x12x4096x4096 .f32) (H : FVec Ideal S2x12x4096x128 .f32) : FVec Ideal S2x12x4096x128 .f32 :=
  Host.dotGeneral dot_S2x12x4096x4096_S2x12x4096x128_S2x12x4096x128_3_2_2_3_01_01 none
    (Host.divf E (broadcastInDim S2x12x4096x4096 ![0, 1, 2, 3] bcast_S2x12x4096x1_S2x12x4096x4096_0_1_2_3 (broadcastInDim S2x12x4096x1 ![0, 1, 2] bcast_S2x12x4096_S2x12x4096x1_0_1_2 (Host.reduceAdd E (constant S_ .f32 0x00000000#32) reducesTo_S2x12x4096x4096_S2x12x4096_d3 h_S_)))) H

/-- The heads together again. -/
def tog (O : FVec Ideal S2x12x4096x128 .f32) : FVec Ideal S2x4096x1536 .bf16 :=
  truncf .bf16 (shapeCast _ (transpose S2x4096x12x128 [0, 2, 1, 3] O transposes_S2x12x4096x128_S2x4096x12x128_0_2_1_3) shapeCasts_S2x4096x12x128_S2x4096x1536) bitsLt_bf16_f32

/-- Every head's scores. -/
def scs (Q K : Arr) : FVec Ideal S2x12x4096x4096 .f32 := lg (pick (idx (gt (hd Q) (km (hd K))))) (hd Q) (hd K)

/-- The result in these terms. -/
def whole (Q K V : Arr) : FVec Ideal S2x4096x1536 .bf16 := tog (wsum (ex (scs Q K) (mx (scs Q K))) (hd V))

theorem res_whole (m : (ℓ : Loc nD τ sig) → Buf (Elt Ideal) ℓ) (c : Dev nD) :
    Cert.ReferenceIdeal.Value.res_main_v72 m c = whole (m ((c.tc : Thread nD τ).loc main_arg0)) (m ((c.tc : Thread nD τ).loc main_arg1)) (m ((c.tc : Thread nD τ).loc main_arg2)) := rfl

theorem hd_row (X : Arr) (b : Fin 2) (h : Fin 12) (s : Fin 4096) (e : Fin 128) :
    hd X (ix4 b h s e) = X (ix3 b s ⟨h.val * 128 + e.val, by have := h.isLt; have := e.isLt; omega⟩) := by
  unfold hd
  pointwise

theorem ofBits_bot : Ideal.ofBits .f32 0xFF800000#32 = (⊥ : EReal) := by simp [Ideal.ofBits, Ideal.ieee]
theorem ofBits_256 : Ideal.ofBits .f32 0x43800000#32 = ((256 : ℝ) : EReal) := by
  simp [Ideal.ofBits, Ideal.ieee, -EReal.coe_mul]; norm_num
theorem ofBits_128 : Ideal.ofBits .f32 0x43000000#32 = ((128 : ℝ) : EReal) := by
  simp [Ideal.ofBits, Ideal.ieee, -EReal.coe_mul]; norm_num

theorem sel_iff {α : Type} {c : BitVec 1} {p : Prop} [Decidable p] (h : c = 1#1 ↔ p) (a b : α) : Scalar.select c a b = if p then a else b := by
  by_cases hp : p
  · rw [if_pos hp]; exact if_pos (h.2 hp)
  · rw [if_neg hp]; exact if_neg fun h' => hp (h.1 h')

theorem and_iff (a b : BitVec 1) : IntOp.andi a b = 1#1 ↔ a = 1#1 ∧ b = 1#1 := by
  revert a b; decide

theorem or_iff' (a b : BitVec 1) : IntOp.ori a b = 1#1 ↔ a = 1#1 ∨ b = 1#1 := by
  revert a b; decide

theorem fold_or (f : Fin 3 → BitVec 1) : Finset.fold IntOp.ori 0#1 f Finset.univ = 1#1 ↔ ∃ a, f a = 1#1 := by
  have e : (Finset.univ : Finset (Fin 3)) = {0, 1, 2} := rfl
  rw [e, Finset.fold_insert (by decide), Finset.fold_insert (by decide), Finset.fold_singleton, or_iff', or_iff', or_iff']
  constructor
  · rintro (h | h | h | h)
    · exact ⟨_, h⟩
    · exact ⟨_, h⟩
    · exact ⟨_, h⟩
    · exact absurd h (by decide)
  · rintro ⟨a, h⟩
    match a with
    | 0 => exact Or.inl h
    | 1 => exact Or.inr (Or.inl h)
    | 2 => exact Or.inr (Or.inr (Or.inl h))

theorem km_row (H : FVec Ideal S2x12x4096x128 .f32) (b : Fin 2) (h : Fin 12) (n : Fin 16) (e : Fin 128) :
    km H (ix4 b h n e) = Ideal.div (∑ c : Fin 256, H (ix4 b h ⟨n.val * 256 + c.val, by have := n.isLt; have := c.isLt; omega⟩ e)) ((256 : ℝ) : EReal) := by
  rw [← ofBits_256]
  unfold km
  pointwise

theorem blk_row (s : Fin 4096) : blk (ix1 s) = BitVec.ofNat 32 (s.val / 256) := by
  have := s.isLt
  unfold blk
  pointwise
  exact Routing.divsi_word _ (by omega) (by norm_num) (by norm_num)

theorem gt_row (H : FVec Ideal S2x12x4096x128 .f32) (M : FVec Ideal S2x12x16x128 .f32) (b : Fin 2) (h : Fin 12) (s : Fin 4096) (n : Fin 16) :
    gt H M (ix4 b h s n) = if n.val < s.val / 256 then ∑ e : Fin 128, H (ix4 b h s e) * M (ix4 b h n e) else ⊥ := by
  have := s.isLt
  have := n.isLt
  unfold gt
  pointwise
  rw [blk_row, sel_iff (WordCmp.cmpi_slt_ofNat_eq_one_iff (w := 32) (a := n.val) (b := s.val / 256) (by norm_num; omega) (by norm_num; omega))]
  exact congrArg (fun x => if n.val < s.val / 256 then ∑ e : Fin 128, H (ix4 b h s e) * M (ix4 b h n e) else x) ofBits_bot

theorem pick_row (x : IVec S2x12x4096x3 32) (b : Fin 2) (h : Fin 12) (s p : Fin 4096) :
    pick x (ix4 b h s p) = 1#1 ↔ ∃ a : Fin 3, IntOp.cmpi .eq (x (ix4 b h s a)) (BitVec.ofNat 32 (p.val / 256)) = 1#1
      ∧ IntOp.cmpi .slt (x (ix4 b h s a)) (BitVec.ofNat 32 (s.val / 256)) = 1#1 := by
  unfold pick
  pointwise
  rw [fold_or, blk_row, blk_row]
  exact exists_congr fun a => and_iff _ _

theorem own_row (s p : Fin 4096) : own (ix2 s p) = 1#1 ↔ p.val / 256 = s.val / 256 ∧ p.val ≤ s.val := by
  have := s.isLt
  have := p.isLt
  unfold own
  pointwise
  rw [blk_row, blk_row, and_iff, WordCmp.cmpi_eq_ofNat_eq_one_iff (w := 32) (by norm_num; omega) (by norm_num; omega),
    WordCmp.cmpi_sle_ofNat_eq_one_iff (w := 32) (by norm_num; omega) (by norm_num; omega)]

theorem lg_row (P : IVec S2x12x4096x4096 1) (H L : FVec Ideal S2x12x4096x128 .f32) (b : Fin 2) (h : Fin 12) (s p : Fin 4096) (C : Prop) [Decidable C]
    (hC : P (ix4 b h s p) = 1#1 ∨ own (ix2 s p) = 1#1 ↔ C) :
    lg P H L (ix4 b h s p) = if C then Ideal.div (∑ e : Fin 128, H (ix4 b h s e) * L (ix4 b h p e)) ((Real.sqrt 128 : ℝ) : EReal) else ⊥ := by
  have e1 : Ideal.sqrt (Ideal.ofBits .f32 0x43000000#32) = ((Real.sqrt 128 : ℝ) : EReal) := by
    rw [ofBits_128]
    rw [Ideal.sqrt_coe, if_neg (by norm_num)]
  have e2 := ofBits_bot
  unfold lg
  pointwise
  rw [sel_iff ((or_iff' _ _).trans hC)]
  by_cases c : C
  · rw [if_pos c, if_pos c]
    exact congrArg (Ideal.div _) e1
  · rw [if_neg c, if_neg c]
    exact e2

theorem mx_row (S : FVec Ideal S2x12x4096x4096 .f32) (b : Fin 2) (h : Fin 12) (s : Fin 4096) :
    mx S (ix3 b h s) = Finset.univ.sup fun p => S (ix4 b h s p) := by
  unfold mx
  rw [Host.reduce_eq_fold, Shape.ReducesTo.fold_fiber_r4_a3]
  show Finset.fold (fun a b : EReal => max a b) (Ideal.ofBits .f32 0xFF800000#32) (fun p => S (ix4 b h s p)) Finset.univ = _
  rw [ofBits_bot]
  rfl

theorem ex_row (S : FVec Ideal S2x12x4096x4096 .f32) (M : FVec Ideal S2x12x4096 .f32) (b : Fin 2) (h : Fin 12) (s p : Fin 4096) :
    ex S M (ix4 b h s p) = Ideal.exp (S (ix4 b h s p) - M (ix3 b h s)) := by
  have e : max (Ideal.ofBits .f32 0xFF800000#32) (M (ix3 b h s)) = M (ix3 b h s) := by rw [ofBits_bot]; exact bot_sup_eq _
  refine Eq.trans ?_ (congrArg (fun x => Ideal.exp (S (ix4 b h s p) - x)) e)
  unfold ex
  pointwise

theorem wsum_row (E : FVec Ideal S2x12x4096x4096 .f32) (H : FVec Ideal S2x12x4096x128 .f32) (b : Fin 2) (h : Fin 12) (s : Fin 4096) (d : Fin 128) :
    wsum E H (ix4 b h s d) = ∑ p : Fin 4096, Ideal.div (E (ix4 b h s p)) (∑ p' : Fin 4096, E (ix4 b h s p')) * H (ix4 b h p d) := by
  unfold wsum
  pointwise

theorem tog_row (O : FVec Ideal S2x12x4096x128 .f32) (b : Fin 2) (s : Fin 4096) (h : Fin 12) (d : Fin 128) :
    tog O (ix3 b s ⟨h.val * 128 + d.val, by have := h.isLt; have := d.isLt; omega⟩) = O (ix4 b h s d) := by
  unfold tog
  pointwise

/-- The order of the sort on the gate's row. -/
def ord (G : FVec Ideal S2x12x4096x16 .f32) (b : Fin 2) (h : Fin 12) (s : Fin 4096) : Fin 16 → Fin 16 :=
  sortedFrom (fun k k' : Fin 16 => FloatOps.cmpfTotal .gt (G (ix4 b h s k)) (G (ix4 b h s k')) == 1#1)

theorem along_last (b : Fin 2) (h : Fin 12) (s : Fin 4096) (i k : Fin 16) : (ix4 b h s i : S2x12x4096x16.Idx).along (3 : Fin 4) k = ix4 b h s k := by
  funext x
  match x with
  | 0 => rfl
  | 1 => rfl
  | 2 => rfl
  | 3 => rfl

theorem sorted_at (G : FVec Ideal S2x12x4096x16 .f32) (b : Fin 2) (h : Fin 12) (s : Fin 4096) (i : Fin 16) (A : Fin 16 → S2x12x4096x16.Idx) (hA : A = fun k => ix4 b h s k) :
    iotaInDim S2x12x4096x16 32 (3 : Fin 4) (A (sortedFrom (fun k k' => FloatOps.cmpfTotal .gt (G (A k)) (G (A k')) == 1#1) i)) = BitVec.ofNat 32 (ord G b h s i).val := by
  subst hA
  show iotaInDim S2x12x4096x16 32 (3 : Fin 4) (ix4 b h s (ord G b h s i)) = _
  generalize ord G b h s i = x
  rfl

theorem idx_row (G : FVec Ideal S2x12x4096x16 .f32) (b : Fin 2) (h : Fin 12) (s : Fin 4096) (a : Fin 3) :
    idx G (ix4 b h s a) = BitVec.ofNat 32 (ord G b h s ⟨a.val, by have := a.isLt; omega⟩).val := by
  have j : (fun x : Fin 4 => (⟨0 + (ix4 b h s a x).val, Nat.lt_of_lt_of_le (Nat.add_lt_add_left (ix4 b h s a x).isLt _) (sliceFits_S2x12x4096x16_S2x12x4096x3.2 x)⟩ : Fin (S2x12x4096x16.size x)))
      = (ix4 b h s ⟨a.val, by have := a.isLt; omega⟩ : S2x12x4096x16.Idx) := by
    funext x
    match x with
    | 0 => exact Fin.ext (Nat.zero_add _)
    | 1 => exact Fin.ext (Nat.zero_add _)
    | 2 => exact Fin.ext (Nat.zero_add _)
    | 3 => exact Fin.ext (Nat.zero_add _)
  unfold idx Host.topK Host.sort2
  dsimp only
  rw [dif_pos (by decide)]
  dsimp only [extractStridedSlice]
  rw [dif_pos (by decide)]
  have j3 := congrFun j 3
  refine (sorted_at G b h s _ (fun k => Shape.Idx.along _ (3 : Fin 4) k) ?_).trans (congrArg (fun i : Fin 16 => BitVec.ofNat 32 (ord G b h s i).val) j3)
  funext k
  exact (congrArg (fun J : S2x12x4096x16.Idx => J.along (3 : Fin 4) k) j).trans (along_last b h s _ k)

theorem before_iff (x y : EReal) : ((FloatOps.cmpfTotal (F := Ideal) (φ := .f32) .gt x y == 1#1) = true) ↔ y < x := by
  show ((BitVec.ofBool (decide (y < x)) == 1#1) = true) ↔ y < x
  by_cases h : y < x <;> simp [h]

theorem picked_row (G : FVec Ideal S2x12x4096x16 .f32) (b : Fin 2) (h : Fin 12) (s p : Fin 4096) :
    pick (idx G) (ix4 b h s p) = 1#1 ↔ blkOf p < blkOf s ∧ Top3 (fun n => G (ix4 b h s n)) (blkOf p) := by
  have hs := s.isLt
  have hp := p.isLt
  have hi := idx_row G b h s
  have ht := sortedFrom_top3 (fun n => G (ix4 b h s n)) _ (fun k k' => before_iff (G (ix4 b h s k)) (G (ix4 b h s k'))) (blkOf p)
  change (∃ i : Fin 16, i.val < 3 ∧ ord G b h s i = blkOf p) ↔ _ at ht
  rw [pick_row, ← ht]
  clear ht
  generalize ord G b h s = σ at hi ⊢
  generalize idx G = X at hi ⊢
  constructor
  · rintro ⟨a, h1, h2⟩
    rw [hi] at h1 h2
    generalize hx : σ ⟨a.val, by have := a.isLt; omega⟩ = x at h1 h2
    have hn := x.isLt
    rw [WordCmp.cmpi_eq_ofNat_eq_one_iff (w := 32) (by norm_num; omega) (by norm_num; omega)] at h1
    rw [WordCmp.cmpi_slt_ofNat_eq_one_iff (w := 32) (by norm_num; omega) (by norm_num; omega), h1] at h2
    exact ⟨Fin.lt_def.2 h2, _, a.isLt, hx.trans (Fin.ext h1)⟩
  · rintro ⟨h2, i, hi', h1⟩
    refine ⟨⟨i.val, hi'⟩, ?_⟩
    rw [hi, show σ ⟨(⟨i.val, hi'⟩ : Fin 3).val, _⟩ = blkOf p from h1]
    exact ⟨(WordCmp.cmpi_eq_ofNat_eq_one_iff (w := 32) (a := p.val / 256) (by norm_num; omega) (by norm_num; omega)).2 rfl,
      (WordCmp.cmpi_slt_ofNat_eq_one_iff (w := 32) (a := p.val / 256) (by norm_num; omega) (by norm_num; omega)).2 (Fin.lt_def.1 h2)⟩

/-- The rows of head `h` of batch `b`. -/
def rowsOf {φ : FTy} (X : FVec Ideal S2x4096x1536 φ) (b : Fin 2) (h : Fin 12) : Fin 4096 → Fin 128 → EReal := fun s e =>
  X (ix3 b s ⟨h.val * 128 + e.val, by have := h.isLt; have := e.isLt; omega⟩)

section
variable (Q K V : Arr) (b : Fin 2) (h : Fin 12)

theorem mean_row (n : Fin 16) (e : Fin 128) : km (hd K) (ix4 b h n e) = kmean (rowsOf K b h) n e := by
  rw [km_row]
  unfold kmean rowsOf
  congr 1
  refine Finset.sum_congr rfl fun c _ => ?_
  rw [hd_row]
  congr 2
  exact Fin.ext (by show n.val * 256 + c.val = 256 * n.val + c.val; omega)

theorem gate_row (s : Fin 4096) (n : Fin 16) : gt (hd Q) (km (hd K)) (ix4 b h s n) = gate (rowsOf Q b h) (rowsOf K b h) s n := by
  rw [gt_row]
  unfold gate
  refine if_congr (Fin.lt_def (a := n) (b := blkOf s)).symm (Finset.sum_congr rfl fun e _ => ?_) rfl
  rw [hd_row, mean_row]
  rfl

theorem logit_row (s p : Fin 4096) : scs Q K (ix4 b h s p) = logit (rowsOf Q b h) (rowsOf K b h) s p := by
  classical
  have hC : pick (idx (gt (hd Q) (km (hd K)))) (ix4 b h s p) = 1#1 ∨ own (ix2 s p) = 1#1 ↔ Seen (rowsOf Q b h) (rowsOf K b h) s p := by
    rw [picked_row, own_row, funext fun n => gate_row Q K b h s n]
    unfold Seen Sel
    refine or_congr Iff.rfl (and_congr ?_ Iff.rfl)
    exact (Fin.ext_iff (a := blkOf p) (b := blkOf s)).symm
  unfold scs
  rw [lg_row _ _ _ b h s p _ hC]
  unfold logit
  refine if_congr Iff.rfl ?_ rfl
  congr 1
  exact Finset.sum_congr rfl fun e _ => by rw [hd_row, hd_row]; rfl

theorem whole_row (s : Fin 4096) (d : Fin 128) : rowsOf (whole Q K V) b h s d = attn (rowsOf Q b h) (rowsOf K b h) (rowsOf V b h) s d := by
  have e1 : ∀ p : Fin 4096, ex (scs Q K) (mx (scs Q K)) (ix4 b h s p)
      = Ideal.exp (logit (rowsOf Q b h) (rowsOf K b h) s p - Finset.univ.sup (logit (rowsOf Q b h) (rowsOf K b h) s)) := fun p => by
    rw [ex_row, mx_row, funext fun p => logit_row Q K b h s p, logit_row]
  show tog _ (ix3 b s ⟨h.val * 128 + d.val, _⟩) = _
  rw [tog_row, wsum_row]
  unfold attn
  refine Finset.sum_congr rfl fun p _ => ?_
  rw [e1, Finset.sum_congr rfl fun p' _ => e1 p', hd_row]
  rfl

end

end Cert.ReferenceIdeal.Moba
-- ==== Proof.MobaValue.lean ====
/-
  The array the attention kernel leaves: the blocks it reads of the queries, keys and values, each block of its result as
  the attention of a batch and a head, and the whole array as the reference's.
-/
module

public import proofs.«01_k».proof.Proof.MobaFrame
public import proofs.«01_k».proof.Proof.MobaTrip
public import proofs.«01_k».proof.Proof.MobaBlock
public import proofs.«01_k».proof.Proof.MobaRef
public import Idealize.ShloMosaic.Lib.Pointwise
public import Idealize.ShloMosaic.Lib.Pipeline.Value
import all proofs.«01_k».proof.Proof.MobaFrame

@[expose] public section

set_option maxRecDepth 16384

noncomputable section

namespace Cert.KernelIdeal.Moba

open Cert.KernelIdeal Cert.KernelIdeal.Gen
open Idealize.ShloMosaic Idealize.ShloMosaic.TcCoe Idealize.SL.Sem Idealize.ShloMosaic.Pipeline
open Cert.ReferenceIdeal.Moba (whole rowsOf whole_row)
open Cert.Moba (up)

variable (m : (ℓ : Loc nD τ sig) → Buf (Elt Ideal) ℓ)

/-- The queries. -/
abbrev Qa (c : Dev nD) : FVec Ideal S2x4096x1536 .f32 := m ((c.tc : Thread nD τ).loc main_arg0)
/-- The keys. -/
abbrev Ka (c : Dev nD) : FVec Ideal S2x4096x1536 .f32 := m ((c.tc : Thread nD τ).loc main_arg1)
/-- The values. -/
abbrev Va (c : Dev nD) : FVec Ideal S2x4096x1536 .f32 := m ((c.tc : Thread nD τ).loc main_arg2)
/-- The rest of the projection's output. -/
abbrev Ga (c : Dev nD) : FVec Ideal S2x4096x7680 .f32 := m ((c.tc : Thread nD τ).loc main_arg3)

/-- The packed projection the call reads: the four arrays side by side. -/
def packed (Q K U : FVec Ideal S2x4096x1536 .f32) (G : FVec Ideal S2x4096x7680 .f32) : FVec Ideal S2x4096x12288 .bf16 :=
  truncf .bf16 (concatenate S2x4096x12288 2 [⟨S2x4096x1536, Q⟩, ⟨S2x4096x1536, K⟩, ⟨S2x4096x1536, U⟩, ⟨S2x4096x7680, G⟩] concatenates_S2x4096x1536_S2x4096x1536_S2x4096x1536_S2x4096x7680_S2x4096x12288_d2) bitsLt_bf16_f32

theorem V_v1 (c : Dev nD) : V m c main_v1 = packed (Qa m c) (Ka m c) (Va m c) (Ga m c) := by
  simp only [V, hostOps0]; after_results
  rfl

theorem packed_q (Q K U : FVec Ideal S2x4096x1536 .f32) (G : FVec Ideal S2x4096x7680 .f32) (b : Fin 2) (s : Fin 4096) (j : Fin 1536) :
    packed Q K U G (ix3 b s ⟨j.val, by omega⟩) = Q (ix3 b s j) := by
  have hj := j.isLt
  unfold packed
  pointwise

theorem packed_k (Q K U : FVec Ideal S2x4096x1536 .f32) (G : FVec Ideal S2x4096x7680 .f32) (b : Fin 2) (s : Fin 4096) (j : Fin 1536) :
    packed Q K U G (ix3 b s ⟨1536 + j.val, by omega⟩) = K (ix3 b s j) := by
  have hj := j.isLt
  unfold packed
  pointwise

theorem packed_v (Q K U : FVec Ideal S2x4096x1536 .f32) (G : FVec Ideal S2x4096x7680 .f32) (b : Fin 2) (s : Fin 4096) (j : Fin 1536) :
    packed Q K U G (ix3 b s ⟨3072 + j.val, by omega⟩) = U (ix3 b s j) := by
  have hj := j.isLt
  unfold packed
  pointwise
  rw [dif_neg (by omega), dif_neg (by omega), dif_pos (by omega)]
  congr 2
  exact Fin.ext (by show 3072 + j.val - 1536 - 1536 = j.val; omega)

/-- Where the windows are at a grid point, and the point's query block. -/
theorem idx_facts : ∀ t : Fin cfg0.N,
    win0_0.index t (0 : Fin 3) = t.val / 96 ∧ win0_0.index t (1 : Fin 3) = t.val % 8 ∧ win0_0.index t (2 : Fin 3) = t.val / 8 % 12
    ∧ win0_1.index t (0 : Fin 3) = t.val / 96 ∧ win0_1.index t (1 : Fin 3) = 0 ∧ win0_1.index t (2 : Fin 3) = 12 + t.val / 8 % 12
    ∧ win0_2.index t (0 : Fin 3) = t.val / 96 ∧ win0_2.index t (1 : Fin 3) = 0 ∧ win0_2.index t (2 : Fin 3) = 24 + t.val / 8 % 12
    ∧ win0_3.index t (0 : Fin 3) = t.val / 96 ∧ win0_3.index t (1 : Fin 3) = t.val % 8 ∧ win0_3.index t (2 : Fin 3) = t.val / 8 % 12
    ∧ (grid0.coords t 2).val = t.val % 8 :=
  (by decide +kernel : ∀ t : Fin grid0.N, _)

/-- A point's batch. -/
def bAt (t : Fin cfg0.N) : Fin 2 := ⟨t.val / 96, by have := t.isLt; have : cfg0.N = 192 := N_0; omega⟩
/-- A point's head. -/
def hAt (t : Fin cfg0.N) : Fin 12 := ⟨t.val / 8 % 12, by omega⟩
/-- A row of a point's query block. -/
def sAt (t : Fin cfg0.N) (r : Fin 512) : Fin 4096 := ⟨512 * (t.val % 8) + r.val, by omega⟩
/-- A column of a head. -/
def col (h : Fin 12) (e : Fin 128) : Fin 1536 := ⟨h.val * 128 + e.val, by omega⟩

theorem iblk_q (c : Dev nD) (t : Fin cfg0.N) (r : Fin 512) (e : Fin 128) :
    iblk m c 0 t (ix3 0 r e) = Qa m c (ix3 (bAt t) (sAt t r) (col (hAt t) e)) := by
  obtain ⟨h0, h1, h2, -⟩ := idx_facts t
  have hl : (col (hAt t) e).val < 12288 := by have := (col (hAt t) e).isLt; omega
  have ee : (win0_0.rect t).emb (ix3 0 r e) = ix3 (bAt t) (sAt t r) ⟨(col (hAt t) e).val, hl⟩ := by
    funext a
    apply Fin.ext
    rw [win0_0.rect_emb_val t (ix3 0 r e) a]
    match a with
    | 0 => show win0_0.index t (0 : Fin 3) * 1 + 0 = t.val / 96; rw [h0]; omega
    | 1 => show win0_0.index t (1 : Fin 3) * 512 + r.val = 512 * (t.val % 8) + r.val; rw [h1]; omega
    | 2 => show win0_0.index t (2 : Fin 3) * 128 + e.val = t.val / 8 % 12 * 128 + e.val; rw [h2]
  show V m c main_v1 ((win0_0.rect t).emb (ix3 0 r e)) = _
  rw [ee, V_v1]
  exact packed_q _ _ _ _ _ _ _

theorem iblk_k (c : Dev nD) (t : Fin cfg0.N) (p : Fin 4096) (e : Fin 128) :
    iblk m c 1 t (ix3 0 p e) = Ka m c (ix3 (bAt t) p (col (hAt t) e)) := by
  obtain ⟨-, -, -, h0, h1, h2, -⟩ := idx_facts t
  have hl : 1536 + (col (hAt t) e).val < 12288 := by have := (col (hAt t) e).isLt; omega
  have ee : (win0_1.rect t).emb (ix3 0 p e) = ix3 (bAt t) p ⟨1536 + (col (hAt t) e).val, hl⟩ := by
    funext a
    apply Fin.ext
    rw [win0_1.rect_emb_val t (ix3 0 p e) a]
    match a with
    | 0 => show win0_1.index t (0 : Fin 3) * 1 + 0 = t.val / 96; rw [h0]; omega
    | 1 => show win0_1.index t (1 : Fin 3) * 4096 + p.val = p.val; rw [h1]; omega
    | 2 => show win0_1.index t (2 : Fin 3) * 128 + e.val = 1536 + (t.val / 8 % 12 * 128 + e.val); rw [h2]; omega
  show V m c main_v1 ((win0_1.rect t).emb (ix3 0 p e)) = _
  rw [ee, V_v1]
  exact packed_k _ _ _ _ _ _ _

theorem iblk_v (c : Dev nD) (t : Fin cfg0.N) (p : Fin 4096) (e : Fin 128) :
    iblk m c 2 t (ix3 0 p e) = Va m c (ix3 (bAt t) p (col (hAt t) e)) := by
  obtain ⟨-, -, -, -, -, -, h0, h1, h2, -⟩ := idx_facts t
  have hl : 3072 + (col (hAt t) e).val < 12288 := by have := (col (hAt t) e).isLt; omega
  have ee : (win0_2.rect t).emb (ix3 0 p e) = ix3 (bAt t) p ⟨3072 + (col (hAt t) e).val, hl⟩ := by
    funext a
    apply Fin.ext
    rw [win0_2.rect_emb_val t (ix3 0 p e) a]
    match a with
    | 0 => show win0_2.index t (0 : Fin 3) * 1 + 0 = t.val / 96; rw [h0]; omega
    | 1 => show win0_2.index t (1 : Fin 3) * 4096 + p.val = p.val; rw [h1]; omega
    | 2 => show win0_2.index t (2 : Fin 3) * 128 + e.val = 3072 + (t.val / 8 % 12 * 128 + e.val); rw [h2]; omega
  show V m c main_v1 ((win0_2.rect t).emb (ix3 0 p e)) = _
  rw [ee, V_v1]
  exact packed_v _ _ _ _ _ _ _

/-- The key blocks of a head's points are one. -/
theorem iblk_base (c : Dev nD) (t : Fin cfg0.N) (h : base t.val < cfg0.N) : iblk m c 1 ⟨base t.val, h⟩ = iblk m c 1 t := by
  funext y
  obtain ⟨z, p, e, rfl⟩ : ∃ z p e, y = ix3 z p e := ⟨y 0, y 1, y 2, eq_ix3 y⟩
  obtain rfl : z = 0 := Subsingleton.elim _ _
  rw [iblk_k, iblk_k]
  have hb : bAt ⟨base t.val, h⟩ = bAt t := Fin.ext (by show base t.val / 96 = t.val / 96; unfold base; omega)
  have hh : hAt ⟨base t.val, h⟩ = hAt t := Fin.ext (by show base t.val / 8 % 12 = t.val / 8 % 12; unfold base; omega)
  rw [hb, hh]

/-- What the body leaves at a point, from the point's own blocks. -/
theorem outsAt_eq (c : Dev nD) (t : Fin cfg0.N) :
    outsAt m c t = outBlock (grid0.coords t) (iblk m c 0 t) (iblk m c 1 t) (iblk m c 2 t) (k0_pay67 (iblk m c 1 t)) := by
  have hk : kmAt m c t.val t.isLt = k0_pay67 (iblk m c 1 t) := congrArg k0_pay67 (iblk_base m c t _)
  by_cases h1 : first (grid0.coords t)
  · rw [outsAt_first m c t h1]; exact runFirst_eq ..
  · by_cases h2 : k0_cond2 (grid0.coords t) = 1#1
    · rw [outsAt_odd m c t h1 h2, hk]; exact runOdd_eq ..
    · rw [outsAt_even m c t h1 h2, hk]; exact runEven_eq ..

/-- An element of what a point leaves is the reference's, where the queries and keys are real. -/
theorem outsAt_apply (c : Dev nD) (t : Fin cfg0.N) (q k : S2x4096x1536.Idx → ℝ) (hq : ∀ j, Qa m c j = (q j : EReal)) (hk : ∀ j, Ka m c j = (k j : EReal))
    (r : Fin 512) (d : Fin 128) :
    outsAt m c t (ix3 0 r d) = whole (Qa m c) (Ka m c) (Va m c) (ix3 (bAt t) (sAt t r) (col (hAt t) d)) := by
  obtain ⟨-, -, -, -, -, -, -, -, -, -, -, -, ht⟩ := idx_facts t
  rw [outsAt_eq]
  have eq : rowsOf (Qa m c) (bAt t) (hAt t) = up (fun s e => q (ix3 (bAt t) s (col (hAt t) e))) := by
    funext s e; exact hq _
  have ek : rowsOf (Ka m c) (bAt t) (hAt t) = up (fun s e => k (ix3 (bAt t) s (col (hAt t) e))) := by
    funext s e; exact hk _
  refine (outBlock_row (grid0.coords t) _ _ _ (fun s e => q (ix3 (bAt t) s (col (hAt t) e))) (fun s e => k (ix3 (bAt t) s (col (hAt t) e)))
    (rowsOf (Va m c) (bAt t) (hAt t)) r (sAt t r) (by rw [ht]; rfl) (fun e => ?_) (fun p e => ?_) (fun p e => ?_) d).trans ?_
  · rw [iblk_q]; exact hq _
  · rw [iblk_k]; exact hk _
  · rw [iblk_v]; rfl
  · rw [← eq, ← ek]; exact (whole_row _ _ _ (bAt t) (hAt t) (sAt t r) d).symm

theorem mem_blk3 (t : Fin cfg0.N) (i : S2x4096x1536.Idx) :
    i ∈ ((cfg0.win 3).blk t).view.set ↔ ∀ a : Fin 3, win0_3.index t a * S1x512x128.size a ≤ i a ∧ (i a : ℕ) < win0_3.index t a * S1x512x128.size a + S1x512x128.size a := by
  show i ∈ ((View.whole main_v2).slice (win0_3.rect t)).set ↔ _
  rw [View.set_slice_whole, Rect.mem_set_unit]; exact Iff.rfl

/-- A block that is an array's, element by element, is what the window reads of the array. -/
theorem cut_eq (t : Fin cfg0.N) (o : Vec Ideal S1x512x128 .bf16) (G : Vec Ideal S2x4096x1536 .bf16)
    (h : ∀ r d, o (ix3 0 r d) = G (ix3 (bAt t) (sAt t r) (col (hAt t) d))) :
    (cfg0.win 3).cut (grid0.coords t) o = ((cfg0.win 3).blk t).view.read (Elt Ideal) G := by
  funext y
  obtain ⟨z, r, d, rfl⟩ : ∃ z r d, y = ix3 z r d := ⟨y 0, y 1, y 2, eq_ix3 y⟩
  obtain rfl : z = 0 := Subsingleton.elim _ _
  obtain ⟨-, -, -, -, -, -, -, -, -, h0, h1, h2, -⟩ := idx_facts t
  refine (h r d).trans ?_
  show _ = G ((win0_3.rect t).emb (ix3 0 r d))
  congr 1
  funext a; apply Fin.ext; rw [win0_3.rect_emb_val t (ix3 0 r d) a]
  match a with
  | 0 => show t.val / 96 = win0_3.index t (0 : Fin 3) * 1 + 0; rw [h0]; omega
  | 1 => show 512 * (t.val % 8) + r.val = win0_3.index t (1 : Fin 3) * 512 + r.val; rw [h1]; omega
  | 2 => show t.val / 8 % 12 * 128 + d.val = win0_3.index t (2 : Fin 3) * 128 + d.val; rw [h2]

theorem flushed3 (c : Dev nD) (t : Fin cfg0.N) : (dats m 0 c).flushed 3 t = (cfg0.win 3).cut (grid0.coords t) (outsAt m c t) := by
  show (cfg0.win 3).cut (grid0.coords t) ((dats m 0 c).after 3 t) = _
  rw [after0_3]

/-- The result's array after the run, from what each point leaves. -/
theorem final_of (c : Dev nD) (G : Vec Ideal S2x4096x1536 .bf16)
    (h : ∀ t r d, outsAt m c t (ix3 0 r d) = G (ix3 (bAt t) (sAt t r) (col (hAt t) d))) :
    (dats m 0 c).arrAt 3 cfg0.N = G := by
  refine (dats m 0 c).arrAt_eq_of_cover 3 G (fun t _ => (flushed3 m c t).trans (cut_eq t _ G (h t))) (fun i => ?_)
  · have hb : (i 0 : ℕ) < 2 := (i 0).isLt
    have hs : (i 1 : ℕ) < 4096 := (i 1).isLt
    have hc : (i 2 : ℕ) < 1536 := (i 2).isLt
    let t : Fin cfg0.N := ⟨(i 0 : ℕ) * 96 + (i 2 : ℕ) / 128 * 8 + (i 1 : ℕ) / 512, by rw [show cfg0.N = 192 from N_0]; omega⟩
    have htv : t.val = (i 0 : ℕ) * 96 + (i 2 : ℕ) / 128 * 8 + (i 1 : ℕ) / 512 := rfl
    obtain ⟨-, -, -, -, -, -, -, -, -, h0, h1, h2, -⟩ := idx_facts t
    refine ⟨t, flush0_3 t, ?_⟩
    rw [mem_blk3]
    intro a
    match a with
    | 0 => show win0_3.index t (0 : Fin 3) * 1 ≤ (i 0 : ℕ) ∧ (i 0 : ℕ) < win0_3.index t (0 : Fin 3) * 1 + 1
           rw [h0, htv]; omega
    | 1 => show win0_3.index t (1 : Fin 3) * 512 ≤ (i 1 : ℕ) ∧ (i 1 : ℕ) < win0_3.index t (1 : Fin 3) * 512 + 512
           rw [h1, htv]; omega
    | 2 => show win0_3.index t (2 : Fin 3) * 128 ≤ (i 2 : ℕ) ∧ (i 2 : ℕ) < win0_3.index t (2 : Fin 3) * 128 + 128
           rw [h2, htv]; omega

/-- The result's array after the run, where the queries and keys are real. -/
theorem final3 (c : Dev nD) (q k : S2x4096x1536.Idx → ℝ) (hq : ∀ j, Qa m c j = (q j : EReal)) (hk : ∀ j, Ka m c j = (k j : EReal)) :
    (dats m 0 c).arrAt 3 cfg0.N = whole (Qa m c) (Ka m c) (Va m c) :=
  final_of m c _ (fun t r d => outsAt_apply m c t q k hq hk r d)

end Cert.KernelIdeal.Moba

end
-- ==== Proof.MobaAlg.lean ====
/-
  The attention call's equation of results: where every query and key is finite, the kernel's array and the reference's are
  the same extended reals.
-/
module

public import proofs.«01_k».proof.Defs
public import proofs.«01_k».proof.Proof.MobaValue
public import proofs.«01_k».proof.Proof.MobaClaims
public import Idealize.ShloMosaic.Lib.Claim

@[expose] public section

set_option maxRecDepth 16384

noncomputable section

namespace Cert.Moba

open Idealize.ShloMosaic Idealize.ShloMosaic.TcCoe Idealize.SL.Sem

/-- The side condition of the precondition's text. -/
theorem preFacts : Cert.Pre_finite.Facts where
  bcast_S_S2x4096x1536 := by decide

/-- A value whose absolute value is below infinity is a real. -/
theorem real_of_bit (x : EReal) (h : Ideal.cmp .olt (FloatOps.hostAbsf (F := Ideal) (φ := .f32) x) (Ideal.ofBits .f32 0x7F800000#32) = 1#1) : ∃ r : ℝ, x = (r : EReal) := by
  have htop : Ideal.ofBits .f32 0x7F800000#32 = ⊤ := by simp [Ideal.ofBits, Ideal.ieee]
  have h' : max x (-x) < (⊤ : EReal) := htop ▸ (Ideal.cmp_olt_eq_one _ _).mp h
  induction x with
  | coe r => exact ⟨r, rfl⟩
  | bot => exact absurd h' (by simp)
  | top => exact absurd h' (by simp)

variable (m : (ℓ : Loc Cert.KernelIdeal.nD Cert.KernelIdeal.τ Cert.KernelIdeal.sig) → Buf (Elt Ideal) ℓ)

/-- Under the precondition every query and every key is a real. -/
theorem real_of_pre (h : Cert.Pre_KernelIdeal_finite (hPre_finite := preFacts) m) (c : Dev Cert.KernelIdeal.nD) :
    (∀ j, ∃ r : ℝ, Cert.KernelIdeal.Moba.Qa m c j = (r : EReal)) ∧ (∀ j, ∃ r : ℝ, Cert.KernelIdeal.Moba.Ka m c j = (r : EReal)) :=
  ⟨fun j => real_of_bit _ (congrFun (h c).1 j), fun j => real_of_bit _ (congrFun (h c).2 j)⟩

/-- The kernel's array after its run, under the precondition. -/
theorem run_whole (ρ : Dev Cert.KernelIdeal.nD → PrngReg) (h : Cert.Pre_KernelIdeal_finite (hPre_finite := preFacts) m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v2)
        = Cert.ReferenceIdeal.Moba.whole (Cert.KernelIdeal.Moba.Qa m c) (Cert.KernelIdeal.Moba.Ka m c) (Cert.KernelIdeal.Moba.Va m c)) :=
  (θ_run Cert.KernelIdeal.defs _ _).mono (fun _ hr c => by
    obtain ⟨hq, hk⟩ := real_of_pre m h c
    choose q hq using hq
    choose k hk using hk
    exact ((hr.1 c).1 3).trans (Cert.KernelIdeal.Moba.final3 m c q k hq hk)) (Cert.KernelIdeal.Moba.run_main m ρ)

theorem frame_refIdeal_finite : Cert.quiescent_ReferenceIdeal_pre_finite (hReferenceIdeal := Cert.ReferenceIdeal.Gen.facts) (hPre_finite := preFacts) := fun m ρ _ =>
  frame_refIdeal m ρ trivial

theorem algebraic : Cert.algebraic_KernelIdeal_ReferenceIdeal_pre_finite (hKernelIdeal := Cert.KernelIdeal.Gen.facts) (hReferenceIdeal := Cert.ReferenceIdeal.Gen.facts) (hPre_finite := preFacts) :=
  fun m ρ m' ρ' hpre hag =>
  ⟨fun c => Cert.ReferenceIdeal.Moba.whole (Cert.KernelIdeal.Moba.Qa m c) (Cert.KernelIdeal.Moba.Ka m c) (Cert.KernelIdeal.Moba.Va m c),
    (θ_run Cert.KernelIdeal.defs _ _).mono (fun _ h c => ⟨h.1 c, h.2.1 c⟩) (θ_run_and (run_whole m ρ hpre) (Cert.KernelIdeal.Moba.frame m ρ)),
    (θ_run Cert.ReferenceIdeal.defs _ _).mono (fun _ h c => ⟨(h c).1.trans ((Cert.ReferenceIdeal.Moba.res_whole m' c).trans (by
        rw [(hag c).1, (hag c).2.1, (hag c).2.2.1])), (h c).2⟩) (Cert.ReferenceIdeal.Value.run m' ρ')⟩

end Cert.Moba

end
-- ==== Proof.SumSplit.lean ====
/- A sum over a range of indices, cut into consecutive parts. -/
module

public import Idealize.ShloMosaic.PureOps.Ideal

@[expose] public section

noncomputable section

namespace Cert.SumSplit

/-- A sum of `a + b` terms is the first `a` and then the others. -/
theorem cut {n : ℕ} (a b : ℕ) (h : n = a + b) (f : Fin n → EReal) :
    ∑ i, f i = ∑ i : Fin a, f ⟨i.val, by omega⟩ + ∑ i : Fin b, f ⟨a + i.val, by omega⟩ := by
  subst h
  exact Fin.sum_univ_add f

/-- A sum of `4·b` terms in four parts of `b`. -/
theorem four {n : ℕ} (b : ℕ) (h : n = 4 * b) (f : Fin n → EReal) :
    ∑ i, f i = ∑ i : Fin b, f ⟨b * 0 + i.val, by omega⟩ + ∑ i : Fin b, f ⟨b * 1 + i.val, by omega⟩
      + ∑ i : Fin b, f ⟨b * 2 + i.val, by omega⟩ + ∑ i : Fin b, f ⟨b * 3 + i.val, by omega⟩ := by
  rw [cut b (b + (b + b)) (by omega), cut b (b + b) rfl (fun i : Fin (b + (b + b)) => f ⟨b + i.val, by omega⟩), cut b b rfl (fun i : Fin (b + b) => f ⟨b + (b + i.val), by omega⟩),
    ← add_assoc, ← add_assoc]
  have e : ∀ (p q : Fin b → Fin n), (∀ i, p i = q i) → ∑ i, f (p i) = ∑ i, f (q i) := fun p q h => Finset.sum_congr rfl fun i _ => congrArg f (h i)
  congr 1
  · congr 1
    · congr 1 <;> refine e _ _ fun i => Fin.ext ?_
      · show i.val = b * 0 + i.val; omega
      · show b + i.val = b * 1 + i.val; omega
    · refine e _ _ fun i => Fin.ext ?_
      show b + (b + i.val) = b * 2 + i.val; omega
  · refine e _ _ fun i => Fin.ext ?_
    show b + (b + (b + i.val)) = b * 3 + i.val; omega

end Cert.SumSplit

end
-- ==== Proof.FfnDownValue.lean ====
/- The feed-forward's second product: what the call leaves is the residual plus the whole product, its four partial products
   added one after another. -/
module

public import proofs.«01_k».proof.Proof.Gen.FfnDownIdeal.Value
public import proofs.«01_k».proof.Proof.Gen.FfnDownRefIdeal.Run
public import proofs.«01_k».proof.Proof.SumSplit
public import Idealize.ShloMosaic.Lib.Pointwise

@[expose] public section

set_option maxRecDepth 16384

noncomputable section

namespace Cert.FfnDownRefIdeal.Down

open Cert.FfnDownRefIdeal Cert.FfnDownRefIdeal.Gen Idealize.ShloMosaic Idealize.ShloMosaic.TcCoe

/-- The reference's result. -/
def whole (a : FVec Ideal S8192x11008 .f32) (w : FVec Ideal S11008x4096 .f32) (x : FVec Ideal S8192x4096 .f32) : FVec Ideal S8192x4096 .f32 :=
  addf x (Host.dotGeneral dot_S8192x11008_S11008x4096_S8192x4096_1_0_0_1_n_n none a w)

theorem whole_apply (a : FVec Ideal S8192x11008 .f32) (w : FVec Ideal S11008x4096 .f32) (x : FVec Ideal S8192x4096 .f32) (i : Fin 8192) (j : Fin 4096) :
    whole a w x (ix2 i j) = x (ix2 i j) + ∑ f : Fin 11008, a (ix2 i f) * w (ix2 f j) := by
  unfold whole
  pointwise

end Cert.FfnDownRefIdeal.Down

namespace Cert.FfnDownIdeal.Down

open Cert.FfnDownIdeal Cert.FfnDownIdeal.Gen Cert.FfnDownIdeal.Value
open Idealize.ShloMosaic Idealize.ShloMosaic.TcCoe Idealize.SL.Sem Idealize.ShloMosaic.Pipeline

variable (m : (ℓ : Loc nD τ sig) → Buf (Elt Ideal) ℓ)

/-- The activations. -/
abbrev Aa (c : Dev nD) : FVec Ideal S8192x11008 .f32 := m ((c.tc : Thread nD τ).loc main_arg0)
/-- The weights. -/
abbrev Wa (c : Dev nD) : FVec Ideal S11008x4096 .f32 := m ((c.tc : Thread nD τ).loc main_arg1)
/-- The residual. -/
abbrev Xa (c : Dev nD) : FVec Ideal S8192x4096 .f32 := m ((c.tc : Thread nD τ).loc main_arg2)

/-- The activations the call reads: columns of zeros after them. -/
def padA (a : FVec Ideal S8192x11008 .f32) : FVec Ideal S8192x11264 .bf16 :=
  concatenate S8192x11264 1 [⟨S8192x11008, truncf .bf16 a bitsLt_bf16_f32⟩, ⟨S8192x256, broadcastInDim S8192x256 ![] bcast_S_S8192x256 (constant S_ .bf16 0x0000#16)⟩] concatenates_S8192x11008_S8192x256_S8192x11264_d1

/-- The weights the call reads: rows of zeros after them. -/
def padW (w : FVec Ideal S11008x4096 .f32) : FVec Ideal S11264x4096 .bf16 :=
  concatenate S11264x4096 0 [⟨S11008x4096, truncf .bf16 w bitsLt_bf16_f32⟩, ⟨S256x4096, broadcastInDim S256x4096 ![] bcast_S_S256x4096 (constant S_ .bf16 0x0000#16)⟩] concatenates_S11008x4096_S256x4096_S11264x4096_d0

theorem V_a (c : Dev nD) : V m c main_v2 = padA (Aa m c) := by
  simp only [V, hostOps0]; after_results
  rfl

theorem V_w (c : Dev nD) : V m c main_v5 = padW (Wa m c) := by
  simp only [V, hostOps0]; after_results
  rfl

theorem padA_low (a : FVec Ideal S8192x11008 .f32) (i : Fin 8192) (f : Fin 11008) : padA a (ix2 i ⟨f.val, by omega⟩) = a (ix2 i f) := by
  have := f.isLt
  unfold padA
  pointwise

theorem padA_high (a : FVec Ideal S8192x11008 .f32) (i : Fin 8192) (f : Fin 256) : padA a (ix2 i ⟨11008 + f.val, by omega⟩) = 0 := by
  have := f.isLt
  unfold padA
  pointwise

theorem padW_low (w : FVec Ideal S11008x4096 .f32) (f : Fin 11008) (j : Fin 4096) : padW w (ix2 ⟨f.val, by omega⟩ j) = w (ix2 f j) := by
  have := f.isLt
  unfold padW
  pointwise

/-- The padded columns add nothing to the product. -/
theorem pad_sum (a : FVec Ideal S8192x11008 .f32) (w : FVec Ideal S11008x4096 .f32) (i : Fin 8192) (j : Fin 4096) :
    ∑ f : Fin 11264, padA a (ix2 i f) * padW w (ix2 f j) = ∑ f : Fin 11008, a (ix2 i f) * w (ix2 f j) := by
  rw [Cert.SumSplit.cut 11008 256 (by norm_num)]
  have h0 : ∑ f : Fin 256, padA a (ix2 i ⟨11008 + f.val, by omega⟩) * padW w (ix2 ⟨11008 + f.val, by omega⟩ j) = 0 :=
    Finset.sum_eq_zero fun f _ => (congrArg (fun z : EReal => z * padW w (ix2 ⟨11008 + f.val, by omega⟩ j)) (padA_high a i f)).trans (zero_mul _)
  have h1 : ∑ f : Fin 11008, padA a (ix2 i ⟨f.val, by omega⟩) * padW w (ix2 ⟨f.val, by omega⟩ j) = ∑ f : Fin 11008, a (ix2 i f) * w (ix2 f j) :=
    Finset.sum_congr rfl fun f _ => congrArg₂ (fun p q : EReal => p * q) (padA_low a i f) (padW_low w f j)
  exact (congrArg₂ (fun p q : EReal => p + q) h1 h0).trans (add_zero _)

/-- An element of a product of two blocks. -/
def part (a : FVec Ideal S1024x2816 .bf16) (w : FVec Ideal S2816x1024 .bf16) (r s : Fin 1024) : EReal :=
  ∑ f : Fin 2816, a (ix2 r f) * w (ix2 f s)

/-- One partial product, added. -/
theorem pay_apply (acc : FVec Ideal S1024x1024 .f32) (a : FVec Ideal S1024x2816 .bf16) (w : FVec Ideal S2816x1024 .bf16) (r s : Fin 1024) :
    k0_pay1 acc a w (ix2 r s) = acc (ix2 r s) + part a w r s := by
  unfold k0_pay1 part
  pointwise

/-- Where the windows are at a grid point. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

theorem iblk_a (c : Dev nD) (n k I : ℕ) (h : n < cfg0.N) (hk : n % 4 = k) (hI : n / 16 = I) (r : Fin 1024) (f : Fin 2816) (hr : 1024 * I + r.val < 8192) (hf : 2816 * k + f.val < 11264) :
    iblk m c 0 ⟨n, h⟩ (ix2 r f) = padA (Aa m c) (ix2 ⟨1024 * I + r.val, hr⟩ ⟨2816 * k + f.val, hf⟩) := by
  obtain ⟨h0, h1, -⟩ := idx_facts ⟨n, h⟩
  have ee : (win0_0.rect ⟨n, h⟩).emb (ix2 r f) = ix2 ⟨1024 * I + r.val, hr⟩ ⟨2816 * k + f.val, hf⟩ := by
    funext a
    apply Fin.ext
    rw [win0_0.rect_emb_val ⟨n, h⟩ (ix2 r f) a]
    match a with
    | 0 => show win0_0.index ⟨n, h⟩ (0 : Fin 2) * 1024 + r.val = 1024 * I + r.val; rw [h0]; dsimp only; omega
    | 1 => show win0_0.index ⟨n, h⟩ (1 : Fin 2) * 2816 + f.val = 2816 * k + f.val; rw [h1]; dsimp only; omega
  show V m c main_v2 ((win0_0.rect ⟨n, h⟩).emb (ix2 r f)) = _
  rw [ee, V_a]

theorem iblk_w (c : Dev nD) (n k J : ℕ) (h : n < cfg0.N) (hk : n % 4 = k) (hJ : n / 4 % 4 = J) (f : Fin 2816) (s : Fin 1024) (hf : 2816 * k + f.val < 11264) (hs : 1024 * J + s.val < 4096) :
    iblk m c 1 ⟨n, h⟩ (ix2 f s) = padW (Wa m c) (ix2 ⟨2816 * k + f.val, hf⟩ ⟨1024 * J + s.val, hs⟩) := by
  obtain ⟨-, -, h0, h1, -⟩ := idx_facts ⟨n, h⟩
  have ee : (win0_1.rect ⟨n, h⟩).emb (ix2 f s) = ix2 ⟨2816 * k + f.val, hf⟩ ⟨1024 * J + s.val, hs⟩ := by
    funext a
    apply Fin.ext
    rw [win0_1.rect_emb_val ⟨n, h⟩ (ix2 f s) a]
    match a with
    | 0 => show win0_1.index ⟨n, h⟩ (0 : Fin 2) * 2816 + f.val = 2816 * k + f.val; rw [h0]; dsimp only; omega
    | 1 => show win0_1.index ⟨n, h⟩ (1 : Fin 2) * 1024 + s.val = 1024 * J + s.val; rw [h1]; dsimp only; omega
  show V m c main_v5 ((win0_1.rect ⟨n, h⟩).emb (ix2 f s)) = _
  rw [ee, V_w]

theorem iblk_x (c : Dev nD) (n I J : ℕ) (h : n < cfg0.N) (hI : n / 16 = I) (hJ : n / 4 % 4 = J) (r s : Fin 1024) (hr : 1024 * I + r.val < 8192) (hs : 1024 * J + s.val < 4096) :
    iblk m c 2 ⟨n, h⟩ (ix2 r s) = Xa m c (ix2 ⟨1024 * I + r.val, hr⟩ ⟨1024 * J + s.val, hs⟩) := by
  obtain ⟨-, -, -, -, h0, h1⟩ := idx_facts ⟨n, h⟩
  have ee : (win0_2.rect ⟨n, h⟩).emb (ix2 r s) = ix2 ⟨1024 * I + r.val, hr⟩ ⟨1024 * J + s.val, hs⟩ := by
    funext a
    apply Fin.ext
    rw [win0_2.rect_emb_val ⟨n, h⟩ (ix2 r s) a]
    match a with
    | 0 => show win0_2.index ⟨n, h⟩ (0 : Fin 2) * 1024 + r.val = 1024 * I + r.val; rw [h0]; dsimp only; omega
    | 1 => show win0_2.index ⟨n, h⟩ (1 : Fin 2) * 1024 + s.val = 1024 * J + s.val; rw [h1]; dsimp only; omega
  show V m c main_arg2 ((win0_2.rect ⟨n, h⟩).emb (ix2 r s)) = _
  rw [ee, V_main_arg2]

/-- The product of one point's blocks. -/
theorem part_eq (c : Dev nD) (n k I J : ℕ) (h : n < cfg0.N) (hk : n % 4 = k) (hI : n / 16 = I) (hJ : n / 4 % 4 = J) (r s : Fin 1024)
    (hr : 1024 * I + r.val < 8192) (hs : 1024 * J + s.val < 4096) (hk4 : k < 4) :
    part (iblk m c 0 ⟨n, h⟩) (iblk m c 1 ⟨n, h⟩) r s
      = ∑ f : Fin 2816, padA (Aa m c) (ix2 ⟨1024 * I + r.val, hr⟩ ⟨2816 * k + f.val, by omega⟩) * padW (Wa m c) (ix2 ⟨2816 * k + f.val, by omega⟩ ⟨1024 * J + s.val, hs⟩) :=
  Finset.sum_congr rfl fun f _ => by
    have ea := iblk_a m c n k I h hk hI r f hr (by omega)
    have ew := iblk_w m c n k J h hk hJ f s (by omega) hs
    exact congrArg₂ (fun p q : EReal => p * q) ea ew

/-- A run's four partial products over the residual. -/
theorem run_apply (c : Dev nD) (q I J : ℕ) (h : 4 * q + 3 < cfg0.N) (hI : q / 4 = I) (hJ : q % 4 = J) (r s : Fin 1024)
    (hr : 1024 * I + r.val < 8192) (hs : 1024 * J + s.val < 4096) :
    accAt (reset3 m c) (step3 m c) (4 * q) 3 h (ix2 r s)
      = Cert.FfnDownRefIdeal.Down.whole (Aa m c) (Wa m c) (Xa m c) (ix2 ⟨1024 * I + r.val, hr⟩ ⟨1024 * J + s.val, hs⟩) := by
  rw [Cert.FfnDownRefIdeal.Down.whole_apply, ← pad_sum, Cert.SumSplit.four 2816 (by norm_num)]
  rw [accAt_succ, accAt_succ, accAt_succ, accAt_zero]
  unfold step3 reset3
  refine (pay_apply _ _ _ r s).trans ?_
  rw [part_eq m c _ 3 I J _ (by omega) (by omega) (by omega) r s hr hs (by omega)]
  rw [pay_apply _ _ _ r s, part_eq m c _ 2 I J _ (by omega) (by omega) (by omega) r s hr hs (by omega)]
  rw [pay_apply _ _ _ r s, part_eq m c _ 1 I J _ (by omega) (by omega) (by omega) r s hr hs (by omega)]
  rw [pay_apply _ _ _ r s, part_eq m c _ 0 I J _ (by omega) (by omega) (by omega) r s hr hs (by omega)]
  rw [iblk_x m c _ I J _ (by omega) (by omega) r s hr hs]
  simp only [add_assoc]

/-- The array after the run is the reference's. -/
theorem result (c : Dev nD) : G3 m c = Cert.FfnDownRefIdeal.Down.whole (Aa m c) (Wa m c) (Xa m c) := by
  funext y
  obtain ⟨i, j, rfl⟩ : ∃ (i : Fin 8192) (j : Fin 4096), y = ix2 i j := ⟨y 0, y 1, eq_ix2 y⟩
  have hi := i.isLt
  have hj := j.isLt
  have hq : run3Of (ix2 i j) = 4 * (i.val / 1024) + j.val / 1024 := by
    show 4 * (i.val / 1024 - 0) + 1 * (j.val / 1024 - 0) = _; omega
  have hl : loc3Of (ix2 i j) = ix2 ⟨i.val % 1024, Nat.mod_lt _ (by decide)⟩ ⟨j.val % 1024, Nat.mod_lt _ (by decide)⟩ := by
    funext a
    match a with
    | 0 => rfl
    | 1 => rfl
  have hN : 4 * run3Of (ix2 i j) + 3 < cfg0.N := by rw [hq, show cfg0.N = 128 from N_0]; omega
  unfold G3
  rw [dif_pos hN, hl, run_apply m c (run3Of (ix2 i j)) (i.val / 1024) (j.val / 1024) hN (by rw [hq]; omega) (by rw [hq]; omega) _ _ (by show 1024 * (i.val / 1024) + i.val % 1024 < _; omega) (by show 1024 * (j.val / 1024) + j.val % 1024 < _; omega)]
  congr 2
  · exact Fin.ext (by show 1024 * (i.val / 1024) + i.val % 1024 = i.val; omega)
  · exact Fin.ext (by show 1024 * (j.val / 1024) + j.val % 1024 = j.val; omega)

end Cert.FfnDownIdeal.Down

end
-- ==== Proof.FfnDownClaims.lean ====
/- The second product's claims: the reference's frame, and the equation of results over the extended reals. -/
module

public import proofs.«01_k».proof.Defs
public import proofs.«01_k».proof.Proof.FfnDownValue
public import proofs.«01_k».proof.Proof.Gen.FfnDown.Frame

@[expose] public section

set_option maxRecDepth 16384

noncomputable section

namespace Cert.Down

open Idealize.ShloMosaic Idealize.ShloMosaic.TcCoe Idealize.SL.Sem

theorem frame : Cert.quiescent_FfnDown (hFfnDown := Cert.FfnDown.Gen.facts) := fun m ρ _ => Cert.FfnDown.Gen.frame m ρ

theorem frame_ideal : Cert.quiescent_FfnDownIdeal (hFfnDownIdeal := Cert.FfnDownIdeal.Gen.facts) := fun m ρ _ => Cert.FfnDownIdeal.Gen.frame m ρ

theorem frame_refIdeal : Cert.quiescent_FfnDownRefIdeal (hFfnDownRefIdeal := Cert.FfnDownRefIdeal.Gen.facts) := fun m ρ _ =>
  (θ_run Cert.FfnDownRefIdeal.defs _ _).mono (fun _ h => ⟨fun c => (h c).2,
    funext fun g => ((by decide : ∀ _ : SemLoc Cert.FfnDownRefIdeal.sig, False) g.2).elim⟩) (Cert.FfnDownRefIdeal.Value.run m ρ)

theorem whole_congr {a a' : FVec Ideal Cert.FfnDownRefIdeal.S8192x11008 .f32} {w w' : FVec Ideal Cert.FfnDownRefIdeal.S11008x4096 .f32}
    {x x' : FVec Ideal Cert.FfnDownRefIdeal.S8192x4096 .f32} (ha : a = a') (hw : w = w') (hx : x = x') :
    Cert.FfnDownRefIdeal.Down.whole a w x = Cert.FfnDownRefIdeal.Down.whole a' w' x' := by
  subst ha hw hx; rfl

theorem algebraic : Cert.algebraic_FfnDownIdeal_FfnDownRefIdeal (hFfnDownIdeal := Cert.FfnDownIdeal.Gen.facts) (hFfnDownRefIdeal := Cert.FfnDownRefIdeal.Gen.facts) := fun m ρ m' ρ' _ hag =>
  ⟨fun c => Cert.FfnDownRefIdeal.Down.whole (Cert.FfnDownIdeal.Down.Aa m c) (Cert.FfnDownIdeal.Down.Wa m c) (Cert.FfnDownIdeal.Down.Xa m c),
    (θ_run Cert.FfnDownIdeal.defs _ _).mono (fun _ h c => ⟨(h c).1.trans (Cert.FfnDownIdeal.Down.result m c), (h c).2⟩) (Cert.FfnDownIdeal.Value.run m ρ),
    (θ_run Cert.FfnDownRefIdeal.defs _ _).mono (fun _ h c => ⟨(h c).1.trans (by
      obtain ⟨h0, h1, h2⟩ := hag c
      exact whole_congr h0 h1 h2), (h c).2⟩) (Cert.FfnDownRefIdeal.Value.run m' ρ')⟩

end Cert.Down

end
-- ==== Proof.InProjPays.lean ====
/- The payloads of the input projection's stores, read at an index: a half's product, a head normed, a head rotated by position. -/
module

public import proofs.«01_k».proof.Proof.Gen.InProjIdeal.Frame
public import Idealize.ShloMosaic.Lib.Pipeline.Value
public import Idealize.ShloMosaic.Lib.Pointwise

@[expose] public section

set_option maxRecDepth 16384

noncomputable section

namespace Cert.InProjIdeal.In

open Cert.InProjIdeal Cert.InProjIdeal.Gen
open Idealize.ShloMosaic Idealize.ShloMosaic.TcCoe Idealize.SL.Sem Idealize.ShloMosaic.Pipeline

/-- A head's element, divided by the root of the head's mean square, times its gain. -/
def nrm (y : Fin 128 → EReal) (g : EReal) (j : Fin 128) : EReal :=
  y j * Ideal.rsqrt (Ideal.div (∑ k : Fin 128, y k * y k) (Ideal.ofBits .f32 0x43000000#32) + Ideal.ofBits .f32 0x358637BD#32) * g

/-- A head of a product, normed. -/
def nrmAt (o : ℕ) (ho : o + 128 ≤ 512) (acc : FVec Ideal S1024x512 .f32) (g : FVec Ideal S1x128 .f32) : FVec Ideal S1024x128 .f32 := fun y =>
  nrm (fun k => acc (ix2 (y 0) ⟨o + k.val, by have := k.isLt; omega⟩)) (g (ix2 0 (y 1))) (y 1)

/-- A head, rotated by position. -/
def rotAt (y c s : FVec Ideal S1024x128 .f32) : FVec Ideal S1024x128 .f32 := fun x =>
  y x * c x + y (ix2 (x 0) ⟨((x 1).val + 128 - 64) % 128, Nat.mod_lt _ (by decide)⟩) * s x

theorem hz2 : (![0, 0] : Fin 2 → Nat) = fun _ => 0 := funext fun a => by fin_cases a <;> rfl

/-- A product of rows with a half's weights. -/
def half (h : FVec Ideal S1024x4096 .bf16) (w : FVec Ideal S512x4096 .bf16) : FVec Ideal S1024x512 .f32 := fun y =>
  (∑ k : Fin 4096, h (ix2 (y 0) k) * w (ix2 (y 1) k) : EReal)

theorem pay1_eq (h : FVec Ideal S1024x4096 .bf16) (w : FVec Ideal S512x4096 .bf16) : k0_pay1 (F := Ideal) h w = half h w := by
  funext x
  rw [show x = ix2 (x 0) (x 1) from eq_ix2 x]
  unfold k0_pay1 half
  pointwise

theorem pay26_eq (h : FVec Ideal S1024x4096 .bf16) (w : FVec Ideal S512x4096 .bf16) : k0_pay26 (F := Ideal) h w = half h w := by
  funext x
  rw [show x = ix2 (x 0) (x 1) from eq_ix2 x]
  unfold k0_pay26 half
  pointwise

theorem pay8_eq (h : FVec Ideal S1024x4096 .bf16) (w : FVec Ideal S512x4096 .bf16) : k0_pay8 (F := Ideal) h w = half h w := by
  funext x
  rw [show x = ix2 (x 0) (x 1) from eq_ix2 x]
  unfold k0_pay8 half
  pointwise

theorem pay11_eq (h : FVec Ideal S1024x4096 .bf16) (w : FVec Ideal S512x4096 .bf16) : k0_pay11 (F := Ideal) h w = half h w := by
  funext x
  rw [show x = ix2 (x 0) (x 1) from eq_ix2 x]
  unfold k0_pay11 half
  pointwise

theorem pay17_eq (h : FVec Ideal S1024x4096 .bf16) (w : FVec Ideal S512x4096 .bf16) : k0_pay17 (F := Ideal) h w = half h w := by
  funext x
  rw [show x = ix2 (x 0) (x 1) from eq_ix2 x]
  unfold k0_pay17 half
  pointwise

theorem pay20_eq (h : FVec Ideal S1024x4096 .bf16) (w : FVec Ideal S512x4096 .bf16) : k0_pay20 (F := Ideal) h w = half h w := by
  funext x
  rw [show x = ix2 (x 0) (x 1) from eq_ix2 x]
  unfold k0_pay20 half
  pointwise

theorem pay2_eq (a : FVec Ideal S1024x512 .f32) (g : FVec Ideal S1x128 .f32) : k0_pay2 (F := Ideal) a g = nrmAt 256 (by decide) a g := by
  funext x
  rw [show x = ix2 (x 0) (x 1) from eq_ix2 x]
  unfold k0_pay2 nrmAt nrm
  pointwise

theorem pay3_eq (a : FVec Ideal S1024x512 .f32) (g : FVec Ideal S1x128 .f32) : k0_pay3 (F := Ideal) a g = nrmAt 384 (by decide) a g := by
  funext x
  rw [show x = ix2 (x 0) (x 1) from eq_ix2 x]
  unfold k0_pay3 nrmAt nrm
  pointwise

theorem pay27_eq (a : FVec Ideal S1024x512 .f32) (g : FVec Ideal S1x128 .f32) : k0_pay27 (F := Ideal) a g = nrmAt 256 (by decide) a g := by
  funext x
  rw [show x = ix2 (x 0) (x 1) from eq_ix2 x]
  unfold k0_pay27 nrmAt nrm
  pointwise

theorem pay28_eq (a : FVec Ideal S1024x512 .f32) (g : FVec Ideal S1x128 .f32) : k0_pay28 (F := Ideal) a g = nrmAt 384 (by decide) a g := by
  funext x
  rw [show x = ix2 (x 0) (x 1) from eq_ix2 x]
  unfold k0_pay28 nrmAt nrm
  pointwise

theorem pay5_eq (a : FVec Ideal S1024x512 .f32) (g : FVec Ideal S1x128 .f32) : k0_pay5 (F := Ideal) a g = nrmAt 256 (by decide) a g := by
  funext x
  rw [show x = ix2 (x 0) (x 1) from eq_ix2 x]
  unfold k0_pay5 nrmAt nrm
  pointwise

theorem pay6_eq (a : FVec Ideal S1024x512 .f32) (g : FVec Ideal S1x128 .f32) : k0_pay6 (F := Ideal) a g = nrmAt 384 (by decide) a g := by
  funext x
  rw [show x = ix2 (x 0) (x 1) from eq_ix2 x]
  unfold k0_pay6 nrmAt nrm
  pointwise

theorem pay30_eq (a : FVec Ideal S1024x512 .f32) (g : FVec Ideal S1x128 .f32) : k0_pay30 (F := Ideal) a g = nrmAt 256 (by decide) a g := by
  funext x
  rw [show x = ix2 (x 0) (x 1) from eq_ix2 x]
  unfold k0_pay30 nrmAt nrm
  pointwise

theorem pay31_eq (a : FVec Ideal S1024x512 .f32) (g : FVec Ideal S1x128 .f32) : k0_pay31 (F := Ideal) a g = nrmAt 384 (by decide) a g := by
  funext x
  rw [show x = ix2 (x 0) (x 1) from eq_ix2 x]
  unfold k0_pay31 nrmAt nrm
  pointwise

theorem pay9_eq (h : FVec Ideal S1024x4096 .bf16) (w : FVec Ideal S512x4096 .bf16) (g : FVec Ideal S1x128 .f32) : k0_pay9 (F := Ideal) h w g = nrmAt 0 (by decide) (half h w) g := by
  rw [← pay8_eq]
  funext x
  rw [show x = ix2 (x 0) (x 1) from eq_ix2 x]
  unfold k0_pay9 nrmAt nrm
  pointwise

theorem pay10_eq (h : FVec Ideal S1024x4096 .bf16) (w : FVec Ideal S512x4096 .bf16) (g : FVec Ideal S1x128 .f32) : k0_pay10 (F := Ideal) h w g = nrmAt 128 (by decide) (half h w) g := by
  rw [← pay8_eq]
  funext x
  rw [show x = ix2 (x 0) (x 1) from eq_ix2 x]
  unfold k0_pay10 nrmAt nrm
  pointwise

theorem pay18_eq (h : FVec Ideal S1024x4096 .bf16) (w : FVec Ideal S512x4096 .bf16) (g : FVec Ideal S1x128 .f32) : k0_pay18 (F := Ideal) h w g = nrmAt 0 (by decide) (half h w) g := by
  rw [← pay17_eq]
  funext x
  rw [show x = ix2 (x 0) (x 1) from eq_ix2 x]
  unfold k0_pay18 nrmAt nrm
  pointwise

theorem pay19_eq (h : FVec Ideal S1024x4096 .bf16) (w : FVec Ideal S512x4096 .bf16) (g : FVec Ideal S1x128 .f32) : k0_pay19 (F := Ideal) h w g = nrmAt 128 (by decide) (half h w) g := by
  rw [← pay17_eq]
  funext x
  rw [show x = ix2 (x 0) (x 1) from eq_ix2 x]
  unfold k0_pay19 nrmAt nrm
  pointwise

theorem pay12_eq (h : FVec Ideal S1024x4096 .bf16) (w : FVec Ideal S512x4096 .bf16) (g : FVec Ideal S1x128 .f32) : k0_pay12 (F := Ideal) h w g = nrmAt 0 (by decide) (half h w) g := by
  rw [← pay11_eq]
  funext x
  rw [show x = ix2 (x 0) (x 1) from eq_ix2 x]
  unfold k0_pay12 nrmAt nrm
  pointwise

theorem pay13_eq (h : FVec Ideal S1024x4096 .bf16) (w : FVec Ideal S512x4096 .bf16) (g : FVec Ideal S1x128 .f32) : k0_pay13 (F := Ideal) h w g = nrmAt 128 (by decide) (half h w) g := by
  rw [← pay11_eq]
  funext x
  rw [show x = ix2 (x 0) (x 1) from eq_ix2 x]
  unfold k0_pay13 nrmAt nrm
  pointwise

theorem pay21_eq (h : FVec Ideal S1024x4096 .bf16) (w : FVec Ideal S512x4096 .bf16) (g : FVec Ideal S1x128 .f32) : k0_pay21 (F := Ideal) h w g = nrmAt 0 (by decide) (half h w) g := by
  rw [← pay20_eq]
  funext x
  rw [show x = ix2 (x 0) (x 1) from eq_ix2 x]
  unfold k0_pay21 nrmAt nrm
  pointwise

theorem pay22_eq (h : FVec Ideal S1024x4096 .bf16) (w : FVec Ideal S512x4096 .bf16) (g : FVec Ideal S1x128 .f32) : k0_pay22 (F := Ideal) h w g = nrmAt 128 (by decide) (half h w) g := by
  rw [← pay20_eq]
  funext x
  rw [show x = ix2 (x 0) (x 1) from eq_ix2 x]
  unfold k0_pay22 nrmAt nrm
  pointwise

theorem pay7_eq (y c s : FVec Ideal S1024x128 .f32) : k0_pay7 (F := Ideal) y c s = rotAt y c s := by
  funext x
  rw [show x = ix2 (x 0) (x 1) from eq_ix2 x]
  unfold k0_pay7 rotAt
  pointwise

theorem pay14_eq (y c s : FVec Ideal S1024x128 .f32) : k0_pay14 (F := Ideal) y c s = rotAt y c s := by
  funext x
  rw [show x = ix2 (x 0) (x 1) from eq_ix2 x]
  unfold k0_pay14 rotAt
  pointwise

theorem pay15_eq (y c s : FVec Ideal S1024x128 .f32) : k0_pay15 (F := Ideal) y c s = rotAt y c s := by
  funext x
  rw [show x = ix2 (x 0) (x 1) from eq_ix2 x]
  unfold k0_pay15 rotAt
  pointwise

theorem pay16_eq (y c s : FVec Ideal S1024x128 .f32) : k0_pay16 (F := Ideal) y c s = rotAt y c s := by
  funext x
  rw [show x = ix2 (x 0) (x 1) from eq_ix2 x]
  unfold k0_pay16 rotAt
  pointwise

theorem pay23_eq (y c s : FVec Ideal S1024x128 .f32) : k0_pay23 (F := Ideal) y c s = rotAt y c s := by
  funext x
  rw [show x = ix2 (x 0) (x 1) from eq_ix2 x]
  unfold k0_pay23 rotAt
  pointwise

theorem pay24_eq (y c s : FVec Ideal S1024x128 .f32) : k0_pay24 (F := Ideal) y c s = rotAt y c s := by
  funext x
  rw [show x = ix2 (x 0) (x 1) from eq_ix2 x]
  unfold k0_pay24 rotAt
  pointwise

theorem pay25_eq (y c s : FVec Ideal S1024x128 .f32) : k0_pay25 (F := Ideal) y c s = rotAt y c s := by
  funext x
  rw [show x = ix2 (x 0) (x 1) from eq_ix2 x]
  unfold k0_pay25 rotAt
  pointwise

theorem pay32_eq (y c s : FVec Ideal S1024x128 .f32) : k0_pay32 (F := Ideal) y c s = rotAt y c s := by
  funext x
  rw [show x = ix2 (x 0) (x 1) from eq_ix2 x]
  unfold k0_pay32 rotAt
  pointwise

theorem pay4_eq (y : FVec Ideal S1024x128 .f32) : k0_pay4 (F := Ideal) y = y := by
  funext x
  rw [show x = ix2 (x 0) (x 1) from eq_ix2 x]
  unfold k0_pay4
  pointwise

theorem pay29_eq (y : FVec Ideal S1024x128 .f32) : k0_pay29 (F := Ideal) y = y := by
  funext x
  rw [show x = ix2 (x 0) (x 1) from eq_ix2 x]
  unfold k0_pay29
  pointwise

end Cert.InProjIdeal.In

end
-- ==== Proof.InProjCases.lean ====
/- What the input projection's call leaves at a grid point, case by case: each half of the block is the plain product, the product
   normed head by head, or the normed product rotated by position. -/
module

public import proofs.«01_k».proof.Proof.InProjPays
public import Idealize.ShloMosaic.Lib.Pipeline.ReadBack

@[expose] public section

set_option maxRecDepth 16384

noncomputable section

namespace Cert.InProjIdeal.In

open Cert.InProjIdeal Cert.InProjIdeal.Gen
open Idealize.ShloMosaic Idealize.ShloMosaic.TcCoe Idealize.SL.Sem Idealize.ShloMosaic.Pipeline

/-- The rows' products with the weights' rows. -/
def plainB (X W : FVec Ideal S1024x4096 .bf16) : FVec Ideal S1024x1024 .bf16 := fun y =>
  (∑ k : Fin 4096, X (ix2 (y 0) k) * W (ix2 (y 1) k) : EReal)

/-- The products, each head normed. -/
def normB (X W : FVec Ideal S1024x4096 .bf16) (G : FVec Ideal S1x1024 .f32) : FVec Ideal S1024x1024 .bf16 := fun y =>
  nrm (fun k => plainB X W (ix2 (y 0) ⟨128 * ((y 1).val / 128) + k.val, by have h : (y 1).val < 1024 := (y 1).isLt; have := k.isLt; omega⟩)) (G (ix2 0 (y 1)))
    ⟨(y 1).val % 128, Nat.mod_lt _ (by decide)⟩

/-- A block of heads, each rotated by position. -/
def rotB (N : FVec Ideal S1024x1024 .bf16) (C S : FVec Ideal S1024x128 .f32) : FVec Ideal S1024x1024 .bf16 := fun y =>
  (N y * C (ix2 (y 0) ⟨(y 1).val % 128, Nat.mod_lt _ (by decide)⟩)
    + N (ix2 (y 0) ⟨128 * ((y 1).val / 128) + ((y 1).val % 128 + 128 - 64) % 128, by have h : (y 1).val < 1024 := (y 1).isLt; omega⟩)
      * S (ix2 (y 0) ⟨(y 1).val % 128, Nat.mod_lt _ (by decide)⟩) : EReal)

/-- A block whose first half is one block's and whose second half is another's. -/
def mixB (P Q : FVec Ideal S1024x1024 .bf16) : FVec Ideal S1024x1024 .bf16 := fun y => if (y 1).val < 512 then P y else Q y

/-- A store's columns in the block. -/
theorem emb_cols (o w : ℕ) (h : ∀ a, (![0, o] : Fin 2 → ℕ) a + (⟨2, ![1024, w]⟩ : Shape).size a ≤ S1024x1024.size a) (x : (⟨2, ![1024, w]⟩ : Shape).Idx)
    (hx : o + (x 1).val < 1024) :
    (Rect.unit (s := S1024x1024) ![0, o] (⟨2, ![1024, w]⟩ : Shape).size h).emb x = ix2 (x 0) ⟨o + (x 1).val, hx⟩ := by
  funext a
  apply Fin.ext
  match a with
  | 0 => show 0 + 1 * (x 0).val = (x 0).val; omega
  | 1 => show o + 1 * (x 1).val = o + (x 1).val; omega

/-- A half's product is the block's. -/
theorem half_eq (X W : FVec Ideal S1024x4096 .bf16) (q : ℕ)
    (h0 : ∀ a, (![0, 0] : Fin 2 → ℕ) a + S1024x4096.size a ≤ S1024x4096.size a)
    (hq : ∀ a, (![q, 0] : Fin 2 → ℕ) a + S512x4096.size a ≤ S1024x4096.size a) (r : Fin 1024) (s : Fin 512) (hs : q + s.val < 1024) :
    half (fun j => X ((Rect.unit (s := S1024x4096) ![0, 0] S1024x4096.size h0).emb j)) (fun j => W ((Rect.unit (s := S1024x4096) ![q, 0] S512x4096.size hq).emb j)) (ix2 r s)
      = plainB X W (ix2 r ⟨q + s.val, hs⟩) := by
  unfold half plainB
  refine Finset.sum_congr rfl fun k _ => ?_
  refine congrArg₂ (fun p q : EReal => p * q) (congrArg X ?_) (congrArg W ?_)
  · funext a
    apply Fin.ext
    match a with
    | 0 => show 0 + 1 * r.val = r.val; omega
    | 1 => show 0 + 1 * k.val = k.val; omega
  · funext a
    apply Fin.ext
    match a with
    | 0 => show q + 1 * s.val = q + s.val; omega
    | 1 => show 0 + 1 * k.val = k.val; omega

theorem piece_plain (X W : FVec Ideal S1024x4096 .bf16) (q : ℕ)
    (h0 : ∀ a, (![0, 0] : Fin 2 → ℕ) a + S1024x4096.size a ≤ S1024x4096.size a)
    (hq : ∀ a, (![q, 0] : Fin 2 → ℕ) a + S512x4096.size a ≤ S1024x4096.size a)
    (h : ∀ a, (![0, q] : Fin 2 → ℕ) a + S1024x512.size a ≤ S1024x1024.size a) (hq' : q + 512 ≤ 1024) (x : S1024x512.Idx) :
    half (fun j => X ((Rect.unit (s := S1024x4096) ![0, 0] S1024x4096.size h0).emb j)) (fun j => W ((Rect.unit (s := S1024x4096) ![q, 0] S512x4096.size hq).emb j)) x
      = plainB X W ((Rect.unit (s := S1024x1024) ![0, q] S1024x512.size h).emb x) := by
  have hx : (x 1).val < 512 := (x 1).isLt
  rw [emb_cols q 512 h x (by omega)]
  exact (congrArg _ (eq_ix2 x)).trans (half_eq X W q h0 hq (x 0) (x 1) _)

theorem piece_norm (X W : FVec Ideal S1024x4096 .bf16) (G : FVec Ideal S1x1024 .f32) (q o' o : ℕ)
    (h0 : ∀ a, (![0, 0] : Fin 2 → ℕ) a + S1024x4096.size a ≤ S1024x4096.size a)
    (hq : ∀ a, (![q, 0] : Fin 2 → ℕ) a + S512x4096.size a ≤ S1024x4096.size a)
    (hg : ∀ a, (![0, o] : Fin 2 → ℕ) a + S1x128.size a ≤ S1x1024.size a)
    (h : ∀ a, (![0, o] : Fin 2 → ℕ) a + S1024x128.size a ≤ S1024x1024.size a) (ho' : o' + 128 ≤ 512) (ho : o = q + o') (hq' : q + 512 ≤ 1024) (hd : o % 128 = 0) (x : S1024x128.Idx) :
    nrmAt o' ho' (half (fun j => X ((Rect.unit (s := S1024x4096) ![0, 0] S1024x4096.size h0).emb j)) (fun j => W ((Rect.unit (s := S1024x4096) ![q, 0] S512x4096.size hq).emb j)))
        (fun j => G ((Rect.unit (s := S1x1024) ![0, o] S1x128.size hg).emb j)) x
      = normB X W G ((Rect.unit (s := S1024x1024) ![0, o] S1024x128.size h).emb x) := by
  have hx : (x 1).val < 128 := (x 1).isLt
  have hy : o + (x 1).val < 1024 := by omega
  rw [emb_cols o 128 h x hy]
  unfold nrmAt normB
  have e1 : (fun k : Fin 128 => half (fun j => X ((Rect.unit (s := S1024x4096) ![0, 0] S1024x4096.size h0).emb j)) (fun j => W ((Rect.unit (s := S1024x4096) ![q, 0] S512x4096.size hq).emb j))
        (ix2 (x 0) ⟨o' + k.val, by have := k.isLt; omega⟩))
      = fun k : Fin 128 => plainB X W (ix2 (x 0) ⟨128 * ((o + (x 1).val) / 128) + k.val, by have := k.isLt; omega⟩) := by
    funext k
    have hk := k.isLt
    refine (half_eq X W q h0 hq (x 0) ⟨o' + k.val, by omega⟩ (by show q + (o' + k.val) < 1024; omega)).trans ?_
    refine congrArg (fun j => plainB X W (ix2 (x 0) j)) (Fin.ext ?_)
    show q + (o' + k.val) = 128 * ((o + (x 1).val) / 128) + k.val
    omega
  have e2 : (fun j => G ((Rect.unit (s := S1x1024) ![0, o] S1x128.size hg).emb j)) (ix2 0 (x 1)) = G (ix2 0 ⟨o + (x 1).val, hy⟩) := by
    refine congrArg G ?_
    funext a
    apply Fin.ext
    match a with
    | 0 => rfl
    | 1 => show o + 1 * (x 1).val = o + (x 1).val; omega
  have e3 : x 1 = (⟨(o + (x 1).val) % 128, Nat.mod_lt _ (by decide)⟩ : Fin 128) := Fin.ext (by show (x 1).val = (o + (x 1).val) % 128; omega)
  exact congr (congr (congrArg nrm e1) e2) e3

theorem piece_rot (N : FVec Ideal S1024x1024 .bf16) (C S : FVec Ideal S1024x128 .f32) (o : ℕ) (Y : FVec Ideal S1024x128 .f32)
    (h : ∀ a, (![0, o] : Fin 2 → ℕ) a + S1024x128.size a ≤ S1024x1024.size a)
    (hc : ∀ a, (![0, 0] : Fin 2 → ℕ) a + S1024x128.size a ≤ S1024x128.size a) (ho : o + 128 ≤ 1024) (hd : o % 128 = 0)
    (hY : ∀ x : S1024x128.Idx, Y x = N ((Rect.unit (s := S1024x1024) ![0, o] S1024x128.size h).emb x)) (x : S1024x128.Idx) :
    rotAt Y (fun j => C ((Rect.unit (s := S1024x128) ![0, 0] S1024x128.size hc).emb j)) (fun j => S ((Rect.unit (s := S1024x128) ![0, 0] S1024x128.size hc).emb j)) x
      = rotB N C S ((Rect.unit (s := S1024x1024) ![0, o] S1024x128.size h).emb x) := by
  have hx : (x 1).val < 128 := (x 1).isLt
  have e0 : (Rect.unit (s := S1024x128) ![0, 0] S1024x128.size hc).emb x = ix2 (x 0) ⟨(o + (x 1).val) % 128, Nat.mod_lt _ (by decide)⟩ := by
    funext a
    apply Fin.ext
    match a with
    | 0 => show 0 + 1 * (x 0).val = (x 0).val; omega
    | 1 => show 0 + 1 * (x 1).val = (o + (x 1).val) % 128; omega
  unfold rotAt
  rw [hY x, hY]
  dsimp only
  rw [e0, emb_cols o 128 h x (by omega), emb_cols o 128 h _ (by show o + ((x 1).val + 128 - 64) % 128 < 1024; omega)]
  unfold rotB
  refine congrArg₂ (fun p q : EReal => p + q) rfl (congrArg₂ (fun p q : EReal => p * q) (congrArg (fun j => N (ix2 (x 0) j)) (Fin.ext ?_)) rfl)
  show o + ((x 1).val + 128 - 64) % 128 = 128 * ((o + (x 1).val) / 128) + ((o + (x 1).val) % 128 + 128 - 64) % 128
  omega

/-- A store in the first half of a mixed block. -/
theorem mix_low (P Q : FVec Ideal S1024x1024 .bf16) (o w : ℕ) (h : ∀ a, (![0, o] : Fin 2 → ℕ) a + (⟨2, ![1024, w]⟩ : Shape).size a ≤ S1024x1024.size a)
    (ho : o + w ≤ 512) (x : (⟨2, ![1024, w]⟩ : Shape).Idx) :
    P ((Rect.unit (s := S1024x1024) ![0, o] (⟨2, ![1024, w]⟩ : Shape).size h).emb x) = mixB P Q ((Rect.unit (s := S1024x1024) ![0, o] (⟨2, ![1024, w]⟩ : Shape).size h).emb x) := by
  have hx : (x 1).val < w := (x 1).isLt
  rw [emb_cols o w h x (by omega)]
  unfold mixB
  exact (if_pos (by show o + (x 1).val < 512; omega)).symm

/-- A store in the second half of a mixed block. -/
theorem mix_high (P Q : FVec Ideal S1024x1024 .bf16) (o w : ℕ) (h : ∀ a, (![0, o] : Fin 2 → ℕ) a + (⟨2, ![1024, w]⟩ : Shape).size a ≤ S1024x1024.size a)
    (ho : 512 ≤ o) (ho' : o + w ≤ 1024) (x : (⟨2, ![1024, w]⟩ : Shape).Idx) :
    Q ((Rect.unit (s := S1024x1024) ![0, o] (⟨2, ![1024, w]⟩ : Shape).size h).emb x) = mixB P Q ((Rect.unit (s := S1024x1024) ![0, o] (⟨2, ![1024, w]⟩ : Shape).size h).emb x) := by
  have hx : (x 1).val < w := (x 1).isLt
  rw [emb_cols o w h x (by omega)]
  unfold mixB
  exact (if_neg (by show ¬ o + (x 1).val < 512; omega)).symm

/-- The plain product. -/
theorem out_B_eq (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x512 .f32) (harg8 : arg8.IsWhole) (hc0 : cond0_0 i) (hc1 : ¬cond0_1 i) (hc2 : ¬cond0_2 i) (hc3 : ¬cond0_3 i) (hc4 : cond0_4 i) (hc5 : ¬cond0_5 i) (hc6 : ¬cond0_6 i) (hc7 : ¬cond0_7 i)
    (x0 : Vec Ideal S1024x4096 .bf16) (x1 : Vec Ideal S1024x4096 .bf16) (x2 : Vec Ideal S1x1024 .f32) (x3 : Vec Ideal S1024x128 .f32) (x4 : Vec Ideal S1024x128 .f32) :
    out0_B_5 c i arg2 harg2 arg3 harg3 arg4 harg4 arg5 harg5 arg6 harg6 arg7 harg7 arg8 harg8 hc0 hc1 hc2 hc3 hc4 hc5 hc6 hc7 x0 x1 x2 x3 x4 = plainB x0 x1 := by
  unfold out0_B_5
  rw [View.read_writes_junk_eq_canon]
  funext y
  refine View.canon_apply_of_pieces (plainB x0 x1) _ ?_ y (cover0_B_5 c i arg2 harg2 arg3 harg3 arg4 harg4 arg5 harg5 arg6 harg6 arg7 harg7 arg8 harg8 hc0 hc1 hc2 hc3 hc4 hc5 hc6 hc7 x0 x1 x2 x3 x4 y)
  unfold kernelRun0_B
  dsimp only
  sl_unfold_words
  simp only [View.readAt_eq_ld, harg2.read_unread, harg3.read_unread, harg4.read_unread]
  simp only [List.forall_mem_cons, List.not_mem_nil, false_imp_iff, implies_true, and_true]
  refine ⟨?_, ?_⟩
  · exact fun x => (congrFun (pay1_eq _ _) x).trans (piece_plain x0 x1 512 _ _ _ (by decide) x)
  · exact fun x => (congrFun (pay26_eq _ _) x).trans (piece_plain x0 x1 0 _ _ _ (by decide) x)

/-- Plain, then normed. -/
theorem out_C_eq (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x512 .f32) (harg8 : arg8.IsWhole) (hc0 : cond0_0 i) (hc1 : ¬cond0_1 i) (hc2 : ¬cond0_2 i) (hc3 : ¬cond0_3 i) (hc4 : ¬cond0_4 i) (hc5 : cond0_5 i) (hc6 : ¬cond0_6 i) (hc7 : ¬cond0_7 i)
    (x0 : Vec Ideal S1024x4096 .bf16) (x1 : Vec Ideal S1024x4096 .bf16) (x2 : Vec Ideal S1x1024 .f32) (x3 : Vec Ideal S1024x128 .f32) (x4 : Vec Ideal S1024x128 .f32) :
    out0_C_5 c i arg2 harg2 arg3 harg3 arg4 harg4 arg5 harg5 arg6 harg6 arg7 harg7 arg8 harg8 hc0 hc1 hc2 hc3 hc4 hc5 hc6 hc7 x0 x1 x2 x3 x4 = mixB (plainB x0 x1) (normB x0 x1 x2) := by
  unfold out0_C_5
  rw [View.read_writes_junk_eq_canon]
  funext y
  refine View.canon_apply_of_pieces (mixB (plainB x0 x1) (normB x0 x1 x2)) _ ?_ y (cover0_C_5 c i arg2 harg2 arg3 harg3 arg4 harg4 arg5 harg5 arg6 harg6 arg7 harg7 arg8 harg8 hc0 hc1 hc2 hc3 hc4 hc5 hc6 hc7 x0 x1 x2 x3 x4 y)
  unfold kernelRun0_C
  dsimp only
  sl_unfold_words
  simp only [View.readAt_eq_ld, harg2.read_unread, harg3.read_unread, harg4.read_unread]
  simp only [List.forall_mem_cons, List.not_mem_nil, false_imp_iff, implies_true, and_true]
  refine ⟨?_, ?_, ?_, ?_, ?_⟩
  · exact fun x => ((congrFun ((congrArg (fun a => k0_pay3 (F := Ideal) a _) (pay17_eq _ _)).trans (pay3_eq _ _)) x).trans (piece_norm x0 x1 x2 512 384 896 _ _ _ _ (by decide) (by decide) (by decide) (by decide) x)).trans (mix_high _ _ 896 128 _ (by decide) (by decide) x)
  · exact fun x => ((congrFun ((congrArg (fun a => k0_pay2 (F := Ideal) a _) (pay17_eq _ _)).trans (pay2_eq _ _)) x).trans (piece_norm x0 x1 x2 512 256 768 _ _ _ _ (by decide) (by decide) (by decide) (by decide) x)).trans (mix_high _ _ 768 128 _ (by decide) (by decide) x)
  · exact fun x => ((congrFun (pay19_eq _ _ _) x).trans (piece_norm x0 x1 x2 512 128 640 _ _ _ _ (by decide) (by decide) (by decide) (by decide) x)).trans (mix_high _ _ 640 128 _ (by decide) (by decide) x)
  · exact fun x => ((congrFun (pay18_eq _ _ _) x).trans (piece_norm x0 x1 x2 512 0 512 _ _ _ _ (by decide) (by decide) (by decide) (by decide) x)).trans (mix_high _ _ 512 128 _ (by decide) (by decide) x)
  · exact fun x => ((congrFun (pay26_eq _ _) x).trans (piece_plain x0 x1 0 _ _ _ (by decide) x)).trans (mix_low _ _ 0 512 _ (by decide) x)

/-- Normed. -/
theorem out_D_eq (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x512 .f32) (harg8 : arg8.IsWhole) (hc0 : ¬cond0_0 i) (hc1 : cond0_1 i) (hc2 : ¬cond0_2 i) (hc3 : ¬cond0_3 i) (hc4 : ¬cond0_4 i) (hc5 : cond0_5 i) (hc6 : ¬cond0_6 i) (hc7 : ¬cond0_7 i)
    (x0 : Vec Ideal S1024x4096 .bf16) (x1 : Vec Ideal S1024x4096 .bf16) (x2 : Vec Ideal S1x1024 .f32) (x3 : Vec Ideal S1024x128 .f32) (x4 : Vec Ideal S1024x128 .f32) :
    out0_D_5 c i arg2 harg2 arg3 harg3 arg4 harg4 arg5 harg5 arg6 harg6 arg7 harg7 arg8 harg8 hc0 hc1 hc2 hc3 hc4 hc5 hc6 hc7 x0 x1 x2 x3 x4 = normB x0 x1 x2 := by
  unfold out0_D_5
  rw [View.read_writes_junk_eq_canon]
  funext y
  refine View.canon_apply_of_pieces (normB x0 x1 x2) _ ?_ y (cover0_D_5 c i arg2 harg2 arg3 harg3 arg4 harg4 arg5 harg5 arg6 harg6 arg7 harg7 arg8 harg8 hc0 hc1 hc2 hc3 hc4 hc5 hc6 hc7 x0 x1 x2 x3 x4 y)
  unfold kernelRun0_D
  dsimp only
  sl_unfold_words
  simp only [View.readAt_eq_ld, harg2.read_unread, harg3.read_unread, harg4.read_unread]
  simp only [List.forall_mem_cons, List.not_mem_nil, false_imp_iff, implies_true, and_true]
  refine ⟨?_, ?_, ?_, ?_, ?_, ?_, ?_, ?_⟩
  · exact fun x => (congrFun ((congrArg (fun a => k0_pay3 (F := Ideal) a _) (pay17_eq _ _)).trans (pay3_eq _ _)) x).trans (piece_norm x0 x1 x2 512 384 896 _ _ _ _ (by decide) (by decide) (by decide) (by decide) x)
  · exact fun x => (congrFun ((congrArg (fun a => k0_pay2 (F := Ideal) a _) (pay17_eq _ _)).trans (pay2_eq _ _)) x).trans (piece_norm x0 x1 x2 512 256 768 _ _ _ _ (by decide) (by decide) (by decide) (by decide) x)
  · exact fun x => (congrFun (pay19_eq _ _ _) x).trans (piece_norm x0 x1 x2 512 128 640 _ _ _ _ (by decide) (by decide) (by decide) (by decide) x)
  · exact fun x => (congrFun (pay18_eq _ _ _) x).trans (piece_norm x0 x1 x2 512 0 512 _ _ _ _ (by decide) (by decide) (by decide) (by decide) x)
  · exact fun x => (congrFun ((congrArg (fun a => k0_pay28 (F := Ideal) a _) (pay8_eq _ _)).trans (pay28_eq _ _)) x).trans (piece_norm x0 x1 x2 0 384 384 _ _ _ _ (by decide) (by decide) (by decide) (by decide) x)
  · exact fun x => (congrFun ((congrArg (fun a => k0_pay27 (F := Ideal) a _) (pay8_eq _ _)).trans (pay27_eq _ _)) x).trans (piece_norm x0 x1 x2 0 256 256 _ _ _ _ (by decide) (by decide) (by decide) (by decide) x)
  · exact fun x => (congrFun (pay10_eq _ _ _) x).trans (piece_norm x0 x1 x2 0 128 128 _ _ _ _ (by decide) (by decide) (by decide) (by decide) x)
  · exact fun x => (congrFun (pay9_eq _ _ _) x).trans (piece_norm x0 x1 x2 0 0 0 _ _ _ _ (by decide) (by decide) (by decide) (by decide) x)

/-- Normed, then plain. -/
theorem out_E_eq (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x512 .f32) (harg8 : arg8.IsWhole) (hc0 : ¬cond0_0 i) (hc1 : cond0_1 i) (hc2 : ¬cond0_2 i) (hc3 : ¬cond0_3 i) (hc4 : cond0_4 i) (hc5 : ¬cond0_5 i) (hc6 : ¬cond0_6 i) (hc7 : ¬cond0_7 i)
    (x0 : Vec Ideal S1024x4096 .bf16) (x1 : Vec Ideal S1024x4096 .bf16) (x2 : Vec Ideal S1x1024 .f32) (x3 : Vec Ideal S1024x128 .f32) (x4 : Vec Ideal S1024x128 .f32) :
    out0_E_5 c i arg2 harg2 arg3 harg3 arg4 harg4 arg5 harg5 arg6 harg6 arg7 harg7 arg8 harg8 hc0 hc1 hc2 hc3 hc4 hc5 hc6 hc7 x0 x1 x2 x3 x4 = mixB (normB x0 x1 x2) (plainB x0 x1) := by
  unfold out0_E_5
  rw [View.read_writes_junk_eq_canon]
  funext y
  refine View.canon_apply_of_pieces (mixB (normB x0 x1 x2) (plainB x0 x1)) _ ?_ y (cover0_E_5 c i arg2 harg2 arg3 harg3 arg4 harg4 arg5 harg5 arg6 harg6 arg7 harg7 arg8 harg8 hc0 hc1 hc2 hc3 hc4 hc5 hc6 hc7 x0 x1 x2 x3 x4 y)
  unfold kernelRun0_E
  dsimp only
  sl_unfold_words
  simp only [View.readAt_eq_ld, harg2.read_unread, harg3.read_unread, harg4.read_unread]
  simp only [List.forall_mem_cons, List.not_mem_nil, false_imp_iff, implies_true, and_true]
  refine ⟨?_, ?_, ?_, ?_, ?_⟩
  · exact fun x => ((congrFun (pay1_eq _ _) x).trans (piece_plain x0 x1 512 _ _ _ (by decide) x)).trans (mix_high _ _ 512 512 _ (by decide) (by decide) x)
  · exact fun x => ((congrFun ((congrArg (fun a => k0_pay28 (F := Ideal) a _) (pay8_eq _ _)).trans (pay28_eq _ _)) x).trans (piece_norm x0 x1 x2 0 384 384 _ _ _ _ (by decide) (by decide) (by decide) (by decide) x)).trans (mix_low _ _ 384 128 _ (by decide) x)
  · exact fun x => ((congrFun ((congrArg (fun a => k0_pay27 (F := Ideal) a _) (pay8_eq _ _)).trans (pay27_eq _ _)) x).trans (piece_norm x0 x1 x2 0 256 256 _ _ _ _ (by decide) (by decide) (by decide) (by decide) x)).trans (mix_low _ _ 256 128 _ (by decide) x)
  · exact fun x => ((congrFun (pay10_eq _ _ _) x).trans (piece_norm x0 x1 x2 0 128 128 _ _ _ _ (by decide) (by decide) (by decide) (by decide) x)).trans (mix_low _ _ 128 128 _ (by decide) x)
  · exact fun x => ((congrFun (pay9_eq _ _ _) x).trans (piece_norm x0 x1 x2 0 0 0 _ _ _ _ (by decide) (by decide) (by decide) (by decide) x)).trans (mix_low _ _ 0 128 _ (by decide) x)

/-- Normed and rotated, through the scratch. -/
theorem out_A_eq (c : Dev nD) (i : grid0.Coords) (arg2 : Memref sig .tc .vmem S1024x4096 .bf16) (harg2 : arg2.IsWhole) (arg3 : Memref sig .tc .vmem S1024x4096 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1024 .bf16) (harg7 : arg7.IsWhole) (arg8 : Memref sig .tc .vmem S1024x512 .f32) (harg8 : arg8.IsWhole) (hc0 : ¬cond0_0 i) (hc1 : ¬cond0_1 i) (hc2 : cond0_2 i) (hc3 : cond0_3 i) (hc4 : ¬cond0_4 i) (hc5 : ¬cond0_5 i) (hc6 : cond0_6 i) (hc7 : cond0_7 i)
    (x0 : Vec Ideal S1024x4096 .bf16) (x1 : Vec Ideal S1024x4096 .bf16) (x2 : Vec Ideal S1x1024 .f32) (x3 : Vec Ideal S1024x128 .f32) (x4 : Vec Ideal S1024x128 .f32) :
    out0_A_5 c i arg2 harg2 arg3 harg3 arg4 harg4 arg5 harg5 arg6 harg6 arg7 harg7 arg8 harg8 hc0 hc1 hc2 hc3 hc4 hc5 hc6 hc7 x0 x1 x2 x3 x4 = rotB (normB x0 x1 x2) x3 x4 := by
  unfold out0_A_5
  rw [View.read_writes_junk_eq_canon]
  funext y
  refine View.canon_apply_of_pieces (rotB (normB x0 x1 x2) x3 x4) _ ?_ y (cover0_A_5 c i arg2 harg2 arg3 harg3 arg4 harg4 arg5 harg5 arg6 harg6 arg7 harg7 arg8 harg8 hc0 hc1 hc2 hc3 hc4 hc5 hc6 hc7 x0 x1 x2 x3 x4 y)
  unfold kernelRun0_A
  dsimp only
  sl_unfold_words
  simp only [View.readAt_eq_ld, harg2.read_unread, harg3.read_unread, harg4.read_unread, harg5.read_unread, harg6.read_unread]
  simp only [List.forall_mem_cons, List.not_mem_nil, false_imp_iff, implies_true, and_true]
  refine ⟨?_, ?_, ?_, ?_, ?_, ?_, ?_, ?_⟩
  · refine fun x => (congrFun (pay7_eq _ _ _) x).trans (piece_rot (normB x0 x1 x2) x3 x4 896 _ _ _ (by decide) (by decide) (fun x => ?_) x)
    rw [View.readCov_cons_toLoadRect]
    exact (congrFun ((congrArg (fun a => k0_pay6 (F := Ideal) a _) (pay20_eq _ _)).trans (pay6_eq _ _)) x).trans (piece_norm x0 x1 x2 512 384 896 _ _ _ _ (by decide) (by decide) (by decide) (by decide) x)
  · refine fun x => (congrFun (pay16_eq _ _ _) x).trans (piece_rot (normB x0 x1 x2) x3 x4 768 _ _ _ (by decide) (by decide) (fun x => ?_) x)
    rw [View.readCov_skip _ _ _ _ _ (by decide), View.readCov_cons_toLoadRect]
    exact (congrFun ((congrArg (fun a => k0_pay5 (F := Ideal) a _) (pay20_eq _ _)).trans (pay5_eq _ _)) x).trans (piece_norm x0 x1 x2 512 256 768 _ _ _ _ (by decide) (by decide) (by decide) (by decide) x)
  · refine fun x => (congrFun (pay15_eq _ _ _) x).trans (piece_rot (normB x0 x1 x2) x3 x4 640 _ _ _ (by decide) (by decide) (fun x => ?_) x)
    rw [View.readCov_skip _ _ _ _ _ (by decide), View.readCov_skip _ _ _ _ _ (by decide), View.readCov_cons_toLoadRect]
    exact (congrFun ((pay4_eq _).trans (pay22_eq _ _ _)) x).trans (piece_norm x0 x1 x2 512 128 640 _ _ _ _ (by decide) (by decide) (by decide) (by decide) x)
  · refine fun x => (congrFun (pay14_eq _ _ _) x).trans (piece_rot (normB x0 x1 x2) x3 x4 512 _ _ _ (by decide) (by decide) (fun x => ?_) x)
    rw [View.readCov_skip _ _ _ _ _ (by decide), View.readCov_skip _ _ _ _ _ (by decide), View.readCov_skip _ _ _ _ _ (by decide), View.readCov_cons_toLoadRect]
    exact (congrFun (pay21_eq _ _ _) x).trans (piece_norm x0 x1 x2 512 0 512 _ _ _ _ (by decide) (by decide) (by decide) (by decide) x)
  · refine fun x => (congrFun (pay32_eq _ _ _) x).trans (piece_rot (normB x0 x1 x2) x3 x4 384 _ _ _ (by decide) (by decide) (fun x => ?_) x)
    rw [View.readCov_cons_toLoadRect]
    exact (congrFun ((congrArg (fun a => k0_pay31 (F := Ideal) a _) (pay11_eq _ _)).trans (pay31_eq _ _)) x).trans (piece_norm x0 x1 x2 0 384 384 _ _ _ _ (by decide) (by decide) (by decide) (by decide) x)
  · refine fun x => (congrFun (pay25_eq _ _ _) x).trans (piece_rot (normB x0 x1 x2) x3 x4 256 _ _ _ (by decide) (by decide) (fun x => ?_) x)
    rw [View.readCov_skip _ _ _ _ _ (by decide), View.readCov_cons_toLoadRect]
    exact (congrFun ((congrArg (fun a => k0_pay30 (F := Ideal) a _) (pay11_eq _ _)).trans (pay30_eq _ _)) x).trans (piece_norm x0 x1 x2 0 256 256 _ _ _ _ (by decide) (by decide) (by decide) (by decide) x)
  · refine fun x => (congrFun (pay24_eq _ _ _) x).trans (piece_rot (normB x0 x1 x2) x3 x4 128 _ _ _ (by decide) (by decide) (fun x => ?_) x)
    rw [View.readCov_skip _ _ _ _ _ (by decide), View.readCov_skip _ _ _ _ _ (by decide), View.readCov_cons_toLoadRect]
    exact (congrFun ((pay29_eq _).trans (pay13_eq _ _ _)) x).trans (piece_norm x0 x1 x2 0 128 128 _ _ _ _ (by decide) (by decide) (by decide) (by decide) x)
  · refine fun x => (congrFun (pay23_eq _ _ _) x).trans (piece_rot (normB x0 x1 x2) x3 x4 0 _ _ _ (by decide) (by decide) (fun x => ?_) x)
    rw [View.readCov_skip _ _ _ _ _ (by decide), View.readCov_skip _ _ _ _ _ (by decide), View.readCov_skip _ _ _ _ _ (by decide), View.readCov_cons_toLoadRect]
    exact (congrFun (pay12_eq _ _ _) x).trans (piece_norm x0 x1 x2 0 0 0 _ _ _ _ (by decide) (by decide) (by decide) (by decide) x)

end Cert.InProjIdeal.In

end
-- ==== Proof.InProjRef.lean ====
/- The input projection's reference, read at an element: a product, a head's normed product, or a normed product rotated by position,
   by the column's place among the nine pieces. -/
module

public import proofs.«01_k».proof.Proof.InProjPays
public import proofs.«01_k».proof.Proof.Gen.InProjRefIdeal.Run

@[expose] public section

set_option maxRecDepth 16384

noncomputable section

namespace Cert.InProjRefIdeal.In

open Cert.InProjRefIdeal Cert.InProjRefIdeal.Gen
open Cert.InProjIdeal.In (nrm)
open Idealize.ShloMosaic Idealize.ShloMosaic.TcCoe

/-- The product of the rows with the weights. -/
def prod (h : FVec Ideal S2x4096x4096 .f32) (w : FVec Ideal S4096x12300 .f32) : FVec Ideal S2x4096x12300 .f32 :=
  Host.dotGeneral dot_S2x4096x4096_S4096x12300_S2x4096x12300_2_0_01_1_n_n none h w

theorem prod_apply (h : FVec Ideal S2x4096x4096 .f32) (w : FVec Ideal S4096x12300 .f32) (b : Fin 2) (s : Fin 4096) (f : Fin 12300) :
    prod h w (ix3 b s f) = ∑ k : Fin 4096, h (ix3 b s k) * w (ix2 k f) := by
  unfold prod
  pointwise

/-- A row of the tables, for every head. -/
def table (c : FVec Ideal S4096x64 .f32) : FVec Ideal S1x4096x1x64 .f32 := broadcastInDim S1x4096x1x64 ![1, 3] bcast_S4096x64_S1x4096x1x64_1_3 c

/-- Columns as 12 heads. -/
def heads12 (p : FVec Ideal S2x4096x1536 .f32) : FVec Ideal S2x4096x12x128 .f32 := shapeCast _ p shapeCasts_S2x4096x1536_S2x4096x12x128

/-- 12 heads, each normed. -/
def norm12 (x : FVec Ideal S2x4096x12x128 .f32) (g : FVec Ideal S128 .f32) : FVec Ideal S2x4096x12x128 .f32 :=
  mulf (mulf x (broadcastInDim S2x4096x12x128 ![0, 1, 2, 3] bcast_S2x4096x12x1_S2x4096x12x128_0_1_2_3 (Host.rsqrt (addf (Host.divf (broadcastInDim S2x4096x12x1 ![0, 1, 2] bcast_S2x4096x12_S2x4096x12x1_0_1_2 (Host.reduceAdd (mulf x x) (constant S_ .f32 0x00000000#32) reducesTo_S2x4096x12x128_S2x4096x12_d3 h_S_)) (broadcastInDim S2x4096x12x1 ![] bcast_S_S2x4096x12x1 (constant S_ .f32 0x43000000#32))) (broadcastInDim S2x4096x12x1 ![] bcast_S_S2x4096x12x1 (constant S_ .f32 0x358637BD#32)))))) (broadcastInDim S2x4096x12x128 ![0, 1, 2, 3] bcast_S1x1x1x128_S2x4096x12x128_0_1_2_3 (broadcastInDim S1x1x1x128 ![3] bcast_S128_S1x1x1x128_3 g))

/-- The first and second halves of 12 heads. -/
def lo12 (x : FVec Ideal S2x4096x12x128 .f32) : FVec Ideal S2x4096x12x64 .f32 := extractStridedSlice S2x4096x12x64 ![0, 0, 0, 0] x slices_S2x4096x12x128_S2x4096x12x64_0_0_0_0
def hi12 (x : FVec Ideal S2x4096x12x128 .f32) : FVec Ideal S2x4096x12x64 .f32 := extractStridedSlice S2x4096x12x64 ![0, 0, 0, 64] x slices_S2x4096x12x128_S2x4096x12x64_0_0_0_64

/-- 12 heads, each rotated by position. -/
def rot12 (x : FVec Ideal S2x4096x12x128 .f32) (c s : FVec Ideal S4096x64 .f32) : FVec Ideal S2x4096x12x128 .f32 :=
  concatenate S2x4096x12x128 3 [⟨S2x4096x12x64, subf (mulf (lo12 x) (broadcastInDim S2x4096x12x64 ![0, 1, 2, 3] bcast_S1x4096x1x64_S2x4096x12x64_0_1_2_3 (table c))) (mulf (hi12 x) (broadcastInDim S2x4096x12x64 ![0, 1, 2, 3] bcast_S1x4096x1x64_S2x4096x12x64_0_1_2_3 (table s)))⟩, ⟨S2x4096x12x64, addf (mulf (hi12 x) (broadcastInDim S2x4096x12x64 ![0, 1, 2, 3] bcast_S1x4096x1x64_S2x4096x12x64_0_1_2_3 (table c))) (mulf (lo12 x) (broadcastInDim S2x4096x12x64 ![0, 1, 2, 3] bcast_S1x4096x1x64_S2x4096x12x64_0_1_2_3 (table s)))⟩] concatenates_S2x4096x12x64_S2x4096x12x64_S2x4096x12x128_d3

/-- 12 heads as columns of flat rows. -/
def flat12 (x : FVec Ideal S2x4096x12x128 .f32) : FVec Ideal S8192x1536 .f32 := shapeCast _ x shapeCasts_S2x4096x12x128_S8192x1536

/-- Columns on flat rows. -/
def cols12 (x : FVec Ideal S2x4096x1536 .f32) : FVec Ideal S8192x1536 .f32 := shapeCast _ x shapeCasts_S2x4096x1536_S8192x1536

theorem heads12_apply (p : FVec Ideal S2x4096x1536 .f32) (b : Fin 2) (s : Fin 4096) (i : Fin 12) (d : Fin 128) :
    heads12 p (ix4 b s i d) = p (ix3 b s ⟨128 * i.val + d.val, by have := i.isLt; have := d.isLt; omega⟩) := by
  have := i.isLt; have := d.isLt; have := b.isLt; have := s.isLt
  unfold heads12
  rw [shapeCast_apply _ _ (ix4 b s i d) (ix3 b s ⟨128 * i.val + d.val, by omega⟩) (by
    rw [Shape.rowMajor_val_three, Shape.rowMajor_val_four]
    show (b.val * 4096 + s.val) * 1536 + (128 * i.val + d.val) = ((b.val * 4096 + s.val) * 12 + i.val) * 128 + d.val
    omega)]

theorem norm12_apply (x : FVec Ideal S2x4096x12x128 .f32) (g : FVec Ideal S128 .f32) (b : Fin 2) (s : Fin 4096) (i : Fin 12) (d : Fin 128) :
    norm12 x g (ix4 b s i d) = nrm (fun k => x (ix4 b s i k)) (g (ix1 d)) d := by
  unfold norm12 nrm
  pointwise

theorem rot12_lo (x : FVec Ideal S2x4096x12x128 .f32) (c t : FVec Ideal S4096x64 .f32) (b : Fin 2) (s : Fin 4096) (i : Fin 12) (d : Fin 64) :
    rot12 x c t (ix4 b s i ⟨d.val, by have := d.isLt; omega⟩)
      = (x (ix4 b s i ⟨d.val, by have := d.isLt; omega⟩) * c (ix2 s d) - x (ix4 b s i ⟨64 + d.val, by have := d.isLt; omega⟩) * t (ix2 s d) : EReal) := by
  have := d.isLt
  unfold rot12 lo12 hi12 table
  pointwise

theorem rot12_hi (x : FVec Ideal S2x4096x12x128 .f32) (c t : FVec Ideal S4096x64 .f32) (b : Fin 2) (s : Fin 4096) (i : Fin 12) (d : Fin 64) :
    rot12 x c t (ix4 b s i ⟨64 + d.val, by have := d.isLt; omega⟩)
      = (x (ix4 b s i ⟨64 + d.val, by have := d.isLt; omega⟩) * c (ix2 s d) + x (ix4 b s i ⟨d.val, by have := d.isLt; omega⟩) * t (ix2 s d) : EReal) := by
  have := d.isLt
  unfold rot12 lo12 hi12 table
  pointwise

theorem flat12_apply (x : FVec Ideal S2x4096x12x128 .f32) (b : Fin 2) (s : Fin 4096) (i : Fin 12) (d : Fin 128) (hr : 4096 * b.val + s.val < 8192) (hj : 128 * i.val + d.val < 1536) :
    flat12 x (ix2 ⟨4096 * b.val + s.val, hr⟩ ⟨128 * i.val + d.val, hj⟩) = x (ix4 b s i d) := by
  have := i.isLt; have := d.isLt; have := b.isLt; have := s.isLt
  unfold flat12
  rw [shapeCast_apply _ _ (ix2 ⟨4096 * b.val + s.val, hr⟩ ⟨128 * i.val + d.val, hj⟩) (ix4 b s i d) (by
    rw [Shape.rowMajor_val_two, Shape.rowMajor_val_four]
    show ((b.val * 4096 + s.val) * 12 + i.val) * 128 + d.val = (4096 * b.val + s.val) * 1536 + (128 * i.val + d.val)
    omega)]

theorem cols12_apply (x : FVec Ideal S2x4096x1536 .f32) (b : Fin 2) (s : Fin 4096) (j : Fin 1536) (hr : 4096 * b.val + s.val < 8192) :
    cols12 x (ix2 ⟨4096 * b.val + s.val, hr⟩ j) = x (ix3 b s j) := by
  have := j.isLt; have := b.isLt; have := s.isLt
  unfold cols12
  rw [shapeCast_apply _ _ (ix2 ⟨4096 * b.val + s.val, hr⟩ j) (ix3 b s j) (by
    rw [Shape.rowMajor_val_two, Shape.rowMajor_val_three]
    show (b.val * 4096 + s.val) * 1536 + j.val = (4096 * b.val + s.val) * 1536 + j.val
    omega)]

/-- Columns as 8 heads. -/
def heads8 (p : FVec Ideal S2x4096x1024 .f32) : FVec Ideal S2x4096x8x128 .f32 := shapeCast _ p shapeCasts_S2x4096x1024_S2x4096x8x128

/-- 8 heads, each normed. -/
def norm8 (x : FVec Ideal S2x4096x8x128 .f32) (g : FVec Ideal S128 .f32) : FVec Ideal S2x4096x8x128 .f32 :=
  mulf (mulf x (broadcastInDim S2x4096x8x128 ![0, 1, 2, 3] bcast_S2x4096x8x1_S2x4096x8x128_0_1_2_3 (Host.rsqrt (addf (Host.divf (broadcastInDim S2x4096x8x1 ![0, 1, 2] bcast_S2x4096x8_S2x4096x8x1_0_1_2 (Host.reduceAdd (mulf x x) (constant S_ .f32 0x00000000#32) reducesTo_S2x4096x8x128_S2x4096x8_d3 h_S_)) (broadcastInDim S2x4096x8x1 ![] bcast_S_S2x4096x8x1 (constant S_ .f32 0x43000000#32))) (broadcastInDim S2x4096x8x1 ![] bcast_S_S2x4096x8x1 (constant S_ .f32 0x358637BD#32)))))) (broadcastInDim S2x4096x8x128 ![0, 1, 2, 3] bcast_S1x1x1x128_S2x4096x8x128_0_1_2_3 (broadcastInDim S1x1x1x128 ![3] bcast_S128_S1x1x1x128_3 g))

/-- The first and second halves of 8 heads. -/
def lo8 (x : FVec Ideal S2x4096x8x128 .f32) : FVec Ideal S2x4096x8x64 .f32 := extractStridedSlice S2x4096x8x64 ![0, 0, 0, 0] x slices_S2x4096x8x128_S2x4096x8x64_0_0_0_0
def hi8 (x : FVec Ideal S2x4096x8x128 .f32) : FVec Ideal S2x4096x8x64 .f32 := extractStridedSlice S2x4096x8x64 ![0, 0, 0, 64] x slices_S2x4096x8x128_S2x4096x8x64_0_0_0_64

/-- 8 heads, each rotated by position. -/
def rot8 (x : FVec Ideal S2x4096x8x128 .f32) (c s : FVec Ideal S4096x64 .f32) : FVec Ideal S2x4096x8x128 .f32 :=
  concatenate S2x4096x8x128 3 [⟨S2x4096x8x64, subf (mulf (lo8 x) (broadcastInDim S2x4096x8x64 ![0, 1, 2, 3] bcast_S1x4096x1x64_S2x4096x8x64_0_1_2_3 (table c))) (mulf (hi8 x) (broadcastInDim S2x4096x8x64 ![0, 1, 2, 3] bcast_S1x4096x1x64_S2x4096x8x64_0_1_2_3 (table s)))⟩, ⟨S2x4096x8x64, addf (mulf (hi8 x) (broadcastInDim S2x4096x8x64 ![0, 1, 2, 3] bcast_S1x4096x1x64_S2x4096x8x64_0_1_2_3 (table c))) (mulf (lo8 x) (broadcastInDim S2x4096x8x64 ![0, 1, 2, 3] bcast_S1x4096x1x64_S2x4096x8x64_0_1_2_3 (table s)))⟩] concatenates_S2x4096x8x64_S2x4096x8x64_S2x4096x8x128_d3

/-- 8 heads as columns of flat rows. -/
def flat8 (x : FVec Ideal S2x4096x8x128 .f32) : FVec Ideal S8192x1024 .f32 := shapeCast _ x shapeCasts_S2x4096x8x128_S8192x1024

/-- Columns on flat rows. -/
def cols8 (x : FVec Ideal S2x4096x1024 .f32) : FVec Ideal S8192x1024 .f32 := shapeCast _ x shapeCasts_S2x4096x1024_S8192x1024

theorem heads8_apply (p : FVec Ideal S2x4096x1024 .f32) (b : Fin 2) (s : Fin 4096) (i : Fin 8) (d : Fin 128) :
    heads8 p (ix4 b s i d) = p (ix3 b s ⟨128 * i.val + d.val, by have := i.isLt; have := d.isLt; omega⟩) := by
  have := i.isLt; have := d.isLt; have := b.isLt; have := s.isLt
  unfold heads8
  rw [shapeCast_apply _ _ (ix4 b s i d) (ix3 b s ⟨128 * i.val + d.val, by omega⟩) (by
    rw [Shape.rowMajor_val_three, Shape.rowMajor_val_four]
    show (b.val * 4096 + s.val) * 1024 + (128 * i.val + d.val) = ((b.val * 4096 + s.val) * 8 + i.val) * 128 + d.val
    omega)]

theorem norm8_apply (x : FVec Ideal S2x4096x8x128 .f32) (g : FVec Ideal S128 .f32) (b : Fin 2) (s : Fin 4096) (i : Fin 8) (d : Fin 128) :
    norm8 x g (ix4 b s i d) = nrm (fun k => x (ix4 b s i k)) (g (ix1 d)) d := by
  unfold norm8 nrm
  pointwise

theorem rot8_lo (x : FVec Ideal S2x4096x8x128 .f32) (c t : FVec Ideal S4096x64 .f32) (b : Fin 2) (s : Fin 4096) (i : Fin 8) (d : Fin 64) :
    rot8 x c t (ix4 b s i ⟨d.val, by have := d.isLt; omega⟩)
      = (x (ix4 b s i ⟨d.val, by have := d.isLt; omega⟩) * c (ix2 s d) - x (ix4 b s i ⟨64 + d.val, by have := d.isLt; omega⟩) * t (ix2 s d) : EReal) := by
  have := d.isLt
  unfold rot8 lo8 hi8 table
  pointwise

theorem rot8_hi (x : FVec Ideal S2x4096x8x128 .f32) (c t : FVec Ideal S4096x64 .f32) (b : Fin 2) (s : Fin 4096) (i : Fin 8) (d : Fin 64) :
    rot8 x c t (ix4 b s i ⟨64 + d.val, by have := d.isLt; omega⟩)
      = (x (ix4 b s i ⟨64 + d.val, by have := d.isLt; omega⟩) * c (ix2 s d) + x (ix4 b s i ⟨d.val, by have := d.isLt; omega⟩) * t (ix2 s d) : EReal) := by
  have := d.isLt
  unfold rot8 lo8 hi8 table
  pointwise

theorem flat8_apply (x : FVec Ideal S2x4096x8x128 .f32) (b : Fin 2) (s : Fin 4096) (i : Fin 8) (d : Fin 128) (hr : 4096 * b.val + s.val < 8192) (hj : 128 * i.val + d.val < 1024) :
    flat8 x (ix2 ⟨4096 * b.val + s.val, hr⟩ ⟨128 * i.val + d.val, hj⟩) = x (ix4 b s i d) := by
  have := i.isLt; have := d.isLt; have := b.isLt; have := s.isLt
  unfold flat8
  rw [shapeCast_apply _ _ (ix2 ⟨4096 * b.val + s.val, hr⟩ ⟨128 * i.val + d.val, hj⟩) (ix4 b s i d) (by
    rw [Shape.rowMajor_val_two, Shape.rowMajor_val_four]
    show ((b.val * 4096 + s.val) * 8 + i.val) * 128 + d.val = (4096 * b.val + s.val) * 1024 + (128 * i.val + d.val)
    omega)]

theorem cols8_apply (x : FVec Ideal S2x4096x1024 .f32) (b : Fin 2) (s : Fin 4096) (j : Fin 1024) (hr : 4096 * b.val + s.val < 8192) :
    cols8 x (ix2 ⟨4096 * b.val + s.val, hr⟩ j) = x (ix3 b s j) := by
  have := j.isLt; have := b.isLt; have := s.isLt
  unfold cols8
  rw [shapeCast_apply _ _ (ix2 ⟨4096 * b.val + s.val, hr⟩ j) (ix3 b s j) (by
    rw [Shape.rowMajor_val_two, Shape.rowMajor_val_three]
    show (b.val * 4096 + s.val) * 1024 + j.val = (4096 * b.val + s.val) * 1024 + j.val
    omega)]

/-- The nine pieces next to each other, rounded. -/
def joined (a0 a1 a2 a3 a4 a5 : FVec Ideal S8192x1536 .f32) (a6 a7 a8 : FVec Ideal S8192x1024 .f32) : FVec Ideal S8192x12288 .bf16 :=
  truncf .bf16 (concatenate S8192x12288 1 [⟨S8192x1536, a0⟩, ⟨S8192x1536, a1⟩, ⟨S8192x1536, a2⟩, ⟨S8192x1536, a3⟩, ⟨S8192x1536, a4⟩, ⟨S8192x1536, a5⟩, ⟨S8192x1024, a6⟩, ⟨S8192x1024, a7⟩, ⟨S8192x1024, a8⟩] concatenates_S8192x1536_S8192x1536_S8192x1536_S8192x1536_S8192x1536_S8192x1536_S8192x1024_S8192x1024_S8192x1024_S8192x12288_d1) bitsLt_bf16_f32

theorem joined_0 (a0 a1 a2 a3 a4 a5 : FVec Ideal S8192x1536 .f32) (a6 a7 a8 : FVec Ideal S8192x1024 .f32) (r : Fin 8192) (j : Fin 1536) :
    joined a0 a1 a2 a3 a4 a5 a6 a7 a8 (ix2 r ⟨0 + j.val, by have := j.isLt; omega⟩) = a0 (ix2 r j) := by
  have := j.isLt
  unfold joined
  pointwise
  all_goals exact dif_pos (by omega)

theorem joined_1 (a0 a1 a2 a3 a4 a5 : FVec Ideal S8192x1536 .f32) (a6 a7 a8 : FVec Ideal S8192x1024 .f32) (r : Fin 8192) (j : Fin 1536) :
    joined a0 a1 a2 a3 a4 a5 a6 a7 a8 (ix2 r ⟨1536 + j.val, by have := j.isLt; omega⟩) = a1 (ix2 r j) := by
  have := j.isLt
  unfold joined
  pointwise

theorem joined_2 (a0 a1 a2 a3 a4 a5 : FVec Ideal S8192x1536 .f32) (a6 a7 a8 : FVec Ideal S8192x1024 .f32) (r : Fin 8192) (j : Fin 1536) :
    joined a0 a1 a2 a3 a4 a5 a6 a7 a8 (ix2 r ⟨3072 + j.val, by have := j.isLt; omega⟩) = a2 (ix2 r j) := by
  have := j.isLt
  unfold joined
  pointwise
  rw [dif_neg (by omega), dif_neg (by omega), dif_pos (by omega)]
  exact congrArg (fun q => a2 (ix2 r q)) (Fin.ext (by show 3072 + j.val - 1536 - 1536 = j.val; omega))

theorem joined_3 (a0 a1 a2 a3 a4 a5 : FVec Ideal S8192x1536 .f32) (a6 a7 a8 : FVec Ideal S8192x1024 .f32) (r : Fin 8192) (j : Fin 1536) :
    joined a0 a1 a2 a3 a4 a5 a6 a7 a8 (ix2 r ⟨4608 + j.val, by have := j.isLt; omega⟩) = a3 (ix2 r j) := by
  have := j.isLt
  unfold joined
  pointwise
  rw [dif_neg (by omega), dif_neg (by omega), dif_neg (by omega), dif_pos (by omega)]
  exact congrArg (fun q => a3 (ix2 r q)) (Fin.ext (by show 4608 + j.val - 1536 - 1536 - 1536 = j.val; omega))

theorem joined_4 (a0 a1 a2 a3 a4 a5 : FVec Ideal S8192x1536 .f32) (a6 a7 a8 : FVec Ideal S8192x1024 .f32) (r : Fin 8192) (j : Fin 1536) :
    joined a0 a1 a2 a3 a4 a5 a6 a7 a8 (ix2 r ⟨6144 + j.val, by have := j.isLt; omega⟩) = a4 (ix2 r j) := by
  have := j.isLt
  unfold joined
  pointwise
  rw [dif_neg (by omega), dif_neg (by omega), dif_neg (by omega), dif_neg (by omega), dif_pos (by omega)]
  exact congrArg (fun q => a4 (ix2 r q)) (Fin.ext (by show 6144 + j.val - 1536 - 1536 - 1536 - 1536 = j.val; omega))

theorem joined_5 (a0 a1 a2 a3 a4 a5 : FVec Ideal S8192x1536 .f32) (a6 a7 a8 : FVec Ideal S8192x1024 .f32) (r : Fin 8192) (j : Fin 1536) :
    joined a0 a1 a2 a3 a4 a5 a6 a7 a8 (ix2 r ⟨7680 + j.val, by have := j.isLt; omega⟩) = a5 (ix2 r j) := by
  have := j.isLt
  unfold joined
  pointwise
  rw [dif_neg (by omega), dif_neg (by omega), dif_neg (by omega), dif_neg (by omega), dif_neg (by omega), dif_pos (by omega)]
  exact congrArg (fun q => a5 (ix2 r q)) (Fin.ext (by show 7680 + j.val - 1536 - 1536 - 1536 - 1536 - 1536 = j.val; omega))

theorem joined_6 (a0 a1 a2 a3 a4 a5 : FVec Ideal S8192x1536 .f32) (a6 a7 a8 : FVec Ideal S8192x1024 .f32) (r : Fin 8192) (j : Fin 1024) :
    joined a0 a1 a2 a3 a4 a5 a6 a7 a8 (ix2 r ⟨9216 + j.val, by have := j.isLt; omega⟩) = a6 (ix2 r j) := by
  have := j.isLt
  unfold joined
  pointwise
  rw [dif_neg (by omega), dif_neg (by omega), dif_neg (by omega), dif_neg (by omega), dif_neg (by omega), dif_neg (by omega), dif_pos (by omega)]
  exact congrArg (fun q => a6 (ix2 r q)) (Fin.ext (by show 9216 + j.val - 1536 - 1536 - 1536 - 1536 - 1536 - 1536 = j.val; omega))

theorem joined_7 (a0 a1 a2 a3 a4 a5 : FVec Ideal S8192x1536 .f32) (a6 a7 a8 : FVec Ideal S8192x1024 .f32) (r : Fin 8192) (j : Fin 1024) :
    joined a0 a1 a2 a3 a4 a5 a6 a7 a8 (ix2 r ⟨10240 + j.val, by have := j.isLt; omega⟩) = a7 (ix2 r j) := by
  have := j.isLt
  unfold joined
  pointwise
  rw [dif_neg (by omega), dif_neg (by omega), dif_neg (by omega), dif_neg (by omega), dif_neg (by omega), dif_neg (by omega), dif_neg (by omega), dif_pos (by omega)]
  exact congrArg (fun q => a7 (ix2 r q)) (Fin.ext (by show 10240 + j.val - 1536 - 1536 - 1536 - 1536 - 1536 - 1536 - 1024 = j.val; omega))

theorem joined_8 (a0 a1 a2 a3 a4 a5 : FVec Ideal S8192x1536 .f32) (a6 a7 a8 : FVec Ideal S8192x1024 .f32) (r : Fin 8192) (j : Fin 1024) :
    joined a0 a1 a2 a3 a4 a5 a6 a7 a8 (ix2 r ⟨11264 + j.val, by have := j.isLt; omega⟩) = a8 (ix2 r j) := by
  have := j.isLt
  unfold joined
  pointwise
  rw [dif_neg (by omega), dif_neg (by omega), dif_neg (by omega), dif_neg (by omega), dif_neg (by omega), dif_neg (by omega), dif_neg (by omega), dif_neg (by omega)]
  exact congrArg (fun q => a8 (ix2 r q)) (Fin.ext (by show 11264 + j.val - 1536 - 1536 - 1536 - 1536 - 1536 - 1536 - 1024 - 1024 = j.val; omega))

/-- The pieces of a product. -/
def pieces (p : FVec Ideal S2x4096x12300 .f32) (g0 g1 g2 g3 g4 g5 : FVec Ideal S128 .f32) (c t : FVec Ideal S4096x64 .f32) : FVec Ideal S8192x12288 .bf16 :=
  joined (flat12 (rot12 (norm12 (heads12 (extractStridedSlice S2x4096x1536 ![0, 0, 0] p slices_S2x4096x12300_S2x4096x1536_0_0_0)) g0) c t))
    (flat12 (rot12 (norm12 (heads12 (extractStridedSlice S2x4096x1536 ![0, 0, 1536] p slices_S2x4096x12300_S2x4096x1536_0_0_1536)) g1) c t))
    (cols12 (extractStridedSlice S2x4096x1536 ![0, 0, 3072] p slices_S2x4096x12300_S2x4096x1536_0_0_3072))
    (flat12 (norm12 (heads12 (extractStridedSlice S2x4096x1536 ![0, 0, 4608] p slices_S2x4096x12300_S2x4096x1536_0_0_4608)) g2))
    (flat12 (norm12 (heads12 (extractStridedSlice S2x4096x1536 ![0, 0, 6144] p slices_S2x4096x12300_S2x4096x1536_0_0_6144)) g3))
    (cols12 (extractStridedSlice S2x4096x1536 ![0, 0, 7680] p slices_S2x4096x12300_S2x4096x1536_0_0_7680))
    (flat8 (rot8 (norm8 (heads8 (extractStridedSlice S2x4096x1024 ![0, 0, 9228] p slices_S2x4096x12300_S2x4096x1024_0_0_9228)) g4) c t))
    (flat8 (rot8 (norm8 (heads8 (extractStridedSlice S2x4096x1024 ![0, 0, 10252] p slices_S2x4096x12300_S2x4096x1024_0_0_10252)) g5) c t))
    (cols8 (extractStridedSlice S2x4096x1024 ![0, 0, 11276] p slices_S2x4096x12300_S2x4096x1024_0_0_11276))

/-- The reference's result. -/
def whole (h : FVec Ideal S2x4096x4096 .f32) (w : FVec Ideal S4096x12300 .f32) (g0 g1 g2 g3 g4 g5 : FVec Ideal S128 .f32) (c t : FVec Ideal S4096x64 .f32) : FVec Ideal S8192x12288 .bf16 :=
  pieces (prod h w) g0 g1 g2 g3 g4 g5 c t

theorem res_eq (V0 : Valuation τ sig (Elt Ideal)) : truncf .bf16 (Cert.InProjRefIdeal.Value.res_main_v163 V0) bitsLt_bf16_f32
    = whole (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5))
        (V0 (Proc.devRef .tc main_arg6)) (V0 (Proc.devRef .tc main_arg7)) (V0 (Proc.devRef .tc main_arg8)) (V0 (Proc.devRef .tc main_arg9)) := rfl

/-- The cosine and the signed sine a head's column is multiplied with. -/
def cosF (c : FVec Ideal S4096x64 .f32) (s : Fin 4096) (d : Fin 128) : EReal := c (ix2 s ⟨d.val % 64, Nat.mod_lt _ (by decide)⟩)
def sinF (t : FVec Ideal S4096x64 .f32) (s : Fin 4096) (d : Fin 128) : EReal :=
  if d.val < 64 then -t (ix2 s ⟨d.val % 64, Nat.mod_lt _ (by decide)⟩) else t (ix2 s ⟨d.val % 64, Nat.mod_lt _ (by decide)⟩)

/-- A head's element, normed, of a product's columns from a place on. -/
def headN (p : FVec Ideal S2x4096x12300 .f32) (g : FVec Ideal S128 .f32) (b : Fin 2) (s : Fin 4096) (o : ℕ) (h : o + 128 ≤ 12300) (d : Fin 128) : EReal :=
  nrm (fun k => p (ix3 b s ⟨o + k.val, by have := k.isLt; omega⟩)) (g (ix1 d)) d

/-- The same, rotated by position. -/
def headR (p : FVec Ideal S2x4096x12300 .f32) (g : FVec Ideal S128 .f32) (c t : FVec Ideal S4096x64 .f32) (b : Fin 2) (s : Fin 4096) (o : ℕ) (h : o + 128 ≤ 12300) (d : Fin 128) : EReal :=
  headN p g b s o h d * cosF c s d + headN p g b s o h ⟨(d.val + 128 - 64) % 128, Nat.mod_lt _ (by decide)⟩ * sinF t s d

theorem rot12_apply (x : FVec Ideal S2x4096x12x128 .f32) (c t : FVec Ideal S4096x64 .f32) (b : Fin 2) (s : Fin 4096) (i : Fin 12) (d : Fin 128) :
    rot12 x c t (ix4 b s i d) = (x (ix4 b s i d) * cosF c s d + x (ix4 b s i ⟨(d.val + 128 - 64) % 128, Nat.mod_lt _ (by decide)⟩) * sinF t s d : EReal) := by
  have hd := d.isLt
  unfold cosF sinF
  by_cases h : d.val < 64
  · rw [if_pos h]
    have e1 : (⟨d.val % 64, Nat.mod_lt _ (by decide)⟩ : Fin 64) = ⟨d.val, h⟩ := Fin.ext (by show d.val % 64 = d.val; omega)
    have e2 : (⟨(d.val + 128 - 64) % 128, Nat.mod_lt _ (by decide)⟩ : Fin 128) = ⟨64 + d.val, by omega⟩ := Fin.ext (by show (d.val + 128 - 64) % 128 = 64 + d.val; omega)
    rw [e1, e2]
    refine (rot12_lo x c t b s i ⟨d.val, h⟩).trans ?_
    rw [mul_neg, ← sub_eq_add_neg]
  · rw [if_neg h]
    have e1 : (⟨d.val % 64, Nat.mod_lt _ (by decide)⟩ : Fin 64) = ⟨d.val - 64, by omega⟩ := Fin.ext (by show d.val % 64 = d.val - 64; omega)
    have e2 : (⟨(d.val + 128 - 64) % 128, Nat.mod_lt _ (by decide)⟩ : Fin 128) = ⟨d.val - 64, by omega⟩ := Fin.ext (by show (d.val + 128 - 64) % 128 = d.val - 64; omega)
    have e3 : d = ⟨64 + (d.val - 64), by omega⟩ := Fin.ext (by show d.val = 64 + (d.val - 64); omega)
    have e := rot12_hi x c t b s i ⟨d.val - 64, by omega⟩
    dsimp only at e
    rw [← e3] at e
    rw [e1, e2]
    exact e

theorem rot8_apply (x : FVec Ideal S2x4096x8x128 .f32) (c t : FVec Ideal S4096x64 .f32) (b : Fin 2) (s : Fin 4096) (i : Fin 8) (d : Fin 128) :
    rot8 x c t (ix4 b s i d) = (x (ix4 b s i d) * cosF c s d + x (ix4 b s i ⟨(d.val + 128 - 64) % 128, Nat.mod_lt _ (by decide)⟩) * sinF t s d : EReal) := by
  have hd := d.isLt
  unfold cosF sinF
  by_cases h : d.val < 64
  · rw [if_pos h]
    have e1 : (⟨d.val % 64, Nat.mod_lt _ (by decide)⟩ : Fin 64) = ⟨d.val, h⟩ := Fin.ext (by show d.val % 64 = d.val; omega)
    have e2 : (⟨(d.val + 128 - 64) % 128, Nat.mod_lt _ (by decide)⟩ : Fin 128) = ⟨64 + d.val, by omega⟩ := Fin.ext (by show (d.val + 128 - 64) % 128 = 64 + d.val; omega)
    rw [e1, e2]
    refine (rot8_lo x c t b s i ⟨d.val, h⟩).trans ?_
    rw [mul_neg, ← sub_eq_add_neg]
  · rw [if_neg h]
    have e1 : (⟨d.val % 64, Nat.mod_lt _ (by decide)⟩ : Fin 64) = ⟨d.val - 64, by omega⟩ := Fin.ext (by show d.val % 64 = d.val - 64; omega)
    have e2 : (⟨(d.val + 128 - 64) % 128, Nat.mod_lt _ (by decide)⟩ : Fin 128) = ⟨d.val - 64, by omega⟩ := Fin.ext (by show (d.val + 128 - 64) % 128 = d.val - 64; omega)
    have e3 : d = ⟨64 + (d.val - 64), by omega⟩ := Fin.ext (by show d.val = 64 + (d.val - 64); omega)
    have e := rot8_hi x c t b s i ⟨d.val - 64, by omega⟩
    dsimp only at e
    rw [← e3] at e
    rw [e1, e2]
    exact e

theorem slice_qm (p : FVec Ideal S2x4096x12300 .f32) (b : Fin 2) (s : Fin 4096) (j : Fin 1536) :
    extractStridedSlice S2x4096x1536 ![0, 0, 0] p slices_S2x4096x12300_S2x4096x1536_0_0_0 (ix3 b s j) = p (ix3 b s ⟨0 + j.val, by have := j.isLt; omega⟩) := by
  have := j.isLt
  pointwise

theorem normed_qm (p : FVec Ideal S2x4096x12300 .f32) (g : FVec Ideal S128 .f32) (b : Fin 2) (s : Fin 4096) (i : Fin 12) (d : Fin 128) :
    norm12 (heads12 (extractStridedSlice S2x4096x1536 ![0, 0, 0] p slices_S2x4096x12300_S2x4096x1536_0_0_0)) g (ix4 b s i d)
      = headN p g b s (0 + 128 * i.val) (by have := i.isLt; omega) d := by
  refine (norm12_apply _ g b s i d).trans ?_
  unfold headN
  refine congrArg (fun y => nrm y (g (ix1 d)) d) (funext fun k => ?_)
  refine ((heads12_apply _ b s i k).trans (slice_qm p b s _)).trans (congrArg (fun f => p (ix3 b s f)) (Fin.ext ?_))
  show 0 + (128 * i.val + k.val) = 0 + 128 * i.val + k.val
  omega

theorem pieces_qm (p : FVec Ideal S2x4096x12300 .f32) (g0 g1 g2 g3 g4 g5 : FVec Ideal S128 .f32) (c t : FVec Ideal S4096x64 .f32) (b : Fin 2) (s : Fin 4096) (i : Fin 12) (d : Fin 128) (hr : 4096 * b.val + s.val < 8192) :
    pieces p g0 g1 g2 g3 g4 g5 c t (ix2 ⟨4096 * b.val + s.val, hr⟩ ⟨0 + (128 * i.val + d.val), by have := i.isLt; have := d.isLt; omega⟩)
      = headR p g0 c t b s (0 + 128 * i.val) (by have := i.isLt; omega) d := by
  have hi := i.isLt
  have hd := d.isLt
  refine (joined_0 _ _ _ _ _ _ _ _ _ _ (⟨128 * i.val + d.val, by omega⟩ : Fin 1536)).trans ((flat12_apply _ b s i d hr (by omega)).trans ?_)
  rw [rot12_apply, normed_qm, normed_qm]
  rfl

theorem slice_km (p : FVec Ideal S2x4096x12300 .f32) (b : Fin 2) (s : Fin 4096) (j : Fin 1536) :
    extractStridedSlice S2x4096x1536 ![0, 0, 1536] p slices_S2x4096x12300_S2x4096x1536_0_0_1536 (ix3 b s j) = p (ix3 b s ⟨1536 + j.val, by have := j.isLt; omega⟩) := by
  have := j.isLt
  pointwise

theorem normed_km (p : FVec Ideal S2x4096x12300 .f32) (g : FVec Ideal S128 .f32) (b : Fin 2) (s : Fin 4096) (i : Fin 12) (d : Fin 128) :
    norm12 (heads12 (extractStridedSlice S2x4096x1536 ![0, 0, 1536] p slices_S2x4096x12300_S2x4096x1536_0_0_1536)) g (ix4 b s i d)
      = headN p g b s (1536 + 128 * i.val) (by have := i.isLt; omega) d := by
  refine (norm12_apply _ g b s i d).trans ?_
  unfold headN
  refine congrArg (fun y => nrm y (g (ix1 d)) d) (funext fun k => ?_)
  refine ((heads12_apply _ b s i k).trans (slice_km p b s _)).trans (congrArg (fun f => p (ix3 b s f)) (Fin.ext ?_))
  show 1536 + (128 * i.val + k.val) = 1536 + 128 * i.val + k.val
  omega

theorem pieces_km (p : FVec Ideal S2x4096x12300 .f32) (g0 g1 g2 g3 g4 g5 : FVec Ideal S128 .f32) (c t : FVec Ideal S4096x64 .f32) (b : Fin 2) (s : Fin 4096) (i : Fin 12) (d : Fin 128) (hr : 4096 * b.val + s.val < 8192) :
    pieces p g0 g1 g2 g3 g4 g5 c t (ix2 ⟨4096 * b.val + s.val, hr⟩ ⟨1536 + (128 * i.val + d.val), by have := i.isLt; have := d.isLt; omega⟩)
      = headR p g1 c t b s (1536 + 128 * i.val) (by have := i.isLt; omega) d := by
  have hi := i.isLt
  have hd := d.isLt
  refine (joined_1 _ _ _ _ _ _ _ _ _ _ (⟨128 * i.val + d.val, by omega⟩ : Fin 1536)).trans ((flat12_apply _ b s i d hr (by omega)).trans ?_)
  rw [rot12_apply, normed_km, normed_km]
  rfl

theorem slice_vm (p : FVec Ideal S2x4096x12300 .f32) (b : Fin 2) (s : Fin 4096) (j : Fin 1536) :
    extractStridedSlice S2x4096x1536 ![0, 0, 3072] p slices_S2x4096x12300_S2x4096x1536_0_0_3072 (ix3 b s j) = p (ix3 b s ⟨3072 + j.val, by have := j.isLt; omega⟩) := by
  have := j.isLt
  pointwise

theorem pieces_vm (p : FVec Ideal S2x4096x12300 .f32) (g0 g1 g2 g3 g4 g5 : FVec Ideal S128 .f32) (c t : FVec Ideal S4096x64 .f32) (b : Fin 2) (s : Fin 4096) (j : Fin 1536) (hr : 4096 * b.val + s.val < 8192) :
    pieces p g0 g1 g2 g3 g4 g5 c t (ix2 ⟨4096 * b.val + s.val, hr⟩ ⟨3072 + j.val, by have := j.isLt; omega⟩) = p (ix3 b s ⟨3072 + j.val, by have := j.isLt; omega⟩) :=
  (joined_2 _ _ _ _ _ _ _ _ _ _ j).trans ((cols12_apply _ b s j hr).trans (slice_vm p b s j))

theorem slice_qf (p : FVec Ideal S2x4096x12300 .f32) (b : Fin 2) (s : Fin 4096) (j : Fin 1536) :
    extractStridedSlice S2x4096x1536 ![0, 0, 4608] p slices_S2x4096x12300_S2x4096x1536_0_0_4608 (ix3 b s j) = p (ix3 b s ⟨4608 + j.val, by have := j.isLt; omega⟩) := by
  have := j.isLt
  pointwise

theorem normed_qf (p : FVec Ideal S2x4096x12300 .f32) (g : FVec Ideal S128 .f32) (b : Fin 2) (s : Fin 4096) (i : Fin 12) (d : Fin 128) :
    norm12 (heads12 (extractStridedSlice S2x4096x1536 ![0, 0, 4608] p slices_S2x4096x12300_S2x4096x1536_0_0_4608)) g (ix4 b s i d)
      = headN p g b s (4608 + 128 * i.val) (by have := i.isLt; omega) d := by
  refine (norm12_apply _ g b s i d).trans ?_
  unfold headN
  refine congrArg (fun y => nrm y (g (ix1 d)) d) (funext fun k => ?_)
  refine ((heads12_apply _ b s i k).trans (slice_qf p b s _)).trans (congrArg (fun f => p (ix3 b s f)) (Fin.ext ?_))
  show 4608 + (128 * i.val + k.val) = 4608 + 128 * i.val + k.val
  omega

theorem pieces_qf (p : FVec Ideal S2x4096x12300 .f32) (g0 g1 g2 g3 g4 g5 : FVec Ideal S128 .f32) (c t : FVec Ideal S4096x64 .f32) (b : Fin 2) (s : Fin 4096) (i : Fin 12) (d : Fin 128) (hr : 4096 * b.val + s.val < 8192) :
    pieces p g0 g1 g2 g3 g4 g5 c t (ix2 ⟨4096 * b.val + s.val, hr⟩ ⟨4608 + (128 * i.val + d.val), by have := i.isLt; have := d.isLt; omega⟩)
      = headN p g2 b s (4608 + 128 * i.val) (by have := i.isLt; omega) d := by
  have hi := i.isLt
  have hd := d.isLt
  refine (joined_3 _ _ _ _ _ _ _ _ _ _ (⟨128 * i.val + d.val, by omega⟩ : Fin 1536)).trans ((flat12_apply _ b s i d hr (by omega)).trans ?_)
  exact normed_qf p g2 b s i d

theorem slice_kf (p : FVec Ideal S2x4096x12300 .f32) (b : Fin 2) (s : Fin 4096) (j : Fin 1536) :
    extractStridedSlice S2x4096x1536 ![0, 0, 6144] p slices_S2x4096x12300_S2x4096x1536_0_0_6144 (ix3 b s j) = p (ix3 b s ⟨6144 + j.val, by have := j.isLt; omega⟩) := by
  have := j.isLt
  pointwise

theorem normed_kf (p : FVec Ideal S2x4096x12300 .f32) (g : FVec Ideal S128 .f32) (b : Fin 2) (s : Fin 4096) (i : Fin 12) (d : Fin 128) :
    norm12 (heads12 (extractStridedSlice S2x4096x1536 ![0, 0, 6144] p slices_S2x4096x12300_S2x4096x1536_0_0_6144)) g (ix4 b s i d)
      = headN p g b s (6144 + 128 * i.val) (by have := i.isLt; omega) d := by
  refine (norm12_apply _ g b s i d).trans ?_
  unfold headN
  refine congrArg (fun y => nrm y (g (ix1 d)) d) (funext fun k => ?_)
  refine ((heads12_apply _ b s i k).trans (slice_kf p b s _)).trans (congrArg (fun f => p (ix3 b s f)) (Fin.ext ?_))
  show 6144 + (128 * i.val + k.val) = 6144 + 128 * i.val + k.val
  omega

theorem pieces_kf (p : FVec Ideal S2x4096x12300 .f32) (g0 g1 g2 g3 g4 g5 : FVec Ideal S128 .f32) (c t : FVec Ideal S4096x64 .f32) (b : Fin 2) (s : Fin 4096) (i : Fin 12) (d : Fin 128) (hr : 4096 * b.val + s.val < 8192) :
    pieces p g0 g1 g2 g3 g4 g5 c t (ix2 ⟨4096 * b.val + s.val, hr⟩ ⟨6144 + (128 * i.val + d.val), by have := i.isLt; have := d.isLt; omega⟩)
      = headN p g3 b s (6144 + 128 * i.val) (by have := i.isLt; omega) d := by
  have hi := i.isLt
  have hd := d.isLt
  refine (joined_4 _ _ _ _ _ _ _ _ _ _ (⟨128 * i.val + d.val, by omega⟩ : Fin 1536)).trans ((flat12_apply _ b s i d hr (by omega)).trans ?_)
  exact normed_kf p g3 b s i d

theorem slice_vf (p : FVec Ideal S2x4096x12300 .f32) (b : Fin 2) (s : Fin 4096) (j : Fin 1536) :
    extractStridedSlice S2x4096x1536 ![0, 0, 7680] p slices_S2x4096x12300_S2x4096x1536_0_0_7680 (ix3 b s j) = p (ix3 b s ⟨7680 + j.val, by have := j.isLt; omega⟩) := by
  have := j.isLt
  pointwise

theorem pieces_vf (p : FVec Ideal S2x4096x12300 .f32) (g0 g1 g2 g3 g4 g5 : FVec Ideal S128 .f32) (c t : FVec Ideal S4096x64 .f32) (b : Fin 2) (s : Fin 4096) (j : Fin 1536) (hr : 4096 * b.val + s.val < 8192) :
    pieces p g0 g1 g2 g3 g4 g5 c t (ix2 ⟨4096 * b.val + s.val, hr⟩ ⟨7680 + j.val, by have := j.isLt; omega⟩) = p (ix3 b s ⟨7680 + j.val, by have := j.isLt; omega⟩) :=
  (joined_5 _ _ _ _ _ _ _ _ _ _ j).trans ((cols12_apply _ b s j hr).trans (slice_vf p b s j))

theorem slice_qd (p : FVec Ideal S2x4096x12300 .f32) (b : Fin 2) (s : Fin 4096) (j : Fin 1024) :
    extractStridedSlice S2x4096x1024 ![0, 0, 9228] p slices_S2x4096x12300_S2x4096x1024_0_0_9228 (ix3 b s j) = p (ix3 b s ⟨9228 + j.val, by have := j.isLt; omega⟩) := by
  have := j.isLt
  pointwise

theorem normed_qd (p : FVec Ideal S2x4096x12300 .f32) (g : FVec Ideal S128 .f32) (b : Fin 2) (s : Fin 4096) (i : Fin 8) (d : Fin 128) :
    norm8 (heads8 (extractStridedSlice S2x4096x1024 ![0, 0, 9228] p slices_S2x4096x12300_S2x4096x1024_0_0_9228)) g (ix4 b s i d)
      = headN p g b s (9228 + 128 * i.val) (by have := i.isLt; omega) d := by
  refine (norm8_apply _ g b s i d).trans ?_
  unfold headN
  refine congrArg (fun y => nrm y (g (ix1 d)) d) (funext fun k => ?_)
  refine ((heads8_apply _ b s i k).trans (slice_qd p b s _)).trans (congrArg (fun f => p (ix3 b s f)) (Fin.ext ?_))
  show 9228 + (128 * i.val + k.val) = 9228 + 128 * i.val + k.val
  omega

theorem pieces_qd (p : FVec Ideal S2x4096x12300 .f32) (g0 g1 g2 g3 g4 g5 : FVec Ideal S128 .f32) (c t : FVec Ideal S4096x64 .f32) (b : Fin 2) (s : Fin 4096) (i : Fin 8) (d : Fin 128) (hr : 4096 * b.val + s.val < 8192) :
    pieces p g0 g1 g2 g3 g4 g5 c t (ix2 ⟨4096 * b.val + s.val, hr⟩ ⟨9216 + (128 * i.val + d.val), by have := i.isLt; have := d.isLt; omega⟩)
      = headR p g4 c t b s (9228 + 128 * i.val) (by have := i.isLt; omega) d := by
  have hi := i.isLt
  have hd := d.isLt
  refine (joined_6 _ _ _ _ _ _ _ _ _ _ (⟨128 * i.val + d.val, by omega⟩ : Fin 1024)).trans ((flat8_apply _ b s i d hr (by omega)).trans ?_)
  rw [rot8_apply, normed_qd, normed_qd]
  rfl

theorem slice_kd (p : FVec Ideal S2x4096x12300 .f32) (b : Fin 2) (s : Fin 4096) (j : Fin 1024) :
    extractStridedSlice S2x4096x1024 ![0, 0, 10252] p slices_S2x4096x12300_S2x4096x1024_0_0_10252 (ix3 b s j) = p (ix3 b s ⟨10252 + j.val, by have := j.isLt; omega⟩) := by
  have := j.isLt
  pointwise

theorem normed_kd (p : FVec Ideal S2x4096x12300 .f32) (g : FVec Ideal S128 .f32) (b : Fin 2) (s : Fin 4096) (i : Fin 8) (d : Fin 128) :
    norm8 (heads8 (extractStridedSlice S2x4096x1024 ![0, 0, 10252] p slices_S2x4096x12300_S2x4096x1024_0_0_10252)) g (ix4 b s i d)
      = headN p g b s (10252 + 128 * i.val) (by have := i.isLt; omega) d := by
  refine (norm8_apply _ g b s i d).trans ?_
  unfold headN
  refine congrArg (fun y => nrm y (g (ix1 d)) d) (funext fun k => ?_)
  refine ((heads8_apply _ b s i k).trans (slice_kd p b s _)).trans (congrArg (fun f => p (ix3 b s f)) (Fin.ext ?_))
  show 10252 + (128 * i.val + k.val) = 10252 + 128 * i.val + k.val
  omega

theorem pieces_kd (p : FVec Ideal S2x4096x12300 .f32) (g0 g1 g2 g3 g4 g5 : FVec Ideal S128 .f32) (c t : FVec Ideal S4096x64 .f32) (b : Fin 2) (s : Fin 4096) (i : Fin 8) (d : Fin 128) (hr : 4096 * b.val + s.val < 8192) :
    pieces p g0 g1 g2 g3 g4 g5 c t (ix2 ⟨4096 * b.val + s.val, hr⟩ ⟨10240 + (128 * i.val + d.val), by have := i.isLt; have := d.isLt; omega⟩)
      = headR p g5 c t b s (10252 + 128 * i.val) (by have := i.isLt; omega) d := by
  have hi := i.isLt
  have hd := d.isLt
  refine (joined_7 _ _ _ _ _ _ _ _ _ _ (⟨128 * i.val + d.val, by omega⟩ : Fin 1024)).trans ((flat8_apply _ b s i d hr (by omega)).trans ?_)
  rw [rot8_apply, normed_kd, normed_kd]
  rfl

theorem slice_vd (p : FVec Ideal S2x4096x12300 .f32) (b : Fin 2) (s : Fin 4096) (j : Fin 1024) :
    extractStridedSlice S2x4096x1024 ![0, 0, 11276] p slices_S2x4096x12300_S2x4096x1024_0_0_11276 (ix3 b s j) = p (ix3 b s ⟨11276 + j.val, by have := j.isLt; omega⟩) := by
  have := j.isLt
  pointwise

theorem pieces_vd (p : FVec Ideal S2x4096x12300 .f32) (g0 g1 g2 g3 g4 g5 : FVec Ideal S128 .f32) (c t : FVec Ideal S4096x64 .f32) (b : Fin 2) (s : Fin 4096) (j : Fin 1024) (hr : 4096 * b.val + s.val < 8192) :
    pieces p g0 g1 g2 g3 g4 g5 c t (ix2 ⟨4096 * b.val + s.val, hr⟩ ⟨11264 + j.val, by have := j.isLt; omega⟩) = p (ix3 b s ⟨11276 + j.val, by have := j.isLt; omega⟩) :=
  (joined_8 _ _ _ _ _ _ _ _ _ _ j).trans ((cols8_apply _ b s j hr).trans (slice_vd p b s j))

end Cert.InProjRefIdeal.In

end
-- ==== Proof.InProjIn.lean ====
/- The arrays the input projection's call stages, as the host code prepares them, read at an element. -/
module

public import proofs.«01_k».proof.Proof.InProjCases
public import proofs.«01_k».proof.Proof.InProjRef

@[expose] public section

set_option maxRecDepth 16384

noncomputable section

namespace Cert.InProjIdeal.In

open Cert.InProjIdeal Cert.InProjIdeal.Gen
open Cert.InProjRefIdeal.In (cosF sinF)
open Idealize.ShloMosaic Idealize.ShloMosaic.TcCoe Idealize.SL.Sem Idealize.ShloMosaic.Pipeline

/-- The rows, flat. -/
def hflat (h : FVec Ideal S2x4096x4096 .f32) : FVec Ideal S8192x4096 .bf16 :=
  truncf .bf16 (shapeCast S8192x4096 h shapeCasts_S2x4096x4096_S8192x4096) bitsLt_bf16_f32

theorem hflat_apply (h : FVec Ideal S2x4096x4096 .f32) (b : Fin 2) (s : Fin 4096) (k : Fin 4096) (hr : 4096 * b.val + s.val < 8192) :
    hflat h (ix2 ⟨4096 * b.val + s.val, hr⟩ k) = h (ix3 b s k) := by
  have := b.isLt; have := s.isLt; have := k.isLt
  unfold hflat
  show shapeCast S8192x4096 h shapeCasts_S2x4096x4096_S8192x4096 (ix2 ⟨4096 * b.val + s.val, hr⟩ k) = _
  rw [shapeCast_apply _ _ (ix2 ⟨4096 * b.val + s.val, hr⟩ k) (ix3 b s k) (by
    rw [Shape.rowMajor_val_two, Shape.rowMajor_val_three]
    show (b.val * 4096 + s.val) * 4096 + k.val = (4096 * b.val + s.val) * 4096 + k.val
    omega)]

/-- The weights' columns in the call's order, as rows, rounded. -/
def wcat (w : FVec Ideal S4096x12300 .f32) : FVec Ideal S12544x4096 .bf16 :=
  truncf .bf16 (transpose S12544x4096 [1, 0] (concatenate S4096x12544 1 [⟨S4096x9216, extractStridedSlice S4096x9216 ![0, 0] w slices_S4096x12300_S4096x9216_0_0⟩,
    ⟨S4096x3072, extractStridedSlice S4096x3072 ![0, 9228] w slices_S4096x12300_S4096x3072_0_9228⟩,
    ⟨S4096x12, extractStridedSlice S4096x12 ![0, 9216] w slices_S4096x12300_S4096x12_0_9216⟩,
    ⟨S4096x244, broadcastInDim S4096x244 ![] bcast_S_S4096x244 (constant S_ .f32 0x00000000#32)⟩]
    concatenates_S4096x9216_S4096x3072_S4096x12_S4096x244_S4096x12544_d1) transposes_S4096x12544_S12544x4096_1_0) bitsLt_bf16_f32

theorem wcat_low (w : FVec Ideal S4096x12300 .f32) (j : Fin 9216) (k : Fin 4096) :
    wcat w (ix2 ⟨j.val, by have := j.isLt; omega⟩ k) = w (ix2 k ⟨j.val, by have := j.isLt; omega⟩) := by
  have := j.isLt
  unfold wcat
  pointwise

theorem wcat_high (w : FVec Ideal S4096x12300 .f32) (j : Fin 3072) (k : Fin 4096) :
    wcat w (ix2 ⟨9216 + j.val, by have := j.isLt; omega⟩ k) = w (ix2 k ⟨9228 + j.val, by have := j.isLt; omega⟩) := by
  have := j.isLt
  unfold wcat
  pointwise

/-- A gain for 12 heads, for 8 heads, and ones. -/
def gain12 (g : FVec Ideal S128 .f32) : FVec Ideal S1536 .f32 := shapeCast S1536 (broadcastInDim S12x128 ![1] bcast_S128_S12x128_1 g) shapeCasts_S12x128_S1536
def gain8 (g : FVec Ideal S128 .f32) : FVec Ideal S1024 .f32 := shapeCast S1024 (broadcastInDim S8x128 ![1] bcast_S128_S8x128_1 g) shapeCasts_S8x128_S1024
def ones12 : FVec Ideal S1536 .f32 := broadcastInDim S1536 ![] bcast_S_S1536 (constant S_ .f32 0x3F800000#32)
def ones8 : FVec Ideal S1024 .f32 := broadcastInDim S1024 ![] bcast_S_S1024 (constant S_ .f32 0x3F800000#32)

theorem gain12_apply (g : FVec Ideal S128 .f32) (i : Fin 12) (d : Fin 128) (h : 128 * i.val + d.val < 1536) :
    gain12 g (ix1 ⟨128 * i.val + d.val, h⟩) = g (ix1 d) := by
  have := i.isLt; have := d.isLt
  unfold gain12
  rw [shapeCast_apply _ _ (ix1 ⟨128 * i.val + d.val, h⟩) (ix2 i d) (by
    rw [Shape.rowMajor_val_one, Shape.rowMajor_val_two]
    show i.val * 128 + d.val = 128 * i.val + d.val
    omega)]
  pointwise

theorem gain8_apply (g : FVec Ideal S128 .f32) (i : Fin 8) (d : Fin 128) (h : 128 * i.val + d.val < 1024) :
    gain8 g (ix1 ⟨128 * i.val + d.val, h⟩) = g (ix1 d) := by
  have := i.isLt; have := d.isLt
  unfold gain8
  rw [shapeCast_apply _ _ (ix1 ⟨128 * i.val + d.val, h⟩) (ix2 i d) (by
    rw [Shape.rowMajor_val_one, Shape.rowMajor_val_two]
    show i.val * 128 + d.val = 128 * i.val + d.val
    omega)]
  pointwise

/-- Nine pieces of gains, joined. -/
def gjoin (a0 a1 a2 a3 a4 a5 : FVec Ideal S1536 .f32) (a6 a7 a8 : FVec Ideal S1024 .f32) : FVec Ideal S12288 .f32 :=
  concatenate S12288 0 [⟨S1536, a0⟩, ⟨S1536, a1⟩, ⟨S1536, a2⟩, ⟨S1536, a3⟩, ⟨S1536, a4⟩, ⟨S1536, a5⟩, ⟨S1024, a6⟩, ⟨S1024, a7⟩, ⟨S1024, a8⟩]
    concatenates_S1536_S1536_S1536_S1536_S1536_S1536_S1024_S1024_S1024_S12288_d0

/-- The gains' row. -/
def gcat (g0 g1 g2 g3 g4 g5 : FVec Ideal S128 .f32) : FVec Ideal S1x12288 .f32 :=
  shapeCast S1x12288 (gjoin (gain12 g0) (gain12 g1) ones12 (gain12 g2) (gain12 g3) ones12 (gain8 g4) (gain8 g5) ones8) shapeCasts_S12288_S1x12288

theorem gcat_flat (g0 g1 g2 g3 g4 g5 : FVec Ideal S128 .f32) (j : Fin 12288) :
    gcat g0 g1 g2 g3 g4 g5 (ix2 0 j) = gjoin (gain12 g0) (gain12 g1) ones12 (gain12 g2) (gain12 g3) ones12 (gain8 g4) (gain8 g5) ones8 (ix1 j) := by
  unfold gcat
  rw [shapeCast_apply _ _ (ix2 0 j) (ix1 j) (by
    rw [Shape.rowMajor_val_one, Shape.rowMajor_val_two]
    show j.val = 0 * 12288 + j.val
    omega)]

variable (a0 a1 a2 a3 a4 a5 : FVec Ideal S1536 .f32) (a6 a7 a8 : FVec Ideal S1024 .f32)

theorem gjoin_0 (j : Fin 1536) : gjoin a0 a1 a2 a3 a4 a5 a6 a7 a8 (ix1 ⟨0 + j.val, by have := j.isLt; omega⟩) = a0 (ix1 j) := by
  have := j.isLt
  unfold gjoin
  pointwise

theorem gjoin_1 (j : Fin 1536) : gjoin a0 a1 a2 a3 a4 a5 a6 a7 a8 (ix1 ⟨1536 + j.val, by have := j.isLt; omega⟩) = a1 (ix1 j) := by
  have := j.isLt
  unfold gjoin
  pointwise

theorem gjoin_3 (j : Fin 1536) : gjoin a0 a1 a2 a3 a4 a5 a6 a7 a8 (ix1 ⟨4608 + j.val, by have := j.isLt; omega⟩) = a3 (ix1 j) := by
  have := j.isLt
  unfold gjoin
  pointwise
  rw [dif_neg (by omega), dif_neg (by omega), dif_neg (by omega), dif_pos (by omega)]
  exact congrArg (fun q => a3 (ix1 q)) (Fin.ext (by show 4608 + j.val - 1536 - 1536 - 1536 = j.val; omega))

theorem gjoin_4 (j : Fin 1536) : gjoin a0 a1 a2 a3 a4 a5 a6 a7 a8 (ix1 ⟨6144 + j.val, by have := j.isLt; omega⟩) = a4 (ix1 j) := by
  have := j.isLt
  unfold gjoin
  pointwise
  rw [dif_neg (by omega), dif_neg (by omega), dif_neg (by omega), dif_neg (by omega), dif_pos (by omega)]
  exact congrArg (fun q => a4 (ix1 q)) (Fin.ext (by show 6144 + j.val - 1536 - 1536 - 1536 - 1536 = j.val; omega))

theorem gjoin_6 (j : Fin 1024) : gjoin a0 a1 a2 a3 a4 a5 a6 a7 a8 (ix1 ⟨9216 + j.val, by have := j.isLt; omega⟩) = a6 (ix1 j) := by
  have := j.isLt
  unfold gjoin
  pointwise
  rw [dif_neg (by omega), dif_neg (by omega), dif_neg (by omega), dif_neg (by omega), dif_neg (by omega), dif_neg (by omega), dif_pos (by omega)]
  exact congrArg (fun q => a6 (ix1 q)) (Fin.ext (by show 9216 + j.val - 1536 - 1536 - 1536 - 1536 - 1536 - 1536 = j.val; omega))

theorem gjoin_7 (j : Fin 1024) : gjoin a0 a1 a2 a3 a4 a5 a6 a7 a8 (ix1 ⟨10240 + j.val, by have := j.isLt; omega⟩) = a7 (ix1 j) := by
  have := j.isLt
  unfold gjoin
  pointwise
  rw [dif_neg (by omega), dif_neg (by omega), dif_neg (by omega), dif_neg (by omega), dif_neg (by omega), dif_neg (by omega), dif_neg (by omega), dif_pos (by omega)]
  exact congrArg (fun q => a7 (ix1 q)) (Fin.ext (by show 10240 + j.val - 1536 - 1536 - 1536 - 1536 - 1536 - 1536 - 1024 = j.val; omega))

/-- The tables over a head's whole width. -/
def ctab (c : FVec Ideal S4096x64 .f32) : FVec Ideal S4096x128 .f32 :=
  concatenate S4096x128 1 [⟨S4096x64, c⟩, ⟨S4096x64, c⟩] concatenates_S4096x64_S4096x64_S4096x128_d1
def stab (t : FVec Ideal S4096x64 .f32) : FVec Ideal S4096x128 .f32 :=
  concatenate S4096x128 1 [⟨S4096x64, Host.negf t⟩, ⟨S4096x64, t⟩] concatenates_S4096x64_S4096x64_S4096x128_d1

theorem tab_lo (a b : FVec Ideal S4096x64 .f32) (s : Fin 4096) (d : Fin 64) :
    concatenate S4096x128 1 [⟨S4096x64, a⟩, ⟨S4096x64, b⟩] concatenates_S4096x64_S4096x64_S4096x128_d1 (ix2 s ⟨d.val, by have := d.isLt; omega⟩) = a (ix2 s d) := by
  have := d.isLt
  pointwise

theorem tab_hi (a b : FVec Ideal S4096x64 .f32) (s : Fin 4096) (d : Fin 64) :
    concatenate S4096x128 1 [⟨S4096x64, a⟩, ⟨S4096x64, b⟩] concatenates_S4096x64_S4096x64_S4096x128_d1 (ix2 s ⟨64 + d.val, by have := d.isLt; omega⟩) = b (ix2 s d) := by
  have := d.isLt
  pointwise

theorem ctab_apply (c : FVec Ideal S4096x64 .f32) (s : Fin 4096) (d : Fin 128) : ctab c (ix2 s d) = cosF c s d := by
  have hd := d.isLt
  unfold cosF ctab
  by_cases h : d.val < 64
  · rw [show (⟨d.val % 64, Nat.mod_lt _ (by decide)⟩ : Fin 64) = ⟨d.val, h⟩ from Fin.ext (by show d.val % 64 = d.val; omega)]
    exact tab_lo c c s ⟨d.val, h⟩
  · rw [show (⟨d.val % 64, Nat.mod_lt _ (by decide)⟩ : Fin 64) = ⟨d.val - 64, by omega⟩ from Fin.ext (by show d.val % 64 = d.val - 64; omega)]
    have e := tab_hi c c s ⟨d.val - 64, by omega⟩
    have e3 : d = ⟨64 + (d.val - 64), by omega⟩ := Fin.ext (by show d.val = 64 + (d.val - 64); omega)
    dsimp only at e
    rw [← e3] at e
    exact e

theorem stab_apply (t : FVec Ideal S4096x64 .f32) (s : Fin 4096) (d : Fin 128) : stab t (ix2 s d) = sinF t s d := by
  have hd := d.isLt
  unfold sinF stab
  by_cases h : d.val < 64
  · rw [if_pos h, show (⟨d.val % 64, Nat.mod_lt _ (by decide)⟩ : Fin 64) = ⟨d.val, h⟩ from Fin.ext (by show d.val % 64 = d.val; omega)]
    exact tab_lo (Host.negf t) t s ⟨d.val, h⟩
  · rw [if_neg h, show (⟨d.val % 64, Nat.mod_lt _ (by decide)⟩ : Fin 64) = ⟨d.val - 64, by omega⟩ from Fin.ext (by show d.val % 64 = d.val - 64; omega)]
    have e := tab_hi (Host.negf t) t s ⟨d.val - 64, by omega⟩
    have e3 : d = ⟨64 + (d.val - 64), by omega⟩ := Fin.ext (by show d.val = 64 + (d.val - 64); omega)
    dsimp only at e
    rw [← e3] at e
    exact e

variable (m : (ℓ : Loc nD τ sig) → Buf (Elt Ideal) ℓ)

/-- The arguments. -/
abbrev Ha (c : Dev nD) : FVec Ideal S2x4096x4096 .f32 := m ((c.tc : Thread nD τ).loc main_arg0)
abbrev Wa (c : Dev nD) : FVec Ideal S4096x12300 .f32 := m ((c.tc : Thread nD τ).loc main_arg1)
abbrev G0 (c : Dev nD) : FVec Ideal S128 .f32 := m ((c.tc : Thread nD τ).loc main_arg2)
abbrev G1 (c : Dev nD) : FVec Ideal S128 .f32 := m ((c.tc : Thread nD τ).loc main_arg3)
abbrev G2 (c : Dev nD) : FVec Ideal S128 .f32 := m ((c.tc : Thread nD τ).loc main_arg4)
abbrev G3 (c : Dev nD) : FVec Ideal S128 .f32 := m ((c.tc : Thread nD τ).loc main_arg5)
abbrev G4 (c : Dev nD) : FVec Ideal S128 .f32 := m ((c.tc : Thread nD τ).loc main_arg6)
abbrev G5 (c : Dev nD) : FVec Ideal S128 .f32 := m ((c.tc : Thread nD τ).loc main_arg7)
abbrev Ca (c : Dev nD) : FVec Ideal S4096x64 .f32 := m ((c.tc : Thread nD τ).loc main_arg8)
abbrev Ta (c : Dev nD) : FVec Ideal S4096x64 .f32 := m ((c.tc : Thread nD τ).loc main_arg9)

theorem V_h (c : Dev nD) : V m c main_v22 = hflat (Ha m c) := by
  simp only [V, hostOps0]; after_results
  rfl

theorem V_w (c : Dev nD) : V m c main_v24 = wcat (Wa m c) := by
  simp only [V, hostOps0]; after_results
  rfl

theorem V_g (c : Dev nD) : V m c main_v25 = gcat (G0 m c) (G1 m c) (G2 m c) (G3 m c) (G4 m c) (G5 m c) := by
  simp only [V, hostOps0]; after_results
  rfl

theorem V_c (c : Dev nD) : V m c main_v26 = ctab (Ca m c) := by
  simp only [V, hostOps0]; after_results
  rfl

theorem V_s (c : Dev nD) : V m c main_v28 = stab (Ta m c) := by
  simp only [V, hostOps0]; after_results
  rfl

end Cert.InProjIdeal.In

end
-- ==== Proof.InProjValue.lean ====
/- The input projection's call: what it leaves is the reference's array. -/
module

public import proofs.«01_k».proof.Proof.InProjIn

@[expose] public section

set_option maxRecDepth 16384

noncomputable section

namespace Cert.InProjIdeal.In

open Cert.InProjIdeal Cert.InProjIdeal.Gen
open Cert.InProjRefIdeal.In (cosF sinF headN headR prod pieces)
open Idealize.ShloMosaic Idealize.ShloMosaic.TcCoe Idealize.SL.Sem Idealize.ShloMosaic.Pipeline

/-- A head of a normed block, from the products and the gains. -/
theorem norm_at (X W : FVec Ideal S1024x4096 .bf16) (G : FVec Ideal S1x1024 .f32) (p : FVec Ideal Cert.InProjRefIdeal.S2x4096x12300 .f32) (g : FVec Ideal S128 .f32)
    (b : Fin 2) (s : Fin 4096) (O : ℕ) (hO : O + 128 ≤ 12300) (r : Fin 1024) (q : ℕ) (hq : q < 8)
    (hP : ∀ k : Fin 128, plainB X W (ix2 r ⟨128 * q + k.val, by have := k.isLt; omega⟩) = p (ix3 b s ⟨O + k.val, by have := k.isLt; omega⟩))
    (hG : ∀ k : Fin 128, G (ix2 0 ⟨128 * q + k.val, by have := k.isLt; omega⟩) = g (ix1 k)) (e : Fin 128) :
    normB X W G (ix2 r ⟨128 * q + e.val, by have := e.isLt; omega⟩) = headN p g b s O hO e := by
  have he := e.isLt
  have h1 : (fun k : Fin 128 => plainB X W (ix2 r ⟨128 * ((128 * q + e.val) / 128) + k.val, by have := k.isLt; omega⟩)) = fun k : Fin 128 => p (ix3 b s ⟨O + k.val, by have := k.isLt; omega⟩) :=
    funext fun k => (congrArg (fun z => plainB X W (ix2 r z)) (Fin.ext (by show 128 * ((128 * q + e.val) / 128) + k.val = 128 * q + k.val; omega))).trans (hP k)
  have h2 : (⟨(128 * q + e.val) % 128, Nat.mod_lt _ (by decide)⟩ : Fin 128) = e := Fin.ext (by show (128 * q + e.val) % 128 = e.val; omega)
  exact congr (congr (congrArg nrm h1) (hG e)) h2

/-- A head of a rotated block, from the normed head and the tables. -/
theorem rot_at (N : FVec Ideal S1024x1024 .bf16) (C S : FVec Ideal S1024x128 .f32) (p : FVec Ideal Cert.InProjRefIdeal.S2x4096x12300 .f32) (g : FVec Ideal S128 .f32)
    (ct st : FVec Ideal S4096x64 .f32) (b : Fin 2) (s : Fin 4096) (O : ℕ) (hO : O + 128 ≤ 12300) (r : Fin 1024) (q : ℕ) (hq : q < 8)
    (hN : ∀ e : Fin 128, N (ix2 r ⟨128 * q + e.val, by have := e.isLt; omega⟩) = headN p g b s O hO e)
    (hC : ∀ e : Fin 128, C (ix2 r e) = cosF ct s e) (hS : ∀ e : Fin 128, S (ix2 r e) = sinF st s e) (e : Fin 128) :
    rotB N C S (ix2 r ⟨128 * q + e.val, by have := e.isLt; omega⟩) = headR p g ct st b s O hO e := by
  have he := e.isLt
  have h2 : (⟨(128 * q + e.val) % 128, Nat.mod_lt _ (by decide)⟩ : Fin 128) = e := Fin.ext (by show (128 * q + e.val) % 128 = e.val; omega)
  have h3 : N (ix2 r ⟨128 * ((128 * q + e.val) / 128) + ((128 * q + e.val) % 128 + 128 - 64) % 128, by omega⟩)
      = headN p g b s O hO ⟨(e.val + 128 - 64) % 128, Nat.mod_lt _ (by decide)⟩ :=
    (congrArg (fun z => N (ix2 r z)) (Fin.ext (by
      show 128 * ((128 * q + e.val) / 128) + ((128 * q + e.val) % 128 + 128 - 64) % 128 = 128 * q + (e.val + 128 - 64) % 128
      omega))).trans (hN ⟨(e.val + 128 - 64) % 128, Nat.mod_lt _ (by decide)⟩)
  refine congrArg₂ (fun p q : EReal => p + q) ?_ ?_
  · exact congrArg₂ (fun p q : EReal => p * q) (hN e) ((congrArg (fun z => C (ix2 r z)) h2).trans (hC e))
  · exact congrArg₂ (fun p q : EReal => p * q) h3 ((congrArg (fun z => S (ix2 r z)) h2).trans (hS e))

variable (m : (ℓ : Loc nD τ sig) → Buf (Elt Ideal) ℓ)

/-- Where the windows are at a grid point. -/
theorem idx_facts : ∀ t : Fin cfg0.N,
    win0_0.index t (0 : Fin 2) = t.val / 12 ∧ win0_0.index t (1 : Fin 2) = 0
    ∧ win0_1.index t (0 : Fin 2) = t.val % 12 ∧ win0_1.index t (1 : Fin 2) = 0
    ∧ win0_2.index t (0 : Fin 2) = 0 ∧ win0_2.index t (1 : Fin 2) = t.val % 12
    ∧ win0_3.index t (0 : Fin 2) = t.val / 12 % 4 ∧ win0_3.index t (1 : Fin 2) = 0
    ∧ win0_4.index t (0 : Fin 2) = t.val / 12 % 4 ∧ win0_4.index t (1 : Fin 2) = 0
    ∧ win0_5.index t (0 : Fin 2) = t.val / 12 ∧ win0_5.index t (1 : Fin 2) = t.val % 12 :=
  (by decide +kernel : ∀ t : Fin grid0.N, _)

theorem iblk_h (c : Dev nD) (t : Fin cfg0.N) (r : Fin 1024) (k : Fin 4096) (b : Fin 2) (s : Fin 4096) (hR : 1024 * (t.val / 12) + r.val = 4096 * b.val + s.val) :
    iblk m c 0 t (ix2 r k) = Ha m c (ix3 b s k) := by
  obtain ⟨h0, h1, -⟩ := idx_facts t
  have hb := b.isLt; have hs := s.isLt
  have ee : (win0_0.rect t).emb (ix2 r k) = ix2 ⟨4096 * b.val + s.val, by omega⟩ k := by
    funext a
    apply Fin.ext
    rw [win0_0.rect_emb_val t (ix2 r k) a]
    match a with
    | 0 => show win0_0.index t (0 : Fin 2) * 1024 + r.val = 4096 * b.val + s.val; rw [h0]; omega
    | 1 => show win0_0.index t (1 : Fin 2) * 4096 + k.val = k.val; rw [h1]; omega
  show V m c main_v22 ((win0_0.rect t).emb (ix2 r k)) = _
  rw [ee, V_h]
  exact hflat_apply (Ha m c) b s k _

theorem X_w (c : Dev nD) (t : Fin cfg0.N) (s : Fin 1024) (k : Fin 4096) (J : ℕ) (hJ : J < 12544) (hs : 1024 * (t.val % 12) + s.val = J) :
    X0_1 m c t (ix2 s k) = wcat (Wa m c) (ix2 ⟨J, hJ⟩ k) := by
  obtain ⟨-, -, h0, h1, -⟩ := idx_facts t
  unfold X0_1 Pipeline.Window.fill
  rw [dif_pos (moved0_1 t (ix2 s k))]
  show V m c main_v24 ((win0_1.rect t).emb _) = _
  rw [V_w]
  refine congrArg (wcat (Wa m c)) ?_
  funext a
  apply Fin.ext
  rw [win0_1.rect_emb_val t _ a]
  match a with
  | 0 => show win0_1.index t (0 : Fin 2) * 1024 + s.val = J; rw [h0]; omega
  | 1 => show win0_1.index t (1 : Fin 2) * 4096 + k.val = k.val; rw [h1]; omega

/-- The gains' row. -/
abbrev Ga (c : Dev nD) : FVec Ideal S1x12288 .f32 := gcat (G0 m c) (G1 m c) (G2 m c) (G3 m c) (G4 m c) (G5 m c)

theorem iblk_g (c : Dev nD) (t : Fin cfg0.N) (s : Fin 1024) (J : ℕ) (hJ : J < 12288) (hs : 1024 * (t.val % 12) + s.val = J) :
    iblk m c 2 t (ix2 0 s) = Ga m c (ix2 0 ⟨J, hJ⟩) := by
  obtain ⟨-, -, -, -, h0, h1, -⟩ := idx_facts t
  have ee : (win0_2.rect t).emb (ix2 0 s) = ix2 0 ⟨J, hJ⟩ := by
    funext a
    apply Fin.ext
    rw [win0_2.rect_emb_val t (ix2 0 s) a]
    match a with
    | 0 => show win0_2.index t (0 : Fin 2) * 1 + 0 = 0; rw [h0]
    | 1 => show win0_2.index t (1 : Fin 2) * 1024 + s.val = J; rw [h1]; omega
  show V m c main_v25 ((win0_2.rect t).emb (ix2 0 s)) = _
  rw [ee, V_g]

theorem iblk_c (c : Dev nD) (t : Fin cfg0.N) (r : Fin 1024) (d : Fin 128) (b : Fin 2) (s : Fin 4096) (hR : 1024 * (t.val / 12) + r.val = 4096 * b.val + s.val) :
    iblk m c 3 t (ix2 r d) = cosF (Ca m c) s d := by
  obtain ⟨-, -, -, -, -, -, h0, h1, -⟩ := idx_facts t
  have hb := b.isLt; have hs := s.isLt; have hr := r.isLt
  have ee : (win0_3.rect t).emb (ix2 r d) = ix2 s d := by
    funext a
    apply Fin.ext
    rw [win0_3.rect_emb_val t (ix2 r d) a]
    match a with
    | 0 => show win0_3.index t (0 : Fin 2) * 1024 + r.val = s.val; rw [h0]; omega
    | 1 => show win0_3.index t (1 : Fin 2) * 128 + d.val = d.val; rw [h1]; omega
  show V m c main_v26 ((win0_3.rect t).emb (ix2 r d)) = _
  rw [ee, V_c]
  exact ctab_apply _ s d

theorem iblk_s (c : Dev nD) (t : Fin cfg0.N) (r : Fin 1024) (d : Fin 128) (b : Fin 2) (s : Fin 4096) (hR : 1024 * (t.val / 12) + r.val = 4096 * b.val + s.val) :
    iblk m c 4 t (ix2 r d) = sinF (Ta m c) s d := by
  obtain ⟨-, -, -, -, -, -, -, -, h0, h1, -⟩ := idx_facts t
  have hb := b.isLt; have hs := s.isLt; have hr := r.isLt
  have ee : (win0_4.rect t).emb (ix2 r d) = ix2 s d := by
    funext a
    apply Fin.ext
    rw [win0_4.rect_emb_val t (ix2 r d) a]
    match a with
    | 0 => show win0_4.index t (0 : Fin 2) * 1024 + r.val = s.val; rw [h0]; omega
    | 1 => show win0_4.index t (1 : Fin 2) * 128 + d.val = d.val; rw [h1]; omega
  show V m c main_v28 ((win0_4.rect t).emb (ix2 r d)) = _
  rw [ee, V_s]
  exact stab_apply _ s d

/-- The whole product. -/
abbrev Pa (c : Dev nD) : FVec Ideal Cert.InProjRefIdeal.S2x4096x12300 .f32 := prod (Ha m c) (Wa m c)

/-- A block's product is the whole product's. -/
theorem blk_plain (c : Dev nD) (t : Fin cfg0.N) (r : Fin 1024) (b : Fin 2) (s' : Fin 4096) (hR : 1024 * (t.val / 12) + r.val = 4096 * b.val + s'.val)
    (s : Fin 1024) (o : ℕ) (ho : o < 12300)
    (hJ : (1024 * (t.val % 12) + s.val < 9216 ∧ o = 1024 * (t.val % 12) + s.val) ∨ (9216 ≤ 1024 * (t.val % 12) + s.val ∧ o = 1024 * (t.val % 12) + s.val + 12)) :
    plainB (iblk m c 0 t) (X0_1 m c t) (ix2 r s) = Pa m c (ix3 b s' ⟨o, ho⟩) := by
  have hs := s.isLt
  refine Eq.trans ?_ (Cert.InProjRefIdeal.In.prod_apply (Ha m c) (Wa m c) b s' ⟨o, ho⟩).symm
  refine Finset.sum_congr rfl fun k _ => congrArg₂ (fun p q : EReal => p * q) (iblk_h m c t r k b s' hR) ?_
  obtain ⟨h, e⟩ | ⟨h, e⟩ := hJ
  · exact (X_w m c t s k o (by omega) e.symm).trans (wcat_low (Wa m c) ⟨o, by omega⟩ k)
  · refine (X_w m c t s k (9216 + (o - 9228)) (by omega) (by omega)).trans ((wcat_high (Wa m c) ⟨o - 9228, by omega⟩ k).trans ?_)
    exact congrArg (fun z => Wa m c (ix2 k z)) (Fin.ext (by show 9228 + (o - 9228) = o; omega))

/-- A block's normed head is the whole product's. -/
theorem blk_norm (c : Dev nD) (t : Fin cfg0.N) (r : Fin 1024) (b : Fin 2) (s' : Fin 4096) (hR : 1024 * (t.val / 12) + r.val = 4096 * b.val + s'.val)
    (q : ℕ) (hq : q < 8) (O : ℕ) (hO : O + 128 ≤ 12300)
    (hJ : (1024 * (t.val % 12) + 128 * q < 9216 ∧ O = 1024 * (t.val % 12) + 128 * q) ∨ (9216 ≤ 1024 * (t.val % 12) + 128 * q ∧ O = 1024 * (t.val % 12) + 128 * q + 12))
    (F : ℕ) (hF : F + 128 ≤ 12288) (hF' : F = 1024 * (t.val % 12) + 128 * q) (g : FVec Ideal S128 .f32)
    (hg : ∀ e : Fin 128, Ga m c (ix2 0 ⟨F + e.val, by have := e.isLt; omega⟩) = g (ix1 e)) (e : Fin 128) :
    normB (iblk m c 0 t) (X0_1 m c t) (iblk m c 2 t) (ix2 r ⟨128 * q + e.val, by have := e.isLt; omega⟩) = headN (Pa m c) g b s' O hO e := by
  refine norm_at _ _ _ (Pa m c) g b s' O hO r q hq (fun k => ?_) (fun k => ?_) e
  · have hk := k.isLt
    exact blk_plain m c t r b s' hR _ (O + k.val) _ (by dsimp only; omega)
  · have hk := k.isLt
    exact (iblk_g m c t _ (F + k.val) (by omega) (by dsimp only; omega)).trans (hg k)

/-- A block's rotated head is the whole product's. -/
theorem blk_rot (c : Dev nD) (t : Fin cfg0.N) (r : Fin 1024) (b : Fin 2) (s' : Fin 4096) (hR : 1024 * (t.val / 12) + r.val = 4096 * b.val + s'.val)
    (q : ℕ) (hq : q < 8) (O : ℕ) (hO : O + 128 ≤ 12300)
    (hJ : (1024 * (t.val % 12) + 128 * q < 9216 ∧ O = 1024 * (t.val % 12) + 128 * q) ∨ (9216 ≤ 1024 * (t.val % 12) + 128 * q ∧ O = 1024 * (t.val % 12) + 128 * q + 12))
    (F : ℕ) (hF : F + 128 ≤ 12288) (hF' : F = 1024 * (t.val % 12) + 128 * q) (g : FVec Ideal S128 .f32)
    (hg : ∀ e : Fin 128, Ga m c (ix2 0 ⟨F + e.val, by have := e.isLt; omega⟩) = g (ix1 e)) (e : Fin 128) :
    rotB (normB (iblk m c 0 t) (X0_1 m c t) (iblk m c 2 t)) (iblk m c 3 t) (iblk m c 4 t) (ix2 r ⟨128 * q + e.val, by have := e.isLt; omega⟩)
      = headR (Pa m c) g (Ca m c) (Ta m c) b s' O hO e :=
  rot_at _ _ _ (Pa m c) g (Ca m c) (Ta m c) b s' O hO r q hq (blk_norm m c t r b s' hR q hq O hO hJ F hF hF' g hg)
    (fun d => iblk_c m c t r d b s' hR) (fun d => iblk_s m c t r d b s' hR) e

/-- What a point leaves, where its columns are rotated heads. -/
theorem outs_rot (c : Dev nD) (t : Fin cfg0.N) (h : t.val % 12 ≤ 2 ∨ t.val % 12 = 9 ∨ t.val % 12 = 10) (y : S1024x1024.Idx) :
    outsAt0 m c t.val t.isLt y = rotB (normB (iblk m c 0 t) (X0_1 m c t) (iblk m c 2 t)) (iblk m c 3 t) (iblk m c 4 t) y := by
  have e := outsAt0_A m c t (by omega) (by omega) (by omega) (by omega) (by omega) (by omega) (by omega) (by omega)
  rw [out_A_eq] at e
  exact congrFun e y

/-- What a point leaves, where its columns are products. -/
theorem outs_plain (c : Dev nD) (t : Fin cfg0.N) (y : S1024x1024.Idx)
    (h : t.val % 12 = 3 ∨ t.val % 12 = 8 ∨ t.val % 12 = 11 ∨ (t.val % 12 = 4 ∧ (y 1).val < 512) ∨ (t.val % 12 = 7 ∧ 512 ≤ (y 1).val)) :
    outsAt0 m c t.val t.isLt y = plainB (iblk m c 0 t) (X0_1 m c t) y := by
  by_cases h4 : t.val % 12 = 4
  · have e := outsAt0_C m c t (by omega) (by omega) (by omega) (by omega) (by omega) (by omega) (by omega) (by omega)
    rw [out_C_eq] at e
    exact (congrFun e y).trans (if_pos (by omega))
  by_cases h7 : t.val % 12 = 7
  · have e := outsAt0_E m c t (by omega) (by omega) (by omega) (by omega) (by omega) (by omega) (by omega) (by omega)
    rw [out_E_eq] at e
    exact (congrFun e y).trans (if_neg (by omega))
  · have e := outsAt0_B m c t (by omega) (by omega) (by omega) (by omega) (by omega) (by omega) (by omega) (by omega)
    rw [out_B_eq] at e
    exact congrFun e y

/-- What a point leaves, where its columns are normed heads. -/
theorem outs_norm (c : Dev nD) (t : Fin cfg0.N) (y : S1024x1024.Idx)
    (h : t.val % 12 = 5 ∨ t.val % 12 = 6 ∨ (t.val % 12 = 4 ∧ 512 ≤ (y 1).val) ∨ (t.val % 12 = 7 ∧ (y 1).val < 512)) :
    outsAt0 m c t.val t.isLt y = normB (iblk m c 0 t) (X0_1 m c t) (iblk m c 2 t) y := by
  by_cases h4 : t.val % 12 = 4
  · have e := outsAt0_C m c t (by omega) (by omega) (by omega) (by omega) (by omega) (by omega) (by omega) (by omega)
    rw [out_C_eq] at e
    exact (congrFun e y).trans (if_neg (by omega))
  by_cases h7 : t.val % 12 = 7
  · have e := outsAt0_E m c t (by omega) (by omega) (by omega) (by omega) (by omega) (by omega) (by omega) (by omega)
    rw [out_E_eq] at e
    exact (congrFun e y).trans (if_pos (by omega))
  · have e := outsAt0_D m c t (by omega) (by omega) (by omega) (by omega) (by omega) (by omega) (by omega) (by omega)
    rw [out_D_eq] at e
    exact congrFun e y

/-- What the run leaves in the result. -/
abbrev Ya (c : Dev nD) : FVec Ideal S8192x12288 .bf16 :=
  Cert.InProjRefIdeal.In.whole (Ha m c) (Wa m c) (G0 m c) (G1 m c) (G2 m c) (G3 m c) (G4 m c) (G5 m c) (Ca m c) (Ta m c)

theorem seg_qm (c : Dev nD) (t : Fin cfg0.N) (r : Fin 1024) (b : Fin 2) (s' : Fin 4096) (hR : 1024 * (t.val / 12) + r.val = 4096 * b.val + s'.val)
    (q : ℕ) (hq : q < 8) (e : Fin 128) (i : Fin 12) (hi : 1024 * (t.val % 12) + 128 * q = 0 + 128 * i.val) :
    outsAt0 m c t.val t.isLt (ix2 r ⟨128 * q + e.val, by have := e.isLt; omega⟩)
      = Ya m c (ix2 ⟨4096 * b.val + s'.val, by have := b.isLt; have := s'.isLt; omega⟩ ⟨0 + (128 * i.val + e.val), by have := i.isLt; have := e.isLt; omega⟩) := by
  have hi' := i.isLt
  have he := e.isLt
  have hg : ∀ k : Fin 128, Ga m c (ix2 0 ⟨0 + 128 * i.val + k.val, by have := k.isLt; omega⟩) = G0 m c (ix1 k) := fun k => by
    have hk := k.isLt
    rw [show (⟨0 + 128 * i.val + k.val, by omega⟩ : Fin 12288) = ⟨0 + (128 * i.val + k.val), by omega⟩ from Fin.ext (by show 0 + 128 * i.val + k.val = 0 + (128 * i.val + k.val); omega)]
    exact (gcat_flat _ _ _ _ _ _ _).trans ((gjoin_0 _ _ _ _ _ _ _ _ _ (⟨128 * i.val + k.val, by omega⟩ : Fin 1536)).trans (gain12_apply _ i k (by omega)))
  exact (outs_rot m c t (by omega) _).trans ((blk_rot m c t r b s' hR q hq (0 + 128 * i.val) (by omega) (by omega) (0 + 128 * i.val) (by omega) (by omega) (G0 m c) hg e).trans
    (Cert.InProjRefIdeal.In.pieces_qm (Pa m c) (G0 m c) (G1 m c) (G2 m c) (G3 m c) (G4 m c) (G5 m c) (Ca m c) (Ta m c) b s' i e _).symm)

theorem seg_km (c : Dev nD) (t : Fin cfg0.N) (r : Fin 1024) (b : Fin 2) (s' : Fin 4096) (hR : 1024 * (t.val / 12) + r.val = 4096 * b.val + s'.val)
    (q : ℕ) (hq : q < 8) (e : Fin 128) (i : Fin 12) (hi : 1024 * (t.val % 12) + 128 * q = 1536 + 128 * i.val) :
    outsAt0 m c t.val t.isLt (ix2 r ⟨128 * q + e.val, by have := e.isLt; omega⟩)
      = Ya m c (ix2 ⟨4096 * b.val + s'.val, by have := b.isLt; have := s'.isLt; omega⟩ ⟨1536 + (128 * i.val + e.val), by have := i.isLt; have := e.isLt; omega⟩) := by
  have hi' := i.isLt
  have he := e.isLt
  have hg : ∀ k : Fin 128, Ga m c (ix2 0 ⟨1536 + 128 * i.val + k.val, by have := k.isLt; omega⟩) = G1 m c (ix1 k) := fun k => by
    have hk := k.isLt
    rw [show (⟨1536 + 128 * i.val + k.val, by omega⟩ : Fin 12288) = ⟨1536 + (128 * i.val + k.val), by omega⟩ from Fin.ext (by show 1536 + 128 * i.val + k.val = 1536 + (128 * i.val + k.val); omega)]
    exact (gcat_flat _ _ _ _ _ _ _).trans ((gjoin_1 _ _ _ _ _ _ _ _ _ (⟨128 * i.val + k.val, by omega⟩ : Fin 1536)).trans (gain12_apply _ i k (by omega)))
  exact (outs_rot m c t (by omega) _).trans ((blk_rot m c t r b s' hR q hq (1536 + 128 * i.val) (by omega) (by omega) (1536 + 128 * i.val) (by omega) (by omega) (G1 m c) hg e).trans
    (Cert.InProjRefIdeal.In.pieces_km (Pa m c) (G0 m c) (G1 m c) (G2 m c) (G3 m c) (G4 m c) (G5 m c) (Ca m c) (Ta m c) b s' i e _).symm)

theorem seg_qf (c : Dev nD) (t : Fin cfg0.N) (r : Fin 1024) (b : Fin 2) (s' : Fin 4096) (hR : 1024 * (t.val / 12) + r.val = 4096 * b.val + s'.val)
    (q : ℕ) (hq : q < 8) (e : Fin 128) (i : Fin 12) (hi : 1024 * (t.val % 12) + 128 * q = 4608 + 128 * i.val) :
    outsAt0 m c t.val t.isLt (ix2 r ⟨128 * q + e.val, by have := e.isLt; omega⟩)
      = Ya m c (ix2 ⟨4096 * b.val + s'.val, by have := b.isLt; have := s'.isLt; omega⟩ ⟨4608 + (128 * i.val + e.val), by have := i.isLt; have := e.isLt; omega⟩) := by
  have hi' := i.isLt
  have he := e.isLt
  have hg : ∀ k : Fin 128, Ga m c (ix2 0 ⟨4608 + 128 * i.val + k.val, by have := k.isLt; omega⟩) = G2 m c (ix1 k) := fun k => by
    have hk := k.isLt
    rw [show (⟨4608 + 128 * i.val + k.val, by omega⟩ : Fin 12288) = ⟨4608 + (128 * i.val + k.val), by omega⟩ from Fin.ext (by show 4608 + 128 * i.val + k.val = 4608 + (128 * i.val + k.val); omega)]
    exact (gcat_flat _ _ _ _ _ _ _).trans ((gjoin_3 _ _ _ _ _ _ _ _ _ (⟨128 * i.val + k.val, by omega⟩ : Fin 1536)).trans (gain12_apply _ i k (by omega)))
  exact (outs_norm m c t (ix2 r ⟨128 * q + e.val, by omega⟩) (by show t.val % 12 = 5 ∨ t.val % 12 = 6 ∨ (t.val % 12 = 4 ∧ 512 ≤ 128 * q + e.val) ∨ (t.val % 12 = 7 ∧ 128 * q + e.val < 512); omega)).trans ((blk_norm m c t r b s' hR q hq (4608 + 128 * i.val) (by omega) (by omega) (4608 + 128 * i.val) (by omega) (by omega) (G2 m c) hg e).trans
    (Cert.InProjRefIdeal.In.pieces_qf (Pa m c) (G0 m c) (G1 m c) (G2 m c) (G3 m c) (G4 m c) (G5 m c) (Ca m c) (Ta m c) b s' i e _).symm)

theorem seg_kf (c : Dev nD) (t : Fin cfg0.N) (r : Fin 1024) (b : Fin 2) (s' : Fin 4096) (hR : 1024 * (t.val / 12) + r.val = 4096 * b.val + s'.val)
    (q : ℕ) (hq : q < 8) (e : Fin 128) (i : Fin 12) (hi : 1024 * (t.val % 12) + 128 * q = 6144 + 128 * i.val) :
    outsAt0 m c t.val t.isLt (ix2 r ⟨128 * q + e.val, by have := e.isLt; omega⟩)
      = Ya m c (ix2 ⟨4096 * b.val + s'.val, by have := b.isLt; have := s'.isLt; omega⟩ ⟨6144 + (128 * i.val + e.val), by have := i.isLt; have := e.isLt; omega⟩) := by
  have hi' := i.isLt
  have he := e.isLt
  have hg : ∀ k : Fin 128, Ga m c (ix2 0 ⟨6144 + 128 * i.val + k.val, by have := k.isLt; omega⟩) = G3 m c (ix1 k) := fun k => by
    have hk := k.isLt
    rw [show (⟨6144 + 128 * i.val + k.val, by omega⟩ : Fin 12288) = ⟨6144 + (128 * i.val + k.val), by omega⟩ from Fin.ext (by show 6144 + 128 * i.val + k.val = 6144 + (128 * i.val + k.val); omega)]
    exact (gcat_flat _ _ _ _ _ _ _).trans ((gjoin_4 _ _ _ _ _ _ _ _ _ (⟨128 * i.val + k.val, by omega⟩ : Fin 1536)).trans (gain12_apply _ i k (by omega)))
  exact (outs_norm m c t (ix2 r ⟨128 * q + e.val, by omega⟩) (by show t.val % 12 = 5 ∨ t.val % 12 = 6 ∨ (t.val % 12 = 4 ∧ 512 ≤ 128 * q + e.val) ∨ (t.val % 12 = 7 ∧ 128 * q + e.val < 512); omega)).trans ((blk_norm m c t r b s' hR q hq (6144 + 128 * i.val) (by omega) (by omega) (6144 + 128 * i.val) (by omega) (by omega) (G3 m c) hg e).trans
    (Cert.InProjRefIdeal.In.pieces_kf (Pa m c) (G0 m c) (G1 m c) (G2 m c) (G3 m c) (G4 m c) (G5 m c) (Ca m c) (Ta m c) b s' i e _).symm)

theorem seg_qd (c : Dev nD) (t : Fin cfg0.N) (r : Fin 1024) (b : Fin 2) (s' : Fin 4096) (hR : 1024 * (t.val / 12) + r.val = 4096 * b.val + s'.val)
    (q : ℕ) (hq : q < 8) (e : Fin 128) (i : Fin 8) (hi : 1024 * (t.val % 12) + 128 * q = 9216 + 128 * i.val) :
    outsAt0 m c t.val t.isLt (ix2 r ⟨128 * q + e.val, by have := e.isLt; omega⟩)
      = Ya m c (ix2 ⟨4096 * b.val + s'.val, by have := b.isLt; have := s'.isLt; omega⟩ ⟨9216 + (128 * i.val + e.val), by have := i.isLt; have := e.isLt; omega⟩) := by
  have hi' := i.isLt
  have he := e.isLt
  have hg : ∀ k : Fin 128, Ga m c (ix2 0 ⟨9216 + 128 * i.val + k.val, by have := k.isLt; omega⟩) = G4 m c (ix1 k) := fun k => by
    have hk := k.isLt
    rw [show (⟨9216 + 128 * i.val + k.val, by omega⟩ : Fin 12288) = ⟨9216 + (128 * i.val + k.val), by omega⟩ from Fin.ext (by show 9216 + 128 * i.val + k.val = 9216 + (128 * i.val + k.val); omega)]
    exact (gcat_flat _ _ _ _ _ _ _).trans ((gjoin_6 _ _ _ _ _ _ _ _ _ (⟨128 * i.val + k.val, by omega⟩ : Fin 1024)).trans (gain8_apply _ i k (by omega)))
  exact (outs_rot m c t (by omega) _).trans ((blk_rot m c t r b s' hR q hq (9228 + 128 * i.val) (by omega) (by omega) (9216 + 128 * i.val) (by omega) (by omega) (G4 m c) hg e).trans
    (Cert.InProjRefIdeal.In.pieces_qd (Pa m c) (G0 m c) (G1 m c) (G2 m c) (G3 m c) (G4 m c) (G5 m c) (Ca m c) (Ta m c) b s' i e _).symm)

theorem seg_kd (c : Dev nD) (t : Fin cfg0.N) (r : Fin 1024) (b : Fin 2) (s' : Fin 4096) (hR : 1024 * (t.val / 12) + r.val = 4096 * b.val + s'.val)
    (q : ℕ) (hq : q < 8) (e : Fin 128) (i : Fin 8) (hi : 1024 * (t.val % 12) + 128 * q = 10240 + 128 * i.val) :
    outsAt0 m c t.val t.isLt (ix2 r ⟨128 * q + e.val, by have := e.isLt; omega⟩)
      = Ya m c (ix2 ⟨4096 * b.val + s'.val, by have := b.isLt; have := s'.isLt; omega⟩ ⟨10240 + (128 * i.val + e.val), by have := i.isLt; have := e.isLt; omega⟩) := by
  have hi' := i.isLt
  have he := e.isLt
  have hg : ∀ k : Fin 128, Ga m c (ix2 0 ⟨10240 + 128 * i.val + k.val, by have := k.isLt; omega⟩) = G5 m c (ix1 k) := fun k => by
    have hk := k.isLt
    rw [show (⟨10240 + 128 * i.val + k.val, by omega⟩ : Fin 12288) = ⟨10240 + (128 * i.val + k.val), by omega⟩ from Fin.ext (by show 10240 + 128 * i.val + k.val = 10240 + (128 * i.val + k.val); omega)]
    exact (gcat_flat _ _ _ _ _ _ _).trans ((gjoin_7 _ _ _ _ _ _ _ _ _ (⟨128 * i.val + k.val, by omega⟩ : Fin 1024)).trans (gain8_apply _ i k (by omega)))
  exact (outs_rot m c t (by omega) _).trans ((blk_rot m c t r b s' hR q hq (10252 + 128 * i.val) (by omega) (by omega) (10240 + 128 * i.val) (by omega) (by omega) (G5 m c) hg e).trans
    (Cert.InProjRefIdeal.In.pieces_kd (Pa m c) (G0 m c) (G1 m c) (G2 m c) (G3 m c) (G4 m c) (G5 m c) (Ca m c) (Ta m c) b s' i e _).symm)

theorem seg_vm (c : Dev nD) (t : Fin cfg0.N) (r : Fin 1024) (b : Fin 2) (s' : Fin 4096) (hR : 1024 * (t.val / 12) + r.val = 4096 * b.val + s'.val)
    (s : Fin 1024) (j : Fin 1536) (hj : 1024 * (t.val % 12) + s.val = 3072 + j.val) :
    outsAt0 m c t.val t.isLt (ix2 r s)
      = Ya m c (ix2 ⟨4096 * b.val + s'.val, by have := b.isLt; have := s'.isLt; omega⟩ ⟨3072 + j.val, by have := j.isLt; omega⟩) := by
  have hj' := j.isLt
  have hs := s.isLt
  exact (outs_plain m c t (ix2 r s) (by show t.val % 12 = 3 ∨ t.val % 12 = 8 ∨ t.val % 12 = 11 ∨ (t.val % 12 = 4 ∧ s.val < 512) ∨ (t.val % 12 = 7 ∧ 512 ≤ s.val); omega)).trans
    ((blk_plain m c t r b s' hR s (3072 + j.val) (by omega) (by omega)).trans
    (Cert.InProjRefIdeal.In.pieces_vm (Pa m c) (G0 m c) (G1 m c) (G2 m c) (G3 m c) (G4 m c) (G5 m c) (Ca m c) (Ta m c) b s' j _).symm)

theorem seg_vf (c : Dev nD) (t : Fin cfg0.N) (r : Fin 1024) (b : Fin 2) (s' : Fin 4096) (hR : 1024 * (t.val / 12) + r.val = 4096 * b.val + s'.val)
    (s : Fin 1024) (j : Fin 1536) (hj : 1024 * (t.val % 12) + s.val = 7680 + j.val) :
    outsAt0 m c t.val t.isLt (ix2 r s)
      = Ya m c (ix2 ⟨4096 * b.val + s'.val, by have := b.isLt; have := s'.isLt; omega⟩ ⟨7680 + j.val, by have := j.isLt; omega⟩) := by
  have hj' := j.isLt
  have hs := s.isLt
  exact (outs_plain m c t (ix2 r s) (by show t.val % 12 = 3 ∨ t.val % 12 = 8 ∨ t.val % 12 = 11 ∨ (t.val % 12 = 4 ∧ s.val < 512) ∨ (t.val % 12 = 7 ∧ 512 ≤ s.val); omega)).trans
    ((blk_plain m c t r b s' hR s (7680 + j.val) (by omega) (by omega)).trans
    (Cert.InProjRefIdeal.In.pieces_vf (Pa m c) (G0 m c) (G1 m c) (G2 m c) (G3 m c) (G4 m c) (G5 m c) (Ca m c) (Ta m c) b s' j _).symm)

theorem seg_vd (c : Dev nD) (t : Fin cfg0.N) (r : Fin 1024) (b : Fin 2) (s' : Fin 4096) (hR : 1024 * (t.val / 12) + r.val = 4096 * b.val + s'.val)
    (s : Fin 1024) (j : Fin 1024) (hj : 1024 * (t.val % 12) + s.val = 11264 + j.val) :
    outsAt0 m c t.val t.isLt (ix2 r s)
      = Ya m c (ix2 ⟨4096 * b.val + s'.val, by have := b.isLt; have := s'.isLt; omega⟩ ⟨11264 + j.val, by have := j.isLt; omega⟩) := by
  have hj' := j.isLt
  have hs := s.isLt
  exact (outs_plain m c t (ix2 r s) (by show t.val % 12 = 3 ∨ t.val % 12 = 8 ∨ t.val % 12 = 11 ∨ (t.val % 12 = 4 ∧ s.val < 512) ∨ (t.val % 12 = 7 ∧ 512 ≤ s.val); omega)).trans
    ((blk_plain m c t r b s' hR s (11276 + j.val) (by omega) (by omega)).trans
    (Cert.InProjRefIdeal.In.pieces_vd (Pa m c) (G0 m c) (G1 m c) (G2 m c) (G3 m c) (G4 m c) (G5 m c) (Ca m c) (Ta m c) b s' j _).symm)

/-- A point's block is the result's, element by element. -/
theorem outs_apply (c : Dev nD) (t : Fin cfg0.N) (r : Fin 1024) (s : Fin 1024) (hr : 1024 * (t.val / 12) + r.val < 8192) (hs : 1024 * (t.val % 12) + s.val < 12288) :
    outsAt0 m c t.val t.isLt (ix2 r s) = Ya m c (ix2 ⟨1024 * (t.val / 12) + r.val, hr⟩ ⟨1024 * (t.val % 12) + s.val, hs⟩) := by
  have hs' := s.isLt
  have hN : t.val < 96 := lt_of_lt_of_eq t.isLt (show cfg0.N = 96 from N_0)
  have hR : 1024 * (t.val / 12) + r.val = 4096 * ((1024 * (t.val / 12) + r.val) / 4096) + (1024 * (t.val / 12) + r.val) % 4096 := (Nat.div_add_mod _ _).symm
  have hs2 : s = ⟨128 * (s.val / 128) + (⟨s.val % 128, Nat.mod_lt _ (by decide)⟩ : Fin 128).val, by dsimp only; omega⟩ := Fin.ext (by show s.val = 128 * (s.val / 128) + s.val % 128; omega)
  have close : ∀ (R J : ℕ) (hR' : R < 8192) (hJ : J < 12288), R = 1024 * (t.val / 12) + r.val → J = 1024 * (t.val % 12) + s.val →
      Ya m c (ix2 ⟨R, hR'⟩ ⟨J, hJ⟩) = Ya m c (ix2 ⟨1024 * (t.val / 12) + r.val, hr⟩ ⟨1024 * (t.val % 12) + s.val, hs⟩) := by
    intro R J hR' hJ e1 e2
    subst e1 e2
    rfl
  have head : outsAt0 m c t.val t.isLt (ix2 r s) = outsAt0 m c t.val t.isLt (ix2 r ⟨128 * (s.val / 128) + (⟨s.val % 128, Nat.mod_lt _ (by decide)⟩ : Fin 128).val, by dsimp only; omega⟩) :=
    congrArg (fun z => outsAt0 m c t.val t.isLt (ix2 r z)) hs2
  by_cases hqm : 1024 * (t.val % 12) + s.val < 1536
  · exact head.trans ((seg_qm m c t r ⟨(1024 * (t.val / 12) + r.val) / 4096, by omega⟩ ⟨(1024 * (t.val / 12) + r.val) % 4096, Nat.mod_lt _ (by decide)⟩ hR (s.val / 128) (by omega) ⟨s.val % 128, Nat.mod_lt _ (by decide)⟩ ⟨(1024 * (t.val % 12) + s.val - 0) / 128, by omega⟩ (by dsimp only; omega)).trans (close _ _ _ _ hR.symm (by dsimp only; omega)))
  by_cases hkm : 1024 * (t.val % 12) + s.val < 3072
  · exact head.trans ((seg_km m c t r ⟨(1024 * (t.val / 12) + r.val) / 4096, by omega⟩ ⟨(1024 * (t.val / 12) + r.val) % 4096, Nat.mod_lt _ (by decide)⟩ hR (s.val / 128) (by omega) ⟨s.val % 128, Nat.mod_lt _ (by decide)⟩ ⟨(1024 * (t.val % 12) + s.val - 1536) / 128, by omega⟩ (by dsimp only; omega)).trans (close _ _ _ _ hR.symm (by dsimp only; omega)))
  by_cases hvm : 1024 * (t.val % 12) + s.val < 4608
  · exact (seg_vm m c t r ⟨(1024 * (t.val / 12) + r.val) / 4096, by omega⟩ ⟨(1024 * (t.val / 12) + r.val) % 4096, Nat.mod_lt _ (by decide)⟩ hR s ⟨1024 * (t.val % 12) + s.val - 3072, by omega⟩ (by dsimp only; omega)).trans (close _ _ _ _ hR.symm (by dsimp only; omega))
  by_cases hqf : 1024 * (t.val % 12) + s.val < 6144
  · exact head.trans ((seg_qf m c t r ⟨(1024 * (t.val / 12) + r.val) / 4096, by omega⟩ ⟨(1024 * (t.val / 12) + r.val) % 4096, Nat.mod_lt _ (by decide)⟩ hR (s.val / 128) (by omega) ⟨s.val % 128, Nat.mod_lt _ (by decide)⟩ ⟨(1024 * (t.val % 12) + s.val - 4608) / 128, by omega⟩ (by dsimp only; omega)).trans (close _ _ _ _ hR.symm (by dsimp only; omega)))
  by_cases hkf : 1024 * (t.val % 12) + s.val < 7680
  · exact head.trans ((seg_kf m c t r ⟨(1024 * (t.val / 12) + r.val) / 4096, by omega⟩ ⟨(1024 * (t.val / 12) + r.val) % 4096, Nat.mod_lt _ (by decide)⟩ hR (s.val / 128) (by omega) ⟨s.val % 128, Nat.mod_lt _ (by decide)⟩ ⟨(1024 * (t.val % 12) + s.val - 6144) / 128, by omega⟩ (by dsimp only; omega)).trans (close _ _ _ _ hR.symm (by dsimp only; omega)))
  by_cases hvf : 1024 * (t.val % 12) + s.val < 9216
  · exact (seg_vf m c t r ⟨(1024 * (t.val / 12) + r.val) / 4096, by omega⟩ ⟨(1024 * (t.val / 12) + r.val) % 4096, Nat.mod_lt _ (by decide)⟩ hR s ⟨1024 * (t.val % 12) + s.val - 7680, by omega⟩ (by dsimp only; omega)).trans (close _ _ _ _ hR.symm (by dsimp only; omega))
  by_cases hqd : 1024 * (t.val % 12) + s.val < 10240
  · exact head.trans ((seg_qd m c t r ⟨(1024 * (t.val / 12) + r.val) / 4096, by omega⟩ ⟨(1024 * (t.val / 12) + r.val) % 4096, Nat.mod_lt _ (by decide)⟩ hR (s.val / 128) (by omega) ⟨s.val % 128, Nat.mod_lt _ (by decide)⟩ ⟨(1024 * (t.val % 12) + s.val - 9216) / 128, by omega⟩ (by dsimp only; omega)).trans (close _ _ _ _ hR.symm (by dsimp only; omega)))
  by_cases hkd : 1024 * (t.val % 12) + s.val < 11264
  · exact head.trans ((seg_kd m c t r ⟨(1024 * (t.val / 12) + r.val) / 4096, by omega⟩ ⟨(1024 * (t.val / 12) + r.val) % 4096, Nat.mod_lt _ (by decide)⟩ hR (s.val / 128) (by omega) ⟨s.val % 128, Nat.mod_lt _ (by decide)⟩ ⟨(1024 * (t.val % 12) + s.val - 10240) / 128, by omega⟩ (by dsimp only; omega)).trans (close _ _ _ _ hR.symm (by dsimp only; omega)))
  exact (seg_vd m c t r ⟨(1024 * (t.val / 12) + r.val) / 4096, by omega⟩ ⟨(1024 * (t.val / 12) + r.val) % 4096, Nat.mod_lt _ (by decide)⟩ hR s ⟨1024 * (t.val % 12) + s.val - 11264, by omega⟩ (by dsimp only; omega)).trans (close _ _ _ _ hR.symm (by dsimp only; omega))

theorem mem_blk5 (t : Fin cfg0.N) (i : S8192x12288.Idx) :
    i ∈ ((cfg0.win 5).blk t).view.set ↔ ∀ a : Fin 2, win0_5.index t a * S1024x1024.size a ≤ i a ∧ (i a : ℕ) < win0_5.index t a * S1024x1024.size a + S1024x1024.size a := by
  show i ∈ ((View.whole main_v29).slice (win0_5.rect t)).set ↔ _
  rw [View.set_slice_whole, Rect.mem_set_unit]; exact Iff.rfl

theorem cut_eq (t : Fin cfg0.N) (o : Vec Ideal S1024x1024 .bf16) (G : Vec Ideal S8192x12288 .bf16)
    (h : ∀ (r : Fin 1024) (s : Fin 1024) (hr : 1024 * (t.val / 12) + r.val < 8192) (hs : 1024 * (t.val % 12) + s.val < 12288),
      o (ix2 r s) = G (ix2 ⟨1024 * (t.val / 12) + r.val, hr⟩ ⟨1024 * (t.val % 12) + s.val, hs⟩)) :
    (cfg0.win 5).cut (grid0.coords t) o = ((cfg0.win 5).blk t).view.read (Elt Ideal) G := by
  funext y
  obtain ⟨r, s, rfl⟩ : ∃ r s, y = ix2 r s := ⟨y 0, y 1, eq_ix2 y⟩
  have hN : t.val < 96 := lt_of_lt_of_eq t.isLt (show cfg0.N = 96 from N_0)
  have hr : r.val < 1024 := r.isLt
  have hs : s.val < 1024 := s.isLt
  obtain ⟨-, -, -, -, -, -, -, -, -, -, h0, h1⟩ := idx_facts t
  refine (h r s (by omega) (by omega)).trans ?_
  show _ = G ((win0_5.rect t).emb (ix2 r s))
  congr 1
  funext a; apply Fin.ext; rw [win0_5.rect_emb_val t (ix2 r s) a]
  match a with
  | 0 => show 1024 * (t.val / 12) + r.val = win0_5.index t (0 : Fin 2) * 1024 + r.val; rw [h0]; omega
  | 1 => show 1024 * (t.val % 12) + s.val = win0_5.index t (1 : Fin 2) * 1024 + s.val; rw [h1]; omega

theorem flushed5 (c : Dev nD) (t : Fin cfg0.N) : (dats m 0 c).flushed 5 t = (cfg0.win 5).cut (grid0.coords t) (outsAt0 m c t.val t.isLt) := by
  show (cfg0.win 5).cut (grid0.coords t) ((dats m 0 c).after 5 t) = _
  rw [after0_5]

/-- The result's array after the run, from what each point leaves. -/
theorem final_of (c : Dev nD) (G : Vec Ideal S8192x12288 .bf16)
    (h : ∀ (t : Fin cfg0.N) (r : Fin 1024) (s : Fin 1024) (hr : 1024 * (t.val / 12) + r.val < 8192) (hs : 1024 * (t.val % 12) + s.val < 12288),
      outsAt0 m c t.val t.isLt (ix2 r s) = G (ix2 ⟨1024 * (t.val / 12) + r.val, hr⟩ ⟨1024 * (t.val % 12) + s.val, hs⟩)) :
    (dats m 0 c).arrAt 5 cfg0.N = G := by
  refine (dats m 0 c).arrAt_eq_of_cover 5 G (fun t _ => (flushed5 m c t).trans (cut_eq t _ G (h t))) (fun i => ?_)
  have h0' : (i 0 : ℕ) < 8192 := (i 0).isLt
  have h1' : (i 1 : ℕ) < 12288 := (i 1).isLt
  let t : Fin cfg0.N := ⟨(i 0 : ℕ) / 1024 * 12 + (i 1 : ℕ) / 1024, by rw [show cfg0.N = 96 from N_0]; omega⟩
  have htv : t.val = (i 0 : ℕ) / 1024 * 12 + (i 1 : ℕ) / 1024 := rfl
  obtain ⟨-, -, -, -, -, -, -, -, -, -, h0, h1⟩ := idx_facts t
  refine ⟨t, flush0_5 t, ?_⟩
  rw [mem_blk5]
  intro a
  match a with
  | 0 => show win0_5.index t (0 : Fin 2) * 1024 ≤ (i 0 : ℕ) ∧ (i 0 : ℕ) < win0_5.index t (0 : Fin 2) * 1024 + 1024
         rw [h0, htv]; omega
  | 1 => show win0_5.index t (1 : Fin 2) * 1024 ≤ (i 1 : ℕ) ∧ (i 1 : ℕ) < win0_5.index t (1 : Fin 2) * 1024 + 1024
         rw [h1, htv]; omega

/-- The run leaves the reference's array and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v29) = Ya m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r (h : Pipeline.FramePost cfgs (dats m) 0 (V m) r) c => ⟨((h c).1 5).trans (final_of m c _ (outs_apply m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.InProjIdeal.In

end
-- ==== Proof.InProjClaims.lean ====
/- The input projection's claims: the reference's frame, and the equation of results over the extended reals. -/
module

public import proofs.«01_k».proof.Defs
public import proofs.«01_k».proof.Proof.InProjValue
public import proofs.«01_k».proof.Proof.Gen.InProj.Frame

@[expose] public section

set_option maxRecDepth 16384

noncomputable section

namespace Cert.InP

open Idealize.ShloMosaic Idealize.ShloMosaic.TcCoe Idealize.SL.Sem
open Cert.InProjRefIdeal (S2x4096x4096 S4096x12300 S128 S4096x64)

theorem frame : Cert.quiescent_InProj (hInProj := Cert.InProj.Gen.facts) := fun m ρ _ => Cert.InProj.Gen.frame m ρ

theorem frame_ideal : Cert.quiescent_InProjIdeal (hInProjIdeal := Cert.InProjIdeal.Gen.facts) := fun m ρ _ => Cert.InProjIdeal.Gen.frame m ρ

theorem frame_refIdeal : Cert.quiescent_InProjRefIdeal (hInProjRefIdeal := Cert.InProjRefIdeal.Gen.facts) := fun m ρ _ =>
  (θ_run Cert.InProjRefIdeal.defs _ _).mono (fun _ h => ⟨fun c => (h c).2,
    funext fun g => ((by decide : ∀ _ : SemLoc Cert.InProjRefIdeal.sig, False) g.2).elim⟩) (Cert.InProjRefIdeal.Value.run m ρ)

theorem whole_congr {h h' : FVec Ideal S2x4096x4096 .f32} {w w' : FVec Ideal S4096x12300 .f32} {g0 g0' g1 g1' g2 g2' g3 g3' g4 g4' g5 g5' : FVec Ideal S128 .f32}
    {c c' t t' : FVec Ideal S4096x64 .f32} (hh : h = h') (hw : w = w') (h0 : g0 = g0') (h1 : g1 = g1') (h2 : g2 = g2') (h3 : g3 = g3') (h4 : g4 = g4') (h5 : g5 = g5')
    (hc : c = c') (ht : t = t') :
    Cert.InProjRefIdeal.In.whole h w g0 g1 g2 g3 g4 g5 c t = Cert.InProjRefIdeal.In.whole h' w' g0' g1' g2' g3' g4' g5' c' t' := by
  subst hh hw h0 h1 h2 h3 h4 h5 hc ht; rfl

theorem algebraic : Cert.algebraic_InProjIdeal_InProjRefIdeal (hInProjIdeal := Cert.InProjIdeal.Gen.facts) (hInProjRefIdeal := Cert.InProjRefIdeal.Gen.facts) := fun m ρ m' ρ' _ hag =>
  ⟨fun c => Cert.InProjIdeal.In.Ya m c, Cert.InProjIdeal.In.run m ρ,
    (θ_run Cert.InProjRefIdeal.defs _ _).mono (fun _ h c => ⟨(h c).1.trans ((Cert.InProjRefIdeal.In.res_eq _).trans (by
      obtain ⟨h0, h1, h2, h3, h4, h5, h6, h7, h8, h9⟩ := hag c
      exact whole_congr h0 h1 h2 h3 h4 h5 h6 h7 h8 h9)), (h c).2⟩) (Cert.InProjRefIdeal.Value.run m' ρ')⟩

end Cert.InP

end
-- ==== Proof.OutProjCases.lean ====
/- What the output projection's call leaves at a grid point, case by case: the rounded weight block in the scratch buffer, gathered from
   three windows, and the residual plus the three products in the result block. -/
module

public import proofs.«01_k».proof.Proof.Gen.OutProjIdeal.Frame
public import Idealize.ShloMosaic.Lib.Pipeline.Value
public import Idealize.ShloMosaic.Lib.Pointwise

@[expose] public section

set_option maxRecDepth 16384

noncomputable section

namespace Cert.OutProjIdeal.Out

open Cert.OutProjIdeal Cert.OutProjIdeal.Gen
open Idealize.ShloMosaic Idealize.ShloMosaic.TcCoe Idealize.SL.Sem Idealize.ShloMosaic.Pipeline

/-- The weight block: the three windows' rows one under the other, rounded. -/
def wblk (x3 x4 : FVec Ideal S1x1536x512 .f32) (x5 : FVec Ideal S1x1024x512 .f32) : FVec Ideal S4096x512 .bf16 := fun y =>
  if h : (y 0).val < 1536 then x3 (ix3 0 ⟨(y 0).val, h⟩ (y 1))
  else if h' : (y 0).val - 1536 < 1536 then x4 (ix3 0 ⟨(y 0).val - 1536, h'⟩ (y 1))
  else x5 (ix3 0 ⟨(y 0).val - 3072, by have : (y 0).val < 4096 := (y 0).isLt; omega⟩ (y 1))

/-- One store's rows of a weight block. -/
def rows (w : FVec Ideal S1x512x512 .f32) : FVec Ideal S512x512 .bf16 := fun x => w (ix3 0 (x 0) (x 1))

theorem hz2 : (![0, 0] : Fin 2 → Nat) = fun _ => 0 := funext fun a => by fin_cases a <;> rfl

theorem pay5_eq (w : FVec Ideal S1x512x512 .f32) : k0_pay5 (F := Ideal) w = rows w := by
  funext x
  have hx : x = ix2 (x 0) (x 1) := eq_ix2 x
  rw [hx]
  unfold k0_pay5
  pointwise
  rfl

theorem pay6_eq (w : FVec Ideal S1x512x512 .f32) : k0_pay6 (F := Ideal) w = rows w := by
  funext x
  have hx : x = ix2 (x 0) (x 1) := eq_ix2 x
  rw [hx]
  unfold k0_pay6
  pointwise
  rfl

theorem pay7_eq (w : FVec Ideal S1x512x512 .f32) : k0_pay7 (F := Ideal) w = rows w := by
  funext x
  have hx : x = ix2 (x 0) (x 1) := eq_ix2 x
  rw [hx]
  unfold k0_pay7
  pointwise
  rfl

theorem pay8_eq (w : FVec Ideal S1x512x512 .f32) : k0_pay8 (F := Ideal) w = rows w := by
  funext x
  have hx : x = ix2 (x 0) (x 1) := eq_ix2 x
  rw [hx]
  unfold k0_pay8
  pointwise
  rfl

theorem pay9_eq (w : FVec Ideal S1x512x512 .f32) : k0_pay9 (F := Ideal) w = rows w := by
  funext x
  have hx : x = ix2 (x 0) (x 1) := eq_ix2 x
  rw [hx]
  unfold k0_pay9
  pointwise
  rfl

theorem pay1_eq (w : FVec Ideal S1x512x512 .f32) : k0_pay1 (F := Ideal) w = rows w := by
  funext x
  have hx : x = ix2 (x 0) (x 1) := eq_ix2 x
  rw [hx]
  unfold k0_pay1
  pointwise
  rfl

theorem pay2_eq (w : FVec Ideal S1x512x512 .f32) : k0_pay2 (F := Ideal) w = rows w := by
  funext x
  have hx : x = ix2 (x 0) (x 1) := eq_ix2 x
  rw [hx]
  unfold k0_pay2
  pointwise
  rfl

theorem pay3_eq (w : FVec Ideal S1x512x512 .f32) : k0_pay3 (F := Ideal) w = rows w := by
  funext x
  have hx : x = ix2 (x 0) (x 1) := eq_ix2 x
  rw [hx]
  unfold k0_pay3
  pointwise
  rfl

/-- The rows a store writes are the block's rows at its place. -/
theorem piece_a (o p : ℕ) (hp : p = 0 + o) (ho : o + 512 ≤ 1536) (h3 : ∀ a, (![0, o, 0] : Fin 3 → ℕ) a + S1x512x512.size a ≤ S1x1536x512.size a)
    (h2 : ∀ a, (![p, 0] : Fin 2 → ℕ) a + S512x512.size a ≤ S4096x512.size a) (x3 x4 : FVec Ideal S1x1536x512 .f32) (x5 : FVec Ideal S1x1024x512 .f32) (x : S512x512.Idx) :
    rows (fun j => x3 ((Rect.unit (s := S1x1536x512) ![0, o, 0] S1x512x512.size h3).emb j)) x = wblk x3 x4 x5 ((Rect.unit (s := S4096x512) ![p, 0] S512x512.size h2).emb x) := by
  subst hp
  have hx : (x 0).val < 512 := (x 0).isLt
  have e0 : (((Rect.unit (s := S4096x512) ![0 + o, 0] S512x512.size h2).emb x) 0).val = 0 + o + (x 0).val := by
    show 0 + o + 1 * (x 0).val = _; omega
  unfold wblk
  rw [dif_pos (by rw [e0]; omega)]
  show x3 _ = x3 _
  congr 1
  funext a
  apply Fin.ext
  match a with
  | 0 => rfl
  | 1 => show o + 1 * (x 0).val = (((Rect.unit (s := S4096x512) ![0 + o, 0] S512x512.size h2).emb x) 0).val; rw [e0]; omega
  | 2 => rfl

/-- The rows a store writes are the block's rows at its place. -/
theorem piece_b (o p : ℕ) (hp : p = 1536 + o) (ho : o + 512 ≤ 1536) (h3 : ∀ a, (![0, o, 0] : Fin 3 → ℕ) a + S1x512x512.size a ≤ S1x1536x512.size a)
    (h2 : ∀ a, (![p, 0] : Fin 2 → ℕ) a + S512x512.size a ≤ S4096x512.size a) (x3 x4 : FVec Ideal S1x1536x512 .f32) (x5 : FVec Ideal S1x1024x512 .f32) (x : S512x512.Idx) :
    rows (fun j => x4 ((Rect.unit (s := S1x1536x512) ![0, o, 0] S1x512x512.size h3).emb j)) x = wblk x3 x4 x5 ((Rect.unit (s := S4096x512) ![p, 0] S512x512.size h2).emb x) := by
  subst hp
  have hx : (x 0).val < 512 := (x 0).isLt
  have e0 : (((Rect.unit (s := S4096x512) ![1536 + o, 0] S512x512.size h2).emb x) 0).val = 1536 + o + (x 0).val := by
    show 1536 + o + 1 * (x 0).val = _; omega
  unfold wblk
  rw [dif_neg (by rw [e0]; omega), dif_pos (by rw [e0]; omega)]
  show x4 _ = x4 _
  congr 1
  funext a
  apply Fin.ext
  match a with
  | 0 => rfl
  | 1 => show o + 1 * (x 0).val = (((Rect.unit (s := S4096x512) ![1536 + o, 0] S512x512.size h2).emb x) 0).val - 1536; rw [e0]; omega
  | 2 => rfl

/-- The rows a store writes are the block's rows at its place. -/
theorem piece_c (o p : ℕ) (hp : p = 3072 + o) (ho : o + 512 ≤ 1024) (h3 : ∀ a, (![0, o, 0] : Fin 3 → ℕ) a + S1x512x512.size a ≤ S1x1024x512.size a)
    (h2 : ∀ a, (![p, 0] : Fin 2 → ℕ) a + S512x512.size a ≤ S4096x512.size a) (x3 x4 : FVec Ideal S1x1536x512 .f32) (x5 : FVec Ideal S1x1024x512 .f32) (x : S512x512.Idx) :
    rows (fun j => x5 ((Rect.unit (s := S1x1024x512) ![0, o, 0] S1x512x512.size h3).emb j)) x = wblk x3 x4 x5 ((Rect.unit (s := S4096x512) ![p, 0] S512x512.size h2).emb x) := by
  subst hp
  have hx : (x 0).val < 512 := (x 0).isLt
  have e0 : (((Rect.unit (s := S4096x512) ![3072 + o, 0] S512x512.size h2).emb x) 0).val = 3072 + o + (x 0).val := by
    show 3072 + o + 1 * (x 0).val = _; omega
  unfold wblk
  rw [dif_neg (by rw [e0]; omega), dif_neg (by rw [e0]; omega)]
  show x5 _ = x5 _
  congr 1
  funext a
  apply Fin.ext
  match a with
  | 0 => rfl
  | 1 => show o + 1 * (x 0).val = (((Rect.unit (s := S4096x512) ![3072 + o, 0] S512x512.size h2).emb x) 0).val - 3072; rw [e0]; omega
  | 2 => rfl

/-- The scratch after a point that fills it: the rounded block. -/
theorem sout_A_0_eq (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1x1536x512 .f32) (harg5 : arg5.IsWhole) (arg6 : Memref sig .tc .vmem S1x1536x512 .f32) (harg6 : arg6.IsWhole) (arg7 : Memref sig .tc .vmem S1x1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S4096x512 .bf16) (harg10 : arg10.IsWhole) (hc0 : cond0_0 i)
    (x0 : Vec Ideal S1024x1536 .bf16) (x1 : Vec Ideal S1024x1536 .bf16) (x2 : Vec Ideal S1024x1024 .bf16) (x3 : Vec Ideal S1x1536x512 .f32) (x4 : Vec Ideal S1x1536x512 .f32) (x5 : Vec Ideal S1x1024x512 .f32) (x6 : Vec Ideal S1024x512 .f32) :
    sout0_A_0 c i arg2 harg2 arg3 harg3 arg4 harg4 arg5 harg5 arg6 harg6 arg7 harg7 arg8 harg8 arg9 harg9 arg10 harg10 hc0 x0 x1 x2 x3 x4 x5 x6 = wblk x3 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  funext y
  refine View.canon_apply_of_pieces (wblk x3 x4 x5) _ ?_ y (scover0_A_0 c i arg2 harg2 arg3 harg3 arg4 harg4 arg5 harg5 arg6 harg6 arg7 harg7 arg8 harg8 arg9 harg9 arg10 harg10 hc0 x0 x1 x2 x3 x4 x5 x6 y)
  unfold kernelRun0_A
  dsimp only
  sl_unfold_words
  simp only [View.readAt_eq_ld, harg5.read_unread, harg6.read_unread, harg7.read_unread]
  simp only [List.forall_mem_cons, List.not_mem_nil, false_imp_iff, implies_true, and_true]
  refine ⟨?_, ?_, ?_, ?_, ?_, ?_, ?_, ?_⟩
  · exact fun x => (congrFun (pay3_eq _) x).trans (piece_c 512 3584 (by norm_num) (by norm_num) _ _ x3 x4 x5 x)
  · exact fun x => (congrFun (pay2_eq _) x).trans (piece_c 0 3072 (by norm_num) (by norm_num) _ _ x3 x4 x5 x)
  · exact fun x => (congrFun (pay1_eq _) x).trans (piece_b 1024 2560 (by norm_num) (by norm_num) _ _ x3 x4 x5 x)
  · exact fun x => (congrFun (pay9_eq _) x).trans (piece_b 512 2048 (by norm_num) (by norm_num) _ _ x3 x4 x5 x)
  · exact fun x => (congrFun (pay8_eq _) x).trans (piece_b 0 1536 (by norm_num) (by norm_num) _ _ x3 x4 x5 x)
  · exact fun x => (congrFun (pay7_eq _) x).trans (piece_a 1024 1024 (by norm_num) (by norm_num) _ _ x3 x4 x5 x)
  · exact fun x => (congrFun (pay6_eq _) x).trans (piece_a 512 512 (by norm_num) (by norm_num) _ _ x3 x4 x5 x)
  · exact fun x => (congrFun (pay5_eq _) x).trans (piece_a 0 0 (by norm_num) (by norm_num) _ _ x3 x4 x5 x)

/-- Rows of a weight block, from a row on. -/
def from1536 (o : ℕ) (h : ∀ a, (![o, 0] : Fin 2 → ℕ) a + S1536x512.size a ≤ S4096x512.size a) (W : FVec Ideal S4096x512 .bf16) : FVec Ideal S1536x512 .bf16 :=
  fun j => W ((Rect.unit (s := S4096x512) ![o, 0] S1536x512.size h).emb j)
def from1024 (o : ℕ) (h : ∀ a, (![o, 0] : Fin 2 → ℕ) a + S1024x512.size a ≤ S4096x512.size a) (W : FVec Ideal S4096x512 .bf16) : FVec Ideal S1024x512 .bf16 :=
  fun j => W ((Rect.unit (s := S4096x512) ![o, 0] S1024x512.size h).emb j)

theorem fit0 : ∀ a, (![0, 0] : Fin 2 → ℕ) a + S1536x512.size a ≤ S4096x512.size a := by decide
theorem fit1 : ∀ a, (![1536, 0] : Fin 2 → ℕ) a + S1536x512.size a ≤ S4096x512.size a := by decide
theorem fit2 : ∀ a, (![3072, 0] : Fin 2 → ℕ) a + S1024x512.size a ≤ S4096x512.size a := by decide

theorem from1536_apply (o : ℕ) (h : ∀ a, (![o, 0] : Fin 2 → ℕ) a + S1536x512.size a ≤ S4096x512.size a) (W : FVec Ideal S4096x512 .bf16) (k : Fin 1536) (s : Fin 512) (ho : o + k.val < 4096) :
    from1536 o h W (ix2 k s) = W (ix2 ⟨o + k.val, ho⟩ s) := by
  unfold from1536
  congr 1
  funext a
  apply Fin.ext
  match a with
  | 0 => show o + 1 * k.val = o + k.val; omega
  | 1 => show 0 + 1 * s.val = s.val; omega

theorem from1024_apply (o : ℕ) (h : ∀ a, (![o, 0] : Fin 2 → ℕ) a + S1024x512.size a ≤ S4096x512.size a) (W : FVec Ideal S4096x512 .bf16) (k : Fin 1024) (s : Fin 512) (ho : o + k.val < 4096) :
    from1024 o h W (ix2 k s) = W (ix2 ⟨o + k.val, ho⟩ s) := by
  unfold from1024
  congr 1
  funext a
  apply Fin.ext
  match a with
  | 0 => show o + 1 * k.val = o + k.val; omega
  | 1 => show 0 + 1 * s.val = s.val; omega

/-- A load of rows of a scratch after writes reads what they leave there. -/
theorem readCov_1536 (v : View sig .tc .vmem S4096x512 .bf16) (L : List (View.Piece (Elt Ideal) S4096x512 .bf16)) (o : ℕ)
    (h : ∀ a, (![o, 0] : Fin 2 → ℕ) a + S1536x512.size a ≤ S4096x512.size a) :
    v.readCov L (Rect.unit (s := S4096x512) ![o, 0] S1536x512.size h).toLoadRect = from1536 o h (View.canon L) := View.readCov_eq_canon' v L _

/-- A load of rows of a scratch after writes reads what they leave there. -/
theorem readCov_1024 (v : View sig .tc .vmem S4096x512 .bf16) (L : List (View.Piece (Elt Ideal) S4096x512 .bf16)) (o : ℕ)
    (h : ∀ a, (![o, 0] : Fin 2 → ℕ) a + S1024x512.size a ≤ S4096x512.size a) :
    v.readCov L (Rect.unit (s := S4096x512) ![o, 0] S1024x512.size h).toLoadRect = from1024 o h (View.canon L) := View.readCov_eq_canon' v L _

/-- A point's result block from its operands and its weight block. -/
def blockOut (x0 x1 : FVec Ideal S1024x1536 .bf16) (x2 : FVec Ideal S1024x1024 .bf16) (W : FVec Ideal S4096x512 .bf16) (x6 : FVec Ideal S1024x512 .f32) : FVec Ideal S1024x512 .f32 :=
  k0_pay4 x0 (from1536 0 fit0 W) x1 (from1536 1536 fit1 W) x2 (from1024 3072 fit2 W) x6

/-- The result block of a point that fills the scratch. -/
theorem out_A_7_eq (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1x1536x512 .f32) (harg5 : arg5.IsWhole) (arg6 : Memref sig .tc .vmem S1x1536x512 .f32) (harg6 : arg6.IsWhole) (arg7 : Memref sig .tc .vmem S1x1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S4096x512 .bf16) (harg10 : arg10.IsWhole) (hc0 : cond0_0 i)
    (x0 : Vec Ideal S1024x1536 .bf16) (x1 : Vec Ideal S1024x1536 .bf16) (x2 : Vec Ideal S1024x1024 .bf16) (x3 : Vec Ideal S1x1536x512 .f32) (x4 : Vec Ideal S1x1536x512 .f32) (x5 : Vec Ideal S1x1024x512 .f32) (x6 : Vec Ideal S1024x512 .f32) :
    out0_A_7 c i arg2 harg2 arg3 harg3 arg4 harg4 arg5 harg5 arg6 harg6 arg7 harg7 arg8 harg8 arg9 harg9 arg10 harg10 hc0 x0 x1 x2 x3 x4 x5 x6 = blockOut x0 x1 x2 (wblk x3 x4 x5) x6 := by
  have e1 := sout_A_0_eq c i arg2 harg2 arg3 harg3 arg4 harg4 arg5 harg5 arg6 harg6 arg7 harg7 arg8 harg8 arg9 harg9 arg10 harg10 hc0 x0 x1 x2 x3 x4 x5 x6
  unfold sout0_A_0 at e1
  rw [View.read_writes_junk_eq_canon] at e1
  unfold kernelRun0_A at e1
  dsimp only at e1
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  unfold blockOut
  refine congr (congr (congr (congr (congr (congr (congrArg k0_pay4 ?_) ?_) ?_) ?_) ?_) ?_) ?_
  · clear e1
    rw [View.readAt_eq_ld, harg2.read_unread]
    exact View.ld_unit_zero (S := S1024x1536) hz2 _ x0
  · exact (readCov_1536 _ _ 0 fit0).trans (congrArg (from1536 0 fit0) e1)
  · clear e1
    rw [View.readAt_eq_ld, harg3.read_unread]
    exact View.ld_unit_zero (S := S1024x1536) hz2 _ x1
  · exact (readCov_1536 _ _ 1536 fit1).trans (congrArg (from1536 1536 fit1) e1)
  · clear e1
    rw [View.readAt_eq_ld, harg4.read_unread]
    exact View.ld_unit_zero (S := S1024x1024) hz2 _ x2
  · exact (readCov_1024 _ _ 3072 fit2).trans (congrArg (from1024 3072 fit2) e1)
  · clear e1
    rw [View.readAt_eq_ld, harg8.read_unread]
    exact View.ld_unit_zero (S := S1024x512) hz2 _ x6

/-- The result block of a point that reuses the scratch. -/
theorem out_B_7_eq (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1x1536x512 .f32) (harg5 : arg5.IsWhole) (arg6 : Memref sig .tc .vmem S1x1536x512 .f32) (harg6 : arg6.IsWhole) (arg7 : Memref sig .tc .vmem S1x1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S4096x512 .bf16) (harg10 : arg10.IsWhole) (hc0 : ¬cond0_0 i)
    (x0 : Vec Ideal S1024x1536 .bf16) (x1 : Vec Ideal S1024x1536 .bf16) (x2 : Vec Ideal S1024x1024 .bf16) (x3 : Vec Ideal S1x1536x512 .f32) (x4 : Vec Ideal S1x1536x512 .f32) (x5 : Vec Ideal S1x1024x512 .f32) (x6 : Vec Ideal S1024x512 .f32) (xs0 : Vec Ideal S4096x512 .bf16) :
    out0_B_7 c i arg2 harg2 arg3 harg3 arg4 harg4 arg5 harg5 arg6 harg6 arg7 harg7 arg8 harg8 arg9 harg9 arg10 harg10 hc0 x0 x1 x2 x3 x4 x5 x6 xs0 = blockOut x0 x1 x2 xs0 x6 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  try sl_unfold_words
  rw [View.canon_unit_zero hz2]
  unfold blockOut
  refine congr (congr (congr (congr (congr (congr (congrArg k0_pay4 ?_) ?_) ?_) ?_) ?_) ?_) ?_
  · rw [View.readAt_eq_ld, harg2.read_unread]
    exact View.ld_unit_zero (S := S1024x1536) hz2 _ x0
  · rw [View.readAt_eq_ld, harg10.read_unread]
    rfl
  · rw [View.readAt_eq_ld, harg3.read_unread]
    exact View.ld_unit_zero (S := S1024x1536) hz2 _ x1
  · rw [View.readAt_eq_ld, harg10.read_unread]
    rfl
  · rw [View.readAt_eq_ld, harg4.read_unread]
    exact View.ld_unit_zero (S := S1024x1024) hz2 _ x2
  · rw [View.readAt_eq_ld, harg10.read_unread]
    rfl
  · rw [View.readAt_eq_ld, harg8.read_unread]
    exact View.ld_unit_zero (S := S1024x512) hz2 _ x6

end Cert.OutProjIdeal.Out

end
-- ==== Proof.OutProjValue.lean ====
/- The output projection: what the call leaves is the residual plus the whole product, its three partial products added one after
   another. -/
module

public import proofs.«01_k».proof.Proof.OutProjCases
public import proofs.«01_k».proof.Proof.SumSplit
public import proofs.«01_k».proof.Proof.Gen.OutProjRefIdeal.Run

@[expose] public section

set_option maxRecDepth 16384

noncomputable section

namespace Cert.OutProjRefIdeal.Out

open Cert.OutProjRefIdeal Cert.OutProjRefIdeal.Gen Idealize.ShloMosaic Idealize.ShloMosaic.TcCoe

/-- The mixers' outputs side by side. -/
def mixed (a b : FVec Ideal S2x4096x1536 .f32) (d : FVec Ideal S2x4096x1024 .f32) : FVec Ideal S2x4096x4096 .f32 :=
  concatenate S2x4096x4096 2 [⟨S2x4096x1536, a⟩, ⟨S2x4096x1536, b⟩, ⟨S2x4096x1024, d⟩] concatenates_S2x4096x1536_S2x4096x1536_S2x4096x1024_S2x4096x4096_d2

/-- A product of the rows with the first layer's weights. -/
def prod (h : FVec Ideal S2x4096x4096 .f32) (w : FVec Ideal S2x4096x4096 .f32) : FVec Ideal S2x4096x4096 .f32 :=
  Host.dotGeneral dot_S2x4096x4096_S4096x4096_S2x4096x4096_2_0_01_1_n_n none h (shapeCast _ (extractStridedSlice S1x4096x4096 ![0, 0, 0] w slices_S2x4096x4096_S1x4096x4096_0_0_0) shapeCasts_S1x4096x4096_S4096x4096)

/-- The reference's result. -/
def whole (a b : FVec Ideal S2x4096x1536 .f32) (d : FVec Ideal S2x4096x1024 .f32) (w x : FVec Ideal S2x4096x4096 .f32) : FVec Ideal S8192x4096 .f32 :=
  shapeCast _ (addf x (prod (mixed a b d) w)) shapeCasts_S2x4096x4096_S8192x4096

theorem mixed_0 (a b : FVec Ideal S2x4096x1536 .f32) (d : FVec Ideal S2x4096x1024 .f32) (i : Fin 2) (s : Fin 4096) (k : Fin 1536) :
    mixed a b d (ix3 i s ⟨k.val, by have := k.isLt; omega⟩) = a (ix3 i s k) := by
  have := k.isLt
  unfold mixed
  pointwise

theorem mixed_1 (a b : FVec Ideal S2x4096x1536 .f32) (d : FVec Ideal S2x4096x1024 .f32) (i : Fin 2) (s : Fin 4096) (k : Fin 1536) :
    mixed a b d (ix3 i s ⟨1536 + k.val, by have := k.isLt; omega⟩) = b (ix3 i s k) := by
  have := k.isLt
  unfold mixed
  pointwise

theorem mixed_2 (a b : FVec Ideal S2x4096x1536 .f32) (d : FVec Ideal S2x4096x1024 .f32) (i : Fin 2) (s : Fin 4096) (k : Fin 1024) :
    mixed a b d (ix3 i s ⟨1536 + (1536 + k.val), by have := k.isLt; omega⟩) = d (ix3 i s k) := by
  have := k.isLt
  unfold mixed
  pointwise

theorem prod_apply (h w : FVec Ideal S2x4096x4096 .f32) (b : Fin 2) (s : Fin 4096) (j : Fin 4096) :
    prod h w (ix3 b s j) = ∑ k : Fin 4096, h (ix3 b s k) * w (ix3 0 k j) := by
  unfold prod
  pointwise

/-- The product, a mixer at a time. -/
theorem prod_mixed (a b : FVec Ideal S2x4096x1536 .f32) (d : FVec Ideal S2x4096x1024 .f32) (w : FVec Ideal S2x4096x4096 .f32) (i : Fin 2) (s : Fin 4096) (j : Fin 4096) :
    prod (mixed a b d) w (ix3 i s j) = (∑ k : Fin 1536, a (ix3 i s k) * w (ix3 0 ⟨k.val, by have := k.isLt; omega⟩ j)
      + (∑ k : Fin 1536, b (ix3 i s k) * w (ix3 0 ⟨1536 + k.val, by have := k.isLt; omega⟩ j)
        + ∑ k : Fin 1024, d (ix3 i s k) * w (ix3 0 ⟨1536 + (1536 + k.val), by have := k.isLt; omega⟩ j)) : EReal) := by
  rw [prod_apply, Cert.SumSplit.cut 1536 2560 (by norm_num), Cert.SumSplit.cut 1536 1024 (by norm_num) (fun i' : Fin 2560 => _)]
  refine congrArg₂ (fun p q : EReal => p + q) (Finset.sum_congr rfl fun k _ => ?_) (congrArg₂ (fun p q : EReal => p + q) (Finset.sum_congr rfl fun k _ => ?_) (Finset.sum_congr rfl fun k _ => ?_))
  · exact congrArg₂ (fun p q : EReal => p * q) (mixed_0 a b d i s k) rfl
  · exact congrArg₂ (fun p q : EReal => p * q) (mixed_1 a b d i s k) rfl
  · exact congrArg₂ (fun p q : EReal => p * q) (mixed_2 a b d i s k) rfl

theorem whole_apply (a b : FVec Ideal S2x4096x1536 .f32) (d : FVec Ideal S2x4096x1024 .f32) (w x : FVec Ideal S2x4096x4096 .f32) (i : Fin 2) (s : Fin 4096) (j : Fin 4096) (hr : 4096 * i.val + s.val < 8192) :
    whole a b d w x (ix2 ⟨4096 * i.val + s.val, hr⟩ j) = (x (ix3 i s j) + prod (mixed a b d) w (ix3 i s j) : EReal) := by
  have := i.isLt; have := s.isLt; have := j.isLt
  unfold whole
  rw [shapeCast_apply _ _ (ix2 ⟨4096 * i.val + s.val, hr⟩ j) (ix3 i s j) (by
    rw [Shape.rowMajor_val_two, Shape.rowMajor_val_three]
    show (i.val * 4096 + s.val) * 4096 + j.val = (4096 * i.val + s.val) * 4096 + j.val
    omega)]
  rfl

end Cert.OutProjRefIdeal.Out

namespace Cert.OutProjIdeal.Out

open Cert.OutProjIdeal Cert.OutProjIdeal.Gen
open Idealize.ShloMosaic Idealize.ShloMosaic.TcCoe Idealize.SL.Sem Idealize.ShloMosaic.Pipeline

theorem res_apply (x0 : FVec Ideal S1024x1536 .bf16) (w0 : FVec Ideal S1536x512 .bf16) (x1 : FVec Ideal S1024x1536 .bf16) (w1 : FVec Ideal S1536x512 .bf16)
    (x2 : FVec Ideal S1024x1024 .bf16) (w2 : FVec Ideal S1024x512 .bf16) (x6 : FVec Ideal S1024x512 .f32) (r : Fin 1024) (s : Fin 512) :
    (k0_pay4 (F := Ideal) x0 w0 x1 w1 x2 w2 x6 (ix2 r s) : EReal) = x6 (ix2 r s) + (∑ k : Fin 1536, x0 (ix2 r k) * w0 (ix2 k s) + ∑ k : Fin 1536, x1 (ix2 r k) * w1 (ix2 k s) + ∑ k : Fin 1024, x2 (ix2 r k) * w2 (ix2 k s)) := by
  unfold k0_pay4
  pointwise

variable (m : (ℓ : Loc nD τ sig) → Buf (Elt Ideal) ℓ)

/-- The three mixers' outputs. -/
abbrev Aa (c : Dev nD) : FVec Ideal S2x4096x1536 .f32 := m ((c.tc : Thread nD τ).loc main_arg0)
abbrev Ba (c : Dev nD) : FVec Ideal S2x4096x1536 .f32 := m ((c.tc : Thread nD τ).loc main_arg1)
abbrev Ca (c : Dev nD) : FVec Ideal S2x4096x1024 .f32 := m ((c.tc : Thread nD τ).loc main_arg2)
/-- The weights. -/
abbrev Wa (c : Dev nD) : FVec Ideal S2x4096x4096 .f32 := m ((c.tc : Thread nD τ).loc main_arg3)
/-- The residual. -/
abbrev Xa (c : Dev nD) : FVec Ideal S2x4096x4096 .f32 := m ((c.tc : Thread nD τ).loc main_arg4)

/-- Flat rows of 1536, 1024 and 4096 columns. -/
def flat1536 (x : FVec Ideal S2x4096x1536 .f32) : FVec Ideal S8192x1536 .bf16 := truncf .bf16 (shapeCast S8192x1536 x shapeCasts_S2x4096x1536_S8192x1536) bitsLt_bf16_f32
def flat1024 (x : FVec Ideal S2x4096x1024 .f32) : FVec Ideal S8192x1024 .bf16 := truncf .bf16 (shapeCast S8192x1024 x shapeCasts_S2x4096x1024_S8192x1024) bitsLt_bf16_f32
def flat4096 (x : FVec Ideal S2x4096x4096 .f32) : FVec Ideal S8192x4096 .f32 := shapeCast S8192x4096 x shapeCasts_S2x4096x4096_S8192x4096

theorem flat1536_apply (x : FVec Ideal S2x4096x1536 .f32) (R : ℕ) (hR : R < 8192) (b : Fin 2) (s : Fin 4096) (k : Fin 1536) (e : R = 4096 * b.val + s.val) :
    flat1536 x (ix2 ⟨R, hR⟩ k) = x (ix3 b s k) := by
  have := b.isLt; have := s.isLt; have := k.isLt
  unfold flat1536
  show shapeCast S8192x1536 x shapeCasts_S2x4096x1536_S8192x1536 (ix2 ⟨R, hR⟩ k) = _
  rw [shapeCast_apply _ _ (ix2 ⟨R, hR⟩ k) (ix3 b s k) (by
    rw [Shape.rowMajor_val_two, Shape.rowMajor_val_three]
    show (b.val * 4096 + s.val) * 1536 + k.val = R * 1536 + k.val
    omega)]

theorem flat1024_apply (x : FVec Ideal S2x4096x1024 .f32) (R : ℕ) (hR : R < 8192) (b : Fin 2) (s : Fin 4096) (k : Fin 1024) (e : R = 4096 * b.val + s.val) :
    flat1024 x (ix2 ⟨R, hR⟩ k) = x (ix3 b s k) := by
  have := b.isLt; have := s.isLt; have := k.isLt
  unfold flat1024
  show shapeCast S8192x1024 x shapeCasts_S2x4096x1024_S8192x1024 (ix2 ⟨R, hR⟩ k) = _
  rw [shapeCast_apply _ _ (ix2 ⟨R, hR⟩ k) (ix3 b s k) (by
    rw [Shape.rowMajor_val_two, Shape.rowMajor_val_three]
    show (b.val * 4096 + s.val) * 1024 + k.val = R * 1024 + k.val
    omega)]

theorem flat4096_apply (x : FVec Ideal S2x4096x4096 .f32) (R : ℕ) (hR : R < 8192) (b : Fin 2) (s : Fin 4096) (k : Fin 4096) (e : R = 4096 * b.val + s.val) :
    flat4096 x (ix2 ⟨R, hR⟩ k) = x (ix3 b s k) := by
  have := b.isLt; have := s.isLt; have := k.isLt
  unfold flat4096
  show shapeCast S8192x4096 x shapeCasts_S2x4096x4096_S8192x4096 (ix2 ⟨R, hR⟩ k) = _
  rw [shapeCast_apply _ _ (ix2 ⟨R, hR⟩ k) (ix3 b s k) (by
    rw [Shape.rowMajor_val_two, Shape.rowMajor_val_three]
    show (b.val * 4096 + s.val) * 4096 + k.val = R * 4096 + k.val
    omega)]

theorem V_a (c : Dev nD) : V m c main_v1 = flat1536 (Aa m c) := by
  simp only [V, hostOps0]; after_results
  rfl

theorem V_b (c : Dev nD) : V m c main_v3 = flat1536 (Ba m c) := by
  simp only [V, hostOps0]; after_results
  rfl

theorem V_c (c : Dev nD) : V m c main_v5 = flat1024 (Ca m c) := by
  simp only [V, hostOps0]; after_results
  rfl

theorem V_x (c : Dev nD) : V m c main_v6 = flat4096 (Xa m c) := by
  simp only [V, hostOps0]; after_results
  rfl

/-- Where the windows are at a grid point. -/
theorem idx_facts : ∀ t : Fin cfg0.N,
    (win0_0.index t (0 : Fin 2) = t.val % 8 ∧ win0_0.index t (1 : Fin 2) = 0)
    ∧ (win0_1.index t (0 : Fin 2) = t.val % 8 ∧ win0_1.index t (1 : Fin 2) = 0)
    ∧ (win0_2.index t (0 : Fin 2) = t.val % 8 ∧ win0_2.index t (1 : Fin 2) = 0)
    ∧ (win0_3.index t (0 : Fin 3) = 0 ∧ win0_3.index t (1 : Fin 3) = 0 ∧ win0_3.index t (2 : Fin 3) = t.val / 8)
    ∧ (win0_4.index t (0 : Fin 3) = 0 ∧ win0_4.index t (1 : Fin 3) = 1 ∧ win0_4.index t (2 : Fin 3) = t.val / 8)
    ∧ (win0_5.index t (0 : Fin 3) = 0 ∧ win0_5.index t (1 : Fin 3) = 3 ∧ win0_5.index t (2 : Fin 3) = t.val / 8)
    ∧ (win0_6.index t (0 : Fin 2) = t.val % 8 ∧ win0_6.index t (1 : Fin 2) = t.val / 8)
    ∧ (win0_7.index t (0 : Fin 2) = t.val % 8 ∧ win0_7.index t (1 : Fin 2) = t.val / 8) :=
  (by decide +kernel : ∀ t : Fin grid0.N, _)

theorem iblk_a (c : Dev nD) (n : ℕ) (h : n < cfg0.N) (r : Fin 1024) (k : Fin 1536) (hr : 1024 * (n % 8) + r.val < 8192) :
    iblk m c 0 ⟨n, h⟩ (ix2 r k) = flat1536 (Aa m c) (ix2 ⟨1024 * (n % 8) + r.val, hr⟩ k) := by
  obtain ⟨⟨h0, h1⟩, -⟩ := idx_facts ⟨n, h⟩
  have ee : (win0_0.rect ⟨n, h⟩).emb (ix2 r k) = ix2 ⟨1024 * (n % 8) + r.val, hr⟩ k := by
    funext a
    apply Fin.ext
    rw [win0_0.rect_emb_val ⟨n, h⟩ (ix2 r k) a]
    match a with
    | 0 => show win0_0.index ⟨n, h⟩ (0 : Fin 2) * 1024 + r.val = 1024 * (n % 8) + r.val; rw [h0]; dsimp only; omega
    | 1 => show win0_0.index ⟨n, h⟩ (1 : Fin 2) * 1536 + k.val = k.val; rw [h1]; omega
  show V m c main_v1 ((win0_0.rect ⟨n, h⟩).emb (ix2 r k)) = _
  rw [ee, V_a]

theorem iblk_b (c : Dev nD) (n : ℕ) (h : n < cfg0.N) (r : Fin 1024) (k : Fin 1536) (hr : 1024 * (n % 8) + r.val < 8192) :
    iblk m c 1 ⟨n, h⟩ (ix2 r k) = flat1536 (Ba m c) (ix2 ⟨1024 * (n % 8) + r.val, hr⟩ k) := by
  obtain ⟨-, ⟨h0, h1⟩, -⟩ := idx_facts ⟨n, h⟩
  have ee : (win0_1.rect ⟨n, h⟩).emb (ix2 r k) = ix2 ⟨1024 * (n % 8) + r.val, hr⟩ k := by
    funext a
    apply Fin.ext
    rw [win0_1.rect_emb_val ⟨n, h⟩ (ix2 r k) a]
    match a with
    | 0 => show win0_1.index ⟨n, h⟩ (0 : Fin 2) * 1024 + r.val = 1024 * (n % 8) + r.val; rw [h0]; dsimp only; omega
    | 1 => show win0_1.index ⟨n, h⟩ (1 : Fin 2) * 1536 + k.val = k.val; rw [h1]; omega
  show V m c main_v3 ((win0_1.rect ⟨n, h⟩).emb (ix2 r k)) = _
  rw [ee, V_b]

theorem iblk_c (c : Dev nD) (n : ℕ) (h : n < cfg0.N) (r : Fin 1024) (k : Fin 1024) (hr : 1024 * (n % 8) + r.val < 8192) :
    iblk m c 2 ⟨n, h⟩ (ix2 r k) = flat1024 (Ca m c) (ix2 ⟨1024 * (n % 8) + r.val, hr⟩ k) := by
  obtain ⟨-, -, ⟨h0, h1⟩, -⟩ := idx_facts ⟨n, h⟩
  have ee : (win0_2.rect ⟨n, h⟩).emb (ix2 r k) = ix2 ⟨1024 * (n % 8) + r.val, hr⟩ k := by
    funext a
    apply Fin.ext
    rw [win0_2.rect_emb_val ⟨n, h⟩ (ix2 r k) a]
    match a with
    | 0 => show win0_2.index ⟨n, h⟩ (0 : Fin 2) * 1024 + r.val = 1024 * (n % 8) + r.val; rw [h0]; dsimp only; omega
    | 1 => show win0_2.index ⟨n, h⟩ (1 : Fin 2) * 1024 + k.val = k.val; rw [h1]; omega
  show V m c main_v5 ((win0_2.rect ⟨n, h⟩).emb (ix2 r k)) = _
  rw [ee, V_c]

theorem iblk_x (c : Dev nD) (n : ℕ) (h : n < cfg0.N) (r : Fin 1024) (s : Fin 512) (hr : 1024 * (n % 8) + r.val < 8192) (hs : 512 * (n / 8) + s.val < 4096) :
    iblk m c 6 ⟨n, h⟩ (ix2 r s) = flat4096 (Xa m c) (ix2 ⟨1024 * (n % 8) + r.val, hr⟩ ⟨512 * (n / 8) + s.val, hs⟩) := by
  obtain ⟨-, -, -, -, -, -, ⟨h0, h1⟩, -⟩ := idx_facts ⟨n, h⟩
  have ee : (win0_6.rect ⟨n, h⟩).emb (ix2 r s) = ix2 ⟨1024 * (n % 8) + r.val, hr⟩ ⟨512 * (n / 8) + s.val, hs⟩ := by
    funext a
    apply Fin.ext
    rw [win0_6.rect_emb_val ⟨n, h⟩ (ix2 r s) a]
    match a with
    | 0 => show win0_6.index ⟨n, h⟩ (0 : Fin 2) * 1024 + r.val = 1024 * (n % 8) + r.val; rw [h0]; dsimp only; omega
    | 1 => show win0_6.index ⟨n, h⟩ (1 : Fin 2) * 512 + s.val = 512 * (n / 8) + s.val; rw [h1]; dsimp only; omega
  show V m c main_v6 ((win0_6.rect ⟨n, h⟩).emb (ix2 r s)) = _
  rw [ee, V_x]

theorem X_w3 (c : Dev nD) (n J : ℕ) (h : n < cfg0.N) (hn : n / 8 = J) (k : Fin 1536) (s : Fin 512) (hk : 0 + k.val < 4096) (hs : 512 * J + s.val < 4096) :
    X0_3 m c ⟨n, h⟩ (ix3 0 k s) = Wa m c (ix3 0 ⟨0 + k.val, hk⟩ ⟨512 * J + s.val, hs⟩) := by
  obtain ⟨-, -, -, ⟨h0, h1, h2⟩, -⟩ := idx_facts ⟨n, h⟩
  unfold X0_3 Pipeline.Window.fill
  rw [dif_pos (moved0_3 ⟨n, h⟩ (ix3 0 k s))]
  show V m c main_arg3 ((win0_3.rect ⟨n, h⟩).emb _) = _
  rw [V_main_arg3]
  refine congrArg (Wa m c) ?_
  funext a
  apply Fin.ext
  rw [win0_3.rect_emb_val ⟨n, h⟩ _ a]
  match a with
  | 0 => show win0_3.index ⟨n, h⟩ (0 : Fin 3) * 1 + 0 = 0; rw [h0]
  | 1 => show win0_3.index ⟨n, h⟩ (1 : Fin 3) * 1536 + k.val = 0 + k.val; rw [h1]
  | 2 => show win0_3.index ⟨n, h⟩ (2 : Fin 3) * 512 + s.val = 512 * J + s.val; rw [h2]; dsimp only; omega

theorem X_w4 (c : Dev nD) (n J : ℕ) (h : n < cfg0.N) (hn : n / 8 = J) (k : Fin 1536) (s : Fin 512) (hk : 1536 + k.val < 4096) (hs : 512 * J + s.val < 4096) :
    X0_4 m c ⟨n, h⟩ (ix3 0 k s) = Wa m c (ix3 0 ⟨1536 + k.val, hk⟩ ⟨512 * J + s.val, hs⟩) := by
  obtain ⟨-, -, -, -, ⟨h0, h1, h2⟩, -⟩ := idx_facts ⟨n, h⟩
  unfold X0_4 Pipeline.Window.fill
  rw [dif_pos (moved0_4 ⟨n, h⟩ (ix3 0 k s))]
  show V m c main_arg3 ((win0_4.rect ⟨n, h⟩).emb _) = _
  rw [V_main_arg3]
  refine congrArg (Wa m c) ?_
  funext a
  apply Fin.ext
  rw [win0_4.rect_emb_val ⟨n, h⟩ _ a]
  match a with
  | 0 => show win0_4.index ⟨n, h⟩ (0 : Fin 3) * 1 + 0 = 0; rw [h0]
  | 1 => show win0_4.index ⟨n, h⟩ (1 : Fin 3) * 1536 + k.val = 1536 + k.val; rw [h1]
  | 2 => show win0_4.index ⟨n, h⟩ (2 : Fin 3) * 512 + s.val = 512 * J + s.val; rw [h2]; dsimp only; omega

theorem X_w5 (c : Dev nD) (n J : ℕ) (h : n < cfg0.N) (hn : n / 8 = J) (k : Fin 1024) (s : Fin 512) (hk : 3072 + k.val < 4096) (hs : 512 * J + s.val < 4096) :
    iblk m c 5 ⟨n, h⟩ (ix3 0 k s) = Wa m c (ix3 0 ⟨3072 + k.val, hk⟩ ⟨512 * J + s.val, hs⟩) := by
  obtain ⟨-, -, -, -, -, ⟨h0, h1, h2⟩, -⟩ := idx_facts ⟨n, h⟩
  show V m c main_arg3 ((win0_5.rect ⟨n, h⟩).emb _) = _
  rw [V_main_arg3]
  refine congrArg (Wa m c) ?_
  funext a
  apply Fin.ext
  rw [win0_5.rect_emb_val ⟨n, h⟩ _ a]
  match a with
  | 0 => show win0_5.index ⟨n, h⟩ (0 : Fin 3) * 1 + 0 = 0; rw [h0]
  | 1 => show win0_5.index ⟨n, h⟩ (1 : Fin 3) * 1024 + k.val = 3072 + k.val; rw [h1]
  | 2 => show win0_5.index ⟨n, h⟩ (2 : Fin 3) * 512 + s.val = 512 * J + s.val; rw [h2]; dsimp only; omega

/-- A tile of the first layer's weights, rounded. -/
def tile (w : FVec Ideal S2x4096x4096 .f32) (J : ℕ) (hJ : J < 8) : FVec Ideal S4096x512 .bf16 := fun y =>
  w (ix3 0 (y 0) ⟨512 * J + (y 1).val, by have : (y 1).val < 512 := (y 1).isLt; omega⟩)

/-- The three windows' blocks are a tile of the weights. -/
theorem wblk_eq (c : Dev nD) (n J : ℕ) (h : n < cfg0.N) (hn : n / 8 = J) (hJ : J < 8) :
    wblk (X0_3 m c ⟨n, h⟩) (X0_4 m c ⟨n, h⟩) (iblk m c 5 ⟨n, h⟩) = tile (Wa m c) J hJ := by
  funext y
  have hy0 : (y 0).val < 4096 := (y 0).isLt
  have hy : (y 1).val < 512 := (y 1).isLt
  have hq : 512 * J + (y 1).val < 4096 := by omega
  have cl : ∀ (q : Fin 4096), q.val = (y 0).val → Wa m c (ix3 0 q ⟨512 * J + (y 1).val, hq⟩) = tile (Wa m c) J hJ y := fun q e =>
    congrArg (fun z => Wa m c (ix3 0 z ⟨512 * J + (y 1).val, hq⟩)) (Fin.ext e : q = y 0)
  unfold wblk
  by_cases h1 : (y 0).val < 1536
  · rw [dif_pos h1]
    exact (X_w3 m c n J h hn ⟨(y 0).val, h1⟩ (y 1) (by show 0 + (y 0).val < 4096; omega) hq).trans (cl _ (by show 0 + (y 0).val = _; omega))
  · rw [dif_neg h1]
    by_cases h2 : (y 0).val - 1536 < 1536
    · rw [dif_pos h2]
      exact (X_w4 m c n J h hn ⟨(y 0).val - 1536, h2⟩ (y 1) (by show 1536 + ((y 0).val - 1536) < 4096; omega) hq).trans (cl _ (by show 1536 + ((y 0).val - 1536) = _; omega))
    · rw [dif_neg h2]
      exact (X_w5 m c n J h hn ⟨(y 0).val - 3072, by omega⟩ (y 1) (by show 3072 + ((y 0).val - 3072) < 4096; omega) hq).trans (cl _ (by show 3072 + ((y 0).val - 3072) = _; omega))

/-- The scratch buffer holds the column's weight tile, and the result block is the residual plus the products over it. -/
theorem outs_eq (c : Dev nD) : ∀ (n J : ℕ) (h : n < cfg0.N) (_ : n / 8 = J) (hJ : J < 8),
    outsAt0 m c n h = (blockOut (iblk m c 0 ⟨n, h⟩) (iblk m c 1 ⟨n, h⟩) (iblk m c 2 ⟨n, h⟩) (tile (Wa m c) J hJ) (iblk m c 6 ⟨n, h⟩), tile (Wa m c) J hJ) := by
  intro n
  induction n with
  | zero =>
    intro J h hn hJ
    have e := outsAt0_A m c ⟨0, h⟩ (by show 0 % 8 = 0; omega)
    rw [out_A_7_eq, sout_A_0_eq, wblk_eq m c 0 J h hn hJ] at e
    exact e
  | succ n ih =>
    intro J h hn hJ
    by_cases h8 : (n + 1) % 8 = 0
    · have e := outsAt0_A m c ⟨n + 1, h⟩ (by show (n + 1) % 8 = 0; omega)
      rw [out_A_7_eq, sout_A_0_eq, wblk_eq m c (n + 1) J h hn hJ] at e
      exact e
    · have e := outsAt0_B m c ⟨n + 1, h⟩ (by show ¬(n + 1) % 8 = 0; omega)
      have i := ih J (Nat.lt_of_le_of_lt (Nat.le_succ n) h) (by omega) hJ
      rw [out_B_7_eq] at e
      unfold sout0_B_0 at e
      have e' : outsAt0 m c (n + 1) h = (blockOut (iblk m c 0 ⟨n + 1, h⟩) (iblk m c 1 ⟨n + 1, h⟩) (iblk m c 2 ⟨n + 1, h⟩) (outsAt0 m c n (Nat.lt_of_le_of_lt (Nat.le_succ n) h)).2 (iblk m c 6 ⟨n + 1, h⟩),
        (outsAt0 m c n (Nat.lt_of_le_of_lt (Nat.le_succ n) h)).2) := e
      rw [e', i]

/-- What the run leaves in the result. -/
abbrev Ya (c : Dev nD) : FVec Ideal S8192x4096 .f32 := Cert.OutProjRefIdeal.Out.whole (Aa m c) (Ba m c) (Ca m c) (Wa m c) (Xa m c)

/-- A point's block is the result's, element by element. -/
theorem outs_apply (c : Dev nD) (t : Fin cfg0.N) (r : Fin 1024) (s : Fin 512) (hr : 1024 * (t.val % 8) + r.val < 8192) (hs : 512 * (t.val / 8) + s.val < 4096) :
    (outsAt0 m c t.val t.isLt).1 (ix2 r s) = Ya m c (ix2 ⟨1024 * (t.val % 8) + r.val, hr⟩ ⟨512 * (t.val / 8) + s.val, hs⟩) := by
  obtain ⟨n, h⟩ := t
  dsimp only at hr hs ⊢
  have hN : n < 64 := lt_of_lt_of_eq h (show cfg0.N = 64 from N_0)
  have hJ : n / 8 < 8 := by omega
  have hb : (1024 * (n % 8) + r.val) / 4096 < 2 := by omega
  have hq : (1024 * (n % 8) + r.val) % 4096 < 4096 := Nat.mod_lt _ (by decide)
  have hR : 1024 * (n % 8) + r.val = 4096 * ((1024 * (n % 8) + r.val) / 4096) + (1024 * (n % 8) + r.val) % 4096 := by omega
  rw [outs_eq m c n (n / 8) h rfl hJ]
  unfold blockOut
  refine (res_apply _ _ _ _ _ _ _ r s).trans ?_
  have ew : Ya m c (ix2 ⟨1024 * (n % 8) + r.val, hr⟩ ⟨512 * (n / 8) + s.val, hs⟩)
      = Ya m c (ix2 ⟨4096 * ((1024 * (n % 8) + r.val) / 4096) + (1024 * (n % 8) + r.val) % 4096, by omega⟩ ⟨512 * (n / 8) + s.val, hs⟩) :=
    congrArg (fun q => Ya m c (ix2 q ⟨512 * (n / 8) + s.val, hs⟩)) (Fin.ext hR)
  refine Eq.trans ?_ (ew.trans ((Cert.OutProjRefIdeal.Out.whole_apply _ _ _ _ _ ⟨_, hb⟩ ⟨_, hq⟩ ⟨512 * (n / 8) + s.val, hs⟩ (by dsimp only; omega)).trans
    (congrArg (fun z : EReal => Xa m c (ix3 ⟨_, hb⟩ ⟨_, hq⟩ ⟨512 * (n / 8) + s.val, hs⟩) + z) (Cert.OutProjRefIdeal.Out.prod_mixed _ _ _ _ ⟨_, hb⟩ ⟨_, hq⟩ ⟨512 * (n / 8) + s.val, hs⟩)))).symm
  refine congrArg₂ (fun p q : EReal => p + q) ((iblk_x m c n h r s hr hs).trans (flat4096_apply _ _ hr ⟨_, hb⟩ ⟨_, hq⟩ _ hR)) ?_
  refine Eq.trans ?_ (add_assoc (G := EReal) _ _ _)
  refine congrArg₂ (fun p q : EReal => p + q) (congrArg₂ (fun p q : EReal => p + q) (Finset.sum_congr rfl fun k _ => ?_) (Finset.sum_congr rfl fun k _ => ?_)) (Finset.sum_congr rfl fun k _ => ?_)
  · have := k.isLt
    refine congrArg₂ (fun p q : EReal => p * q) ((iblk_a m c n h r k hr).trans (flat1536_apply _ _ hr ⟨_, hb⟩ ⟨_, hq⟩ k hR)) ((from1536_apply 0 fit0 _ k s (by omega)).trans ?_)
    exact congrArg (fun z => Wa m c (ix3 0 z ⟨512 * (n / 8) + s.val, hs⟩)) (Fin.ext (by show 0 + k.val = k.val; omega))
  · have := k.isLt
    exact congrArg₂ (fun p q : EReal => p * q) ((iblk_b m c n h r k hr).trans (flat1536_apply _ _ hr ⟨_, hb⟩ ⟨_, hq⟩ k hR)) (from1536_apply 1536 fit1 _ k s (by omega))
  · have := k.isLt
    refine congrArg₂ (fun p q : EReal => p * q) ((iblk_c m c n h r k hr).trans (flat1024_apply _ _ hr ⟨_, hb⟩ ⟨_, hq⟩ k hR)) ((from1024_apply 3072 fit2 _ k s (by omega)).trans ?_)
    exact congrArg (fun z => Wa m c (ix3 0 z ⟨512 * (n / 8) + s.val, hs⟩)) (Fin.ext (by show 3072 + k.val = 1536 + (1536 + k.val); omega))

theorem mem_blk7 (t : Fin cfg0.N) (i : S8192x4096.Idx) :
    i ∈ ((cfg0.win 7).blk t).view.set ↔ ∀ a : Fin 2, win0_7.index t a * S1024x512.size a ≤ i a ∧ (i a : ℕ) < win0_7.index t a * S1024x512.size a + S1024x512.size a := by
  show i ∈ ((View.whole main_v7).slice (win0_7.rect t)).set ↔ _
  rw [View.set_slice_whole, Rect.mem_set_unit]; exact Iff.rfl

theorem cut_eq (t : Fin cfg0.N) (o : Vec Ideal S1024x512 .f32) (G : Vec Ideal S8192x4096 .f32)
    (h : ∀ (r : Fin 1024) (s : Fin 512) (hr : 1024 * (t.val % 8) + r.val < 8192) (hs : 512 * (t.val / 8) + s.val < 4096),
      o (ix2 r s) = G (ix2 ⟨1024 * (t.val % 8) + r.val, hr⟩ ⟨512 * (t.val / 8) + s.val, hs⟩)) :
    (cfg0.win 7).cut (grid0.coords t) o = ((cfg0.win 7).blk t).view.read (Elt Ideal) G := by
  funext y
  obtain ⟨r, s, rfl⟩ : ∃ r s, y = ix2 r s := ⟨y 0, y 1, eq_ix2 y⟩
  have hN : t.val < 64 := lt_of_lt_of_eq t.isLt (show cfg0.N = 64 from N_0)
  have hr : r.val < 1024 := r.isLt
  have hs : s.val < 512 := s.isLt
  obtain ⟨-, -, -, -, -, -, -, h0, h1⟩ := idx_facts t
  refine (h r s (by omega) (by omega)).trans ?_
  show _ = G ((win0_7.rect t).emb (ix2 r s))
  congr 1
  funext a; apply Fin.ext; rw [win0_7.rect_emb_val t (ix2 r s) a]
  match a with
  | 0 => show 1024 * (t.val % 8) + r.val = win0_7.index t (0 : Fin 2) * 1024 + r.val; rw [h0]; omega
  | 1 => show 512 * (t.val / 8) + s.val = win0_7.index t (1 : Fin 2) * 512 + s.val; rw [h1]; omega

theorem flushed7 (c : Dev nD) (t : Fin cfg0.N) : (dats m 0 c).flushed 7 t = (cfg0.win 7).cut (grid0.coords t) (outsAt0 m c t.val t.isLt).1 := by
  show (cfg0.win 7).cut (grid0.coords t) ((dats m 0 c).after 7 t) = _
  rw [after0_7]

/-- The result's array after the run, from what each point leaves. -/
theorem final_of (c : Dev nD) (G : Vec Ideal S8192x4096 .f32)
    (h : ∀ (t : Fin cfg0.N) (r : Fin 1024) (s : Fin 512) (hr : 1024 * (t.val % 8) + r.val < 8192) (hs : 512 * (t.val / 8) + s.val < 4096),
      (outsAt0 m c t.val t.isLt).1 (ix2 r s) = G (ix2 ⟨1024 * (t.val % 8) + r.val, hr⟩ ⟨512 * (t.val / 8) + s.val, hs⟩)) :
    (dats m 0 c).arrAt 7 cfg0.N = G := by
  refine (dats m 0 c).arrAt_eq_of_cover 7 G (fun t _ => (flushed7 m c t).trans (cut_eq t _ G (h t))) (fun i => ?_)
  have h0' : (i 0 : ℕ) < 8192 := (i 0).isLt
  have h1' : (i 1 : ℕ) < 4096 := (i 1).isLt
  let t : Fin cfg0.N := ⟨(i 1 : ℕ) / 512 * 8 + (i 0 : ℕ) / 1024, by rw [show cfg0.N = 64 from N_0]; omega⟩
  have htv : t.val = (i 1 : ℕ) / 512 * 8 + (i 0 : ℕ) / 1024 := rfl
  obtain ⟨-, -, -, -, -, -, -, h0, h1⟩ := idx_facts t
  refine ⟨t, flush0_7 t, ?_⟩
  rw [mem_blk7]
  intro a
  match a with
  | 0 => show win0_7.index t (0 : Fin 2) * 1024 ≤ (i 0 : ℕ) ∧ (i 0 : ℕ) < win0_7.index t (0 : Fin 2) * 1024 + 1024
         rw [h0, htv]; omega
  | 1 => show win0_7.index t (1 : Fin 2) * 512 ≤ (i 1 : ℕ) ∧ (i 1 : ℕ) < win0_7.index t (1 : Fin 2) * 512 + 512
         rw [h1, htv]; omega

/-- The run leaves the reference's array and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v7) = Ya m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r (h : Pipeline.FramePost cfgs (dats m) 0 (V m) r) c => ⟨((h c).1 7).trans (final_of m c _ (outs_apply m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.OutProjIdeal.Out

end
-- ==== Proof.OutProjClaims.lean ====
/- The output projection's claims: the reference's frame, and the equation of results over the extended reals. -/
module

public import proofs.«01_k».proof.Defs
public import proofs.«01_k».proof.Proof.OutProjValue
public import proofs.«01_k».proof.Proof.Gen.OutProj.Frame

@[expose] public section

set_option maxRecDepth 16384

noncomputable section

namespace Cert.Out

open Idealize.ShloMosaic Idealize.ShloMosaic.TcCoe Idealize.SL.Sem

theorem frame : Cert.quiescent_OutProj (hOutProj := Cert.OutProj.Gen.facts) := fun m ρ _ => Cert.OutProj.Gen.frame m ρ

theorem frame_ideal : Cert.quiescent_OutProjIdeal (hOutProjIdeal := Cert.OutProjIdeal.Gen.facts) := fun m ρ _ => Cert.OutProjIdeal.Gen.frame m ρ

theorem frame_refIdeal : Cert.quiescent_OutProjRefIdeal (hOutProjRefIdeal := Cert.OutProjRefIdeal.Gen.facts) := fun m ρ _ =>
  (θ_run Cert.OutProjRefIdeal.defs _ _).mono (fun _ h => ⟨fun c => (h c).2,
    funext fun g => ((by decide : ∀ _ : SemLoc Cert.OutProjRefIdeal.sig, False) g.2).elim⟩) (Cert.OutProjRefIdeal.Value.run m ρ)

theorem whole_congr {a a' b b' : FVec Ideal Cert.OutProjRefIdeal.S2x4096x1536 .f32} {d d' : FVec Ideal Cert.OutProjRefIdeal.S2x4096x1024 .f32}
    {w w' x x' : FVec Ideal Cert.OutProjRefIdeal.S2x4096x4096 .f32} (ha : a = a') (hb : b = b') (hd : d = d') (hw : w = w') (hx : x = x') :
    Cert.OutProjRefIdeal.Out.whole a b d w x = Cert.OutProjRefIdeal.Out.whole a' b' d' w' x' := by
  subst ha hb hd hw hx; rfl

theorem algebraic : Cert.algebraic_OutProjIdeal_OutProjRefIdeal (hOutProjIdeal := Cert.OutProjIdeal.Gen.facts) (hOutProjRefIdeal := Cert.OutProjRefIdeal.Gen.facts) := fun m ρ m' ρ' _ hag =>
  ⟨fun c => Cert.OutProjIdeal.Out.Ya m c, Cert.OutProjIdeal.Out.run m ρ,
    (θ_run Cert.OutProjRefIdeal.defs _ _).mono (fun _ h c => ⟨(h c).1.trans (by
      obtain ⟨h0, h1, h2, h3, h4⟩ := hag c
      exact whole_congr h0 h1 h2 h3 h4), (h c).2⟩) (Cert.OutProjRefIdeal.Value.run m' ρ')⟩

end Cert.Out

end
-- ==== Proof.OutProj1Cases.lean ====
/- What the second layer's output projection's call leaves at a grid point, case by case: the rounded weight block in the scratch buffer, gathered from
   three windows, and the residual plus the three products in the result block. -/
module

public import proofs.«01_k».proof.Proof.Gen.OutProj1Ideal.Frame
public import Idealize.ShloMosaic.Lib.Pipeline.Value
public import Idealize.ShloMosaic.Lib.Pointwise

@[expose] public section

set_option maxRecDepth 16384

noncomputable section

namespace Cert.OutProj1Ideal.Out

open Cert.OutProj1Ideal Cert.OutProj1Ideal.Gen
open Idealize.ShloMosaic Idealize.ShloMosaic.TcCoe Idealize.SL.Sem Idealize.ShloMosaic.Pipeline

/-- The weight block: the three windows' rows one under the other, rounded. -/
def wblk (x3 x4 : FVec Ideal S1x1536x512 .f32) (x5 : FVec Ideal S1x1024x512 .f32) : FVec Ideal S4096x512 .bf16 := fun y =>
  if h : (y 0).val < 1536 then x3 (ix3 0 ⟨(y 0).val, h⟩ (y 1))
  else if h' : (y 0).val - 1536 < 1536 then x4 (ix3 0 ⟨(y 0).val - 1536, h'⟩ (y 1))
  else x5 (ix3 0 ⟨(y 0).val - 3072, by have : (y 0).val < 4096 := (y 0).isLt; omega⟩ (y 1))

/-- One store's rows of a weight block. -/
def rows (w : FVec Ideal S1x512x512 .f32) : FVec Ideal S512x512 .bf16 := fun x => w (ix3 0 (x 0) (x 1))

theorem hz2 : (![0, 0] : Fin 2 → Nat) = fun _ => 0 := funext fun a => by fin_cases a <;> rfl

theorem pay5_eq (w : FVec Ideal S1x512x512 .f32) : k0_pay5 (F := Ideal) w = rows w := by
  funext x
  have hx : x = ix2 (x 0) (x 1) := eq_ix2 x
  rw [hx]
  unfold k0_pay5
  pointwise
  rfl

theorem pay6_eq (w : FVec Ideal S1x512x512 .f32) : k0_pay6 (F := Ideal) w = rows w := by
  funext x
  have hx : x = ix2 (x 0) (x 1) := eq_ix2 x
  rw [hx]
  unfold k0_pay6
  pointwise
  rfl

theorem pay7_eq (w : FVec Ideal S1x512x512 .f32) : k0_pay7 (F := Ideal) w = rows w := by
  funext x
  have hx : x = ix2 (x 0) (x 1) := eq_ix2 x
  rw [hx]
  unfold k0_pay7
  pointwise
  rfl

theorem pay8_eq (w : FVec Ideal S1x512x512 .f32) : k0_pay8 (F := Ideal) w = rows w := by
  funext x
  have hx : x = ix2 (x 0) (x 1) := eq_ix2 x
  rw [hx]
  unfold k0_pay8
  pointwise
  rfl

theorem pay9_eq (w : FVec Ideal S1x512x512 .f32) : k0_pay9 (F := Ideal) w = rows w := by
  funext x
  have hx : x = ix2 (x 0) (x 1) := eq_ix2 x
  rw [hx]
  unfold k0_pay9
  pointwise
  rfl

theorem pay1_eq (w : FVec Ideal S1x512x512 .f32) : k0_pay1 (F := Ideal) w = rows w := by
  funext x
  have hx : x = ix2 (x 0) (x 1) := eq_ix2 x
  rw [hx]
  unfold k0_pay1
  pointwise
  rfl

theorem pay2_eq (w : FVec Ideal S1x512x512 .f32) : k0_pay2 (F := Ideal) w = rows w := by
  funext x
  have hx : x = ix2 (x 0) (x 1) := eq_ix2 x
  rw [hx]
  unfold k0_pay2
  pointwise
  rfl

theorem pay3_eq (w : FVec Ideal S1x512x512 .f32) : k0_pay3 (F := Ideal) w = rows w := by
  funext x
  have hx : x = ix2 (x 0) (x 1) := eq_ix2 x
  rw [hx]
  unfold k0_pay3
  pointwise
  rfl

/-- The rows a store writes are the block's rows at its place. -/
theorem piece_a (o p : ℕ) (hp : p = 0 + o) (ho : o + 512 ≤ 1536) (h3 : ∀ a, (![0, o, 0] : Fin 3 → ℕ) a + S1x512x512.size a ≤ S1x1536x512.size a)
    (h2 : ∀ a, (![p, 0] : Fin 2 → ℕ) a + S512x512.size a ≤ S4096x512.size a) (x3 x4 : FVec Ideal S1x1536x512 .f32) (x5 : FVec Ideal S1x1024x512 .f32) (x : S512x512.Idx) :
    rows (fun j => x3 ((Rect.unit (s := S1x1536x512) ![0, o, 0] S1x512x512.size h3).emb j)) x = wblk x3 x4 x5 ((Rect.unit (s := S4096x512) ![p, 0] S512x512.size h2).emb x) := by
  subst hp
  have hx : (x 0).val < 512 := (x 0).isLt
  have e0 : (((Rect.unit (s := S4096x512) ![0 + o, 0] S512x512.size h2).emb x) 0).val = 0 + o + (x 0).val := by
    show 0 + o + 1 * (x 0).val = _; omega
  unfold wblk
  rw [dif_pos (by rw [e0]; omega)]
  show x3 _ = x3 _
  congr 1
  funext a
  apply Fin.ext
  match a with
  | 0 => rfl
  | 1 => show o + 1 * (x 0).val = (((Rect.unit (s := S4096x512) ![0 + o, 0] S512x512.size h2).emb x) 0).val; rw [e0]; omega
  | 2 => rfl

/-- The rows a store writes are the block's rows at its place. -/
theorem piece_b (o p : ℕ) (hp : p = 1536 + o) (ho : o + 512 ≤ 1536) (h3 : ∀ a, (![0, o, 0] : Fin 3 → ℕ) a + S1x512x512.size a ≤ S1x1536x512.size a)
    (h2 : ∀ a, (![p, 0] : Fin 2 → ℕ) a + S512x512.size a ≤ S4096x512.size a) (x3 x4 : FVec Ideal S1x1536x512 .f32) (x5 : FVec Ideal S1x1024x512 .f32) (x : S512x512.Idx) :
    rows (fun j => x4 ((Rect.unit (s := S1x1536x512) ![0, o, 0] S1x512x512.size h3).emb j)) x = wblk x3 x4 x5 ((Rect.unit (s := S4096x512) ![p, 0] S512x512.size h2).emb x) := by
  subst hp
  have hx : (x 0).val < 512 := (x 0).isLt
  have e0 : (((Rect.unit (s := S4096x512) ![1536 + o, 0] S512x512.size h2).emb x) 0).val = 1536 + o + (x 0).val := by
    show 1536 + o + 1 * (x 0).val = _; omega
  unfold wblk
  rw [dif_neg (by rw [e0]; omega), dif_pos (by rw [e0]; omega)]
  show x4 _ = x4 _
  congr 1
  funext a
  apply Fin.ext
  match a with
  | 0 => rfl
  | 1 => show o + 1 * (x 0).val = (((Rect.unit (s := S4096x512) ![1536 + o, 0] S512x512.size h2).emb x) 0).val - 1536; rw [e0]; omega
  | 2 => rfl

/-- The rows a store writes are the block's rows at its place. -/
theorem piece_c (o p : ℕ) (hp : p = 3072 + o) (ho : o + 512 ≤ 1024) (h3 : ∀ a, (![0, o, 0] : Fin 3 → ℕ) a + S1x512x512.size a ≤ S1x1024x512.size a)
    (h2 : ∀ a, (![p, 0] : Fin 2 → ℕ) a + S512x512.size a ≤ S4096x512.size a) (x3 x4 : FVec Ideal S1x1536x512 .f32) (x5 : FVec Ideal S1x1024x512 .f32) (x : S512x512.Idx) :
    rows (fun j => x5 ((Rect.unit (s := S1x1024x512) ![0, o, 0] S1x512x512.size h3).emb j)) x = wblk x3 x4 x5 ((Rect.unit (s := S4096x512) ![p, 0] S512x512.size h2).emb x) := by
  subst hp
  have hx : (x 0).val < 512 := (x 0).isLt
  have e0 : (((Rect.unit (s := S4096x512) ![3072 + o, 0] S512x512.size h2).emb x) 0).val = 3072 + o + (x 0).val := by
    show 3072 + o + 1 * (x 0).val = _; omega
  unfold wblk
  rw [dif_neg (by rw [e0]; omega), dif_neg (by rw [e0]; omega)]
  show x5 _ = x5 _
  congr 1
  funext a
  apply Fin.ext
  match a with
  | 0 => rfl
  | 1 => show o + 1 * (x 0).val = (((Rect.unit (s := S4096x512) ![3072 + o, 0] S512x512.size h2).emb x) 0).val - 3072; rw [e0]; omega
  | 2 => rfl

/-- The scratch after a point that fills it: the rounded block. -/
theorem sout_A_0_eq (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1x1536x512 .f32) (harg5 : arg5.IsWhole) (arg6 : Memref sig .tc .vmem S1x1536x512 .f32) (harg6 : arg6.IsWhole) (arg7 : Memref sig .tc .vmem S1x1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S4096x512 .bf16) (harg10 : arg10.IsWhole) (hc0 : cond0_0 i)
    (x0 : Vec Ideal S1024x1536 .bf16) (x1 : Vec Ideal S1024x1536 .bf16) (x2 : Vec Ideal S1024x1024 .bf16) (x3 : Vec Ideal S1x1536x512 .f32) (x4 : Vec Ideal S1x1536x512 .f32) (x5 : Vec Ideal S1x1024x512 .f32) (x6 : Vec Ideal S1024x512 .f32) :
    sout0_A_0 c i arg2 harg2 arg3 harg3 arg4 harg4 arg5 harg5 arg6 harg6 arg7 harg7 arg8 harg8 arg9 harg9 arg10 harg10 hc0 x0 x1 x2 x3 x4 x5 x6 = wblk x3 x4 x5 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  funext y
  refine View.canon_apply_of_pieces (wblk x3 x4 x5) _ ?_ y (scover0_A_0 c i arg2 harg2 arg3 harg3 arg4 harg4 arg5 harg5 arg6 harg6 arg7 harg7 arg8 harg8 arg9 harg9 arg10 harg10 hc0 x0 x1 x2 x3 x4 x5 x6 y)
  unfold kernelRun0_A
  dsimp only
  sl_unfold_words
  simp only [View.readAt_eq_ld, harg5.read_unread, harg6.read_unread, harg7.read_unread]
  simp only [List.forall_mem_cons, List.not_mem_nil, false_imp_iff, implies_true, and_true]
  refine ⟨?_, ?_, ?_, ?_, ?_, ?_, ?_, ?_⟩
  · exact fun x => (congrFun (pay3_eq _) x).trans (piece_c 512 3584 (by norm_num) (by norm_num) _ _ x3 x4 x5 x)
  · exact fun x => (congrFun (pay2_eq _) x).trans (piece_c 0 3072 (by norm_num) (by norm_num) _ _ x3 x4 x5 x)
  · exact fun x => (congrFun (pay1_eq _) x).trans (piece_b 1024 2560 (by norm_num) (by norm_num) _ _ x3 x4 x5 x)
  · exact fun x => (congrFun (pay9_eq _) x).trans (piece_b 512 2048 (by norm_num) (by norm_num) _ _ x3 x4 x5 x)
  · exact fun x => (congrFun (pay8_eq _) x).trans (piece_b 0 1536 (by norm_num) (by norm_num) _ _ x3 x4 x5 x)
  · exact fun x => (congrFun (pay7_eq _) x).trans (piece_a 1024 1024 (by norm_num) (by norm_num) _ _ x3 x4 x5 x)
  · exact fun x => (congrFun (pay6_eq _) x).trans (piece_a 512 512 (by norm_num) (by norm_num) _ _ x3 x4 x5 x)
  · exact fun x => (congrFun (pay5_eq _) x).trans (piece_a 0 0 (by norm_num) (by norm_num) _ _ x3 x4 x5 x)

/-- Rows of a weight block, from a row on. -/
def from1536 (o : ℕ) (h : ∀ a, (![o, 0] : Fin 2 → ℕ) a + S1536x512.size a ≤ S4096x512.size a) (W : FVec Ideal S4096x512 .bf16) : FVec Ideal S1536x512 .bf16 :=
  fun j => W ((Rect.unit (s := S4096x512) ![o, 0] S1536x512.size h).emb j)
def from1024 (o : ℕ) (h : ∀ a, (![o, 0] : Fin 2 → ℕ) a + S1024x512.size a ≤ S4096x512.size a) (W : FVec Ideal S4096x512 .bf16) : FVec Ideal S1024x512 .bf16 :=
  fun j => W ((Rect.unit (s := S4096x512) ![o, 0] S1024x512.size h).emb j)

theorem fit0 : ∀ a, (![0, 0] : Fin 2 → ℕ) a + S1536x512.size a ≤ S4096x512.size a := by decide
theorem fit1 : ∀ a, (![1536, 0] : Fin 2 → ℕ) a + S1536x512.size a ≤ S4096x512.size a := by decide
theorem fit2 : ∀ a, (![3072, 0] : Fin 2 → ℕ) a + S1024x512.size a ≤ S4096x512.size a := by decide

theorem from1536_apply (o : ℕ) (h : ∀ a, (![o, 0] : Fin 2 → ℕ) a + S1536x512.size a ≤ S4096x512.size a) (W : FVec Ideal S4096x512 .bf16) (k : Fin 1536) (s : Fin 512) (ho : o + k.val < 4096) :
    from1536 o h W (ix2 k s) = W (ix2 ⟨o + k.val, ho⟩ s) := by
  unfold from1536
  congr 1
  funext a
  apply Fin.ext
  match a with
  | 0 => show o + 1 * k.val = o + k.val; omega
  | 1 => show 0 + 1 * s.val = s.val; omega

theorem from1024_apply (o : ℕ) (h : ∀ a, (![o, 0] : Fin 2 → ℕ) a + S1024x512.size a ≤ S4096x512.size a) (W : FVec Ideal S4096x512 .bf16) (k : Fin 1024) (s : Fin 512) (ho : o + k.val < 4096) :
    from1024 o h W (ix2 k s) = W (ix2 ⟨o + k.val, ho⟩ s) := by
  unfold from1024
  congr 1
  funext a
  apply Fin.ext
  match a with
  | 0 => show o + 1 * k.val = o + k.val; omega
  | 1 => show 0 + 1 * s.val = s.val; omega

/-- A load of rows of a scratch after writes reads what they leave there. -/
theorem readCov_1536 (v : View sig .tc .vmem S4096x512 .bf16) (L : List (View.Piece (Elt Ideal) S4096x512 .bf16)) (o : ℕ)
    (h : ∀ a, (![o, 0] : Fin 2 → ℕ) a + S1536x512.size a ≤ S4096x512.size a) :
    v.readCov L (Rect.unit (s := S4096x512) ![o, 0] S1536x512.size h).toLoadRect = from1536 o h (View.canon L) := View.readCov_eq_canon' v L _

/-- A load of rows of a scratch after writes reads what they leave there. -/
theorem readCov_1024 (v : View sig .tc .vmem S4096x512 .bf16) (L : List (View.Piece (Elt Ideal) S4096x512 .bf16)) (o : ℕ)
    (h : ∀ a, (![o, 0] : Fin 2 → ℕ) a + S1024x512.size a ≤ S4096x512.size a) :
    v.readCov L (Rect.unit (s := S4096x512) ![o, 0] S1024x512.size h).toLoadRect = from1024 o h (View.canon L) := View.readCov_eq_canon' v L _

/-- A point's result block from its operands and its weight block. -/
def blockOut (x0 x1 : FVec Ideal S1024x1536 .bf16) (x2 : FVec Ideal S1024x1024 .bf16) (W : FVec Ideal S4096x512 .bf16) (x6 : FVec Ideal S1024x512 .f32) : FVec Ideal S1024x512 .f32 :=
  k0_pay4 x0 (from1536 0 fit0 W) x1 (from1536 1536 fit1 W) x2 (from1024 3072 fit2 W) x6

/-- The result block of a point that fills the scratch. -/
theorem out_A_7_eq (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1x1536x512 .f32) (harg5 : arg5.IsWhole) (arg6 : Memref sig .tc .vmem S1x1536x512 .f32) (harg6 : arg6.IsWhole) (arg7 : Memref sig .tc .vmem S1x1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S4096x512 .bf16) (harg10 : arg10.IsWhole) (hc0 : cond0_0 i)
    (x0 : Vec Ideal S1024x1536 .bf16) (x1 : Vec Ideal S1024x1536 .bf16) (x2 : Vec Ideal S1024x1024 .bf16) (x3 : Vec Ideal S1x1536x512 .f32) (x4 : Vec Ideal S1x1536x512 .f32) (x5 : Vec Ideal S1x1024x512 .f32) (x6 : Vec Ideal S1024x512 .f32) :
    out0_A_7 c i arg2 harg2 arg3 harg3 arg4 harg4 arg5 harg5 arg6 harg6 arg7 harg7 arg8 harg8 arg9 harg9 arg10 harg10 hc0 x0 x1 x2 x3 x4 x5 x6 = blockOut x0 x1 x2 (wblk x3 x4 x5) x6 := by
  have e1 := sout_A_0_eq c i arg2 harg2 arg3 harg3 arg4 harg4 arg5 harg5 arg6 harg6 arg7 harg7 arg8 harg8 arg9 harg9 arg10 harg10 hc0 x0 x1 x2 x3 x4 x5 x6
  unfold sout0_A_0 at e1
  rw [View.read_writes_junk_eq_canon] at e1
  unfold kernelRun0_A at e1
  dsimp only at e1
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  unfold blockOut
  refine congr (congr (congr (congr (congr (congr (congrArg k0_pay4 ?_) ?_) ?_) ?_) ?_) ?_) ?_
  · clear e1
    rw [View.readAt_eq_ld, harg2.read_unread]
    exact View.ld_unit_zero (S := S1024x1536) hz2 _ x0
  · exact (readCov_1536 _ _ 0 fit0).trans (congrArg (from1536 0 fit0) e1)
  · clear e1
    rw [View.readAt_eq_ld, harg3.read_unread]
    exact View.ld_unit_zero (S := S1024x1536) hz2 _ x1
  · exact (readCov_1536 _ _ 1536 fit1).trans (congrArg (from1536 1536 fit1) e1)
  · clear e1
    rw [View.readAt_eq_ld, harg4.read_unread]
    exact View.ld_unit_zero (S := S1024x1024) hz2 _ x2
  · exact (readCov_1024 _ _ 3072 fit2).trans (congrArg (from1024 3072 fit2) e1)
  · clear e1
    rw [View.readAt_eq_ld, harg8.read_unread]
    exact View.ld_unit_zero (S := S1024x512) hz2 _ x6

/-- The result block of a point that reuses the scratch. -/
theorem out_B_7_eq (c : Dev nD) (i : grid0.Coords) (arg2 : Memref sig .tc .vmem S1024x1536 .bf16) (harg2 : arg2.IsWhole) (arg3 : Memref sig .tc .vmem S1024x1536 .bf16) (harg3 : arg3.IsWhole) (arg4 : Memref sig .tc .vmem S1024x1024 .bf16) (harg4 : arg4.IsWhole) (arg5 : Memref sig .tc .vmem S1x1536x512 .f32) (harg5 : arg5.IsWhole) (arg6 : Memref sig .tc .vmem S1x1536x512 .f32) (harg6 : arg6.IsWhole) (arg7 : Memref sig .tc .vmem S1x1024x512 .f32) (harg7 : arg7.IsWhole) (arg8 : Memref sig .tc .vmem S1024x512 .f32) (harg8 : arg8.IsWhole) (arg9 : Memref sig .tc .vmem S1024x512 .f32) (harg9 : arg9.IsWhole) (arg10 : Memref sig .tc .vmem S4096x512 .bf16) (harg10 : arg10.IsWhole) (hc0 : ¬cond0_0 i)
    (x0 : Vec Ideal S1024x1536 .bf16) (x1 : Vec Ideal S1024x1536 .bf16) (x2 : Vec Ideal S1024x1024 .bf16) (x3 : Vec Ideal S1x1536x512 .f32) (x4 : Vec Ideal S1x1536x512 .f32) (x5 : Vec Ideal S1x1024x512 .f32) (x6 : Vec Ideal S1024x512 .f32) (xs0 : Vec Ideal S4096x512 .bf16) :
    out0_B_7 c i arg2 harg2 arg3 harg3 arg4 harg4 arg5 harg5 arg6 harg6 arg7 harg7 arg8 harg8 arg9 harg9 arg10 harg10 hc0 x0 x1 x2 x3 x4 x5 x6 xs0 = blockOut x0 x1 x2 xs0 x6 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  try sl_unfold_words
  rw [View.canon_unit_zero hz2]
  unfold blockOut
  refine congr (congr (congr (congr (congr (congr (congrArg k0_pay4 ?_) ?_) ?_) ?_) ?_) ?_) ?_
  · rw [View.readAt_eq_ld, harg2.read_unread]
    exact View.ld_unit_zero (S := S1024x1536) hz2 _ x0
  · rw [View.readAt_eq_ld, harg10.read_unread]
    rfl
  · rw [View.readAt_eq_ld, harg3.read_unread]
    exact View.ld_unit_zero (S := S1024x1536) hz2 _ x1
  · rw [View.readAt_eq_ld, harg10.read_unread]
    rfl
  · rw [View.readAt_eq_ld, harg4.read_unread]
    exact View.ld_unit_zero (S := S1024x1024) hz2 _ x2
  · rw [View.readAt_eq_ld, harg10.read_unread]
    rfl
  · rw [View.readAt_eq_ld, harg8.read_unread]
    exact View.ld_unit_zero (S := S1024x512) hz2 _ x6

end Cert.OutProj1Ideal.Out

end
-- ==== Proof.OutProj1Value.lean ====
/- The second layer's output projection: what the call leaves is the residual plus the whole product, its three partial products added one after
   another. -/
module

public import proofs.«01_k».proof.Proof.OutProj1Cases
public import proofs.«01_k».proof.Proof.SumSplit
public import proofs.«01_k».proof.Proof.Gen.OutProj1RefIdeal.Run

@[expose] public section

set_option maxRecDepth 16384

noncomputable section

namespace Cert.OutProj1RefIdeal.Out

open Cert.OutProj1RefIdeal Cert.OutProj1RefIdeal.Gen Idealize.ShloMosaic Idealize.ShloMosaic.TcCoe

/-- The mixers' outputs side by side. -/
def mixed (a b : FVec Ideal S2x4096x1536 .f32) (d : FVec Ideal S2x4096x1024 .f32) : FVec Ideal S2x4096x4096 .f32 :=
  concatenate S2x4096x4096 2 [⟨S2x4096x1536, a⟩, ⟨S2x4096x1536, b⟩, ⟨S2x4096x1024, d⟩] concatenates_S2x4096x1536_S2x4096x1536_S2x4096x1024_S2x4096x4096_d2

/-- A product of the rows with the second layer's weights. -/
def prod (h : FVec Ideal S2x4096x4096 .f32) (w : FVec Ideal S2x4096x4096 .f32) : FVec Ideal S2x4096x4096 .f32 :=
  Host.dotGeneral dot_S2x4096x4096_S4096x4096_S2x4096x4096_2_0_01_1_n_n none h (shapeCast _ (extractStridedSlice S1x4096x4096 ![1, 0, 0] w slices_S2x4096x4096_S1x4096x4096_1_0_0) shapeCasts_S1x4096x4096_S4096x4096)

/-- The reference's result. -/
def whole (a b : FVec Ideal S2x4096x1536 .f32) (d : FVec Ideal S2x4096x1024 .f32) (w x : FVec Ideal S2x4096x4096 .f32) : FVec Ideal S8192x4096 .f32 :=
  shapeCast _ (addf x (prod (mixed a b d) w)) shapeCasts_S2x4096x4096_S8192x4096

theorem mixed_0 (a b : FVec Ideal S2x4096x1536 .f32) (d : FVec Ideal S2x4096x1024 .f32) (i : Fin 2) (s : Fin 4096) (k : Fin 1536) :
    mixed a b d (ix3 i s ⟨k.val, by have := k.isLt; omega⟩) = a (ix3 i s k) := by
  have := k.isLt
  unfold mixed
  pointwise

theorem mixed_1 (a b : FVec Ideal S2x4096x1536 .f32) (d : FVec Ideal S2x4096x1024 .f32) (i : Fin 2) (s : Fin 4096) (k : Fin 1536) :
    mixed a b d (ix3 i s ⟨1536 + k.val, by have := k.isLt; omega⟩) = b (ix3 i s k) := by
  have := k.isLt
  unfold mixed
  pointwise

theorem mixed_2 (a b : FVec Ideal S2x4096x1536 .f32) (d : FVec Ideal S2x4096x1024 .f32) (i : Fin 2) (s : Fin 4096) (k : Fin 1024) :
    mixed a b d (ix3 i s ⟨1536 + (1536 + k.val), by have := k.isLt; omega⟩) = d (ix3 i s k) := by
  have := k.isLt
  unfold mixed
  pointwise

theorem prod_apply (h w : FVec Ideal S2x4096x4096 .f32) (b : Fin 2) (s : Fin 4096) (j : Fin 4096) :
    prod h w (ix3 b s j) = ∑ k : Fin 4096, h (ix3 b s k) * w (ix3 1 k j) := by
  unfold prod
  pointwise

/-- The product, a mixer at a time. -/
theorem prod_mixed (a b : FVec Ideal S2x4096x1536 .f32) (d : FVec Ideal S2x4096x1024 .f32) (w : FVec Ideal S2x4096x4096 .f32) (i : Fin 2) (s : Fin 4096) (j : Fin 4096) :
    prod (mixed a b d) w (ix3 i s j) = (∑ k : Fin 1536, a (ix3 i s k) * w (ix3 1 ⟨k.val, by have := k.isLt; omega⟩ j)
      + (∑ k : Fin 1536, b (ix3 i s k) * w (ix3 1 ⟨1536 + k.val, by have := k.isLt; omega⟩ j)
        + ∑ k : Fin 1024, d (ix3 i s k) * w (ix3 1 ⟨1536 + (1536 + k.val), by have := k.isLt; omega⟩ j)) : EReal) := by
  rw [prod_apply, Cert.SumSplit.cut 1536 2560 (by norm_num), Cert.SumSplit.cut 1536 1024 (by norm_num) (fun i' : Fin 2560 => _)]
  refine congrArg₂ (fun p q : EReal => p + q) (Finset.sum_congr rfl fun k _ => ?_) (congrArg₂ (fun p q : EReal => p + q) (Finset.sum_congr rfl fun k _ => ?_) (Finset.sum_congr rfl fun k _ => ?_))
  · exact congrArg₂ (fun p q : EReal => p * q) (mixed_0 a b d i s k) rfl
  · exact congrArg₂ (fun p q : EReal => p * q) (mixed_1 a b d i s k) rfl
  · exact congrArg₂ (fun p q : EReal => p * q) (mixed_2 a b d i s k) rfl

theorem whole_apply (a b : FVec Ideal S2x4096x1536 .f32) (d : FVec Ideal S2x4096x1024 .f32) (w x : FVec Ideal S2x4096x4096 .f32) (i : Fin 2) (s : Fin 4096) (j : Fin 4096) (hr : 4096 * i.val + s.val < 8192) :
    whole a b d w x (ix2 ⟨4096 * i.val + s.val, hr⟩ j) = (x (ix3 i s j) + prod (mixed a b d) w (ix3 i s j) : EReal) := by
  have := i.isLt; have := s.isLt; have := j.isLt
  unfold whole
  rw [shapeCast_apply _ _ (ix2 ⟨4096 * i.val + s.val, hr⟩ j) (ix3 i s j) (by
    rw [Shape.rowMajor_val_two, Shape.rowMajor_val_three]
    show (i.val * 4096 + s.val) * 4096 + j.val = (4096 * i.val + s.val) * 4096 + j.val
    omega)]
  rfl

end Cert.OutProj1RefIdeal.Out

namespace Cert.OutProj1Ideal.Out

open Cert.OutProj1Ideal Cert.OutProj1Ideal.Gen
open Idealize.ShloMosaic Idealize.ShloMosaic.TcCoe Idealize.SL.Sem Idealize.ShloMosaic.Pipeline

theorem res_apply (x0 : FVec Ideal S1024x1536 .bf16) (w0 : FVec Ideal S1536x512 .bf16) (x1 : FVec Ideal S1024x1536 .bf16) (w1 : FVec Ideal S1536x512 .bf16)
    (x2 : FVec Ideal S1024x1024 .bf16) (w2 : FVec Ideal S1024x512 .bf16) (x6 : FVec Ideal S1024x512 .f32) (r : Fin 1024) (s : Fin 512) :
    (k0_pay4 (F := Ideal) x0 w0 x1 w1 x2 w2 x6 (ix2 r s) : EReal) = x6 (ix2 r s) + (∑ k : Fin 1536, x0 (ix2 r k) * w0 (ix2 k s) + ∑ k : Fin 1536, x1 (ix2 r k) * w1 (ix2 k s) + ∑ k : Fin 1024, x2 (ix2 r k) * w2 (ix2 k s)) := by
  unfold k0_pay4
  pointwise

variable (m : (ℓ : Loc nD τ sig) → Buf (Elt Ideal) ℓ)

/-- The three mixers' outputs. -/
abbrev Aa (c : Dev nD) : FVec Ideal S2x4096x1536 .f32 := m ((c.tc : Thread nD τ).loc main_arg0)
abbrev Ba (c : Dev nD) : FVec Ideal S2x4096x1536 .f32 := m ((c.tc : Thread nD τ).loc main_arg1)
abbrev Ca (c : Dev nD) : FVec Ideal S2x4096x1024 .f32 := m ((c.tc : Thread nD τ).loc main_arg2)
/-- The weights. -/
abbrev Wa (c : Dev nD) : FVec Ideal S2x4096x4096 .f32 := m ((c.tc : Thread nD τ).loc main_arg3)
/-- The residual. -/
abbrev Xa (c : Dev nD) : FVec Ideal S2x4096x4096 .f32 := m ((c.tc : Thread nD τ).loc main_arg4)

/-- Flat rows of 1536, 1024 and 4096 columns. -/
def flat1536 (x : FVec Ideal S2x4096x1536 .f32) : FVec Ideal S8192x1536 .bf16 := truncf .bf16 (shapeCast S8192x1536 x shapeCasts_S2x4096x1536_S8192x1536) bitsLt_bf16_f32
def flat1024 (x : FVec Ideal S2x4096x1024 .f32) : FVec Ideal S8192x1024 .bf16 := truncf .bf16 (shapeCast S8192x1024 x shapeCasts_S2x4096x1024_S8192x1024) bitsLt_bf16_f32
def flat4096 (x : FVec Ideal S2x4096x4096 .f32) : FVec Ideal S8192x4096 .f32 := shapeCast S8192x4096 x shapeCasts_S2x4096x4096_S8192x4096

theorem flat1536_apply (x : FVec Ideal S2x4096x1536 .f32) (R : ℕ) (hR : R < 8192) (b : Fin 2) (s : Fin 4096) (k : Fin 1536) (e : R = 4096 * b.val + s.val) :
    flat1536 x (ix2 ⟨R, hR⟩ k) = x (ix3 b s k) := by
  have := b.isLt; have := s.isLt; have := k.isLt
  unfold flat1536
  show shapeCast S8192x1536 x shapeCasts_S2x4096x1536_S8192x1536 (ix2 ⟨R, hR⟩ k) = _
  rw [shapeCast_apply _ _ (ix2 ⟨R, hR⟩ k) (ix3 b s k) (by
    rw [Shape.rowMajor_val_two, Shape.rowMajor_val_three]
    show (b.val * 4096 + s.val) * 1536 + k.val = R * 1536 + k.val
    omega)]

theorem flat1024_apply (x : FVec Ideal S2x4096x1024 .f32) (R : ℕ) (hR : R < 8192) (b : Fin 2) (s : Fin 4096) (k : Fin 1024) (e : R = 4096 * b.val + s.val) :
    flat1024 x (ix2 ⟨R, hR⟩ k) = x (ix3 b s k) := by
  have := b.isLt; have := s.isLt; have := k.isLt
  unfold flat1024
  show shapeCast S8192x1024 x shapeCasts_S2x4096x1024_S8192x1024 (ix2 ⟨R, hR⟩ k) = _
  rw [shapeCast_apply _ _ (ix2 ⟨R, hR⟩ k) (ix3 b s k) (by
    rw [Shape.rowMajor_val_two, Shape.rowMajor_val_three]
    show (b.val * 4096 + s.val) * 1024 + k.val = R * 1024 + k.val
    omega)]

theorem flat4096_apply (x : FVec Ideal S2x4096x4096 .f32) (R : ℕ) (hR : R < 8192) (b : Fin 2) (s : Fin 4096) (k : Fin 4096) (e : R = 4096 * b.val + s.val) :
    flat4096 x (ix2 ⟨R, hR⟩ k) = x (ix3 b s k) := by
  have := b.isLt; have := s.isLt; have := k.isLt
  unfold flat4096
  show shapeCast S8192x4096 x shapeCasts_S2x4096x4096_S8192x4096 (ix2 ⟨R, hR⟩ k) = _
  rw [shapeCast_apply _ _ (ix2 ⟨R, hR⟩ k) (ix3 b s k) (by
    rw [Shape.rowMajor_val_two, Shape.rowMajor_val_three]
    show (b.val * 4096 + s.val) * 4096 + k.val = R * 4096 + k.val
    omega)]

theorem V_a (c : Dev nD) : V m c main_v1 = flat1536 (Aa m c) := by
  simp only [V, hostOps0]; after_results
  rfl

theorem V_b (c : Dev nD) : V m c main_v3 = flat1536 (Ba m c) := by
  simp only [V, hostOps0]; after_results
  rfl

theorem V_c (c : Dev nD) : V m c main_v5 = flat1024 (Ca m c) := by
  simp only [V, hostOps0]; after_results
  rfl

theorem V_x (c : Dev nD) : V m c main_v6 = flat4096 (Xa m c) := by
  simp only [V, hostOps0]; after_results
  rfl

/-- Where the windows are at a grid point. -/
theorem idx_facts : ∀ t : Fin cfg0.N,
    (win0_0.index t (0 : Fin 2) = t.val % 8 ∧ win0_0.index t (1 : Fin 2) = 0)
    ∧ (win0_1.index t (0 : Fin 2) = t.val % 8 ∧ win0_1.index t (1 : Fin 2) = 0)
    ∧ (win0_2.index t (0 : Fin 2) = t.val % 8 ∧ win0_2.index t (1 : Fin 2) = 0)
    ∧ (win0_3.index t (0 : Fin 3) = 1 ∧ win0_3.index t (1 : Fin 3) = 0 ∧ win0_3.index t (2 : Fin 3) = t.val / 8)
    ∧ (win0_4.index t (0 : Fin 3) = 1 ∧ win0_4.index t (1 : Fin 3) = 1 ∧ win0_4.index t (2 : Fin 3) = t.val / 8)
    ∧ (win0_5.index t (0 : Fin 3) = 1 ∧ win0_5.index t (1 : Fin 3) = 3 ∧ win0_5.index t (2 : Fin 3) = t.val / 8)
    ∧ (win0_6.index t (0 : Fin 2) = t.val % 8 ∧ win0_6.index t (1 : Fin 2) = t.val / 8)
    ∧ (win0_7.index t (0 : Fin 2) = t.val % 8 ∧ win0_7.index t (1 : Fin 2) = t.val / 8) :=
  (by decide +kernel : ∀ t : Fin grid0.N, _)

theorem iblk_a (c : Dev nD) (n : ℕ) (h : n < cfg0.N) (r : Fin 1024) (k : Fin 1536) (hr : 1024 * (n % 8) + r.val < 8192) :
    iblk m c 0 ⟨n, h⟩ (ix2 r k) = flat1536 (Aa m c) (ix2 ⟨1024 * (n % 8) + r.val, hr⟩ k) := by
  obtain ⟨⟨h0, h1⟩, -⟩ := idx_facts ⟨n, h⟩
  have ee : (win0_0.rect ⟨n, h⟩).emb (ix2 r k) = ix2 ⟨1024 * (n % 8) + r.val, hr⟩ k := by
    funext a
    apply Fin.ext
    rw [win0_0.rect_emb_val ⟨n, h⟩ (ix2 r k) a]
    match a with
    | 0 => show win0_0.index ⟨n, h⟩ (0 : Fin 2) * 1024 + r.val = 1024 * (n % 8) + r.val; rw [h0]; dsimp only; omega
    | 1 => show win0_0.index ⟨n, h⟩ (1 : Fin 2) * 1536 + k.val = k.val; rw [h1]; omega
  show V m c main_v1 ((win0_0.rect ⟨n, h⟩).emb (ix2 r k)) = _
  rw [ee, V_a]

theorem iblk_b (c : Dev nD) (n : ℕ) (h : n < cfg0.N) (r : Fin 1024) (k : Fin 1536) (hr : 1024 * (n % 8) + r.val < 8192) :
    iblk m c 1 ⟨n, h⟩ (ix2 r k) = flat1536 (Ba m c) (ix2 ⟨1024 * (n % 8) + r.val, hr⟩ k) := by
  obtain ⟨-, ⟨h0, h1⟩, -⟩ := idx_facts ⟨n, h⟩
  have ee : (win0_1.rect ⟨n, h⟩).emb (ix2 r k) = ix2 ⟨1024 * (n % 8) + r.val, hr⟩ k := by
    funext a
    apply Fin.ext
    rw [win0_1.rect_emb_val ⟨n, h⟩ (ix2 r k) a]
    match a with
    | 0 => show win0_1.index ⟨n, h⟩ (0 : Fin 2) * 1024 + r.val = 1024 * (n % 8) + r.val; rw [h0]; dsimp only; omega
    | 1 => show win0_1.index ⟨n, h⟩ (1 : Fin 2) * 1536 + k.val = k.val; rw [h1]; omega
  show V m c main_v3 ((win0_1.rect ⟨n, h⟩).emb (ix2 r k)) = _
  rw [ee, V_b]

theorem iblk_c (c : Dev nD) (n : ℕ) (h : n < cfg0.N) (r : Fin 1024) (k : Fin 1024) (hr : 1024 * (n % 8) + r.val < 8192) :
    iblk m c 2 ⟨n, h⟩ (ix2 r k) = flat1024 (Ca m c) (ix2 ⟨1024 * (n % 8) + r.val, hr⟩ k) := by
  obtain ⟨-, -, ⟨h0, h1⟩, -⟩ := idx_facts ⟨n, h⟩
  have ee : (win0_2.rect ⟨n, h⟩).emb (ix2 r k) = ix2 ⟨1024 * (n % 8) + r.val, hr⟩ k := by
    funext a
    apply Fin.ext
    rw [win0_2.rect_emb_val ⟨n, h⟩ (ix2 r k) a]
    match a with
    | 0 => show win0_2.index ⟨n, h⟩ (0 : Fin 2) * 1024 + r.val = 1024 * (n % 8) + r.val; rw [h0]; dsimp only; omega
    | 1 => show win0_2.index ⟨n, h⟩ (1 : Fin 2) * 1024 + k.val = k.val; rw [h1]; omega
  show V m c main_v5 ((win0_2.rect ⟨n, h⟩).emb (ix2 r k)) = _
  rw [ee, V_c]

theorem iblk_x (c : Dev nD) (n : ℕ) (h : n < cfg0.N) (r : Fin 1024) (s : Fin 512) (hr : 1024 * (n % 8) + r.val < 8192) (hs : 512 * (n / 8) + s.val < 4096) :
    iblk m c 6 ⟨n, h⟩ (ix2 r s) = flat4096 (Xa m c) (ix2 ⟨1024 * (n % 8) + r.val, hr⟩ ⟨512 * (n / 8) + s.val, hs⟩) := by
  obtain ⟨-, -, -, -, -, -, ⟨h0, h1⟩, -⟩ := idx_facts ⟨n, h⟩
  have ee : (win0_6.rect ⟨n, h⟩).emb (ix2 r s) = ix2 ⟨1024 * (n % 8) + r.val, hr⟩ ⟨512 * (n / 8) + s.val, hs⟩ := by
    funext a
    apply Fin.ext
    rw [win0_6.rect_emb_val ⟨n, h⟩ (ix2 r s) a]
    match a with
    | 0 => show win0_6.index ⟨n, h⟩ (0 : Fin 2) * 1024 + r.val = 1024 * (n % 8) + r.val; rw [h0]; dsimp only; omega
    | 1 => show win0_6.index ⟨n, h⟩ (1 : Fin 2) * 512 + s.val = 512 * (n / 8) + s.val; rw [h1]; dsimp only; omega
  show V m c main_v6 ((win0_6.rect ⟨n, h⟩).emb (ix2 r s)) = _
  rw [ee, V_x]

theorem X_w3 (c : Dev nD) (n J : ℕ) (h : n < cfg0.N) (hn : n / 8 = J) (k : Fin 1536) (s : Fin 512) (hk : 0 + k.val < 4096) (hs : 512 * J + s.val < 4096) :
    X0_3 m c ⟨n, h⟩ (ix3 0 k s) = Wa m c (ix3 1 ⟨0 + k.val, hk⟩ ⟨512 * J + s.val, hs⟩) := by
  obtain ⟨-, -, -, ⟨h0, h1, h2⟩, -⟩ := idx_facts ⟨n, h⟩
  unfold X0_3 Pipeline.Window.fill
  rw [dif_pos (moved0_3 ⟨n, h⟩ (ix3 0 k s))]
  show V m c main_arg3 ((win0_3.rect ⟨n, h⟩).emb _) = _
  rw [V_main_arg3]
  refine congrArg (Wa m c) ?_
  funext a
  apply Fin.ext
  rw [win0_3.rect_emb_val ⟨n, h⟩ _ a]
  match a with
  | 0 => show win0_3.index ⟨n, h⟩ (0 : Fin 3) * 1 + 0 = 1; rw [h0]
  | 1 => show win0_3.index ⟨n, h⟩ (1 : Fin 3) * 1536 + k.val = 0 + k.val; rw [h1]
  | 2 => show win0_3.index ⟨n, h⟩ (2 : Fin 3) * 512 + s.val = 512 * J + s.val; rw [h2]; dsimp only; omega

theorem X_w4 (c : Dev nD) (n J : ℕ) (h : n < cfg0.N) (hn : n / 8 = J) (k : Fin 1536) (s : Fin 512) (hk : 1536 + k.val < 4096) (hs : 512 * J + s.val < 4096) :
    X0_4 m c ⟨n, h⟩ (ix3 0 k s) = Wa m c (ix3 1 ⟨1536 + k.val, hk⟩ ⟨512 * J + s.val, hs⟩) := by
  obtain ⟨-, -, -, -, ⟨h0, h1, h2⟩, -⟩ := idx_facts ⟨n, h⟩
  unfold X0_4 Pipeline.Window.fill
  rw [dif_pos (moved0_4 ⟨n, h⟩ (ix3 0 k s))]
  show V m c main_arg3 ((win0_4.rect ⟨n, h⟩).emb _) = _
  rw [V_main_arg3]
  refine congrArg (Wa m c) ?_
  funext a
  apply Fin.ext
  rw [win0_4.rect_emb_val ⟨n, h⟩ _ a]
  match a with
  | 0 => show win0_4.index ⟨n, h⟩ (0 : Fin 3) * 1 + 0 = 1; rw [h0]
  | 1 => show win0_4.index ⟨n, h⟩ (1 : Fin 3) * 1536 + k.val = 1536 + k.val; rw [h1]
  | 2 => show win0_4.index ⟨n, h⟩ (2 : Fin 3) * 512 + s.val = 512 * J + s.val; rw [h2]; dsimp only; omega

theorem X_w5 (c : Dev nD) (n J : ℕ) (h : n < cfg0.N) (hn : n / 8 = J) (k : Fin 1024) (s : Fin 512) (hk : 3072 + k.val < 4096) (hs : 512 * J + s.val < 4096) :
    iblk m c 5 ⟨n, h⟩ (ix3 0 k s) = Wa m c (ix3 1 ⟨3072 + k.val, hk⟩ ⟨512 * J + s.val, hs⟩) := by
  obtain ⟨-, -, -, -, -, ⟨h0, h1, h2⟩, -⟩ := idx_facts ⟨n, h⟩
  show V m c main_arg3 ((win0_5.rect ⟨n, h⟩).emb _) = _
  rw [V_main_arg3]
  refine congrArg (Wa m c) ?_
  funext a
  apply Fin.ext
  rw [win0_5.rect_emb_val ⟨n, h⟩ _ a]
  match a with
  | 0 => show win0_5.index ⟨n, h⟩ (0 : Fin 3) * 1 + 0 = 1; rw [h0]
  | 1 => show win0_5.index ⟨n, h⟩ (1 : Fin 3) * 1024 + k.val = 3072 + k.val; rw [h1]
  | 2 => show win0_5.index ⟨n, h⟩ (2 : Fin 3) * 512 + s.val = 512 * J + s.val; rw [h2]; dsimp only; omega

/-- A tile of the second layer's weights, rounded. -/
def tile (w : FVec Ideal S2x4096x4096 .f32) (J : ℕ) (hJ : J < 8) : FVec Ideal S4096x512 .bf16 := fun y =>
  w (ix3 1 (y 0) ⟨512 * J + (y 1).val, by have : (y 1).val < 512 := (y 1).isLt; omega⟩)

/-- The three windows' blocks are a tile of the weights. -/
theorem wblk_eq (c : Dev nD) (n J : ℕ) (h : n < cfg0.N) (hn : n / 8 = J) (hJ : J < 8) :
    wblk (X0_3 m c ⟨n, h⟩) (X0_4 m c ⟨n, h⟩) (iblk m c 5 ⟨n, h⟩) = tile (Wa m c) J hJ := by
  funext y
  have hy0 : (y 0).val < 4096 := (y 0).isLt
  have hy : (y 1).val < 512 := (y 1).isLt
  have hq : 512 * J + (y 1).val < 4096 := by omega
  have cl : ∀ (q : Fin 4096), q.val = (y 0).val → Wa m c (ix3 1 q ⟨512 * J + (y 1).val, hq⟩) = tile (Wa m c) J hJ y := fun q e =>
    congrArg (fun z => Wa m c (ix3 1 z ⟨512 * J + (y 1).val, hq⟩)) (Fin.ext e : q = y 0)
  unfold wblk
  by_cases h1 : (y 0).val < 1536
  · rw [dif_pos h1]
    exact (X_w3 m c n J h hn ⟨(y 0).val, h1⟩ (y 1) (by show 0 + (y 0).val < 4096; omega) hq).trans (cl _ (by show 0 + (y 0).val = _; omega))
  · rw [dif_neg h1]
    by_cases h2 : (y 0).val - 1536 < 1536
    · rw [dif_pos h2]
      exact (X_w4 m c n J h hn ⟨(y 0).val - 1536, h2⟩ (y 1) (by show 1536 + ((y 0).val - 1536) < 4096; omega) hq).trans (cl _ (by show 1536 + ((y 0).val - 1536) = _; omega))
    · rw [dif_neg h2]
      exact (X_w5 m c n J h hn ⟨(y 0).val - 3072, by omega⟩ (y 1) (by show 3072 + ((y 0).val - 3072) < 4096; omega) hq).trans (cl _ (by show 3072 + ((y 0).val - 3072) = _; omega))

/-- The scratch buffer holds the column's weight tile, and the result block is the residual plus the products over it. -/
theorem outs_eq (c : Dev nD) : ∀ (n J : ℕ) (h : n < cfg0.N) (_ : n / 8 = J) (hJ : J < 8),
    outsAt0 m c n h = (blockOut (iblk m c 0 ⟨n, h⟩) (iblk m c 1 ⟨n, h⟩) (iblk m c 2 ⟨n, h⟩) (tile (Wa m c) J hJ) (iblk m c 6 ⟨n, h⟩), tile (Wa m c) J hJ) := by
  intro n
  induction n with
  | zero =>
    intro J h hn hJ
    have e := outsAt0_A m c ⟨0, h⟩ (by show 0 % 8 = 0; omega)
    rw [out_A_7_eq, sout_A_0_eq, wblk_eq m c 0 J h hn hJ] at e
    exact e
  | succ n ih =>
    intro J h hn hJ
    by_cases h8 : (n + 1) % 8 = 0
    · have e := outsAt0_A m c ⟨n + 1, h⟩ (by show (n + 1) % 8 = 0; omega)
      rw [out_A_7_eq, sout_A_0_eq, wblk_eq m c (n + 1) J h hn hJ] at e
      exact e
    · have e := outsAt0_B m c ⟨n + 1, h⟩ (by show ¬(n + 1) % 8 = 0; omega)
      have i := ih J (Nat.lt_of_le_of_lt (Nat.le_succ n) h) (by omega) hJ
      rw [out_B_7_eq] at e
      unfold sout0_B_0 at e
      have e' : outsAt0 m c (n + 1) h = (blockOut (iblk m c 0 ⟨n + 1, h⟩) (iblk m c 1 ⟨n + 1, h⟩) (iblk m c 2 ⟨n + 1, h⟩) (outsAt0 m c n (Nat.lt_of_le_of_lt (Nat.le_succ n) h)).2 (iblk m c 6 ⟨n + 1, h⟩),
        (outsAt0 m c n (Nat.lt_of_le_of_lt (Nat.le_succ n) h)).2) := e
      rw [e', i]

/-- What the run leaves in the result. -/
abbrev Ya (c : Dev nD) : FVec Ideal S8192x4096 .f32 := Cert.OutProj1RefIdeal.Out.whole (Aa m c) (Ba m c) (Ca m c) (Wa m c) (Xa m c)

/-- A point's block is the result's, element by element. -/
theorem outs_apply (c : Dev nD) (t : Fin cfg0.N) (r : Fin 1024) (s : Fin 512) (hr : 1024 * (t.val % 8) + r.val < 8192) (hs : 512 * (t.val / 8) + s.val < 4096) :
    (outsAt0 m c t.val t.isLt).1 (ix2 r s) = Ya m c (ix2 ⟨1024 * (t.val % 8) + r.val, hr⟩ ⟨512 * (t.val / 8) + s.val, hs⟩) := by
  obtain ⟨n, h⟩ := t
  dsimp only at hr hs ⊢
  have hN : n < 64 := lt_of_lt_of_eq h (show cfg0.N = 64 from N_0)
  have hJ : n / 8 < 8 := by omega
  have hb : (1024 * (n % 8) + r.val) / 4096 < 2 := by omega
  have hq : (1024 * (n % 8) + r.val) % 4096 < 4096 := Nat.mod_lt _ (by decide)
  have hR : 1024 * (n % 8) + r.val = 4096 * ((1024 * (n % 8) + r.val) / 4096) + (1024 * (n % 8) + r.val) % 4096 := by omega
  rw [outs_eq m c n (n / 8) h rfl hJ]
  unfold blockOut
  refine (res_apply _ _ _ _ _ _ _ r s).trans ?_
  have ew : Ya m c (ix2 ⟨1024 * (n % 8) + r.val, hr⟩ ⟨512 * (n / 8) + s.val, hs⟩)
      = Ya m c (ix2 ⟨4096 * ((1024 * (n % 8) + r.val) / 4096) + (1024 * (n % 8) + r.val) % 4096, by omega⟩ ⟨512 * (n / 8) + s.val, hs⟩) :=
    congrArg (fun q => Ya m c (ix2 q ⟨512 * (n / 8) + s.val, hs⟩)) (Fin.ext hR)
  refine Eq.trans ?_ (ew.trans ((Cert.OutProj1RefIdeal.Out.whole_apply _ _ _ _ _ ⟨_, hb⟩ ⟨_, hq⟩ ⟨512 * (n / 8) + s.val, hs⟩ (by dsimp only; omega)).trans
    (congrArg (fun z : EReal => Xa m c (ix3 ⟨_, hb⟩ ⟨_, hq⟩ ⟨512 * (n / 8) + s.val, hs⟩) + z) (Cert.OutProj1RefIdeal.Out.prod_mixed _ _ _ _ ⟨_, hb⟩ ⟨_, hq⟩ ⟨512 * (n / 8) + s.val, hs⟩)))).symm
  refine congrArg₂ (fun p q : EReal => p + q) ((iblk_x m c n h r s hr hs).trans (flat4096_apply _ _ hr ⟨_, hb⟩ ⟨_, hq⟩ _ hR)) ?_
  refine Eq.trans ?_ (add_assoc (G := EReal) _ _ _)
  refine congrArg₂ (fun p q : EReal => p + q) (congrArg₂ (fun p q : EReal => p + q) (Finset.sum_congr rfl fun k _ => ?_) (Finset.sum_congr rfl fun k _ => ?_)) (Finset.sum_congr rfl fun k _ => ?_)
  · have := k.isLt
    refine congrArg₂ (fun p q : EReal => p * q) ((iblk_a m c n h r k hr).trans (flat1536_apply _ _ hr ⟨_, hb⟩ ⟨_, hq⟩ k hR)) ((from1536_apply 0 fit0 _ k s (by omega)).trans ?_)
    exact congrArg (fun z => Wa m c (ix3 1 z ⟨512 * (n / 8) + s.val, hs⟩)) (Fin.ext (by show 0 + k.val = k.val; omega))
  · have := k.isLt
    exact congrArg₂ (fun p q : EReal => p * q) ((iblk_b m c n h r k hr).trans (flat1536_apply _ _ hr ⟨_, hb⟩ ⟨_, hq⟩ k hR)) (from1536_apply 1536 fit1 _ k s (by omega))
  · have := k.isLt
    refine congrArg₂ (fun p q : EReal => p * q) ((iblk_c m c n h r k hr).trans (flat1024_apply _ _ hr ⟨_, hb⟩ ⟨_, hq⟩ k hR)) ((from1024_apply 3072 fit2 _ k s (by omega)).trans ?_)
    exact congrArg (fun z => Wa m c (ix3 1 z ⟨512 * (n / 8) + s.val, hs⟩)) (Fin.ext (by show 3072 + k.val = 1536 + (1536 + k.val); omega))

theorem mem_blk7 (t : Fin cfg0.N) (i : S8192x4096.Idx) :
    i ∈ ((cfg0.win 7).blk t).view.set ↔ ∀ a : Fin 2, win0_7.index t a * S1024x512.size a ≤ i a ∧ (i a : ℕ) < win0_7.index t a * S1024x512.size a + S1024x512.size a := by
  show i ∈ ((View.whole main_v7).slice (win0_7.rect t)).set ↔ _
  rw [View.set_slice_whole, Rect.mem_set_unit]; exact Iff.rfl

theorem cut_eq (t : Fin cfg0.N) (o : Vec Ideal S1024x512 .f32) (G : Vec Ideal S8192x4096 .f32)
    (h : ∀ (r : Fin 1024) (s : Fin 512) (hr : 1024 * (t.val % 8) + r.val < 8192) (hs : 512 * (t.val / 8) + s.val < 4096),
      o (ix2 r s) = G (ix2 ⟨1024 * (t.val % 8) + r.val, hr⟩ ⟨512 * (t.val / 8) + s.val, hs⟩)) :
    (cfg0.win 7).cut (grid0.coords t) o = ((cfg0.win 7).blk t).view.read (Elt Ideal) G := by
  funext y
  obtain ⟨r, s, rfl⟩ : ∃ r s, y = ix2 r s := ⟨y 0, y 1, eq_ix2 y⟩
  have hN : t.val < 64 := lt_of_lt_of_eq t.isLt (show cfg0.N = 64 from N_0)
  have hr : r.val < 1024 := r.isLt
  have hs : s.val < 512 := s.isLt
  obtain ⟨-, -, -, -, -, -, -, h0, h1⟩ := idx_facts t
  refine (h r s (by omega) (by omega)).trans ?_
  show _ = G ((win0_7.rect t).emb (ix2 r s))
  congr 1
  funext a; apply Fin.ext; rw [win0_7.rect_emb_val t (ix2 r s) a]
  match a with
  | 0 => show 1024 * (t.val % 8) + r.val = win0_7.index t (0 : Fin 2) * 1024 + r.val; rw [h0]; omega
  | 1 => show 512 * (t.val / 8) + s.val = win0_7.index t (1 : Fin 2) * 512 + s.val; rw [h1]; omega

theorem flushed7 (c : Dev nD) (t : Fin cfg0.N) : (dats m 0 c).flushed 7 t = (cfg0.win 7).cut (grid0.coords t) (outsAt0 m c t.val t.isLt).1 := by
  show (cfg0.win 7).cut (grid0.coords t) ((dats m 0 c).after 7 t) = _
  rw [after0_7]

/-- The result's array after the run, from what each point leaves. -/
theorem final_of (c : Dev nD) (G : Vec Ideal S8192x4096 .f32)
    (h : ∀ (t : Fin cfg0.N) (r : Fin 1024) (s : Fin 512) (hr : 1024 * (t.val % 8) + r.val < 8192) (hs : 512 * (t.val / 8) + s.val < 4096),
      (outsAt0 m c t.val t.isLt).1 (ix2 r s) = G (ix2 ⟨1024 * (t.val % 8) + r.val, hr⟩ ⟨512 * (t.val / 8) + s.val, hs⟩)) :
    (dats m 0 c).arrAt 7 cfg0.N = G := by
  refine (dats m 0 c).arrAt_eq_of_cover 7 G (fun t _ => (flushed7 m c t).trans (cut_eq t _ G (h t))) (fun i => ?_)
  have h0' : (i 0 : ℕ) < 8192 := (i 0).isLt
  have h1' : (i 1 : ℕ) < 4096 := (i 1).isLt
  let t : Fin cfg0.N := ⟨(i 1 : ℕ) / 512 * 8 + (i 0 : ℕ) / 1024, by rw [show cfg0.N = 64 from N_0]; omega⟩
  have htv : t.val = (i 1 : ℕ) / 512 * 8 + (i 0 : ℕ) / 1024 := rfl
  obtain ⟨-, -, -, -, -, -, -, h0, h1⟩ := idx_facts t
  refine ⟨t, flush0_7 t, ?_⟩
  rw [mem_blk7]
  intro a
  match a with
  | 0 => show win0_7.index t (0 : Fin 2) * 1024 ≤ (i 0 : ℕ) ∧ (i 0 : ℕ) < win0_7.index t (0 : Fin 2) * 1024 + 1024
         rw [h0, htv]; omega
  | 1 => show win0_7.index t (1 : Fin 2) * 512 ≤ (i 1 : ℕ) ∧ (i 1 : ℕ) < win0_7.index t (1 : Fin 2) * 512 + 512
         rw [h1, htv]; omega

/-- The run leaves the reference's array and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v7) = Ya m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r (h : Pipeline.FramePost cfgs (dats m) 0 (V m) r) c => ⟨((h c).1 7).trans (final_of m c _ (outs_apply m c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.OutProj1Ideal.Out

end
-- ==== Proof.OutProj1Claims.lean ====
/- The second layer's output projection's claims: the reference's frame, and the equation of results over the extended reals. -/
module

public import proofs.«01_k».proof.Defs
public import proofs.«01_k».proof.Proof.OutProj1Value
public import proofs.«01_k».proof.Proof.Gen.OutProj1.Frame

@[expose] public section

set_option maxRecDepth 16384

noncomputable section

namespace Cert.Out1

open Idealize.ShloMosaic Idealize.ShloMosaic.TcCoe Idealize.SL.Sem

theorem frame : Cert.quiescent_OutProj1 (hOutProj1 := Cert.OutProj1.Gen.facts) := fun m ρ _ => Cert.OutProj1.Gen.frame m ρ

theorem frame_ideal : Cert.quiescent_OutProj1Ideal (hOutProj1Ideal := Cert.OutProj1Ideal.Gen.facts) := fun m ρ _ => Cert.OutProj1Ideal.Gen.frame m ρ

theorem frame_refIdeal : Cert.quiescent_OutProj1RefIdeal (hOutProj1RefIdeal := Cert.OutProj1RefIdeal.Gen.facts) := fun m ρ _ =>
  (θ_run Cert.OutProj1RefIdeal.defs _ _).mono (fun _ h => ⟨fun c => (h c).2,
    funext fun g => ((by decide : ∀ _ : SemLoc Cert.OutProj1RefIdeal.sig, False) g.2).elim⟩) (Cert.OutProj1RefIdeal.Value.run m ρ)

theorem whole_congr {a a' b b' : FVec Ideal Cert.OutProj1RefIdeal.S2x4096x1536 .f32} {d d' : FVec Ideal Cert.OutProj1RefIdeal.S2x4096x1024 .f32}
    {w w' x x' : FVec Ideal Cert.OutProj1RefIdeal.S2x4096x4096 .f32} (ha : a = a') (hb : b = b') (hd : d = d') (hw : w = w') (hx : x = x') :
    Cert.OutProj1RefIdeal.Out.whole a b d w x = Cert.OutProj1RefIdeal.Out.whole a' b' d' w' x' := by
  subst ha hb hd hw hx; rfl

theorem algebraic : Cert.algebraic_OutProj1Ideal_OutProj1RefIdeal (hOutProj1Ideal := Cert.OutProj1Ideal.Gen.facts) (hOutProj1RefIdeal := Cert.OutProj1RefIdeal.Gen.facts) := fun m ρ m' ρ' _ hag =>
  ⟨fun c => Cert.OutProj1Ideal.Out.Ya m c, Cert.OutProj1Ideal.Out.run m ρ,
    (θ_run Cert.OutProj1RefIdeal.defs _ _).mono (fun _ h c => ⟨(h c).1.trans (by
      obtain ⟨h0, h1, h2, h3, h4⟩ := hag c
      exact whole_congr h0 h1 h2 h3 h4), (h c).2⟩) (Cert.OutProj1RefIdeal.Value.run m' ρ')⟩

end Cert.Out1

end
-- ==== Proof.FfnUpCases.lean ====
/- What the feed-forward's first call leaves at a grid point, case by case: the rounded weight blocks in the scratch buffers, and
   the gated product in the result block. -/
module

public import proofs.«01_k».proof.Proof.Gen.FfnUpIdeal.Frame
public import Idealize.ShloMosaic.Lib.Pipeline.Value
public import Idealize.ShloMosaic.Lib.Pointwise

@[expose] public section

set_option maxRecDepth 16384

noncomputable section

namespace Cert.FfnUpIdeal.Up

open Cert.FfnUpIdeal Cert.FfnUpIdeal.Gen
open Idealize.ShloMosaic Idealize.ShloMosaic.TcCoe Idealize.SL.Sem Idealize.ShloMosaic.Pipeline

/-- A weight block, rounded. -/
def wcast (x : FVec Ideal S1x4096x256 .f32) : FVec Ideal S4096x256 .bf16 := fun y => x (ix3 0 (y 0) (y 1))

/-- One store's rows of a weight block. -/
def rows (w : FVec Ideal S1x512x256 .f32) : FVec Ideal S512x256 .bf16 := fun x => w (ix3 0 (x 0) (x 1))

theorem hz2 : (![0, 0] : Fin 2 → Nat) = fun _ => 0 := funext fun a => by fin_cases a <;> rfl

theorem pay4_eq (w : FVec Ideal S1x512x256 .f32) : k0_pay4 (F := Ideal) w = rows w := by
  funext x
  have hx : x = ix2 (x 0) (x 1) := eq_ix2 x
  rw [hx]
  unfold k0_pay4
  pointwise
  rfl

theorem pay5_eq (w : FVec Ideal S1x512x256 .f32) : k0_pay5 (F := Ideal) w = rows w := by
  funext x
  have hx : x = ix2 (x 0) (x 1) := eq_ix2 x
  rw [hx]
  unfold k0_pay5
  pointwise
  rfl

theorem pay6_eq (w : FVec Ideal S1x512x256 .f32) : k0_pay6 (F := Ideal) w = rows w := by
  funext x
  have hx : x = ix2 (x 0) (x 1) := eq_ix2 x
  rw [hx]
  unfold k0_pay6
  pointwise
  rfl

theorem pay7_eq (w : FVec Ideal S1x512x256 .f32) : k0_pay7 (F := Ideal) w = rows w := by
  funext x
  have hx : x = ix2 (x 0) (x 1) := eq_ix2 x
  rw [hx]
  unfold k0_pay7
  pointwise
  rfl

theorem pay8_eq (w : FVec Ideal S1x512x256 .f32) : k0_pay8 (F := Ideal) w = rows w := by
  funext x
  have hx : x = ix2 (x 0) (x 1) := eq_ix2 x
  rw [hx]
  unfold k0_pay8
  pointwise
  rfl

theorem pay9_eq (w : FVec Ideal S1x512x256 .f32) : k0_pay9 (F := Ideal) w = rows w := by
  funext x
  have hx : x = ix2 (x 0) (x 1) := eq_ix2 x
  rw [hx]
  unfold k0_pay9
  pointwise
  rfl

theorem pay10_eq (w : FVec Ideal S1x512x256 .f32) : k0_pay10 (F := Ideal) w = rows w := by
  funext x
  have hx : x = ix2 (x 0) (x 1) := eq_ix2 x
  rw [hx]
  unfold k0_pay10
  pointwise
  rfl

theorem pay11_eq (w : FVec Ideal S1x512x256 .f32) : k0_pay11 (F := Ideal) w = rows w := by
  funext x
  have hx : x = ix2 (x 0) (x 1) := eq_ix2 x
  rw [hx]
  unfold k0_pay11
  pointwise
  rfl

theorem pay12_eq (w : FVec Ideal S1x512x256 .f32) : k0_pay12 (F := Ideal) w = rows w := by
  funext x
  have hx : x = ix2 (x 0) (x 1) := eq_ix2 x
  rw [hx]
  unfold k0_pay12
  pointwise
  rfl

theorem pay13_eq (w : FVec Ideal S1x512x256 .f32) : k0_pay13 (F := Ideal) w = rows w := by
  funext x
  have hx : x = ix2 (x 0) (x 1) := eq_ix2 x
  rw [hx]
  unfold k0_pay13
  pointwise
  rfl

theorem pay14_eq (w : FVec Ideal S1x512x256 .f32) : k0_pay14 (F := Ideal) w = rows w := by
  funext x
  have hx : x = ix2 (x 0) (x 1) := eq_ix2 x
  rw [hx]
  unfold k0_pay14
  pointwise
  rfl

theorem pay15_eq (w : FVec Ideal S1x512x256 .f32) : k0_pay15 (F := Ideal) w = rows w := by
  funext x
  have hx : x = ix2 (x 0) (x 1) := eq_ix2 x
  rw [hx]
  unfold k0_pay15
  pointwise
  rfl

theorem pay16_eq (w : FVec Ideal S1x512x256 .f32) : k0_pay16 (F := Ideal) w = rows w := by
  funext x
  have hx : x = ix2 (x 0) (x 1) := eq_ix2 x
  rw [hx]
  unfold k0_pay16
  pointwise
  rfl

theorem pay17_eq (w : FVec Ideal S1x512x256 .f32) : k0_pay17 (F := Ideal) w = rows w := by
  funext x
  have hx : x = ix2 (x 0) (x 1) := eq_ix2 x
  rw [hx]
  unfold k0_pay17
  pointwise
  rfl

theorem pay18_eq (w : FVec Ideal S1x512x256 .f32) : k0_pay18 (F := Ideal) w = rows w := by
  funext x
  have hx : x = ix2 (x 0) (x 1) := eq_ix2 x
  rw [hx]
  unfold k0_pay18
  pointwise
  rfl

theorem pay1_eq (w : FVec Ideal S1x512x256 .f32) : k0_pay1 (F := Ideal) w = rows w := by
  funext x
  have hx : x = ix2 (x 0) (x 1) := eq_ix2 x
  rw [hx]
  unfold k0_pay1
  pointwise
  rfl

/-- A load of a whole scratch after writes reads what they leave. -/
theorem readCov_all (v : View sig .tc .vmem S4096x256 .bf16) (L : List (View.Piece (Elt Ideal) S4096x256 .bf16))
    (h : ∀ a, (![0, 0] : Fin 2 → ℕ) a + S4096x256.size a ≤ S4096x256.size a) :
    v.readCov L (Rect.unit ![0, 0] S4096x256.size h).toLoadRect = View.canon L := by
  rw [View.readCov_eq_canon']
  exact View.ld_unit_zero (S := S4096x256) hz2 h (View.canon L)

/-- The rows a store writes are the block's rows at its place. -/
theorem piece_eq (o : ℕ) (h3 : ∀ a, (![0, o, 0] : Fin 3 → ℕ) a + S1x512x256.size a ≤ S1x4096x256.size a)
    (h2 : ∀ a, (![o, 0] : Fin 2 → ℕ) a + S512x256.size a ≤ S4096x256.size a) (X : FVec Ideal S1x4096x256 .f32) (x : S512x256.Idx) :
    rows (fun j => X ((Rect.unit (s := S1x4096x256) ![0, o, 0] S1x512x256.size h3).emb j)) x = wcast X ((Rect.unit (s := S4096x256) ![o, 0] S512x256.size h2).emb x) := by
  show X _ = X _
  congr 1
  funext a
  apply Fin.ext
  match a with
  | 0 => rfl
  | 1 => rfl
  | 2 => rfl

/-- The gate weights' scratch after a point that fills it: the rounded block. -/
theorem sout_A_0_eq (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1024x256 .bf16) (harg5 : arg5.IsWhole) (arg6 : Memref sig .tc .vmem S4096x256 .bf16) (harg6 : arg6.IsWhole) (arg7 : Memref sig .tc .vmem S4096x256 .bf16) (harg7 : arg7.IsWhole) (hc0 : cond0_0 i) (hc1 : cond0_1 i) (hc2 : ¬cond0_2 i)
    (x0 : Vec Ideal S1024x4096 .bf16) (x1 : Vec Ideal S1x4096x256 .f32) (x2 : Vec Ideal S1x4096x256 .f32) :
    sout0_A_0 c i arg2 harg2 arg3 harg3 arg4 harg4 arg5 harg5 arg6 harg6 arg7 harg7 hc0 hc1 hc2 x0 x1 x2 = wcast x1 := by
  unfold sout0_A_0
  rw [View.read_writes_eq_canon _ _ _ (scover0_A_0 c i arg2 harg2 arg3 harg3 arg4 harg4 arg5 harg5 arg6 harg6 arg7 harg7 hc0 hc1 hc2 x0 x1 x2)]
  funext y
  refine View.canon_apply_of_pieces (wcast x1) _ ?_ y (scover0_A_0 c i arg2 harg2 arg3 harg3 arg4 harg4 arg5 harg5 arg6 harg6 arg7 harg7 hc0 hc1 hc2 x0 x1 x2 y)
  unfold kernelRun0_A
  dsimp only
  sl_unfold_words
  simp only [View.readAt_eq_ld, harg3.read_unread]
  simp only [List.forall_mem_cons, List.not_mem_nil, false_imp_iff, implies_true, and_true]
  refine ⟨?_, ?_, ?_, ?_, ?_, ?_, ?_, ?_⟩
  · exact fun x => (congrFun (pay11_eq _) x).trans (piece_eq 3584 _ _ x1 x)
  · exact fun x => (congrFun (pay10_eq _) x).trans (piece_eq 3072 _ _ x1 x)
  · exact fun x => (congrFun (pay9_eq _) x).trans (piece_eq 2560 _ _ x1 x)
  · exact fun x => (congrFun (pay8_eq _) x).trans (piece_eq 2048 _ _ x1 x)
  · exact fun x => (congrFun (pay7_eq _) x).trans (piece_eq 1536 _ _ x1 x)
  · exact fun x => (congrFun (pay6_eq _) x).trans (piece_eq 1024 _ _ x1 x)
  · exact fun x => (congrFun (pay5_eq _) x).trans (piece_eq 512 _ _ x1 x)
  · exact fun x => (congrFun (pay4_eq _) x).trans (piece_eq 0 _ _ x1 x)

/-- The up weights' scratch after a point that fills it: the rounded block. -/
theorem sout_A_1_eq (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1024x256 .bf16) (harg5 : arg5.IsWhole) (arg6 : Memref sig .tc .vmem S4096x256 .bf16) (harg6 : arg6.IsWhole) (arg7 : Memref sig .tc .vmem S4096x256 .bf16) (harg7 : arg7.IsWhole) (hc0 : cond0_0 i) (hc1 : cond0_1 i) (hc2 : ¬cond0_2 i)
    (x0 : Vec Ideal S1024x4096 .bf16) (x1 : Vec Ideal S1x4096x256 .f32) (x2 : Vec Ideal S1x4096x256 .f32) :
    sout0_A_1 c i arg2 harg2 arg3 harg3 arg4 harg4 arg5 harg5 arg6 harg6 arg7 harg7 hc0 hc1 hc2 x0 x1 x2 = wcast x2 := by
  unfold sout0_A_1
  rw [View.read_writes_eq_canon _ _ _ (scover0_A_1 c i arg2 harg2 arg3 harg3 arg4 harg4 arg5 harg5 arg6 harg6 arg7 harg7 hc0 hc1 hc2 x0 x1 x2)]
  funext y
  refine View.canon_apply_of_pieces (wcast x2) _ ?_ y (scover0_A_1 c i arg2 harg2 arg3 harg3 arg4 harg4 arg5 harg5 arg6 harg6 arg7 harg7 hc0 hc1 hc2 x0 x1 x2 y)
  unfold kernelRun0_A
  dsimp only
  sl_unfold_words
  simp only [View.readAt_eq_ld, harg4.read_unread]
  simp only [List.forall_mem_cons, List.not_mem_nil, false_imp_iff, implies_true, and_true]
  refine ⟨?_, ?_, ?_, ?_, ?_, ?_, ?_, ?_⟩
  · exact fun x => (congrFun (pay1_eq _) x).trans (piece_eq 3584 _ _ x2 x)
  · exact fun x => (congrFun (pay18_eq _) x).trans (piece_eq 3072 _ _ x2 x)
  · exact fun x => (congrFun (pay17_eq _) x).trans (piece_eq 2560 _ _ x2 x)
  · exact fun x => (congrFun (pay16_eq _) x).trans (piece_eq 2048 _ _ x2 x)
  · exact fun x => (congrFun (pay15_eq _) x).trans (piece_eq 1536 _ _ x2 x)
  · exact fun x => (congrFun (pay14_eq _) x).trans (piece_eq 1024 _ _ x2 x)
  · exact fun x => (congrFun (pay13_eq _) x).trans (piece_eq 512 _ _ x2 x)
  · exact fun x => (congrFun (pay12_eq _) x).trans (piece_eq 0 _ _ x2 x)

/-- The result block of a point that fills the scratch. -/
theorem out_A_3_eq (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1024x256 .bf16) (harg5 : arg5.IsWhole) (arg6 : Memref sig .tc .vmem S4096x256 .bf16) (harg6 : arg6.IsWhole) (arg7 : Memref sig .tc .vmem S4096x256 .bf16) (harg7 : arg7.IsWhole) (hc0 : cond0_0 i) (hc1 : cond0_1 i) (hc2 : ¬cond0_2 i)
    (x0 : Vec Ideal S1024x4096 .bf16) (x1 : Vec Ideal S1x4096x256 .f32) (x2 : Vec Ideal S1x4096x256 .f32) :
    out0_A_3 c i arg2 harg2 arg3 harg3 arg4 harg4 arg5 harg5 arg6 harg6 arg7 harg7 hc0 hc1 hc2 x0 x1 x2 = k0_pay2 x0 (wcast x1) (wcast x2) := by
  have e1 := sout_A_0_eq c i arg2 harg2 arg3 harg3 arg4 harg4 arg5 harg5 arg6 harg6 arg7 harg7 hc0 hc1 hc2 x0 x1 x2
  have e2 := sout_A_1_eq c i arg2 harg2 arg3 harg3 arg4 harg4 arg5 harg5 arg6 harg6 arg7 harg7 hc0 hc1 hc2 x0 x1 x2
  unfold sout0_A_0 at e1
  unfold sout0_A_1 at e2
  rw [View.read_writes_junk_eq_canon] at e1 e2
  unfold kernelRun0_A at e1 e2
  dsimp only at e1 e2
  unfold out0_A_3
  rw [View.read_writes_eq_canon _ _ _ (cover0_A_3 c i arg2 harg2 arg3 harg3 arg4 harg4 arg5 harg5 arg6 harg6 arg7 harg7 hc0 hc1 hc2 x0 x1 x2)]
  unfold kernelRun0_A
  dsimp only
  sl_unfold_words
  rw [View.canon_unit_zero hz2]
  refine congr (congr (congrArg k0_pay2 ?_) ?_) ?_
  · clear e1 e2
    rw [View.readAt_eq_ld, harg2.read_unread]
    exact View.ld_unit_zero (S := S1024x4096) hz2 _ x0
  · exact (readCov_all _ _ _).trans e1
  · exact (readCov_all _ _ _).trans e2

/-- The result block of a point that reuses the scratch. -/
theorem out_B_3_eq (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1024x256 .bf16) (harg5 : arg5.IsWhole) (arg6 : Memref sig .tc .vmem S4096x256 .bf16) (harg6 : arg6.IsWhole) (arg7 : Memref sig .tc .vmem S4096x256 .bf16) (harg7 : arg7.IsWhole) (hc0 : ¬cond0_0 i) (hc1 : cond0_1 i) (hc2 : ¬cond0_2 i)
    (x0 : Vec Ideal S1024x4096 .bf16) (x1 : Vec Ideal S1x4096x256 .f32) (x2 : Vec Ideal S1x4096x256 .f32) (xs0 : Vec Ideal S4096x256 .bf16) (xs1 : Vec Ideal S4096x256 .bf16) :
    out0_B_3 c i arg2 harg2 arg3 harg3 arg4 harg4 arg5 harg5 arg6 harg6 arg7 harg7 hc0 hc1 hc2 x0 x1 x2 xs0 xs1 = k0_pay2 x0 xs0 xs1 := by
  unfold out0_B_3
  rw [View.read_writes_eq_canon _ _ _ (cover0_B_3 c i arg2 harg2 arg3 harg3 arg4 harg4 arg5 harg5 arg6 harg6 arg7 harg7 hc0 hc1 hc2 x0 x1 x2 xs0 xs1)]
  unfold kernelRun0_B
  dsimp only
  try sl_unfold_words
  rw [View.canon_unit_zero hz2]
  refine congr (congr (congrArg k0_pay2 ?_) ?_) ?_
  · rw [View.readAt_eq_ld, harg2.read_unread]
    exact View.ld_unit_zero (S := S1024x4096) hz2 _ x0
  · rw [View.readAt_eq_ld, harg6.read_unread]
    exact View.ld_unit_zero (S := S4096x256) hz2 _ xs0
  · rw [View.readAt_eq_ld, harg7.read_unread]
    exact View.ld_unit_zero (S := S4096x256) hz2 _ xs1

/-- The result block of a point that fills the padding. -/
theorem out_C_3_eq (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1024x256 .bf16) (harg5 : arg5.IsWhole) (arg6 : Memref sig .tc .vmem S4096x256 .bf16) (harg6 : arg6.IsWhole) (arg7 : Memref sig .tc .vmem S4096x256 .bf16) (harg7 : arg7.IsWhole) (hc0 : ¬cond0_0 i) (hc1 : ¬cond0_1 i) (hc2 : cond0_2 i)
    (x0 : Vec Ideal S1024x4096 .bf16) (x1 : Vec Ideal S1x4096x256 .f32) (x2 : Vec Ideal S1x4096x256 .f32) (xs0 : Vec Ideal S4096x256 .bf16) (xs1 : Vec Ideal S4096x256 .bf16) :
    out0_C_3 c i arg2 harg2 arg3 harg3 arg4 harg4 arg5 harg5 arg6 harg6 arg7 harg7 hc0 hc1 hc2 x0 x1 x2 xs0 xs1 = k0_pay3 (F := Ideal) := by
  unfold out0_C_3
  rw [View.read_writes_eq_canon _ _ _ (cover0_C_3 c i arg2 harg2 arg3 harg3 arg4 harg4 arg5 harg5 arg6 harg6 arg7 harg7 hc0 hc1 hc2 x0 x1 x2 xs0 xs1)]
  unfold kernelRun0_C
  dsimp only
  try sl_unfold_words
  rw [View.canon_unit_zero hz2]

end Cert.FfnUpIdeal.Up

end
-- ==== Proof.FfnUpValue.lean ====
/- The feed-forward's first call: what it leaves is the gated product, with columns of zeros after it. -/
module

public import proofs.«01_k».proof.Proof.FfnUpCases
public import proofs.«01_k».proof.Proof.Gen.FfnUpRefIdeal.Run

@[expose] public section

set_option maxRecDepth 16384

noncomputable section

namespace Cert.FfnUpRefIdeal.Up

open Cert.FfnUpRefIdeal Cert.FfnUpRefIdeal.Gen Idealize.ShloMosaic Idealize.ShloMosaic.TcCoe

/-- A gated product of two numbers. -/
def act (g u : EReal) : EReal := Ideal.div g (1 + Ideal.exp (-g)) * u

/-- A product of the rows with the first layer's weights. -/
def prod (h : FVec Ideal S8192x4096 .f32) (w : FVec Ideal S2x4096x11008 .f32) : FVec Ideal S8192x11008 .f32 :=
  Host.dotGeneral dot_S8192x4096_S4096x11008_S8192x11008_1_0_0_1_n_n none h (shapeCast _ (extractStridedSlice S1x4096x11008 ![0, 0, 0] w slices_S2x4096x11008_S1x4096x11008_0_0_0) shapeCasts_S1x4096x11008_S4096x11008)

/-- The sigmoid-weighted product of two arrays. -/
def gated (g u : FVec Ideal S8192x11008 .f32) : FVec Ideal S8192x11008 .f32 :=
  mulf (mulf g (Host.divf (broadcastInDim S8192x11008 ![] bcast_S_S8192x11008 (constant S_ .f32 0x3F800000#32)) (addf (broadcastInDim S8192x11008 ![] bcast_S_S8192x11008 (constant S_ .f32 0x3F800000#32)) (Host.exp (Host.negf g))))) u

/-- An array with columns of zeros after it, rounded. -/
def padded (a : FVec Ideal S8192x11008 .f32) : FVec Ideal S8192x11264 .bf16 :=
  truncf .bf16 (concatenate S8192x11264 1 [⟨S8192x11008, a⟩, ⟨S8192x256, (broadcastInDim S8192x256 ![] bcast_S_S8192x256 (constant S_ .f32 0x00000000#32))⟩] concatenates_S8192x11008_S8192x256_S8192x11264_d1) bitsLt_bf16_f32

/-- The reference's result. -/
def whole (h : FVec Ideal S2x4096x4096 .f32) (wg wu : FVec Ideal S2x4096x11008 .f32) : FVec Ideal S8192x11264 .bf16 :=
  padded (gated (prod (shapeCast _ h shapeCasts_S2x4096x4096_S8192x4096) wg) (prod (shapeCast _ h shapeCasts_S2x4096x4096_S8192x4096) wu))

theorem prod_apply (h : FVec Ideal S8192x4096 .f32) (w : FVec Ideal S2x4096x11008 .f32) (i : Fin 8192) (j : Fin 11008) :
    prod h w (ix2 i j) = ∑ k : Fin 4096, h (ix2 i k) * w (ix3 0 k j) := by
  unfold prod
  pointwise

theorem one_add_exp_ne (x : EReal) : 1 + Ideal.exp x ≠ 0 := by
  have h : 0 ≤ Ideal.exp x := by
    induction x with
    | bot => exact le_refl _
    | top => exact le_top
    | coe r => show (0 : EReal) ≤ (Real.exp r : EReal); exact_mod_cast (Real.exp_pos r).le
  have : (1 : EReal) ≤ 1 + Ideal.exp x := le_add_of_nonneg_right h
  exact (lt_of_lt_of_le zero_lt_one this).ne'

/-- A product with a reciprocal is a quotient. -/
theorem act_eq (g u : EReal) : g * Ideal.div 1 (1 + Ideal.exp (-g)) * u = act g u := by
  unfold act Ideal.div
  rw [if_neg (one_add_exp_ne _), if_neg (one_add_exp_ne _), one_mul]

theorem gated_apply (g u : FVec Ideal S8192x11008 .f32) (i : Fin 8192) (j : Fin 11008) :
    gated g u (ix2 i j) = act (g (ix2 i j)) (u (ix2 i j)) := by
  unfold gated
  pointwise
  exact act_eq _ _

theorem padded_low (a : FVec Ideal S8192x11008 .f32) (i : Fin 8192) (j : Fin 11008) : padded a (ix2 i ⟨j.val, by omega⟩) = a (ix2 i j) := by
  have := j.isLt
  unfold padded
  pointwise

theorem padded_high (a : FVec Ideal S8192x11008 .f32) (i : Fin 8192) (j : Fin 256) : padded a (ix2 i ⟨11008 + j.val, by omega⟩) = 0 := by
  have := j.isLt
  unfold padded
  pointwise

end Cert.FfnUpRefIdeal.Up

namespace Cert.FfnUpIdeal.Up

open Cert.FfnUpIdeal Cert.FfnUpIdeal.Gen
open Cert.FfnUpRefIdeal.Up (act)
open Idealize.ShloMosaic Idealize.ShloMosaic.TcCoe Idealize.SL.Sem Idealize.ShloMosaic.Pipeline

/-- An element of a product of two blocks. -/
def part (a : FVec Ideal S1024x4096 .bf16) (w : FVec Ideal S4096x256 .bf16) (r : Fin 1024) (s : Fin 256) : EReal :=
  ∑ k : Fin 4096, a (ix2 r k) * w (ix2 k s)

theorem pay2_apply (a : FVec Ideal S1024x4096 .bf16) (g u : FVec Ideal S4096x256 .bf16) (r : Fin 1024) (s : Fin 256) :
    (k0_pay2 (F := Ideal) a g u (ix2 r s) : EReal) = act (part a g r s) (part a u r s) := by
  unfold k0_pay2 part
  pointwise
  unfold act
  rw [sub_eq_add_neg, zero_add]

theorem pay3_apply (r : Fin 1024) (s : Fin 256) : (k0_pay3 (F := Ideal) (ix2 r s) : EReal) = 0 := by
  unfold k0_pay3
  pointwise

variable (m : (ℓ : Loc nD τ sig) → Buf (Elt Ideal) ℓ)

/-- The hidden rows. -/
abbrev Ha (c : Dev nD) : FVec Ideal S2x4096x4096 .f32 := m ((c.tc : Thread nD τ).loc main_arg0)
/-- The gate's weights. -/
abbrev Ga (c : Dev nD) : FVec Ideal S2x4096x11008 .f32 := m ((c.tc : Thread nD τ).loc main_arg1)
/-- The up projection's weights. -/
abbrev Ua (c : Dev nD) : FVec Ideal S2x4096x11008 .f32 := m ((c.tc : Thread nD τ).loc main_arg2)
/-- The hidden rows, flat. -/
abbrev Hf (c : Dev nD) : FVec Ideal S8192x4096 .f32 := shapeCast S8192x4096 (Ha m c) shapeCasts_S2x4096x4096_S8192x4096

theorem V_h (c : Dev nD) : V m c main_v1 = truncf .bf16 (Hf m c) bitsLt_bf16_f32 := by
  simp only [V, hostOps0]; after_results
  rfl

/-- Where the windows are at a grid point. -/
theorem idx_facts : ∀ t : Fin cfg0.N,
    win0_0.index t (0 : Fin 2) = t.val % 8 ∧ win0_0.index t (1 : Fin 2) = 0
    ∧ win0_1.index t (0 : Fin 3) = 0 ∧ win0_1.index t (1 : Fin 3) = 0 ∧ win0_1.index t (2 : Fin 3) = min (t.val / 8) 42
    ∧ win0_2.index t (0 : Fin 3) = 0 ∧ win0_2.index t (1 : Fin 3) = 0 ∧ win0_2.index t (2 : Fin 3) = min (t.val / 8) 42
    ∧ win0_3.index t (0 : Fin 2) = t.val % 8 ∧ win0_3.index t (1 : Fin 2) = t.val / 8 :=
  (by decide +kernel : ∀ t : Fin grid0.N, _)

theorem iblk_h (c : Dev nD) (n : ℕ) (h : n < cfg0.N) (r : Fin 1024) (k : Fin 4096) (hr : 1024 * (n % 8) + r.val < 8192) :
    iblk m c 0 ⟨n, h⟩ (ix2 r k) = Hf m c (ix2 ⟨1024 * (n % 8) + r.val, hr⟩ k) := by
  obtain ⟨h0, h1, -⟩ := idx_facts ⟨n, h⟩
  have ee : (win0_0.rect ⟨n, h⟩).emb (ix2 r k) = ix2 ⟨1024 * (n % 8) + r.val, hr⟩ k := by
    funext a
    apply Fin.ext
    rw [win0_0.rect_emb_val ⟨n, h⟩ (ix2 r k) a]
    match a with
    | 0 => show win0_0.index ⟨n, h⟩ (0 : Fin 2) * 1024 + r.val = 1024 * (n % 8) + r.val; rw [h0]; dsimp only; omega
    | 1 => show win0_0.index ⟨n, h⟩ (1 : Fin 2) * 4096 + k.val = k.val; rw [h1]; omega
  show V m c main_v1 ((win0_0.rect ⟨n, h⟩).emb (ix2 r k)) = _
  rw [ee, V_h]
  rfl

/-- A tile of the first layer's weights, rounded. -/
def tile (w : FVec Ideal S2x4096x11008 .f32) (J : ℕ) (hJ : J < 43) : FVec Ideal S4096x256 .bf16 := fun y =>
  w (ix3 0 (y 0) ⟨256 * J + (y 1).val, by have : (y 1).val < 256 := (y 1).isLt; omega⟩)

theorem cast_g (c : Dev nD) (n J : ℕ) (h : n < cfg0.N) (hn : n / 8 = J) (hJ : J < 43) : wcast (iblk m c 1 ⟨n, h⟩) = tile (Ga m c) J hJ := by
  funext y
  have hy : (y 1).val < 256 := (y 1).isLt
  obtain ⟨-, -, h0, h1, h2, -⟩ := idx_facts ⟨n, h⟩
  have ee : (win0_1.rect ⟨n, h⟩).emb (ix3 0 (y 0) (y 1)) = ix3 0 (y 0) ⟨256 * J + (y 1).val, by omega⟩ := by
    funext a
    apply Fin.ext
    rw [win0_1.rect_emb_val ⟨n, h⟩ (ix3 0 (y 0) (y 1)) a]
    match a with
    | 0 => show win0_1.index ⟨n, h⟩ (0 : Fin 3) * 1 + 0 = 0; rw [h0]
    | 1 => show win0_1.index ⟨n, h⟩ (1 : Fin 3) * 4096 + (y 0).val = (y 0).val; rw [h1]; omega
    | 2 => show win0_1.index ⟨n, h⟩ (2 : Fin 3) * 256 + (y 1).val = 256 * J + (y 1).val; rw [h2]; dsimp only; omega
  show V m c main_arg1 ((win0_1.rect ⟨n, h⟩).emb (ix3 0 (y 0) (y 1))) = _
  rw [ee, V_main_arg1]
  rfl

theorem cast_u (c : Dev nD) (n J : ℕ) (h : n < cfg0.N) (hn : n / 8 = J) (hJ : J < 43) : wcast (iblk m c 2 ⟨n, h⟩) = tile (Ua m c) J hJ := by
  funext y
  have hy : (y 1).val < 256 := (y 1).isLt
  obtain ⟨-, -, -, -, -, h0, h1, h2, -⟩ := idx_facts ⟨n, h⟩
  have ee : (win0_2.rect ⟨n, h⟩).emb (ix3 0 (y 0) (y 1)) = ix3 0 (y 0) ⟨256 * J + (y 1).val, by omega⟩ := by
    funext a
    apply Fin.ext
    rw [win0_2.rect_emb_val ⟨n, h⟩ (ix3 0 (y 0) (y 1)) a]
    match a with
    | 0 => show win0_2.index ⟨n, h⟩ (0 : Fin 3) * 1 + 0 = 0; rw [h0]
    | 1 => show win0_2.index ⟨n, h⟩ (1 : Fin 3) * 4096 + (y 0).val = (y 0).val; rw [h1]; omega
    | 2 => show win0_2.index ⟨n, h⟩ (2 : Fin 3) * 256 + (y 1).val = 256 * J + (y 1).val; rw [h2]; dsimp only; omega
  show V m c main_arg2 ((win0_2.rect ⟨n, h⟩).emb (ix3 0 (y 0) (y 1))) = _
  rw [ee, V_main_arg2]
  rfl

/-- The scratch buffers hold the column's weight tiles, and the result block is the gated product over them. -/
theorem outs_low (c : Dev nD) : ∀ (n J : ℕ) (h : n < cfg0.N) (_ : n / 8 = J) (hJ : J < 43),
    outsAt0 m c n h = (k0_pay2 (iblk m c 0 ⟨n, h⟩) (tile (Ga m c) J hJ) (tile (Ua m c) J hJ), tile (Ga m c) J hJ, tile (Ua m c) J hJ) := by
  intro n
  induction n with
  | zero =>
    intro J h hn hJ
    have e := outsAt0_A m c ⟨0, h⟩ (by show 0 / 8 % 44 + 43 * (0 % 8) ≤ 42; omega) (by show 0 < 344; omega) (by show ¬344 ≤ 0; omega)
    rw [out_A_3_eq, sout_A_0_eq, sout_A_1_eq, cast_g m c 0 J h hn hJ, cast_u m c 0 J h hn hJ] at e
    exact e
  | succ n ih =>
    intro J h hn hJ
    by_cases h8 : (n + 1) % 8 = 0
    · have e := outsAt0_A m c ⟨n + 1, h⟩ (by show (n + 1) / 8 % 44 + 43 * ((n + 1) % 8) ≤ 42; omega) (by show n + 1 < 344; omega) (by show ¬344 ≤ n + 1; omega)
      rw [out_A_3_eq, sout_A_0_eq, sout_A_1_eq, cast_g m c (n + 1) J h hn hJ, cast_u m c (n + 1) J h hn hJ] at e
      exact e
    · have e := outsAt0_B m c ⟨n + 1, h⟩ (by show ¬(n + 1) / 8 % 44 + 43 * ((n + 1) % 8) ≤ 42; omega) (by show n + 1 < 344; omega) (by show ¬344 ≤ n + 1; omega)
      have i := ih J (Nat.lt_of_le_of_lt (Nat.le_succ n) h) (by omega) hJ
      rw [out_B_3_eq] at e
      unfold sout0_B_0 sout0_B_1 at e
      have e' : outsAt0 m c (n + 1) h = (k0_pay2 (iblk m c 0 ⟨n + 1, h⟩) (outsAt0 m c n (Nat.lt_of_le_of_lt (Nat.le_succ n) h)).2.1 (outsAt0 m c n (Nat.lt_of_le_of_lt (Nat.le_succ n) h)).2.2,
        (outsAt0 m c n (Nat.lt_of_le_of_lt (Nat.le_succ n) h)).2.1, (outsAt0 m c n (Nat.lt_of_le_of_lt (Nat.le_succ n) h)).2.2) := e
      rw [e', i]

theorem outs_high (c : Dev nD) (n : ℕ) (h : n < cfg0.N) (hn : 344 ≤ n) : (outsAt0 m c n h).1 = k0_pay3 (F := Ideal) := by
  have hN : n < 352 := lt_of_lt_of_eq h (show cfg0.N = 352 from N_0)
  have e := outsAt0_C m c ⟨n, h⟩ (by show ¬n / 8 % 44 + 43 * (n % 8) ≤ 42; omega) (by show ¬n < 344; omega) hn
  rw [out_C_3_eq] at e
  exact congrArg Prod.fst e

/-- What the run leaves in the result. -/
abbrev Ya (c : Dev nD) : FVec Ideal S8192x11264 .bf16 := Cert.FfnUpRefIdeal.Up.whole (Ha m c) (Ga m c) (Ua m c)

/-- A tile's product is the whole product's. -/
theorem part_eq (c : Dev nD) (n : ℕ) (h : n < cfg0.N) (w : FVec Ideal S2x4096x11008 .f32) (J : ℕ) (hJ : J < 43) (r : Fin 1024) (s : Fin 256)
    (hr : 1024 * (n % 8) + r.val < 8192) (hs : 256 * J + s.val < 11008) :
    part (iblk m c 0 ⟨n, h⟩) (tile w J hJ) r s = Cert.FfnUpRefIdeal.Up.prod (Hf m c) w (ix2 ⟨1024 * (n % 8) + r.val, hr⟩ ⟨256 * J + s.val, hs⟩) := by
  rw [Cert.FfnUpRefIdeal.Up.prod_apply]
  exact Finset.sum_congr rfl fun k _ => congrArg₂ (fun p q : EReal => p * q) (iblk_h m c n h r k hr) rfl

/-- A point's block is the result's, element by element. -/
theorem outs_apply (c : Dev nD) (t : Fin cfg0.N) (r : Fin 1024) (s : Fin 256) (hr : 1024 * (t.val % 8) + r.val < 8192) (hs : 256 * (t.val / 8) + s.val < 11264) :
    (outsAt0 m c t.val t.isLt).1 (ix2 r s) = Ya m c (ix2 ⟨1024 * (t.val % 8) + r.val, hr⟩ ⟨256 * (t.val / 8) + s.val, hs⟩) := by
  obtain ⟨n, h⟩ := t
  dsimp only at hr hs ⊢
  have hN : n < 352 := lt_of_lt_of_eq h (show cfg0.N = 352 from N_0)
  have hs' := s.isLt
  unfold Ya Cert.FfnUpRefIdeal.Up.whole
  by_cases hn : n < 344
  · have hJ : n / 8 < 43 := by omega
    rw [outs_low m c n (n / 8) h rfl hJ]
    refine (pay2_apply _ _ _ r s).trans ?_
    rw [part_eq m c n h (Ga m c) (n / 8) hJ r s hr (by omega), part_eq m c n h (Ua m c) (n / 8) hJ r s hr (by omega)]
    exact ((Cert.FfnUpRefIdeal.Up.padded_low _ ⟨1024 * (n % 8) + r.val, hr⟩ ⟨256 * (n / 8) + s.val, by omega⟩).trans (Cert.FfnUpRefIdeal.Up.gated_apply _ _ _ _)).symm
  · rw [outs_high m c n h (by omega)]
    refine (pay3_apply r s).trans ?_
    have e := Cert.FfnUpRefIdeal.Up.padded_high (Cert.FfnUpRefIdeal.Up.gated (Cert.FfnUpRefIdeal.Up.prod (Hf m c) (Ga m c)) (Cert.FfnUpRefIdeal.Up.prod (Hf m c) (Ua m c))) ⟨1024 * (n % 8) + r.val, hr⟩ s
    refine e.symm.trans ?_
    congr 2
    exact Fin.ext (by show 11008 + s.val = 256 * (n / 8) + s.val; omega)

theorem mem_blk3 (t : Fin cfg0.N) (i : S8192x11264.Idx) :
    i ∈ ((cfg0.win 3).blk t).view.set ↔ ∀ a : Fin 2, win0_3.index t a * S1024x256.size a ≤ i a ∧ (i a : ℕ) < win0_3.index t a * S1024x256.size a + S1024x256.size a := by
  show i ∈ ((View.whole main_v2).slice (win0_3.rect t)).set ↔ _
  rw [View.set_slice_whole, Rect.mem_set_unit]; exact Iff.rfl

theorem cut_eq (t : Fin cfg0.N) (o : Vec Ideal S1024x256 .bf16) (G : Vec Ideal S8192x11264 .bf16)
    (h : ∀ (r : Fin 1024) (s : Fin 256) (hr : 1024 * (t.val % 8) + r.val < 8192) (hs : 256 * (t.val / 8) + s.val < 11264),
      o (ix2 r s) = G (ix2 ⟨1024 * (t.val % 8) + r.val, hr⟩ ⟨256 * (t.val / 8) + s.val, hs⟩)) :
    (cfg0.win 3).cut (grid0.coords t) o = ((cfg0.win 3).blk t).view.read (Elt Ideal) G := by
  funext y
  obtain ⟨r, s, rfl⟩ : ∃ r s, y = ix2 r s := ⟨y 0, y 1, eq_ix2 y⟩
  have hN : t.val < 352 := lt_of_lt_of_eq t.isLt (show cfg0.N = 352 from N_0)
  have hr : r.val < 1024 := r.isLt
  have hs : s.val < 256 := s.isLt
  obtain ⟨-, -, -, -, -, -, -, -, h0, h1⟩ := idx_facts t
  refine (h r s (by omega) (by omega)).trans ?_
  show _ = G ((win0_3.rect t).emb (ix2 r s))
  congr 1
  funext a; apply Fin.ext; rw [win0_3.rect_emb_val t (ix2 r s) a]
  match a with
  | 0 => show 1024 * (t.val % 8) + r.val = win0_3.index t (0 : Fin 2) * 1024 + r.val; rw [h0]; omega
  | 1 => show 256 * (t.val / 8) + s.val = win0_3.index t (1 : Fin 2) * 256 + s.val; rw [h1]; omega

theorem flushed3 (c : Dev nD) (t : Fin cfg0.N) : (dats m 0 c).flushed 3 t = (cfg0.win 3).cut (grid0.coords t) (outsAt0 m c t.val t.isLt).1 := by
  show (cfg0.win 3).cut (grid0.coords t) ((dats m 0 c).after 3 t) = _
  rw [after0_3]

/-- The result's array after the run, from what each point leaves. -/
theorem final_of (c : Dev nD) (G : Vec Ideal S8192x11264 .bf16)
    (h : ∀ (t : Fin cfg0.N) (r : Fin 1024) (s : Fin 256) (hr : 1024 * (t.val % 8) + r.val < 8192) (hs : 256 * (t.val / 8) + s.val < 11264),
      (outsAt0 m c t.val t.isLt).1 (ix2 r s) = G (ix2 ⟨1024 * (t.val % 8) + r.val, hr⟩ ⟨256 * (t.val / 8) + s.val, hs⟩)) :
    (dats m 0 c).arrAt 3 cfg0.N = G := by
  refine (dats m 0 c).arrAt_eq_of_cover 3 G (fun t _ => (flushed3 m c t).trans (cut_eq t _ G (h t))) (fun i => ?_)
  have h0' : (i 0 : ℕ) < 8192 := (i 0).isLt
  have h1' : (i 1 : ℕ) < 11264 := (i 1).isLt
  let t : Fin cfg0.N := ⟨(i 1 : ℕ) / 256 * 8 + (i 0 : ℕ) / 1024, by rw [show cfg0.N = 352 from N_0]; omega⟩
  have htv : t.val = (i 1 : ℕ) / 256 * 8 + (i 0 : ℕ) / 1024 := rfl
  obtain ⟨-, -, -, -, -, -, -, -, h0, h1⟩ := idx_facts t
  refine ⟨t, flush0_3 t, ?_⟩
  rw [mem_blk3]
  intro a
  match a with
  | 0 => show win0_3.index t (0 : Fin 2) * 1024 ≤ (i 0 : ℕ) ∧ (i 0 : ℕ) < win0_3.index t (0 : Fin 2) * 1024 + 1024
         rw [h0, htv]; omega
  | 1 => show win0_3.index t (1 : Fin 2) * 256 ≤ (i 1 : ℕ) ∧ (i 1 : ℕ) < win0_3.index t (1 : Fin 2) * 256 + 256
         rw [h1, htv]; omega

/-- The run leaves the reference's array and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v2) = Ya m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r (h : Pipeline.FramePost cfgs (dats m) 0 (V m) r) c => ⟨((h c).1 3).trans (final_of m c _ (outs_apply m c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.FfnUpIdeal.Up

end
-- ==== Proof.FfnUpClaims.lean ====
/- The gated product's claims: the reference's frame, and the equation of results over the extended reals. -/
module

public import proofs.«01_k».proof.Defs
public import proofs.«01_k».proof.Proof.FfnUpValue
public import proofs.«01_k».proof.Proof.Gen.FfnUp.Frame

@[expose] public section

set_option maxRecDepth 16384

noncomputable section

namespace Cert.Up

open Idealize.ShloMosaic Idealize.ShloMosaic.TcCoe Idealize.SL.Sem

theorem frame : Cert.quiescent_FfnUp (hFfnUp := Cert.FfnUp.Gen.facts) := fun m ρ _ => Cert.FfnUp.Gen.frame m ρ

theorem frame_ideal : Cert.quiescent_FfnUpIdeal (hFfnUpIdeal := Cert.FfnUpIdeal.Gen.facts) := fun m ρ _ => Cert.FfnUpIdeal.Gen.frame m ρ

theorem frame_refIdeal : Cert.quiescent_FfnUpRefIdeal (hFfnUpRefIdeal := Cert.FfnUpRefIdeal.Gen.facts) := fun m ρ _ =>
  (θ_run Cert.FfnUpRefIdeal.defs _ _).mono (fun _ h => ⟨fun c => (h c).2,
    funext fun g => ((by decide : ∀ _ : SemLoc Cert.FfnUpRefIdeal.sig, False) g.2).elim⟩) (Cert.FfnUpRefIdeal.Value.run m ρ)

theorem whole_congr {h h' : FVec Ideal Cert.FfnUpRefIdeal.S2x4096x4096 .f32} {g g' u u' : FVec Ideal Cert.FfnUpRefIdeal.S2x4096x11008 .f32}
    (hh : h = h') (hg : g = g') (hu : u = u') : Cert.FfnUpRefIdeal.Up.whole h g u = Cert.FfnUpRefIdeal.Up.whole h' g' u' := by
  subst hh hg hu; rfl

theorem algebraic : Cert.algebraic_FfnUpIdeal_FfnUpRefIdeal (hFfnUpIdeal := Cert.FfnUpIdeal.Gen.facts) (hFfnUpRefIdeal := Cert.FfnUpRefIdeal.Gen.facts) := fun m ρ m' ρ' _ hag =>
  ⟨fun c => Cert.FfnUpIdeal.Up.Ya m c, Cert.FfnUpIdeal.Up.run m ρ,
    (θ_run Cert.FfnUpRefIdeal.defs _ _).mono (fun _ h c => ⟨(h c).1.trans (by
      obtain ⟨h0, h1, h2⟩ := hag c
      exact whole_congr h0 h1 h2), (h c).2⟩) (Cert.FfnUpRefIdeal.Value.run m' ρ')⟩

end Cert.Up

end
-- ==== Proof.FfnUp1Cases.lean ====
/- What the feed-forward's first call leaves in the second layer at a grid point, case by case: the rounded weight blocks in the scratch buffers, and
   the gated product in the result block. -/
module

public import proofs.«01_k».proof.Proof.Gen.FfnUp1Ideal.Frame
public import Idealize.ShloMosaic.Lib.Pipeline.Value
public import Idealize.ShloMosaic.Lib.Pointwise

@[expose] public section

set_option maxRecDepth 16384

noncomputable section

namespace Cert.FfnUp1Ideal.Up

open Cert.FfnUp1Ideal Cert.FfnUp1Ideal.Gen
open Idealize.ShloMosaic Idealize.ShloMosaic.TcCoe Idealize.SL.Sem Idealize.ShloMosaic.Pipeline

/-- A weight block, rounded. -/
def wcast (x : FVec Ideal S1x4096x256 .f32) : FVec Ideal S4096x256 .bf16 := fun y => x (ix3 0 (y 0) (y 1))

/-- One store's rows of a weight block. -/
def rows (w : FVec Ideal S1x512x256 .f32) : FVec Ideal S512x256 .bf16 := fun x => w (ix3 0 (x 0) (x 1))

theorem hz2 : (![0, 0] : Fin 2 → Nat) = fun _ => 0 := funext fun a => by fin_cases a <;> rfl

theorem pay4_eq (w : FVec Ideal S1x512x256 .f32) : k0_pay4 (F := Ideal) w = rows w := by
  funext x
  have hx : x = ix2 (x 0) (x 1) := eq_ix2 x
  rw [hx]
  unfold k0_pay4
  pointwise
  rfl

theorem pay5_eq (w : FVec Ideal S1x512x256 .f32) : k0_pay5 (F := Ideal) w = rows w := by
  funext x
  have hx : x = ix2 (x 0) (x 1) := eq_ix2 x
  rw [hx]
  unfold k0_pay5
  pointwise
  rfl

theorem pay6_eq (w : FVec Ideal S1x512x256 .f32) : k0_pay6 (F := Ideal) w = rows w := by
  funext x
  have hx : x = ix2 (x 0) (x 1) := eq_ix2 x
  rw [hx]
  unfold k0_pay6
  pointwise
  rfl

theorem pay7_eq (w : FVec Ideal S1x512x256 .f32) : k0_pay7 (F := Ideal) w = rows w := by
  funext x
  have hx : x = ix2 (x 0) (x 1) := eq_ix2 x
  rw [hx]
  unfold k0_pay7
  pointwise
  rfl

theorem pay8_eq (w : FVec Ideal S1x512x256 .f32) : k0_pay8 (F := Ideal) w = rows w := by
  funext x
  have hx : x = ix2 (x 0) (x 1) := eq_ix2 x
  rw [hx]
  unfold k0_pay8
  pointwise
  rfl

theorem pay9_eq (w : FVec Ideal S1x512x256 .f32) : k0_pay9 (F := Ideal) w = rows w := by
  funext x
  have hx : x = ix2 (x 0) (x 1) := eq_ix2 x
  rw [hx]
  unfold k0_pay9
  pointwise
  rfl

theorem pay10_eq (w : FVec Ideal S1x512x256 .f32) : k0_pay10 (F := Ideal) w = rows w := by
  funext x
  have hx : x = ix2 (x 0) (x 1) := eq_ix2 x
  rw [hx]
  unfold k0_pay10
  pointwise
  rfl

theorem pay11_eq (w : FVec Ideal S1x512x256 .f32) : k0_pay11 (F := Ideal) w = rows w := by
  funext x
  have hx : x = ix2 (x 0) (x 1) := eq_ix2 x
  rw [hx]
  unfold k0_pay11
  pointwise
  rfl

theorem pay12_eq (w : FVec Ideal S1x512x256 .f32) : k0_pay12 (F := Ideal) w = rows w := by
  funext x
  have hx : x = ix2 (x 0) (x 1) := eq_ix2 x
  rw [hx]
  unfold k0_pay12
  pointwise
  rfl

theorem pay13_eq (w : FVec Ideal S1x512x256 .f32) : k0_pay13 (F := Ideal) w = rows w := by
  funext x
  have hx : x = ix2 (x 0) (x 1) := eq_ix2 x
  rw [hx]
  unfold k0_pay13
  pointwise
  rfl

theorem pay14_eq (w : FVec Ideal S1x512x256 .f32) : k0_pay14 (F := Ideal) w = rows w := by
  funext x
  have hx : x = ix2 (x 0) (x 1) := eq_ix2 x
  rw [hx]
  unfold k0_pay14
  pointwise
  rfl

theorem pay15_eq (w : FVec Ideal S1x512x256 .f32) : k0_pay15 (F := Ideal) w = rows w := by
  funext x
  have hx : x = ix2 (x 0) (x 1) := eq_ix2 x
  rw [hx]
  unfold k0_pay15
  pointwise
  rfl

theorem pay16_eq (w : FVec Ideal S1x512x256 .f32) : k0_pay16 (F := Ideal) w = rows w := by
  funext x
  have hx : x = ix2 (x 0) (x 1) := eq_ix2 x
  rw [hx]
  unfold k0_pay16
  pointwise
  rfl

theorem pay17_eq (w : FVec Ideal S1x512x256 .f32) : k0_pay17 (F := Ideal) w = rows w := by
  funext x
  have hx : x = ix2 (x 0) (x 1) := eq_ix2 x
  rw [hx]
  unfold k0_pay17
  pointwise
  rfl

theorem pay18_eq (w : FVec Ideal S1x512x256 .f32) : k0_pay18 (F := Ideal) w = rows w := by
  funext x
  have hx : x = ix2 (x 0) (x 1) := eq_ix2 x
  rw [hx]
  unfold k0_pay18
  pointwise
  rfl

theorem pay1_eq (w : FVec Ideal S1x512x256 .f32) : k0_pay1 (F := Ideal) w = rows w := by
  funext x
  have hx : x = ix2 (x 0) (x 1) := eq_ix2 x
  rw [hx]
  unfold k0_pay1
  pointwise
  rfl

/-- A load of a whole scratch after writes reads what they leave. -/
theorem readCov_all (v : View sig .tc .vmem S4096x256 .bf16) (L : List (View.Piece (Elt Ideal) S4096x256 .bf16))
    (h : ∀ a, (![0, 0] : Fin 2 → ℕ) a + S4096x256.size a ≤ S4096x256.size a) :
    v.readCov L (Rect.unit ![0, 0] S4096x256.size h).toLoadRect = View.canon L := by
  rw [View.readCov_eq_canon']
  exact View.ld_unit_zero (S := S4096x256) hz2 h (View.canon L)

/-- The rows a store writes are the block's rows at its place. -/
theorem piece_eq (o : ℕ) (h3 : ∀ a, (![0, o, 0] : Fin 3 → ℕ) a + S1x512x256.size a ≤ S1x4096x256.size a)
    (h2 : ∀ a, (![o, 0] : Fin 2 → ℕ) a + S512x256.size a ≤ S4096x256.size a) (X : FVec Ideal S1x4096x256 .f32) (x : S512x256.Idx) :
    rows (fun j => X ((Rect.unit (s := S1x4096x256) ![0, o, 0] S1x512x256.size h3).emb j)) x = wcast X ((Rect.unit (s := S4096x256) ![o, 0] S512x256.size h2).emb x) := by
  show X _ = X _
  congr 1
  funext a
  apply Fin.ext
  match a with
  | 0 => rfl
  | 1 => rfl
  | 2 => rfl

/-- The gate weights' scratch after a point that fills it: the rounded block. -/
theorem sout_A_0_eq (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1024x256 .bf16) (harg5 : arg5.IsWhole) (arg6 : Memref sig .tc .vmem S4096x256 .bf16) (harg6 : arg6.IsWhole) (arg7 : Memref sig .tc .vmem S4096x256 .bf16) (harg7 : arg7.IsWhole) (hc0 : cond0_0 i) (hc1 : cond0_1 i) (hc2 : ¬cond0_2 i)
    (x0 : Vec Ideal S1024x4096 .bf16) (x1 : Vec Ideal S1x4096x256 .f32) (x2 : Vec Ideal S1x4096x256 .f32) :
    sout0_A_0 c i arg2 harg2 arg3 harg3 arg4 harg4 arg5 harg5 arg6 harg6 arg7 harg7 hc0 hc1 hc2 x0 x1 x2 = wcast x1 := by
  unfold sout0_A_0
  rw [View.read_writes_eq_canon _ _ _ (scover0_A_0 c i arg2 harg2 arg3 harg3 arg4 harg4 arg5 harg5 arg6 harg6 arg7 harg7 hc0 hc1 hc2 x0 x1 x2)]
  funext y
  refine View.canon_apply_of_pieces (wcast x1) _ ?_ y (scover0_A_0 c i arg2 harg2 arg3 harg3 arg4 harg4 arg5 harg5 arg6 harg6 arg7 harg7 hc0 hc1 hc2 x0 x1 x2 y)
  unfold kernelRun0_A
  dsimp only
  sl_unfold_words
  simp only [View.readAt_eq_ld, harg3.read_unread]
  simp only [List.forall_mem_cons, List.not_mem_nil, false_imp_iff, implies_true, and_true]
  refine ⟨?_, ?_, ?_, ?_, ?_, ?_, ?_, ?_⟩
  · exact fun x => (congrFun (pay11_eq _) x).trans (piece_eq 3584 _ _ x1 x)
  · exact fun x => (congrFun (pay10_eq _) x).trans (piece_eq 3072 _ _ x1 x)
  · exact fun x => (congrFun (pay9_eq _) x).trans (piece_eq 2560 _ _ x1 x)
  · exact fun x => (congrFun (pay8_eq _) x).trans (piece_eq 2048 _ _ x1 x)
  · exact fun x => (congrFun (pay7_eq _) x).trans (piece_eq 1536 _ _ x1 x)
  · exact fun x => (congrFun (pay6_eq _) x).trans (piece_eq 1024 _ _ x1 x)
  · exact fun x => (congrFun (pay5_eq _) x).trans (piece_eq 512 _ _ x1 x)
  · exact fun x => (congrFun (pay4_eq _) x).trans (piece_eq 0 _ _ x1 x)

/-- The up weights' scratch after a point that fills it: the rounded block. -/
theorem sout_A_1_eq (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1024x256 .bf16) (harg5 : arg5.IsWhole) (arg6 : Memref sig .tc .vmem S4096x256 .bf16) (harg6 : arg6.IsWhole) (arg7 : Memref sig .tc .vmem S4096x256 .bf16) (harg7 : arg7.IsWhole) (hc0 : cond0_0 i) (hc1 : cond0_1 i) (hc2 : ¬cond0_2 i)
    (x0 : Vec Ideal S1024x4096 .bf16) (x1 : Vec Ideal S1x4096x256 .f32) (x2 : Vec Ideal S1x4096x256 .f32) :
    sout0_A_1 c i arg2 harg2 arg3 harg3 arg4 harg4 arg5 harg5 arg6 harg6 arg7 harg7 hc0 hc1 hc2 x0 x1 x2 = wcast x2 := by
  unfold sout0_A_1
  rw [View.read_writes_eq_canon _ _ _ (scover0_A_1 c i arg2 harg2 arg3 harg3 arg4 harg4 arg5 harg5 arg6 harg6 arg7 harg7 hc0 hc1 hc2 x0 x1 x2)]
  funext y
  refine View.canon_apply_of_pieces (wcast x2) _ ?_ y (scover0_A_1 c i arg2 harg2 arg3 harg3 arg4 harg4 arg5 harg5 arg6 harg6 arg7 harg7 hc0 hc1 hc2 x0 x1 x2 y)
  unfold kernelRun0_A
  dsimp only
  sl_unfold_words
  simp only [View.readAt_eq_ld, harg4.read_unread]
  simp only [List.forall_mem_cons, List.not_mem_nil, false_imp_iff, implies_true, and_true]
  refine ⟨?_, ?_, ?_, ?_, ?_, ?_, ?_, ?_⟩
  · exact fun x => (congrFun (pay1_eq _) x).trans (piece_eq 3584 _ _ x2 x)
  · exact fun x => (congrFun (pay18_eq _) x).trans (piece_eq 3072 _ _ x2 x)
  · exact fun x => (congrFun (pay17_eq _) x).trans (piece_eq 2560 _ _ x2 x)
  · exact fun x => (congrFun (pay16_eq _) x).trans (piece_eq 2048 _ _ x2 x)
  · exact fun x => (congrFun (pay15_eq _) x).trans (piece_eq 1536 _ _ x2 x)
  · exact fun x => (congrFun (pay14_eq _) x).trans (piece_eq 1024 _ _ x2 x)
  · exact fun x => (congrFun (pay13_eq _) x).trans (piece_eq 512 _ _ x2 x)
  · exact fun x => (congrFun (pay12_eq _) x).trans (piece_eq 0 _ _ x2 x)

/-- The result block of a point that fills the scratch. -/
theorem out_A_3_eq (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1024x256 .bf16) (harg5 : arg5.IsWhole) (arg6 : Memref sig .tc .vmem S4096x256 .bf16) (harg6 : arg6.IsWhole) (arg7 : Memref sig .tc .vmem S4096x256 .bf16) (harg7 : arg7.IsWhole) (hc0 : cond0_0 i) (hc1 : cond0_1 i) (hc2 : ¬cond0_2 i)
    (x0 : Vec Ideal S1024x4096 .bf16) (x1 : Vec Ideal S1x4096x256 .f32) (x2 : Vec Ideal S1x4096x256 .f32) :
    out0_A_3 c i arg2 harg2 arg3 harg3 arg4 harg4 arg5 harg5 arg6 harg6 arg7 harg7 hc0 hc1 hc2 x0 x1 x2 = k0_pay2 x0 (wcast x1) (wcast x2) := by
  have e1 := sout_A_0_eq c i arg2 harg2 arg3 harg3 arg4 harg4 arg5 harg5 arg6 harg6 arg7 harg7 hc0 hc1 hc2 x0 x1 x2
  have e2 := sout_A_1_eq c i arg2 harg2 arg3 harg3 arg4 harg4 arg5 harg5 arg6 harg6 arg7 harg7 hc0 hc1 hc2 x0 x1 x2
  unfold sout0_A_0 at e1
  unfold sout0_A_1 at e2
  rw [View.read_writes_junk_eq_canon] at e1 e2
  unfold kernelRun0_A at e1 e2
  dsimp only at e1 e2
  unfold out0_A_3
  rw [View.read_writes_eq_canon _ _ _ (cover0_A_3 c i arg2 harg2 arg3 harg3 arg4 harg4 arg5 harg5 arg6 harg6 arg7 harg7 hc0 hc1 hc2 x0 x1 x2)]
  unfold kernelRun0_A
  dsimp only
  sl_unfold_words
  rw [View.canon_unit_zero hz2]
  refine congr (congr (congrArg k0_pay2 ?_) ?_) ?_
  · clear e1 e2
    rw [View.readAt_eq_ld, harg2.read_unread]
    exact View.ld_unit_zero (S := S1024x4096) hz2 _ x0
  · exact (readCov_all _ _ _).trans e1
  · exact (readCov_all _ _ _).trans e2

/-- The result block of a point that reuses the scratch. -/
theorem out_B_3_eq (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1024x256 .bf16) (harg5 : arg5.IsWhole) (arg6 : Memref sig .tc .vmem S4096x256 .bf16) (harg6 : arg6.IsWhole) (arg7 : Memref sig .tc .vmem S4096x256 .bf16) (harg7 : arg7.IsWhole) (hc0 : ¬cond0_0 i) (hc1 : cond0_1 i) (hc2 : ¬cond0_2 i)
    (x0 : Vec Ideal S1024x4096 .bf16) (x1 : Vec Ideal S1x4096x256 .f32) (x2 : Vec Ideal S1x4096x256 .f32) (xs0 : Vec Ideal S4096x256 .bf16) (xs1 : Vec Ideal S4096x256 .bf16) :
    out0_B_3 c i arg2 harg2 arg3 harg3 arg4 harg4 arg5 harg5 arg6 harg6 arg7 harg7 hc0 hc1 hc2 x0 x1 x2 xs0 xs1 = k0_pay2 x0 xs0 xs1 := by
  unfold out0_B_3
  rw [View.read_writes_eq_canon _ _ _ (cover0_B_3 c i arg2 harg2 arg3 harg3 arg4 harg4 arg5 harg5 arg6 harg6 arg7 harg7 hc0 hc1 hc2 x0 x1 x2 xs0 xs1)]
  unfold kernelRun0_B
  dsimp only
  try sl_unfold_words
  rw [View.canon_unit_zero hz2]
  refine congr (congr (congrArg k0_pay2 ?_) ?_) ?_
  · rw [View.readAt_eq_ld, harg2.read_unread]
    exact View.ld_unit_zero (S := S1024x4096) hz2 _ x0
  · rw [View.readAt_eq_ld, harg6.read_unread]
    exact View.ld_unit_zero (S := S4096x256) hz2 _ xs0
  · rw [View.readAt_eq_ld, harg7.read_unread]
    exact View.ld_unit_zero (S := S4096x256) hz2 _ xs1

/-- The result block of a point that fills the padding. -/
theorem out_C_3_eq (c : Dev nD) (i : grid0.Coords) (arg2 : Memref sig .tc .vmem S1024x4096 .bf16) (harg2 : arg2.IsWhole) (arg3 : Memref sig .tc .vmem S1x4096x256 .f32) (harg3 : arg3.IsWhole) (arg4 : Memref sig .tc .vmem S1x4096x256 .f32) (harg4 : arg4.IsWhole) (arg5 : Memref sig .tc .vmem S1024x256 .bf16) (harg5 : arg5.IsWhole) (arg6 : Memref sig .tc .vmem S4096x256 .bf16) (harg6 : arg6.IsWhole) (arg7 : Memref sig .tc .vmem S4096x256 .bf16) (harg7 : arg7.IsWhole) (hc0 : ¬cond0_0 i) (hc1 : ¬cond0_1 i) (hc2 : cond0_2 i)
    (x0 : Vec Ideal S1024x4096 .bf16) (x1 : Vec Ideal S1x4096x256 .f32) (x2 : Vec Ideal S1x4096x256 .f32) (xs0 : Vec Ideal S4096x256 .bf16) (xs1 : Vec Ideal S4096x256 .bf16) :
    out0_C_3 c i arg2 harg2 arg3 harg3 arg4 harg4 arg5 harg5 arg6 harg6 arg7 harg7 hc0 hc1 hc2 x0 x1 x2 xs0 xs1 = k0_pay3 (F := Ideal) := by
  unfold out0_C_3
  rw [View.read_writes_eq_canon _ _ _ (cover0_C_3 c i arg2 harg2 arg3 harg3 arg4 harg4 arg5 harg5 arg6 harg6 arg7 harg7 hc0 hc1 hc2 x0 x1 x2 xs0 xs1)]
  unfold kernelRun0_C
  dsimp only
  try sl_unfold_words
  rw [View.canon_unit_zero hz2]

end Cert.FfnUp1Ideal.Up

end
-- ==== Proof.FfnUp1Value.lean ====
/- The feed-forward's first call in the second layer: what it leaves is the gated product, with columns of zeros after it. -/
module

public import proofs.«01_k».proof.Proof.FfnUpValue
public import proofs.«01_k».proof.Proof.FfnUp1Cases
public import proofs.«01_k».proof.Proof.Gen.FfnUp1RefIdeal.Run

@[expose] public section

set_option maxRecDepth 16384

noncomputable section

namespace Cert.FfnUp1RefIdeal.Up

open Cert.FfnUp1RefIdeal Cert.FfnUp1RefIdeal.Gen Idealize.ShloMosaic Idealize.ShloMosaic.TcCoe

/-- A product of the rows with the second layer's weights. -/
def prod (h : FVec Ideal S8192x4096 .f32) (w : FVec Ideal S2x4096x11008 .f32) : FVec Ideal S8192x11008 .f32 :=
  Host.dotGeneral dot_S8192x4096_S4096x11008_S8192x11008_1_0_0_1_n_n none h (shapeCast _ (extractStridedSlice S1x4096x11008 ![1, 0, 0] w slices_S2x4096x11008_S1x4096x11008_1_0_0) shapeCasts_S1x4096x11008_S4096x11008)

/-- The reference's result. -/
def whole (h : FVec Ideal S2x4096x4096 .f32) (wg wu : FVec Ideal S2x4096x11008 .f32) : FVec Ideal S8192x11264 .bf16 :=
  Cert.FfnUpRefIdeal.Up.padded (Cert.FfnUpRefIdeal.Up.gated (prod (shapeCast _ h shapeCasts_S2x4096x4096_S8192x4096) wg) (prod (shapeCast _ h shapeCasts_S2x4096x4096_S8192x4096) wu))

theorem prod_apply (h : FVec Ideal S8192x4096 .f32) (w : FVec Ideal S2x4096x11008 .f32) (i : Fin 8192) (j : Fin 11008) :
    prod h w (ix2 i j) = ∑ k : Fin 4096, h (ix2 i k) * w (ix3 1 k j) := by
  unfold prod
  pointwise

end Cert.FfnUp1RefIdeal.Up

namespace Cert.FfnUp1Ideal.Up

open Cert.FfnUp1Ideal Cert.FfnUp1Ideal.Gen
open Cert.FfnUpRefIdeal.Up (act)
open Idealize.ShloMosaic Idealize.ShloMosaic.TcCoe Idealize.SL.Sem Idealize.ShloMosaic.Pipeline

/-- An element of a product of two blocks. -/
def part (a : FVec Ideal S1024x4096 .bf16) (w : FVec Ideal S4096x256 .bf16) (r : Fin 1024) (s : Fin 256) : EReal :=
  ∑ k : Fin 4096, a (ix2 r k) * w (ix2 k s)

theorem pay2_apply (a : FVec Ideal S1024x4096 .bf16) (g u : FVec Ideal S4096x256 .bf16) (r : Fin 1024) (s : Fin 256) :
    (k0_pay2 (F := Ideal) a g u (ix2 r s) : EReal) = act (part a g r s) (part a u r s) := by
  unfold k0_pay2 part
  pointwise
  unfold act
  rw [sub_eq_add_neg, zero_add]

theorem pay3_apply (r : Fin 1024) (s : Fin 256) : (k0_pay3 (F := Ideal) (ix2 r s) : EReal) = 0 := by
  unfold k0_pay3
  pointwise

variable (m : (ℓ : Loc nD τ sig) → Buf (Elt Ideal) ℓ)

/-- The hidden rows. -/
abbrev Ha (c : Dev nD) : FVec Ideal S2x4096x4096 .f32 := m ((c.tc : Thread nD τ).loc main_arg0)
/-- The gate's weights. -/
abbrev Ga (c : Dev nD) : FVec Ideal S2x4096x11008 .f32 := m ((c.tc : Thread nD τ).loc main_arg1)
/-- The up projection's weights. -/
abbrev Ua (c : Dev nD) : FVec Ideal S2x4096x11008 .f32 := m ((c.tc : Thread nD τ).loc main_arg2)
/-- The hidden rows, flat. -/
abbrev Hf (c : Dev nD) : FVec Ideal S8192x4096 .f32 := shapeCast S8192x4096 (Ha m c) shapeCasts_S2x4096x4096_S8192x4096

theorem V_h (c : Dev nD) : V m c main_v1 = truncf .bf16 (Hf m c) bitsLt_bf16_f32 := by
  simp only [V, hostOps0]; after_results
  rfl

/-- Where the windows are at a grid point. -/
theorem idx_facts : ∀ t : Fin cfg0.N,
    win0_0.index t (0 : Fin 2) = t.val % 8 ∧ win0_0.index t (1 : Fin 2) = 0
    ∧ win0_1.index t (0 : Fin 3) = 1 ∧ win0_1.index t (1 : Fin 3) = 0 ∧ win0_1.index t (2 : Fin 3) = min (t.val / 8) 42
    ∧ win0_2.index t (0 : Fin 3) = 1 ∧ win0_2.index t (1 : Fin 3) = 0 ∧ win0_2.index t (2 : Fin 3) = min (t.val / 8) 42
    ∧ win0_3.index t (0 : Fin 2) = t.val % 8 ∧ win0_3.index t (1 : Fin 2) = t.val / 8 :=
  (by decide +kernel : ∀ t : Fin grid0.N, _)

theorem iblk_h (c : Dev nD) (n : ℕ) (h : n < cfg0.N) (r : Fin 1024) (k : Fin 4096) (hr : 1024 * (n % 8) + r.val < 8192) :
    iblk m c 0 ⟨n, h⟩ (ix2 r k) = Hf m c (ix2 ⟨1024 * (n % 8) + r.val, hr⟩ k) := by
  obtain ⟨h0, h1, -⟩ := idx_facts ⟨n, h⟩
  have ee : (win0_0.rect ⟨n, h⟩).emb (ix2 r k) = ix2 ⟨1024 * (n % 8) + r.val, hr⟩ k := by
    funext a
    apply Fin.ext
    rw [win0_0.rect_emb_val ⟨n, h⟩ (ix2 r k) a]
    match a with
    | 0 => show win0_0.index ⟨n, h⟩ (0 : Fin 2) * 1024 + r.val = 1024 * (n % 8) + r.val; rw [h0]; dsimp only; omega
    | 1 => show win0_0.index ⟨n, h⟩ (1 : Fin 2) * 4096 + k.val = k.val; rw [h1]; omega
  show V m c main_v1 ((win0_0.rect ⟨n, h⟩).emb (ix2 r k)) = _
  rw [ee, V_h]
  rfl

/-- A tile of the second layer's weights, rounded. -/
def tile (w : FVec Ideal S2x4096x11008 .f32) (J : ℕ) (hJ : J < 43) : FVec Ideal S4096x256 .bf16 := fun y =>
  w (ix3 1 (y 0) ⟨256 * J + (y 1).val, by have : (y 1).val < 256 := (y 1).isLt; omega⟩)

theorem cast_g (c : Dev nD) (n J : ℕ) (h : n < cfg0.N) (hn : n / 8 = J) (hJ : J < 43) : wcast (iblk m c 1 ⟨n, h⟩) = tile (Ga m c) J hJ := by
  funext y
  have hy : (y 1).val < 256 := (y 1).isLt
  obtain ⟨-, -, h0, h1, h2, -⟩ := idx_facts ⟨n, h⟩
  have ee : (win0_1.rect ⟨n, h⟩).emb (ix3 0 (y 0) (y 1)) = ix3 1 (y 0) ⟨256 * J + (y 1).val, by omega⟩ := by
    funext a
    apply Fin.ext
    rw [win0_1.rect_emb_val ⟨n, h⟩ (ix3 0 (y 0) (y 1)) a]
    match a with
    | 0 => show win0_1.index ⟨n, h⟩ (0 : Fin 3) * 1 + 0 = 1; rw [h0]
    | 1 => show win0_1.index ⟨n, h⟩ (1 : Fin 3) * 4096 + (y 0).val = (y 0).val; rw [h1]; omega
    | 2 => show win0_1.index ⟨n, h⟩ (2 : Fin 3) * 256 + (y 1).val = 256 * J + (y 1).val; rw [h2]; dsimp only; omega
  show V m c main_arg1 ((win0_1.rect ⟨n, h⟩).emb (ix3 0 (y 0) (y 1))) = _
  rw [ee, V_main_arg1]
  rfl

theorem cast_u (c : Dev nD) (n J : ℕ) (h : n < cfg0.N) (hn : n / 8 = J) (hJ : J < 43) : wcast (iblk m c 2 ⟨n, h⟩) = tile (Ua m c) J hJ := by
  funext y
  have hy : (y 1).val < 256 := (y 1).isLt
  obtain ⟨-, -, -, -, -, h0, h1, h2, -⟩ := idx_facts ⟨n, h⟩
  have ee : (win0_2.rect ⟨n, h⟩).emb (ix3 0 (y 0) (y 1)) = ix3 1 (y 0) ⟨256 * J + (y 1).val, by omega⟩ := by
    funext a
    apply Fin.ext
    rw [win0_2.rect_emb_val ⟨n, h⟩ (ix3 0 (y 0) (y 1)) a]
    match a with
    | 0 => show win0_2.index ⟨n, h⟩ (0 : Fin 3) * 1 + 0 = 1; rw [h0]
    | 1 => show win0_2.index ⟨n, h⟩ (1 : Fin 3) * 4096 + (y 0).val = (y 0).val; rw [h1]; omega
    | 2 => show win0_2.index ⟨n, h⟩ (2 : Fin 3) * 256 + (y 1).val = 256 * J + (y 1).val; rw [h2]; dsimp only; omega
  show V m c main_arg2 ((win0_2.rect ⟨n, h⟩).emb (ix3 0 (y 0) (y 1))) = _
  rw [ee, V_main_arg2]
  rfl

/-- The scratch buffers hold the column's weight tiles, and the result block is the gated product over them. -/
theorem outs_low (c : Dev nD) : ∀ (n J : ℕ) (h : n < cfg0.N) (_ : n / 8 = J) (hJ : J < 43),
    outsAt0 m c n h = (k0_pay2 (iblk m c 0 ⟨n, h⟩) (tile (Ga m c) J hJ) (tile (Ua m c) J hJ), tile (Ga m c) J hJ, tile (Ua m c) J hJ) := by
  intro n
  induction n with
  | zero =>
    intro J h hn hJ
    have e := outsAt0_A m c ⟨0, h⟩ (by show 0 / 8 % 44 + 43 * (0 % 8) ≤ 42; omega) (by show 0 < 344; omega) (by show ¬344 ≤ 0; omega)
    rw [out_A_3_eq, sout_A_0_eq, sout_A_1_eq, cast_g m c 0 J h hn hJ, cast_u m c 0 J h hn hJ] at e
    exact e
  | succ n ih =>
    intro J h hn hJ
    by_cases h8 : (n + 1) % 8 = 0
    · have e := outsAt0_A m c ⟨n + 1, h⟩ (by show (n + 1) / 8 % 44 + 43 * ((n + 1) % 8) ≤ 42; omega) (by show n + 1 < 344; omega) (by show ¬344 ≤ n + 1; omega)
      rw [out_A_3_eq, sout_A_0_eq, sout_A_1_eq, cast_g m c (n + 1) J h hn hJ, cast_u m c (n + 1) J h hn hJ] at e
      exact e
    · have e := outsAt0_B m c ⟨n + 1, h⟩ (by show ¬(n + 1) / 8 % 44 + 43 * ((n + 1) % 8) ≤ 42; omega) (by show n + 1 < 344; omega) (by show ¬344 ≤ n + 1; omega)
      have i := ih J (Nat.lt_of_le_of_lt (Nat.le_succ n) h) (by omega) hJ
      rw [out_B_3_eq] at e
      unfold sout0_B_0 sout0_B_1 at e
      have e' : outsAt0 m c (n + 1) h = (k0_pay2 (iblk m c 0 ⟨n + 1, h⟩) (outsAt0 m c n (Nat.lt_of_le_of_lt (Nat.le_succ n) h)).2.1 (outsAt0 m c n (Nat.lt_of_le_of_lt (Nat.le_succ n) h)).2.2,
        (outsAt0 m c n (Nat.lt_of_le_of_lt (Nat.le_succ n) h)).2.1, (outsAt0 m c n (Nat.lt_of_le_of_lt (Nat.le_succ n) h)).2.2) := e
      rw [e', i]

theorem outs_high (c : Dev nD) (n : ℕ) (h : n < cfg0.N) (hn : 344 ≤ n) : (outsAt0 m c n h).1 = k0_pay3 (F := Ideal) := by
  have hN : n < 352 := lt_of_lt_of_eq h (show cfg0.N = 352 from N_0)
  have e := outsAt0_C m c ⟨n, h⟩ (by show ¬n / 8 % 44 + 43 * (n % 8) ≤ 42; omega) (by show ¬n < 344; omega) hn
  rw [out_C_3_eq] at e
  exact congrArg Prod.fst e

/-- What the run leaves in the result. -/
abbrev Ya (c : Dev nD) : FVec Ideal S8192x11264 .bf16 := Cert.FfnUp1RefIdeal.Up.whole (Ha m c) (Ga m c) (Ua m c)

/-- A tile's product is the whole product's. -/
theorem part_eq (c : Dev nD) (n : ℕ) (h : n < cfg0.N) (w : FVec Ideal S2x4096x11008 .f32) (J : ℕ) (hJ : J < 43) (r : Fin 1024) (s : Fin 256)
    (hr : 1024 * (n % 8) + r.val < 8192) (hs : 256 * J + s.val < 11008) :
    part (iblk m c 0 ⟨n, h⟩) (tile w J hJ) r s = Cert.FfnUp1RefIdeal.Up.prod (Hf m c) w (ix2 ⟨1024 * (n % 8) + r.val, hr⟩ ⟨256 * J + s.val, hs⟩) := by
  rw [Cert.FfnUp1RefIdeal.Up.prod_apply]
  exact Finset.sum_congr rfl fun k _ => congrArg₂ (fun p q : EReal => p * q) (iblk_h m c n h r k hr) rfl

/-- A point's block is the result's, element by element. -/
theorem outs_apply (c : Dev nD) (t : Fin cfg0.N) (r : Fin 1024) (s : Fin 256) (hr : 1024 * (t.val % 8) + r.val < 8192) (hs : 256 * (t.val / 8) + s.val < 11264) :
    (outsAt0 m c t.val t.isLt).1 (ix2 r s) = Ya m c (ix2 ⟨1024 * (t.val % 8) + r.val, hr⟩ ⟨256 * (t.val / 8) + s.val, hs⟩) := by
  obtain ⟨n, h⟩ := t
  dsimp only at hr hs ⊢
  have hN : n < 352 := lt_of_lt_of_eq h (show cfg0.N = 352 from N_0)
  have hs' := s.isLt
  unfold Ya Cert.FfnUp1RefIdeal.Up.whole
  by_cases hn : n < 344
  · have hJ : n / 8 < 43 := by omega
    rw [outs_low m c n (n / 8) h rfl hJ]
    refine (pay2_apply _ _ _ r s).trans ?_
    rw [part_eq m c n h (Ga m c) (n / 8) hJ r s hr (by omega), part_eq m c n h (Ua m c) (n / 8) hJ r s hr (by omega)]
    exact ((Cert.FfnUpRefIdeal.Up.padded_low _ ⟨1024 * (n % 8) + r.val, hr⟩ ⟨256 * (n / 8) + s.val, by omega⟩).trans (Cert.FfnUpRefIdeal.Up.gated_apply _ _ _ _)).symm
  · rw [outs_high m c n h (by omega)]
    refine (pay3_apply r s).trans ?_
    have e := Cert.FfnUpRefIdeal.Up.padded_high (Cert.FfnUpRefIdeal.Up.gated (Cert.FfnUp1RefIdeal.Up.prod (Hf m c) (Ga m c)) (Cert.FfnUp1RefIdeal.Up.prod (Hf m c) (Ua m c))) ⟨1024 * (n % 8) + r.val, hr⟩ s
    refine e.symm.trans ?_
    congr 2
    exact Fin.ext (by show 11008 + s.val = 256 * (n / 8) + s.val; omega)

theorem mem_blk3 (t : Fin cfg0.N) (i : S8192x11264.Idx) :
    i ∈ ((cfg0.win 3).blk t).view.set ↔ ∀ a : Fin 2, win0_3.index t a * S1024x256.size a ≤ i a ∧ (i a : ℕ) < win0_3.index t a * S1024x256.size a + S1024x256.size a := by
  show i ∈ ((View.whole main_v2).slice (win0_3.rect t)).set ↔ _
  rw [View.set_slice_whole, Rect.mem_set_unit]; exact Iff.rfl

theorem cut_eq (t : Fin cfg0.N) (o : Vec Ideal S1024x256 .bf16) (G : Vec Ideal S8192x11264 .bf16)
    (h : ∀ (r : Fin 1024) (s : Fin 256) (hr : 1024 * (t.val % 8) + r.val < 8192) (hs : 256 * (t.val / 8) + s.val < 11264),
      o (ix2 r s) = G (ix2 ⟨1024 * (t.val % 8) + r.val, hr⟩ ⟨256 * (t.val / 8) + s.val, hs⟩)) :
    (cfg0.win 3).cut (grid0.coords t) o = ((cfg0.win 3).blk t).view.read (Elt Ideal) G := by
  funext y
  obtain ⟨r, s, rfl⟩ : ∃ r s, y = ix2 r s := ⟨y 0, y 1, eq_ix2 y⟩
  have hN : t.val < 352 := lt_of_lt_of_eq t.isLt (show cfg0.N = 352 from N_0)
  have hr : r.val < 1024 := r.isLt
  have hs : s.val < 256 := s.isLt
  obtain ⟨-, -, -, -, -, -, -, -, h0, h1⟩ := idx_facts t
  refine (h r s (by omega) (by omega)).trans ?_
  show _ = G ((win0_3.rect t).emb (ix2 r s))
  congr 1
  funext a; apply Fin.ext; rw [win0_3.rect_emb_val t (ix2 r s) a]
  match a with
  | 0 => show 1024 * (t.val % 8) + r.val = win0_3.index t (0 : Fin 2) * 1024 + r.val; rw [h0]; omega
  | 1 => show 256 * (t.val / 8) + s.val = win0_3.index t (1 : Fin 2) * 256 + s.val; rw [h1]; omega

theorem flushed3 (c : Dev nD) (t : Fin cfg0.N) : (dats m 0 c).flushed 3 t = (cfg0.win 3).cut (grid0.coords t) (outsAt0 m c t.val t.isLt).1 := by
  show (cfg0.win 3).cut (grid0.coords t) ((dats m 0 c).after 3 t) = _
  rw [after0_3]

/-- The result's array after the run, from what each point leaves. -/
theorem final_of (c : Dev nD) (G : Vec Ideal S8192x11264 .bf16)
    (h : ∀ (t : Fin cfg0.N) (r : Fin 1024) (s : Fin 256) (hr : 1024 * (t.val % 8) + r.val < 8192) (hs : 256 * (t.val / 8) + s.val < 11264),
      (outsAt0 m c t.val t.isLt).1 (ix2 r s) = G (ix2 ⟨1024 * (t.val % 8) + r.val, hr⟩ ⟨256 * (t.val / 8) + s.val, hs⟩)) :
    (dats m 0 c).arrAt 3 cfg0.N = G := by
  refine (dats m 0 c).arrAt_eq_of_cover 3 G (fun t _ => (flushed3 m c t).trans (cut_eq t _ G (h t))) (fun i => ?_)
  have h0' : (i 0 : ℕ) < 8192 := (i 0).isLt
  have h1' : (i 1 : ℕ) < 11264 := (i 1).isLt
  let t : Fin cfg0.N := ⟨(i 1 : ℕ) / 256 * 8 + (i 0 : ℕ) / 1024, by rw [show cfg0.N = 352 from N_0]; omega⟩
  have htv : t.val = (i 1 : ℕ) / 256 * 8 + (i 0 : ℕ) / 1024 := rfl
  obtain ⟨-, -, -, -, -, -, -, -, h0, h1⟩ := idx_facts t
  refine ⟨t, flush0_3 t, ?_⟩
  rw [mem_blk3]
  intro a
  match a with
  | 0 => show win0_3.index t (0 : Fin 2) * 1024 ≤ (i 0 : ℕ) ∧ (i 0 : ℕ) < win0_3.index t (0 : Fin 2) * 1024 + 1024
         rw [h0, htv]; omega
  | 1 => show win0_3.index t (1 : Fin 2) * 256 ≤ (i 1 : ℕ) ∧ (i 1 : ℕ) < win0_3.index t (1 : Fin 2) * 256 + 256
         rw [h1, htv]; omega

/-- The run leaves the reference's array and the arguments as they were. -/
theorem run (ρ : Dev nD → PrngReg) : θ_run defs (onTc (τ := τ) (main (F := Ideal))) ⟨m, fun _ => 0, ρ⟩ fun r => ∀ c : Dev nD,
      r.2.mem ((c.tc : Thread nD τ).loc main_v2) = Ya m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r (h : Pipeline.FramePost cfgs (dats m) 0 (V m) r) c => ⟨((h c).1 3).trans (final_of m c _ (outs_apply m c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.FfnUp1Ideal.Up

end
-- ==== Proof.FfnUp1Claims.lean ====
/- The gated product's claims in the second layer: the reference's frame, and the equation of results over the extended reals. -/
module

public import proofs.«01_k».proof.Defs
public import proofs.«01_k».proof.Proof.FfnUp1Value
public import proofs.«01_k».proof.Proof.Gen.FfnUp1.Frame

@[expose] public section

set_option maxRecDepth 16384

noncomputable section

namespace Cert.Up1

open Idealize.ShloMosaic Idealize.ShloMosaic.TcCoe Idealize.SL.Sem

theorem frame : Cert.quiescent_FfnUp1 (hFfnUp1 := Cert.FfnUp1.Gen.facts) := fun m ρ _ => Cert.FfnUp1.Gen.frame m ρ

theorem frame_ideal : Cert.quiescent_FfnUp1Ideal (hFfnUp1Ideal := Cert.FfnUp1Ideal.Gen.facts) := fun m ρ _ => Cert.FfnUp1Ideal.Gen.frame m ρ

theorem frame_refIdeal : Cert.quiescent_FfnUp1RefIdeal (hFfnUp1RefIdeal := Cert.FfnUp1RefIdeal.Gen.facts) := fun m ρ _ =>
  (θ_run Cert.FfnUp1RefIdeal.defs _ _).mono (fun _ h => ⟨fun c => (h c).2,
    funext fun g => ((by decide : ∀ _ : SemLoc Cert.FfnUp1RefIdeal.sig, False) g.2).elim⟩) (Cert.FfnUp1RefIdeal.Value.run m ρ)

theorem whole_congr {h h' : FVec Ideal Cert.FfnUp1RefIdeal.S2x4096x4096 .f32} {g g' u u' : FVec Ideal Cert.FfnUp1RefIdeal.S2x4096x11008 .f32}
    (hh : h = h') (hg : g = g') (hu : u = u') : Cert.FfnUp1RefIdeal.Up.whole h g u = Cert.FfnUp1RefIdeal.Up.whole h' g' u' := by
  subst hh hg hu; rfl

theorem algebraic : Cert.algebraic_FfnUp1Ideal_FfnUp1RefIdeal (hFfnUp1Ideal := Cert.FfnUp1Ideal.Gen.facts) (hFfnUp1RefIdeal := Cert.FfnUp1RefIdeal.Gen.facts) := fun m ρ m' ρ' _ hag =>
  ⟨fun c => Cert.FfnUp1Ideal.Up.Ya m c, Cert.FfnUp1Ideal.Up.run m ρ,
    (θ_run Cert.FfnUp1RefIdeal.defs _ _).mono (fun _ h c => ⟨(h c).1.trans (by
      obtain ⟨h0, h1, h2⟩ := hag c
      exact whole_congr h0 h1 h2), (h c).2⟩) (Cert.FfnUp1RefIdeal.Value.run m' ρ')⟩

end Cert.Up1

end
-- ==== Proof.PrepW.lean ====
/- The weight preparation's kernel at an index: both layers' bf16 projection weights as one function of the argument — row `r`
   of a result is row `srcRow r` of the transposed argument, and zero past the last weight row. -/
module

public import proofs.«01_k».proof.Proof.Gen.PrepW.Value
public import Idealize.ShloMosaic.Lib.ValueIdxCore
public import Idealize.ShloMosaic.Lib.Pipeline.Value

@[expose] public section

set_option maxRecDepth 16384

noncomputable section

namespace Cert.PrepWValue

open Cert.PrepW Cert.PrepW.Gen Idealize.ShloMosaic Idealize.ShloMosaic.TcCoe Idealize.SL.Sem
open Idealize.ShloMosaic.Pipeline (Dat)
open Idealize.ShloMosaic.ValueIdx

variable {F : FTy → Type} [FloatOps F]

/-- The weight column a result's row is: the attention columns, then the columns after the gate's twelve, then those twelve. -/
def srcRow (r : Nat) : Nat := if r < 9216 then r else if r < 12288 then r + 12 else r - 3072

theorem srcRow_lt {r : Nat} (h : r < 12300) : srcRow r < 12300 := by
  unfold srcRow; split_ifs <;> omega

/-- A layer's prepared weights, of the argument array. -/
def W (l : Fin 2) (x : (⟨3, ![2, 4096, 12300]⟩ : Shape).Idx → F .f32) : (⟨2, ![12544, 4096]⟩ : Shape).Idx → F .bf16 := fun j =>
  FloatOps.truncf .bf16 bitsLt_bf16_f32
    (if h : (j 0).val < 12300 then x (ix3 l (j 1) ⟨srcRow (j 0).val, srcRow_lt h⟩) else Scalar.ofBits .f32 0x00000000#32)

variable (m : (ℓ : Loc nD τ sig) → Buf (Elt F) ℓ)

/-- The argument array. -/
abbrev X (c : Dev nD) : (⟨3, ![2, 4096, 12300]⟩ : Shape).Idx → F .f32 := m ((c.tc : Thread nD τ).loc main_arg0)

/-- The transposed weights the call reads. -/
theorem V_v0 (c : Dev nD) (i : (⟨3, ![12300, 2, 4096]⟩ : Shape).Idx) : V m c main_v0 i = X m c (ix3 (i 1) (i 2) (i 0)) := by
  have e : V m c main_v0 = transpose S12300x2x4096 [2, 0, 1] (X m c) transposes_S2x4096x12300_S12300x2x4096_2_0_1 := by
    simp only [V, hostOps0]; after_results
  rw [e]
  exact transpose_apply _ _ _ _ _ (fun b => by match b with | 0 => rfl | 1 => rfl | 2 => rfl)

/-- Where the windows are at a grid point. -/
theorem idx_facts : ∀ t : Fin cfg0.N,
    win0_1.index t (0 : Fin 2) = t.val ∧ win0_1.index t (1 : Fin 2) = 0
    ∧ win0_2.index t (0 : Fin 2) = t.val ∧ win0_2.index t (1 : Fin 2) = 0
    ∧ win0_0.index t (0 : Fin 3) = (if t.val < 36 then 256 * t.val else if t.val < 48 then 256 * t.val + 12 else 9216)
    ∧ win0_0.index t (1 : Fin 3) = 0 ∧ win0_0.index t (2 : Fin 3) = 0
    ∧ (grid0.coords t 0).val = t.val :=
  (by decide +kernel : ∀ t : Fin grid0.N, _)

/-- Which rows of a block the kernel keeps, at a grid point. -/
theorem keep_fact : ∀ t : Fin 49, ∀ r : Fin 256,
    (IntOp.cmpi .slt (BitVec.ofNat 32 r.val) (Scalar.select (Scalar.cmpi .slt (BitVec.ofNat 32 t.val) 48#32) 256#32 12#32) = 1#1)
      ↔ 256 * t.val + r.val < 12300 := by decide +kernel

theorem pay1_apply (i : grid0.Coords) (x : Vec F S256x1x4096 .f32) (r : Fin 256) (k : Fin 4096) :
    k0_pay1 i x (ix2 r k) = FloatOps.truncf .bf16 bitsLt_bf16_f32
      (if 256 * (i 0).val + r.val < 12300 then x (ix3 r 0 k) else Scalar.ofBits .f32 0x00000000#32) := by
  have hi : (i 0).val < 49 := (i 0).isLt
  have hk := keep_fact ⟨(i 0).val, hi⟩ r
  unfold k0_pay1
  dsimp only
  show FloatOps.truncf .bf16 bitsLt_bf16_f32 _ = _
  congr 1
  show Scalar.select (broadcastTo S256x4096 _ _ _) (shapeCast S256x4096 x _ _) _ = _
  rw [broadcastTo_apply _ _ _ (ix2 r 0) (fun b => by match b with | 0 => rfl | 1 => rfl), shapeCast_self,
    shapeCast_apply x _ (ix2 r k) (ix3 r 0 k) (by rw [Shape.rowMajor_val_three, Shape.rowMajor_val_two]; simp)]
  show Scalar.select (IntOp.cmpi .slt (iota .tc S256x1 32 [0] _ (ix2 r 0)) _) _ _ = _
  rw [iota_single_apply]
  unfold Scalar.select
  exact if_congr hk rfl rfl

theorem pay2_eq (i : grid0.Coords) (x : Vec F S256x1x4096 .f32) : k0_pay2 i x = k0_pay1 i x := rfl

/-- The fetched block at a grid point is the transposed weights at the block's element offsets. -/
theorem iblk_apply (c : Dev nD) (t : Fin cfg0.N) (r : Fin 256) (l : Fin 2) (k : Fin 4096)
    (hr : win0_0.index t (0 : Fin 3) + r.val < 12300) :
    iblk m c 0 t (ix3 r l k) = X m c (ix3 l k ⟨win0_0.index t (0 : Fin 3) + r.val, hr⟩) := by
  obtain ⟨-, -, -, -, -, h1, h2, -⟩ := idx_facts t
  have e : (win0_0.rect t).emb (ix3 r l k) = ix3 ⟨win0_0.index t (0 : Fin 3) + r.val, hr⟩ l k := by
    funext a
    apply Fin.ext
    rw [win0_0.rect_emb_val_off t (ix3 r l k) a]
    match a with
    | 0 => rfl
    | 1 => show win0_0.index t (1 : Fin 3) + l.val = l.val; rw [h1]; omega
    | 2 => show win0_0.index t (2 : Fin 3) + k.val = k.val; rw [h2]; omega
  show V m c main_v0 ((win0_0.rect t).emb (ix3 r l k)) = _
  rw [e, V_v0]

/-- What the kernel computes of layer `l`'s plane of a block, at an element. -/
theorem block_apply (c : Dev nD) (t : Fin cfg0.N) (l : Fin 2) (r : Fin 256) (k : Fin 4096)
    (hj : 256 * t.val + r.val < 12544) (x : Vec F S256x1x4096 .f32) (hx : x (ix3 r 0 k) = iblk m c 0 t (ix3 r l k)) :
    k0_pay1 (grid0.coords t) x (ix2 r k) = W l (X m c) (ix2 ⟨256 * t.val + r.val, hj⟩ k) := by
  obtain ⟨-, -, -, -, h0, -, -, ht⟩ := idx_facts t
  have hN : t.val < 49 := t.isLt
  have hr := r.isLt
  rw [pay1_apply, ht, hx]
  unfold W
  congr 1
  by_cases h : 256 * t.val + r.val < 12300
  · have hs : win0_0.index t (0 : Fin 3) + r.val = srcRow (256 * t.val + r.val) := by
      rw [h0]; unfold srcRow; split_ifs <;> omega
    rw [if_pos h, dif_pos (by exact h), iblk_apply m c t r l k (by rw [hs]; exact srcRow_lt h)]
    congr 1
    funext a
    match a with
    | 0 => rfl
    | 1 => rfl
    | 2 => exact Fin.ext hs
  · rw [if_neg h, dif_neg (by exact h)]

theorem mem_blk1 (t : Fin cfg0.N) (i : S12544x4096.Idx) :
    i ∈ ((cfg0.win 1).blk t).view.set ↔ ∀ a : Fin 2, win0_1.index t a * S256x4096.size a ≤ i a ∧ (i a : ℕ) < win0_1.index t a * S256x4096.size a + S256x4096.size a := by
  show i ∈ ((View.whole main_v1_0).slice (win0_1.rect t)).set ↔ _
  rw [View.set_slice_whole, Rect.mem_set_unit]; exact Iff.rfl

theorem mem_blk2 (t : Fin cfg0.N) (i : S12544x4096.Idx) :
    i ∈ ((cfg0.win 2).blk t).view.set ↔ ∀ a : Fin 2, win0_2.index t a * S256x4096.size a ≤ i a ∧ (i a : ℕ) < win0_2.index t a * S256x4096.size a + S256x4096.size a := by
  show i ∈ ((View.whole main_v1_1).slice (win0_2.rect t)).set ↔ _
  rw [View.set_slice_whole, Rect.mem_set_unit]; exact Iff.rfl

theorem blk_lt (t : Fin cfg0.N) (r : Fin 256) : 256 * t.val + r.val < 12544 := by
  have := t.isLt; have : cfg0.N = 49 := N_0; omega

/-- The first result's array after the run. -/
theorem final1 (c : Dev nD) : (dats m 0 c).arrAt 1 cfg0.N = W 0 (X m c) := by
  refine (dats m 0 c).arrAt_eq_of_cover 1 (W 0 (X m c)) (fun t _ => ?_) (fun i => ?_)
  · rw [Value.flushed1]
    unfold out0_1
    rw [View.canon_unit_zero (by funext a; match a with | 0 => rfl | 1 => rfl)]
    funext y
    obtain ⟨r, k, rfl⟩ : ∃ r k, y = ix2 r k := ⟨y 0, y 1, eq_ix2 y⟩
    obtain ⟨h0, h1, -⟩ := idx_facts t
    refine (block_apply m c t 0 r k (blk_lt t r) _ ?_).trans ?_
    · show iblk m c 0 t _ = iblk m c 0 t _
      congr 1
      funext a; apply Fin.ext
      match a with
      | 0 => show 0 + 1 * r.val = r.val; omega
      | 1 => rfl
      | 2 => show 0 + 1 * k.val = k.val; omega
    · show _ = W 0 (X m c) ((win0_1.rect t).emb (ix2 r k))
      congr 1
      funext a; apply Fin.ext; rw [win0_1.rect_emb_val t (ix2 r k) a]
      match a with
      | 0 => show 256 * t.val + r.val = win0_1.index t (0 : Fin 2) * 256 + r.val; rw [h0]; omega
      | 1 => show k.val = win0_1.index t (1 : Fin 2) * 4096 + k.val; rw [h1]; omega
  · have hi : (i 0 : ℕ) < 12544 := (i 0).isLt
    have hk : (i 1 : ℕ) < 4096 := (i 1).isLt
    let t : Fin cfg0.N := ⟨(i 0 : ℕ) / 256, by rw [show cfg0.N = 49 from N_0]; omega⟩
    obtain ⟨h0, h1, -⟩ := idx_facts t
    refine ⟨t, flush0_1 t, ?_⟩
    rw [mem_blk1]
    intro a
    match a with
    | 0 => show win0_1.index t (0 : Fin 2) * 256 ≤ (i 0 : ℕ) ∧ (i 0 : ℕ) < win0_1.index t (0 : Fin 2) * 256 + 256
           rw [h0]; show (i 0 : ℕ) / 256 * 256 ≤ _ ∧ _ < (i 0 : ℕ) / 256 * 256 + 256; omega
    | 1 => show win0_1.index t (1 : Fin 2) * 4096 ≤ (i 1 : ℕ) ∧ (i 1 : ℕ) < win0_1.index t (1 : Fin 2) * 4096 + 4096
           rw [h1]; omega

/-- The second result's array after the run. -/
theorem final2 (c : Dev nD) : (dats m 0 c).arrAt 2 cfg0.N = W 1 (X m c) := by
  refine (dats m 0 c).arrAt_eq_of_cover 2 (W 1 (X m c)) (fun t _ => ?_) (fun i => ?_)
  · rw [Value.flushed2]
    unfold out0_2
    rw [View.canon_unit_zero (by funext a; match a with | 0 => rfl | 1 => rfl)]
    funext y
    obtain ⟨r, k, rfl⟩ : ∃ r k, y = ix2 r k := ⟨y 0, y 1, eq_ix2 y⟩
    obtain ⟨-, -, h0, h1, -⟩ := idx_facts t
    rw [pay2_eq]
    refine (block_apply m c t 1 r k (blk_lt t r) _ ?_).trans ?_
    · show iblk m c 0 t _ = iblk m c 0 t _
      congr 1
      funext a; apply Fin.ext
      match a with
      | 0 => show 0 + 1 * r.val = r.val; omega
      | 1 => rfl
      | 2 => show 0 + 1 * k.val = k.val; omega
    · show _ = W 1 (X m c) ((win0_2.rect t).emb (ix2 r k))
      congr 1
      funext a; apply Fin.ext; rw [win0_2.rect_emb_val t (ix2 r k) a]
      match a with
      | 0 => show 256 * t.val + r.val = win0_2.index t (0 : Fin 2) * 256 + r.val; rw [h0]; omega
      | 1 => show k.val = win0_2.index t (1 : Fin 2) * 4096 + k.val; rw [h1]; omega
  · have hi : (i 0 : ℕ) < 12544 := (i 0).isLt
    have hk : (i 1 : ℕ) < 4096 := (i 1).isLt
    let t : Fin cfg0.N := ⟨(i 0 : ℕ) / 256, by rw [show cfg0.N = 49 from N_0]; omega⟩
    obtain ⟨-, -, h0, h1, -⟩ := idx_facts t
    refine ⟨t, flush0_2 t, ?_⟩
    rw [mem_blk2]
    intro a
    match a with
    | 0 => show win0_2.index t (0 : Fin 2) * 256 ≤ (i 0 : ℕ) ∧ (i 0 : ℕ) < win0_2.index t (0 : Fin 2) * 256 + 256
           rw [h0]; show (i 0 : ℕ) / 256 * 256 ≤ _ ∧ _ < (i 0 : ℕ) / 256 * 256 + 256; omega
    | 1 => show win0_2.index t (1 : Fin 2) * 4096 ≤ (i 1 : ℕ) ∧ (i 1 : ℕ) < win0_2.index t (1 : Fin 2) * 4096 + 4096
           rw [h1]; omega

end Cert.PrepWValue

end
-- ==== Proof.PrepWRef.lean ====
/- What the weight preparation's reference computes at an index: its concatenation of the argument's slices is the same function
   of the argument as the kernel's, and the claims' runs of the idealized programs, whose text is the same. -/
module

public import proofs.«01_k».proof.Proof.PrepW
public import proofs.«01_k».proof.Proof.Gen.PrepWIdeal.Value
public import proofs.«01_k».proof.Proof.Gen.PrepWRef.Run
public import proofs.«01_k».proof.Proof.Gen.PrepWRefIdeal.Run

@[expose] public section

set_option maxRecDepth 16384

noncomputable section

namespace Cert.PrepWValue

open Idealize.ShloMosaic Idealize.ShloMosaic.TcCoe Idealize.SL.Sem
open Idealize.ShloMosaic.ValueIdx

variable {F : FTy → Type} [FloatOps F]

/-- The idealized program is the same text, so its arrays after the run are the same functions. -/
theorem final1' (m : (ℓ : Loc Cert.PrepWIdeal.nD Cert.PrepWIdeal.τ Cert.PrepWIdeal.sig) → Buf (Elt F) ℓ) (c : Dev Cert.PrepWIdeal.nD) :
    (Cert.PrepWIdeal.Gen.dats m 0 c).arrAt 1 Cert.PrepWIdeal.cfg0.N = W 0 (m ((c.tc : Thread Cert.PrepWIdeal.nD Cert.PrepWIdeal.τ).loc Cert.PrepWIdeal.main_arg0)) :=
  final1 m c

theorem final2' (m : (ℓ : Loc Cert.PrepWIdeal.nD Cert.PrepWIdeal.τ Cert.PrepWIdeal.sig) → Buf (Elt F) ℓ) (c : Dev Cert.PrepWIdeal.nD) :
    (Cert.PrepWIdeal.Gen.dats m 0 c).arrAt 2 Cert.PrepWIdeal.cfg0.N = W 1 (m ((c.tc : Thread Cert.PrepWIdeal.nD Cert.PrepWIdeal.τ).loc Cert.PrepWIdeal.main_arg0)) :=
  final2 m c

open Cert.PrepWRef Cert.PrepWRef.Gen in
/-- The four pieces side by side, before the cast, at an index. -/
theorem concat_apply (x : (⟨3, ![2, 4096, 12300]⟩ : Shape).Idx → F .f32) (l : Fin 2) (r : Fin 12544) (k : Fin 4096) :
    concatenate S2x12544x4096 1 [
      ⟨S2x9216x4096, (extractStridedSlice S2x9216x4096 ![0, 0, 0] (transpose S2x12300x4096 [0, 2, 1] x transposes_S2x4096x12300_S2x12300x4096_0_2_1) slices_S2x12300x4096_S2x9216x4096_0_0_0)⟩,
      ⟨S2x3072x4096, (extractStridedSlice S2x3072x4096 ![0, 9228, 0] (transpose S2x12300x4096 [0, 2, 1] x transposes_S2x4096x12300_S2x12300x4096_0_2_1) slices_S2x12300x4096_S2x3072x4096_0_9228_0)⟩,
      ⟨S2x12x4096, (extractStridedSlice S2x12x4096 ![0, 9216, 0] (transpose S2x12300x4096 [0, 2, 1] x transposes_S2x4096x12300_S2x12300x4096_0_2_1) slices_S2x12300x4096_S2x12x4096_0_9216_0)⟩,
      ⟨S2x244x4096, broadcastInDim S2x244x4096 ![] bcast_S_S2x244x4096 (constant S_ .f32 0x00000000#32)⟩]
      concatenates_S2x9216x4096_S2x3072x4096_S2x12x4096_S2x244x4096_S2x12544x4096_d1 (ix3 l r k)
    = (if h : r.val < 12300 then x (ix3 l k ⟨srcRow r.val, srcRow_lt h⟩) else Scalar.ofBits .f32 0x00000000#32) := by
  by_cases h1 : r.val < 9216
  · rw [concatenate_apply_piece (t := S2x12544x4096) 1 _ _ (ix3 l r k) 0 (by simp) S2x9216x4096 _ rfl rfl 0 rfl (ix3 l ⟨r.val, h1⟩ k)
      (fun b hb => by match b, hb with | 0, _ => rfl | 1, hb => exact absurd rfl hb | 2, _ => rfl) (by show 0 + r.val = r.val; omega),
      extractStridedSlice_apply _ _ _ _ (ix3 l ⟨r.val, by omega⟩ k) (fun b => by match b with | 0 => exact (Nat.zero_add _).symm | 1 => exact (Nat.zero_add _).symm | 2 => exact (Nat.zero_add _).symm),
      transpose_apply _ _ _ _ (ix3 l k ⟨r.val, by omega⟩) (fun b => by match b with | 0 => rfl | 1 => rfl | 2 => rfl), dif_pos (by omega)]
    congr 1; funext a
    match a with
    | 0 => rfl
    | 1 => rfl
    | 2 => apply Fin.ext; show r.val = srcRow r.val; unfold srcRow; rw [if_pos h1]
  by_cases h2 : r.val < 12288
  · rw [concatenate_apply_piece (t := S2x12544x4096) 1 _ _ (ix3 l r k) 1 (by simp) S2x3072x4096 _ rfl rfl 9216 rfl (ix3 l ⟨r.val - 9216, by omega⟩ k)
      (fun b hb => by match b, hb with | 0, _ => rfl | 1, hb => exact absurd rfl hb | 2, _ => rfl) (by show 9216 + (r.val - 9216) = r.val; omega),
      extractStridedSlice_apply _ _ _ _ (ix3 l ⟨r.val + 12, by omega⟩ k) (fun b => by match b with | 0 => exact (Nat.zero_add _).symm | 1 => show r.val + 12 = 9228 + (r.val - 9216); omega | 2 => exact (Nat.zero_add _).symm),
      transpose_apply _ _ _ _ (ix3 l k ⟨r.val + 12, by omega⟩) (fun b => by match b with | 0 => rfl | 1 => rfl | 2 => rfl), dif_pos (by omega)]
    congr 1; funext a
    match a with
    | 0 => rfl
    | 1 => rfl
    | 2 => apply Fin.ext; show r.val + 12 = srcRow r.val; unfold srcRow; rw [if_neg h1, if_pos h2]
  by_cases h3 : r.val < 12300
  · rw [concatenate_apply_piece (t := S2x12544x4096) 1 _ _ (ix3 l r k) 2 (by simp) S2x12x4096 _ rfl rfl 12288 rfl (ix3 l ⟨r.val - 12288, by omega⟩ k)
      (fun b hb => by match b, hb with | 0, _ => rfl | 1, hb => exact absurd rfl hb | 2, _ => rfl) (by show 12288 + (r.val - 12288) = r.val; omega),
      extractStridedSlice_apply _ _ _ _ (ix3 l ⟨r.val - 3072, by omega⟩ k) (fun b => by match b with | 0 => exact (Nat.zero_add _).symm | 1 => show r.val - 3072 = 9216 + (r.val - 12288); omega | 2 => exact (Nat.zero_add _).symm),
      transpose_apply _ _ _ _ (ix3 l k ⟨r.val - 3072, by omega⟩) (fun b => by match b with | 0 => rfl | 1 => rfl | 2 => rfl), dif_pos h3]
    congr 1; funext a
    match a with
    | 0 => rfl
    | 1 => rfl
    | 2 => apply Fin.ext; show r.val - 3072 = srcRow r.val; unfold srcRow; rw [if_neg h1, if_neg h2]
  · have hr := r.isLt
    rw [concatenate_apply_piece (t := S2x12544x4096) 1 _ _ (ix3 l r k) 3 (by simp) S2x244x4096 _ rfl rfl 12300 rfl (ix3 l ⟨r.val - 12300, by omega⟩ k)
      (fun b hb => by match b, hb with | 0, _ => rfl | 1, hb => exact absurd rfl hb | 2, _ => rfl) (by show 12300 + (r.val - 12300) = r.val; omega),
      dif_neg h3]
    rfl

open Cert.PrepWRef Cert.PrepWRef.Gen in
/-- One layer of the reference's cast concatenation is the kernel's function. -/
theorem ref_layer (x : (⟨3, ![2, 4096, 12300]⟩ : Shape).Idx → F .f32) (l : Fin 2) (y : S2x12544x4096.Idx → F .f32)
    (hy : ∀ r k, y (ix3 l r k) = (if h : r.val < 12300 then x (ix3 l k ⟨srcRow r.val, srcRow_lt h⟩) else Scalar.ofBits .f32 0x00000000#32))
    (hs : S2x12544x4096.Slices ![l.val, 0, 0] S1x12544x4096) :
    shapeCast S12544x4096 (extractStridedSlice S1x12544x4096 ![l.val, 0, 0] (truncf .bf16 y bitsLt_bf16_f32) hs) shapeCasts_S1x12544x4096_S12544x4096 = W l x := by
  funext j
  obtain ⟨r, k, rfl⟩ : ∃ r k, j = ix2 r k := ⟨j 0, j 1, eq_ix2 j⟩
  rw [shapeCast_dropUnit_apply ![12544, 4096], extractStridedSlice_apply _ _ _ _ (ix3 l r k) (fun b => by match b with | 0 => rfl | 1 => show _ = 0 + _; exact (Nat.zero_add _).symm | 2 => show _ = 0 + _; exact (Nat.zero_add _).symm)]
  show FloatOps.truncf .bf16 bitsLt_bf16_f32 (y (ix3 l r k)) = _
  rw [hy]
  rfl

end Cert.PrepWValue

end
-- ==== Proof.PrepWClaims.lean ====
/- The weight preparation's claims: the two references' frames, and the two equations of results — on bit patterns and on
   extended reals — each from the kernel's array after its run and the reference's run. -/
module

public import proofs.«01_k».proof.Defs
public import proofs.«01_k».proof.Proof.PrepWRef

@[expose] public section

set_option maxRecDepth 16384

noncomputable section

namespace Cert.PrepWValue

open Idealize.ShloMosaic Idealize.ShloMosaic.TcCoe Idealize.SL.Sem

theorem frame_ref : Cert.quiescent_PrepWRef (hPrepWRef := Cert.PrepWRef.Gen.facts) := fun m ρ _ =>
  (θ_run Cert.PrepWRef.defs _ _).mono (fun _ h => ⟨fun c => (h c).2.2,
    funext fun g => ((by decide : ∀ _ : SemLoc Cert.PrepWRef.sig, False) g.2).elim⟩) (Cert.PrepWRef.Value.run m ρ)

theorem frame_refIdeal : Cert.quiescent_PrepWRefIdeal (hPrepWRefIdeal := Cert.PrepWRefIdeal.Gen.facts) := fun m ρ _ =>
  (θ_run Cert.PrepWRefIdeal.defs _ _).mono (fun _ h => ⟨fun c => (h c).2.2,
    funext fun g => ((by decide : ∀ _ : SemLoc Cert.PrepWRefIdeal.sig, False) g.2).elim⟩) (Cert.PrepWRefIdeal.Value.run m ρ)

theorem bitexact : Cert.bitexact_PrepW_PrepWRef (hPrepW := Cert.PrepW.Gen.facts) (hPrepWRef := Cert.PrepWRef.Gen.facts) := fun m ρ m' ρ' _ hag =>
  ⟨fun c => W 0 (X m c), fun c => W 1 (X m c),
    (θ_run Cert.PrepW.defs _ _).mono (fun _ h c => ⟨(h c).1.trans (final1 m c), (h c).2.1.trans (final2 m c), (h c).2.2⟩) (Cert.PrepW.Value.run_blocks m ρ),
    (θ_run Cert.PrepWRef.defs _ _).mono (fun _ h c => ⟨(h c).1.trans ((ref_layer _ 0 _ (concat_apply _ 0) _).trans (congrArg (W 0) (hag c))),
      (h c).2.1.trans ((ref_layer _ 1 _ (concat_apply _ 1) _).trans (congrArg (W 1) (hag c))), (h c).2.2⟩) (Cert.PrepWRef.Value.run m' ρ')⟩

theorem algebraic : Cert.algebraic_PrepWIdeal_PrepWRefIdeal (hPrepWIdeal := Cert.PrepWIdeal.Gen.facts) (hPrepWRefIdeal := Cert.PrepWRefIdeal.Gen.facts) := fun m ρ m' ρ' _ hag =>
  ⟨fun c => W (F := Ideal) 0 (m ((c.tc : Thread Cert.PrepWIdeal.nD Cert.PrepWIdeal.τ).loc Cert.PrepWIdeal.main_arg0)),
    fun c => W (F := Ideal) 1 (m ((c.tc : Thread Cert.PrepWIdeal.nD Cert.PrepWIdeal.τ).loc Cert.PrepWIdeal.main_arg0)),
    (θ_run Cert.PrepWIdeal.defs _ _).mono (fun _ h c => ⟨(h c).1.trans (final1' m c), (h c).2.1.trans (final2' m c), (h c).2.2⟩) (Cert.PrepWIdeal.Value.run_blocks m ρ),
    (θ_run Cert.PrepWRefIdeal.defs _ _).mono (fun _ h c => ⟨(h c).1.trans ((ref_layer _ 0 _ (concat_apply _ 0) _).trans (congrArg (W 0) (hag c))),
      (h c).2.1.trans ((ref_layer _ 1 _ (concat_apply _ 1) _).trans (congrArg (W 1) (hag c))), (h c).2.2⟩) (Cert.PrepWRefIdeal.Value.run m' ρ')⟩

end Cert.PrepWValue

end
-- ==== Proof.RowSpec.lean ====
/- A row's element, divided by the root of the row's mean square, times its gain. -/
module

public import Idealize.ShloMosaic.Lib.Pointwise

@[expose] public section

set_option maxRecDepth 16384

noncomputable section

namespace Cert.Rows

open Idealize.ShloMosaic

/-- A row's element, normed. -/
def rn (y : Fin 4096 → EReal) (g : EReal) (j : Fin 4096) : EReal :=
  y j * Ideal.rsqrt (Ideal.div (∑ k : Fin 4096, y k * y k) (Ideal.ofBits .f32 0x45800000#32) + Ideal.ofBits .f32 0x358637BD#32) * g

end Cert.Rows

end
-- ==== Proof.RowNormValue.lean ====
/- The norm of the rows: what the call leaves is the reference's. -/
module

public import proofs.«01_k».proof.Proof.Gen.RowNormIdeal.Value
public import proofs.«01_k».proof.Proof.Gen.RowNormRefIdeal.Run
public import proofs.«01_k».proof.Proof.RowSpec
public import Idealize.ShloMosaic.Lib.Pointwise

@[expose] public section

set_option maxRecDepth 16384

noncomputable section

namespace Cert.RowNormRefIdeal.Rows

open Cert.RowNormRefIdeal Cert.RowNormRefIdeal.Gen Idealize.ShloMosaic Idealize.ShloMosaic.TcCoe
open Cert.Rows (rn)

/-- The rows, each normed. -/
def normed (x : FVec Ideal S2x4096x4096 .f32) (g : FVec Ideal S4096 .f32) : FVec Ideal S2x4096x4096 .f32 :=
  mulf (mulf x (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf x x) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32))))))
    (broadcastInDim S2x4096x4096 ![0, 1, 2] bcast_S1x1x4096_S2x4096x4096_0_1_2 (broadcastInDim S1x1x4096 ![2] bcast_S4096_S1x1x4096_2 g))

theorem normed_apply (x : FVec Ideal S2x4096x4096 .f32) (g : FVec Ideal S4096 .f32) (b : Fin 2) (s : Fin 4096) (d : Fin 4096) :
    normed x g (ix3 b s d) = rn (fun k => x (ix3 b s k)) (g (ix1 d)) d := by
  unfold normed rn
  pointwise

/-- The reference's rows, flat. -/
def whole (x : FVec Ideal S2x4096x4096 .f32) (g : FVec Ideal S4096 .f32) : FVec Ideal S8192x4096 .bf16 :=
  truncf .bf16 (shapeCast _ (normed x g) shapeCasts_S2x4096x4096_S8192x4096) bitsLt_bf16_f32

theorem whole_apply (x : FVec Ideal S2x4096x4096 .f32) (g : FVec Ideal S4096 .f32) (b : Fin 2) (s : Fin 4096) (d : Fin 4096) (hr : 4096 * b.val + s.val < 8192) :
    whole x g (ix2 ⟨4096 * b.val + s.val, hr⟩ d) = rn (fun k => x (ix3 b s k)) (g (ix1 d)) d := by
  refine Eq.trans ?_ (normed_apply x g b s d)
  show shapeCast S8192x4096 (normed x g) shapeCasts_S2x4096x4096_S8192x4096 (ix2 ⟨4096 * b.val + s.val, hr⟩ d) = _
  rw [shapeCast_apply _ _ (ix2 ⟨4096 * b.val + s.val, hr⟩ d) (ix3 b s d) (by
    rw [Shape.rowMajor_val_two, Shape.rowMajor_val_three]
    show (b.val * 4096 + s.val) * 4096 + d.val = (4096 * b.val + s.val) * 4096 + d.val
    omega)]

end Cert.RowNormRefIdeal.Rows

namespace Cert.RowNormIdeal.Rows

open Cert.RowNormIdeal Cert.RowNormIdeal.Gen Cert.RowNormIdeal.Value
open Idealize.ShloMosaic Idealize.ShloMosaic.TcCoe Idealize.SL.Sem Idealize.ShloMosaic.Pipeline
open Cert.Rows (rn)

theorem hz2 : (![0, 0] : Fin 2 → Nat) = fun _ => 0 := funext fun a => by fin_cases a <;> rfl

/-- A block of rows, each normed. -/
theorem pay1_apply (x : FVec Ideal S256x4096 .f32) (g : FVec Ideal S1x4096 .f32) (r : Fin 256) (d : Fin 4096) :
    k0_pay1 (F := Ideal) x g (ix2 r d) = rn (fun k => x (ix2 r k)) (g (ix2 0 d)) d := by
  unfold k0_pay1 rn
  pointwise

/-- What a point leaves in the rows. -/
theorem out2_eq (x0 : Vec Ideal S256x4096 .f32) (x1 : Vec Ideal S1x4096 .f32) : out0_2 (F := Ideal) x0 x1 = k0_pay1 (F := Ideal) x0 x1 := by
  unfold out0_2
  rw [View.canon_unit_zero hz2]
  refine congr (congrArg (k0_pay1 (F := Ideal)) ?_) ?_
  · exact View.ld_unit_zero (S := S256x4096) hz2 _ x0
  · exact View.ld_unit_zero (S := S1x4096) hz2 _ x1

/-- The rows, flat. -/
def xflat (x : FVec Ideal S2x4096x4096 .f32) : FVec Ideal S8192x4096 .f32 := shapeCast S8192x4096 x shapeCasts_S2x4096x4096_S8192x4096
/-- The gain as one row. -/
def grow (g : FVec Ideal S4096 .f32) : FVec Ideal S1x4096 .f32 := shapeCast S1x4096 g shapeCasts_S4096_S1x4096

theorem xflat_apply (x : FVec Ideal S2x4096x4096 .f32) (b : Fin 2) (s : Fin 4096) (k : Fin 4096) (hr : 4096 * b.val + s.val < 8192) :
    xflat x (ix2 ⟨4096 * b.val + s.val, hr⟩ k) = x (ix3 b s k) := by
  unfold xflat
  rw [shapeCast_apply _ _ (ix2 ⟨4096 * b.val + s.val, hr⟩ k) (ix3 b s k) (by
    rw [Shape.rowMajor_val_two, Shape.rowMajor_val_three]
    show (b.val * 4096 + s.val) * 4096 + k.val = (4096 * b.val + s.val) * 4096 + k.val
    omega)]

theorem grow_apply (g : FVec Ideal S4096 .f32) (k : Fin 4096) : grow g (ix2 0 k) = g (ix1 k) := by
  unfold grow
  rw [shapeCast_apply _ _ (ix2 0 k) (ix1 k) (by
    rw [Shape.rowMajor_val_one, Shape.rowMajor_val_two]
    show k.val = 0 * 4096 + k.val
    omega)]

variable (m : (ℓ : Loc nD τ sig) → Buf (Elt Ideal) ℓ)

/-- The arguments. -/
abbrev Xa (c : Dev nD) : FVec Ideal S2x4096x4096 .f32 := m ((c.tc : Thread nD τ).loc main_arg0)
abbrev Ga (c : Dev nD) : FVec Ideal S4096 .f32 := m ((c.tc : Thread nD τ).loc main_arg1)

theorem V_x (c : Dev nD) : V m c main_v0 = xflat (Xa m c) := by
  simp only [V, hostOps0]; after_results
  rfl

theorem V_g (c : Dev nD) : V m c main_v1 = grow (Ga m c) := by
  simp only [V, hostOps0]; after_results
  rfl

/-- Where the windows are at a grid point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem iblk_x (c : Dev nD) (t : Fin cfg0.N) (r : Fin 256) (k : Fin 4096) (b : Fin 2) (s : Fin 4096) (hR : 256 * t.val + r.val = 4096 * b.val + s.val) :
    iblk m c 0 t (ix2 r k) = Xa m c (ix3 b s k) := by
  obtain ⟨h0, h1, -⟩ := idx_facts t
  have hb := b.isLt; have hs := s.isLt
  have ee : (win0_0.rect t).emb (ix2 r k) = ix2 ⟨4096 * b.val + s.val, by omega⟩ k := by
    funext a
    apply Fin.ext
    rw [win0_0.rect_emb_val t (ix2 r k) a]
    match a with
    | 0 => show win0_0.index t (0 : Fin 2) * 256 + r.val = 4096 * b.val + s.val; rw [h0]; omega
    | 1 => show win0_0.index t (1 : Fin 2) * 4096 + k.val = k.val; rw [h1]; omega
  show V m c main_v0 ((win0_0.rect t).emb (ix2 r k)) = _
  rw [ee, V_x]
  exact xflat_apply (Xa m c) b s k _

theorem iblk_g (c : Dev nD) (t : Fin cfg0.N) (k : Fin 4096) : iblk m c 1 t (ix2 0 k) = Ga m c (ix1 k) := by
  obtain ⟨-, -, h0, h1, -⟩ := idx_facts t
  have ee : (win0_1.rect t).emb (ix2 0 k) = ix2 0 k := by
    funext a
    apply Fin.ext
    rw [win0_1.rect_emb_val t (ix2 0 k) a]
    match a with
    | 0 => show win0_1.index t (0 : Fin 2) * 1 + 0 = 0; rw [h0]
    | 1 => show win0_1.index t (1 : Fin 2) * 4096 + k.val = k.val; rw [h1]; omega
  show V m c main_v1 ((win0_1.rect t).emb (ix2 0 k)) = _
  rw [ee, V_g]
  exact grow_apply (Ga m c) k

/-- A normed row of a block is the array's. -/
theorem row_eq (c : Dev nD) (t : Fin cfg0.N) (r : Fin 256) (d : Fin 4096) (b : Fin 2) (s : Fin 4096) (hR : 256 * t.val + r.val = 4096 * b.val + s.val) :
    rn (fun k => iblk m c 0 t (ix2 r k)) (iblk m c 1 t (ix2 0 d)) d = rn (fun k => Xa m c (ix3 b s k)) (Ga m c (ix1 d)) d := by
  have h1 : (fun k : Fin 4096 => (iblk m c 0 t (ix2 r k) : EReal)) = fun k => Xa m c (ix3 b s k) := funext fun k => iblk_x m c t r k b s hR
  exact congr (congr (congrArg rn h1) (iblk_g m c t d)) rfl

/-- What the run leaves in the rows. -/
abbrev Ya (c : Dev nD) : FVec Ideal S8192x4096 .bf16 := Cert.RowNormRefIdeal.Rows.whole (Xa m c) (Ga m c)

theorem t_lt (t : Fin cfg0.N) : t.val < 32 := lt_of_lt_of_eq t.isLt (show cfg0.N = 32 from N_0)

/-- The rows a point's block is of. -/
theorem row_split (t : Fin cfg0.N) (r : Fin 256) : ∃ (b : Fin 2) (s : Fin 4096), 256 * t.val + r.val = 4096 * b.val + s.val := by
  have ht := t_lt t; have hr := r.isLt
  exact ⟨⟨(256 * t.val + r.val) / 4096, by omega⟩, ⟨(256 * t.val + r.val) % 4096, Nat.mod_lt _ (by decide)⟩, by dsimp only; omega⟩

theorem mem_blk2 (t : Fin cfg0.N) (i : S8192x4096.Idx) :
    i ∈ ((cfg0.win 2).blk t).view.set ↔ ∀ a : Fin 2, win0_2.index t a * S256x4096.size a ≤ i a ∧ (i a : ℕ) < win0_2.index t a * S256x4096.size a + S256x4096.size a := by
  show i ∈ ((View.whole main_v2).slice (win0_2.rect t)).set ↔ _
  rw [View.set_slice_whole, Rect.mem_set_unit]; exact Iff.rfl

/-- The rows' array after the run is the reference's. -/
theorem final2 (c : Dev nD) : (dats m 0 c).arrAt 2 cfg0.N = Ya m c := by
  refine (dats m 0 c).arrAt_eq_of_cover 2 (Ya m c) (fun t _ => ?_) (fun i => ?_)
  · rw [Value.flushed2]
    refine (congrArg ((cfg0.win 2).cut (grid0.coords t)) (out2_eq _ _)).trans ?_
    funext y
    obtain ⟨r, d, rfl⟩ : ∃ r d, y = ix2 r d := ⟨y 0, y 1, eq_ix2 y⟩
    obtain ⟨-, -, -, -, h0, h1⟩ := idx_facts t
    obtain ⟨b, s, hR⟩ := row_split t r
    have hb := b.isLt; have hs := s.isLt
    refine (pay1_apply _ _ r d).trans ((row_eq m c t r d b s hR).trans ?_)
    refine (Cert.RowNormRefIdeal.Rows.whole_apply (Xa m c) (Ga m c) b s d (by omega)).symm.trans ?_
    show _ = Ya m c ((win0_2.rect t).emb (ix2 r d))
    congr 1
    funext a; apply Fin.ext; rw [win0_2.rect_emb_val t (ix2 r d) a]
    match a with
    | 0 => show 4096 * b.val + s.val = win0_2.index t (0 : Fin 2) * 256 + r.val; rw [h0]; omega
    | 1 => show d.val = win0_2.index t (1 : Fin 2) * 4096 + d.val; rw [h1]; omega
  · have hi : (i 0 : ℕ) < 8192 := (i 0).isLt
    have hk : (i 1 : ℕ) < 4096 := (i 1).isLt
    let t : Fin cfg0.N := ⟨(i 0 : ℕ) / 256, by rw [show cfg0.N = 32 from N_0]; omega⟩
    obtain ⟨-, -, -, -, h0, h1⟩ := idx_facts t
    refine ⟨t, flush0_2 t, ?_⟩
    rw [mem_blk2]
    intro a
    match a with
    | 0 => show win0_2.index t (0 : Fin 2) * 256 ≤ (i 0 : ℕ) ∧ (i 0 : ℕ) < win0_2.index t (0 : Fin 2) * 256 + 256
           rw [h0]; show (i 0 : ℕ) / 256 * 256 ≤ _ ∧ _ < (i 0 : ℕ) / 256 * 256 + 256; omega
    | 1 => show win0_2.index t (1 : Fin 2) * 4096 ≤ (i 1 : ℕ) ∧ (i 1 : ℕ) < win0_2.index t (1 : Fin 2) * 4096 + 4096
           rw [h1]; omega

end Cert.RowNormIdeal.Rows

end
-- ==== Proof.RowNormClaims.lean ====
/- The claims of the norm of the rows: the frames, and the equation of results over the extended reals. -/
module

public import proofs.«01_k».proof.Defs
public import proofs.«01_k».proof.Proof.RowNormValue
public import proofs.«01_k».proof.Proof.Gen.RowNorm.Frame

@[expose] public section

set_option maxRecDepth 16384

noncomputable section

namespace Cert.Norm

open Idealize.ShloMosaic Idealize.ShloMosaic.TcCoe Idealize.SL.Sem

theorem frame : Cert.quiescent_RowNorm (hRowNorm := Cert.RowNorm.Gen.facts) := fun m ρ _ => Cert.RowNorm.Gen.frame m ρ

theorem frame_ideal : Cert.quiescent_RowNormIdeal (hRowNormIdeal := Cert.RowNormIdeal.Gen.facts) := fun m ρ _ => Cert.RowNormIdeal.Gen.frame m ρ

theorem frame_refIdeal : Cert.quiescent_RowNormRefIdeal (hRowNormRefIdeal := Cert.RowNormRefIdeal.Gen.facts) := fun m ρ _ =>
  (θ_run Cert.RowNormRefIdeal.defs _ _).mono (fun _ h => ⟨fun c => (h c).2,
    funext fun g => ((by decide : ∀ _ : SemLoc Cert.RowNormRefIdeal.sig, False) g.2).elim⟩) (Cert.RowNormRefIdeal.Value.run m ρ)

theorem whole_congr {x x' : FVec Ideal Cert.RowNormRefIdeal.S2x4096x4096 .f32} {g g' : FVec Ideal Cert.RowNormRefIdeal.S4096 .f32}
    (hx : x = x') (hg : g = g') : Cert.RowNormRefIdeal.Rows.whole x g = Cert.RowNormRefIdeal.Rows.whole x' g' := by
  subst hx hg; rfl

theorem algebraic : Cert.algebraic_RowNormIdeal_RowNormRefIdeal (hRowNormIdeal := Cert.RowNormIdeal.Gen.facts) (hRowNormRefIdeal := Cert.RowNormRefIdeal.Gen.facts) := fun m ρ m' ρ' _ hag =>
  ⟨fun c => Cert.RowNormIdeal.Rows.Ya m c,
    (θ_run Cert.RowNormIdeal.defs _ _).mono (fun _ h c => ⟨(h c).1.trans (Cert.RowNormIdeal.Rows.final2 m c), (h c).2⟩) (Cert.RowNormIdeal.Value.run_blocks m ρ),
    (θ_run Cert.RowNormRefIdeal.defs _ _).mono (fun _ h c => ⟨(h c).1.trans (by
      obtain ⟨h0, h1⟩ := hag c
      exact whole_congr h0 h1), (h c).2⟩) (Cert.RowNormRefIdeal.Value.run m' ρ')⟩

end Cert.Norm

end
-- ==== Proof.NormGatesValue.lean ====
/- The norm of the rows with the forget gates' logits: what the call leaves is the reference's. -/
module

public import proofs.«01_k».proof.Proof.Gen.NormGatesIdeal.Value
public import proofs.«01_k».proof.Proof.Gen.NormGatesRefIdeal.Run
public import proofs.«01_k».proof.Proof.RowSpec
public import Idealize.ShloMosaic.Lib.Pointwise

@[expose] public section

set_option maxRecDepth 16384

noncomputable section

namespace Cert.NormGatesRefIdeal.Rows

open Cert.NormGatesRefIdeal Cert.NormGatesRefIdeal.Gen Idealize.ShloMosaic Idealize.ShloMosaic.TcCoe
open Cert.Rows (rn)

/-- The rows, each normed. -/
def normed (x : FVec Ideal S2x4096x4096 .f32) (g : FVec Ideal S4096 .f32) : FVec Ideal S2x4096x4096 .f32 :=
  mulf (mulf x (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf x x) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32))))))
    (broadcastInDim S2x4096x4096 ![0, 1, 2] bcast_S1x1x4096_S2x4096x4096_0_1_2 (broadcastInDim S1x1x4096 ![2] bcast_S4096_S1x1x4096_2 g))

theorem normed_apply (x : FVec Ideal S2x4096x4096 .f32) (g : FVec Ideal S4096 .f32) (b : Fin 2) (s : Fin 4096) (d : Fin 4096) :
    normed x g (ix3 b s d) = rn (fun k => x (ix3 b s k)) (g (ix1 d)) d := by
  unfold normed rn
  pointwise

/-- The reference's rows, flat. -/
def whole (x : FVec Ideal S2x4096x4096 .f32) (g : FVec Ideal S4096 .f32) : FVec Ideal S8192x4096 .bf16 :=
  truncf .bf16 (shapeCast _ (normed x g) shapeCasts_S2x4096x4096_S8192x4096) bitsLt_bf16_f32

theorem whole_apply (x : FVec Ideal S2x4096x4096 .f32) (g : FVec Ideal S4096 .f32) (b : Fin 2) (s : Fin 4096) (d : Fin 4096) (hr : 4096 * b.val + s.val < 8192) :
    whole x g (ix2 ⟨4096 * b.val + s.val, hr⟩ d) = rn (fun k => x (ix3 b s k)) (g (ix1 d)) d := by
  refine Eq.trans ?_ (normed_apply x g b s d)
  show shapeCast S8192x4096 (normed x g) shapeCasts_S2x4096x4096_S8192x4096 (ix2 ⟨4096 * b.val + s.val, hr⟩ d) = _
  rw [shapeCast_apply _ _ (ix2 ⟨4096 * b.val + s.val, hr⟩ d) (ix3 b s d) (by
    rw [Shape.rowMajor_val_two, Shape.rowMajor_val_three]
    show (b.val * 4096 + s.val) * 4096 + d.val = (4096 * b.val + s.val) * 4096 + d.val
    omega)]

/-- The rows' products with the forget gates' columns. -/
def prod (x : FVec Ideal S2x4096x4096 .f32) (g : FVec Ideal S4096 .f32) (w : FVec Ideal S4096x12300 .f32) : FVec Ideal S2x4096x12 .f32 :=
  Host.dotGeneral dot_S2x4096x4096_S4096x12_S2x4096x12_2_0_01_1_n_n none (normed x g) (extractStridedSlice S4096x12 ![0, 9216] w slices_S4096x12300_S4096x12_0_9216)

theorem prod_apply (x : FVec Ideal S2x4096x4096 .f32) (g : FVec Ideal S4096 .f32) (w : FVec Ideal S4096x12300 .f32) (b : Fin 2) (s : Fin 4096) (j : Fin 12) :
    prod x g w (ix3 b s j) = ∑ k : Fin 4096, rn (fun k => x (ix3 b s k)) (g (ix1 k)) k * w (ix2 k ⟨9216 + j.val, by have := j.isLt; omega⟩) := by
  have := j.isLt
  have h : prod x g w (ix3 b s j) = ∑ k : Fin 4096, normed x g (ix3 b s k) * w (ix2 k ⟨9216 + j.val, by omega⟩) := by
    unfold prod
    generalize normed x g = n
    pointwise
  exact h.trans (Finset.sum_congr rfl fun k _ => congrArg (fun z : EReal => z * _) (normed_apply x g b s k))

/-- The logits, flat. -/
def flat (p : FVec Ideal S2x4096x12 .f32) : FVec Ideal S8192x12 .f32 := shapeCast _ p shapeCasts_S2x4096x12_S8192x12

theorem flat_apply (p : FVec Ideal S2x4096x12 .f32) (b : Fin 2) (s : Fin 4096) (d : Fin 12) (hr : 4096 * b.val + s.val < 8192) :
    flat p (ix2 ⟨4096 * b.val + s.val, hr⟩ d) = p (ix3 b s d) := by
  unfold flat
  rw [shapeCast_apply _ _ (ix2 ⟨4096 * b.val + s.val, hr⟩ d) (ix3 b s d) (by
    rw [Shape.rowMajor_val_two, Shape.rowMajor_val_three]
    show (b.val * 4096 + s.val) * 12 + d.val = (4096 * b.val + s.val) * 12 + d.val
    omega)]

/-- Zeros after the logits. -/
def padded (p : FVec Ideal S8192x12 .f32) : FVec Ideal S8192x128 .f32 :=
  concatenate S8192x128 1 [⟨S8192x12, p⟩, ⟨S8192x116, broadcastInDim S8192x116 ![] bcast_S_S8192x116 (constant S_ .f32 0x00000000#32)⟩] concatenates_S8192x12_S8192x116_S8192x128_d1

theorem padded_low (p : FVec Ideal S8192x12 .f32) (i : Fin 8192) (j : Fin 12) : padded p (ix2 i ⟨j.val, by have := j.isLt; omega⟩) = p (ix2 i j) := by
  have := j.isLt
  unfold padded
  pointwise

theorem padded_high (p : FVec Ideal S8192x12 .f32) (i : Fin 8192) (j : Fin 116) : padded p (ix2 i ⟨12 + j.val, by have := j.isLt; omega⟩) = 0 := by
  have := j.isLt
  unfold padded
  pointwise

/-- The reference's logits. -/
def logits (x : FVec Ideal S2x4096x4096 .f32) (g : FVec Ideal S4096 .f32) (w : FVec Ideal S4096x12300 .f32) : FVec Ideal S8192x128 .f32 :=
  padded (flat (prod x g w))

end Cert.NormGatesRefIdeal.Rows

namespace Cert.NormGatesIdeal.Rows

open Cert.NormGatesIdeal Cert.NormGatesIdeal.Gen Cert.NormGatesIdeal.Value
open Idealize.ShloMosaic Idealize.ShloMosaic.TcCoe Idealize.SL.Sem Idealize.ShloMosaic.Pipeline
open Cert.Rows (rn)

theorem hz2 : (![0, 0] : Fin 2 → Nat) = fun _ => 0 := funext fun a => by fin_cases a <;> rfl

/-- A block of rows, each normed. -/
theorem pay1_apply (x : FVec Ideal S256x4096 .f32) (g : FVec Ideal S1x4096 .f32) (r : Fin 256) (d : Fin 4096) :
    k0_pay1 (F := Ideal) x g (ix2 r d) = rn (fun k => x (ix2 r k)) (g (ix2 0 d)) d := by
  unfold k0_pay1 rn
  pointwise

/-- What a point leaves in the rows. -/
theorem out3_eq (x0 : Vec Ideal S256x4096 .f32) (x1 : Vec Ideal S1x4096 .f32) (x2 : Vec Ideal S128x4096 .bf16) : out0_3 (F := Ideal) x0 x1 x2 = k0_pay1 (F := Ideal) x0 x1 := by
  unfold out0_3
  rw [View.canon_unit_zero hz2]
  refine congr (congrArg (k0_pay1 (F := Ideal)) ?_) ?_
  · exact View.ld_unit_zero (S := S256x4096) hz2 _ x0
  · exact View.ld_unit_zero (S := S1x4096) hz2 _ x1

/-- What a point leaves in the logits. -/
theorem out4_eq (x0 : Vec Ideal S256x4096 .f32) (x1 : Vec Ideal S1x4096 .f32) (x2 : Vec Ideal S128x4096 .bf16) : out0_4 (F := Ideal) x0 x1 x2 = k0_pay2 (F := Ideal) x0 x1 x2 := by
  unfold out0_4
  rw [View.canon_unit_zero hz2]
  refine congr (congr (congrArg (k0_pay2 (F := Ideal)) ?_) ?_) ?_
  · exact View.ld_unit_zero (S := S256x4096) hz2 _ x0
  · exact View.ld_unit_zero (S := S1x4096) hz2 _ x1
  · exact View.ld_unit_zero (S := S128x4096) hz2 _ x2

/-- Its product with a tile of the weights' rows. -/
theorem pay2_apply (x : FVec Ideal S256x4096 .f32) (g : FVec Ideal S1x4096 .f32) (w : FVec Ideal S128x4096 .bf16) (r : Fin 256) (j : Fin 128) :
    k0_pay2 (F := Ideal) x g w (ix2 r j) = ∑ k : Fin 4096, rn (fun k => x (ix2 r k)) (g (ix2 0 k)) k * w (ix2 j k) := by
  have h : k0_pay2 (F := Ideal) x g w (ix2 r j) = ∑ k : Fin 4096, (k0_pay1 (F := Ideal) x g (ix2 r k) : EReal) * w (ix2 j k) := by
    unfold k0_pay2
    generalize k0_pay1 (F := Ideal) x g = n
    pointwise
  exact h.trans (Finset.sum_congr rfl fun k _ => congrArg (fun z : EReal => z * _) (pay1_apply x g r k))

/-- The rows, flat. -/
def xflat (x : FVec Ideal S2x4096x4096 .f32) : FVec Ideal S8192x4096 .f32 := shapeCast S8192x4096 x shapeCasts_S2x4096x4096_S8192x4096
/-- The gain as one row. -/
def grow (g : FVec Ideal S4096 .f32) : FVec Ideal S1x4096 .f32 := shapeCast S1x4096 g shapeCasts_S4096_S1x4096

theorem xflat_apply (x : FVec Ideal S2x4096x4096 .f32) (b : Fin 2) (s : Fin 4096) (k : Fin 4096) (hr : 4096 * b.val + s.val < 8192) :
    xflat x (ix2 ⟨4096 * b.val + s.val, hr⟩ k) = x (ix3 b s k) := by
  unfold xflat
  rw [shapeCast_apply _ _ (ix2 ⟨4096 * b.val + s.val, hr⟩ k) (ix3 b s k) (by
    rw [Shape.rowMajor_val_two, Shape.rowMajor_val_three]
    show (b.val * 4096 + s.val) * 4096 + k.val = (4096 * b.val + s.val) * 4096 + k.val
    omega)]

theorem grow_apply (g : FVec Ideal S4096 .f32) (k : Fin 4096) : grow g (ix2 0 k) = g (ix1 k) := by
  unfold grow
  rw [shapeCast_apply _ _ (ix2 0 k) (ix1 k) (by
    rw [Shape.rowMajor_val_one, Shape.rowMajor_val_two]
    show k.val = 0 * 4096 + k.val
    omega)]

variable (m : (ℓ : Loc nD τ sig) → Buf (Elt Ideal) ℓ)

/-- The arguments. -/
abbrev Xa (c : Dev nD) : FVec Ideal S2x4096x4096 .f32 := m ((c.tc : Thread nD τ).loc main_arg0)
abbrev Ga (c : Dev nD) : FVec Ideal S4096 .f32 := m ((c.tc : Thread nD τ).loc main_arg1)

theorem V_x (c : Dev nD) : V m c main_v5 = xflat (Xa m c) := by
  simp only [V, hostOps0]; after_results
  rfl

theorem V_g (c : Dev nD) : V m c main_v8 = grow (Ga m c) := by
  simp only [V, hostOps0]; after_results
  rfl

/-- The weights. -/
abbrev Wa (c : Dev nD) : FVec Ideal S4096x12300 .f32 := m ((c.tc : Thread nD τ).loc main_arg2)

/-- The weights' columns in the call's order, as rows, rounded. -/
def wcat (w : FVec Ideal S4096x12300 .f32) : FVec Ideal S12544x4096 .bf16 :=
  truncf .bf16 (transpose S12544x4096 [1, 0] (concatenate S4096x12544 1 [⟨S4096x9216, extractStridedSlice S4096x9216 ![0, 0] w slices_S4096x12300_S4096x9216_0_0⟩,
    ⟨S4096x3072, extractStridedSlice S4096x3072 ![0, 9228] w slices_S4096x12300_S4096x3072_0_9228⟩,
    ⟨S4096x12, extractStridedSlice S4096x12 ![0, 9216] w slices_S4096x12300_S4096x12_0_9216⟩,
    ⟨S4096x244, broadcastInDim S4096x244 ![] bcast_S_S4096x244 (constant S_ .f32 0x00000000#32)⟩]
    concatenates_S4096x9216_S4096x3072_S4096x12_S4096x244_S4096x12544_d1) transposes_S4096x12544_S12544x4096_1_0) bitsLt_bf16_f32

theorem wcat_gate (w : FVec Ideal S4096x12300 .f32) (j : Fin 12) (k : Fin 4096) :
    wcat w (ix2 ⟨12288 + j.val, by have := j.isLt; omega⟩ k) = w (ix2 k ⟨9216 + j.val, by have := j.isLt; omega⟩) := by
  have := j.isLt
  unfold wcat
  pointwise
  rw [dif_neg (by omega), dif_neg (by omega), dif_pos (by omega)]
  exact congrArg (fun z => w (ix2 k z)) (Fin.ext (by show 9216 + (12288 + j.val - 9216 - 3072) = 9216 + j.val; omega))

theorem wcat_zero (w : FVec Ideal S4096x12300 .f32) (j : Fin 116) (k : Fin 4096) :
    wcat w (ix2 ⟨12300 + j.val, by have := j.isLt; omega⟩ k) = 0 := by
  have := j.isLt
  unfold wcat
  pointwise
  rw [dif_neg (by omega), dif_neg (by omega), dif_neg (by omega)]

theorem V_w (c : Dev nD) : V m c main_v7 = wcat (Wa m c) := by
  simp only [V, hostOps0]; after_results
  rfl

/-- Where the windows are at a grid point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0
    ∧ win0_2.index t (0 : Fin 2) = 96 ∧ win0_2.index t (1 : Fin 2) = 0
    ∧ win0_4.index t (0 : Fin 2) = t.val ∧ win0_4.index t (1 : Fin 2) = 0 :=
  (by decide +kernel : ∀ t : Fin grid0.N, _)

theorem iblk_x (c : Dev nD) (t : Fin cfg0.N) (r : Fin 256) (k : Fin 4096) (b : Fin 2) (s : Fin 4096) (hR : 256 * t.val + r.val = 4096 * b.val + s.val) :
    iblk m c 0 t (ix2 r k) = Xa m c (ix3 b s k) := by
  obtain ⟨h0, h1, -⟩ := idx_facts t
  have hb := b.isLt; have hs := s.isLt
  have ee : (win0_0.rect t).emb (ix2 r k) = ix2 ⟨4096 * b.val + s.val, by omega⟩ k := by
    funext a
    apply Fin.ext
    rw [win0_0.rect_emb_val t (ix2 r k) a]
    match a with
    | 0 => show win0_0.index t (0 : Fin 2) * 256 + r.val = 4096 * b.val + s.val; rw [h0]; omega
    | 1 => show win0_0.index t (1 : Fin 2) * 4096 + k.val = k.val; rw [h1]; omega
  show V m c main_v5 ((win0_0.rect t).emb (ix2 r k)) = _
  rw [ee, V_x]
  exact xflat_apply (Xa m c) b s k _

theorem iblk_g (c : Dev nD) (t : Fin cfg0.N) (k : Fin 4096) : iblk m c 1 t (ix2 0 k) = Ga m c (ix1 k) := by
  obtain ⟨-, -, h0, h1, -⟩ := idx_facts t
  have ee : (win0_1.rect t).emb (ix2 0 k) = ix2 0 k := by
    funext a
    apply Fin.ext
    rw [win0_1.rect_emb_val t (ix2 0 k) a]
    match a with
    | 0 => show win0_1.index t (0 : Fin 2) * 1 + 0 = 0; rw [h0]
    | 1 => show win0_1.index t (1 : Fin 2) * 4096 + k.val = k.val; rw [h1]; omega
  show V m c main_v8 ((win0_1.rect t).emb (ix2 0 k)) = _
  rw [ee, V_g]
  exact grow_apply (Ga m c) k

/-- A normed row of a block is the array's. -/
theorem row_eq (c : Dev nD) (t : Fin cfg0.N) (r : Fin 256) (d : Fin 4096) (b : Fin 2) (s : Fin 4096) (hR : 256 * t.val + r.val = 4096 * b.val + s.val) :
    rn (fun k => iblk m c 0 t (ix2 r k)) (iblk m c 1 t (ix2 0 d)) d = rn (fun k => Xa m c (ix3 b s k)) (Ga m c (ix1 d)) d := by
  have h1 : (fun k : Fin 4096 => (iblk m c 0 t (ix2 r k) : EReal)) = fun k => Xa m c (ix3 b s k) := funext fun k => iblk_x m c t r k b s hR
  exact congr (congr (congrArg rn h1) (iblk_g m c t d)) rfl

/-- What the run leaves in the rows. -/
abbrev Ya (c : Dev nD) : FVec Ideal S8192x4096 .bf16 := Cert.NormGatesRefIdeal.Rows.whole (Xa m c) (Ga m c)

theorem t_lt (t : Fin cfg0.N) : t.val < 32 := lt_of_lt_of_eq t.isLt (show cfg0.N = 32 from N_0)

/-- The rows a point's block is of. -/
theorem row_split (t : Fin cfg0.N) (r : Fin 256) : ∃ (b : Fin 2) (s : Fin 4096), 256 * t.val + r.val = 4096 * b.val + s.val := by
  have ht := t_lt t; have hr := r.isLt
  exact ⟨⟨(256 * t.val + r.val) / 4096, by omega⟩, ⟨(256 * t.val + r.val) % 4096, Nat.mod_lt _ (by decide)⟩, by dsimp only; omega⟩

theorem mem_blk3 (t : Fin cfg0.N) (i : S8192x4096.Idx) :
    i ∈ ((cfg0.win 3).blk t).view.set ↔ ∀ a : Fin 2, win0_3.index t a * S256x4096.size a ≤ i a ∧ (i a : ℕ) < win0_3.index t a * S256x4096.size a + S256x4096.size a := by
  show i ∈ ((View.whole main_v9_0).slice (win0_3.rect t)).set ↔ _
  rw [View.set_slice_whole, Rect.mem_set_unit]; exact Iff.rfl

/-- The rows' array after the run is the reference's. -/
theorem final3 (c : Dev nD) : (dats m 0 c).arrAt 3 cfg0.N = Ya m c := by
  refine (dats m 0 c).arrAt_eq_of_cover 3 (Ya m c) (fun t _ => ?_) (fun i => ?_)
  · rw [Value.flushed3]
    refine (congrArg ((cfg0.win 3).cut (grid0.coords t)) (out3_eq _ _ _)).trans ?_
    funext y
    obtain ⟨r, d, rfl⟩ : ∃ r d, y = ix2 r d := ⟨y 0, y 1, eq_ix2 y⟩
    obtain ⟨-, -, -, -, h0, h1, -⟩ := idx_facts t
    obtain ⟨b, s, hR⟩ := row_split t r
    have hb := b.isLt; have hs := s.isLt
    refine (pay1_apply _ _ r d).trans ((row_eq m c t r d b s hR).trans ?_)
    refine (Cert.NormGatesRefIdeal.Rows.whole_apply (Xa m c) (Ga m c) b s d (by omega)).symm.trans ?_
    show _ = Ya m c ((win0_3.rect t).emb (ix2 r d))
    congr 1
    funext a; apply Fin.ext; rw [win0_3.rect_emb_val t (ix2 r d) a]
    match a with
    | 0 => show 4096 * b.val + s.val = win0_3.index t (0 : Fin 2) * 256 + r.val; rw [h0]; omega
    | 1 => show d.val = win0_3.index t (1 : Fin 2) * 4096 + d.val; rw [h1]; omega
  · have hi : (i 0 : ℕ) < 8192 := (i 0).isLt
    have hk : (i 1 : ℕ) < 4096 := (i 1).isLt
    let t : Fin cfg0.N := ⟨(i 0 : ℕ) / 256, by rw [show cfg0.N = 32 from N_0]; omega⟩
    obtain ⟨-, -, -, -, h0, h1, -⟩ := idx_facts t
    refine ⟨t, flush0_3 t, ?_⟩
    rw [mem_blk3]
    intro a
    match a with
    | 0 => show win0_3.index t (0 : Fin 2) * 256 ≤ (i 0 : ℕ) ∧ (i 0 : ℕ) < win0_3.index t (0 : Fin 2) * 256 + 256
           rw [h0]; show (i 0 : ℕ) / 256 * 256 ≤ _ ∧ _ < (i 0 : ℕ) / 256 * 256 + 256; omega
    | 1 => show win0_3.index t (1 : Fin 2) * 4096 ≤ (i 1 : ℕ) ∧ (i 1 : ℕ) < win0_3.index t (1 : Fin 2) * 4096 + 4096
           rw [h1]; omega

theorem iblk_w (c : Dev nD) (t : Fin cfg0.N) (j : Fin 128) (k : Fin 4096) (J : ℕ) (hJ : J < 12544) (he : 12288 + j.val = J) :
    iblk m c 2 t (ix2 j k) = wcat (Wa m c) (ix2 ⟨J, hJ⟩ k) := by
  obtain ⟨-, -, -, -, -, -, h0, h1, -⟩ := idx_facts t
  have ee : (win0_2.rect t).emb (ix2 j k) = ix2 ⟨J, hJ⟩ k := by
    funext a
    apply Fin.ext
    rw [win0_2.rect_emb_val t (ix2 j k) a]
    match a with
    | 0 => show win0_2.index t (0 : Fin 2) * 128 + j.val = J; rw [h0]; omega
    | 1 => show win0_2.index t (1 : Fin 2) * 4096 + k.val = k.val; rw [h1]; omega
  show V m c main_v7 ((win0_2.rect t).emb (ix2 j k)) = _
  rw [ee, V_w]

/-- What the run leaves in the logits. -/
abbrev La (c : Dev nD) : FVec Ideal S8192x128 .f32 := Cert.NormGatesRefIdeal.Rows.logits (Xa m c) (Ga m c) (Wa m c)

/-- A point's logits are the reference's. -/
theorem logit_eq (c : Dev nD) (t : Fin cfg0.N) (r : Fin 256) (j : Fin 128) (b : Fin 2) (s : Fin 4096) (hR : 256 * t.val + r.val = 4096 * b.val + s.val)
    (hr : 4096 * b.val + s.val < 8192) :
    (∑ k : Fin 4096, rn (fun k => iblk m c 0 t (ix2 r k)) (iblk m c 1 t (ix2 0 k)) k * iblk m c 2 t (ix2 j k) : EReal)
      = La m c (ix2 ⟨4096 * b.val + s.val, hr⟩ j) := by
  have hj := j.isLt
  unfold La Cert.NormGatesRefIdeal.Rows.logits
  by_cases h : j.val < 12
  · refine Eq.trans ?_ ((Cert.NormGatesRefIdeal.Rows.padded_low _ ⟨4096 * b.val + s.val, hr⟩ ⟨j.val, h⟩).trans ((Cert.NormGatesRefIdeal.Rows.flat_apply _ b s ⟨j.val, h⟩ hr).trans
      (Cert.NormGatesRefIdeal.Rows.prod_apply (Xa m c) (Ga m c) (Wa m c) b s ⟨j.val, h⟩))).symm
    refine Finset.sum_congr rfl fun k _ => congrArg₂ (fun p q : EReal => p * q) (row_eq m c t r k b s hR) ?_
    exact (iblk_w m c t j k (12288 + j.val) (by omega) rfl).trans (wcat_gate (Wa m c) ⟨j.val, h⟩ k)
  · have e : j = ⟨12 + (j.val - 12), by omega⟩ := Fin.ext (by show j.val = 12 + (j.val - 12); omega)
    refine Eq.trans ?_ ((congrArg (fun z => Cert.NormGatesRefIdeal.Rows.padded _ (ix2 ⟨4096 * b.val + s.val, hr⟩ z)) e).trans
      (Cert.NormGatesRefIdeal.Rows.padded_high _ ⟨4096 * b.val + s.val, hr⟩ ⟨j.val - 12, by omega⟩)).symm
    refine Finset.sum_eq_zero fun k _ => ?_
    have hw : iblk m c 2 t (ix2 j k) = (0 : EReal) :=
      (iblk_w m c t j k (12300 + (j.val - 12)) (by omega) (by omega)).trans (wcat_zero (Wa m c) ⟨j.val - 12, by omega⟩ k)
    exact (congrArg (fun z : EReal => _ * z) hw).trans (mul_zero _)

theorem mem_blk4 (t : Fin cfg0.N) (i : S8192x128.Idx) :
    i ∈ ((cfg0.win 4).blk t).view.set ↔ ∀ a : Fin 2, win0_4.index t a * S256x128.size a ≤ i a ∧ (i a : ℕ) < win0_4.index t a * S256x128.size a + S256x128.size a := by
  show i ∈ ((View.whole main_v9_1).slice (win0_4.rect t)).set ↔ _
  rw [View.set_slice_whole, Rect.mem_set_unit]; exact Iff.rfl

/-- The logits' array after the run is the reference's. -/
theorem final4 (c : Dev nD) : (dats m 0 c).arrAt 4 cfg0.N = La m c := by
  refine (dats m 0 c).arrAt_eq_of_cover 4 (La m c) (fun t _ => ?_) (fun i => ?_)
  · rw [Value.flushed4]
    refine (congrArg ((cfg0.win 4).cut (grid0.coords t)) (out4_eq _ _ _)).trans ?_
    funext y
    obtain ⟨r, d, rfl⟩ : ∃ r d, y = ix2 r d := ⟨y 0, y 1, eq_ix2 y⟩
    obtain ⟨-, -, -, -, -, -, -, -, h0, h1⟩ := idx_facts t
    obtain ⟨b, s, hR⟩ := row_split t r
    have hb := b.isLt; have hs := s.isLt
    refine (pay2_apply _ _ _ r d).trans ((logit_eq m c t r d b s hR (by omega)).trans ?_)
    show _ = La m c ((win0_4.rect t).emb (ix2 r d))
    congr 1
    funext a; apply Fin.ext; rw [win0_4.rect_emb_val t (ix2 r d) a]
    match a with
    | 0 => show 4096 * b.val + s.val = win0_4.index t (0 : Fin 2) * 256 + r.val; rw [h0]; omega
    | 1 => show d.val = win0_4.index t (1 : Fin 2) * 128 + d.val; rw [h1]; omega
  · have hi : (i 0 : ℕ) < 8192 := (i 0).isLt
    have hk : (i 1 : ℕ) < 128 := (i 1).isLt
    let t : Fin cfg0.N := ⟨(i 0 : ℕ) / 256, by rw [show cfg0.N = 32 from N_0]; omega⟩
    obtain ⟨-, -, -, -, -, -, -, -, h0, h1⟩ := idx_facts t
    refine ⟨t, flush0_4 t, ?_⟩
    rw [mem_blk4]
    intro a
    match a with
    | 0 => show win0_4.index t (0 : Fin 2) * 256 ≤ (i 0 : ℕ) ∧ (i 0 : ℕ) < win0_4.index t (0 : Fin 2) * 256 + 256
           rw [h0]; show (i 0 : ℕ) / 256 * 256 ≤ _ ∧ _ < (i 0 : ℕ) / 256 * 256 + 256; omega
    | 1 => show win0_4.index t (1 : Fin 2) * 128 ≤ (i 1 : ℕ) ∧ (i 1 : ℕ) < win0_4.index t (1 : Fin 2) * 128 + 128
           rw [h1]; omega

end Cert.NormGatesIdeal.Rows

end
-- ==== Proof.NormGatesClaims.lean ====
/- The claims of the norm of the rows with the forget gates' logits: the frames, and the equation of results over the extended reals. -/
module

public import proofs.«01_k».proof.Defs
public import proofs.«01_k».proof.Proof.NormGatesValue
public import proofs.«01_k».proof.Proof.Gen.NormGates.Frame

@[expose] public section

set_option maxRecDepth 16384

noncomputable section

namespace Cert.Gates

open Idealize.ShloMosaic Idealize.ShloMosaic.TcCoe Idealize.SL.Sem

theorem frame : Cert.quiescent_NormGates (hNormGates := Cert.NormGates.Gen.facts) := fun m ρ _ => Cert.NormGates.Gen.frame m ρ

theorem frame_ideal : Cert.quiescent_NormGatesIdeal (hNormGatesIdeal := Cert.NormGatesIdeal.Gen.facts) := fun m ρ _ => Cert.NormGatesIdeal.Gen.frame m ρ

theorem frame_refIdeal : Cert.quiescent_NormGatesRefIdeal (hNormGatesRefIdeal := Cert.NormGatesRefIdeal.Gen.facts) := fun m ρ _ =>
  (θ_run Cert.NormGatesRefIdeal.defs _ _).mono (fun _ h => ⟨fun c => (h c).2.2,
    funext fun g => ((by decide : ∀ _ : SemLoc Cert.NormGatesRefIdeal.sig, False) g.2).elim⟩) (Cert.NormGatesRefIdeal.Value.run m ρ)

theorem whole_congr {x x' : FVec Ideal Cert.NormGatesRefIdeal.S2x4096x4096 .f32} {g g' : FVec Ideal Cert.NormGatesRefIdeal.S4096 .f32}
    (hx : x = x') (hg : g = g') : Cert.NormGatesRefIdeal.Rows.whole x g = Cert.NormGatesRefIdeal.Rows.whole x' g' := by
  subst hx hg; rfl

theorem logits_congr {x x' : FVec Ideal Cert.NormGatesRefIdeal.S2x4096x4096 .f32} {g g' : FVec Ideal Cert.NormGatesRefIdeal.S4096 .f32} {w w' : FVec Ideal Cert.NormGatesRefIdeal.S4096x12300 .f32}
    (hx : x = x') (hg : g = g') (hw : w = w') : Cert.NormGatesRefIdeal.Rows.logits x g w = Cert.NormGatesRefIdeal.Rows.logits x' g' w' := by
  subst hx hg hw; rfl

theorem algebraic : Cert.algebraic_NormGatesIdeal_NormGatesRefIdeal (hNormGatesIdeal := Cert.NormGatesIdeal.Gen.facts) (hNormGatesRefIdeal := Cert.NormGatesRefIdeal.Gen.facts) := fun m ρ m' ρ' _ hag =>
  ⟨fun c => Cert.NormGatesIdeal.Rows.Ya m c, fun c => Cert.NormGatesIdeal.Rows.La m c,
    (θ_run Cert.NormGatesIdeal.defs _ _).mono (fun _ h c => ⟨(h c).1.trans (Cert.NormGatesIdeal.Rows.final3 m c), (h c).2.1.trans (Cert.NormGatesIdeal.Rows.final4 m c), (h c).2.2⟩) (Cert.NormGatesIdeal.Value.run_blocks m ρ),
    (θ_run Cert.NormGatesRefIdeal.defs _ _).mono (fun _ h c => ⟨(h c).1.trans (by
      obtain ⟨h0, h1, h2⟩ := hag c
      exact whole_congr h0 h1), (h c).2.1.trans (by
      obtain ⟨h0, h1, h2⟩ := hag c
      exact logits_congr h0 h1 h2), (h c).2.2⟩) (Cert.NormGatesRefIdeal.Value.run m' ρ')⟩

end Cert.Gates

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.PrepW
public import proofs.«01_k».proof.Proof.Gen.PrepW.Skeleton
public import proofs.«01_k».proof.Proof.Gen.PrepW.Launch
public import proofs.«01_k».proof.Proof.Gen.PrepW.Points
public import proofs.«01_k».proof.Proof.Gen.PrepW.Frame
public import proofs.«01_k».proof.Proof.Gen.PrepWIdeal
public import proofs.«01_k».proof.Proof.Gen.PrepWIdeal.Skeleton
public import proofs.«01_k».proof.Proof.Gen.PrepWIdeal.Launch
public import proofs.«01_k».proof.Proof.Gen.PrepWIdeal.Points
public import proofs.«01_k».proof.Proof.Gen.PrepWIdeal.Frame
public import proofs.«01_k».proof.Proof.Gen.PrepWRefIdeal
public import proofs.«01_k».proof.Proof.Gen.PrepWRef
public import proofs.«01_k».proof.Proof.Gen.ReferenceIdeal.Run
public import proofs.«01_k».proof.Proof.Gen.PrepW.Value
public import proofs.«01_k».proof.Proof.Gen.PrepWIdeal.Value
public import proofs.«01_k».proof.Proof.Gen.PrepWRef.Run
public import proofs.«01_k».proof.Proof.Gen.PrepWRefIdeal.Run
public import proofs.«01_k».proof.Proof.MobaFrame
public import proofs.«01_k».proof.Proof.MobaFrameP
public import proofs.«01_k».proof.Proof.MobaClaims
public import proofs.«01_k».proof.Proof.MobaAlg
public import proofs.«01_k».proof.Proof.FfnDownClaims
public import proofs.«01_k».proof.Proof.InProjClaims
public import proofs.«01_k».proof.Proof.OutProjClaims
public import proofs.«01_k».proof.Proof.OutProj1Claims
public import proofs.«01_k».proof.Proof.FfnUpClaims
public import proofs.«01_k».proof.Proof.FfnUp1Claims
public import proofs.«01_k».proof.Proof.PrepWClaims
public import proofs.«01_k».proof.Proof.RowNormClaims
public import proofs.«01_k».proof.Proof.NormGatesClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.PrepW.Gen.facts, Cert.PrepWIdeal.Gen.facts, Cert.PrepWRefIdeal.Gen.facts, Cert.PrepWRef.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.OutProj1.Gen.facts, Cert.OutProj1Ideal.Gen.facts, Cert.OutProj1RefIdeal.Gen.facts, Cert.FfnUp.Gen.facts, Cert.FfnUpIdeal.Gen.facts, Cert.FfnUpRefIdeal.Gen.facts, Cert.FfnUp1.Gen.facts, Cert.FfnUp1Ideal.Gen.facts, Cert.FfnUp1RefIdeal.Gen.facts, Cert.FfnDown.Gen.facts, Cert.FfnDownIdeal.Gen.facts, Cert.FfnDownRefIdeal.Gen.facts, Cert.RowNorm.Gen.facts, Cert.RowNormIdeal.Gen.facts, Cert.RowNormRefIdeal.Gen.facts, Cert.NormGates.Gen.facts, Cert.NormGatesIdeal.Gen.facts, Cert.NormGatesRefIdeal.Gen.facts, Cert.Moba.preFacts,
  fun m ρ _ => Cert.Kernel.Moba.frame m ρ, fun m ρ _ => Cert.KernelIdeal.Moba.frame m ρ, fun m ρ _ => Cert.KernelIdeal.Moba.frame m ρ,
  Cert.Moba.frame_refIdeal, Cert.Moba.frame_refIdeal_finite,
  fun m ρ _ => Cert.PrepW.Gen.frame m ρ, fun m ρ _ => Cert.PrepWIdeal.Gen.frame m ρ, Cert.PrepWValue.frame_refIdeal, Cert.PrepWValue.frame_ref,
  Cert.InP.frame, Cert.InP.frame_ideal, Cert.InP.frame_refIdeal,
  Cert.Out.frame, Cert.Out.frame_ideal, Cert.Out.frame_refIdeal,
  Cert.Out1.frame, Cert.Out1.frame_ideal, Cert.Out1.frame_refIdeal,
  Cert.Up.frame, Cert.Up.frame_ideal, Cert.Up.frame_refIdeal,
  Cert.Up1.frame, Cert.Up1.frame_ideal, Cert.Up1.frame_refIdeal,
  Cert.Down.frame, Cert.Down.frame_ideal, Cert.Down.frame_refIdeal,
  Cert.Norm.frame, Cert.Norm.frame_ideal, Cert.Norm.frame_refIdeal,
  Cert.Gates.frame, Cert.Gates.frame_ideal, Cert.Gates.frame_refIdeal,
  Cert.Moba.preserves, Cert.Moba.algebraic, trivial, Cert.PrepWValue.algebraic, Cert.PrepWValue.bitexact,
  trivial, Cert.InP.algebraic, trivial, Cert.Out.algebraic, trivial, Cert.Out1.algebraic, trivial, Cert.Up.algebraic, trivial, Cert.Up1.algebraic, trivial, Cert.Down.algebraic, trivial, Cert.Norm.algebraic, trivial, Cert.Gates.algebraic⟩

end Cert.Proof

end
